-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "log2e" .f32 0x3FB8AA3B#32 (((Real.log 2)⁻¹ : ℝ) : EReal)
  ∧ IdealRules.named_const.Statement Cert.Kernel4Ideal.κ "q_scale" .f32 0x3E0293EE#32 (((Real.sqrt 128)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "log2e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S40x32768x128 : Shape := ⟨3, ![40, 32768, 128]⟩
abbrev S8x1x128 : Shape := ⟨3, ![8, 1, 128]⟩
abbrev S1x8x128x128 : Shape := ⟨4, ![1, 8, 128, 128]⟩
abbrev S24x32768x128 : Shape := ⟨3, ![24, 32768, 128]⟩
abbrev S_ : Shape := ⟨0, ![]⟩

class Facts : Prop where
  slices_S40x32768x128_S24x32768x128_0_0_0 : S40x32768x128.Slices ![0, 0, 0] S24x32768x128
  bcast_S_S24x32768x128 : S_.BroadcastsInDim S24x32768x128 (![] : Fin 0 → Fin S24x32768x128.rank)
  reducesTo_S24x32768x128_S_d0_1_2 : S24x32768x128.ReducesTo [0, 1, 2] S_
  h_S_ : 0 < S_.numel
  bcast_S_S1x8x128x128 : S_.BroadcastsInDim S1x8x128x128 (![] : Fin 0 → Fin S1x8x128x128.rank)
  reducesTo_S1x8x128x128_S_d0_1_2_3 : S1x8x128x128.ReducesTo [0, 1, 2, 3] S_

variable [Facts]

def fn {F : FTy → Type} [FloatOps F] (main_arg0 : FVec F S40x32768x128 .f32) (main_arg1 : FVec F S8x1x128 .f32) (main_arg2 : FVec F S1x8x128x128 .f32) : IVec S_ 1 :=
  let main_v0 : FVec F S24x32768x128 .f32 := (extractStridedSlice S24x32768x128 ![0, 0, 0] · slices_S40x32768x128_S24x32768x128_0_0_0) main_arg0
  let main_v1 : FVec F S24x32768x128 .f32 := Host.absf main_v0
  let main_cst : FVec F S_ .f32 := constant S_ .f32 0x7F800000#32
  let main_v2 : FVec F S24x32768x128 .f32 := broadcastInDim S24x32768x128 ![] bcast_S_S24x32768x128 main_cst
  let main_v3 : IVec S24x32768x128 1 := cmpf .olt main_v1 main_v2
  let main_c : IVec S_ 1 := constantI S_ 1 1#1
  let main_v4 : IVec S_ 1 := (fun x v => Host.reduce IntOp.andi x v reducesTo_S24x32768x128_S_d0_1_2 h_S_) main_v3 main_c
  let main_v5 : FVec F S1x8x128x128 .f32 := Host.absf main_arg2
  let main_cst_0 : FVec F S_ .f32 := constant S_ .f32 0x7F800000#32
  let main_v6 : FVec F S1x8x128x128 .f32 := broadcastInDim S1x8x128x128 ![] bcast_S_S1x8x128x128 main_cst_0
  let main_v7 : IVec S1x8x128x128 1 := cmpf .olt main_v5 main_v6
  let main_c_1 : IVec S_ 1 := constantI S_ 1 1#1
  let main_v8 : IVec S_ 1 := (fun x v => Host.reduce IntOp.andi x v reducesTo_S1x8x128x128_S_d0_1_2_3 h_S_) main_v7 main_c_1
  let main_v9 : IVec S_ 1 := andi main_v4 main_v8
  main_v9
-- ==== Pre_finite7.lean ====
abbrev S56x528x128 : Shape := ⟨3, ![56, 528, 128]⟩
abbrev S8x1x128 : Shape := ⟨3, ![8, 1, 128]⟩
abbrev S33x8x128x128 : Shape := ⟨4, ![33, 8, 128, 128]⟩
abbrev S24x528x128 : Shape := ⟨3, ![24, 528, 128]⟩
abbrev S_ : Shape := ⟨0, ![]⟩

class Facts : Prop where
  slices_S56x528x128_S24x528x128_0_0_0 : S56x528x128.Slices ![0, 0, 0] S24x528x128
  bcast_S_S24x528x128 : S_.BroadcastsInDim S24x528x128 (![] : Fin 0 → Fin S24x528x128.rank)
  reducesTo_S24x528x128_S_d0_1_2 : S24x528x128.ReducesTo [0, 1, 2] S_
  h_S_ : 0 < S_.numel
  bcast_S_S33x8x128x128 : S_.BroadcastsInDim S33x8x128x128 (![] : Fin 0 → Fin S33x8x128x128.rank)
  reducesTo_S33x8x128x128_S_d0_1_2_3 : S33x8x128x128.ReducesTo [0, 1, 2, 3] S_

variable [Facts]

def fn {F : FTy → Type} [FloatOps F] (main_arg0 : FVec F S56x528x128 .f32) (main_arg1 : FVec F S8x1x128 .f32) (main_arg2 : FVec F S33x8x128x128 .f32) : IVec S_ 1 :=
  let main_v0 : FVec F S24x528x128 .f32 := (extractStridedSlice S24x528x128 ![0, 0, 0] · slices_S56x528x128_S24x528x128_0_0_0) main_arg0
  let main_v1 : FVec F S24x528x128 .f32 := Host.absf main_v0
  let main_cst : FVec F S_ .f32 := constant S_ .f32 0x7F800000#32
  let main_v2 : FVec F S24x528x128 .f32 := broadcastInDim S24x528x128 ![] bcast_S_S24x528x128 main_cst
  let main_v3 : IVec S24x528x128 1 := cmpf .olt main_v1 main_v2
  let main_c : IVec S_ 1 := constantI S_ 1 1#1
  let main_v4 : IVec S_ 1 := (fun x v => Host.reduce IntOp.andi x v reducesTo_S24x528x128_S_d0_1_2 h_S_) main_v3 main_c
  let main_v5 : FVec F S33x8x128x128 .f32 := Host.absf main_arg2
  let main_cst_0 : FVec F S_ .f32 := constant S_ .f32 0x7F800000#32
  let main_v6 : FVec F S33x8x128x128 .f32 := broadcastInDim S33x8x128x128 ![] bcast_S_S33x8x128x128 main_cst_0
  let main_v7 : IVec S33x8x128x128 1 := cmpf .olt main_v5 main_v6
  let main_c_1 : IVec S_ 1 := constantI S_ 1 1#1
  let main_v8 : IVec S_ 1 := (fun x v => Host.reduce IntOp.andi x v reducesTo_S33x8x128x128_S_d0_1_2_3 h_S_) main_v7 main_c_1
  let main_v9 : IVec S_ 1 := andi main_v4 main_v8
  main_v9
-- ==== Pre_finite8.lean ====
abbrev S56x528x128 : Shape := ⟨3, ![56, 528, 128]⟩
abbrev S32x8x2048 : Shape := ⟨3, ![32, 8, 2048]⟩
abbrev S33x8x16 : Shape := ⟨3, ![33, 8, 16]⟩
abbrev S1x32x2048x8x128 : Shape := ⟨5, ![1, 32, 2048, 8, 128]⟩
abbrev S16x512x128 : Shape := ⟨3, ![16, 512, 128]⟩
abbrev S_ : Shape := ⟨0, ![]⟩
abbrev S32x8x16 : Shape := ⟨3, ![32, 8, 16]⟩

class Facts : Prop where
  slices_S56x528x128_S16x512x128_32_16_0 : S56x528x128.Slices ![32, 16, 0] S16x512x128
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S32x8x2048 : S_.BroadcastsInDim S32x8x2048 (![] : Fin 0 → Fin S32x8x2048.rank)
  reducesTo_S32x8x2048_S_d0_1_2 : S32x8x2048.ReducesTo [0, 1, 2] S_
  slices_S33x8x16_S32x8x16_1_0_0 : S33x8x16.Slices ![1, 0, 0] S32x8x16
  bcast_S_S32x8x16 : S_.BroadcastsInDim S32x8x16 (![] : Fin 0 → Fin S32x8x16.rank)
  reducesTo_S32x8x16_S_d0_1_2 : S32x8x16.ReducesTo [0, 1, 2] S_
  bcast_S_S1x32x2048x8x128 : S_.BroadcastsInDim S1x32x2048x8x128 (![] : Fin 0 → Fin S1x32x2048x8x128.rank)
  reducesTo_S1x32x2048x8x128_S_d0_1_2_3_4 : S1x32x2048x8x128.ReducesTo [0, 1, 2, 3, 4] S_

variable [Facts]

def fn_part1 {F : FTy → Type} [FloatOps F] (main_v15 : IVec S_ 1) (main_v16 : FVec F S1x32x2048x8x128 .f32) (main_cst_4 : FVec F S_ .f32) : IVec S_ 1 :=
  let main_v17 : FVec F S1x32x2048x8x128 .f32 := broadcastInDim S1x32x2048x8x128 ![] bcast_S_S1x32x2048x8x128 main_cst_4
  let main_v18 : IVec S1x32x2048x8x128 1 := cmpf .olt main_v16 main_v17
  let main_c_5 : IVec S_ 1 := constantI S_ 1 1#1
  let main_v19 : IVec S_ 1 := (fun x v => Host.reduce IntOp.andi x v reducesTo_S1x32x2048x8x128_S_d0_1_2_3_4 h_S_) main_v18 main_c_5
  let main_v20 : IVec S_ 1 := andi main_v15 main_v19
  main_v20

def fn {F : FTy → Type} [FloatOps F] (main_arg0 : FVec F S56x528x128 .f32) (main_arg1 : FVec F S32x8x2048 .f32) (main_arg2 : FVec F S33x8x16 .f32) (main_arg3 : FVec F S1x32x2048x8x128 .f32) (main_arg4 : FVec F S1x32x2048x8x128 .f32) : IVec S_ 1 :=
  let main_v0 : FVec F S16x512x128 .f32 := (extractStridedSlice S16x512x128 ![32, 16, 0] · slices_S56x528x128_S16x512x128_32_16_0) main_arg0
  let main_v1 : FVec F S16x512x128 .f32 := Host.absf main_v0
  let main_cst : FVec F S_ .f32 := constant S_ .f32 0x7F800000#32
  let main_v2 : FVec F S16x512x128 .f32 := broadcastInDim S16x512x128 ![] bcast_S_S16x512x128 main_cst
  let main_v3 : IVec S16x512x128 1 := cmpf .olt main_v1 main_v2
  let main_c : IVec S_ 1 := constantI S_ 1 1#1
  let main_v4 : IVec S_ 1 := (fun x v => Host.reduce IntOp.andi x v reducesTo_S16x512x128_S_d0_1_2 h_S_) main_v3 main_c
  let main_v5 : FVec F S32x8x2048 .f32 := Host.absf main_arg1
  let main_cst_0 : FVec F S_ .f32 := constant S_ .f32 0x7F800000#32
  let main_v6 : FVec F S32x8x2048 .f32 := broadcastInDim S32x8x2048 ![] bcast_S_S32x8x2048 main_cst_0
  let main_v7 : IVec S32x8x2048 1 := cmpf .olt main_v5 main_v6
  let main_c_1 : IVec S_ 1 := constantI S_ 1 1#1
  let main_v8 : IVec S_ 1 := (fun x v => Host.reduce IntOp.andi x v reducesTo_S32x8x2048_S_d0_1_2 h_S_) main_v7 main_c_1
  let main_v9 : IVec S_ 1 := andi main_v4 main_v8
  let main_v10 : FVec F S32x8x16 .f32 := (extractStridedSlice S32x8x16 ![1, 0, 0] · slices_S33x8x16_S32x8x16_1_0_0) main_arg2
  let main_v11 : FVec F S32x8x16 .f32 := Host.absf main_v10
  let main_cst_2 : FVec F S_ .f32 := constant S_ .f32 0x7F800000#32
  let main_v12 : FVec F S32x8x16 .f32 := broadcastInDim S32x8x16 ![] bcast_S_S32x8x16 main_cst_2
  let main_v13 : IVec S32x8x16 1 := cmpf .olt main_v11 main_v12
  let main_c_3 : IVec S_ 1 := constantI S_ 1 1#1
  let main_v14 : IVec S_ 1 := (fun x v => Host.reduce IntOp.andi x v reducesTo_S32x8x16_S_d0_1_2 h_S_) main_v13 main_c_3
  let main_v15 : IVec S_ 1 := andi main_v9 main_v14
  let main_v16 : FVec F S1x32x2048x8x128 .f32 := Host.absf main_arg3
  let main_cst_4 : FVec F S_ .f32 := constant S_ .f32 0x7F800000#32
  fn_part1 (F := F) main_v15 main_v16 main_cst_4
-- ==== Kernel.lean ====
abbrev S40x32768x128 : Shape := ⟨3, ![40, 32768, 128]⟩
abbrev S8x1x128 : Shape := ⟨3, ![8, 1, 128]⟩
abbrev S1x8x128x128 : Shape := ⟨4, ![1, 8, 128, 128]⟩
abbrev S8x32768x128 : Shape := ⟨3, ![8, 32768, 128]⟩
abbrev S4x8x128x128 : Shape := ⟨4, ![4, 8, 128, 128]⟩
abbrev S1x2048x128 : Shape := ⟨3, ![1, 2048, 128]⟩
abbrev S1x1x128 : Shape := ⟨3, ![1, 1, 128]⟩
abbrev S1x1x128x128 : Shape := ⟨4, ![1, 1, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S16x8x128 : Shape := ⟨3, ![16, 8, 128]⟩
abbrev S16x1x128 : Shape := ⟨3, ![16, 1, 128]⟩
abbrev S8x16x128 : Shape := ⟨3, ![8, 16, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩

abbrev nBuf : Space → Nat
  | .hbm => 5
  | .vmem => 17
  | .smem => 0
  | _ => 0

abbrev bufTy : (tb : Table) → Fin (tcTables nBuf tb) → BufTy
  | .hbm, ⟨0, _⟩ => ⟨S40x32768x128, .f32⟩
  | .hbm, ⟨1, _⟩ => ⟨S8x1x128, .f32⟩
  | .hbm, ⟨2, _⟩ => ⟨S1x8x128x128, .f32⟩
  | .hbm, ⟨3, _⟩ => ⟨S8x32768x128, .bf16⟩
  | .hbm, ⟨4, _⟩ => ⟨S4x8x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x1x128x128, .f32⟩
  | .local _ .vmem, ⟨15, _⟩ => ⟨S1x1x128x128, .f32⟩
  | .local _ .vmem, ⟨16, _⟩ => ⟨S1x128x128, .f32⟩
  | _, _ => ⟨S40x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32_685 : BitVec 32 := 3#32
  let v3504 : BitVec 1 := Scalar.cmpi .eq arg2 c3_i32_685
  let v3505 : BitVec 32 := Scalar.extui v3504
  let c0_i32_686 : BitVec 32 := 0#32
  let v3506 : BitVec 1 := Scalar.cmpi .ne v3505 c0_i32_686
  v3506

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c4_i32 : BitVec 32 := 4#32
  let v1 : BitVec 32 := Scalar.muli arg0 c4_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S40x32768x128 : Shape := ⟨3, ![40, 32768, 128]⟩
abbrev S8x1x128 : Shape := ⟨3, ![8, 1, 128]⟩
abbrev S1x8x128x128 : Shape := ⟨4, ![1, 8, 128, 128]⟩
abbrev S8x32768x128 : Shape := ⟨3, ![8, 32768, 128]⟩
abbrev S8x4x8192x128 : Shape := ⟨4, ![8, 4, 8192, 128]⟩
abbrev S8192x8x4x128 : Shape := ⟨4, ![8192, 8, 4, 128]⟩
abbrev S4x8x128x128 : Shape := ⟨4, ![4, 8, 128, 128]⟩
abbrev S8x4x128x128 : Shape := ⟨4, ![8, 4, 128, 128]⟩
abbrev S_ : Shape := ⟨0, ![]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S8x4 : Shape := ⟨2, ![8, 4]⟩
abbrev S8x4x1 : Shape := ⟨3, ![8, 4, 1]⟩

abbrev nBuf : Space → Nat
  | .hbm => 98
  | .vmem => 0
  | .smem => 0
  | _ => 0

abbrev bufTy : (tb : Table) → Fin (tcTables nBuf tb) → BufTy
  | .hbm, ⟨0, _⟩ => ⟨S40x32768x128, .f32⟩
  | .hbm, ⟨1, _⟩ => ⟨S8x1x128, .f32⟩
  | .hbm, ⟨2, _⟩ => ⟨S1x8x128x128, .f32⟩
  | .hbm, ⟨3, _⟩ => ⟨S8x32768x128, .f32⟩
  | .hbm, ⟨4, _⟩ => ⟨S8x4x8192x128, .f32⟩
  | .hbm, ⟨5, _⟩ => ⟨S8192x8x4x128, .f32⟩
  | .hbm, ⟨6, _⟩ => ⟨S8x32768x128, .f32⟩
  | .hbm, ⟨7, _⟩ => ⟨S8x4x8192x128, .f32⟩
  | .hbm, ⟨8, _⟩ => ⟨S8192x8x4x128, .f32⟩
  | .hbm, ⟨9, _⟩ => ⟨S8x32768x128, .f32⟩
  | .hbm, ⟨10, _⟩ => ⟨S8x4x8192x128, .f32⟩
  | .hbm, ⟨11, _⟩ => ⟨S8192x8x4x128, .f32⟩
  | .hbm, ⟨12, _⟩ => ⟨S8x32768x128, .f32⟩
  | .hbm, ⟨13, _⟩ => ⟨S8x4x8192x128, .f32⟩
  | .hbm, ⟨14, _⟩ => ⟨S8192x8x4x128, .f32⟩
  | .hbm, ⟨15, _⟩ => ⟨S1x8x128x128, .f32⟩
  | .hbm, ⟨16, _⟩ => ⟨S4x8x128x128, .f32⟩
  | .hbm, ⟨17, _⟩ => ⟨S8x4x128x128, .f32⟩
  | .hbm, ⟨18, _⟩ => ⟨S_, .f32⟩
  | .hbm, ⟨19, _⟩ => ⟨S8192x8x4x128, .f32⟩
  | .hbm, ⟨20, _⟩ => ⟨S_, .i32⟩
  | .hbm, ⟨21, _⟩ => ⟨S8192x8x4x128, .f32⟩
  | .hbm, ⟨22, _⟩ => ⟨S8192x8x4x128, .f32⟩
  | .hbm, ⟨23, _⟩ => ⟨S8192x8x4x128, .f32⟩
  | .hbm, ⟨24, _⟩ => ⟨S8192x8x4x128, .f32⟩
  | .hbm, ⟨25, _⟩ => ⟨S8x1x128, .f32⟩
  | .hbm, ⟨26, _⟩ => ⟨S_, .i32⟩
  | .hbm, ⟨27, _⟩ => ⟨S8x4x128x128, .f32⟩
  | .hbm, ⟨28, _⟩ => ⟨S8192x8x4x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x8x4x128, .f32⟩
  | .hbm, ⟨35, _⟩ => ⟨S8x4x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x8x4x128, .f32⟩
  | .hbm, ⟨40, _⟩ => ⟨S8x4x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x8x4x128, .f32⟩
  | .hbm, ⟨45, _⟩ => ⟨S8x4x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x8x4x128, .f32⟩
  | .hbm, ⟨50, _⟩ => ⟨S8x4x128, .f32⟩
  | .hbm, ⟨51, _⟩ => ⟨S_, .f32⟩
  | .hbm, ⟨52, _⟩ => ⟨S8x4x128, .f32⟩
  | .hbm, ⟨53, _⟩ => ⟨S8x4x128, .f32⟩
  | .hbm, ⟨54, _⟩ => ⟨S8x4x128x1, .f32⟩
  | .hbm, ⟨55, _⟩ => ⟨S8x4x128x128, .f32⟩
  | .hbm, ⟨56, _⟩ => ⟨S8x4x128x128, .f32⟩
  | .hbm, ⟨57, _⟩ => ⟨S_, .f32⟩
  | .hbm, ⟨58, _⟩ => ⟨S8x4x128, .f32⟩
  | .hbm, ⟨59, _⟩ => ⟨S8x4x128, .f32⟩
  | .hbm, ⟨60, _⟩ => ⟨S8x4x128x1, .f32⟩
  | .hbm, ⟨61, _⟩ => ⟨S8x4x1x128, .f32⟩
  | .hbm, ⟨62, _⟩ => ⟨S8x4x128x128, .f32⟩
  | .hbm, ⟨63, _⟩ => ⟨S8x4x128x128, .f32⟩
  | .hbm, ⟨64, _⟩ => ⟨S8x4x128x128, .f32⟩
  | .hbm, ⟨65, _⟩ => ⟨S8x4x128x128, .f32⟩
  | .hbm, ⟨66, _⟩ => ⟨S8x4x128x1, .f32⟩
  | .hbm, ⟨67, _⟩ => ⟨S8x4x128x128, .f32⟩
  | .hbm, ⟨68, _⟩ => ⟨S8x4x128x128, .f32⟩
  | .hbm, ⟨69, _⟩ => ⟨S_, .f32⟩
  | .hbm, ⟨70, _⟩ => ⟨S8x4x128, .f32⟩
  | .hbm, ⟨71, _⟩ => ⟨S8x4x128, .f32⟩
  | .hbm, ⟨72, _⟩ => ⟨S_, .f32⟩
  | .hbm, ⟨73, _⟩ => ⟨S8x4, .f32⟩
  | .hbm, ⟨74, _⟩ => ⟨S8x4x1, .f32⟩
  | .hbm, ⟨75, _⟩ => ⟨S_, .f32⟩
  | .hbm, ⟨76, _⟩ => ⟨S8x4x1, .f32⟩
  | .hbm, ⟨77, _⟩ => ⟨S8x4x1, .f32⟩
  | .hbm, ⟨78, _⟩ => ⟨S_, .f32⟩
  | .hbm, ⟨79, _⟩ => ⟨S8x4x1, .f32⟩
  | .hbm, ⟨80, _⟩ => ⟨S8x4x1, .f32⟩
  | .hbm, ⟨81, _⟩ => ⟨S8x4x1, .f32⟩
  | .hbm, ⟨82, _⟩ => ⟨S8x4x128, .f32⟩
  | .hbm, ⟨83, _⟩ => ⟨S8x4x128, .f32⟩
  | .hbm, ⟨84, _⟩ => ⟨S8x4x128, .f32⟩
  | .hbm, ⟨85, _⟩ => ⟨S8x4x128, .f32⟩
  | .hbm, ⟨86, _⟩ => ⟨S8x4x128, .f32⟩
  | .hbm, ⟨87, _⟩ => ⟨S1x8x4x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S8192x8x4x128, .f32⟩
  | .hbm, ⟨92, _⟩ => ⟨S_, .i32⟩
  | .hbm, ⟨93, _⟩ => ⟨S_, .i32⟩
  | .hbm, ⟨94, _⟩ => ⟨S8x4x8192x128, .f32⟩
  | .hbm, ⟨95, _⟩ => ⟨S8x32768x128, .f32⟩
  | .hbm, ⟨96, _⟩ => ⟨S8x32768x128, .bf16⟩
  | .hbm, ⟨97, _⟩ => ⟨S4x8x128x128, .f32⟩
  | _, _ => ⟨S40x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_c : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v16_7 : Ref sig .tc := ⟨.hbm, 28, rfl⟩
abbrev main_while0c_c_7 : Ref sig .tc := ⟨.hbm, 29, rfl⟩
abbrev main_while0c_v21 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v21 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v22 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_v0 : Ref sig .tc := ⟨.hbm, 44, rfl⟩
abbrev main_while0b_v23 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_c_1 : Ref sig .tc := ⟨.hbm, 48, rfl⟩
abbrev main_while0b_call3_v0 : Ref sig .tc := ⟨.hbm, 49, rfl⟩
abbrev main_while0b_v24 : Ref sig .tc := ⟨.hbm, 50, rfl⟩
abbrev main_while0b_cst_7 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_cst_8 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_cst_9 : Ref sig .tc := ⟨.hbm, 69, rfl⟩
abbrev main_while0b_v41 : Ref sig .tc := ⟨.hbm, 70, rfl⟩
abbrev main_while0b_v42 : Ref sig .tc := ⟨.hbm, 71, rfl⟩
abbrev main_while0b_cst_10 : Ref sig .tc := ⟨.hbm, 72, rfl⟩
abbrev main_while0b_v43 : Ref sig .tc := ⟨.hbm, 73, rfl⟩
abbrev main_while0b_v44 : Ref sig .tc := ⟨.hbm, 74, rfl⟩
abbrev main_while0b_cst_11 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_12 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_call4_v0 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_v55 : Ref sig .tc := ⟨.hbm, 91, rfl⟩
abbrev main_while0b_c_13 : Ref sig .tc := ⟨.hbm, 92, rfl⟩
abbrev main_while0b_v56 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x2048 : Shape := ⟨3, ![4, 8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S32768x2048 : Shape := ⟨2, ![32768, 2048]⟩
abbrev S2048 : Shape := ⟨1, ![2048]⟩
abbrev S2048x1024 : Shape := ⟨2, ![2048, 1024]⟩
abbrev S1024x2048 : Shape := ⟨2, ![1024, 2048]⟩
abbrev S512x2048 : Shape := ⟨2, ![512, 2048]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S512x1024 : Shape := ⟨2, ![512, 1024]⟩

abbrev nBuf : Space → Nat
  | .hbm => 15
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S32768x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1x2048, .f32⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .f32⟩
  | .local _ .vmem, ⟨10, _⟩ => ⟨S2x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 8], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c0_i32_11 : BitVec 32 := 0#32
  let v26 : BitVec 1 := Scalar.cmpi .eq arg0 c0_i32_11
  let v27 : BitVec 32 := Scalar.extui v26
  let c0_i32_12 : BitVec 32 := 0#32
  let v28 : BitVec 1 := Scalar.cmpi .ne v27 c0_i32_12
  v28

def k0_off1 (i : grid0.Coords) : Fin 1 → Nat :=
  let arg0 : BitVec 32 := BitVec.ofNat 32 (i 0).val
  let c2_i32_72 : BitVec 32 := 2#32
  let c0_i32_73 : BitVec 32 := 0#32
  let v136 : BitVec 1 := Scalar.cmpi .eq c2_i32_72 c0_i32_73
  let c1_i32_74 : BitVec 32 := 1#32
  let v137 : BitVec 32 := Scalar.select v136 c1_i32_74 c2_i32_72
  let v138 : BitVec 32 := Scalar.remsi arg0 v137
  let c0_i32_76 : BitVec 32 := 0#32
  let v140 : BitVec 1 := Scalar.cmpi .slt v138 c0_i32_76
  let c0_i32_77 : BitVec 32 := 0#32
  let v141 : BitVec 1 := Scalar.cmpi .slt v137 c0_i32_77
  let v142 : BitVec 1 := Scalar.xori v140 v141
  let c0_i32_75 : BitVec 32 := 0#32
  let v139 : BitVec 1 := Scalar.cmpi .ne v138 c0_i32_75
  let v143 : BitVec 1 := Scalar.andi v142 v139
  let v144 : BitVec 32 := Scalar.addi v138 v137
  let v145 : BitVec 32 := Scalar.select v143 v144 v138
  ![v145.toNat]
def k0_off2 (i : grid0.Coords) : Fin 3 → Nat :=
  let arg0 : BitVec 32 := BitVec.ofNat 32 (i 0).val
  let c2_i32_66 : BitVec 32 := 2#32
  let c0_i32_67 : BitVec 32 := 0#32
  let v126 : BitVec 1 := Scalar.cmpi .eq c2_i32_66 c0_i32_67
  let c1_i32_68 : BitVec 32 := 1#32
  let v127 : BitVec 32 := Scalar.select v126 c1_i32_68 c2_i32_66
  let v128 : BitVec 32 := Scalar.remsi arg0 v127
  let c0_i32_70 : BitVec 32 := 0#32
  let v130 : BitVec 1 := Scalar.cmpi .slt v128 c0_i32_70
  let c0_i32_71 : BitVec 32 := 0#32
  let v131 : BitVec 1 := Scalar.cmpi .slt v127 c0_i32_71
  let v132 : BitVec 1 := Scalar.xori v130 v131
  let c0_i32_69 : BitVec 32 := 0#32
  let v129 : BitVec 1 := Scalar.cmpi .ne v128 c0_i32_69
  let v133 : BitVec 1 := Scalar.andi v132 v129
  let v134 : BitVec 32 := Scalar.addi v128 v127
  let v135 : BitVec 32 := Scalar.select v133 v134 v128
  let c0_i32_78 : BitVec 32 := 0#32
  let c0_i32_79 : BitVec 32 := 0#32
  ![v135.toNat, 0, 0]
def k0_off3 (i : grid0.Coords) : Fin 2 → Nat :=
  let arg0 : BitVec 32 := BitVec.ofNat 32 (i 0).val
  let c512_i32_65 : BitVec 32 := 512#32
  let v125 : BitVec 32 := Scalar.muli arg0 c512_i32_65
  let c0_i32_80 : BitVec 32 := 0#32
  ![v125.toNat, 0]
def k0_off4 (i : grid0.Coords) : Fin 1 → Nat :=
  let arg0 : BitVec 32 := BitVec.ofNat 32 (i 0).val
  let c2_i32_19 : BitVec 32 := 2#32
  let c0_i32_20 : BitVec 32 := 0#32
  let v40 : BitVec 1 := Scalar.cmpi .eq c2_i32_19 c0_i32_20
  let c1_i32_21 : BitVec 32 := 1#32
  let v41 : BitVec 32 := Scalar.select v40 c1_i32_21 c2_i32_19
  let v42 : BitVec 32 := Scalar.remsi arg0 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  ![v49.toNat]
def k0_off5 (i : grid0.Coords) : Fin 3 → Nat :=
  let arg0 : BitVec 32 := BitVec.ofNat 32 (i 0).val
  let c2_i32_13 : BitVec 32 := 2#32
  let c0_i32_14 : BitVec 32 := 0#32
  let v30 : BitVec 1 := Scalar.cmpi .eq c2_i32_13 c0_i32_14
  let c1_i32_15 : BitVec 32 := 1#32
  let v31 : BitVec 32 := Scalar.select v30 c1_i32_15 c2_i32_13
  let v32 : BitVec 32 := Scalar.remsi arg0 v31
  let c0_i32_17 : BitVec 32 := 0#32
  let v34 : BitVec 1 := Scalar.cmpi .slt v32 c0_i32_17
  let c0_i32_18 : BitVec 32 := 0#32
  let v35 : BitVec 1 := Scalar.cmpi .slt v31 c0_i32_18
  let v36 : BitVec 1 := Scalar.xori v34 v35
  let c0_i32_16 : BitVec 32 := 0#32
  let v33 : BitVec 1 := Scalar.cmpi .ne v32 c0_i32_16
  let v37 : BitVec 1 := Scalar.andi v36 v33
  let v38 : BitVec 32 := Scalar.addi v32 v31
  let v39 : BitVec 32 := Scalar.select v37 v38 v32
  let c0_i32_25 : BitVec 32 := 0#32
  let c0_i32_26 : BitVec 32 := 0#32
  ![v39.toNat, 0, 0]
def k0_off6 (i : grid0.Coords) : Fin 2 → Nat :=
  let arg0 : BitVec 32 := BitVec.ofNat 32 (i 0).val
  let c512_i32 : BitVec 32 := 512#32
  let v29 : BitVec 32 := Scalar.muli arg0 c512_i32
  let c0_i32_27 : BitVec 32 := 0#32
  ![v29.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c0 : Index := 0#32
  let c0_28 : Index := 0#32
  ![v55.toNat, 0, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : Index := Scalar.indexCast v9
  let c256 : Index := 256#32
  let c0_46 : Index := 0#32
  ![v90.toNat, 256, 0]
def k0_cond3 (i : grid0.Coords) : BitVec 1 :=
  let arg1 : BitVec 32 := BitVec.ofNat 32 (i 1).val
  let c1_i32_5 : BitVec 32 := 1#32
  let v13 : BitVec 1 := Scalar.cmpi .eq arg1 c1_i32_5
  let arg0 : BitVec 32 := BitVec.ofNat 32 (i 0).val
  let c63_i32 : BitVec 32 := 63#32
  let v14 : BitVec 1 := Scalar.cmpi .slt arg0 c63_i32
  let v15 : BitVec 1 := Scalar.andi v13 v14
  let v16 : BitVec 32 := Scalar.extui v15
  let c0_i32_6 : BitVec 32 := 0#32
  let v17 : BitVec 1 := Scalar.cmpi .ne v16 c0_i32_6
  v17

def k0_off9 (i : grid0.Coords) : Fin 1 → Nat :=
  let arg0 : BitVec 32 := BitVec.ofNat 32 (i 0).val
  let c1_i32_11 : BitVec 32 := 1#32
  let v26 : BitVec 32 := Scalar.addi arg0 c1_i32_11
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v26 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  ![v47.toNat]
def k0_off10 (i : grid0.Coords) : Fin 3 → Nat :=
  let arg0 : BitVec 32 := BitVec.ofNat 32 (i 0).val
  let c1_i32_11 : BitVec 32 := 1#32
  let v26 : BitVec 32 := Scalar.addi arg0 c1_i32_11
  let c2_i32_12 : BitVec 32 := 2#32
  let c0_i32_13 : BitVec 32 := 0#32
  let v28 : BitVec 1 := Scalar.cmpi .eq c2_i32_12 c0_i32_13
  let c1_i32_14 : BitVec 32 := 1#32
  let v29 : BitVec 32 := Scalar.select v28 c1_i32_14 c2_i32_12
  let v30 : BitVec 32 := Scalar.remsi v26 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c0_i32_24 : BitVec 32 := 0#32
  let c0_i32_25 : BitVec 32 := 0#32
  ![v37.toNat, 0, 0]
def k0_off11 (i : grid0.Coords) : Fin 2 → Nat :=
  let arg0 : BitVec 32 := BitVec.ofNat 32 (i 0).val
  let c1_i32_11 : BitVec 32 := 1#32
  let v26 : BitVec 32 := Scalar.addi arg0 c1_i32_11
  let c512_i32 : BitVec 32 := 512#32
  let v27 : BitVec 32 := Scalar.muli v26 c512_i32
  let c0_i32_26 : BitVec 32 := 0#32
  ![v27.toNat, 0]
def k0_cond5 (i : grid0.Coords) : BitVec 1 :=
  let arg1 : BitVec 32 := BitVec.ofNat 32 (i 1).val
  let c7_i32_9 : BitVec 32 := 7#32
  let v23 : BitVec 1 := Scalar.cmpi .eq arg1 c7_i32_9
  let v24 : BitVec 32 := Scalar.extui v23
  let c0_i32_10 : BitVec 32 := 0#32
  let v25 : BitVec 1 := Scalar.cmpi .ne v24 c0_i32_10
  v25

def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_20 : Index := 0#32
  let c0_21 : Index := 0#32
  ![v39.toNat, 0, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c256_39 : Index := 256#32
  let c0_40 : Index := 0#32
  ![v71.toNat, 256, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4x8192x2048 : Shape := ⟨3, ![4, 8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x8192 : Shape := ⟨2, ![2048, 8192]⟩
abbrev S4x8192x8192 : Shape := ⟨3, ![4, 8192, 8192]⟩
abbrev S8192x2048 : Shape := ⟨2, ![8192, 2048]⟩
abbrev S32768x2048 : Shape := ⟨2, ![32768, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S2048x8192, .f32⟩
  | .hbm, ⟨23, _⟩ => ⟨S4x8192x8192, .f32⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S8192x2048, .f32⟩
  | .hbm, ⟨29, _⟩ => ⟨S4x8192x2048, .f32⟩
  | .hbm, ⟨30, _⟩ => ⟨S2048, .f32⟩
  | .hbm, ⟨31, _⟩ => ⟨S4x8192x2048, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x2048, .f32⟩
  | .hbm, ⟨43, _⟩ => ⟨S4x8192x2048, .f32⟩
  | .hbm, ⟨44, _⟩ => ⟨S1x1x2048, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S4x8192x2048 : Shape := ⟨3, ![4, 8192, 2048]⟩
abbrev S8x32768x128 : Shape := ⟨3, ![8, 32768, 128]⟩
abbrev S1x2048x2048 : Shape := ⟨3, ![1, 2048, 2048]⟩
abbrev S1x2048 : Shape := ⟨2, ![1, 2048]⟩
abbrev S1x1024x2048 : Shape := ⟨3, ![1, 1024, 2048]⟩
abbrev S1024x2048 : Shape := ⟨2, ![1024, 2048]⟩
abbrev S32768x2048 : Shape := ⟨2, ![32768, 2048]⟩
abbrev S2048 : Shape := ⟨1, ![2048]⟩
abbrev S8x1024x128 : Shape := ⟨3, ![8, 1024, 128]⟩
abbrev S1x512x128 : Shape := ⟨3, ![1, 512, 128]⟩
abbrev S512x128 : Shape := ⟨2, ![512, 128]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S8x32768x128, .bf16⟩
  | .hbm, ⟨2, _⟩ => ⟨S8x32768x128, .bf16⟩
  | .hbm, ⟨3, _⟩ => ⟨S1x2048x2048, .f32⟩
  | .hbm, ⟨4, _⟩ => ⟨S1x2048, .f32⟩
  | .hbm, ⟨5, _⟩ => ⟨S1x1024x2048, .f32⟩
  | .hbm, ⟨6, _⟩ => ⟨S1024x2048, .f32⟩
  | .hbm, ⟨7, _⟩ => ⟨S1024x2048, .bf16⟩
  | .hbm, ⟨8, _⟩ => ⟨S1x1024x2048, .f32⟩
  | .hbm, ⟨9, _⟩ => ⟨S1024x2048, .f32⟩
  | .hbm, ⟨10, _⟩ => ⟨S1024x2048, .bf16⟩
  | .hbm, ⟨11, _⟩ => ⟨S32768x2048, .f32⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S8x1024x128, .bf16⟩
  | .local _ .vmem, ⟨3, _⟩ => ⟨S8x1024x128, .bf16⟩
  | .local _ .vmem, ⟨4, _⟩ => ⟨S8x1024x128, .bf16⟩
  | .local _ .vmem, ⟨5, _⟩ => ⟨S8x1024x128, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x8192x2048 : Shape := ⟨3, ![4, 8192, 2048]⟩
abbrev S8x32768x128 : Shape := ⟨3, ![8, 32768, 128]⟩
abbrev S1x2048x2048 : Shape := ⟨3, ![1, 2048, 2048]⟩
abbrev S1x2048 : Shape := ⟨2, ![1, 2048]⟩
abbrev S32768x8x128 : Shape := ⟨3, ![32768, 8, 128]⟩
abbrev S4x8192x1024 : Shape := ⟨3, ![4, 8192, 1024]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8x32768x128, .bf16⟩
  | .hbm, ⟨2, _⟩ => ⟨S8x32768x128, .bf16⟩
  | .hbm, ⟨3, _⟩ => ⟨S1x2048x2048, .f32⟩
  | .hbm, ⟨4, _⟩ => ⟨S1x2048, .f32⟩
  | .hbm, ⟨5, _⟩ => ⟨S32768x8x128, .bf16⟩
  | .hbm, ⟨6, _⟩ => ⟨S4x8192x1024, .bf16⟩
  | .hbm, ⟨7, _⟩ => ⟨S4x8192x1024, .f32⟩
  | .hbm, ⟨8, _⟩ => ⟨S32768x8x128, .bf16⟩
  | .hbm, ⟨9, _⟩ => ⟨S4x8192x1024, .bf16⟩
  | .hbm, ⟨10, _⟩ => ⟨S4x8192x1024, .f32⟩
  | .hbm, ⟨11, _⟩ => ⟨S4x8192x2048, .f32⟩
  | .hbm, ⟨12, _⟩ => ⟨S2048x2048, .f32⟩
  | .hbm, ⟨13, _⟩ => ⟨S4x8192x2048, .f32⟩
  | .hbm, ⟨14, _⟩ => ⟨S2048, .f32⟩
  | .hbm, ⟨15, _⟩ => ⟨S4x8192x2048, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x2048, .f32⟩
  | .hbm, ⟨27, _⟩ => ⟨S4x8192x2048, .f32⟩
  | .hbm, ⟨28, _⟩ => ⟨S1x1x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel4.lean ====
abbrev S16x2048 : Shape := ⟨2, ![16, 2048]⟩
abbrev S32x16x2048 : Shape := ⟨3, ![32, 16, 2048]⟩
abbrev S1x2048 : Shape := ⟨2, ![1, 2048]⟩
abbrev S1x2048x7176 : Shape := ⟨3, ![1, 2048, 7176]⟩
abbrev S2x1024 : Shape := ⟨2, ![2, 1024]⟩
abbrev S1x8 : Shape := ⟨2, ![1, 8]⟩
abbrev S1x2048x7168 : Shape := ⟨3, ![1, 2048, 7168]⟩
abbrev S2048x7168 : Shape := ⟨2, ![2048, 7168]⟩
abbrev S1x2048x8 : Shape := ⟨3, ![1, 2048, 8]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S1x128 : Shape := ⟨2, ![1, 128]⟩
abbrev S512x2048 : Shape := ⟨2, ![512, 2048]⟩
abbrev S528x2048 : Shape := ⟨2, ![528, 2048]⟩
abbrev S2048 : Shape := ⟨1, ![2048]⟩
abbrev S56x528x128 : Shape := ⟨3, ![56, 528, 128]⟩
abbrev S528x128 : Shape := ⟨2, ![528, 128]⟩
abbrev S2048x1024 : Shape := ⟨2, ![2048, 1024]⟩
abbrev S8x528x128 : Shape := ⟨3, ![8, 528, 128]⟩
abbrev S528 : Shape := ⟨1, ![528]⟩
abbrev S528x1 : Shape := ⟨2, ![528, 1]⟩
abbrev S528x1024 : Shape := ⟨2, ![528, 1024]⟩
abbrev S1x528x128 : Shape := ⟨3, ![1, 528, 128]⟩
abbrev S1024 : Shape := ⟨1, ![1024]⟩
abbrev S1x1024 : Shape := ⟨2, ![1, 1024]⟩

abbrev nBuf : Space → Nat
  | .hbm => 26
  | .vmem => 11
  | .smem => 0
  | _ => 0

abbrev bufTy : (tb : Table) → Fin (tcTables nBuf tb) → BufTy
  | .hbm, ⟨0, _⟩ => ⟨S16x2048, .f32⟩
  | .hbm, ⟨1, _⟩ => ⟨S32x16x2048, .f32⟩
  | .hbm, ⟨2, _⟩ => ⟨S1x2048, .f32⟩
  | .hbm, ⟨3, _⟩ => ⟨S1x2048x7176, .f32⟩
  | .hbm, ⟨4, _⟩ => ⟨S2x1024, .f32⟩
  | .hbm, ⟨5, _⟩ => ⟨S1x8, .f32⟩
  | .hbm, ⟨6, _⟩ => ⟨S1x2048x7168, .f32⟩
  | .hbm, ⟨7, _⟩ => ⟨S2048x7168, .f32⟩
  | .hbm, ⟨8, _⟩ => ⟨S2048x7168, .bf16⟩
  | .hbm, ⟨9, _⟩ => ⟨S1x2048x8, .f32⟩
  | .hbm, ⟨10, _⟩ => ⟨S2048x8, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S8, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S512x2048, .f32⟩
  | .hbm, ⟨21, _⟩ => ⟨S528x2048, .f32⟩
  | .hbm, ⟨22, _⟩ => ⟨S2048, .f32⟩
  | .hbm, ⟨23, _⟩ => ⟨S1x2048, .f32⟩
  | .hbm, ⟨24, _⟩ => ⟨S56x528x128, .f32⟩
  | .hbm, ⟨25, _⟩ => ⟨S528x128, .f32⟩
  | .local _ .vmem, ⟨0, _⟩ => ⟨S528x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1x128, .f32⟩
  | .local _ .vmem, ⟨6, _⟩ => ⟨S2x1024, .f32⟩
  | .local _ .vmem, ⟨7, _⟩ => ⟨S8x528x128, .f32⟩
  | .local _ .vmem, ⟨8, _⟩ => ⟨S8x528x128, .f32⟩
  | .local _ .vmem, ⟨9, _⟩ => ⟨S528x128, .f32⟩
  | .local _ .vmem, ⟨10, _⟩ => ⟨S528x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let c3_i32 : BitVec 32 := 3#32
  let v4 : BitVec 1 := Scalar.cmpi .eq arg1 c3_i32
  let v5 : BitVec 1 := Scalar.ori v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c2_i32 : BitVec 32 := 2#32
  let v11 : BitVec 1 := Scalar.cmpi .eq arg1 c2_i32
  let c4_i32 : BitVec 32 := 4#32
  let v12 : BitVec 1 := Scalar.cmpi .eq arg1 c4_i32
  let v13 : BitVec 1 := Scalar.ori v11 v12
  let v14 : BitVec 32 := Scalar.extui v13
  let c0_i32_4 : BitVec 32 := 0#32
  let v15 : BitVec 1 := Scalar.cmpi .ne v14 c0_i32_4
  v15

def k0_cond5 (i : grid0.Coords) : BitVec 1 :=
  let arg1 : BitVec 32 := BitVec.ofNat 32 (i 1).val
  let c5_i32 : BitVec 32 := 5#32
  let v16 : BitVec 1 := Scalar.cmpi .sge arg1 c5_i32
  let v17 : BitVec 32 := Scalar.extui v16
  let c0_i32_5 : BitVec 32 := 0#32
  let v18 : BitVec 1 := Scalar.cmpi .ne v17 c0_i32_5
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S528x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S528x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Kernel4Ideal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== Reference4Ideal.lean ====
abbrev S16x2048 : Shape := ⟨2, ![16, 2048]⟩
abbrev S32x16x2048 : Shape := ⟨3, ![32, 16, 2048]⟩
abbrev S1x2048 : Shape := ⟨2, ![1, 2048]⟩
abbrev S1x2048x7176 : Shape := ⟨3, ![1, 2048, 7176]⟩
abbrev S2x1024 : Shape := ⟨2, ![2, 1024]⟩
abbrev S1x8 : Shape := ⟨2, ![1, 8]⟩
abbrev S1x16x2048 : Shape := ⟨3, ![1, 16, 2048]⟩
abbrev S33x16x2048 : Shape := ⟨3, ![33, 16, 2048]⟩
abbrev S_ : Shape := ⟨0, ![]⟩
abbrev S1024 : Shape := ⟨1, ![1024]⟩
abbrev S1x1024 : Shape := ⟨2, ![1, 1024]⟩
abbrev S2048 : Shape := ⟨1, ![2048]⟩
abbrev S33x16 : Shape := ⟨2, ![33, 16]⟩
abbrev S33x16x1 : Shape := ⟨3, ![33, 16, 1]⟩
abbrev S1x1x2048 : Shape := ⟨3, ![1, 1, 2048]⟩
abbrev S2048x7176 : Shape := ⟨2, ![2048, 7176]⟩
abbrev S33x16x7176 : Shape := ⟨3, ![33, 16, 7176]⟩
abbrev S33x16x1024 : Shape := ⟨3, ![33, 16, 1024]⟩
abbrev S33x16x8 : Shape := ⟨3, ![33, 16, 8]⟩
abbrev S1x1x1024 : Shape := ⟨3, ![1, 1, 1024]⟩
abbrev S528x8x128 : Shape := ⟨3, ![528, 8, 128]⟩
abbrev S8x528x128 : Shape := ⟨3, ![8, 528, 128]⟩
abbrev S56x528x128 : Shape := ⟨3, ![56, 528, 128]⟩
abbrev S8 : Shape := ⟨1, ![8]⟩
abbrev S1x1x8 : Shape := ⟨3, ![1, 1, 8]⟩
abbrev S33x16x128 : Shape := ⟨3, ![33, 16, 128]⟩
abbrev S528x128 : Shape := ⟨2, ![528, 128]⟩

abbrev nBuf : Space → Nat
  | .hbm => 141
  | .vmem => 0
  | .smem => 0
  | _ => 0

abbrev hbmTy0_0 (i : Nat) : BufTy := match i % 128 with
  | 0 => ⟨S16x2048, .f32⟩
  | 1 => ⟨S32x16x2048, .f32⟩
  | 2 => ⟨S1x2048, .f32⟩
  | 3 => ⟨S1x2048x7176, .f32⟩
  | 4 => ⟨S2x1024, .f32⟩
  | 5 => ⟨S1x8, .f32⟩
  | 6 => ⟨S1x16x2048, .f32⟩
  | 7 => ⟨S33x16x2048, .f32⟩
  | 8 => ⟨S_, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S2x1024, .f32⟩
  | 15 => ⟨S2x1024, .f32⟩
  | 16 => ⟨S2x1024, .f32⟩
  | 17 => ⟨S_, .f32⟩
  | 18 => ⟨S1024, .f32⟩
  | 19 => ⟨S1x1024, .f32⟩
  | 20 => ⟨S2x1024, .f32⟩
  | 21 => ⟨S2x1024, .f32⟩
  | 22 => ⟨S_, .f32⟩
  | 23 => ⟨S_, .f32⟩
  | 24 => ⟨S2x1024, .f32⟩
  | 25 => ⟨S1x1024, .f32⟩
  | 26 => ⟨S1024, .f32⟩
  | 27 => ⟨S2048, .f32⟩
  | 28 => ⟨S33x16x2048, .f32⟩
  | 29 => ⟨S_, .f32⟩
  | 30 => ⟨S33x16, .f32⟩
  | 31 => ⟨S33x16x1, .f32⟩
  | 32 => ⟨S_, .f32⟩
  | 33 => ⟨S33x16x1, .f32⟩
  | 34 => ⟨S33x16x1, .f32⟩
  | 35 => ⟨S_, .f32⟩
  | 36 => ⟨S33x16x1, .f32⟩
  | 37 => ⟨S33x16x1, .f32⟩
  | 38 => ⟨S33x16x1, .f32⟩
  | 39 => ⟨S33x16x2048, .f32⟩
  | 40 => ⟨S33x16x2048, .f32⟩
  | 41 => ⟨S1x1x2048, .f32⟩
  | 42 => ⟨S33x16x2048, .f32⟩
  | 43 => ⟨S33x16x2048, .f32⟩
  | 44 => ⟨S2048x7176, .f32⟩
  | 45 => ⟨S33x16x7176, .f32⟩
  | 46 => ⟨S33x16x1024, .f32⟩
  | 47 => ⟨S33x16x1024, .f32⟩
  | 48 => ⟨S33x16x1024, .f32⟩
  | 49 => ⟨S33x16x1024, .f32⟩
  | 50 => ⟨S33x16x1024, .f32⟩
  | 51 => ⟨S33x16x1024, .f32⟩
  | 52 => ⟨S33x16x1024, .f32⟩
  | 53 => ⟨S33x16x8, .f32⟩
  | 54 => ⟨S_, .f32⟩
  | 55 => ⟨S1024, .f32⟩
  | 56 => ⟨S1024, .f32⟩
  | 57 => ⟨S33x16x1024, .f32⟩
  | 58 => ⟨S33x16x1024, .f32⟩
  | 59 => ⟨S_, .f32⟩
  | 60 => ⟨S33x16x1024, .f32⟩
  | 61 => ⟨S33x16x1024, .f32⟩
  | 62 => ⟨S_, .f32⟩
  | 63 => ⟨S33x16x1024, .f32⟩
  | 64 => ⟨S33x16x1024, .f32⟩
  | 65 => ⟨S1x1x1024, .f32⟩
  | 66 => ⟨S33x16x1024, .f32⟩
  | 67 => ⟨S33x16x1024, .f32⟩
  | 68 => ⟨S1x1x1024, .f32⟩
  | 69 => ⟨S33x16x1024, .f32⟩
  | 70 => ⟨S33x16x1024, .f32⟩
  | 71 => ⟨S33x16x1024, .f32⟩
  | 72 => ⟨S_, .f32⟩
  | 73 => ⟨S_, .f32⟩
  | 74 => ⟨S_, .f32⟩
  | 75 => ⟨S_, .f32⟩
  | 76 => ⟨S33x16x1024, .f32⟩
  | 77 => ⟨S33x16x1024, .f32⟩
  | 78 => ⟨S_, .f32⟩
  | 79 => ⟨S33x16x1024, .f32⟩
  | 80 => ⟨S33x16x1024, .f32⟩
  | 81 => ⟨S_, .f32⟩
  | 82 => ⟨S33x16x1024, .f32⟩
  | 83 => ⟨S33x16x1024, .f32⟩
  | 84 => ⟨S33x16x1024, .f32⟩
  | 85 => ⟨S528x8x128, .f32⟩
  | 86 => ⟨S8x528x128, .f32⟩
  | 87 => ⟨S33x16x1024, .f32⟩
  | 88 => ⟨S33x16x1024, .f32⟩
  | 89 => ⟨S528x8x128, .f32⟩
  | 90 => ⟨S8x528x128, .f32⟩
  | 91 => ⟨S528x8x128, .f32⟩
  | 92 => ⟨S8x528x128, .f32⟩
  | 93 => ⟨S33x16x1024, .f32⟩
  | 94 => ⟨S33x16x1024, .f32⟩
  | 95 => ⟨S_, .f32⟩
  | 96 => ⟨S33x16x1024, .f32⟩
  | 97 => ⟨S33x16x1024, .f32⟩
  | 98 => ⟨S_, .f32⟩
  | 99 => ⟨S33x16x1024, .f32⟩
  | 100 => ⟨S33x16x1024, .f32⟩
  | 101 => ⟨S33x16x1024, .f32⟩
  | 102 => ⟨S528x8x128, .f32⟩
  | 103 => ⟨S8x528x128, .f32⟩
  | 104 => ⟨S_, .f32⟩
  | 105 => ⟨S_, .f32⟩
  | 106 => ⟨S33x16x1024, .f32⟩
  | 107 => ⟨S33x16x1024, .f32⟩
  | 108 => ⟨S33x16x1024, .f32⟩
  | 109 => ⟨S33x16x1024, .f32⟩
  | 110 => ⟨S528x8x128, .f32⟩
  | 111 => ⟨S8x528x128, .f32⟩
  | 112 => ⟨S528x8x128, .f32⟩
  | 113 => ⟨S8x528x128, .f32⟩
  | 114 => ⟨S528x8x128, .f32⟩
  | 115 => ⟨S8x528x128, .f32⟩
  | 116 => ⟨S56x528x128, .f32⟩
  | 117 => ⟨S8, .f32⟩
  | 118 => ⟨S1x1x8, .f32⟩
  | 119 => ⟨S33x16x8, .f32⟩
  | 120 => ⟨S33x16x8, .f32⟩
  | 121 => ⟨S_, .i32⟩
  | 122 => ⟨S_, .f32⟩
  | 123 => ⟨S33x16x128, .f32⟩
  | 124 => ⟨S33x16x128, .f32⟩
  | 125 => ⟨S_, .f32⟩
  | 126 => ⟨S33x16x128, .f32⟩
  | 127 => ⟨S33x16x128, .f32⟩
  | _ => ⟨S16x2048, .f32⟩

abbrev hbmTy0_1 (i : Nat) : BufTy := match i % 128 with
  | 0 => ⟨S33x16x128, .f32⟩
  | 1 => ⟨S33x16x128, .f32⟩
  | 2 => ⟨S33x16x128, .i1⟩
  | 3 => ⟨S33x16x128, .f32⟩
  | 4 => ⟨S33x16x128, .f32⟩
  | 5 => ⟨S33x16x128, .f32⟩
  | 6 => ⟨S33x16x128, .f32⟩
  | 7 => ⟨S33x16x128, .f32⟩
  | 8 => ⟨S33x16x128, .f32⟩
  | 9 => ⟨S33x16x128, .f32⟩
  | 10 => ⟨S33x16x128, .f32⟩
  | 11 => ⟨S33x16x128, .f32⟩
  | 12 => ⟨S528x128, .f32⟩
  | _ => ⟨S16x2048, .f32⟩

abbrev hbmTy (i : Nat) : BufTy := match i / 128 with
  | 0 => hbmTy0_0 i
  | 1 => hbmTy0_1 i
  | _ => ⟨S16x2048, .f32⟩

abbrev bufTy : (tb : Table) → Fin (tcTables nBuf tb) → BufTy
  | .hbm, ⟨i, _⟩ => hbmTy i
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_call0_cst : Ref sig .tc := ⟨.hbm, 22, rfl⟩
abbrev main_call0_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c : Ref sig .tc := ⟨.hbm, 121, rfl⟩
abbrev main_call3_v0 : Ref sig .tc := ⟨.hbm, 122, rfl⟩
abbrev main_v85 : Ref sig .tc := ⟨.hbm, 123, rfl⟩
abbrev main_call4_v0 : Ref sig .tc := ⟨.hbm, 124, rfl⟩
abbrev main_call4_call0_cst : Ref sig .tc := ⟨.hbm, 125, rfl⟩
abbrev main_call4_call0_v0 : Ref sig .tc := ⟨.hbm, 126, rfl⟩
abbrev main_call4_call0_v1 : Ref sig .tc := ⟨.hbm, 127, rfl⟩
abbrev main_call4_call0_v2 : Ref sig .tc := ⟨.hbm, 128, rfl⟩
abbrev main_call4_call0_v3 : Ref sig .tc := ⟨.hbm, 129, rfl⟩
abbrev main_call4_call0_v4 : Ref sig .tc := ⟨.hbm, 130, rfl⟩
abbrev main_call4_call0_v5 : Ref sig .tc := ⟨.hbm, 131, rfl⟩
abbrev main_call4_call0_v6 : Ref sig .tc := ⟨.hbm, 132, rfl⟩
abbrev main_call4_call0_v7 : Ref sig .tc := ⟨.hbm, 133, rfl⟩
abbrev main_call4_call0_v8 : Ref sig .tc := ⟨.hbm, 134, rfl⟩
abbrev main_call4_call0_v9 : Ref sig .tc := ⟨.hbm, 135, rfl⟩
abbrev main_call4_call0_v10 : Ref sig .tc := ⟨.hbm, 136, rfl⟩
abbrev main_call4_call0_v11 : Ref sig .tc := ⟨.hbm, 137, rfl⟩
abbrev main_call4_v1 : Ref sig .tc := ⟨.hbm, 138, rfl⟩
abbrev main_v86 : Ref sig .tc := ⟨.hbm, 139, rfl⟩
abbrev main_v87 : Ref sig .tc := ⟨.hbm, 140, rfl⟩

abbrev nD : Nat := 1
abbrev τ : Topo := Topo.v7x

variable {F : FTy → Type} [FloatOps F]
-- ==== Kernel5.lean ====
abbrev S32x16x2048 : Shape := ⟨3, ![32, 16, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S512x2048 : Shape := ⟨2, ![512, 2048]⟩
abbrev S2048 : Shape := ⟨1, ![2048]⟩
abbrev S2048x1024 : Shape := ⟨2, ![2048, 1024]⟩
abbrev S1024x2048 : Shape := ⟨2, ![1024, 2048]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S512x1024 : Shape := ⟨2, ![512, 1024]⟩

abbrev nBuf : Space → Nat
  | .hbm => 15
  | .vmem => 10
  | .smem => 0
  | _ => 0

abbrev bufTy : (tb : Table) → Fin (tcTables nBuf tb) → BufTy
  | .hbm, ⟨0, _⟩ => ⟨S32x16x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S512x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S512x2048, .f32⟩
  | .local _ .vmem, ⟨0, _⟩ => ⟨S1x2048, .f32⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .f32⟩
  | .local _ .vmem, ⟨9, _⟩ => ⟨S2x512x2048, .f32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c0_i32_12 : BitVec 32 := 0#32
  let v26 : BitVec 1 := Scalar.cmpi .eq arg0 c0_i32_12
  let v27 : BitVec 32 := Scalar.extui v26
  let c0_i32_13 : BitVec 32 := 0#32
  let v28 : BitVec 1 := Scalar.cmpi .ne v27 c0_i32_13
  v28

def k0_off1 (i : grid0.Coords) : Fin 1 → Nat :=
  let arg0 : BitVec 32 := BitVec.ofNat 32 (i 0).val
  let c2_i32_73 : BitVec 32 := 2#32
  let c0_i32_74 : BitVec 32 := 0#32
  let v136 : BitVec 1 := Scalar.cmpi .eq c2_i32_73 c0_i32_74
  let c1_i32_75 : BitVec 32 := 1#32
  let v137 : BitVec 32 := Scalar.select v136 c1_i32_75 c2_i32_73
  let v138 : BitVec 32 := Scalar.remsi arg0 v137
  let c0_i32_77 : BitVec 32 := 0#32
  let v140 : BitVec 1 := Scalar.cmpi .slt v138 c0_i32_77
  let c0_i32_78 : BitVec 32 := 0#32
  let v141 : BitVec 1 := Scalar.cmpi .slt v137 c0_i32_78
  let v142 : BitVec 1 := Scalar.xori v140 v141
  let c0_i32_76 : BitVec 32 := 0#32
  let v139 : BitVec 1 := Scalar.cmpi .ne v138 c0_i32_76
  let v143 : BitVec 1 := Scalar.andi v142 v139
  let v144 : BitVec 32 := Scalar.addi v138 v137
  let v145 : BitVec 32 := Scalar.select v143 v144 v138
  ![v145.toNat]
def k0_off2 (i : grid0.Coords) : Fin 3 → Nat :=
  let arg0 : BitVec 32 := BitVec.ofNat 32 (i 0).val
  let c2_i32_67 : BitVec 32 := 2#32
  let c0_i32_68 : BitVec 32 := 0#32
  let v126 : BitVec 1 := Scalar.cmpi .eq c2_i32_67 c0_i32_68
  let c1_i32_69 : BitVec 32 := 1#32
  let v127 : BitVec 32 := Scalar.select v126 c1_i32_69 c2_i32_67
  let v128 : BitVec 32 := Scalar.remsi arg0 v127
  let c0_i32_71 : BitVec 32 := 0#32
  let v130 : BitVec 1 := Scalar.cmpi .slt v128 c0_i32_71
  let c0_i32_72 : BitVec 32 := 0#32
  let v131 : BitVec 1 := Scalar.cmpi .slt v127 c0_i32_72
  let v132 : BitVec 1 := Scalar.xori v130 v131
  let c0_i32_70 : BitVec 32 := 0#32
  let v129 : BitVec 1 := Scalar.cmpi .ne v128 c0_i32_70
  let v133 : BitVec 1 := Scalar.andi v132 v129
  let v134 : BitVec 32 := Scalar.addi v128 v127
  let v135 : BitVec 32 := Scalar.select v133 v134 v128
  let c0_i32_79 : BitVec 32 := 0#32
  let c0_i32_80 : BitVec 32 := 0#32
  ![v135.toNat, 0, 0]
def k0_off3 (i : grid0.Coords) : Fin 2 → Nat :=
  let arg0 : BitVec 32 := BitVec.ofNat 32 (i 0).val
  let c512_i32_66 : BitVec 32 := 512#32
  let v125 : BitVec 32 := Scalar.muli arg0 c512_i32_66
  let c0_i32_81 : BitVec 32 := 0#32
  ![v125.toNat, 0]
def k0_off4 (i : grid0.Coords) : Fin 1 → Nat :=
  let arg0 : BitVec 32 := BitVec.ofNat 32 (i 0).val
  let c2_i32_20 : BitVec 32 := 2#32
  let c0_i32_21 : BitVec 32 := 0#32
  let v40 : BitVec 1 := Scalar.cmpi .eq c2_i32_20 c0_i32_21
  let c1_i32_22 : BitVec 32 := 1#32
  let v41 : BitVec 32 := Scalar.select v40 c1_i32_22 c2_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  ![v49.toNat]
def k0_off5 (i : grid0.Coords) : Fin 3 → Nat :=
  let arg0 : BitVec 32 := BitVec.ofNat 32 (i 0).val
  let c2_i32_14 : BitVec 32 := 2#32
  let c0_i32_15 : BitVec 32 := 0#32
  let v30 : BitVec 1 := Scalar.cmpi .eq c2_i32_14 c0_i32_15
  let c1_i32_16 : BitVec 32 := 1#32
  let v31 : BitVec 32 := Scalar.select v30 c1_i32_16 c2_i32_14
  let v32 : BitVec 32 := Scalar.remsi arg0 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c0_i32_26 : BitVec 32 := 0#32
  let c0_i32_27 : BitVec 32 := 0#32
  ![v39.toNat, 0, 0]
def k0_off6 (i : grid0.Coords) : Fin 2 → Nat :=
  let arg0 : BitVec 32 := BitVec.ofNat 32 (i 0).val
  let c512_i32 : BitVec 32 := 512#32
  let v29 : BitVec 32 := Scalar.muli arg0 c512_i32
  let c0_i32_28 : BitVec 32 := 0#32
  ![v29.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c0 : Index := 0#32
  let c0_29 : Index := 0#32
  ![v55.toNat, 0, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : Index := Scalar.indexCast v9
  let c256 : Index := 256#32
  let c0_47 : Index := 0#32
  ![v90.toNat, 256, 0]
def k0_cond3 (i : grid0.Coords) : BitVec 1 :=
  let arg1 : BitVec 32 := BitVec.ofNat 32 (i 1).val
  let c1_i32_5 : BitVec 32 := 1#32
  let v13 : BitVec 1 := Scalar.cmpi .eq arg1 c1_i32_5
  let arg0 : BitVec 32 := BitVec.ofNat 32 (i 0).val
  let c0_i32_6 : BitVec 32 := 0#32
  let v14 : BitVec 1 := Scalar.cmpi .slt arg0 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_off9 (i : grid0.Coords) : Fin 1 → Nat :=
  let arg0 : BitVec 32 := BitVec.ofNat 32 (i 0).val
  let c1_i32_12 : BitVec 32 := 1#32
  let v26 : BitVec 32 := Scalar.addi arg0 c1_i32_12
  let c2_i32_19 : BitVec 32 := 2#32
  let c0_i32_20 : BitVec 32 := 0#32
  let v38 : BitVec 1 := Scalar.cmpi .eq c2_i32_19 c0_i32_20
  let c1_i32_21 : BitVec 32 := 1#32
  let v39 : BitVec 32 := Scalar.select v38 c1_i32_21 c2_i32_19
  let v40 : BitVec 32 := Scalar.remsi v26 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  ![v47.toNat]
def k0_off10 (i : grid0.Coords) : Fin 3 → Nat :=
  let arg0 : BitVec 32 := BitVec.ofNat 32 (i 0).val
  let c1_i32_12 : BitVec 32 := 1#32
  let v26 : BitVec 32 := Scalar.addi arg0 c1_i32_12
  let c2_i32_13 : BitVec 32 := 2#32
  let c0_i32_14 : BitVec 32 := 0#32
  let v28 : BitVec 1 := Scalar.cmpi .eq c2_i32_13 c0_i32_14
  let c1_i32_15 : BitVec 32 := 1#32
  let v29 : BitVec 32 := Scalar.select v28 c1_i32_15 c2_i32_13
  let v30 : BitVec 32 := Scalar.remsi v26 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c0_i32_25 : BitVec 32 := 0#32
  let c0_i32_26 : BitVec 32 := 0#32
  ![v37.toNat, 0, 0]
def k0_off11 (i : grid0.Coords) : Fin 2 → Nat :=
  let arg0 : BitVec 32 := BitVec.ofNat 32 (i 0).val
  let c1_i32_12 : BitVec 32 := 1#32
  let v26 : BitVec 32 := Scalar.addi arg0 c1_i32_12
  let c512_i32 : BitVec 32 := 512#32
  let v27 : BitVec 32 := Scalar.muli v26 c512_i32
  let c0_i32_27 : BitVec 32 := 0#32
  ![v27.toNat, 0]
def k0_cond5 (i : grid0.Coords) : BitVec 1 :=
  let arg1 : BitVec 32 := BitVec.ofNat 32 (i 1).val
  let c7_i32_10 : BitVec 32 := 7#32
  let v23 : BitVec 1 := Scalar.cmpi .eq arg1 c7_i32_10
  let v24 : BitVec 32 := Scalar.extui v23
  let c0_i32_11 : BitVec 32 := 0#32
  let v25 : BitVec 1 := Scalar.cmpi .ne v24 c0_i32_11
  v25

def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_21 : Index := 0#32
  let c0_22 : Index := 0#32
  ![v39.toNat, 0, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c256_40 : Index := 256#32
  let c0_41 : Index := 0#32
  ![v71.toNat, 256, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference5Ideal.lean ====
abbrev S32x16x2048 : Shape := ⟨3, ![32, 16, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S2048x8192 : Shape := ⟨2, ![2048, 8192]⟩
abbrev S32x16x8192 : Shape := ⟨3, ![32, 16, 8192]⟩
abbrev S8192x2048 : Shape := ⟨2, ![8192, 2048]⟩
abbrev S512x2048 : Shape := ⟨2, ![512, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S32x16x2048, .f32⟩
  | .hbm, ⟨7, _⟩ => ⟨S_, .f32⟩
  | .hbm, ⟨8, _⟩ => ⟨S32x16, .f32⟩
  | .hbm, ⟨9, _⟩ => ⟨S32x16x1, .f32⟩
  | .hbm, ⟨10, _⟩ => ⟨S_, .f32⟩
  | .hbm, ⟨11, _⟩ => ⟨S32x16x1, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S32x16x1, .f32⟩
  | .hbm, ⟨17, _⟩ => ⟨S32x16x2048, .f32⟩
  | .hbm, ⟨18, _⟩ => ⟨S32x16x2048, .f32⟩
  | .hbm, ⟨19, _⟩ => ⟨S1x1x2048, .f32⟩
  | .hbm, ⟨20, _⟩ => ⟨S32x16x2048, .f32⟩
  | .hbm, ⟨21, _⟩ => ⟨S32x16x2048, .f32⟩
  | .hbm, ⟨22, _⟩ => ⟨S2048x8192, .f32⟩
  | .hbm, ⟨23, _⟩ => ⟨S32x16x8192, .f32⟩
  | .hbm, ⟨24, _⟩ => ⟨S_, .f32⟩
  | .hbm, ⟨25, _⟩ => ⟨S32x16x8192, .f32⟩
  | .hbm, ⟨26, _⟩ => ⟨S32x16x8192, .f32⟩
  | .hbm, ⟨27, _⟩ => ⟨S32x16x8192, .f32⟩
  | .hbm, ⟨28, _⟩ => ⟨S8192x2048, .f32⟩
  | .hbm, ⟨29, _⟩ => ⟨S32x16x2048, .f32⟩
  | .hbm, ⟨30, _⟩ => ⟨S2048, .f32⟩
  | .hbm, ⟨31, _⟩ => ⟨S32x16x2048, .f32⟩
  | .hbm, ⟨32, _⟩ => ⟨S_, .f32⟩
  | .hbm, ⟨33, _⟩ => ⟨S32x16, .f32⟩
  | .hbm, ⟨34, _⟩ => ⟨S32x16x1, .f32⟩
  | .hbm, ⟨35, _⟩ => ⟨S_, .f32⟩
  | .hbm, ⟨36, _⟩ => ⟨S32x16x1, .f32⟩
  | .hbm, ⟨37, _⟩ => ⟨S32x16x1, .f32⟩
  | .hbm, ⟨38, _⟩ => ⟨S_, .f32⟩
  | .hbm, ⟨39, _⟩ => ⟨S32x16x1, .f32⟩
  | .hbm, ⟨40, _⟩ => ⟨S32x16x1, .f32⟩
  | .hbm, ⟨41, _⟩ => ⟨S32x16x1, .f32⟩
  | .hbm, ⟨42, _⟩ => ⟨S32x16x2048, .f32⟩
  | .hbm, ⟨43, _⟩ => ⟨S32x16x2048, .f32⟩
  | .hbm, ⟨44, _⟩ => ⟨S1x1x2048, .f32⟩
  | .hbm, ⟨45, _⟩ => ⟨S32x16x2048, .f32⟩
  | .hbm, ⟨46, _⟩ => ⟨S32x16x2048, .f32⟩
  | .hbm, ⟨47, _⟩ => ⟨S32x16x2048, .f32⟩
  | .hbm, ⟨48, _⟩ => ⟨S512x2048, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel6.lean ====
abbrev S32x16x2048 : Shape := ⟨3, ![32, 16, 2048]⟩
abbrev S8x512x128 : Shape := ⟨3, ![8, 512, 128]⟩
abbrev S1x2048x2048 : Shape := ⟨3, ![1, 2048, 2048]⟩
abbrev S1x2048 : Shape := ⟨2, ![1, 2048]⟩
abbrev S1x1024x2048 : Shape := ⟨3, ![1, 1024, 2048]⟩
abbrev S1024x2048 : Shape := ⟨2, ![1024, 2048]⟩
abbrev S512x2048 : Shape := ⟨2, ![512, 2048]⟩
abbrev S2048 : Shape := ⟨1, ![2048]⟩
abbrev S1x256x128 : Shape := ⟨3, ![1, 256, 128]⟩
abbrev S256x128 : Shape := ⟨2, ![256, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 7
  | .smem => 0
  | _ => 0

abbrev bufTy : (tb : Table) → Fin (tcTables nBuf tb) → BufTy
  | .hbm, ⟨0, _⟩ => ⟨S32x16x2048, .f32⟩
  | .hbm, ⟨1, _⟩ => ⟨S8x512x128, .bf16⟩
  | .hbm, ⟨2, _⟩ => ⟨S8x512x128, .bf16⟩
  | .hbm, ⟨3, _⟩ => ⟨S1x2048x2048, .f32⟩
  | .hbm, ⟨4, _⟩ => ⟨S1x2048, .f32⟩
  | .hbm, ⟨5, _⟩ => ⟨S1x1024x2048, .f32⟩
  | .hbm, ⟨6, _⟩ => ⟨S1024x2048, .f32⟩
  | .hbm, ⟨7, _⟩ => ⟨S1024x2048, .bf16⟩
  | .hbm, ⟨8, _⟩ => ⟨S1x1024x2048, .f32⟩
  | .hbm, ⟨9, _⟩ => ⟨S1024x2048, .f32⟩
  | .hbm, ⟨10, _⟩ => ⟨S1024x2048, .bf16⟩
  | .hbm, ⟨11, _⟩ => ⟨S512x2048, .f32⟩
  | .hbm, ⟨12, _⟩ => ⟨S2048, .f32⟩
  | .hbm, ⟨13, _⟩ => ⟨S1x2048, .f32⟩
  | .hbm, ⟨14, _⟩ => ⟨S512x2048, .f32⟩
  | .local _ .vmem, ⟨0, _⟩ => ⟨S512x2048, .f32⟩
  | .local _ .vmem, ⟨1, _⟩ => ⟨S8x512x128, .bf16⟩
  | .local _ .vmem, ⟨2, _⟩ => ⟨S8x512x128, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S512x2048, .f32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S32x16x2048 : Shape := ⟨3, ![32, 16, 2048]⟩
abbrev S8x512x128 : Shape := ⟨3, ![8, 512, 128]⟩
abbrev S1x2048x2048 : Shape := ⟨3, ![1, 2048, 2048]⟩
abbrev S1x2048 : Shape := ⟨2, ![1, 2048]⟩
abbrev S512x8x128 : Shape := ⟨3, ![512, 8, 128]⟩
abbrev S32x16x1024 : Shape := ⟨3, ![32, 16, 1024]⟩
abbrev S2048x2048 : Shape := ⟨2, ![2048, 2048]⟩
abbrev S2048 : Shape := ⟨1, ![2048]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S512x2048 : Shape := ⟨2, ![512, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S8x512x128, .bf16⟩
  | .hbm, ⟨2, _⟩ => ⟨S8x512x128, .bf16⟩
  | .hbm, ⟨3, _⟩ => ⟨S1x2048x2048, .f32⟩
  | .hbm, ⟨4, _⟩ => ⟨S1x2048, .f32⟩
  | .hbm, ⟨5, _⟩ => ⟨S512x8x128, .bf16⟩
  | .hbm, ⟨6, _⟩ => ⟨S32x16x1024, .bf16⟩
  | .hbm, ⟨7, _⟩ => ⟨S32x16x1024, .f32⟩
  | .hbm, ⟨8, _⟩ => ⟨S512x8x128, .bf16⟩
  | .hbm, ⟨9, _⟩ => ⟨S32x16x1024, .bf16⟩
  | .hbm, ⟨10, _⟩ => ⟨S32x16x1024, .f32⟩
  | .hbm, ⟨11, _⟩ => ⟨S32x16x2048, .f32⟩
  | .hbm, ⟨12, _⟩ => ⟨S2048x2048, .f32⟩
  | .hbm, ⟨13, _⟩ => ⟨S32x16x2048, .f32⟩
  | .hbm, ⟨14, _⟩ => ⟨S2048, .f32⟩
  | .hbm, ⟨15, _⟩ => ⟨S32x16x2048, .f32⟩
  | .hbm, ⟨16, _⟩ => ⟨S_, .f32⟩
  | .hbm, ⟨17, _⟩ => ⟨S32x16, .f32⟩
  | .hbm, ⟨18, _⟩ => ⟨S32x16x1, .f32⟩
  | .hbm, ⟨19, _⟩ => ⟨S_, .f32⟩
  | .hbm, ⟨20, _⟩ => ⟨S32x16x1, .f32⟩
  | .hbm, ⟨21, _⟩ => ⟨S32x16x1, .f32⟩
  | .hbm, ⟨22, _⟩ => ⟨S_, .f32⟩
  | .hbm, ⟨23, _⟩ => ⟨S32x16x1, .f32⟩
  | .hbm, ⟨24, _⟩ => ⟨S32x16x1, .f32⟩
  | .hbm, ⟨25, _⟩ => ⟨S32x16x1, .f32⟩
  | .hbm, ⟨26, _⟩ => ⟨S32x16x2048, .f32⟩
  | .hbm, ⟨27, _⟩ => ⟨S32x16x2048, .f32⟩
  | .hbm, ⟨28, _⟩ => ⟨S1x1x2048, .f32⟩
  | .hbm, ⟨29, _⟩ => ⟨S32x16x2048, .f32⟩
  | .hbm, ⟨30, _⟩ => ⟨S32x16x2048, .f32⟩
  | .hbm, ⟨31, _⟩ => ⟨S32x16x2048, .f32⟩
  | .hbm, ⟨32, _⟩ => ⟨S512x2048, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel7.lean ====
abbrev S56x528x128 : Shape := ⟨3, ![56, 528, 128]⟩
abbrev S8x1x128 : Shape := ⟨3, ![8, 1, 128]⟩
abbrev S33x8x128x128 : Shape := ⟨4, ![33, 8, 128, 128]⟩
abbrev S8x528x128 : Shape := ⟨3, ![8, 528, 128]⟩
abbrev S8x16x128 : Shape := ⟨3, ![8, 16, 128]⟩
abbrev S1x8x128x128 : Shape := ⟨4, ![1, 8, 128, 128]⟩
abbrev S8x128x128 : Shape := ⟨3, ![8, 128, 128]⟩
abbrev S16x128 : Shape := ⟨2, ![16, 128]⟩
abbrev S16x16 : Shape := ⟨2, ![16, 16]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x16x128 : Shape := ⟨3, ![1, 16, 128]⟩
abbrev S16 : Shape := ⟨1, ![16]⟩
abbrev S16x1 : Shape := ⟨2, ![16, 1]⟩
abbrev S2x8x128 : Shape := ⟨3, ![2, 8, 128]⟩
abbrev S2x1x128 : Shape := ⟨3, ![2, 1, 128]⟩
abbrev S1x1x128x128 : Shape := ⟨4, ![1, 1, 128, 128]⟩

abbrev nBuf : Space → Nat
  | .hbm => 5
  | .vmem => 16
  | .smem => 0
  | _ => 0

abbrev bufTy : (tb : Table) → Fin (tcTables nBuf tb) → BufTy
  | .hbm, ⟨0, _⟩ => ⟨S56x528x128, .f32⟩
  | .hbm, ⟨1, _⟩ => ⟨S8x1x128, .f32⟩
  | .hbm, ⟨2, _⟩ => ⟨S33x8x128x128, .f32⟩
  | .hbm, ⟨3, _⟩ => ⟨S8x528x128, .bf16⟩
  | .hbm, ⟨4, _⟩ => ⟨S33x8x128x128, .f32⟩
  | .local _ .vmem, ⟨0, _⟩ => ⟨S8x16x128, .f32⟩
  | .local _ .vmem, ⟨1, _⟩ => ⟨S8x16x128, .f32⟩
  | .local _ .vmem, ⟨2, _⟩ => ⟨S8x16x128, .f32⟩
  | .local _ .vmem, ⟨3, _⟩ => ⟨S8x16x128, .f32⟩
  | .local _ .vmem, ⟨4, _⟩ => ⟨S8x16x128, .f32⟩
  | .local _ .vmem, ⟨5, _⟩ => ⟨S8x16x128, .f32⟩
  | .local _ .vmem, ⟨6, _⟩ => ⟨S8x16x128, .f32⟩
  | .local _ .vmem, ⟨7, _⟩ => ⟨S8x16x128, .f32⟩
  | .local _ .vmem, ⟨8, _⟩ => ⟨S8x1x128, .f32⟩
  | .local _ .vmem, ⟨9, _⟩ => ⟨S1x8x128x128, .f32⟩
  | .local _ .vmem, ⟨10, _⟩ => ⟨S1x8x128x128, .f32⟩
  | .local _ .vmem, ⟨11, _⟩ => ⟨S8x16x128, .bf16⟩
  | .local _ .vmem, ⟨12, _⟩ => ⟨S8x16x128, .bf16⟩
  | .local _ .vmem, ⟨13, _⟩ => ⟨S1x8x128x128, .f32⟩
  | .local _ .vmem, ⟨14, _⟩ => ⟨S1x8x128x128, .f32⟩
  | .local _ .vmem, ⟨15, _⟩ => ⟨S8x128x128, .f32⟩
  | _, _ => ⟨S56x528x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![33, 1, 1], ![false, false, false]⟩

def k0_cond2 (i : grid0.Coords) : BitVec 1 :=
  let arg2 : BitVec 32 := BitVec.ofNat 32 (i 2).val
  let c0_i32_47 : BitVec 32 := 0#32
  let v191 : BitVec 1 := Scalar.cmpi .eq arg2 c0_i32_47
  let v192 : BitVec 32 := Scalar.extui v191
  let c0_i32_48 : BitVec 32 := 0#32
  let v193 : BitVec 1 := Scalar.cmpi .ne v192 c0_i32_48
  v193

def k0_cond3 (i : grid0.Coords) : BitVec 1 :=
  let arg2 : BitVec 32 := BitVec.ofNat 32 (i 2).val
  let c0_i32_94 : BitVec 32 := 0#32
  let v356 : BitVec 1 := Scalar.cmpi .eq arg2 c0_i32_94
  let v357 : BitVec 32 := Scalar.extui v356
  let c0_i32_95 : BitVec 32 := 0#32
  let v358 : BitVec 1 := Scalar.cmpi .ne v357 c0_i32_95
  v358

def k0_cond4 (i : grid0.Coords) : BitVec 1 :=
  let arg2 : BitVec 32 := BitVec.ofNat 32 (i 2).val
  let c0_i32_141 : BitVec 32 := 0#32
  let v521 : BitVec 1 := Scalar.cmpi .eq arg2 c0_i32_141
  let v522 : BitVec 32 := Scalar.extui v521
  let c0_i32_142 : BitVec 32 := 0#32
  let v523 : BitVec 1 := Scalar.cmpi .ne v522 c0_i32_142
  v523

def k0_cond5 (i : grid0.Coords) : BitVec 1 :=
  let arg2 : BitVec 32 := BitVec.ofNat 32 (i 2).val
  let c0_i32_188 : BitVec 32 := 0#32
  let v686 : BitVec 1 := Scalar.cmpi .eq arg2 c0_i32_188
  let v687 : BitVec 32 := Scalar.extui v686
  let c0_i32_189 : BitVec 32 := 0#32
  let v688 : BitVec 1 := Scalar.cmpi .ne v687 c0_i32_189
  v688

def k0_cond6 (i : grid0.Coords) : BitVec 1 :=
  let arg2 : BitVec 32 := BitVec.ofNat 32 (i 2).val
  let c0_i32_235 : BitVec 32 := 0#32
  let v851 : BitVec 1 := Scalar.cmpi .eq arg2 c0_i32_235
  let v852 : BitVec 32 := Scalar.extui v851
  let c0_i32_236 : BitVec 32 := 0#32
  let v853 : BitVec 1 := Scalar.cmpi .ne v852 c0_i32_236
  v853

def k0_cond7 (i : grid0.Coords) : BitVec 1 :=
  let arg2 : BitVec 32 := BitVec.ofNat 32 (i 2).val
  let c0_i32_282 : BitVec 32 := 0#32
  let v1016 : BitVec 1 := Scalar.cmpi .eq arg2 c0_i32_282
  let v1017 : BitVec 32 := Scalar.extui v1016
  let c0_i32_283 : BitVec 32 := 0#32
  let v1018 : BitVec 1 := Scalar.cmpi .ne v1017 c0_i32_283
  v1018

def k0_cond8 (i : grid0.Coords) : BitVec 1 :=
  let arg2 : BitVec 32 := BitVec.ofNat 32 (i 2).val
  let c0_i32_329 : BitVec 32 := 0#32
  let v1181 : BitVec 1 := Scalar.cmpi .eq arg2 c0_i32_329
  let v1182 : BitVec 32 := Scalar.extui v1181
  let c0_i32_330 : BitVec 32 := 0#32
  let v1183 : BitVec 1 := Scalar.cmpi .ne v1182 c0_i32_330
  v1183

def k0_cond9 (i : grid0.Coords) : BitVec 1 :=
  let arg2 : BitVec 32 := BitVec.ofNat 32 (i 2).val
  let c0_i32_376 : BitVec 32 := 0#32
  let v1346 : BitVec 1 := Scalar.cmpi .eq arg2 c0_i32_376
  let v1347 : BitVec 32 := Scalar.extui v1346
  let c0_i32_377 : BitVec 32 := 0#32
  let v1348 : BitVec 1 := Scalar.cmpi .ne v1347 c0_i32_377
  v1348

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c1_i32_0 : BitVec 32 := 1#32
  let v1 : BitVec 32 := Scalar.muli arg0 c1_i32_0
  let v2 : BitVec 32 := Scalar.addi v1 arg2
  let c0_i32 : BitVec 32 := 0#32
  let c0_i32_1 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference7Ideal.lean ====
abbrev S56x528x128 : Shape := ⟨3, ![56, 528, 128]⟩
abbrev S8x1x128 : Shape := ⟨3, ![8, 1, 128]⟩
abbrev S33x8x128x128 : Shape := ⟨4, ![33, 8, 128, 128]⟩
abbrev S8x528x128 : Shape := ⟨3, ![8, 528, 128]⟩
abbrev S8x33x16x128 : Shape := ⟨4, ![8, 33, 16, 128]⟩
abbrev S16x8x33x128 : Shape := ⟨4, ![16, 8, 33, 128]⟩
abbrev S8x33x128x128 : Shape := ⟨4, ![8, 33, 128, 128]⟩
abbrev S_ : Shape := ⟨0, ![]⟩
abbrev S1x8x33x128 : Shape := ⟨4, ![1, 8, 33, 128]⟩
abbrev S8x33x128 : Shape := ⟨3, ![8, 33, 128]⟩
abbrev S8x33x128x1 : Shape := ⟨4, ![8, 33, 128, 1]⟩
abbrev S8x33x1x128 : Shape := ⟨4, ![8, 33, 1, 128]⟩
abbrev S8x33 : Shape := ⟨2, ![8, 33]⟩
abbrev S8x33x1 : Shape := ⟨3, ![8, 33, 1]⟩

abbrev nBuf : Space → Nat
  | .hbm => 97
  | .vmem => 0
  | .smem => 0
  | _ => 0

abbrev bufTy : (tb : Table) → Fin (tcTables nBuf tb) → BufTy
  | .hbm, ⟨0, _⟩ => ⟨S56x528x128, .f32⟩
  | .hbm, ⟨1, _⟩ => ⟨S8x1x128, .f32⟩
  | .hbm, ⟨2, _⟩ => ⟨S33x8x128x128, .f32⟩
  | .hbm, ⟨3, _⟩ => ⟨S8x528x128, .f32⟩
  | .hbm, ⟨4, _⟩ => ⟨S8x33x16x128, .f32⟩
  | .hbm, ⟨5, _⟩ => ⟨S16x8x33x128, .f32⟩
  | .hbm, ⟨6, _⟩ => ⟨S8x528x128, .f32⟩
  | .hbm, ⟨7, _⟩ => ⟨S8x33x16x128, .f32⟩
  | .hbm, ⟨8, _⟩ => ⟨S16x8x33x128, .f32⟩
  | .hbm, ⟨9, _⟩ => ⟨S8x528x128, .f32⟩
  | .hbm, ⟨10, _⟩ => ⟨S8x33x16x128, .f32⟩
  | .hbm, ⟨11, _⟩ => ⟨S16x8x33x128, .f32⟩
  | .hbm, ⟨12, _⟩ => ⟨S8x528x128, .f32⟩
  | .hbm, ⟨13, _⟩ => ⟨S8x33x16x128, .f32⟩
  | .hbm, ⟨14, _⟩ => ⟨S16x8x33x128, .f32⟩
  | .hbm, ⟨15, _⟩ => ⟨S33x8x128x128, .f32⟩
  | .hbm, ⟨16, _⟩ => ⟨S8x33x128x128, .f32⟩
  | .hbm, ⟨17, _⟩ => ⟨S_, .f32⟩
  | .hbm, ⟨18, _⟩ => ⟨S16x8x33x128, .f32⟩
  | .hbm, ⟨19, _⟩ => ⟨S_, .i32⟩
  | .hbm, ⟨20, _⟩ => ⟨S16x8x33x128, .f32⟩
  | .hbm, ⟨21, _⟩ => ⟨S16x8x33x128, .f32⟩
  | .hbm, ⟨22, _⟩ => ⟨S16x8x33x128, .f32⟩
  | .hbm, ⟨23, _⟩ => ⟨S16x8x33x128, .f32⟩
  | .hbm, ⟨24, _⟩ => ⟨S8x1x128, .f32⟩
  | .hbm, ⟨25, _⟩ => ⟨S_, .i32⟩
  | .hbm, ⟨26, _⟩ => ⟨S8x33x128x128, .f32⟩
  | .hbm, ⟨27, _⟩ => ⟨S16x8x33x128, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x8x33x128, .f32⟩
  | .hbm, ⟨34, _⟩ => ⟨S8x33x128, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x8x33x128, .f32⟩
  | .hbm, ⟨39, _⟩ => ⟨S8x33x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x8x33x128, .f32⟩
  | .hbm, ⟨44, _⟩ => ⟨S8x33x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x8x33x128, .f32⟩
  | .hbm, ⟨49, _⟩ => ⟨S8x33x128, .f32⟩
  | .hbm, ⟨50, _⟩ => ⟨S_, .f32⟩
  | .hbm, ⟨51, _⟩ => ⟨S8x33x128, .f32⟩
  | .hbm, ⟨52, _⟩ => ⟨S8x33x128, .f32⟩
  | .hbm, ⟨53, _⟩ => ⟨S8x33x128x1, .f32⟩
  | .hbm, ⟨54, _⟩ => ⟨S8x33x128x128, .f32⟩
  | .hbm, ⟨55, _⟩ => ⟨S8x33x128x128, .f32⟩
  | .hbm, ⟨56, _⟩ => ⟨S_, .f32⟩
  | .hbm, ⟨57, _⟩ => ⟨S8x33x128, .f32⟩
  | .hbm, ⟨58, _⟩ => ⟨S8x33x128, .f32⟩
  | .hbm, ⟨59, _⟩ => ⟨S8x33x128x1, .f32⟩
  | .hbm, ⟨60, _⟩ => ⟨S8x33x1x128, .f32⟩
  | .hbm, ⟨61, _⟩ => ⟨S8x33x128x128, .f32⟩
  | .hbm, ⟨62, _⟩ => ⟨S8x33x128x128, .f32⟩
  | .hbm, ⟨63, _⟩ => ⟨S8x33x128x128, .f32⟩
  | .hbm, ⟨64, _⟩ => ⟨S8x33x128x128, .f32⟩
  | .hbm, ⟨65, _⟩ => ⟨S8x33x128x1, .f32⟩
  | .hbm, ⟨66, _⟩ => ⟨S8x33x128x128, .f32⟩
  | .hbm, ⟨67, _⟩ => ⟨S8x33x128x128, .f32⟩
  | .hbm, ⟨68, _⟩ => ⟨S_, .f32⟩
  | .hbm, ⟨69, _⟩ => ⟨S8x33x128, .f32⟩
  | .hbm, ⟨70, _⟩ => ⟨S8x33x128, .f32⟩
  | .hbm, ⟨71, _⟩ => ⟨S_, .f32⟩
  | .hbm, ⟨72, _⟩ => ⟨S8x33, .f32⟩
  | .hbm, ⟨73, _⟩ => ⟨S8x33x1, .f32⟩
  | .hbm, ⟨74, _⟩ => ⟨S_, .f32⟩
  | .hbm, ⟨75, _⟩ => ⟨S8x33x1, .f32⟩
  | .hbm, ⟨76, _⟩ => ⟨S8x33x1, .f32⟩
  | .hbm, ⟨77, _⟩ => ⟨S_, .f32⟩
  | .hbm, ⟨78, _⟩ => ⟨S8x33x1, .f32⟩
  | .hbm, ⟨79, _⟩ => ⟨S8x33x1, .f32⟩
  | .hbm, ⟨80, _⟩ => ⟨S8x33x1, .f32⟩
  | .hbm, ⟨81, _⟩ => ⟨S8x33x128, .f32⟩
  | .hbm, ⟨82, _⟩ => ⟨S8x33x128, .f32⟩
  | .hbm, ⟨83, _⟩ => ⟨S8x33x128, .f32⟩
  | .hbm, ⟨84, _⟩ => ⟨S8x33x128, .f32⟩
  | .hbm, ⟨85, _⟩ => ⟨S8x33x128, .f32⟩
  | .hbm, ⟨86, _⟩ => ⟨S1x8x33x128, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S16x8x33x128, .f32⟩
  | .hbm, ⟨91, _⟩ => ⟨S_, .i32⟩
  | .hbm, ⟨92, _⟩ => ⟨S_, .i32⟩
  | .hbm, ⟨93, _⟩ => ⟨S8x33x16x128, .f32⟩
  | .hbm, ⟨94, _⟩ => ⟨S8x528x128, .f32⟩
  | .hbm, ⟨95, _⟩ => ⟨S8x528x128, .bf16⟩
  | .hbm, ⟨96, _⟩ => ⟨S33x8x128x128, .f32⟩
  | _, _ => ⟨S56x528x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_c : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev main_v15_7 : Ref sig .tc := ⟨.hbm, 27, rfl⟩
abbrev main_while0c_c_7 : Ref sig .tc := ⟨.hbm, 28, rfl⟩
abbrev main_while0c_v20 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_v0 : Ref sig .tc := ⟨.hbm, 33, rfl⟩
abbrev main_while0b_v20 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_call1_v0 : Ref sig .tc := ⟨.hbm, 38, rfl⟩
abbrev main_while0b_v21 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_v0 : Ref sig .tc := ⟨.hbm, 43, rfl⟩
abbrev main_while0b_v22 : Ref sig .tc := ⟨.hbm, 44, rfl⟩
abbrev main_while0b_call3_c : Ref sig .tc := ⟨.hbm, 45, rfl⟩
abbrev main_while0b_call3_c_0 : Ref sig .tc := ⟨.hbm, 46, rfl⟩
abbrev main_while0b_call3_c_1 : Ref sig .tc := ⟨.hbm, 47, rfl⟩
abbrev main_while0b_call3_v0 : Ref sig .tc := ⟨.hbm, 48, rfl⟩
abbrev main_while0b_v23 : Ref sig .tc := ⟨.hbm, 49, rfl⟩
abbrev main_while0b_cst_7 : Ref sig .tc := ⟨.hbm, 50, rfl⟩
abbrev main_while0b_v24 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_cst_8 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_cst_9 : Ref sig .tc := ⟨.hbm, 68, rfl⟩
abbrev main_while0b_v40 : Ref sig .tc := ⟨.hbm, 69, rfl⟩
abbrev main_while0b_v41 : Ref sig .tc := ⟨.hbm, 70, rfl⟩
abbrev main_while0b_cst_10 : Ref sig .tc := ⟨.hbm, 71, rfl⟩
abbrev main_while0b_v42 : Ref sig .tc := ⟨.hbm, 72, rfl⟩
abbrev main_while0b_v43 : Ref sig .tc := ⟨.hbm, 73, rfl⟩
abbrev main_while0b_cst_11 : Ref sig .tc := ⟨.hbm, 74, rfl⟩
abbrev main_while0b_v44 : Ref sig .tc := ⟨.hbm, 75, rfl⟩
abbrev main_while0b_v45 : Ref sig .tc := ⟨.hbm, 76, rfl⟩
abbrev main_while0b_cst_12 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_call4_v0 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_v54 : Ref sig .tc := ⟨.hbm, 90, rfl⟩
abbrev main_while0b_c_13 : Ref sig .tc := ⟨.hbm, 91, rfl⟩
abbrev main_while0b_v55 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩

abbrev nD : Nat := 1
abbrev τ : Topo := Topo.v7x

variable {F : FTy → Type} [FloatOps F]

abbrev main_while0_count : Scf.Loop 32 := ⟨0#32, 16#32, 1#32⟩
-- ==== Kernel8.lean ====
abbrev S56x528x128 : Shape := ⟨3, ![56, 528, 128]⟩
abbrev S32x8x2048 : Shape := ⟨3, ![32, 8, 2048]⟩
abbrev S33x8x16 : Shape := ⟨3, ![33, 8, 16]⟩
abbrev S1x32x2048x8x128 : Shape := ⟨5, ![1, 32, 2048, 8, 128]⟩
abbrev S32x8x16 : Shape := ⟨3, ![32, 8, 16]⟩
abbrev S32x16x8 : Shape := ⟨3, ![32, 16, 8]⟩
abbrev S_ : Shape := ⟨0, ![]⟩
abbrev S32x16x128 : Shape := ⟨3, ![32, 16, 128]⟩
abbrev S32x2048x8x128 : Shape := ⟨4, ![32, 2048, 8, 128]⟩
abbrev S32x8x1x2048 : Shape := ⟨4, ![32, 8, 1, 2048]⟩
abbrev S32x8x1x16 : Shape := ⟨4, ![32, 8, 1, 16]⟩
abbrev S32x16384x128 : Shape := ⟨3, ![32, 16384, 128]⟩
abbrev S8x512x128 : Shape := ⟨3, ![8, 512, 128]⟩
abbrev S8x16x128 : Shape := ⟨3, ![8, 16, 128]⟩
abbrev S1x16x128 : Shape := ⟨3, ![1, 16, 128]⟩
abbrev S1x16384x128 : Shape := ⟨3, ![1, 16384, 128]⟩
abbrev S1x8x1x2048 : Shape := ⟨4, ![1, 8, 1, 2048]⟩
abbrev S1x8x1x16 : Shape := ⟨4, ![1, 8, 1, 16]⟩
abbrev S16x128 : Shape := ⟨2, ![16, 128]⟩
abbrev S16x16 : Shape := ⟨2, ![16, 16]⟩
abbrev S16 : Shape := ⟨1, ![16]⟩
abbrev S16x1 : Shape := ⟨2, ![16, 1]⟩
abbrev S16384x128 : Shape := ⟨2, ![16384, 128]⟩
abbrev S512x128 : Shape := ⟨2, ![512, 128]⟩
abbrev S1x1x1x512 : Shape := ⟨4, ![1, 1, 1, 512]⟩
abbrev S1x512 : Shape := ⟨2, ![1, 512]⟩
abbrev S16x512 : Shape := ⟨2, ![16, 512]⟩
abbrev S1x1x1x16 : Shape := ⟨4, ![1, 1, 1, 16]⟩
abbrev S1x16 : Shape := ⟨2, ![1, 16]⟩

abbrev nBuf : Space → Nat
  | .hbm => 18
  | .vmem => 18
  | .smem => 0
  | _ => 0

abbrev bufTy : (tb : Table) → Fin (tcTables nBuf tb) → BufTy
  | .hbm, ⟨0, _⟩ => ⟨S56x528x128, .f32⟩
  | .hbm, ⟨1, _⟩ => ⟨S32x8x2048, .f32⟩
  | .hbm, ⟨2, _⟩ => ⟨S33x8x16, .f32⟩
  | .hbm, ⟨3, _⟩ => ⟨S1x32x2048x8x128, .f32⟩
  | .hbm, ⟨4, _⟩ => ⟨S1x32x2048x8x128, .f32⟩
  | .hbm, ⟨5, _⟩ => ⟨S32x8x16, .f32⟩
  | .hbm, ⟨6, _⟩ => ⟨S32x16x8, .f32⟩
  | .hbm, ⟨7, _⟩ => ⟨S_, .i32⟩
  | .hbm, ⟨8, _⟩ => ⟨S_, .f32⟩
  | .hbm, ⟨9, _⟩ => ⟨S32x16x128, .f32⟩
  | .hbm, ⟨10, _⟩ => ⟨S32x2048x8x128, .f32⟩
  | .hbm, ⟨11, _⟩ => ⟨S32x2048x8x128, .f32⟩
  | .hbm, ⟨12, _⟩ => ⟨S32x8x1x2048, .f32⟩
  | .hbm, ⟨13, _⟩ => ⟨S32x8x16, .f32⟩
  | .hbm, ⟨14, _⟩ => ⟨S32x8x1x16, .f32⟩
  | .hbm, ⟨15, _⟩ => ⟨S32x16384x128, .f32⟩
  | .hbm, ⟨16, _⟩ => ⟨S32x16384x128, .f32⟩
  | .hbm, ⟨17, _⟩ => ⟨S8x512x128, .bf16⟩
  | .local _ .vmem, ⟨0, _⟩ => ⟨S8x16x128, .f32⟩
  | .local _ .vmem, ⟨1, _⟩ => ⟨S8x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16384x128, .f32⟩
  | .local _ .vmem, ⟨5, _⟩ => ⟨S1x16384x128, .f32⟩
  | .local _ .vmem, ⟨6, _⟩ => ⟨S1x16384x128, .f32⟩
  | .local _ .vmem, ⟨7, _⟩ => ⟨S1x16384x128, .f32⟩
  | .local _ .vmem, ⟨8, _⟩ => ⟨S1x8x1x2048, .f32⟩
  | .local _ .vmem, ⟨9, _⟩ => ⟨S1x8x1x2048, .f32⟩
  | .local _ .vmem, ⟨10, _⟩ => ⟨S8x16x128, .f32⟩
  | .local _ .vmem, ⟨11, _⟩ => ⟨S8x16x128, .f32⟩
  | .local _ .vmem, ⟨12, _⟩ => ⟨S8x16x128, .f32⟩
  | .local _ .vmem, ⟨13, _⟩ => ⟨S8x16x128, .f32⟩
  | .local _ .vmem, ⟨14, _⟩ => ⟨S1x8x1x16, .f32⟩
  | .local _ .vmem, ⟨15, _⟩ => ⟨S1x8x1x16, .f32⟩
  | .local _ .vmem, ⟨16, _⟩ => ⟨S8x16x128, .bf16⟩
  | .local _ .vmem, ⟨17, _⟩ => ⟨S8x16x128, .bf16⟩
  | _, _ => ⟨S56x528x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  let c0_i32_0 : BitVec 32 := 0#32
  ![c4_i32.toNat, v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c5_i32 : BitVec 32 := 5#32
  let c0_i32 : BitVec 32 := 0#32
  let c0_i32_0 : BitVec 32 := 0#32
  ![c5_i32.toNat, v0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c6_i32 : BitVec 32 := 6#32
  let c0_i32 : BitVec 32 := 0#32
  let c0_i32_0 : BitVec 32 := 0#32
  ![c6_i32.toNat, v0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
variable {F : FTy → Type} [FloatOps F] [Named F]
def κ : String → Option EReal := fun
  | "log2e" => some (((Real.log 2)⁻¹ : ℝ) : EReal)
  | _ => none
-- ==== Reference8Ideal.lean ====
abbrev S56x528x128 : Shape := ⟨3, ![56, 528, 128]⟩
abbrev S32x8x2048 : Shape := ⟨3, ![32, 8, 2048]⟩
abbrev S33x8x16 : Shape := ⟨3, ![33, 8, 16]⟩
abbrev S1x32x2048x8x128 : Shape := ⟨5, ![1, 32, 2048, 8, 128]⟩
abbrev S8x512x128 : Shape := ⟨3, ![8, 512, 128]⟩
abbrev S8x32x16x128 : Shape := ⟨4, ![8, 32, 16, 128]⟩
abbrev S32x16x8x128 : Shape := ⟨4, ![32, 16, 8, 128]⟩
abbrev S_ : Shape := ⟨0, ![]⟩
abbrev S32x2048x8x128 : Shape := ⟨4, ![32, 2048, 8, 128]⟩
abbrev S32x2064x8x128 : Shape := ⟨4, ![32, 2064, 8, 128]⟩
abbrev S32x8x16 : Shape := ⟨3, ![32, 8, 16]⟩
abbrev S32x8x2064 : Shape := ⟨3, ![32, 8, 2064]⟩
abbrev S32x8x16x2064 : Shape := ⟨4, ![32, 8, 16, 2064]⟩
abbrev S32x8x16x1 : Shape := ⟨4, ![32, 8, 16, 1]⟩
abbrev S32x8x1x2064 : Shape := ⟨4, ![32, 8, 1, 2064]⟩
abbrev S16 : Shape := ⟨1, ![16]⟩
abbrev S2064 : Shape := ⟨1, ![2064]⟩
abbrev S1x2064 : Shape := ⟨2, ![1, 2064]⟩
abbrev S16x1 : Shape := ⟨2, ![16, 1]⟩
abbrev S16x2064 : Shape := ⟨2, ![16, 2064]⟩
abbrev S32x8x128x16 : Shape := ⟨4, ![32, 8, 128, 16]⟩

abbrev nBuf : Space → Nat
  | .hbm => 66
  | .vmem => 0
  | .smem => 0
  | _ => 0

abbrev bufTy : (tb : Table) → Fin (tcTables nBuf tb) → BufTy
  | .hbm, ⟨0, _⟩ => ⟨S56x528x128, .f32⟩
  | .hbm, ⟨1, _⟩ => ⟨S32x8x2048, .f32⟩
  | .hbm, ⟨2, _⟩ => ⟨S33x8x16, .f32⟩
  | .hbm, ⟨3, _⟩ => ⟨S1x32x2048x8x128, .f32⟩
  | .hbm, ⟨4, _⟩ => ⟨S1x32x2048x8x128, .f32⟩
  | .hbm, ⟨5, _⟩ => ⟨S8x512x128, .f32⟩
  | .hbm, ⟨6, _⟩ => ⟨S8x32x16x128, .f32⟩
  | .hbm, ⟨7, _⟩ => ⟨S32x16x8x128, .f32⟩
  | .hbm, ⟨8, _⟩ => ⟨S_, .f32⟩
  | .hbm, ⟨9, _⟩ => ⟨S_, .f32⟩
  | .hbm, ⟨10, _⟩ => ⟨S32x16x8x128, .f32⟩
  | .hbm, ⟨11, _⟩ => ⟨S32x16x8x128, .f32⟩
  | .hbm, ⟨12, _⟩ => ⟨S32x2048x8x128, .f32⟩
  | .hbm, ⟨13, _⟩ => ⟨S8x512x128, .f32⟩
  | .hbm, ⟨14, _⟩ => ⟨S8x32x16x128, .f32⟩
  | .hbm, ⟨15, _⟩ => ⟨S32x16x8x128, .f32⟩
  | .hbm, ⟨16, _⟩ => ⟨S32x2064x8x128, .f32⟩
  | .hbm, ⟨17, _⟩ => ⟨S32x2048x8x128, .f32⟩
  | .hbm, ⟨18, _⟩ => ⟨S8x512x128, .f32⟩
  | .hbm, ⟨19, _⟩ => ⟨S8x32x16x128, .f32⟩
  | .hbm, ⟨20, _⟩ => ⟨S32x16x8x128, .f32⟩
  | .hbm, ⟨21, _⟩ => ⟨S32x2064x8x128, .f32⟩
  | .hbm, ⟨22, _⟩ => ⟨S32x8x16, .f32⟩
  | .hbm, ⟨23, _⟩ => ⟨S32x8x2064, .f32⟩
  | .hbm, ⟨24, _⟩ => ⟨S32x8x16x2064, .f32⟩
  | .hbm, ⟨25, _⟩ => ⟨S32x8x16, .f32⟩
  | .hbm, ⟨26, _⟩ => ⟨S32x8x16x1, .f32⟩
  | .hbm, ⟨27, _⟩ => ⟨S32x8x1x2064, .f32⟩
  | .hbm, ⟨28, _⟩ => ⟨S32x8x16x2064, .f32⟩
  | .hbm, ⟨29, _⟩ => ⟨S32x8x16x2064, .f32⟩
  | .hbm, ⟨30, _⟩ => ⟨S32x8x16x2064, .f32⟩
  | .hbm, ⟨31, _⟩ => ⟨S32x8x16x2064, .f32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S2064, .i32⟩
  | .hbm, ⟨37, _⟩ => ⟨S1x2064, .i32⟩
  | .hbm, ⟨38, _⟩ => ⟨S16x1, .i32⟩
  | .hbm, ⟨39, _⟩ => ⟨S16x2064, .i32⟩
  | .hbm, ⟨40, _⟩ => ⟨S16x2064, .i32⟩
  | .hbm, ⟨41, _⟩ => ⟨S16x2064, .i1⟩
  | .hbm, ⟨42, _⟩ => ⟨S_, .f32⟩
  | .hbm, ⟨43, _⟩ => ⟨S_, .f32⟩
  | .hbm, ⟨44, _⟩ => ⟨S32x8x16x2064, .i1⟩
  | .hbm, ⟨45, _⟩ => ⟨S32x8x16x2064, .f32⟩
  | .hbm, ⟨46, _⟩ => ⟨S32x8x16x2064, .f32⟩
  | .hbm, ⟨47, _⟩ => ⟨S_, .f32⟩
  | .hbm, ⟨48, _⟩ => ⟨S32x8x16, .f32⟩
  | .hbm, ⟨49, _⟩ => ⟨S_, .f32⟩
  | .hbm, ⟨50, _⟩ => ⟨S32x8x16, .f32⟩
  | .hbm, ⟨51, _⟩ => ⟨S32x8x16, .f32⟩
  | .hbm, ⟨52, _⟩ => ⟨S32x8x16x1, .f32⟩
  | .hbm, ⟨53, _⟩ => ⟨S32x8x16x2064, .f32⟩
  | .hbm, ⟨54, _⟩ => ⟨S32x8x16x2064, .f32⟩
  | .hbm, ⟨55, _⟩ => ⟨S32x8x16x2064, .f32⟩
  | .hbm, ⟨56, _⟩ => ⟨S_, .f32⟩
  | .hbm, ⟨57, _⟩ => ⟨S32x8x16, .f32⟩
  | .hbm, ⟨58, _⟩ => ⟨S32x8x16x1, .f32⟩
  | .hbm, ⟨59, _⟩ => ⟨S32x8x16x2064, .f32⟩
  | .hbm, ⟨60, _⟩ => ⟨S32x8x16x2064, .f32⟩
  | .hbm, ⟨61, _⟩ => ⟨S32x8x128x16, .f32⟩
  | .hbm, ⟨62, _⟩ => ⟨S32x16x8x128, .f32⟩
  | .hbm, ⟨63, _⟩ => ⟨S8x32x16x128, .f32⟩
  | .hbm, ⟨64, _⟩ => ⟨S8x512x128, .f32⟩
  | .hbm, ⟨65, _⟩ => ⟨S8x512x128, .bf16⟩
  | _, _ => ⟨S56x528x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.Chunk.lean ====
/-
  The kernel's step over one chunk of 128 tokens, as a function of the chunk's queries, log forgets and values and of the state
  before it, written once: at each grid point the kernel writes it out sixteen times.

  Seven levels halve the chunk into blocks of 2, 4, …, 128 tokens. At a level, a token of a block's upper half
  scales its query by the forgets from the block's middle up to itself, and a token of the lower half its key by the
  forgets from itself to the middle; the products of the scaled rows are the scores of the pairs that the level
  separates. `own` names that level for each pair, counting the leading zeros of the exclusive or of the two rows.
-/
module

public import proofs.«01_k».proof.Proof.Gen.KernelIdeal
public import Idealize.ShloMosaic.Lib.Pipeline.FrameBody

@[expose] public section

noncomputable section

namespace Cert.KernelIdeal.Chunk

open Idealize.ShloMosaic Cert.KernelIdeal Cert.KernelIdeal.Gen

variable {F : FTy → Type} [FloatOps F]

/-- A 128 × 128 block of floats. -/
abbrev Mat (F : FTy → Type) := FVec F S128x128 .f32

/-- The rows whose number has the bit `b`: those in the upper half of their block. -/
def up (b : BitVec 32) : IVec S128x128 1 :=
  cmpi .ne (andi (iota .tc S128x128 32 [0] iota_S128x128_d0_w32) (broadcast S128x128 b)) (broadcast S128x128 0#32)

/-- The level that separates row `r` from row `c ≤ r`, 0 on the diagonal; -1 above it. -/
def own : IVec S128x128 32 :=
  select (cmpi .sge (iota .tc S128x128 32 [0] iota_S128x128_d0_w32) (iota .tc S128x128 32 [1] iota_S128x128_d1_w32))
    (subi (broadcast S128x128 32#32)
      (ctlz (xori (iota .tc S128x128 32 [0] iota_S128x128_d0_w32) (iota .tc S128x128 32 [1] iota_S128x128_d1_w32))))
    (broadcast S128x128 4294967295#32)

/-- Row `a` of each block of eight rows, on all eight. -/
def row8 (a : ℕ) (h : S16x8x128.Slices ![0, a, 0] S16x1x128) (x : FVec F S16x8x128 .f32) : FVec F S16x8x128 .f32 :=
  broadcastTo S16x8x128
    (shapeCast S16x1x128 (extractStridedSlice S16x1x128 ![0, a, 0] x h) shapeCasts_S16x1x128_S16x1x128)
    broadcasts_S16x1x128_S16x8x128

/-- The rows of a block of eight from row `a` on. -/
def from8 (a : BitVec 32) : IVec S16x8x128 1 :=
  cmpi .sge (iota .tc S16x8x128 32 [1] iota_S16x8x128_d1_w32) (broadcast S16x8x128 a)

def split8 (x : Mat F) : FVec F S16x8x128 .f32 := shapeCast S16x8x128 x shapeCasts_S128x128_S16x8x128

/-- The last row of the lower half of each block of two rows, on both. -/
def mid1 (x : Mat F) : Mat F :=
  shapeCast S128x128
    (select (from8 6#32) (row8 6 slices_S16x8x128_o0_6_0_S16x1x128 (split8 x))
      (select (from8 4#32) (row8 4 slices_S16x8x128_o0_4_0_S16x1x128 (split8 x))
        (select (from8 2#32) (row8 2 slices_S16x8x128_o0_2_0_S16x1x128 (split8 x))
          (row8 0 slices_S16x8x128_o0_0_0_S16x1x128 (split8 x)))))
    shapeCasts_S16x8x128_S128x128

/-- The same for blocks of four rows, … -/
def mid2 (x : Mat F) : Mat F :=
  shapeCast S128x128
    (select (from8 4#32) (row8 5 slices_S16x8x128_o0_5_0_S16x1x128 (split8 x))
      (row8 1 slices_S16x8x128_o0_1_0_S16x1x128 (split8 x)))
    shapeCasts_S16x8x128_S128x128

/-- of eight, -/
def mid3 (x : Mat F) : Mat F :=
  shapeCast S128x128 (row8 3 slices_S16x8x128_o0_3_0_S16x1x128 (split8 x)) shapeCasts_S16x8x128_S128x128

/-- of sixteen, -/
def mid4 (x : Mat F) : Mat F :=
  shapeCast S128x128
    (broadcastTo S8x16x128
      (shapeCast S8x1x128 (extractStridedSlice S8x1x128 ![0, 7, 0] (shapeCast S8x16x128 x shapeCasts_S128x128_S8x16x128)
        slices_S8x16x128_o0_7_0_S8x1x128) shapeCasts_S8x1x128_S8x1x128)
      broadcasts_S8x1x128_S8x16x128)
    shapeCasts_S8x16x128_S128x128

/-- of 32, -/
def mid5 (x : Mat F) : Mat F :=
  shapeCast S128x128
    (broadcastTo S4x32x128
      (shapeCast S4x1x128 (extractStridedSlice S4x1x128 ![0, 15, 0] (shapeCast S4x32x128 x shapeCasts_S128x128_S4x32x128)
        slices_S4x32x128_o0_15_0_S4x1x128) shapeCasts_S4x1x128_S4x1x128)
      broadcasts_S4x1x128_S4x32x128)
    shapeCasts_S4x32x128_S128x128

/-- of 64, -/
def mid6 (x : Mat F) : Mat F :=
  shapeCast S128x128
    (broadcastTo S2x64x128
      (shapeCast S2x1x128 (extractStridedSlice S2x1x128 ![0, 31, 0] (shapeCast S2x64x128 x shapeCasts_S128x128_S2x64x128)
        slices_S2x64x128_o0_31_0_S2x1x128) shapeCasts_S2x1x128_S2x1x128)
      broadcasts_S2x1x128_S2x64x128)
    shapeCasts_S2x64x128_S128x128

/-- and of all 128. -/
def mid7 (x : Mat F) : Mat F :=
  shapeCast S128x128
    (broadcastTo S1x128x128
      (shapeCast S1x1x128 (extractStridedSlice S1x1x128 ![0, 63, 0] (shapeCast S1x128x128 x shapeCasts_S128x128_S1x128x128)
        slices_S1x128x128_o0_63_0_S1x1x128) shapeCasts_S1x1x128_S1x1x128)
      broadcasts_S1x1x128_S1x128x128)
    shapeCasts_S1x128x128_S128x128

/-- The running sums within the blocks of the next level. -/
def next (u : IVec S128x128 1) (mid pre : Mat F) : Mat F := select u (addf pre mid) pre

/-- The products of a level's scaled rows. -/
def gram (x : Mat F) : Mat F :=
  matmul dot_S128x128_S128x128_S128x128_1_0_0_1_n_n none (truncf .bf16 x bitsLt_bf16_f32)
    (truncf .bf16 (transpose S128x128 [1, 0] x transposes_S128x128_p1_0_S128x128) bitsLt_bf16_f32)
    (constant S128x128 .f32 0x00000000#32)

/-- The scores with those of the pairs that level `n` separates. -/
def level (n : BitVec 32) (u : IVec S128x128 1) (q k mid pre acc : Mat F) : Mat F :=
  select (cmpi .eq own (broadcast S128x128 n))
    (gram (mulf (select u q k) (exp2 (select u pre (subf mid pre))))) acc

/-- A token's key: one minus its forget. -/
def key (g : Mat F) : Mat F := subf (broadcast S128x128 (Scalar.ofBits .f32 0x3F800000#32)) (exp2 g)

def diag (q k : Mat F) : Mat F :=
  select (cmpi .eq own (broadcast S128x128 0#32))
    (broadcastTo S128x128
      (shapeCast S128x1
        (shapeCast S128x1
          (multiReduction .add [1] S128 (mulf q k) 0x00000000#32 reduces_S128x128_S128 (.inl rfl) rfl)
          shapeCasts_S128_S128x1)
        shapeCasts_S128x1_S128x1)
      broadcasts_S128x1_S128x128)
    (broadcast S128x128 (Scalar.ofBits .f32 0x00000000#32))

def pre1 (g : Mat F) : Mat F := next (up 1#32) (mid1 g) g
def pre2 (g : Mat F) : Mat F := next (up 2#32) (mid2 (pre1 g)) (pre1 g)
def pre3 (g : Mat F) : Mat F := next (up 4#32) (mid3 (pre2 g)) (pre2 g)
def pre4 (g : Mat F) : Mat F := next (up 8#32) (mid4 (pre3 g)) (pre3 g)
def pre5 (g : Mat F) : Mat F := next (up 16#32) (mid5 (pre4 g)) (pre4 g)
def pre6 (g : Mat F) : Mat F := next (up 32#32) (mid6 (pre5 g)) (pre5 g)
/-- The running sum of the log forgets over the chunk. -/
def cum (g : Mat F) : Mat F := next (up 64#32) (mid7 (pre6 g)) (pre6 g)

def sc1 (q g : Mat F) : Mat F := level 1#32 (up 1#32) q (key g) (mid1 g) g (diag q (key g))
def sc2 (q g : Mat F) : Mat F := level 2#32 (up 2#32) q (key g) (mid2 (pre1 g)) (pre1 g) (sc1 q g)
def sc3 (q g : Mat F) : Mat F := level 3#32 (up 4#32) q (key g) (mid3 (pre2 g)) (pre2 g) (sc2 q g)
def sc4 (q g : Mat F) : Mat F := level 4#32 (up 8#32) q (key g) (mid4 (pre3 g)) (pre3 g) (sc3 q g)
def sc5 (q g : Mat F) : Mat F := level 5#32 (up 16#32) q (key g) (mid5 (pre4 g)) (pre4 g) (sc4 q g)
def sc6 (q g : Mat F) : Mat F := level 6#32 (up 32#32) q (key g) (mid6 (pre5 g)) (pre5 g) (sc5 q g)
/-- The scores of all pairs of the chunk's tokens. -/
def scores (q g : Mat F) : Mat F := level 7#32 (up 64#32) q (key g) (mid7 (pre6 g)) (pre6 g) (sc6 q g)

/-- The chunk's outputs before the norm: from the state before it, and from the chunk itself. -/
def outRows (q g v st : Mat F) : Mat F :=
  addf
    (matmul dot_S128x128_S128x128_S128x128_1_1_0_0_n_n none (truncf .bf16 (mulf q (exp2 (cum g))) bitsLt_bf16_f32)
      (truncf .bf16 st bitsLt_bf16_f32) (constant S128x128 .f32 0x00000000#32))
    (matmul dot_S128x128_S128x128_S128x128_1_0_0_1_n_n none (truncf .bf16 (scores q g) bitsLt_bf16_f32)
      (truncf .bf16 v bitsLt_bf16_f32) (constant S128x128 .f32 0x00000000#32))

def lastRow (g : Mat F) : FVec F S1x128 .f32 :=
  extractStridedSlice S1x128 ![127, 0] (cum g) slices_S128x128_o127_0_S1x128

/-- The state after the chunk. -/
def nextState (g v st : Mat F) : Mat F :=
  addf
    (mulf st (broadcastTo S128x128 (exp2 (lastRow g)) broadcasts_S1x128_S128x128))
    (matmul dot_S128x128_S128x128_S128x128_0_0_1_1_n_n none (truncf .bf16 v bitsLt_bf16_f32)
      (truncf .bf16 (mulf (key g) (exp2 (subf (broadcastTo S128x128 (lastRow g) broadcasts_S1x128_S128x128) (cum g))))
        bitsLt_bf16_f32)
      (constant S128x128 .f32 0x00000000#32))

/-- The norm of the output rows, their gain and gate, as the kernel stores them. -/
def stored (gain : FVec F S1x128 .f32) (o gate : Mat F) : FVec F S1x128x128 .bf16 :=
  shapeCast S1x128x128
    (truncf .bf16
      (mulf
        (mulf
          (mulf o
            (broadcastTo S128x128
              (rsqrt
                (addf
                  (divf
                    (shapeCast S128x1
                      (multiReduction .add [1] S128 (mulf o o) 0x00000000#32 reduces_S128x128_S128 (.inl rfl) rfl)
                      shapeCasts_S128_S128x1)
                    (broadcast S128x1 (Scalar.ofBits .f32 0x43000000#32)))
                  (broadcast S128x1 (Scalar.ofBits .f32 0x358637BD#32))))
              broadcasts_S128x1_S128x128))
          (broadcastTo S128x128 gain broadcasts_S1x128_S128x128))
        gate)
      bitsLt_bf16_f32)
    shapeCasts_S128x128_S1x128x128

theorem inb (n : ℕ) : ∀ a, (![0, 128 * (n % 16), 0] : Fin 3 → ℕ) a + S1x128x128.size a ≤ S1x2048x128.size a := by
  intro a
  match a with
  | ⟨0, _⟩ => show 0 + 1 ≤ 1; omega
  | ⟨1, _⟩ => show 128 * (n % 16) + 128 ≤ 2048; omega
  | ⟨2, _⟩ => show 0 + 128 ≤ 128; omega

/-- A window of 128 rows as a matrix. -/
def mat (x : Vec F S1x128x128 .f32) : Mat F := shapeCast S128x128 x shapeCasts_S1x128x128_S128x128

/-- Chunk `n`'s rows of a tile of 2048 rows. -/
def rows (x : Vec F S1x2048x128 .f32) (n : ℕ) : Vec F S1x128x128 .f32 :=
  View.ld x (Rect.unit ![0, 128 * (n % 16), 0] S1x128x128.size (inb n))

/-- The state after the first `n` chunks of a tile, from the tile's log forgets and values. -/
def states (g v : Vec F S1x2048x128 .f32) (st : Mat F) : ℕ → Mat F
  | 0 => st
  | n + 1 => nextState (mat (rows g n)) (mat (rows v n)) (states g v st n)

/-- What the kernel stores for chunk `n` of a tile. -/
def storedAt (q g v gate : Vec F S1x2048x128 .f32) (gain : Vec F S1x1x128 .f32) (st : Mat F) (n : ℕ) :
    FVec F S1x128x128 .bf16 :=
  stored (shapeCast S1x128 gain shapeCasts_S1x1x128_S1x128)
    (outRows (mat (rows q n)) (mat (rows g n)) (mat (rows v n)) (states g v st n)) (mat (rows gate n))

end Cert.KernelIdeal.Chunk

end
-- ==== Proof.Tile.lean ====
/-
  What one grid point leaves in its output window and in the carried state, read off the run of the kernel's body: the sixteen
  chunks of the tile, one after the other (`Chunk.storedAt`, `Chunk.states`), from the state at the tile's start.
-/
module

public import proofs.«01_k».proof.Proof.Gen.KernelIdeal.Value
public import proofs.«01_k».proof.Proof.Chunk
public import Idealize.ShloMosaic.Lib.Tactic
public import Idealize.ShloMosaic.Lib.Pipeline.Value

@[expose] public section

set_option maxRecDepth 16384

noncomputable section

namespace Cert.KernelIdeal.Tile

open Idealize.ShloMosaic Cert.KernelIdeal Cert.KernelIdeal.Gen Cert.KernelIdeal.Chunk

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A tile's output window: what its sixteen chunks store, the last one first. -/
def tile (q g v gate : Vec F S1x2048x128 .f32) (gain : Vec F S1x1x128 .f32) (st : Mat F) : Vec F S1x2048x128 .bf16 :=
  View.canon (List.ofFn fun k : Fin 16 =>
    ⟨Rect.unit ![0, 128 * ((15 - k.val) % 16), 0] S1x128x128.size (inb _), storedAt q g v gate gain st (15 - k.val)⟩)

/-- The state at a sequence's start, from its window. -/
def fromWindow (x : Vec F S1x1x128x128 .f32) : Vec F S1x128x128 .f32 :=
  shapeCast S1x128x128 (shapeCast S1x128x128 x shapeCasts_S1x1x128x128_S1x128x128) shapeCasts_S1x128x128_S1x128x128

section Cases

variable (c : Dev nD) (i : grid0.Coords)
  (arg3 : Memref sig .tc .vmem S1x2048x128 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .f32) (harg6 : arg6.IsWhole)
  (arg7 : Memref sig .tc .vmem S1x1x128 .f32) (harg7 : arg7.IsWhole)
  (arg8 : Memref sig .tc .vmem S1x1x128x128 .f32) (harg8 : arg8.IsWhole)
  (arg9 : Memref sig .tc .vmem S1x2048x128 .bf16) (harg9 : arg9.IsWhole)
  (arg10 : Memref sig .tc .vmem S1x1x128x128 .f32) (harg10 : arg10.IsWhole)
  (arg11 : Memref sig .tc .vmem S1x128x128 .f32) (harg11 : arg11.IsWhole)
  (x0 x1 x2 x3 : Vec F S1x2048x128 .f32) (x4 : Vec F S1x1x128 .f32) (x5 : Vec F S1x1x128x128 .f32)

/-- The state that the body loads from the scratch buffer as the point before left it. -/
def carried (xs0 : Vec F S1x128x128 .f32) : Mat F :=
  mat (View.ld (arg11.view.read (Elt F) (harg11.unread xs0)) (Rect.unit ![0, 0, 0] S1x128x128.size inb_S1x128x128_S1x128x128_0_0_0))

theorem carried_eq (xs0 : Vec F S1x128x128 .f32) : carried arg11 harg11 xs0 = mat xs0 := by
  unfold carried
  rw [harg11.read_unread, View.ld_unit_zero (S := S1x128x128) hz3]

/-- The state that the body loads from the scratch buffer after it has filled it from the window. -/
def loaded : Mat F :=
  mat (View.readCov arg11.view
    [⟨Rect.unit ![0, 0, 0] S1x128x128.size inb_S1x128x128_S1x128x128_0_0_0,
      fromWindow (View.ld (arg8.view.read (Elt F) (harg8.unread x5))
        (Rect.unit ![0, 0, 0, 0] S1x1x128x128.size inb_S1x1x128x128_S1x1x128x128_0_0_0_0))⟩]
    (Rect.unit ![0, 0, 0] S1x128x128.size inb_S1x128x128_S1x128x128_0_0_0).toLoadRect)

theorem loaded_eq : loaded arg8 harg8 arg11 x5 = mat (fromWindow x5) := by
  unfold loaded
  rw [View.readCov_unit_zero (S := S1x128x128) _ hz3, harg8.read_unread, View.ld_unit_zero (S := S1x1x128x128) hz4]

/-! ### Case A, the first tile of a sequence: the state is the one that the window holds -/

theorem out6_A (hc0 : cond0_0 i) (hc1 : ¬cond0_1 i) :
    out0_A_6 c i arg3 harg3 arg4 harg4 arg5 harg5 arg6 harg6 arg7 harg7 arg8 harg8 arg9 harg9 arg10 harg10 arg11 harg11 hc0 hc1 x0 x1 x2 x3 x4 x5 = tile x0 x1 x2 x3 x4 (mat (fromWindow x5)) := by
  unfold out0_A_6
  rw [View.read_writes_eq_canon _ _ _ (cover0_A_6 c i arg3 harg3 arg4 harg4 arg5 harg5 arg6 harg6 arg7 harg7 arg8 harg8 arg9 harg9 arg10 harg10 arg11 harg11 hc0 hc1 x0 x1 x2 x3 x4 x5)]
  trans tile (arg3.view.read (Elt F) (harg3.unread x0)) (arg4.view.read (Elt F) (harg4.unread x1)) (arg5.view.read (Elt F) (harg5.unread x2))
    (arg6.view.read (Elt F) (harg6.unread x3))
    (View.ld (arg7.view.read (Elt F) (harg7.unread x4)) (Rect.unit ![0, 0, 0] S1x1x128.size inb_S1x1x128_S1x1x128_0_0_0))
    (loaded arg8 harg8 arg11 x5)
  · rfl
  · simp only [harg3.read_unread, harg4.read_unread, harg5.read_unread, harg6.read_unread, harg7.read_unread, loaded_eq,
      View.ld_unit_zero (S := S1x1x128) hz3]

theorem sout_A (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5
      = shapeCast S1x128x128 (states x1 x2 (mat (fromWindow x5)) 16) shapeCasts_S128x128_S1x128x128 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  trans shapeCast S1x128x128 (states (arg4.view.read (Elt F) (harg4.unread x1)) (arg5.view.read (Elt F) (harg5.unread x2)) (loaded arg8 harg8 arg11 x5) 16) shapeCasts_S128x128_S1x128x128
  · unfold kernelRun0_A
    dsimp only
    rw [View.canon_cons_unit_zero (S := S1x128x128) hz3]
    rfl
  · simp only [harg4.read_unread, harg5.read_unread, loaded_eq]

/-! ### Case B, a tile in the middle: the state is the one that the tile before left -/

theorem out6_B (hc0 : ¬cond0_0 i) (hc1 : ¬cond0_1 i) (xs0 : Vec F S1x128x128 .f32) :
    out0_B_6 c i arg3 harg3 arg4 harg4 arg5 harg5 arg6 harg6 arg7 harg7 arg8 harg8 arg9 harg9 arg10 harg10 arg11 harg11 hc0 hc1 x0 x1 x2 x3 x4 x5 xs0 = tile x0 x1 x2 x3 x4 (mat xs0) := by
  unfold out0_B_6
  rw [View.read_writes_eq_canon _ _ _ (cover0_B_6 c i arg3 harg3 arg4 harg4 arg5 harg5 arg6 harg6 arg7 harg7 arg8 harg8 arg9 harg9 arg10 harg10 arg11 harg11 hc0 hc1 x0 x1 x2 x3 x4 x5 xs0)]
  trans tile (arg3.view.read (Elt F) (harg3.unread x0)) (arg4.view.read (Elt F) (harg4.unread x1)) (arg5.view.read (Elt F) (harg5.unread x2))
    (arg6.view.read (Elt F) (harg6.unread x3))
    (View.ld (arg7.view.read (Elt F) (harg7.unread x4)) (Rect.unit ![0, 0, 0] S1x1x128.size inb_S1x1x128_S1x1x128_0_0_0))
    (carried arg11 harg11 xs0)
  · rfl
  · simp only [harg3.read_unread, harg4.read_unread, harg5.read_unread, harg6.read_unread, harg7.read_unread, carried_eq,
      View.ld_unit_zero (S := S1x1x128) hz3]

theorem sout_B (hc0 : ¬cond0_0 i) (hc1 : ¬cond0_1 i) (xs0 : Vec F S1x128x128 .f32) :
    sout0_B_0 c i arg3 harg3 arg4 harg4 arg5 harg5 arg6 harg6 arg7 harg7 arg8 harg8 arg9 harg9 arg10 harg10 arg11 harg11 hc0 hc1 x0 x1 x2 x3 x4 x5 xs0
      = shapeCast S1x128x128 (states x1 x2 (mat xs0) 16) shapeCasts_S128x128_S1x128x128 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0)]
  trans shapeCast S1x128x128 (states (arg4.view.read (Elt F) (harg4.unread x1)) (arg5.view.read (Elt F) (harg5.unread x2)) (carried arg11 harg11 xs0) 16) shapeCasts_S128x128_S1x128x128
  · unfold kernelRun0_B
    dsimp only
    rw [View.canon_unit_zero (S := S1x128x128) hz3]
    rfl
  · simp only [harg4.read_unread, harg5.read_unread, carried_eq]

/-! ### Case C, the last tile: the state is written out -/

theorem out6_C (hc0 : ¬cond0_0 i) (hc1 : cond0_1 i) (xs0 : Vec F S1x128x128 .f32) :
    out0_C_6 c i arg3 harg3 arg4 harg4 arg5 harg5 arg6 harg6 arg7 harg7 arg8 harg8 arg9 harg9 arg10 harg10 arg11 harg11 hc0 hc1 x0 x1 x2 x3 x4 x5 xs0 = tile x0 x1 x2 x3 x4 (mat xs0) := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0)]
  trans tile (arg3.view.read (Elt F) (harg3.unread x0)) (arg4.view.read (Elt F) (harg4.unread x1)) (arg5.view.read (Elt F) (harg5.unread x2))
    (arg6.view.read (Elt F) (harg6.unread x3))
    (View.ld (arg7.view.read (Elt F) (harg7.unread x4)) (Rect.unit ![0, 0, 0] S1x1x128.size inb_S1x1x128_S1x1x128_0_0_0))
    (carried arg11 harg11 xs0)
  · rfl
  · simp only [harg3.read_unread, harg4.read_unread, harg5.read_unread, harg6.read_unread, harg7.read_unread, carried_eq,
      View.ld_unit_zero (S := S1x1x128) hz3]

theorem sout_C (hc0 : ¬cond0_0 i) (hc1 : cond0_1 i) (xs0 : Vec F S1x128x128 .f32) :
    sout0_C_0 c i arg3 harg3 arg4 harg4 arg5 harg5 arg6 harg6 arg7 harg7 arg8 harg8 arg9 harg9 arg10 harg10 arg11 harg11 hc0 hc1 x0 x1 x2 x3 x4 x5 xs0
      = shapeCast S1x128x128 (states x1 x2 (mat xs0) 16) shapeCasts_S128x128_S1x128x128 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0)]
  trans shapeCast S1x128x128 (states (arg4.view.read (Elt F) (harg4.unread x1)) (arg5.view.read (Elt F) (harg5.unread x2)) (carried arg11 harg11 xs0) 16) shapeCasts_S128x128_S1x128x128
  · unfold kernelRun0_C
    dsimp only
    rw [View.canon_unit_zero (S := S1x128x128) hz3]
    rfl
  · simp only [harg4.read_unread, harg5.read_unread, carried_eq]

theorem out7_C (hc0 : ¬cond0_0 i) (hc1 : cond0_1 i) (xs0 : Vec F S1x128x128 .f32) :
    out0_C_7 c i arg3 harg3 arg4 harg4 arg5 harg5 arg6 harg6 arg7 harg7 arg8 harg8 arg9 harg9 arg10 harg10 arg11 harg11 hc0 hc1 x0 x1 x2 x3 x4 x5 xs0
      = shapeCast S1x1x128x128 (states x1 x2 (mat xs0) 16) shapeCasts_S128x128_S1x1x128x128 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 xs0)]
  trans shapeCast S1x1x128x128 (states (arg4.view.read (Elt F) (harg4.unread x1)) (arg5.view.read (Elt F) (harg5.unread x2)) (carried arg11 harg11 xs0) 16) shapeCasts_S128x128_S1x1x128x128
  · unfold kernelRun0_C
    dsimp only
    rw [View.canon_unit_zero (S := S1x1x128x128) hz4]
    rfl
  · simp only [harg4.read_unread, harg5.read_unread, carried_eq]

end Cases

end Cert.KernelIdeal.Tile

end
-- ==== Proof.Masks.lean ====
/-
  The kernel's row and pair masks as statements about row numbers: which half of a block a row lies in, and which level
  owns a pair of rows (`own` counts the leading zeros of the exclusive or of their numbers).
-/
module

public import proofs.«01_k».proof.Proof.Chunk
public import Idealize.ShloMosaic.Lib.Pointwise

@[expose] public section

noncomputable section

namespace Cert.KernelIdeal.Chunk

open Idealize.ShloMosaic Cert.KernelIdeal Cert.KernelIdeal.Gen

theorem select_one {α : Type} (x y : α) : Scalar.select 1#1 x y = x := rfl
theorem select_zero {α : Type} (x y : α) : Scalar.select 0#1 x y = y := rfl

theorem select_eq {α : Type} {w : ℕ} {a b : BitVec w} (h : a = b) (x y : α) : Scalar.select (IntOp.cmpi .eq a b) x y = x := by
  subst h; simp [Scalar.select, IntOp.cmpi]

theorem select_ne {α : Type} {w : ℕ} {a b : BitVec w} (h : a ≠ b) (x y : α) : Scalar.select (IntOp.cmpi .eq a b) x y = y := by
  have hb : (a == b) = false := by simpa using h
  simp [Scalar.select, IntOp.cmpi, hb]

/-- Bit `l` of a row's number tells whether it lies in the upper half of its block of `2 ^ (l + 1)` rows. -/
theorem up_at (l : Fin 7) (r d : Fin 128) :
    up (BitVec.ofNat 32 (2 ^ l.val)) (ix2 r d) = if r.val / 2 ^ l.val % 2 = 1 then 1#1 else 0#1 := by
  pointwise [up]
  revert l r
  decide +kernel

/-- The pairs that level `l + 1` owns: the earlier token in the lower half and the later in the upper half of one block. -/
theorem own_level (l : Fin 7) (r c : Fin 128) :
    own (ix2 r c) = BitVec.ofNat 32 (l.val + 1) ↔ (c.val ≤ r.val ∧ r.val / 2 ^ (l.val + 1) = c.val / 2 ^ (l.val + 1)
      ∧ r.val / 2 ^ l.val % 2 = 1 ∧ c.val / 2 ^ l.val % 2 = 0) := by
  pointwise [own]
  revert l r c
  decide +kernel

theorem own_diag (r c : Fin 128) : own (ix2 r c) = 0#32 ↔ r = c := by
  pointwise [own]
  revert r c
  decide +kernel

theorem from8_at (m a : Fin 8) : IntOp.cmpi .sge (BitVec.ofNat 32 m.val) (BitVec.ofNat 32 a.val) = if a.val ≤ m.val then 1#1 else 0#1 := by
  revert m a
  decide +kernel

end Cert.KernelIdeal.Chunk

end
-- ==== Proof.Recurrence.lean ====
/-
  The gated linear recurrence over the reals, token by token, and its form over a block of tokens.

  A head has a state `S` of 128 × 128 numbers. Token `n` forgets by `f = 2 ^ g` and writes `(1 - f) v`:
  `S d e ↦ f d * S d e + (1 - f d) * v e`; the output is `o e = ∑ d, q d * S d e` of the new state. With the running
  sums `G` of the log forgets, `m` tokens from token `b` on scale the state by `2 ^ (G (b + m) - G b)` and
  add what each of them wrote, scaled by the forgets that came after it. No kernel and no program stands in this file.
-/
module

public import Idealize.ShloMosaic.PureOps.Ideal
public import Mathlib.Tactic.Ring
public import Mathlib.Algebra.BigOperators.Ring.Finset

@[expose] public section

noncomputable section

namespace Cert.Hgrn

/-- A power of two with a real exponent. -/
def E (x : ℝ) : ℝ := (2 : ℝ) ^ x

theorem E_add (x y : ℝ) : E (x + y) = E x * E y := Real.rpow_add (by norm_num) x y

theorem E_zero : E 0 = 1 := Real.rpow_zero 2

/-- The running sum of the log forgets of the first `n` tokens. -/
def G (g : ℕ → Fin 128 → ℝ) (n : ℕ) (d : Fin 128) : ℝ := ∑ i ∈ Finset.range n, g i d

theorem G_succ (g : ℕ → Fin 128 → ℝ) (n : ℕ) (d : Fin 128) : G g (n + 1) d = G g n d + g n d :=
  Finset.sum_range_succ _ _

/-- The state after `n` tokens. -/
def state (g v : ℕ → Fin 128 → ℝ) (S0 : Fin 128 → Fin 128 → ℝ) : ℕ → Fin 128 → Fin 128 → ℝ
  | 0 => S0
  | n + 1 => fun d e => E (g n d) * state g v S0 n d e + (1 - E (g n d)) * v n e

/-- Token `n`'s output: its query against the state that it leaves. -/
def out (q g v : ℕ → Fin 128 → ℝ) (S0 : Fin 128 → Fin 128 → ℝ) (n : ℕ) (e : Fin 128) : ℝ :=
  ∑ d, q n d * state g v S0 (n + 1) d e

/-- The tokens from `b` on, as a sequence of their own. -/
def after (b : ℕ) (a : ℕ → Fin 128 → ℝ) : ℕ → Fin 128 → ℝ := fun n => a (b + n)

theorem state_after (g v : ℕ → Fin 128 → ℝ) (S0 : Fin 128 → Fin 128 → ℝ) (b : ℕ) :
    ∀ n, state (after b g) (after b v) (state g v S0 b) n = state g v S0 (b + n)
  | 0 => rfl
  | n + 1 => by
    show _ = state g v S0 (b + n + 1)
    simp only [state, state_after g v S0 b n, after]

theorem out_after (q g v : ℕ → Fin 128 → ℝ) (S0 : Fin 128 → Fin 128 → ℝ) (b n : ℕ) :
    out (after b q) (after b g) (after b v) (state g v S0 b) n = out q g v S0 (b + n) := by
  funext e
  simp only [out, state_after g v S0 b (n + 1)]
  rfl

/-- The state after `n` tokens in closed form: what was there at the start and what each token wrote, each scaled by the
    forgets that came after it. -/
theorem state_closed (g v : ℕ → Fin 128 → ℝ) (S0 : Fin 128 → Fin 128 → ℝ) (d e : Fin 128) :
    ∀ n, state g v S0 n d e = E (G g n d) * S0 d e
      + ∑ i ∈ Finset.range n, E (G g n d - G g (i + 1) d) * (1 - E (g i d)) * v i e
  | 0 => by simp [state, G, E_zero]
  | n + 1 => by
    have hs : ∀ i, E (G g (n + 1) d - G g (i + 1) d) = E (g n d) * E (G g n d - G g (i + 1) d) := fun i => by
      rw [← E_add, G_succ g n]; congr 1; ring
    rw [Finset.sum_range_succ, sub_self, E_zero, G_succ, E_add]
    simp only [state, state_closed g v S0 d e n]
    rw [← G_succ]
    simp only [hs, mul_add, Finset.mul_sum, mul_assoc]
    rw [mul_left_comm]
    ring

/-- What token `c` contributes to token `r`'s output, before the value: their query and key with the forgets between them. -/
def score (q g : ℕ → Fin 128 → ℝ) (r c : ℕ) : ℝ :=
  if c ≤ r then ∑ d, q r d * E (G g (r + 1) d - G g (c + 1) d) * (1 - E (g c d)) else 0

/-- Token `r`'s output in a block of `m` tokens: its query against the decayed state at the block's start, and against
    the block's tokens up to itself. -/
theorem out_closed (q g v : ℕ → Fin 128 → ℝ) (S0 : Fin 128 → Fin 128 → ℝ) (m r : ℕ) (hr : r < m) (e : Fin 128) :
    out q g v S0 r e = ∑ d, q r d * E (G g (r + 1) d) * S0 d e + ∑ c ∈ Finset.range m, score q g r c * v c e := by
  have h1 : ∑ c ∈ Finset.range m, score q g r c * v c e = ∑ c ∈ Finset.range (r + 1), score q g r c * v c e := by
    symm
    apply Finset.sum_subset (Finset.range_subset_range.2 hr)
    intro c _ hc
    have : ¬ c ≤ r := fun h => hc (Finset.mem_range.2 (Nat.lt_succ_of_le h))
    simp [score, this]
  have h2 : ∀ c ∈ Finset.range (r + 1), score q g r c * v c e
      = ∑ d, q r d * (E (G g (r + 1) d - G g (c + 1) d) * (1 - E (g c d)) * v c e) := fun c hc => by
    have : c ≤ r := Nat.lt_succ_iff.1 (Finset.mem_range.1 hc)
    simp only [score, this, if_true, Finset.sum_mul]
    exact Finset.sum_congr rfl fun d _ => by ring
  rw [h1, Finset.sum_congr rfl h2, Finset.sum_comm, ← Finset.sum_add_distrib]
  unfold out
  refine Finset.sum_congr rfl fun d _ => ?_
  rw [state_closed, mul_add, Finset.mul_sum, mul_assoc]

/-- The running sum within the block of `2 ^ l` tokens that holds token `r`, up to and including it. -/
def pre (g : ℕ → Fin 128 → ℝ) (l r : ℕ) (d : Fin 128) : ℝ := G g (r + 1) d - G g (2 ^ l * (r / 2 ^ l)) d

theorem pre_zero (g : ℕ → Fin 128 → ℝ) (r : ℕ) (d : Fin 128) : pre g 0 r d = g r d := by
  simp [pre, G_succ]

/-- The last token of the lower half of the block of `2 ^ (l + 1)` tokens that holds token `r`. -/
def midRow (l r : ℕ) : ℕ := 2 ^ (l + 1) * (r / 2 ^ (l + 1)) + (2 ^ l - 1)

theorem half_lower (l r : ℕ) (h : r / 2 ^ l % 2 = 0) : 2 ^ l * (r / 2 ^ l) = 2 ^ (l + 1) * (r / 2 ^ (l + 1)) := by
  rw [pow_succ, ← Nat.div_div_eq_div_mul, mul_assoc]
  congr 1
  omega

theorem half_upper (l r : ℕ) (h : r / 2 ^ l % 2 = 1) :
    2 ^ l * (r / 2 ^ l) = 2 ^ (l + 1) * (r / 2 ^ (l + 1)) + 2 ^ l := by
  rw [pow_succ, ← Nat.div_div_eq_div_mul, mul_assoc, ← Nat.mul_succ]
  congr 1
  omega

/-- At the middle token the running sum is the whole lower half's. -/
theorem pre_mid (g : ℕ → Fin 128 → ℝ) (l r : ℕ) (d : Fin 128) :
    pre g l (midRow l r) d = G g (2 ^ (l + 1) * (r / 2 ^ (l + 1)) + 2 ^ l) d - G g (2 ^ (l + 1) * (r / 2 ^ (l + 1))) d := by
  have hp : 0 < 2 ^ l := Nat.two_pow_pos l
  have h1 : midRow l r + 1 = 2 ^ (l + 1) * (r / 2 ^ (l + 1)) + 2 ^ l := by unfold midRow; omega
  have h2 : midRow l r / 2 ^ l = 2 * (r / 2 ^ (l + 1)) := by
    unfold midRow
    rw [pow_succ, mul_assoc, Nat.mul_add_div hp, Nat.div_eq_of_lt (a := 2 ^ l - 1) (by omega), add_zero]
  unfold pre
  rw [h1, h2, ← mul_assoc, ← pow_succ]

theorem pre_succ_upper (g : ℕ → Fin 128 → ℝ) (l r : ℕ) (d : Fin 128) (h : r / 2 ^ l % 2 = 1) :
    pre g l r d + pre g l (midRow l r) d = pre g (l + 1) r d := by
  rw [pre_mid]; unfold pre; rw [half_upper l r h]; ring

theorem pre_succ_lower (g : ℕ → Fin 128 → ℝ) (l r : ℕ) (d : Fin 128) (h : r / 2 ^ l % 2 = 0) :
    pre g l r d = pre g (l + 1) r d := by
  unfold pre; rw [half_lower l r h]

/-- Two tokens of one block, the later in its upper half and the earlier in its lower half: the two factors that the
    level gives them multiply to the forgets between them. -/
theorem level_pair (g : ℕ → Fin 128 → ℝ) (l r c : ℕ) (d : Fin 128) (hb : r / 2 ^ (l + 1) = c / 2 ^ (l + 1))
    (hr : r / 2 ^ l % 2 = 1) (hc : c / 2 ^ l % 2 = 0) :
    E (pre g l r d) * E (pre g l (midRow l c) d - pre g l c d) = E (G g (r + 1) d - G g (c + 1) d) := by
  rw [← E_add, pre_mid]; unfold pre; rw [half_upper l r hr, half_lower l c hc, hb]; congr 1; ring

/-- After seven levels the running sum starts at the first of 128 tokens. -/
theorem pre_seven (g : ℕ → Fin 128 → ℝ) (r : ℕ) (d : Fin 128) (h : r < 128) : pre g 7 r d = G g (r + 1) d := by
  unfold pre
  rw [show r / 2 ^ 7 = 0 from Nat.div_eq_of_lt h]
  simp [G]

end Cert.Hgrn

end
-- ==== Proof.Spec.lean ====
/-
  What the layer's recurrence makes of its inputs, per head and sequence, in real arithmetic up to the final norm: the
  specification that the kernel's and the reference's results are both shown to equal.
-/
module

public import proofs.«01_k».proof.Proof.Recurrence
public import Idealize.ShloMosaic.PureOps.Ideal
public import Idealize.ShloMosaic.Lib.Pointwise

@[expose] public section

noncomputable section

namespace Cert.Hgrn

open Idealize.ShloMosaic

/-- The norm of a row, its gain and gate. -/
def normed (o : Fin 128 → EReal) (gain gate : EReal) (e : Fin 128) : EReal :=
  o e * FloatOps.rsqrt (F := Ideal) (φ := .f32)
    (Ideal.div (∑ j, o j * o j) (Ideal.ofBits .f32 0x43000000#32) + Ideal.ofBits .f32 0x358637BD#32) * gain * gate

/-- The projected inputs: forty planes (eight heads of queries, of log forgets, of values, of gates, and eight that this part
    does not read) of a row per token, the four sequences one after the other. -/
abbrev Planes := (⟨3, ![40, 32768, 128]⟩ : Shape).Idx → EReal
abbrev Gains := (⟨3, ![8, 1, 128]⟩ : Shape).Idx → EReal
/-- The state at the start, each head's transposed. -/
abbrev Start := (⟨4, ![1, 8, 128, 128]⟩ : Shape).Idx → EReal

def plane (o : ℕ) (ho : o ≤ 24) (h : Fin 8) : Fin 40 := ⟨o + h.val, by have := h.isLt; omega⟩
/-- The row of token `t` of sequence `b`. -/
def tok (b : Fin 4) (t : Fin 8192) : Fin 32768 := ⟨b.val * 8192 + t.val, by have := b.isLt; have := t.isLt; omega⟩

/-- Plane `o + h`'s rows of sequence `b`, as reals; 0 past its end. -/
def seqOf (z : Planes) (o : ℕ) (ho : o ≤ 24) (h : Fin 8) (b : Fin 4) (t : ℕ) (d : Fin 128) : ℝ :=
  if ht : t < 8192 then (z (ix3 (plane o ho h) (tok b ⟨t, ht⟩) d)).toReal else 0

def startOf (s0 : Start) (h : Fin 8) (d e : Fin 128) : ℝ := (s0 (ix4 0 h e d)).toReal

/-- The numbers of the planes that the recurrence reads, and of the start, are real. -/
structure Finite (z : Planes) (s0 : Start) : Prop where
  planes : ∀ (o : Fin 40) (r : Fin 32768) (d : Fin 128), o.val < 24 → ∃ x : ℝ, z (ix3 o r d) = x
  start : ∀ (h : Fin 8) (e d : Fin 128), ∃ x : ℝ, s0 (ix4 0 h e d) = x

theorem Finite.seq {z : Planes} {s0 : Start} (hf : Finite z s0) (o : ℕ) (ho : o ≤ 16) (h : Fin 8) (b : Fin 4) (t : Fin 8192)
    (d : Fin 128) : z (ix3 (plane o (by omega) h) (tok b t) d) = ((seqOf z o (by omega) h b t d : ℝ) : EReal) := by
  obtain ⟨x, hx⟩ := hf.planes (plane o (by omega) h) (tok b t) d (by have := h.isLt; simp only [plane]; omega)
  rw [seqOf, dif_pos t.isLt, hx, EReal.toReal_coe]

theorem Finite.startAt {z : Planes} {s0 : Start} (hf : Finite z s0) (h : Fin 8) (d e : Fin 128) :
    s0 (ix4 0 h e d) = ((startOf s0 h d e : ℝ) : EReal) := by
  obtain ⟨x, hx⟩ := hf.start h e d
  rw [startOf, hx, EReal.toReal_coe]

/-- The state of head `h` of sequence `b` after `n` tokens. -/
def stateAt (z : Planes) (s0 : Start) (h : Fin 8) (b : Fin 4) : ℕ → Fin 128 → Fin 128 → ℝ :=
  state (seqOf z 8 (by omega) h b) (seqOf z 16 (by omega) h b) (startOf s0 h)

/-- Token `t`'s output before the norm. -/
def outAt (z : Planes) (s0 : Start) (h : Fin 8) (b : Fin 4) : ℕ → Fin 128 → ℝ :=
  out (seqOf z 0 (by omega) h b) (seqOf z 8 (by omega) h b) (seqOf z 16 (by omega) h b) (startOf s0 h)

/-- Token `t`'s output. -/
def result (z : Planes) (gain : Gains) (s0 : Start) (h : Fin 8) (b : Fin 4) (t : Fin 8192) (e : Fin 128) : EReal :=
  normed (fun j => ((outAt z s0 h b t j : ℝ) : EReal)) (gain (ix3 h 0 e)) (z (ix3 (plane 24 (by omega) h) (tok b t) e)) e

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Hgrn

end
-- ==== Proof.ChunkReal.lean ====
/-
  The kernel's step over a chunk, read at the ideal instance on real inputs: its levels' running sums, scores, output rows
  and next state are the recurrence's (`Recurrence.lean`).
-/
module

public import proofs.«01_k».proof.Proof.Masks
public import proofs.«01_k».proof.Proof.Spec
public import Idealize.ShloMosaic.Lib.Pointwise

@[expose] public section

noncomputable section

namespace Cert.KernelIdeal.Chunk

open Idealize.ShloMosaic Cert.KernelIdeal Cert.KernelIdeal.Gen

/-- The block's entries are the reals `X`. -/
def Reals (x : Mat Ideal) (X : ℕ → Fin 128 → ℝ) : Prop := ∀ r d : Fin 128, x (ix2 r d) = ((X r d : ℝ) : EReal)

theorem exp2_real (r : ℝ) : (FloatOps.exp2 (F := Ideal) (φ := .f32) (r : EReal) : EReal) = ((Hgrn.E r : ℝ) : EReal) := rfl

/-! ### The middle rows -/

theorem reals_at {x : Mat Ideal} {X : ℕ → Fin 128 → ℝ} (h : Reals x X) {n m : ℕ} (hn : n < 128) (e : n = m) (d : Fin 128) :
    x (ix2 ⟨n, hn⟩ d) = ((X m d : ℝ) : EReal) := by
  subst e; exact h ⟨n, hn⟩ d

section Mids

variable {x : Mat Ideal} {X : ℕ → Fin 128 → ℝ} (h : Reals x X)
include h

theorem mid1_real : Reals (mid1 x) fun r => X (Hgrn.midRow 0 r) := by
  intro r d
  pointwise [mid1, from8, row8, split8]
  have h6 := from8_at ⟨r.val % 8, by omega⟩ 6
  have h4 := from8_at ⟨r.val % 8, by omega⟩ 4
  have h2 := from8_at ⟨r.val % 8, by omega⟩ 2
  simp only [show ((6 : Fin 8) : ℕ) = 6 from rfl, show ((4 : Fin 8) : ℕ) = 4 from rfl, show ((2 : Fin 8) : ℕ) = 2 from rfl] at h6 h4 h2
  rw [h6, h4, h2]
  unfold Hgrn.midRow
  split_ifs <;> simp only [select_one, select_zero] <;> refine reals_at h _ ?_ d <;> simp only [Nat.reduceAdd, Nat.reducePow] <;> omega

theorem mid2_real : Reals (mid2 x) fun r => X (Hgrn.midRow 1 r) := by
  intro r d
  pointwise [mid2, from8, row8, split8]
  have h4 := from8_at ⟨r.val % 8, by omega⟩ 4
  simp only [show ((4 : Fin 8) : ℕ) = 4 from rfl] at h4
  rw [h4]
  unfold Hgrn.midRow
  split_ifs <;> simp only [select_one, select_zero] <;> refine reals_at h _ ?_ d <;> simp only [Nat.reduceAdd, Nat.reducePow] <;> omega

theorem mid3_real : Reals (mid3 x) fun r => X (Hgrn.midRow 2 r) := by
  intro r d
  pointwise [mid3, row8, split8]
  refine reals_at h _ ?_ d
  unfold Hgrn.midRow; simp only [Nat.reduceAdd, Nat.reducePow]; omega

theorem mid4_real : Reals (mid4 x) fun r => X (Hgrn.midRow 3 r) := by
  intro r d
  pointwise [mid4]
  refine reals_at h _ ?_ d
  unfold Hgrn.midRow; simp only [Nat.reduceAdd, Nat.reducePow]; omega

theorem mid5_real : Reals (mid5 x) fun r => X (Hgrn.midRow 4 r) := by
  intro r d
  pointwise [mid5]
  refine reals_at h _ ?_ d
  unfold Hgrn.midRow; simp only [Nat.reduceAdd, Nat.reducePow]; omega

theorem mid6_real : Reals (mid6 x) fun r => X (Hgrn.midRow 5 r) := by
  intro r d
  pointwise [mid6]
  refine reals_at h _ ?_ d
  unfold Hgrn.midRow; simp only [Nat.reduceAdd, Nat.reducePow]; omega

theorem mid7_real : Reals (mid7 x) fun r => X (Hgrn.midRow 6 r) := by
  intro r d
  pointwise [mid7]
  refine (congrArg x ?_).trans (reals_at h (n := 63) (by omega) ?_ d)
  · rfl
  · unfold Hgrn.midRow; simp only [Nat.reduceAdd, Nat.reducePow]; omega

end Mids

/-! ### The running sums -/

theorem next_real (l : Fin 7) {p m : Mat Ideal} {g : ℕ → Fin 128 → ℝ} (hp : Reals p (Hgrn.pre g l))
    (hm : Reals m fun r => Hgrn.pre g l (Hgrn.midRow l r)) :
    Reals (next (up (BitVec.ofNat 32 (2 ^ l.val))) m p) (Hgrn.pre g (l + 1)) := by
  intro r d
  pointwise [next]
  rw [up_at]
  split_ifs with hu
  · simp only [select_one]
    rw [hp, hm, ← EReal.coe_add, Hgrn.pre_succ_upper g _ _ _ hu]
  · simp only [select_zero]
    rw [hp, Hgrn.pre_succ_lower g _ _ _ (by omega)]

section Pres

variable {g : Mat Ideal} {G : ℕ → Fin 128 → ℝ} (h : Reals g G)
include h

theorem pre0_real : Reals g (Hgrn.pre G 0) := fun r d => by rw [Hgrn.pre_zero]; exact h r d
theorem pre1_real : Reals (pre1 g) (Hgrn.pre G 1) := next_real 0 (pre0_real h) (mid1_real (pre0_real h))
theorem pre2_real : Reals (pre2 g) (Hgrn.pre G 2) := next_real 1 (pre1_real h) (mid2_real (pre1_real h))
theorem pre3_real : Reals (pre3 g) (Hgrn.pre G 3) := next_real 2 (pre2_real h) (mid3_real (pre2_real h))
theorem pre4_real : Reals (pre4 g) (Hgrn.pre G 4) := next_real 3 (pre3_real h) (mid4_real (pre3_real h))
theorem pre5_real : Reals (pre5 g) (Hgrn.pre G 5) := next_real 4 (pre4_real h) (mid5_real (pre4_real h))
theorem pre6_real : Reals (pre6 g) (Hgrn.pre G 6) := next_real 5 (pre5_real h) (mid6_real (pre5_real h))

theorem cum_real : Reals (cum g) fun r => Hgrn.G G (r + 1) := by
  intro r d
  exact (next_real 6 (pre6_real h) (mid7_real (pre6_real h)) r d).trans (by show _ = ((Hgrn.G G (r + 1) d : ℝ) : EReal); rw [← Hgrn.pre_seven G r d r.isLt]; rfl)

theorem key_real : Reals (key g) fun r d => 1 - Hgrn.E (G r d) := by
  intro r d
  pointwise [key]
  rw [h, exp2_real, ← EReal.coe_one, ← EReal.coe_sub]

end Pres

/-! ### The scores -/

/-- The scores of the pairs within the blocks of `2 ^ n` tokens. -/
def Scored (n : ℕ) (acc : Mat Ideal) (q g : ℕ → Fin 128 → ℝ) : Prop :=
  ∀ r c : Fin 128, acc (ix2 r c)
    = (((if c.val ≤ r.val ∧ r.val / 2 ^ n = c.val / 2 ^ n then Hgrn.score q g r c else 0 : ℝ)) : EReal)

theorem diag_real {q k : Mat Ideal} {Q g : ℕ → Fin 128 → ℝ} (hq : Reals q Q) (hk : Reals k fun r d => 1 - Hgrn.E (g r d)) :
    Scored 0 (diag q k) Q g := by
  intro r c
  pointwise [diag]
  by_cases hrc : r = c
  · subst hrc
    rw [select_eq ((own_diag r r).2 rfl)]
    simp only [hq r, hk r, ← EReal.coe_mul, ← Hgrn.coe_sum, Hgrn.score, le_refl, true_and, if_true, sub_self, Hgrn.E_zero, mul_one]
  · rw [select_ne (fun h => hrc ((own_diag r c).1 h)), if_neg (fun h => hrc (Fin.ext (by simpa using h.2))), EReal.coe_zero]

/-- The scaled row of a token. -/
theorem scaled_real (l : Fin 7) {q k p m : Mat Ideal} {Q K g : ℕ → Fin 128 → ℝ} (hq : Reals q Q) (hk : Reals k K)
    (hp : Reals p (Hgrn.pre g l)) (hm : Reals m fun r => Hgrn.pre g l (Hgrn.midRow l r)) :
    Reals (mulf (select (up (BitVec.ofNat 32 (2 ^ l.val))) q k)
        (exp2 (select (up (BitVec.ofNat 32 (2 ^ l.val))) p (subf m p))))
      fun r d => if r / 2 ^ l.val % 2 = 1 then Q r d * Hgrn.E (Hgrn.pre g l r d)
        else K r d * Hgrn.E (Hgrn.pre g l (Hgrn.midRow l r) d - Hgrn.pre g l r d) := by
  intro r d
  pointwise
  rw [up_at]
  split_ifs with hu
  · simp only [select_one]
    rw [hq, hp, exp2_real, ← EReal.coe_mul]
  · simp only [select_zero]
    rw [hk, hp, hm, ← EReal.coe_sub, exp2_real, ← EReal.coe_mul]

theorem level_real (l : Fin 7) {q k p m acc : Mat Ideal} {Q g : ℕ → Fin 128 → ℝ} (hq : Reals q Q)
    (hk : Reals k fun r d => 1 - Hgrn.E (g r d)) (hp : Reals p (Hgrn.pre g l))
    (hm : Reals m fun r => Hgrn.pre g l (Hgrn.midRow l r)) (ha : Scored l acc Q g) :
    Scored (l + 1) (level (BitVec.ofNat 32 (l.val + 1)) (up (BitVec.ofNat 32 (2 ^ l.val))) q k m p acc) Q g := by
  intro r c
  have hs := scaled_real l hq hk hp hm
  pointwise [level]
  by_cases ho : own (ix2 r c) = BitVec.ofNat 32 (l.val + 1)
  · rw [select_eq ho]
    obtain ⟨h1, h2, h3, h4⟩ := (own_level l r c).1 ho
    have : ∀ x : Mat Ideal, gram x (ix2 r c) = ∑ d : Fin 128, x (ix2 r d) * x (ix2 c d) := fun x => by pointwise [gram]
    rw [if_pos ⟨h1, h2⟩]
    refine (this _).trans ?_
    simp only [hs r, hs c, if_pos h3, h4, zero_ne_one, if_false, ← EReal.coe_mul, ← Hgrn.coe_sum, Hgrn.score, if_pos h1]
    congr 1
    refine Finset.sum_congr rfl fun d _ => ?_
    rw [← Hgrn.level_pair g l r c d h2 h3 h4]
    ring
  · rw [select_ne ho, ha]
    have : (c.val ≤ r.val ∧ r.val / 2 ^ l.val = c.val / 2 ^ l.val)
        ↔ (c.val ≤ r.val ∧ r.val / 2 ^ (l.val + 1) = c.val / 2 ^ (l.val + 1)) := by
      have hn := mt (own_level l r c).2 ho
      rw [pow_succ, ← Nat.div_div_eq_div_mul, ← Nat.div_div_eq_div_mul] at hn ⊢
      have hle : c.val ≤ r.val → c.val / 2 ^ l.val ≤ r.val / 2 ^ l.val := fun h => Nat.div_le_div_right h
      generalize c.val / 2 ^ l.val = a at hn hle ⊢
      generalize r.val / 2 ^ l.val = b at hn hle ⊢
      omega
    simp only [this]

section Chunks

variable {q g v st : Mat Ideal} {Q G V : ℕ → Fin 128 → ℝ} {S : Fin 128 → Fin 128 → ℝ}

theorem scores_real (hq : Reals q Q) (hg : Reals g G) (r c : Fin 128) :
    scores q g (ix2 r c) = ((Hgrn.score Q G r c : ℝ) : EReal) := by
  have hk := key_real hg
  have s1 : Scored 1 (sc1 q g) Q G := level_real 0 hq hk (pre0_real hg) (mid1_real (pre0_real hg)) (diag_real hq hk)
  have s2 : Scored 2 (sc2 q g) Q G := level_real 1 hq hk (pre1_real hg) (mid2_real (pre1_real hg)) s1
  have s3 : Scored 3 (sc3 q g) Q G := level_real 2 hq hk (pre2_real hg) (mid3_real (pre2_real hg)) s2
  have s4 : Scored 4 (sc4 q g) Q G := level_real 3 hq hk (pre3_real hg) (mid4_real (pre3_real hg)) s3
  have s5 : Scored 5 (sc5 q g) Q G := level_real 4 hq hk (pre4_real hg) (mid5_real (pre4_real hg)) s4
  have s6 : Scored 6 (sc6 q g) Q G := level_real 5 hq hk (pre5_real hg) (mid6_real (pre5_real hg)) s5
  have s7 : Scored 7 (scores q g) Q G := level_real 6 hq hk (pre6_real hg) (mid7_real (pre6_real hg)) s6
  rw [s7 r c]
  congr 1
  by_cases h : c.val ≤ r.val
  · rw [if_pos ⟨h, by rw [show r.val / 2 ^ 7 = 0 from Nat.div_eq_of_lt r.isLt, show c.val / 2 ^ 7 = 0 from Nat.div_eq_of_lt c.isLt]⟩]
  · simp [Hgrn.score, h]

/-- The state's block is transposed: rows are the value's features. -/
def StateReals (st : Mat Ideal) (S : Fin 128 → Fin 128 → ℝ) : Prop := ∀ e d : Fin 128, st (ix2 e d) = ((S d e : ℝ) : EReal)

theorem outRows_real (hq : Reals q Q) (hg : Reals g G) (hv : Reals v V) (hs : StateReals st S) :
    Reals (outRows q g v st) (Hgrn.out Q G V S) := by
  intro r e
  pointwise [outRows]
  simp only [hq r, cum_real hg r, hs e, scores_real hq hg r, hv _ e, exp2_real, ← EReal.coe_mul, ← Hgrn.coe_sum, ← EReal.coe_add]
  rw [Hgrn.out_closed Q G V S 128 r r.isLt e, Finset.sum_range]

theorem nextState_real (hg : Reals g G) (hv : Reals v V) (hs : StateReals st S) :
    StateReals (nextState g v st) (Hgrn.state G V S 128) := by
  intro e d
  pointwise [nextState, lastRow]
  simp only [hs e, cum_real hg _ d, hv _ e, key_real hg _ d, exp2_real, ← EReal.coe_mul, ← EReal.coe_sub, ← Hgrn.coe_sum, ← EReal.coe_add]
  rw [Hgrn.state_closed G V S d e 128, Finset.sum_range, mul_comm (S d e)]
  congr 2
  exact Finset.sum_congr rfl fun c _ => by
    show _ = Hgrn.E (Hgrn.G G 128 d - Hgrn.G G (c + 1) d) * (1 - Hgrn.E (G c d)) * V c e
    rw [mul_comm (V c e), mul_comm (1 - _)]; rfl

end Chunks

end Cert.KernelIdeal.Chunk

end
-- ==== Proof.TileReal.lean ====
/-
  A tile of 2048 tokens at the ideal instance on real inputs: its sixteen chunks make the recurrence's state and output rows,
  normed.
-/
module

public import proofs.«01_k».proof.Proof.Tile
public import proofs.«01_k».proof.Proof.ChunkReal
public import Idealize.ShloMosaic.Lib.Pipeline.ValueKit.Tiles

@[expose] public section

noncomputable section

namespace Cert.KernelIdeal.Tile

open Idealize.ShloMosaic Cert.KernelIdeal Cert.KernelIdeal.Gen Cert.KernelIdeal.Chunk

/-- The tile's entries are the reals `X`. -/
def Reals (x : Vec Ideal S1x2048x128 .f32) (X : ℕ → Fin 128 → ℝ) : Prop :=
  ∀ (r : Fin 2048) (d : Fin 128), (x (ix3 0 r d) : EReal) = ((X r d : ℝ) : EReal)

theorem rows_at (x : Vec Ideal S1x2048x128 .f32) (n : ℕ) (hn : n < 16) (r d : Fin 128) :
    (mat (rows x n) (ix2 r d) : EReal) = x (ix3 0 ⟨128 * n + r.val, by have := r.isLt; omega⟩ d) := by
  pointwise [mat, rows]
  congr 2
  exact Fin.ext (by show 128 * (n % 16) + r.val = 128 * n + r.val; omega)

theorem rows_real {x : Vec Ideal S1x2048x128 .f32} {X : ℕ → Fin 128 → ℝ} (h : Reals x X) (n : ℕ) (hn : n < 16) :
    Chunk.Reals (mat (rows x n)) (Hgrn.after (128 * n) X) := fun r d => (rows_at x n hn r d).trans (h _ d)

theorem stored_at (g : FVec Ideal S1x128 .f32) (o gate : Mat Ideal) (r e : Fin 128) :
    (stored g o gate (ix3 0 r e) : EReal) = Hgrn.normed (fun j => o (ix2 r j)) (g (ix2 0 e)) (gate (ix2 r e)) e := by
  pointwise [stored, Hgrn.normed]

section Tiles

variable {q g v gate : Vec Ideal S1x2048x128 .f32} {gain : Vec Ideal S1x1x128 .f32} {st : Mat Ideal}
  {Q G V : ℕ → Fin 128 → ℝ} {S : Fin 128 → Fin 128 → ℝ}

theorem states_real (hg : Reals g G) (hv : Reals v V) (hs : StateReals st S) :
    ∀ n, n ≤ 16 → StateReals (states g v st n) (Hgrn.state G V S (128 * n))
  | 0, _ => hs
  | n + 1, h => by
    have := nextState_real (rows_real hg n h) (rows_real hv n h) (states_real hg hv hs n (by omega))
    rw [Hgrn.state_after] at this
    exact this

theorem storedAt_real (hq : Reals q Q) (hg : Reals g G) (hv : Reals v V) (hs : StateReals st S) (n : ℕ) (hn : n < 16) (r e : Fin 128) :
    (storedAt q g v gate gain st n (ix3 0 r e) : EReal) = Hgrn.normed (fun j => ((Hgrn.out Q G V S (128 * n + r) j : ℝ) : EReal))
      (gain (ix3 0 0 e)) (gate (ix3 0 ⟨128 * n + r.val, by have := r.isLt; omega⟩ e)) e := by
  have ho := outRows_real (rows_real hq n hn) (rows_real hg n hn) (rows_real hv n hn) (states_real hg hv hs n (by omega))
  unfold storedAt
  rw [stored_at, rows_at gate n hn]
  simp only [ho r]
  have : ∀ j, Hgrn.out (Hgrn.after (128 * n) Q) (Hgrn.after (128 * n) G) (Hgrn.after (128 * n) V) (Hgrn.state G V S (128 * n)) r.val j
      = Hgrn.out Q G V S (128 * n + r) j := fun j => by rw [Hgrn.out_after]
  simp only [this]
  congr 1
  pointwise

theorem tile_real (hq : Reals q Q) (hg : Reals g G) (hv : Reals v V) (hs : StateReals st S) (r : Fin 2048) (e : Fin 128) :
    (tile q g v gate gain st (ix3 0 r e) : EReal) = Hgrn.normed (fun j => ((Hgrn.out Q G V S r j : ℝ) : EReal))
      (gain (ix3 0 0 e)) (gate (ix3 0 r e)) e := by
  have hr := r.isLt
  have hn : r.val / 128 < 16 := by omega
  have hd : ∀ k k' : Fin 16, k ≠ k' →
      Disjoint (Rect.unit (s := S1x2048x128) ![0, 128 * ((15 - k.val) % 16), 0] S1x128x128.size (inb (15 - k.val))).set
        (Rect.unit (s := S1x2048x128) ![0, 128 * ((15 - k'.val) % 16), 0] S1x128x128.size (inb (15 - k'.val))).set := by
    intro k k' hk
    rw [Finset.disjoint_left]
    intro i h1 h2
    rw [Rect.mem_set_unit] at h1 h2
    have a1 : 128 * ((15 - k.val) % 16) ≤ (i 1).val ∧ (i 1).val < 128 * ((15 - k.val) % 16) + 128 := h1 1
    have a2 : 128 * ((15 - k'.val) % 16) ≤ (i 1).val ∧ (i 1).val < 128 * ((15 - k'.val) % 16) + 128 := h2 1
    have := k.isLt; have := k'.isLt
    exact hk (Fin.ext (by omega))
  have hc := View.canon_ofFn_emb_of_disjoint (Val := Elt Ideal) (e := .bf16)
    (fun k : Fin 16 => Rect.unit (s := S1x2048x128) ![0, 128 * ((15 - k.val) % 16), 0] S1x128x128.size (inb (15 - k.val)))
    (fun k => storedAt q g v gate gain st (15 - k.val)) hd ⟨15 - r.val / 128, by omega⟩
    (ix3 0 (⟨r.val % 128, Nat.mod_lt _ (by norm_num)⟩ : Fin 128) e)
  have hk : 15 - (15 - r.val / 128) = r.val / 128 := by omega
  have he : (Rect.unit (s := S1x2048x128) ![0, 128 * ((15 - (15 - r.val / 128)) % 16), 0] S1x128x128.size
      (inb (15 - (15 - r.val / 128)))).emb (ix3 0 (⟨r.val % 128, Nat.mod_lt _ (by norm_num)⟩ : Fin 128) e) = ix3 0 r e := by
    funext a
    apply Fin.ext
    rw [Rect.emb_apply]
    match a with
    | ⟨0, _⟩ => rfl
    | ⟨1, _⟩ => show 128 * ((15 - (15 - r.val / 128)) % 16) + 1 * (r.val % 128) = r.val; omega
    | ⟨2, _⟩ => show 0 + 1 * e.val = e.val; omega
  have hs' := storedAt_real (gate := gate) (gain := gain) hq hg hv hs (r.val / 128) hn ⟨r.val % 128, Nat.mod_lt _ (by norm_num)⟩ e
  have hr' : 128 * (r.val / 128) + r.val % 128 = r.val := by omega
  simp only [hr'] at hs'
  rw [← hs', tile, ← he]
  refine hc.trans ?_
  simp only [hk]

end Tiles

end Cert.KernelIdeal.Tile

end
-- ==== Proof.KernelValue.lean ====
/-
  The kernel's results at the ideal instance, entry by entry. Grid point `t` works on tile `t % 4` of head `t / 4 % 8` of
  sequence `t / 32`; along a sequence's four tiles the scratch buffer carries the state.
-/
module

public import proofs.«01_k».proof.Proof.TileReal
public import proofs.«01_k».proof.Proof.Spec

@[expose] public section

noncomputable section

namespace Cert.KernelIdeal.Result

open Idealize.ShloMosaic Idealize.ShloMosaic.TcCoe Cert.KernelIdeal Cert.KernelIdeal.Gen Cert.KernelIdeal.Chunk Cert.KernelIdeal.Tile

variable (m : (ℓ : Loc nD τ sig) → Buf (Elt Ideal) ℓ) (c : Dev nD)

abbrev planes : Hgrn.Planes := m ((c : Thread nD τ).loc main_arg0)
abbrev gains : Hgrn.Gains := m ((c : Thread nD τ).loc main_arg1)
abbrev start : Hgrn.Start := m ((c : Thread nD τ).loc main_arg2)

theorem lt_N (t : Fin cfg0.N) : t.val < 128 := lt_of_lt_of_eq t.isLt (show cfg0.N = 128 from N_0)

/-- The sequence, the head and the first token of a grid point's tile. -/
def sq (t : Fin cfg0.N) : Fin 4 := ⟨t.val / 32, by have := lt_N t; omega⟩
def hd (t : Fin cfg0.N) : Fin 8 := ⟨t.val / 4 % 8, by omega⟩
def first (t : Fin cfg0.N) : ℕ := 2048 * (t.val % 4)
def tokenOf (t : Fin cfg0.N) (r : Fin 2048) : Fin 8192 := ⟨first t + r.val, by have := r.isLt; unfold first; omega⟩

theorem index0 : ∀ t : Fin cfg0.N, win0_0.index t 0 = t.val / 4 % 8 ∧ win0_0.index t 1 = t.val / 32 * 4 + t.val % 4 ∧ win0_0.index t 2 = 0 :=
  (by decide +kernel : ∀ t : Fin grid0.N, _)
theorem index1 : ∀ t : Fin cfg0.N, win0_1.index t 0 = 8 + t.val / 4 % 8 ∧ win0_1.index t 1 = t.val / 32 * 4 + t.val % 4 ∧ win0_1.index t 2 = 0 :=
  (by decide +kernel : ∀ t : Fin grid0.N, _)
theorem index2 : ∀ t : Fin cfg0.N, win0_2.index t 0 = 16 + t.val / 4 % 8 ∧ win0_2.index t 1 = t.val / 32 * 4 + t.val % 4 ∧ win0_2.index t 2 = 0 :=
  (by decide +kernel : ∀ t : Fin grid0.N, _)
theorem index3 : ∀ t : Fin cfg0.N, win0_3.index t 0 = 24 + t.val / 4 % 8 ∧ win0_3.index t 1 = t.val / 32 * 4 + t.val % 4 ∧ win0_3.index t 2 = 0 :=
  (by decide +kernel : ∀ t : Fin grid0.N, _)
theorem index4 : ∀ t : Fin cfg0.N, win0_4.index t 0 = t.val / 4 % 8 ∧ win0_4.index t 1 = 0 ∧ win0_4.index t 2 = 0 :=
  (by decide +kernel : ∀ t : Fin grid0.N, _)
theorem index5 : ∀ t : Fin cfg0.N, win0_5.index t 0 = 0 ∧ win0_5.index t 1 = t.val / 4 % 8 ∧ win0_5.index t 2 = 0 ∧ win0_5.index t 3 = 0 :=
  (by decide +kernel : ∀ t : Fin grid0.N, _)
theorem index6 : ∀ t : Fin cfg0.N, win0_6.index t 0 = t.val / 4 % 8 ∧ win0_6.index t 1 = t.val / 32 * 4 + t.val % 4 ∧ win0_6.index t 2 = 0 :=
  (by decide +kernel : ∀ t : Fin grid0.N, _)
theorem index7 : ∀ t : Fin cfg0.N, win0_7.index t 0 = t.val / 32 ∧ win0_7.index t 1 = t.val / 4 % 8 ∧ win0_7.index t 2 = 0 ∧ win0_7.index t 3 = 0 :=
  (by decide +kernel : ∀ t : Fin grid0.N, _)

/-- A block of the planes, read at an index. -/
theorem planes_read {w0 w1 w2 : ℕ} (t : Fin cfg0.N) (o : ℕ) (ho : o ≤ 24) (h0 : w0 = o + t.val / 4 % 8) (h1 : w1 = t.val / 32 * 4 + t.val % 4)
    (h2 : w2 = 0) (r : Fin 2048) (d : Fin 128) (x : S40x32768x128.Idx) (x0 : (x 0).val = w0 * 1 + 1 * 0)
    (x1 : (x 1).val = w1 * 2048 + 1 * r.val) (x2 : (x 2).val = w2 * 128 + 1 * d.val) :
    x = ix3 (Hgrn.plane o ho (hd t)) (Hgrn.tok (sq t) (tokenOf t r)) d := by
  funext a
  apply Fin.ext
  match a with
  | ⟨0, _⟩ => show (x 0).val = o + t.val / 4 % 8; omega
  | ⟨1, _⟩ => show (x 1).val = t.val / 32 * 8192 + (2048 * (t.val % 4) + r.val); omega
  | ⟨2, _⟩ => show (x 2).val = d.val; omega

theorem block0 (t : Fin cfg0.N) (r : Fin 2048) (d : Fin 128) :
    (iblk m c 0 t (ix3 0 r d) : EReal) = planes m c (ix3 (Hgrn.plane 0 (by omega) (hd t)) (Hgrn.tok (sq t) (tokenOf t r)) d) := by
  obtain ⟨h0, h1, h2⟩ := index0 t
  exact congrArg (planes m c) (planes_read t 0 (by omega) (h0.trans (Nat.zero_add _).symm) h1 h2 r d _ rfl rfl rfl)
theorem block1 (t : Fin cfg0.N) (r : Fin 2048) (d : Fin 128) :
    (iblk m c 1 t (ix3 0 r d) : EReal) = planes m c (ix3 (Hgrn.plane 8 (by omega) (hd t)) (Hgrn.tok (sq t) (tokenOf t r)) d) := by
  obtain ⟨h0, h1, h2⟩ := index1 t
  exact congrArg (planes m c) (planes_read t 8 (by omega) h0 h1 h2 r d _ rfl rfl rfl)
theorem block2 (t : Fin cfg0.N) (r : Fin 2048) (d : Fin 128) :
    (iblk m c 2 t (ix3 0 r d) : EReal) = planes m c (ix3 (Hgrn.plane 16 (by omega) (hd t)) (Hgrn.tok (sq t) (tokenOf t r)) d) := by
  obtain ⟨h0, h1, h2⟩ := index2 t
  exact congrArg (planes m c) (planes_read t 16 (by omega) h0 h1 h2 r d _ rfl rfl rfl)
theorem block3 (t : Fin cfg0.N) (r : Fin 2048) (d : Fin 128) :
    (iblk m c 3 t (ix3 0 r d) : EReal) = planes m c (ix3 (Hgrn.plane 24 (by omega) (hd t)) (Hgrn.tok (sq t) (tokenOf t r)) d) := by
  obtain ⟨h0, h1, h2⟩ := index3 t
  exact congrArg (planes m c) (planes_read t 24 (by omega) h0 h1 h2 r d _ rfl rfl rfl)

theorem block4 (t : Fin cfg0.N) (e : Fin 128) : (iblk m c 4 t (ix3 0 0 e) : EReal) = gains m c (ix3 (hd t) 0 e) := by
  obtain ⟨h0, h1, h2⟩ := index4 t
  refine congrArg (gains m c) (funext fun a => Fin.ext ?_)
  match a with
  | ⟨0, _⟩ => show win0_4.index t 0 * 1 + 1 * 0 = t.val / 4 % 8; omega
  | ⟨1, _⟩ => show win0_4.index t 1 * 1 + 1 * 0 = 0; omega
  | ⟨2, _⟩ => show win0_4.index t 2 * 128 + 1 * e.val = e.val; omega

theorem block5 (t : Fin cfg0.N) (e d : Fin 128) : (iblk m c 5 t (ix4 0 0 e d) : EReal) = start m c (ix4 0 (hd t) e d) := by
  obtain ⟨h0, h1, h2, h3⟩ := index5 t
  refine congrArg (start m c) (funext fun a => Fin.ext ?_)
  match a with
  | ⟨0, _⟩ => show win0_5.index t 0 * 1 + 1 * 0 = 0; omega
  | ⟨1, _⟩ => show win0_5.index t 1 * 1 + 1 * 0 = t.val / 4 % 8; omega
  | ⟨2, _⟩ => show win0_5.index t 2 * 128 + 1 * e.val = e.val; omega
  | ⟨3, _⟩ => show win0_5.index t 3 * 128 + 1 * d.val = d.val; omega

variable {m c} (hf : Hgrn.Finite (planes m c) (start m c))
include hf

/-- The tile's queries, log forgets and values are the sequence's, from the tile's first token on. -/
theorem reals0 (t : Fin cfg0.N) : Tile.Reals (iblk m c 0 t) (Hgrn.after (first t) (Hgrn.seqOf (planes m c) 0 (by omega) (hd t) (sq t))) :=
  fun r d => (block0 m c t r d).trans (hf.seq 0 (by omega) (hd t) (sq t) (tokenOf t r) d)
theorem reals1 (t : Fin cfg0.N) : Tile.Reals (iblk m c 1 t) (Hgrn.after (first t) (Hgrn.seqOf (planes m c) 8 (by omega) (hd t) (sq t))) :=
  fun r d => (block1 m c t r d).trans (hf.seq 8 (by omega) (hd t) (sq t) (tokenOf t r) d)
theorem reals2 (t : Fin cfg0.N) : Tile.Reals (iblk m c 2 t) (Hgrn.after (first t) (Hgrn.seqOf (planes m c) 16 (by omega) (hd t) (sq t))) :=
  fun r d => (block2 m c t r d).trans (hf.seq 16 (by omega) (hd t) (sq t) (tokenOf t r) d)

theorem start_real (t : Fin cfg0.N) : StateReals (mat (fromWindow (iblk m c 5 t))) (Hgrn.startOf (start m c) (hd t)) := by
  intro e d
  rw [← hf.startAt, ← block5 m c t e d]
  pointwise [mat, fromWindow]

omit hf in
theorem mat_cast (x : Mat Ideal) : mat (shapeCast S1x128x128 x shapeCasts_S128x128_S1x128x128) = x := by
  funext i
  idx_vars i
  pointwise [mat]

/-- The tile's states from a state that is the recurrence's at its first token. -/
theorem states_at (t : Fin cfg0.N) {st : Mat Ideal}
    (hs : StateReals st (Hgrn.stateAt (planes m c) (start m c) (hd t) (sq t) (first t))) :
    StateReals (states (iblk m c 1 t) (iblk m c 2 t) st 16) (Hgrn.stateAt (planes m c) (start m c) (hd t) (sq t) (first t + 2048)) := by
  have := states_real (reals1 hf t) (reals2 hf t) hs 16 (le_refl _)
  rw [Hgrn.stateAt, Hgrn.state_after] at this
  exact this

theorem tile_at (t : Fin cfg0.N) {st : Mat Ideal}
    (hs : StateReals st (Hgrn.stateAt (planes m c) (start m c) (hd t) (sq t) (first t))) (r : Fin 2048) (e : Fin 128) :
    (tile (iblk m c 0 t) (iblk m c 1 t) (iblk m c 2 t) (iblk m c 3 t) (iblk m c 4 t) st (ix3 0 r e) : EReal)
      = Hgrn.result (planes m c) (gains m c) (start m c) (hd t) (sq t) (tokenOf t r) e := by
  have := tile_real (gate := iblk m c 3 t) (gain := iblk m c 4 t) (reals0 hf t) (reals1 hf t) (reals2 hf t) hs r e
  rw [this, Hgrn.stateAt, Hgrn.out_after, block3 m c t r e, block4 m c t e]
  rfl

/-- What a point leaves when the state it starts from is the recurrence's. -/
structure Leaves (t : Fin cfg0.N) : Prop where
  out : ∀ (r : Fin 2048) (e : Fin 128), ((outsAt0 m c t.val t.isLt).1 (ix3 0 r e) : EReal)
    = Hgrn.result (planes m c) (gains m c) (start m c) (hd t) (sq t) (tokenOf t r) e
  carry : StateReals (mat (outsAt0 m c t.val t.isLt).2.2) (Hgrn.stateAt (planes m c) (start m c) (hd t) (sq t) (first t + 2048))
  last : t.val % 4 = 3 → ∀ e d : Fin 128, ((outsAt0 m c t.val t.isLt).2.1 (ix4 0 0 e d) : EReal)
    = ((Hgrn.stateAt (planes m c) (start m c) (hd t) (sq t) (first t + 2048) d e : ℝ) : EReal)

theorem leaves_A (t : Fin cfg0.N) (h0 : t.val % 4 = 0) : Leaves (m := m) (c := c) t := by
  have h1 : ¬t.val % 4 = 3 := by omega
  have hz : first t = 0 := by unfold first; omega
  have hs : StateReals (mat (fromWindow (iblk m c 5 t))) (Hgrn.stateAt (planes m c) (start m c) (hd t) (sq t) (first t)) := by
    rw [hz]; exact start_real hf t
  refine ⟨fun r e => ?_, ?_, fun h => absurd h h1⟩
  · rw [outsAt0_A m c t h0 h1]
    dsimp only
    rw [out6_A]
    exact tile_at hf t hs r e
  · rw [outsAt0_A m c t h0 h1]
    dsimp only
    rw [sout_A, mat_cast]
    exact states_at hf t hs

theorem carried_at (t : Fin cfg0.N) (h0 : ¬t.val % 4 = 0)
    (ih : Leaves (m := m) (c := c) ⟨t.val - 1, Nat.lt_of_le_of_lt (Nat.sub_le _ _) t.isLt⟩) :
    StateReals (mat (outsAt0 m c (t.val - 1) (Nat.lt_of_le_of_lt (Nat.sub_le _ _) t.isLt)).2.2)
      (Hgrn.stateAt (planes m c) (start m c) (hd t) (sq t) (first t)) := by
  have h := ih.carry
  have e1 : hd ⟨t.val - 1, Nat.lt_of_le_of_lt (Nat.sub_le _ _) t.isLt⟩ = hd t := Fin.ext (by simp only [hd]; omega)
  have e2 : sq ⟨t.val - 1, Nat.lt_of_le_of_lt (Nat.sub_le _ _) t.isLt⟩ = sq t := Fin.ext (by simp only [sq]; omega)
  have e3 : first ⟨t.val - 1, Nat.lt_of_le_of_lt (Nat.sub_le _ _) t.isLt⟩ + 2048 = first t := by simp only [first]; omega
  rw [e1, e2, e3] at h
  exact h

theorem leaves_B (t : Fin cfg0.N) (h0 : ¬t.val % 4 = 0) (h1 : ¬t.val % 4 = 3)
    (ih : Leaves (m := m) (c := c) ⟨t.val - 1, Nat.lt_of_le_of_lt (Nat.sub_le _ _) t.isLt⟩) : Leaves (m := m) (c := c) t := by
  have hs := carried_at hf t h0 ih
  refine ⟨fun r e => ?_, ?_, fun h => absurd h h1⟩
  · rw [outsAt0_B m c t h0 h1]
    dsimp only
    rw [out6_B]
    exact tile_at hf t hs r e
  · rw [outsAt0_B m c t h0 h1]
    dsimp only
    rw [sout_B, mat_cast]
    exact states_at hf t hs

theorem leaves_C (t : Fin cfg0.N) (h0 : ¬t.val % 4 = 0) (h1 : t.val % 4 = 3)
    (ih : Leaves (m := m) (c := c) ⟨t.val - 1, Nat.lt_of_le_of_lt (Nat.sub_le _ _) t.isLt⟩) : Leaves (m := m) (c := c) t := by
  have hs := carried_at hf t h0 ih
  refine ⟨fun r e => ?_, ?_, fun _ e d => ?_⟩
  · rw [outsAt0_C m c t h0 h1]
    dsimp only
    rw [out6_C]
    exact tile_at hf t hs r e
  · rw [outsAt0_C m c t h0 h1]
    dsimp only
    rw [sout_C, mat_cast]
    exact states_at hf t hs
  · rw [outsAt0_C m c t h0 h1]
    dsimp only
    rw [out7_C, ← states_at hf t hs e d]
    pointwise

theorem leaves : ∀ (n : ℕ) (hn : n < cfg0.N), Leaves (m := m) (c := c) ⟨n, hn⟩
  | 0, hn => leaves_A hf ⟨0, hn⟩ (Nat.zero_mod _)
  | n + 1, hn => by
    by_cases h0 : (n + 1) % 4 = 0
    · exact leaves_A hf ⟨n + 1, hn⟩ h0
    · by_cases h1 : (n + 1) % 4 = 3
      · exact leaves_C hf ⟨n + 1, hn⟩ h0 h1 (leaves n _)
      · exact leaves_B hf ⟨n + 1, hn⟩ h0 h1 (leaves n _)

/-- The kernel's first result at every index. -/
theorem result0 (h : Fin 8) (b : Fin 4) (s : Fin 8192) (e : Fin 128) :
    ((dats m 0 c).arrAt 6 cfg0.N : S8x32768x128.Idx → EReal) (ix3 h (Hgrn.tok b s) e)
      = Hgrn.result (planes m c) (gains m c) (start m c) h b s e := by
  have hs := s.isLt
  let t : Fin cfg0.N := ⟨b.val * 32 + h.val * 4 + s.val / 2048, by
    have : cfg0.N = 128 := N_0
    have := b.isLt; have := h.isLt; omega⟩
  have htv : t.val = b.val * 32 + h.val * 4 + s.val / 2048 := rfl
  let r : Fin 2048 := ⟨s.val % 2048, Nat.mod_lt _ (by norm_num)⟩
  have hrv : r.val = s.val % 2048 := rfl
  have hh := h.isLt
  have e1 : hd t = h := Fin.ext (by simp only [hd]; omega)
  have e2 : sq t = b := Fin.ext (by simp only [sq]; omega)
  have e3 : tokenOf t r = s := Fin.ext (by simp only [tokenOf, first]; omega)
  obtain ⟨h0, h1, h2⟩ := index6 t
  have hb := congrFun ((Value.blocks6 m c t (flush0_6 t)).trans (Value.flushed6 m c t)) (ix3 0 r e)
  have ho := (leaves hf t.val t.isLt).out r e
  rw [e1, e2, e3] at ho
  rw [← ho]
  refine Eq.trans (congrArg ((dats m 0 c).arrAt 6 cfg0.N : S8x32768x128.Idx → EReal) (funext fun a => Fin.ext ?_)) hb
  match a with
  | ⟨0, _⟩ => show h.val = win0_6.index t 0 * 1 + 1 * 0; omega
  | ⟨1, _⟩ => show b.val * 8192 + s.val = win0_6.index t 1 * 2048 + 1 * r.val; omega
  | ⟨2, _⟩ => show e.val = win0_6.index t 2 * 128 + 1 * e.val; omega

/-- The kernel's second result: each head's state after a sequence's last token, transposed. -/
theorem result1 (b : Fin 4) (h : Fin 8) (e d : Fin 128) :
    ((dats m 0 c).arrAt 7 cfg0.N : S4x8x128x128.Idx → EReal) (ix4 b h e d)
      = ((Hgrn.stateAt (planes m c) (start m c) h b 8192 d e : ℝ) : EReal) := by
  have hfin : (dats m 0 c).arrAt 7 cfg0.N = (fun i : S4x8x128x128.Idx =>
      ((Hgrn.stateAt (planes m c) (start m c) (i 1) (i 0) 8192 (i 3) (i 2) : ℝ) : EReal)) := by
    refine (dats m 0 c).arrAt_eq_of_cover 7 _ (fun t ht => ?_) fun i => ?_
    · have ht3 := (flush0_7 t).mp ht
      obtain ⟨h0, h1, h2, h3⟩ := index7 t
      rw [Value.flushed7]
      funext j
      have hj : j = ix4 0 0 (j 2) (j 3) := by
        funext a
        match a with
        | ⟨0, _⟩ => exact Subsingleton.elim (α := Fin 1) _ _
        | ⟨1, _⟩ => exact Subsingleton.elim (α := Fin 1) _ _
        | ⟨2, _⟩ => rfl
        | ⟨3, _⟩ => rfl
      have hl := (leaves hf t.val t.isLt).last ht3 (j 2) (j 3)
      have hn : first t + 2048 = 8192 := by unfold first; omega
      rw [hn] at hl
      refine (congrArg (outsAt0 m c t.val t.isLt).2.1 hj).trans (hl.trans ?_)
      have e0 : (sq t : Fin 4) = ((cfg0.win 7).blk t).view.emb j 0 :=
        Fin.ext (by show t.val / 32 = win0_7.index t 0 * 1 + 1 * (j 0).val; have : (j 0).val < 1 := (j 0).isLt; omega)
      have e1 : (hd t : Fin 8) = ((cfg0.win 7).blk t).view.emb j 1 :=
        Fin.ext (by show t.val / 4 % 8 = win0_7.index t 1 * 1 + 1 * (j 1).val; have : (j 1).val < 1 := (j 1).isLt; omega)
      have e2 : (j 2 : Fin 128) = ((cfg0.win 7).blk t).view.emb j 2 :=
        Fin.ext (by show (j 2).val = win0_7.index t 2 * 128 + 1 * (j 2).val; omega)
      have e3 : (j 3 : Fin 128) = ((cfg0.win 7).blk t).view.emb j 3 :=
        Fin.ext (by show (j 3).val = win0_7.index t 3 * 128 + 1 * (j 3).val; omega)
      rw [View.read_apply]
      show _ = ((Hgrn.stateAt (planes m c) (start m c) (((cfg0.win 7).blk t).view.emb j 1) (((cfg0.win 7).blk t).view.emb j 0) 8192
        (((cfg0.win 7).blk t).view.emb j 3) (((cfg0.win 7).blk t).view.emb j 2) : ℝ) : EReal)
      rw [← e0, ← e1, ← e2, ← e3]
    · have i0 : (i 0).val < 4 := (i 0).isLt
      have i1 : (i 1).val < 8 := (i 1).isLt
      have i2 : (i 2).val < 128 := (i 2).isLt
      have i3 : (i 3).val < 128 := (i 3).isLt
      let t : Fin cfg0.N := ⟨(i 0).val * 32 + (i 1).val * 4 + 3, by have : cfg0.N = 128 := N_0; omega⟩
      have htv : t.val = (i 0).val * 32 + (i 1).val * 4 + 3 := rfl
      obtain ⟨h0, h1, h2, h3⟩ := index7 t
      refine ⟨t, (flush0_7 t).mpr (by omega), ?_⟩
      show i ∈ ((View.whole main_v0_1).slice (win0_7.rect t)).set
      rw [View.set_slice_whole, Rect.mem_set_unit]
      intro a
      match a with
      | ⟨0, _⟩ => show win0_7.index t 0 * 1 ≤ (i 0).val ∧ (i 0).val < win0_7.index t 0 * 1 + 1; omega
      | ⟨1, _⟩ => show win0_7.index t 1 * 1 ≤ (i 1).val ∧ (i 1).val < win0_7.index t 1 * 1 + 1; omega
      | ⟨2, _⟩ => show win0_7.index t 2 * 128 ≤ (i 2).val ∧ (i 2).val < win0_7.index t 2 * 128 + 128; omega
      | ⟨3, _⟩ => show win0_7.index t 3 * 128 ≤ (i 3).val ∧ (i 3).val < win0_7.index t 3 * 128 + 128; omega
  rw [hfin]
  rfl

end Cert.KernelIdeal.Result

end
-- ==== Proof.RefStep.lean ====
/-
  One step of the reference's scan at an index, at the ideal instance: token `k`'s slices of the scanned arrays, the state and
  the output row that it makes, and the arrays that the scan starts from.
-/
module

public import proofs.«01_k».proof.Proof.Gen.ReferenceIdeal.Run
public import proofs.«01_k».proof.Proof.Spec
public import Idealize.ShloMosaic.Lib.Pointwise

@[expose] public section

set_option maxRecDepth 8192

noncomputable section

namespace Cert.ReferenceIdeal.Step

open Idealize.ShloMosaic Idealize.ShloMosaic.TcCoe
open Cert.ReferenceIdeal Cert.ReferenceIdeal.Gen Cert.ReferenceIdeal.Value

/-- An array of one row per token, head and sequence. -/
abbrev Seq := S8192x8x4x128.Idx → EReal
abbrev State := S8x4x128x128.Idx → EReal

/-- Where token `k`'s slice starts. -/
def start (k : ℕ) : Fin 4 → Int := fun a =>
  (((![fun _ => BitVec.ofNat 32 k, constantI S_ 32 0#32, constantI S_ 32 0#32, constantI S_ 32 0#32] :
    Fin 4 → (⟨S_, .i32⟩ : BufTy).Contents (Elt Ideal))) a (Shape.Idx.first h_S_)).toInt

theorem start_zero (k : ℕ) (hk : k < 8192) : start k 0 = k := by
  show (BitVec.ofNat 32 k).toInt = k
  rw [BitVec.toInt_eq_toNat_of_lt] <;> simp only [BitVec.toNat_ofNat] <;> omega

theorem clamp (k : ℕ) (hk : k < 8192) (ht : S1x8x4x128.rank = S8192x8x4x128.rank) (a : Fin 4) :
    Host.clampedStart S8192x8x4x128 S1x8x4x128 ht (start k) a = (![k, 0, 0, 0] : Fin 4 → ℕ) a := by
  match a with
  | ⟨0, _⟩ => exact Host.clampedStart_of_le ht _ 0 k (start_zero k hk) (by show k + 1 ≤ 8192; omega)
  | ⟨1, _⟩ => exact Host.clampedStart_of_le ht _ 1 0 rfl (Nat.le_of_eq (Nat.zero_add _))
  | ⟨2, _⟩ => exact Host.clampedStart_of_le ht _ 2 0 rfl (Nat.le_of_eq (Nat.zero_add _))
  | ⟨3, _⟩ => exact Host.clampedStart_of_le ht _ 3 0 rfl (Nat.le_of_eq (Nat.zero_add _))

/-- Token `k`'s slice of a scanned array. -/
def token (k : ℕ) (x : Seq) : S8x4x128.Idx → EReal :=
  shapeCast S8x4x128 (Host.dynamicSlice S1x8x4x128 x (start k) sliceFits_S8192x8x4x128_S1x8x4x128)
    shapeCasts_S1x8x4x128_S8x4x128

theorem token_at (k : ℕ) (hk : k < 8192) (x : Seq) (h : Fin 8) (b : Fin 4) (d : Fin 128) :
    token k x (ix3 h b d) = x (ix4 ⟨k, hk⟩ h b d) := by
  pointwise [token]
  congr 1
  have c0 := clamp k hk rfl
  congr 1 <;> apply Fin.ext <;> simp [c0]

theorem put_at (k : ℕ) (hk : k < 8192) (x : Seq) (u : S8x4x128.Idx → EReal) (t : Fin 8192) (h : Fin 8) (b : Fin 4) (d : Fin 128) :
    (Host.dynamicUpdateSlice x (broadcastInDim S1x8x4x128 ![1, 2, 3] bcast_S8x4x128_S1x8x4x128_1_2_3 u) (start k)
      updateFits_S8192x8x4x128_S1x8x4x128 : Seq) (ix4 t h b d) = if t.val = k then u (ix3 h b d) else x (ix4 t h b d) := by
  pointwise
  have c0 := fun a => clamp k hk rfl a
  simp only [c0]
  by_cases ht : t.val = k
  · rw [dif_pos ⟨⟨by simp [ht], by simp [ht]⟩, by simp, by simp, by simp⟩, if_pos ht]
    rfl
  · rw [dif_neg (fun h => ht (by have := h.1; simp at this; omega)), if_neg ht]

/-- The scan's slices at a counter that holds `k`. -/
theorem token_eq (k : ℕ) (x : Seq) :
    shapeCast S8x4x128 (Host.dynamicSlice S1x8x4x128 x (fun a => (((![fun _ => BitVec.ofNat 32 k, constantI S_ 32 0#32,
      constantI S_ 32 0#32, constantI S_ 32 0#32] : Fin 4 → (⟨S_, .i32⟩ : BufTy).Contents (Elt Ideal))) a
        (Shape.Idx.first h_S_)).toInt) sliceFits_S8192x8x4x128_S1x8x4x128) shapeCasts_S1x8x4x128_S8x4x128 = token k x := rfl

/-- A token's forget. -/
def forget (x : EReal) : EReal := FloatOps.hostPowf (F := Ideal) (φ := .f32) (Ideal.ofBits .f32 0x40000000#32) x

/-- The state after token `k`. -/
def newState (k : ℕ) (hk : k < 8192) (g v : Seq) (s : State) (h : Fin 8) (b : Fin 4) (d e : Fin 128) : EReal :=
  forget (g (ix4 ⟨k, hk⟩ h b d)) * s (ix4 h b d e) + (1 - forget (g (ix4 ⟨k, hk⟩ h b d))) * v (ix4 ⟨k, hk⟩ h b e)

/-- Token `k`'s output row from the state after it. -/
def newRow (k : ℕ) (hk : k < 8192) (q : Seq) (s : Fin 8 → Fin 4 → Fin 128 → Fin 128 → EReal) (h : Fin 8) (b : Fin 4)
    (e : Fin 128) : EReal := ∑ d : Fin 128, q (ix4 ⟨k, hk⟩ h b d) * s h b d e

section Trip

variable (V : Valuation τ sig (Elt Ideal)) (k : ℕ) (hk : k < 8192)
  (hc : V (Proc.devRef .tc main_v16_5) = fun _ => BitVec.ofNat 32 k)
  (q g v gate out : Seq) (gain : S8x1x128.Idx → EReal) (s : State)
  (hq : V (Proc.devRef .tc main_v16_0) = q) (hg : V (Proc.devRef .tc main_v16_1) = g)
  (hv : V (Proc.devRef .tc main_v16_2) = v) (hgate : V (Proc.devRef .tc main_v16_3) = gate)
  (hgain : V (Proc.devRef .tc main_v16_4) = gain) (hs : V (Proc.devRef .tc main_v16_6) = s)
  (hout : V (Proc.devRef .tc main_v16_7) = out)

include hc hg hv hs in
theorem state_at (h : Fin 8) (b : Fin 4) (d e : Fin 128) :
    (res_main_while0b_v37 V : State) (ix4 h b d e) = newState k hk g v s h b d e := by
  unfold res_main_while0b_v37 res_main_while0b_v26
  rw [hc, hg, hv, hs]
  erw [token_eq k g, token_eq k v]
  pointwise [newState, forget]
  simp only [token_at k hk]

include hc hq hg hv hs in
theorem row_at (h : Fin 8) (b : Fin 4) (e : Fin 128) :
    (res_main_while0b_v41 V : S8x4x128.Idx → EReal) (ix3 h b e) = newRow k hk q (newState k hk g v s) h b e := by
  have hst := state_at V k hk hc g v s hg hv hs
  unfold res_main_while0b_v41
  generalize res_main_while0b_v37 V = w at hst ⊢
  rw [hc, hq]
  erw [token_eq k q]
  pointwise [newRow]
  simp only [token_at k hk, hst]

include hc hq hg hv hs hgate hgain hout in
theorem out_at (t : Fin 8192) (h : Fin 8) (b : Fin 4) (e : Fin 128) :
    (step_main_v16_7 V : Seq) (ix4 t h b e) = if t.val = k then
      Hgrn.normed (newRow k hk q (newState k hk g v s) h b) (gain (ix3 h 0 e)) (gate (ix4 ⟨k, hk⟩ h b e)) e
      else out (ix4 t h b e) := by
  have hrow := row_at V k hk hc q g v s hq hg hv hs
  unfold step_main_v16_7
  generalize res_main_while0b_v41 V = w at hrow ⊢
  rw [hc, hgate, hgain, hout]
  erw [token_eq k gate]
  refine (put_at k hk _ _ t h b e).trans ?_
  split_ifs with ht
  · pointwise [Hgrn.normed]
    simp only [token_at k hk, hrow]
  · rfl

end Trip

section Entry

open Idealize.ShloMosaic.StableHlo

variable (m : (ℓ : Loc nD τ sig) → Buf (Elt Ideal) ℓ) (c : Dev nD)

/-- The rows of the projected inputs, and the state at the start. -/
def rowsOf : S40x32768x128.Idx → EReal := m ((c.tc : Thread nD τ).loc main_arg0)
def gainOf : S8x1x128.Idx → EReal := m ((c.tc : Thread nD τ).loc main_arg1)
def stateOf : S1x8x128x128.Idx → EReal := m ((c.tc : Thread nD τ).loc main_arg2)

/-- What the scan reads at token `t`: the queries (`o` 0), log forgets (8), values (16) and gates (24). -/
def scanned (o : ℕ) (ho : o ≤ 24) : Seq := fun j =>
  rowsOf m c (ix3 (Hgrn.plane o ho (j 1)) (Hgrn.tok (j 2) (j 0)) (j 3))

theorem entry_0 : entryContents preI m c (Proc.devRef .tc main_v16_0) = scanned m c 0 (by omega) := by
  simp only [entryContents, afterL_cons, afterL_nil]
  after_reads_simp
  funext (j : S8192x8x4x128.Idx)
  idx_vars j
  simp only [id]
  pointwise [scanned]
  exact congrArg (fun a : Fin 40 => rowsOf m c (ix3 a (Hgrn.tok j2 j0) j3)) (Fin.ext (Nat.zero_add _).symm)

theorem entry_1 : entryContents preI m c (Proc.devRef .tc main_v16_1) = scanned m c 8 (by omega) := by
  simp only [entryContents, afterL_cons, afterL_nil]
  after_reads_simp
  funext (j : S8192x8x4x128.Idx)
  idx_vars j
  simp only [id]
  pointwise [scanned]
  rfl

theorem entry_2 : entryContents preI m c (Proc.devRef .tc main_v16_2) = scanned m c 16 (by omega) := by
  simp only [entryContents, afterL_cons, afterL_nil]
  after_reads_simp
  funext (j : S8192x8x4x128.Idx)
  idx_vars j
  simp only [id]
  pointwise [scanned]
  rfl

theorem entry_3 : entryContents preI m c (Proc.devRef .tc main_v16_3) = scanned m c 24 (by omega) := by
  simp only [entryContents, afterL_cons, afterL_nil]
  after_reads_simp
  funext (j : S8192x8x4x128.Idx)
  idx_vars j
  simp only [id]
  pointwise [scanned]
  rfl

theorem entry_4 : entryContents preI m c (Proc.devRef .tc main_v16_4) = gainOf m c := by
  simp only [entryContents, afterL_cons, afterL_nil]
  after_reads_simp
  rfl

theorem entry_6 (h : Fin 8) (b : Fin 4) (d e : Fin 128) :
    (entryContents preI m c (Proc.devRef .tc main_v16_6) : State) (ix4 h b d e) = stateOf m c (ix4 0 h e d) := by
  simp only [entryContents, afterL_cons, afterL_nil]
  after_reads_simp
  simp only [id]
  pointwise
  rfl

end Entry

end Cert.ReferenceIdeal.Step

end
-- ==== Proof.RefValue.lean ====
/-
  The reference's two results, on finite inputs: its scan holds the recurrence's state, and has stored the output rows of
  the tokens behind it.
-/
module

public import proofs.«01_k».proof.Proof.RefStep

@[expose] public section

noncomputable section

namespace Cert.ReferenceIdeal.Step

open Idealize.ShloMosaic Idealize.ShloMosaic.TcCoe Idealize.ShloMosaic.StableHlo
open Cert.ReferenceIdeal Cert.ReferenceIdeal.Gen Cert.ReferenceIdeal.Value

theorem ofBits_two : Ideal.ofBits .f32 0x40000000#32 = ((2 : ℝ) : EReal) := by
  simp [Ideal.ofBits, Ideal.ieee, -EReal.coe_mul]; norm_num

theorem forget_real (x : ℝ) : forget x = ((Hgrn.E x : ℝ) : EReal) := by
  unfold forget; rw [ofBits_two]; rfl

variable (m : (ℓ : Loc nD τ sig) → Buf (Elt Ideal) ℓ) (c : Dev nD)

/-- The scan before token `k`. -/
structure At (k : ℕ) (V : Valuation τ sig (Elt Ideal)) : Prop where
  q : V (Proc.devRef .tc main_v16_0) = scanned m c 0 (by omega)
  g : V (Proc.devRef .tc main_v16_1) = scanned m c 8 (by omega)
  v : V (Proc.devRef .tc main_v16_2) = scanned m c 16 (by omega)
  gate : V (Proc.devRef .tc main_v16_3) = scanned m c 24 (by omega)
  gain : V (Proc.devRef .tc main_v16_4) = gainOf m c
  counter : V (Proc.devRef .tc main_v16_5) = fun _ => BitVec.ofNat 32 k
  state : ∀ (h : Fin 8) (b : Fin 4) (d e : Fin 128), (V (Proc.devRef .tc main_v16_6) : State) (ix4 h b d e)
    = ((Hgrn.stateAt (rowsOf m c) (stateOf m c) h b k d e : ℝ) : EReal)
  out : ∀ (t : Fin 8192) (h : Fin 8) (b : Fin 4) (e : Fin 128), t.val < k →
    (V (Proc.devRef .tc main_v16_7) : Seq) (ix4 t h b e) = Hgrn.result (rowsOf m c) (gainOf m c) (stateOf m c) h b t e

variable (hf : Hgrn.Finite (rowsOf m c) (stateOf m c))
include hf

theorem at_zero : At m c 0 (entryContents preI m c) where
  q := entry_0 m c
  g := entry_1 m c
  v := entry_2 m c
  gate := entry_3 m c
  gain := entry_4 m c
  counter := ctr_entry m c
  state h b d e := (entry_6 m c h b d e).trans (hf.startAt h d e)
  out _ _ _ _ h := absurd h (Nat.not_lt_zero _)

theorem at_succ (k : ℕ) (hk : k < 8192) (V : Valuation τ sig (Elt Ideal)) (hV : At m c k V) : At m c (k + 1) (STEP V) := by
  have hst : ∀ (h : Fin 8) (b : Fin 4) (d e : Fin 128),
      newState k hk (scanned m c 8 (by omega)) (scanned m c 16 (by omega)) (V (Proc.devRef .tc main_v16_6)) h b d e
        = ((Hgrn.stateAt (rowsOf m c) (stateOf m c) h b (k + 1) d e : ℝ) : EReal) := by
    intro h b d e
    have hg := hf.seq 8 (by omega) h b ⟨k, hk⟩ d
    have hv := hf.seq 16 (by omega) h b ⟨k, hk⟩ e
    have hs := hV.state h b d e
    show forget (rowsOf m c (ix3 _ _ _)) * (V (Proc.devRef .tc main_v16_6) : State) (ix4 h b d e)
      + (1 - forget (rowsOf m c (ix3 _ _ _))) * rowsOf m c (ix3 _ _ _) = _
    rw [hs]
    erw [hg, hv]
    rw [forget_real, ← EReal.coe_one, ← EReal.coe_sub, ← EReal.coe_mul, ← EReal.coe_mul, ← EReal.coe_add]
    rfl
  refine ⟨?_, ?_, ?_, ?_, ?_, ?_, ?_, ?_⟩
  · rw [STEP_main_v16_0, hV.q]
  · rw [STEP_main_v16_1, hV.g]
  · rw [STEP_main_v16_2, hV.v]
  · rw [STEP_main_v16_3, hV.gate]
  · rw [STEP_main_v16_4, hV.gain]
  · rw [STEP_main_v16_5]
    unfold step_main_v16_5
    rw [hV.counter]
    funext _
    show BitVec.ofNat 32 k + 1#32 = _
    rw [BitVec.ofNat_add]
  · intro h b d e
    rw [STEP_main_v16_6]
    exact (state_at V k hk hV.counter _ _ _ hV.g hV.v rfl h b d e).trans (hst h b d e)
  · intro t h b e ht
    rw [STEP_main_v16_7]
    refine (out_at V k hk hV.counter _ _ _ _ _ _ _ hV.q hV.g hV.v hV.gate hV.gain rfl rfl t h b e).trans ?_
    split_ifs with htk
    · have : t = ⟨k, hk⟩ := Fin.ext htk
      subst this
      unfold Hgrn.result
      congr 1
      funext j
      show ∑ d, rowsOf m c (ix3 _ _ _) * newState k hk _ _ _ h b d j = _
      simp only [hst]
      have hq := fun d => hf.seq 0 (by omega) h b ⟨k, hk⟩ d
      rw [Hgrn.outAt, Hgrn.out, Hgrn.coe_sum]
      refine Finset.sum_congr rfl fun d _ => ?_
      rw [EReal.coe_mul]
      exact congrArg (· * _) (hq d)
    · exact hV.out t h b e (by omega)

theorem at_end : ∀ k, k ≤ 8192 → At m c k (STEP^[k] (entryContents preI m c))
  | 0, _ => at_zero m c hf
  | k + 1, h => by
    rw [Function.iterate_succ_apply']
    exact at_succ m c hf k h _ (at_end k (by omega))

theorem result0 (h : Fin 8) (b : Fin 4) (t : Fin 8192) (e : Fin 128) :
    (out_main_v19 (STEP^[8192] (entryContents preI m c)) : S8x32768x128.Idx → EReal) (ix3 h (Hgrn.tok b t) e)
      = Hgrn.result (rowsOf m c) (gainOf m c) (stateOf m c) h b t e := by
  have := (at_end m c hf 8192 le_rfl).out t h b e t.isLt
  unfold out_main_v19
  generalize STEP^[8192] (entryContents preI m c) = V at this ⊢
  pointwise
  refine Eq.trans ?_ this
  have h1 : (⟨(Hgrn.tok b t).val % 8192, Nat.mod_lt _ (by norm_num)⟩ : Fin 8192) = t :=
    Fin.ext (by have := t.isLt; show (b.val * 8192 + t.val) % 8192 = t.val; omega)
  have h2 : (⟨(Hgrn.tok b t).val / 8192, by have := (Hgrn.tok b t).isLt; omega⟩ : Fin 4) = b :=
    Fin.ext (by have := t.isLt; show (b.val * 8192 + t.val) / 8192 = b.val; omega)
  exact congrArg (V (Proc.devRef .tc main_v16_7)) (congrArg₂ (fun x y => (ix4 x h y e : S8192x8x4x128.Idx)) h1 h2)

theorem result1 (b : Fin 4) (h : Fin 8) (e d : Fin 128) :
    (out_main_v20 (STEP^[8192] (entryContents preI m c)) : S4x8x128x128.Idx → EReal) (ix4 b h e d)
      = ((Hgrn.stateAt (rowsOf m c) (stateOf m c) h b 8192 d e : ℝ) : EReal) := by
  have := (at_end m c hf 8192 le_rfl).state h b d e
  unfold out_main_v20
  generalize STEP^[8192] (entryContents preI m c) = V at this ⊢
  pointwise
  exact this

end Cert.ReferenceIdeal.Step

end
-- ==== Proof.Precondition.lean ====
/-
  The precondition, decoded: where the printed check comes out true, the planes that the recurrence reads and the start are
  real numbers.
-/
module

public import proofs.«01_k».proof.Pre_finite
public import proofs.«01_k».proof.Proof.Spec
public import Idealize.ShloMosaic.Lib.ReduceAll
public import Idealize.ShloMosaic.Lib.Pointwise

@[expose] public section

noncomputable section

namespace Cert.Pre_finite.Proof

open Idealize.ShloMosaic Cert.Pre_finite

/-- The check's shape conditions. -/
theorem facts : Facts where
  slices_S40x32768x128_S24x32768x128_0_0_0 := by decide
  bcast_S_S24x32768x128 := by decide
  reducesTo_S24x32768x128_S_d0_1_2 := by decide
  h_S_ := by decide
  bcast_S_S1x8x128x128 := by decide
  reducesTo_S1x8x128x128_S_d0_1_2_3 := by decide

/-- A number whose absolute value is below infinity is real. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | coe r => exact ⟨r, rfl⟩
  | bot => simp [Ideal.cmp] at h
  | top => simp [Ideal.cmp] at h

theorem finite [Facts] (z : Hgrn.Planes) (gain : Hgrn.Gains) (s0 : Hgrn.Start)
    (h : (fn (F := Ideal) z gain s0) = (fun _ => 1#1)) : Hgrn.Finite z s0 := by
  have h := congrFun h (fun a => a.elim0)
  obtain ⟨h1, h2⟩ := IntOp.andi_eq_one.1 h
  have : Subsingleton S_.Idx := ⟨fun a b => funext fun i => i.elim0⟩
  constructor
  · intro o r d ho
    have := Host.reduce_andi_all _ _ _ _ _ h1 (ix3 ⟨o.val, ho⟩ r d)
    obtain ⟨x, hx⟩ := real_of_lt this
    refine ⟨x, Eq.trans (congrArg z (funext fun a => Fin.ext ?_)) hx⟩
    match a with
    | ⟨0, _⟩ => exact (Nat.zero_add _).symm
    | ⟨1, _⟩ => exact (Nat.zero_add _).symm
    | ⟨2, _⟩ => exact (Nat.zero_add _).symm
  · intro h e d
    have := Host.reduce_andi_all _ _ _ _ _ h2 (ix4 0 h e d)
    exact real_of_lt this

end Cert.Pre_finite.Proof

end
-- ==== Proof.MlpRun.lean ====
/-
  The multilayer perceptron's kernel (`cc0_mlp` of `Kernel2Ideal`), one grid point at a time and over any `F`.

  The grid is 64 row tiles by 8 blocks of the hidden width. The kernel copies the 512 rows of each tile into one of
  the two slots of a buffer of its own: the copy of the next tile is started at the second point of a tile and
  waited for at the first point of the next one. Each run below is one case of the body's conditions; what it stores
  is found by the run.
-/
module

public import proofs.«01_k».proof.Proof.Gen.Kernel2Ideal.Frame
public import Idealize.ShloMosaic.Lib.Ring
public import Idealize.ShloMosaic.Lib.Affine
public import Idealize.ShloMosaic.Lib.Tactic

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Names: the rows of a tile, a slot of the buffer, its semaphore -/

/-- The rows left in HBM, the normalised rows, the running sum and the two-slot buffer. -/
abbrev hM : Memref sig .tc .hbm S32768x2048 .f32 := Memref.whole main_v4
abbrev aM : Memref sig .tc .vmem S512x2048 .bf16 := Memref.whole cc0_scratch0
abbrev sM : Memref sig .tc .vmem S512x2048 .f32 := Memref.whole cc0_scratch1
abbrev bufM : Memref sig .tc .vmem S2x512x2048 .f32 := Memref.whole cc0_scratch2

abbrev tileOff (b : Fin 64) : Fin 2 → Nat := ![512 * b.val, 0]
theorem tileOff_inb (b : Fin 64) : ∀ a, tileOff b a + S512x2048.size a ≤ S32768x2048.size a := by
  have := b.isLt; intro a; fin_cases a
  · show 512 * b.val + 512 ≤ 32768; omega
  · show 0 + 2048 ≤ 2048; omega
abbrev slotOff (s : Fin 2) : Fin 3 → Nat := ![s.val, 0, 0]
theorem slotOff_inb (s : Fin 2) : ∀ a, slotOff s a + S1x512x2048.size a ≤ S2x512x2048.size a := by
  have := s.isLt; intro a; fin_cases a
  · show s.val + 1 ≤ 2; omega
  · show 0 + 512 ≤ 512; omega
  · show 0 + 2048 ≤ 2048; omega
abbrev halfOff (s : Fin 2) : Fin 3 → Nat := ![s.val, 256, 0]
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- The 512 rows of tile `b`. -/
def tile (b : Fin 64) : Memref sig .tc .hbm S512x2048 .f32 :=
  hM.slice (Rect.unit (s := S32768x2048) (tileOff b) S512x2048.size (tileOff_inb b)) (fun _ => rfl)
/-- Slot `s` of the buffer. -/
def rslot (s : Fin 2) : Memref sig .tc .vmem S512x2048 .f32 :=
  (bufM.slice (Rect.unit (s := S2x512x2048) (slotOff s) S1x512x2048.size (slotOff_inb s)) (fun _ => rfl)).squeeze S512x2048 squeezes_S1x512x2048_S512x2048
/-- Slot `s`'s semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (s : Fin 2) : ClosedOff (halfOff s) := ⟨halfOff s, rfl⟩
instance (b : Fin 64) : ClosedOff (tileOff b) := ⟨tileOff b, rfl⟩

/-! ## The offsets the body computes from the grid point -/

/-- The grid point at tile `a`, block `b`. -/
abbrev mk (a : Fin 64) (b : Fin 8) : grid0.Coords := fun | 0 => a | 1 => b

section Offsets
variable (i : grid0.Coords)

theorem off1_eq : k0_off1 i = semOff (Ring.sl 2 (i 0).val) :=
  (by decide +kernel : ∀ a : Fin 64, k0_off1 (mk a 0) = semOff (Ring.sl 2 a.val)) (i 0)
theorem off2_eq : k0_off2 i = slotOff (Ring.sl 2 (i 0).val) :=
  (by decide +kernel : ∀ a : Fin 64, k0_off2 (mk a 0) = slotOff (Ring.sl 2 a.val)) (i 0)
theorem off3_eq : k0_off3 i = tileOff (Ring.bk 64 (i 0).val) :=
  (by decide +kernel : ∀ a : Fin 64, k0_off3 (mk a 0) = tileOff (Ring.bk 64 a.val)) (i 0)
theorem off4_eq : k0_off4 i = semOff (Ring.sl 2 (i 0).val) :=
  (by decide +kernel : ∀ a : Fin 64, k0_off4 (mk a 0) = semOff (Ring.sl 2 a.val)) (i 0)
theorem off5_eq : k0_off5 i = slotOff (Ring.sl 2 (i 0).val) :=
  (by decide +kernel : ∀ a : Fin 64, k0_off5 (mk a 0) = slotOff (Ring.sl 2 a.val)) (i 0)
theorem off6_eq : k0_off6 i = tileOff (Ring.bk 64 (i 0).val) :=
  (by decide +kernel : ∀ a : Fin 64, k0_off6 (mk a 0) = tileOff (Ring.bk 64 a.val)) (i 0)
theorem off7_eq : k0_off7 i = slotOff (Ring.sl 2 (i 0).val) :=
  (by decide +kernel : ∀ a : Fin 64, k0_off7 (mk a 0) = slotOff (Ring.sl 2 a.val)) (i 0)
theorem off8_eq : k0_off8 i = halfOff (Ring.sl 2 (i 0).val) :=
  (by decide +kernel : ∀ a : Fin 64, k0_off8 (mk a 0) = halfOff (Ring.sl 2 a.val)) (i 0)
theorem off9_eq : k0_off9 i = semOff (Ring.sl 2 ((i 0).val + 1)) :=
  (by decide +kernel : ∀ a : Fin 64, k0_off9 (mk a 0) = semOff (Ring.sl 2 (a.val + 1))) (i 0)
theorem off10_eq : k0_off10 i = slotOff (Ring.sl 2 ((i 0).val + 1)) :=
  (by decide +kernel : ∀ a : Fin 64, k0_off10 (mk a 0) = slotOff (Ring.sl 2 (a.val + 1))) (i 0)
theorem off11_eq (h : k0_cond3 i = 1#1) : k0_off11 i = tileOff (Ring.bk 64 ((i 0).val + 1)) :=
  (by decide +kernel : ∀ (a : Fin 64) (b : Fin 8), k0_cond3 (mk a b) = 1#1 → k0_off11 (mk a b) = tileOff (Ring.bk 64 (a.val + 1))) (i 0) (i 1) h
theorem off12_eq : k0_off12 i = slotOff (Ring.sl 2 (i 0).val) :=
  (by decide +kernel : ∀ a : Fin 64, k0_off12 (mk a 0) = slotOff (Ring.sl 2 a.val)) (i 0)
theorem off13_eq : k0_off13 i = halfOff (Ring.sl 2 (i 0).val) :=
  (by decide +kernel : ∀ a : Fin 64, k0_off13 (mk a 0) = halfOff (Ring.sl 2 a.val)) (i 0)

instance : ClosedOff (k0_off7 i) := ⟨slotOff (Ring.sl 2 (i 0).val), off7_eq i⟩
instance : ClosedOff (k0_off8 i) := ⟨halfOff (Ring.sl 2 (i 0).val), off8_eq i⟩
instance : ClosedOff (k0_off12 i) := ⟨slotOff (Ring.sl 2 (i 0).val), off12_eq i⟩
instance : ClosedOff (k0_off13 i) := ⟨halfOff (Ring.sl 2 (i 0).val), off13_eq i⟩

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x512x2048) off S1x512x2048.size hh) hs).squeeze S512x2048 squeezes_S1x512x2048_S512x2048 = rslot s :=
  congrArg (fun M : Memref sig .tc .vmem S1x512x2048 .f32 => M.squeeze S512x2048 squeezes_S1x512x2048_S512x2048) (Memref.slice_unit_congr _ e _ _ _ _)
private theorem tile_congr {off : Fin 2 → Nat} {b : Fin 64} (e : off = tileOff b) (hh hs) :
    hM.slice (Rect.unit (s := S32768x2048) off S512x2048.size hh) hs = tile b :=
  Memref.slice_unit_congr _ e _ _ _ (fun _ => rfl)

@[sl_canon] theorem sem1 (hh) : (cc0_scratch3.slice (Rect.unit (s := S2) (k0_off1 i) S1.size hh)).squeeze S_ squeezes_S1_S_ = csm (Ring.sl 2 (i 0).val) := csm_congr (off1_eq i) _
@[sl_canon] theorem sem4 (hh) : (cc0_scratch3.slice (Rect.unit (s := S2) (k0_off4 i) S1.size hh)).squeeze S_ squeezes_S1_S_ = csm (Ring.sl 2 (i 0).val) := csm_congr (off4_eq i) _
@[sl_canon] theorem sem9 (hh) : (cc0_scratch3.slice (Rect.unit (s := S2) (k0_off9 i) S1.size hh)).squeeze S_ squeezes_S1_S_ = csm (Ring.sl 2 ((i 0).val + 1)) := csm_congr (off9_eq i) _
@[sl_canon] theorem slot2 (hh hs) : (bufM.slice (Rect.unit (s := S2x512x2048) (k0_off2 i) S1x512x2048.size hh) hs).squeeze S512x2048 squeezes_S1x512x2048_S512x2048 = rslot (Ring.sl 2 (i 0).val) := rslot_congr (off2_eq i) _ _
@[sl_canon] theorem slot5 (hh hs) : (bufM.slice (Rect.unit (s := S2x512x2048) (k0_off5 i) S1x512x2048.size hh) hs).squeeze S512x2048 squeezes_S1x512x2048_S512x2048 = rslot (Ring.sl 2 (i 0).val) := rslot_congr (off5_eq i) _ _
@[sl_canon] theorem slot10 (hh hs) : (bufM.slice (Rect.unit (s := S2x512x2048) (k0_off10 i) S1x512x2048.size hh) hs).squeeze S512x2048 squeezes_S1x512x2048_S512x2048 = rslot (Ring.sl 2 ((i 0).val + 1)) := rslot_congr (off10_eq i) _ _
@[sl_canon] theorem tile3 (hh hs) : hM.slice (Rect.unit (s := S32768x2048) (k0_off3 i) S512x2048.size hh) hs = tile (Ring.bk 64 (i 0).val) := tile_congr (off3_eq i) _ _
@[sl_canon] theorem tile6 (hh hs) : hM.slice (Rect.unit (s := S32768x2048) (k0_off6 i) S512x2048.size hh) hs = tile (Ring.bk 64 (i 0).val) := tile_congr (off6_eq i) _ _
@[sl_canon] theorem tile11 (h : k0_cond3 i = 1#1) (hh hs) : hM.slice (Rect.unit (s := S32768x2048) (k0_off11 i) S512x2048.size hh) hs = tile (Ring.bk 64 ((i 0).val + 1)) := tile_congr (off11_eq i h) _ _

end Offsets

/-! ## The pieces of the ring -/

section Pieces
variable (c : Dev nD) (H : Buf (Elt F) (hM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Tile `b` at home. -/
abbrev homeP (b : Fin 64) : sProp 𝕄 := (tile b).view.loc (c : Thread nD τ) ↦[(tile b).view.set]{fullShare} H
/-- Tile `b`'s rows, as the copy delivers them. -/
abbrev rows (b : Fin 64) : S512x2048.Idx → Elt F .f32 := ReadAs.same.apply ((tile b).view.read (Elt F) H)
/-- Slot `s` after tile `b` has landed over contents `f`. -/
abbrev landed (s : Fin 2) (b : Fin 64) (f : Buf (Elt F) ((rslot s).view.loc (c : Thread nD τ))) : Buf (Elt F) ((rslot s).view.loc (c : Thread nD τ)) :=
  (rslot s).view.writes (Elt F) f [⟨Rect.whole S512x2048, rows c H b⟩]
/-- Slot `s` with tile `b` on its way into it, over contents `f`. -/
abbrev flightP (N : ℕ) (s : Fin 2) (b : Fin 64) (f : Buf (Elt F) ((rslot s).view.loc (c : Thread nD τ))) : sProp 𝕄 :=
  Transfers.Flight countersEmb (c : Thread nD τ) (SemLoc.dma (csm s).sem) () N iprop(slotP c s (landed c H s b f) ∗ homeP c H b)

end Pieces

/-- The condition of the accumulating branch: neither the first nor the last block. -/
abbrev condM (i : grid0.Coords) : Prop :=
  (Scalar.cmpi .ne (Scalar.extui (Scalar.andi (Scalar.cmpi .sgt (BitVec.ofNat 32 (i 1).val) 0#32) (Scalar.cmpi .slt (BitVec.ofNat 32 (i 1).val) 7#32))) 0#32) = 1#1

variable (c : Dev nD) (H : Buf (Elt F) (hM.view.loc (c : Thread nD τ))) (i : grid0.Coords)
  (arg3 : Memref sig .tc .vmem S1x2048 .f32) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S1x2048 .f32) (harg6 : arg6.IsWhole)
  (arg7 : Memref sig .tc .vmem S512x2048 .f32) (harg7 : arg7.IsWhole)

/-- The body at grid point `i`. -/
abbrev body : Prog (TpuEff nD τ sig (Elt F) Λ₀ .tc) PUnit :=
  cc0_mlp (F := F) i hM (Memref.isWhole_whole _) arg3 harg3 arg4 harg4 arg5 harg5 arg6 harg6 arg7 harg7
    aM (Memref.isWhole_whole _) sM (Memref.isWhole_whole _) bufM (Memref.isWhole_whole _) cc0_scratch3

/-- A middle block with no copy to start: the running sum grows. -/
def runD (h1 : ¬k0_cond1 i = 1#1) (h3 : ¬k0_cond3 i = 1#1) (h4 : condM i) (h5 : ¬k0_cond5 i = 1#1)
    (x1 : Vec F S2048x1024 .bf16) (x2 : Vec F S1024x2048 .bf16) (xa : Vec F S512x2048 .bf16) (xs : Vec F S512x2048 .f32) :
    { L : List (View.Piece (Elt F) S512x2048 .f32) // ∀ (K : PUnit → sProp 𝕄),
      iprop(owns (c : Thread nD τ) arg4 fullShare x1 ∗ owns (c : Thread nD τ) arg5 fullShare x2
          ∗ owns (c : Thread nD τ) aM fullShare xa ∗ owns (c : Thread nD τ) sM fullShare xs
          ∗ (iprop(owns (c : Thread nD τ) arg4 fullShare x1 ∗ owns (c : Thread nD τ) arg5 fullShare x2
              ∗ owns (c : Thread nD τ) aM fullShare xa
              ∗ (∃ f, sM.view.loc (c : Thread nD τ) ↦[sM.view.set]{fullShare} sM.view.writes (Elt F) f L)) -∗ K ⟨⟩))
        ⊢ wp frame (wpE (defs₀ (F := F)) Variants.none c none) Set.univ
            (body i arg3 harg3 arg4 harg4 arg5 harg5 arg6 harg6 arg7 harg7) K } := by
  refine ⟨?_, fun K => ?run⟩
  case run =>
    unfold body cc0_mlp
    unfold owns
    iintro ⟨⟨%f1, %hf1, H1⟩, ⟨%f2, %hf2, H2⟩, ⟨%fa, %hfa, HA⟩, ⟨%fs, %hfs, HS⟩, Hk⟩
    obtain rfl := harg4.eq_unread hf1; obtain rfl := harg5.eq_unread hf2
    obtain rfl := (Memref.isWhole_whole cc0_scratch0).eq_unread hfa
    obtain rfl := (Memref.isWhole_whole cc0_scratch1).eq_unread hfs
    sl_exec (disch := first | sl_exact h1 | sl_exact h3 | sl_exact h4 | sl_exact h5)
    sl_step
    iapply Hk
    isplitl [H1]
    · iexists _; isplitr; · ipureintro; exact harg4.read_unread _
      iexact H1
    isplitl [H2]
    · iexists _; isplitr; · ipureintro; exact harg5.read_unread _
      iexact H2
    isplitl [HA]
    · iexists _; isplitr; · ipureintro; exact (Memref.isWhole_whole cc0_scratch0).read_unread _
      iexact HA
    iexists _; iexact HS

/-- What a middle block stores in the running sum. -/
def midSum (x1 : Vec F S2048x1024 .bf16) (x2 : Vec F S1024x2048 .bf16) (xa : Vec F S512x2048 .bf16) (xs : Vec F S512x2048 .f32) :
    List (View.Piece (Elt F) S512x2048 .f32) :=
  [⟨Rect.unit ![0, 0] S512x2048.size (by decide), runD.sl.v41 c arg4 harg4 arg5 harg5 x1 x2 xa xs⟩]

theorem runD_sum (h1 : ¬k0_cond1 i = 1#1) (h3 : ¬k0_cond3 i = 1#1) (h4 : condM i) (h5 : ¬k0_cond5 i = 1#1)
    (x1 : Vec F S2048x1024 .bf16) (x2 : Vec F S1024x2048 .bf16) (xa : Vec F S512x2048 .bf16) (xs : Vec F S512x2048 .f32) :
    (runD c i arg3 harg3 arg4 harg4 arg5 harg5 arg6 harg6 arg7 harg7 h1 h3 h4 h5 x1 x2 xa xs).1 = midSum c arg4 harg4 arg5 harg5 x1 x2 xa xs := rfl

/-- The second block of a tile with another tile to come: its copy is started and the running sum grows. -/
theorem runC (h1 : ¬k0_cond1 i = 1#1) (h3 : k0_cond3 i = 1#1) (h4 : condM i) (h5 : ¬k0_cond5 i = 1#1)
    (x1 : Vec F S2048x1024 .bf16) (x2 : Vec F S1024x2048 .bf16) (xa : Vec F S512x2048 .bf16) (xs : Vec F S512x2048 .f32) :
    ∀ (K : PUnit → sProp 𝕄),
      iprop(owns (c : Thread nD τ) arg4 fullShare x1 ∗ owns (c : Thread nD τ) arg5 fullShare x2
          ∗ owns (c : Thread nD τ) aM fullShare xa ∗ owns (c : Thread nD τ) sM fullShare xs
          ∗ cellP c (Ring.sl 2 ((i 0).val + 1)) ∗ (∃ f, slotP c (Ring.sl 2 ((i 0).val + 1)) f) ∗ homeP c H (Ring.bk 64 ((i 0).val + 1))
          ∗ (iprop(owns (c : Thread nD τ) arg4 fullShare x1 ∗ owns (c : Thread nD τ) arg5 fullShare x2
              ∗ owns (c : Thread nD τ) aM fullShare xa
              ∗ (∃ f, sM.view.loc (c : Thread nD τ) ↦[sM.view.set]{fullShare} sM.view.writes (Elt F) f (midSum c arg4 harg4 arg5 harg5 x1 x2 xa xs))
              ∗ (∃ f, flightP c H 131072 (Ring.sl 2 ((i 0).val + 1)) (Ring.bk 64 ((i 0).val + 1)) f)) -∗ K ⟨⟩))
        ⊢ wp frame (wpE (defs₀ (F := F)) Variants.none c none) Set.univ
            (body i arg3 harg3 arg4 harg4 arg5 harg5 arg6 harg6 arg7 harg7) K := by
  refine fun K => ?run
  case run =>
    unfold body cc0_mlp
    unfold owns
    iintro ⟨⟨%f1, %hf1, H1⟩, ⟨%f2, %hf2, H2⟩, ⟨%fa, %hfa, HA⟩, ⟨%fs, %hfs, HS⟩, HC, ⟨%fn, HN⟩, HB, Hk⟩
    obtain rfl := harg4.eq_unread hf1; obtain rfl := harg5.eq_unread hf2
    obtain rfl := (Memref.isWhole_whole cc0_scratch0).eq_unread hfa
    obtain rfl := (Memref.isWhole_whole cc0_scratch1).eq_unread hfs
    sl_exec (disch := first | sl_exact h1 | sl_exact h3 | sl_exact h4 | sl_exact h5)
    sl_step
    iapply Hk
    isplitl [H1]
    · iexists _; isplitr; · ipureintro; exact harg4.read_unread _
      iexact H1
    isplitl [H2]
    · iexists _; isplitr; · ipureintro; exact harg5.read_unread _
      iexact H2
    isplitl [HA]
    · iexists _; isplitr; · ipureintro; exact (Memref.isWhole_whole cc0_scratch0).read_unread _
      iexact HA
    isplitl [HS]; · iexists _; iexact HS
    iexists fn; iexact HC

/-- The first block of a tile whose copy is on its way: the copy is waited for, the rows are normalised into their
    buffer and the running sum starts. -/
def runB (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    Σ' (LA : List (View.Piece (Elt F) S512x2048 .bf16)), { L : List (View.Piece (Elt F) S512x2048 .f32) // ∀ (W : Waits sig Unit) (K : PUnit → sProp 𝕄),
      iprop(owns (c : Thread nD τ) arg3 fullShare x0 ∗ owns (c : Thread nD τ) arg4 fullShare x1 ∗ owns (c : Thread nD τ) arg5 fullShare x2
          ∗ (∃ d, owns (c : Thread nD τ) aM fullShare d) ∗ (∃ d, owns (c : Thread nD τ) sM fullShare d)
          ∗ (∃ f, flightP c H 131072 (Ring.sl 2 (i 0).val) (Ring.bk 64 (i 0).val) f)
          ∗ owes (c : Thread nD τ) 0 W
          ∗ (iprop(owns (c : Thread nD τ) arg3 fullShare x0 ∗ owns (c : Thread nD τ) arg4 fullShare x1 ∗ owns (c : Thread nD τ) arg5 fullShare x2
              ∗ (∃ f, aM.view.loc (c : Thread nD τ) ↦[aM.view.set]{fullShare} aM.view.writes (Elt F) f LA)
              ∗ (∃ f, sM.view.loc (c : Thread nD τ) ↦[sM.view.set]{fullShare} sM.view.writes (Elt F) f L)
              ∗ cellP c (Ring.sl 2 (i 0).val)
              ∗ slotP c (Ring.sl 2 (i 0).val) (landed c H (Ring.sl 2 (i 0).val) (Ring.bk 64 (i 0).val) (rslot (Ring.sl 2 (i 0).val)).view.junk)
              ∗ homeP c H (Ring.bk 64 (i 0).val) ∗ (∃ W', owes (c : Thread nD τ) 0 W')) -∗ K ⟨⟩))
        ⊢ wp frame (wpE (defs₀ (F := F)) Variants.none c none) Set.univ
            (body i arg3 harg3 arg4 harg4 arg5 harg5 arg6 harg6 arg7 harg7) K } := by
  refine ⟨?_, ?_, fun W K => ?run⟩
  case run =>
    unfold body cc0_mlp
    unfold owns
    iintro ⟨⟨%f0, %hf0, H0⟩, ⟨%f1, %hf1, H1⟩, ⟨%f2, %hf2, H2⟩, ⟨%da, %fa, -, HA⟩, ⟨%ds, %fs, -, HS⟩, ⟨%fl, HF⟩, HW, Hk⟩
    obtain rfl := harg3.eq_unread hf0; obtain rfl := harg4.eq_unread hf1; obtain rfl := harg5.eq_unread hf2
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    isplitl [HS]; · iexists _; iexact HS
    isplitl [HF]; · iexact HF
    isplitl [HF_dst]; · iexact HF_dst
    isplitl [HF_src]; · iexact HF_src
    iexists _; iexact HW

/-- What the first block of a tile stores in the normalised rows, -/
def firstRows (h1 : k0_cond1 i = 1#1) (x0 : Vec F S1x2048 .f32) : List (View.Piece (Elt F) S512x2048 .bf16) :=
  runB.sl.HA_2 c H i arg3 harg3 h1 x0
/-- and in the running sum. -/
def firstSum (h1 : k0_cond1 i = 1#1) (x0 : Vec F S1x2048 .f32) (x1 : Vec F S2048x1024 .bf16) (x2 : Vec F S1024x2048 .bf16) :
    List (View.Piece (Elt F) S512x2048 .f32) :=
  [⟨Rect.unit ![256, 0] S256x2048.size (by decide), runB.sl.v124 c H i arg3 harg3 arg4 harg4 arg5 harg5 h1 x0 x1 x2⟩,
    ⟨Rect.unit ![0, 0] S256x2048.size (by decide), runB.sl.v89 c H i arg3 harg3 arg4 harg4 arg5 harg5 h1 x0 x1 x2⟩]

theorem runB_rows (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    (runB c H i arg3 harg3 arg4 harg4 arg5 harg5 arg6 harg6 arg7 harg7 h1 h2 h3 h4 h5 x0 x1 x2).1 = firstRows c H i arg3 harg3 h1 x0 := rfl
theorem runB_sum (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    (runB c H i arg3 harg3 arg4 harg4 arg5 harg5 arg6 harg6 arg7 harg7 h1 h2 h3 h4 h5 x0 x1 x2).2.1
      = firstSum c H i arg3 harg3 arg4 harg4 arg5 harg5 h1 x0 x1 x2 := rfl

/-- The first point of the grid: the first tile's copy is started and waited for at once. -/
theorem runA (h1 : k0_cond1 i = 1#1) (h2 : k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    ∀ (W : Waits sig Unit) (K : PUnit → sProp 𝕄),
      iprop(owns (c : Thread nD τ) arg3 fullShare x0 ∗ owns (c : Thread nD τ) arg4 fullShare x1 ∗ owns (c : Thread nD τ) arg5 fullShare x2
          ∗ (∃ d, owns (c : Thread nD τ) aM fullShare d) ∗ (∃ d, owns (c : Thread nD τ) sM fullShare d)
          ∗ cellP c (Ring.sl 2 (i 0).val) ∗ (∃ f, slotP c (Ring.sl 2 (i 0).val) f) ∗ homeP c H (Ring.bk 64 (i 0).val)
          ∗ owes (c : Thread nD τ) 0 W
          ∗ (iprop(owns (c : Thread nD τ) arg3 fullShare x0 ∗ owns (c : Thread nD τ) arg4 fullShare x1 ∗ owns (c : Thread nD τ) arg5 fullShare x2
              ∗ (∃ f, aM.view.loc (c : Thread nD τ) ↦[aM.view.set]{fullShare} aM.view.writes (Elt F) f (firstRows c H i arg3 harg3 h1 x0))
              ∗ (∃ f, sM.view.loc (c : Thread nD τ) ↦[sM.view.set]{fullShare} sM.view.writes (Elt F) f (firstSum c H i arg3 harg3 arg4 harg4 arg5 harg5 h1 x0 x1 x2))
              ∗ cellP c (Ring.sl 2 (i 0).val)
              ∗ slotP c (Ring.sl 2 (i 0).val) (landed c H (Ring.sl 2 (i 0).val) (Ring.bk 64 (i 0).val) (rslot (Ring.sl 2 (i 0).val)).view.junk)
              ∗ homeP c H (Ring.bk 64 (i 0).val) ∗ (∃ W', owes (c : Thread nD τ) 0 W')) -∗ K ⟨⟩))
        ⊢ wp frame (wpE (defs₀ (F := F)) Variants.none c none) Set.univ
            (body i arg3 harg3 arg4 harg4 arg5 harg5 arg6 harg6 arg7 harg7) K := by
  refine fun W K => ?run
  case run =>
    unfold body cc0_mlp
    unfold owns
    iintro ⟨⟨%f0, %hf0, H0⟩, ⟨%f1, %hf1, H1⟩, ⟨%f2, %hf2, H2⟩, ⟨%da, %fa, -, HA⟩, ⟨%ds, %fs, -, HS⟩, HF, ⟨%fl, HT⟩, HB, HW, Hk⟩
    obtain rfl := harg3.eq_unread hf0; obtain rfl := harg4.eq_unread hf1; obtain rfl := harg5.eq_unread hf2
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    isplitl [HS]; · iexists _; iexact HS
    isplitl [HF]; · iexact HF
    isplitl [HT]; · iexact HT
    isplitl [HB]; · iexact HB
    iexists _; iexact HW

/-- The last block of a tile: the running sum is completed and the result of the tile stored. -/
def runE (h1 : ¬k0_cond1 i = 1#1) (h3 : ¬k0_cond3 i = 1#1) (h4 : ¬condM i) (h5 : k0_cond5 i = 1#1)
    (x1 : Vec F S2048x1024 .bf16) (x2 : Vec F S1024x2048 .bf16) (x3 : Vec F S1x2048 .f32) (xa : Vec F S512x2048 .bf16) (xs : Vec F S512x2048 .f32) :
    { L : List (View.Piece (Elt F) S512x2048 .f32) // ∀ (K : PUnit → sProp 𝕄),
      iprop(owns (c : Thread nD τ) arg4 fullShare x1 ∗ owns (c : Thread nD τ) arg5 fullShare x2 ∗ owns (c : Thread nD τ) arg6 fullShare x3
          ∗ (∃ d, owns (c : Thread nD τ) arg7 fullShare d)
          ∗ owns (c : Thread nD τ) aM fullShare xa ∗ owns (c : Thread nD τ) sM fullShare xs
          ∗ slotP c (Ring.sl 2 (i 0).val) (landed c H (Ring.sl 2 (i 0).val) (Ring.bk 64 (i 0).val) (rslot (Ring.sl 2 (i 0).val)).view.junk)
          ∗ (iprop(owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)
              ∗ owns (c : Thread nD τ) aM fullShare xa ∗ owns (c : Thread nD τ) sM fullShare xs
              ∗ slotP c (Ring.sl 2 (i 0).val) (landed c H (Ring.sl 2 (i 0).val) (Ring.bk 64 (i 0).val) (rslot (Ring.sl 2 (i 0).val)).view.junk)) -∗ K ⟨⟩))
        ⊢ wp frame (wpE (defs₀ (F := F)) Variants.none c none) Set.univ
            (body i arg3 harg3 arg4 harg4 arg5 harg5 arg6 harg6 arg7 harg7) K } := by
  refine ⟨?_, fun K => ?run⟩
  case run =>
    unfold body cc0_mlp
    unfold owns
    iintro ⟨⟨%f1, %hf1, H1⟩, ⟨%f2, %hf2, H2⟩, ⟨%f3, %hf3, H3⟩, ⟨%d7, %f7, -, H7⟩, ⟨%fa, %hfa, HA⟩, ⟨%fs, %hfs, HS⟩, HT, Hk⟩
    obtain rfl := harg4.eq_unread hf1; obtain rfl := harg5.eq_unread hf2; obtain rfl := harg6.eq_unread hf3
    obtain rfl := (Memref.isWhole_whole cc0_scratch0).eq_unread hfa
    obtain rfl := (Memref.isWhole_whole cc0_scratch1).eq_unread hfs
    sl_exec (disch := first | sl_exact h1 | sl_exact h3 | sl_exact h4 | sl_exact h5)
    sl_step
    iapply Hk
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [HA]
    · iexists _; isplitr; · ipureintro; exact (Memref.isWhole_whole cc0_scratch0).read_unread _
      iexact HA
    isplitl [HS]
    · iexists _; isplitr; · ipureintro; exact (Memref.isWhole_whole cc0_scratch1).read_unread _
      iexact HS
    iexact HT

/-- What the last block of a tile stores in the result. -/
def lastOut (h5 : k0_cond5 i = 1#1) (x1 : Vec F S2048x1024 .bf16) (x2 : Vec F S1024x2048 .bf16) (x3 : Vec F S1x2048 .f32)
    (xa : Vec F S512x2048 .bf16) (xs : Vec F S512x2048 .f32) : List (View.Piece (Elt F) S512x2048 .f32) :=
  [⟨Rect.unit ![256, 0] S256x2048.size (by decide), runE.sl.v88 c H i arg4 harg4 arg5 harg5 arg6 harg6 h5 x1 x2 x3 xa xs⟩,
    ⟨Rect.unit ![0, 0] S256x2048.size (by decide), runE.sl.v56 c H i arg4 harg4 arg5 harg5 arg6 harg6 h5 x1 x2 x3 xa xs⟩]
theorem runE_out (h1 : ¬k0_cond1 i = 1#1) (h3 : ¬k0_cond3 i = 1#1) (h4 : ¬condM i) (h5 : k0_cond5 i = 1#1)
    (x1 : Vec F S2048x1024 .bf16) (x2 : Vec F S1024x2048 .bf16) (x3 : Vec F S1x2048 .f32) (xa : Vec F S512x2048 .bf16) (xs : Vec F S512x2048 .f32) :
    (runE c H i arg3 harg3 arg4 harg4 arg5 harg5 arg6 harg6 arg7 harg7 h1 h3 h4 h5 x1 x2 x3 xa xs).1
      = lastOut c H i arg4 harg4 arg5 harg5 arg6 harg6 h5 x1 x2 x3 xa xs := rfl

end Cert.Kernel2Ideal.Mlp

end
-- ==== Proof.MlpRing.lean ====
/-
  The two-slot buffer of the multilayer perceptron's kernel between grid points: which slot holds a tile, which one a
  copy is on its way into, and which tiles' rows are home. Stated by tile and block, with the four forms it takes, and
  the launch's hand-over of the rows and the buffer.
-/
module

public import proofs.«01_k».proof.Proof.MlpRun

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (H : Buf (Elt F) (hM.view.loc (c : Thread nD τ)))

abbrev homes : sProp 𝕄 := bigSep Finset.univ (homeP c H)
/-- Every tile home but `b`. -/
abbrev homesBut (b : Fin 64) : sProp 𝕄 := bigSep (Finset.univ.erase b) (homeP c H)
abbrev freeP (s : Fin 2) : sProp 𝕄 := iprop(cellP (F := F) c s ∗ ∃ f, slotP (F := F) c s f)
/-- Slot `s` with tile `b` in it. -/
abbrev heldP (s : Fin 2) (b : Fin 64) : sProp 𝕄 := iprop(cellP c s ∗ slotP c s (landed c H s b (rslot s).view.junk))
abbrev flyP (s : Fin 2) (b : Fin 64) : sProp 𝕄 := iprop(∃ f, flightP c H 131072 s b f)

theorem homes_take (b : Fin 64) : homes c H = iprop(homeP c H b ∗ homesBut c H b) := by
  unfold homes homesBut
  conv_lhs => rw [← Finset.insert_erase (Finset.mem_univ b)]
  exact bigSep_insert (Finset.notMem_erase _ _)

/-- The buffer before block `j` of tile `i`. -/
def ring (i j : ℕ) : sProp 𝕄 :=
  if j = 0 then
    if i = 0 ∨ i = 64 then iprop(freeP c (Ring.sl 2 i) ∗ freeP c (Ring.sl 2 (i + 1)) ∗ homes c H)
    else iprop(flyP c H (Ring.sl 2 i) (Ring.bk 64 i) ∗ freeP c (Ring.sl 2 (i + 1)) ∗ homesBut c H (Ring.bk 64 i))
  else if j = 1 ∨ i = 63 then iprop(heldP c H (Ring.sl 2 i) (Ring.bk 64 i) ∗ freeP c (Ring.sl 2 (i + 1)) ∗ homes c H)
  else iprop(heldP c H (Ring.sl 2 i) (Ring.bk 64 i) ∗ flyP c H (Ring.sl 2 (i + 1)) (Ring.bk 64 (i + 1)) ∗ homesBut c H (Ring.bk 64 (i + 1)))

theorem ring_idle {i j : ℕ} (hj : j = 0) (hi : i = 0 ∨ i = 64) :
    ring c H i j = iprop(freeP c (Ring.sl 2 i) ∗ freeP c (Ring.sl 2 (i + 1)) ∗ homes c H) := by
  unfold ring; rw [if_pos hj, if_pos hi]
theorem ring_fly {i j : ℕ} (hj : j = 0) (hi : ¬(i = 0 ∨ i = 64)) :
    ring c H i j = iprop(flyP c H (Ring.sl 2 i) (Ring.bk 64 i) ∗ freeP c (Ring.sl 2 (i + 1)) ∗ homesBut c H (Ring.bk 64 i)) := by
  unfold ring; rw [if_pos hj, if_neg hi]
theorem ring_held {i j : ℕ} (hj : ¬j = 0) (h : j = 1 ∨ i = 63) :
    ring c H i j = iprop(heldP c H (Ring.sl 2 i) (Ring.bk 64 i) ∗ freeP c (Ring.sl 2 (i + 1)) ∗ homes c H) := by
  unfold ring; rw [if_neg hj, if_pos h]
theorem ring_both {i j : ℕ} (hj : ¬j = 0) (h : ¬(j = 1 ∨ i = 63)) :
    ring c H i j = iprop(heldP c H (Ring.sl 2 i) (Ring.bk 64 i) ∗ flyP c H (Ring.sl 2 (i + 1)) (Ring.bk 64 (i + 1)) ∗ homesBut c H (Ring.bk 64 (i + 1))) := by
  unfold ring; rw [if_neg hj, if_neg h]

/-- A middle block that starts no copy leaves the buffer as it is. -/
theorem ring_stay {i j : ℕ} (hj : ¬j = 0) (h : ¬(j = 1 ∧ i < 63)) (hi : i < 64) : ring c H i j = ring c H i (j + 1) := by
  by_cases h63 : i = 63
  · rw [ring_held c H hj (Or.inr h63), ring_held c H (Nat.succ_ne_zero j) (Or.inr h63)]
  · rw [ring_both c H hj (by omega), ring_both c H (Nat.succ_ne_zero j) (by omega)]

/-- Between points the buffer's slots hold the tile in use whatever the other slot does: the tile's slot apart from the
    rest. -/
theorem ring_use {i j : ℕ} (hj : ¬j = 0) :
    ∃ R : sProp 𝕄, ring c H i j = iprop(heldP c H (Ring.sl 2 i) (Ring.bk 64 i) ∗ R) := by
  by_cases h : j = 1 ∨ i = 63
  · exact ⟨_, ring_held c H hj h⟩
  · exact ⟨_, ring_both c H hj h⟩

theorem free_of_held (s : Fin 2) (b : Fin 64) : heldP c H s b ⊢ freeP c s := by
  iintro ⟨HC, HS⟩
  isplitl [HC]; · iexact HC
  iexists _; iexact HS

/-- After the last block of tile `i` its slot is free again. -/
theorem ring_release {i j : ℕ} (hj : 1 < j) (hi : i < 64) : ring c H i j ⊢ ring c H (i + 1) 0 := by
  by_cases h : i = 63
  · subst h
    rw [ring_held c H (by omega) (Or.inr rfl), ring_idle c H rfl (Or.inr rfl)]
    iintro ⟨HH, HF, HB⟩
    isplitl [HF]; · iexact HF
    isplitl [HH]; · iapply (free_of_held c H (Ring.sl 2 63) (Ring.bk 64 63)); iexact HH
    iexact HB
  · rw [ring_both c H (by omega) (by omega), ring_fly c H rfl (by omega), show i + 1 + 1 = i + 2 from rfl, Ring.sl_add]
    iintro ⟨HH, HF, HB⟩
    isplitl [HF]; · iexact HF
    isplitl [HH]; · iapply (free_of_held c H (Ring.sl 2 i) (Ring.bk 64 i)); iexact HH
    iexact HB

/-! ## The rows and the buffer, whole and piece by piece -/

abbrev tileSet (b : Fin 64) : Finset S32768x2048.Idx := (Rect.unit (s := S32768x2048) (tileOff b) S512x2048.size (tileOff_inb b)).set
abbrev slotSet (s : Fin 2) : Finset S2x512x2048.Idx := (Rect.unit (s := S2x512x2048) (slotOff s) S1x512x2048.size (slotOff_inb s)).set

theorem tile_set (b : Fin 64) : (tile b).view.set = tileSet b := View.set_slice_whole _ _
theorem rslot_set (s : Fin 2) : (rslot s).view.set = slotSet s := (View.set_reshape _ _).trans (View.set_slice_whole _ _)

theorem homes_eq : (((c : Thread nD τ).loc main_v4) ↦{fullShare} H : sProp 𝕄) = homes c H := by
  refine (Ring.pointsTo_blocks (ℓ := (c : Thread nD τ).loc main_v4) tileSet
    (Ring.lead_disjoint (s := S32768x2048) (0 : Fin 2) 512 tileOff S512x2048.size tileOff_inb (fun _ => rfl) rfl)
    (Ring.lead_cover (s := S32768x2048) (0 : Fin 2) 512 tileOff S512x2048.size tileOff_inb (fun _ => rfl)
      (fun b a ha => by fin_cases a; · exact absurd rfl ha
                        · rfl) rfl (fun a ha => by fin_cases a; · exact absurd rfl ha
                                                   · rfl) rfl) H).trans ?_
  exact bigSep_congr fun b _ => by rw [← tile_set]; rfl

theorem slotSet_disjoint : ∀ s s' : Fin 2, s ≠ s' → Disjoint (slotSet s) (slotSet s') :=
  Ring.lead_disjoint (s := S2x512x2048) (0 : Fin 3) 1 slotOff S1x512x2048.size slotOff_inb (fun s => (Nat.one_mul _).symm) rfl
theorem slotSet_cover : (Finset.univ : Finset (Fin 2)).biUnion slotSet = Finset.univ :=
  Ring.lead_cover (s := S2x512x2048) (0 : Fin 3) 1 slotOff S1x512x2048.size slotOff_inb (fun s => (Nat.one_mul _).symm)
    (fun b a ha => by fin_cases a; · exact absurd rfl ha
                      · rfl
                      · rfl) rfl (fun a ha => by fin_cases a; · exact absurd rfl ha
                                                 · rfl
                                                 · rfl) rfl

theorem slotP_eq (s : Fin 2) (f) : slotP c s f = (((c : Thread nD τ).loc cc0_scratch2) ↦[slotSet s]{fullShare} f : sProp 𝕄) :=
  congrArg (fun S => (_ ↦[S]{fullShare} f : sProp 𝕄)) (rslot_set s)

theorem buf_split :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) :=
  Ring.slots2_split (ℓ := (c : Thread nD τ).loc cc0_scratch2) slotSet slotSet_disjoint slotSet_cover _ _ (slotP_eq c 0) (slotP_eq c 1)
theorem buf_join :
    (iprop((∃ f, slotP c 0 f) ∗ ∃ f, slotP c 1 f) : sProp 𝕄)
      ⊢ iprop(∃ f : Buf (Elt F) ((c : Thread nD τ).loc cc0_scratch2), ((c : Thread nD τ).loc cc0_scratch2) ↦{fullShare} f) :=
  Ring.slots2_join (ℓ := (c : Thread nD τ).loc cc0_scratch2) slotSet slotSet_disjoint slotSet_cover _ _ (slotP_eq c 0) (slotP_eq c 1)

/-- The body's two copy semaphores. -/
abbrev osem0 : Fin 2 → SemLoc sig := fun j => (![SemLoc.dma 8, SemLoc.dma 9] : Fin 2 → SemLoc sig) j
theorem ownSemFacts0 : Pipeline.OwnSemFacts spec0 osem0 := by decide
theorem ownSems_eq :
    (Pipeline.ownSems0 (Ix := Unit) (Name := ℕ) (U := Pipeline.UD sig nD τ) (Lvl := ℕ) (Val := Elt F) (τ := τ) osem0 c : sProp 𝕄)
      = iprop(cellP c 0 ∗ cellP c 1) := by
  rw [Pipeline.ownSems0_eq_of_list c osem0 [0, 1] (by decide) (by decide)]; rfl
/-- The rows, which the body reads from HBM by its copies. -/
def H0 : Finset (Ref sig .tc) := {main_v4}
theorem H0_sub : H0 ⊆ Pipeline.restRefs sig spec0 := by decide

variable (m : (ℓ : Loc nD τ sig) → Buf (Elt F) ℓ)

/-- What the launch hands over: the three scratch buffers, the generator register, the two semaphores at zero and the
    rows, the buffer slot by slot and the rows tile by tile. -/
theorem PhiD_eq :
    (Pipeline.ΦD osem0 spec0 H0 (V m) c : sProp 𝕄)
      = iprop(((∃ d, owns (c : Thread nD τ) aM fullShare d) ∗ (∃ d, owns (c : Thread nD τ) sM fullShare d)
          ∗ (∃ f : Buf (Elt F) ((c : Thread nD τ).loc cc0_scratch2), ((c : Thread nD τ).loc cc0_scratch2) ↦{fullShare} f))
        ∗ (∃ r, prngReg c r) ∗ (cellP c 0 ∗ cellP c 1) ∗ homes c (V m c main_v4)) := by
  rw [Pipeline.ΦD_eq, scopedRest0_eq, ownSems_eq, ← homes_eq]
  unfold H0
  rw [BI.bigSep_eq_bigSepL_of_eq [main_v4] (by decide) (by decide)]
  simp only [aM, sM, owns_whole]; rfl

end Cert.Kernel2Ideal.Mlp

end
-- ==== Proof.MlpFrame.lean ====
/-
  The multilayer perceptron's launch: what each grid point leaves in the normalised rows, the running sum and the
  result, the invariant between points, the body's triple at every point, the run and the frame. Over any `F`.
-/
module

public import proofs.«01_k».proof.Proof.MlpRing

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid point's coordinates and the body's conditions -/

theorem co0 (t : Fin cfg0.N) : (grid0.coords t 0).val = t.val / 8 := by
  have ht : t.val < 512 := Nat.lt_of_lt_of_eq t.isLt N_0
  have e : (grid0.coords t 0).val = t.val / 8 % 64 := Pipeline.Grid.coords_val t 0 (by decide) rfl
  omega
theorem co1 (t : Fin cfg0.N) : (grid0.coords t 1).val = t.val % 8 := by
  have e : (grid0.coords t 1).val = t.val / 1 % 8 := Pipeline.Grid.coords_val t 1 (by decide) rfl
  omega

/-- The conditions at any tile and block, one block and one tile at a time. -/
theorem c1 (i : grid0.Coords) : k0_cond1 i = 1#1 ↔ (i 1).val = 0 :=
  (by decide +kernel : ∀ b : Fin 8, k0_cond1 (mk 0 b) = 1#1 ↔ b.val = 0) (i 1)
theorem c2 (i : grid0.Coords) : k0_cond2 i = 1#1 ↔ (i 0).val = 0 :=
  (by decide +kernel : ∀ a : Fin 64, k0_cond2 (mk a 0) = 1#1 ↔ a.val = 0) (i 0)
theorem c3 (i : grid0.Coords) : k0_cond3 i = 1#1 ↔ (i 1).val = 1 ∧ (i 0).val < 63 :=
  (by decide +kernel : ∀ (a : Fin 64) (b : Fin 8), k0_cond3 (mk a b) = 1#1 ↔ b.val = 1 ∧ a.val < 63) (i 0) (i 1)
theorem cM (i : grid0.Coords) : condM i ↔ 0 < (i 1).val ∧ (i 1).val < 7 :=
  (by decide +kernel : ∀ b : Fin 8, condM (mk 0 b) ↔ 0 < b.val ∧ b.val < 7) (i 1)
theorem c5 (i : grid0.Coords) : k0_cond5 i = 1#1 ↔ (i 1).val = 7 :=
  (by decide +kernel : ∀ b : Fin 8, k0_cond5 (mk 0 b) = 1#1 ↔ b.val = 7) (i 1)

theorem idle4 (t : Fin cfg0.N) (h : ¬t.val % 8 = 7) : cfg0.idle 4 (grid0.coords t) = true :=
  (by decide +kernel : ∀ t : Fin grid0.N, ¬t.val % 8 = 7 → cfg0.idle 4 (grid0.coords t) = true) t h
theorem live4 (t : Fin cfg0.N) (h : t.val % 8 = 7) : cfg0.idle 4 (grid0.coords t) = false :=
  (by decide +kernel : ∀ t : Fin grid0.N, t.val % 8 = 7 → cfg0.idle 4 (grid0.coords t) = false) t h
theorem keep4 (t : Fin cfg0.N) (h : ¬t.val % 8 = 7) : (cfg0.win 4).flush t = false :=
  Bool.eq_false_iff.mpr fun e => h ((flush0_4 t).mp e)

/-! ## What the points leave -/

abbrev ms0 (t : Fin cfg0.N) : Memref sig .tc .vmem S1x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
/-- One staging buffer of the result, through which its contents are stated. -/
abbrev VO : View sig .tc .vmem S512x2048 .f32 := (Memref.whole cc0_stg4_0 : Memref sig .tc .vmem S512x2048 .f32).view

theorem h1_of (t : Fin cfg0.N) (h : t.val % 8 = 0) : k0_cond1 (grid0.coords t) = 1#1 := (c1 _).mpr (by rw [co1]; exact h)
theorem h5_of (t : Fin cfg0.N) (h : t.val % 8 = 7) : k0_cond5 (grid0.coords t) = 1#1 := (c5 _).mpr (by rw [co1]; exact h)

/-- The first block of a tile: its normalised rows and the sum's first term. -/
def rowsFirst (c : Dev nD) (t : Fin cfg0.N) (h : t.val % 8 = 0) : Vec F S512x2048 .bf16 :=
  aM.view.read (Elt F) (aM.view.writes (Elt F) aM.view.junk
    (firstRows c (V m c main_v4) (grid0.coords t) (ms0 t) (hs0 t) (h1_of t h) (iblk m c 0 t)))
def sumFirst (c : Dev nD) (t : Fin cfg0.N) (h : t.val % 8 = 0) : Vec F S512x2048 .f32 :=
  sM.view.read (Elt F) (sM.view.writes (Elt F) sM.view.junk
    (firstSum c (V m c main_v4) (grid0.coords t) (ms0 t) (hs0 t) (ms1 t) (hs1 t) (ms2 t) (hs2 t) (h1_of t h) (iblk m c 0 t) (iblk m c 1 t) (iblk m c 2 t)))
/-- A middle block: the sum with its term added. -/
def sumMid (c : Dev nD) (t : Fin cfg0.N) (xa : Vec F S512x2048 .bf16) (xs : Vec F S512x2048 .f32) : Vec F S512x2048 .f32 :=
  sM.view.read (Elt F) (sM.view.writes (Elt F) sM.view.junk (midSum c (ms1 t) (hs1 t) (ms2 t) (hs2 t) (iblk m c 1 t) (iblk m c 2 t) xa xs))
/-- The last block: the tile's result. -/
def outLast (c : Dev nD) (t : Fin cfg0.N) (h : t.val % 8 = 7) (xa : Vec F S512x2048 .bf16) (xs : Vec F S512x2048 .f32) : Vec F S512x2048 .f32 :=
  VO.read (Elt F) (VO.writes (Elt F) VO.junk
    (lastOut c (V m c main_v4) (grid0.coords t) (ms1 t) (hs1 t) (ms2 t) (hs2 t) (ms3 t) (hs3 t) (h5_of t h) (iblk m c 1 t) (iblk m c 2 t) (iblk m c 3 t) xa xs))

/-- The normalised rows and the running sum after point `n`. -/
def kept (c : Dev nD) : (n : ℕ) → n < cfg0.N → Vec F S512x2048 .bf16 × Vec F S512x2048 .f32
  | 0, hn => (rowsFirst m c ⟨0, hn⟩ rfl, sumFirst m c ⟨0, hn⟩ rfl)
  | n + 1, hn =>
    if h0 : (n + 1) % 8 = 0 then (rowsFirst m c ⟨n + 1, hn⟩ h0, sumFirst m c ⟨n + 1, hn⟩ h0)
    else if (n + 1) % 8 = 7 then kept c n (Nat.lt_of_succ_lt hn)
    else ((kept c n (Nat.lt_of_succ_lt hn)).1,
      sumMid m c ⟨n + 1, hn⟩ (kept c n (Nat.lt_of_succ_lt hn)).1 (kept c n (Nat.lt_of_succ_lt hn)).2)

theorem kept_first (c : Dev nD) (t : Fin cfg0.N) (h : t.val % 8 = 0) : kept m c t.val t.isLt = (rowsFirst m c t h, sumFirst m c t h) := by
  obtain ⟨n, hn⟩ := t
  cases n with
  | zero => rfl
  | succ n => exact dif_pos h
theorem kept_mid (c : Dev nD) (t : Fin cfg0.N) (h0 : ¬t.val % 8 = 0) (h7 : ¬t.val % 8 = 7) :
    kept m c t.val t.isLt = ((kept m c (t.val - 1) (by omega)).1,
      sumMid m c t (kept m c (t.val - 1) (by omega)).1 (kept m c (t.val - 1) (by omega)).2) := by
  obtain ⟨n, hn⟩ := t
  cases n with
  | zero => exact absurd (Nat.zero_mod _) h0
  | succ n => exact (dif_neg h0).trans (if_neg h7)
theorem kept_last (c : Dev nD) (t : Fin cfg0.N) (h7 : t.val % 8 = 7) :
    kept m c t.val t.isLt = kept m c (t.val - 1) (by omega) := by
  obtain ⟨n, hn⟩ := t
  cases n with
  | zero => exact absurd (show 0 % 8 = 7 from h7) (by decide)
  | succ n => exact (dif_neg (by dsimp only at h7; omega)).trans (if_pos h7)

/-- The result's staging buffer after point `t`; only a tile's last block stores it. -/
def outAt (c : Dev nD) (t : Fin cfg0.N) : Vec F S512x2048 .f32 :=
  if h : t.val % 8 = 7 then outLast m c t h (kept m c (t.val - 1) (by omega)).1 (kept m c (t.val - 1) (by omega)).2 else VO.read (Elt F) VO.junk

/-! ## The invariant and the proof data -/

/-- The normalised rows and the running sum before point `n`. -/
def scratch (c : Dev nD) : (n : ℕ) → n ≤ cfg0.N → sProp 𝕄
  | 0, _ => iprop((∃ d, owns (c : Thread nD τ) aM fullShare d) ∗ (∃ d, owns (c : Thread nD τ) sM fullShare d))
  | n + 1, hn => iprop(owns (c : Thread nD τ) aM fullShare (kept m c n hn).1 ∗ owns (c : Thread nD τ) sM fullShare (kept m c n hn).2)

theorem scratch_pos (c : Dev nD) (n : ℕ) (h : n ≤ cfg0.N) (hz : n ≠ 0) :
    scratch m c n h = iprop(owns (c : Thread nD τ) aM fullShare (kept m c (n - 1) (by omega)).1
      ∗ owns (c : Thread nD τ) sM fullShare (kept m c (n - 1) (by omega)).2) := by
  cases n with
  | zero => exact absurd rfl hz
  | succ n => rfl
theorem scratch_any (c : Dev nD) (n : ℕ) (h : n ≤ cfg0.N) :
    scratch m c n h ⊢ iprop((∃ d, owns (c : Thread nD τ) aM fullShare d) ∗ (∃ d, owns (c : Thread nD τ) sM fullShare d)) := by
  cases n with
  | zero => exact .rfl
  | succ n =>
    unfold scratch
    iintro ⟨HA, HS⟩
    isplitl [HA]; · iexists _; iexact HA
    iexists _; iexact HS

def inv (c : Dev nD) (n : ℕ) (h : n ≤ cfg0.N) : sProp 𝕄 :=
  iprop(scratch m c n h ∗ ring c (V m c main_v4) (n / 8) (n % 8) ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

section Windows
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = outAt m c t := by dsimp only [dats]

/-- An input's buffer holds its block before every point, fetched there or not. -/
theorem before0 (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
end Windows

/-! ## The body at a point, case by case -/

section Cases
variable (c : Dev nD) (t : Fin cfg0.N)

/-- The inputs' buffers at their blocks. -/
abbrev ins : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t))

/-- The body's triple at point `t`, the result's buffer at `P` before and `Q` after. -/
abbrev BodyAt (P Q : sProp 𝕄) : Prop :=
  iprop(inv m c t.val (Nat.le_of_lt t.isLt) ∗ (dats m 0 c).owesAt () t.castSucc ∗ ins m c t ∗ P)
    ⊢ wp frame (wpE (defs₀ (F := F)) Variants.none c none) Set.univ (bodyAt0 t)
        (fun _ => iprop(inv m c (t.val + 1) t.isLt ∗ (dats m 0 c).owesAt () t.castSucc ∗ ins m c t ∗ Q))

theorem rows_cover (h1 : k0_cond1 (grid0.coords t) = 1#1) (y : S512x2048.Idx) :
    ∃ pc ∈ firstRows c (V m c main_v4) (grid0.coords t) (ms0 t) (hs0 t) h1 (iblk m c 0 t), y ∈ pc.1.set :=
  View.cover_of_tiledL (firstRows c (V m c main_v4) (grid0.coords t) (ms0 t) (hs0 t) h1 (iblk m c 0 t)) S256x2048.size (by sl_kernel_rfl) y
theorem sum_cover (h1 : k0_cond1 (grid0.coords t) = 1#1) (y : S512x2048.Idx) :
    ∃ pc ∈ firstSum c (V m c main_v4) (grid0.coords t) (ms0 t) (hs0 t) (ms1 t) (hs1 t) (ms2 t) (hs2 t) h1 (iblk m c 0 t) (iblk m c 1 t) (iblk m c 2 t), y ∈ pc.1.set :=
  View.cover_of_tiledL (firstSum c (V m c main_v4) (grid0.coords t) (ms0 t) (hs0 t) (ms1 t) (hs1 t) (ms2 t) (hs2 t) h1 (iblk m c 0 t) (iblk m c 1 t) (iblk m c 2 t))
    S256x2048.size (by sl_kernel_rfl) y
theorem mid_cover (xa : Vec F S512x2048 .bf16) (xs : Vec F S512x2048 .f32) (y : S512x2048.Idx) :
    ∃ pc ∈ midSum c (ms1 t) (hs1 t) (ms2 t) (hs2 t) (iblk m c 1 t) (iblk m c 2 t) xa xs, y ∈ pc.1.set :=
  View.cover_of_tiledL (midSum c (ms1 t) (hs1 t) (ms2 t) (hs2 t) (iblk m c 1 t) (iblk m c 2 t) xa xs) S512x2048.size (by sl_kernel_rfl) y
theorem last_cover (h5 : k0_cond5 (grid0.coords t) = 1#1) (xa : Vec F S512x2048 .bf16) (xs : Vec F S512x2048 .f32) (y : S512x2048.Idx) :
    ∃ pc ∈ lastOut c (V m c main_v4) (grid0.coords t) (ms1 t) (hs1 t) (ms2 t) (hs2 t) (ms3 t) (hs3 t) h5 (iblk m c 1 t) (iblk m c 2 t) (iblk m c 3 t) xa xs, y ∈ pc.1.set :=
  View.cover_of_tiledL (lastOut c (V m c main_v4) (grid0.coords t) (ms1 t) (hs1 t) (ms2 t) (hs2 t) (ms3 t) (hs3 t) h5 (iblk m c 1 t) (iblk m c 2 t) (iblk m c 3 t) xa xs)
    S256x2048.size (by sl_kernel_rfl) y

theorem rows_read (h : t.val % 8 = 0) (f) :
    aM.view.read (Elt F) (aM.view.writes (Elt F) f (firstRows c (V m c main_v4) (grid0.coords t) (ms0 t) (hs0 t) (h1_of t h) (iblk m c 0 t)))
      = (kept m c t.val t.isLt).1 := by
  rw [kept_first m c t h]; dsimp only; unfold rowsFirst
  exact View.read_writes_of_cover _ _ _ _ _ (rows_cover m c t (h1_of t h))
theorem sum_read (h : t.val % 8 = 0) (f) :
    sM.view.read (Elt F) (sM.view.writes (Elt F) f (firstSum c (V m c main_v4) (grid0.coords t) (ms0 t) (hs0 t) (ms1 t) (hs1 t) (ms2 t) (hs2 t)
      (h1_of t h) (iblk m c 0 t) (iblk m c 1 t) (iblk m c 2 t))) = (kept m c t.val t.isLt).2 := by
  rw [kept_first m c t h]; dsimp only; unfold sumFirst
  exact View.read_writes_of_cover _ _ _ _ _ (sum_cover m c t (h1_of t h))

set_option maxHeartbeats 1600000 in
/-- The first block of a tile but the first: the copy of the tile, started a tile ago, is waited for. -/
theorem body_wait (h0 : t.val % 8 = 0) (hz : ¬t.val = 0) (P : sProp 𝕄) : BodyAt m c t P P := by
  have ht : t.val < 512 := Nat.lt_of_lt_of_eq t.isLt N_0
  have e0 := co0 t
  have e1 := co1 t
  have h1 := h1_of t h0
  have h2 : ¬k0_cond2 (grid0.coords t) = 1#1 := fun h => by have := (c2 _).mp h; omega
  have h3 : ¬k0_cond3 (grid0.coords t) = 1#1 := fun h => by have := (c3 _).mp h; omega
  have h4 : ¬condM (grid0.coords t) := fun h => by have := (cM _).mp h; omega
  have h5 : ¬k0_cond5 (grid0.coords t) = 1#1 := fun h => by have := (c5 _).mp h; omega
  unfold BodyAt inv Dat.owesAt Pipeline.owesWithin
  rw [show (dats m 0 c).owed t.castSucc = 0 from rfl]
  rw [show scratch m c (t.val + 1) t.isLt = iprop(owns (c : Thread nD τ) aM fullShare (kept m c t.val t.isLt).1 ∗ owns (c : Thread nD τ) sM fullShare (kept m c t.val t.isLt).2) from rfl]
  rw [show (t.val + 1) / 8 = t.val / 8 by omega, show (t.val + 1) % 8 = 1 by omega, ← e0,
    ring_fly c _ h0 (by omega), ring_held c _ one_ne_zero (Or.inl rfl), homes_take c _ (Ring.bk 64 (grid0.coords t 0).val)]
  iintro ⟨⟨HSc, ⟨HF, HFree, HBut⟩, Hg⟩, ⟨%W, -, HW⟩, ⟨H0, H1, H2, H3⟩, H4⟩
  ihave HSc' := (scratch_any m c _ _) $$ HSc
  icases HSc' with ⟨HA, HS⟩
  iapply ((runB c (V m c main_v4) (grid0.coords t) (ms0 t) (hs0 t) (ms1 t) (hs1 t) (ms2 t) (hs2 t) (ms3 t) (hs3 t) (ms4 t) (hs4 t) h1 h2 h3 h4 h5
    (iblk m c 0 t) (iblk m c 1 t) (iblk m c 2 t)).2.2 W _)
  isplitl [H0]; · iexact H0
  isplitl [H1]; · iexact H1
  isplitl [H2]; · iexact H2
  isplitl [HA]; · iexact HA
  isplitl [HS]; · iexact HS
  isplitl [HF]; · iexact HF
  isplitl [HW]; · iexact HW
  iintro ⟨H0, H1, H2, ⟨%fa, HA⟩, ⟨%fs, HS⟩, HC, HT, HB, ⟨%W', HW'⟩⟩
  isplitl [HA HS HC HT HFree HB HBut Hg]
  · isplitl [HA HS]
    · isplitl [HA]
      · unfold owns; iexists _; isplitr
        swap; · iexact HA
        ipureintro; rw [runB_rows]; exact rows_read m c t h0 fa
      unfold owns; iexists _; isplitr
      swap; · iexact HS
      ipureintro; rw [runB_sum]; exact sum_read m c t h0 fs
    isplitl [HC HT HFree HB HBut]
    · isplitl [HC HT]
      · isplitl [HC]; · iexact HC
        iexact HT
      isplitl [HFree]; · iexact HFree
      isplitl [HB]; · iexact HB
      iexact HBut
    iexact Hg
  isplitl [HW']
  · iexists W'; isplitr; · ipureintro; exact fun _ _ => Or.inl trivial
    iexact HW'
  isplitr [H4]
  · isplitl [H0]; · iexact H0
    isplitl [H1]; · iexact H1
    isplitl [H2]; · iexact H2
    iexact H3
  iexact H4

set_option maxHeartbeats 1600000 in
/-- The first point: the first tile's copy is started and waited for at once. -/
theorem body_start (hz : t.val = 0) (P : sProp 𝕄) : BodyAt m c t P P := by
  have h0 : t.val % 8 = 0 := by omega
  have ht : t.val < 512 := Nat.lt_of_lt_of_eq t.isLt N_0
  have e0 := co0 t
  have e1 := co1 t
  have h1 := h1_of t h0
  have h2 : k0_cond2 (grid0.coords t) = 1#1 := (c2 _).mpr (by omega)
  have h3 : ¬k0_cond3 (grid0.coords t) = 1#1 := fun h => by have := (c3 _).mp h; omega
  have h4 : ¬condM (grid0.coords t) := fun h => by have := (cM _).mp h; omega
  have h5 : ¬k0_cond5 (grid0.coords t) = 1#1 := fun h => by have := (c5 _).mp h; omega
  unfold BodyAt inv Dat.owesAt Pipeline.owesWithin
  rw [show (dats m 0 c).owed t.castSucc = 0 from rfl]
  rw [show scratch m c (t.val + 1) t.isLt = iprop(owns (c : Thread nD τ) aM fullShare (kept m c t.val t.isLt).1 ∗ owns (c : Thread nD τ) sM fullShare (kept m c t.val t.isLt).2) from rfl]
  rw [show (t.val + 1) / 8 = t.val / 8 by omega, show (t.val + 1) % 8 = 1 by omega, ← e0,
    ring_idle c _ h0 (Or.inl (by omega)), ring_held c _ one_ne_zero (Or.inl rfl), homes_take c _ (Ring.bk 64 (grid0.coords t 0).val)]
  iintro ⟨⟨HSc, ⟨⟨HC, HT⟩, HFree, HB, HBut⟩, Hg⟩, ⟨%W, -, HW⟩, ⟨H0, H1, H2, H3⟩, H4⟩
  ihave HSc' := (scratch_any m c _ _) $$ HSc
  icases HSc' with ⟨HA, HS⟩
  iapply (runA c (V m c main_v4) (grid0.coords t) (ms0 t) (hs0 t) (ms1 t) (hs1 t) (ms2 t) (hs2 t) (ms3 t) (hs3 t) (ms4 t) (hs4 t) h1 h2 h3 h4 h5
    (iblk m c 0 t) (iblk m c 1 t) (iblk m c 2 t) W _)
  isplitl [H0]; · iexact H0
  isplitl [H1]; · iexact H1
  isplitl [H2]; · iexact H2
  isplitl [HA]; · iexact HA
  isplitl [HS]; · iexact HS
  isplitl [HC]; · iexact HC
  isplitl [HT]; · iexact HT
  isplitl [HB]; · iexact HB
  isplitl [HW]; · iexact HW
  iintro ⟨H0, H1, H2, ⟨%fa, HA⟩, ⟨%fs, HS⟩, HC, HT, HB, ⟨%W', HW'⟩⟩
  isplitl [HA HS HC HT HFree HB HBut Hg]
  · isplitl [HA HS]
    · isplitl [HA]
      · unfold owns; iexists _; isplitr
        swap; · iexact HA
        ipureintro; exact rows_read m c t h0 fa
      unfold owns; iexists _; isplitr
      swap; · iexact HS
      ipureintro; exact sum_read m c t h0 fs
    isplitl [HC HT HFree HB HBut]
    · isplitl [HC HT]
      · isplitl [HC]; · iexact HC
        iexact HT
      isplitl [HFree]; · iexact HFree
      isplitl [HB]; · iexact HB
      iexact HBut
    iexact Hg
  isplitl [HW']
  · iexists W'; isplitr; · ipureintro; exact fun _ _ => Or.inl trivial
    iexact HW'
  isplitr [H4]
  · isplitl [H0]; · iexact H0
    isplitl [H1]; · iexact H1
    isplitl [H2]; · iexact H2
    iexact H3
  iexact H4

theorem mid_read (h0 : ¬t.val % 8 = 0) (h7 : ¬t.val % 8 = 7) (f) :
    sM.view.read (Elt F) (sM.view.writes (Elt F) f (midSum c (ms1 t) (hs1 t) (ms2 t) (hs2 t) (iblk m c 1 t) (iblk m c 2 t)
      (kept m c (t.val - 1) (by omega)).1 (kept m c (t.val - 1) (by omega)).2)) = (kept m c t.val t.isLt).2 := by
  rw [kept_mid m c t h0 h7]; dsimp only; unfold sumMid
  exact View.read_writes_of_cover _ _ _ _ _ (mid_cover m c t _ _)
theorem mid_rows (h0 : ¬t.val % 8 = 0) (h7 : ¬t.val % 8 = 7) : (kept m c t.val t.isLt).1 = (kept m c (t.val - 1) (by omega)).1 := by
  rw [kept_mid m c t h0 h7]

set_option maxHeartbeats 1600000 in
/-- A middle block that starts no copy: the running sum grows. -/
theorem body_add (h0 : ¬t.val % 8 = 0) (h7 : ¬t.val % 8 = 7) (hn : ¬(t.val % 8 = 1 ∧ t.val / 8 < 63)) (P : sProp 𝕄) : BodyAt m c t P P := by
  have ht : t.val < 512 := Nat.lt_of_lt_of_eq t.isLt N_0
  have e0 := co0 t
  have e1 := co1 t
  have h1 : ¬k0_cond1 (grid0.coords t) = 1#1 := fun h => by have := (c1 _).mp h; omega
  have h3 : ¬k0_cond3 (grid0.coords t) = 1#1 := fun h => by have := (c3 _).mp h; omega
  have h4 : condM (grid0.coords t) := (cM _).mpr (by omega)
  have h5 : ¬k0_cond5 (grid0.coords t) = 1#1 := fun h => by have := (c5 _).mp h; omega
  unfold BodyAt inv
  rw [show scratch m c (t.val + 1) t.isLt = iprop(owns (c : Thread nD τ) aM fullShare (kept m c t.val t.isLt).1 ∗ owns (c : Thread nD τ) sM fullShare (kept m c t.val t.isLt).2) from rfl]
  rw [scratch_pos m c t.val _ (by omega), mid_rows m c t h0 h7]
  rw [show (t.val + 1) / 8 = t.val / 8 by omega, show (t.val + 1) % 8 = t.val % 8 + 1 by omega,
    ← ring_stay c _ h0 hn (by omega)]
  iintro ⟨⟨⟨HA, HS⟩, HR, Hg⟩, HW, ⟨H0, H1, H2, H3⟩, H4⟩
  iapply ((runD c (grid0.coords t) (ms0 t) (hs0 t) (ms1 t) (hs1 t) (ms2 t) (hs2 t) (ms3 t) (hs3 t) (ms4 t) (hs4 t) h1 h3 h4 h5
    (iblk m c 1 t) (iblk m c 2 t) (kept m c (t.val - 1) (by omega)).1 (kept m c (t.val - 1) (by omega)).2).2 _)
  isplitl [H1]; · iexact H1
  isplitl [H2]; · iexact H2
  isplitl [HA]; · iexact HA
  isplitl [HS]; · iexact HS
  iintro ⟨H1, H2, HA, ⟨%fs, HS⟩⟩
  isplitl [HA HS Hg HR]
  · isplitl [HA HS]
    · isplitl [HA]; · iexact HA
      unfold owns; iexists _; isplitr
      swap; · iexact HS
      ipureintro; rw [runD_sum]; exact mid_read m c t h0 h7 fs
    isplitl [HR]; · iexact HR
    iexact Hg
  isplitl [HW]; · iexact HW
  isplitr [H4]
  · isplitl [H0]; · iexact H0
    isplitl [H1]; · iexact H1
    isplitl [H2]; · iexact H2
    iexact H3
  iexact H4

set_option maxHeartbeats 1600000 in
/-- The second block of a tile but the last: the next tile's copy is started and the running sum grows. -/
theorem body_copy (h1j : t.val % 8 = 1) (hi : t.val / 8 < 63) (P : sProp 𝕄) : BodyAt m c t P P := by
  have h0 : ¬t.val % 8 = 0 := by omega
  have h7 : ¬t.val % 8 = 7 := by omega
  have ht : t.val < 512 := Nat.lt_of_lt_of_eq t.isLt N_0
  have e0 := co0 t
  have e1 := co1 t
  have h1 : ¬k0_cond1 (grid0.coords t) = 1#1 := fun h => by have := (c1 _).mp h; omega
  have h3 : k0_cond3 (grid0.coords t) = 1#1 := (c3 _).mpr (by omega)
  have h4 : condM (grid0.coords t) := (cM _).mpr (by omega)
  have h5 : ¬k0_cond5 (grid0.coords t) = 1#1 := fun h => by have := (c5 _).mp h; omega
  unfold BodyAt inv
  rw [show scratch m c (t.val + 1) t.isLt = iprop(owns (c : Thread nD τ) aM fullShare (kept m c t.val t.isLt).1 ∗ owns (c : Thread nD τ) sM fullShare (kept m c t.val t.isLt).2) from rfl]
  rw [scratch_pos m c t.val _ (by omega), mid_rows m c t h0 h7]
  rw [show (t.val + 1) / 8 = t.val / 8 by omega, show (t.val + 1) % 8 = 2 by omega, ← e0,
    ring_held c _ h0 (Or.inl h1j), ring_both c _ two_ne_zero (by omega), homes_take c _ (Ring.bk 64 ((grid0.coords t 0).val + 1))]
  iintro ⟨⟨⟨HA, HS⟩, ⟨HH, ⟨HC, HT⟩, HB, HBut⟩, Hg⟩, HW, ⟨H0, H1, H2, H3⟩, H4⟩
  iapply (runC c (V m c main_v4) (grid0.coords t) (ms0 t) (hs0 t) (ms1 t) (hs1 t) (ms2 t) (hs2 t) (ms3 t) (hs3 t) (ms4 t) (hs4 t) h1 h3 h4 h5
    (iblk m c 1 t) (iblk m c 2 t) (kept m c (t.val - 1) (by omega)).1 (kept m c (t.val - 1) (by omega)).2 _)
  isplitl [H1]; · iexact H1
  isplitl [H2]; · iexact H2
  isplitl [HA]; · iexact HA
  isplitl [HS]; · iexact HS
  isplitl [HC]; · iexact HC
  isplitl [HT]; · iexact HT
  isplitl [HB]; · iexact HB
  iintro ⟨H1, H2, HA, ⟨%fs, HS⟩, HF⟩
  isplitl [HA HS Hg HH HF HBut]
  · isplitl [HA HS]
    · isplitl [HA]; · iexact HA
      unfold owns; iexists _; isplitr
      swap; · iexact HS
      ipureintro; exact mid_read m c t h0 h7 fs
    isplitl [HH HF HBut]
    · isplitl [HH]; · iexact HH
      isplitl [HF]; · iexact HF
      iexact HBut
    iexact Hg
  isplitl [HW]; · iexact HW
  isplitr [H4]
  · isplitl [H0]; · iexact H0
    isplitl [H1]; · iexact H1
    isplitl [H2]; · iexact H2
    iexact H3
  iexact H4

theorem last_read (h7 : t.val % 8 = 7) (f) :
    (ms4 t).view.read (Elt F) ((ms4 t).view.writes (Elt F) f (lastOut c (V m c main_v4) (grid0.coords t) (ms1 t) (hs1 t) (ms2 t) (hs2 t) (ms3 t) (hs3 t)
      (h5_of t h7) (iblk m c 1 t) (iblk m c 2 t) (iblk m c 3 t) (kept m c (t.val - 1) (by omega)).1 (kept m c (t.val - 1) (by omega)).2)) = outAt m c t := by
  unfold outAt; rw [dif_pos h7]; unfold outLast
  exact View.read_writes_of_cover _ _ _ _ _ (last_cover m c t (h5_of t h7) _ _)

set_option maxHeartbeats 1600000 in
/-- The last block of a tile: the sum is completed, the tile's result stored, its slot free. -/
theorem body_last (h7 : t.val % 8 = 7) :
    BodyAt m c t iprop(∃ d, owns (c : Thread nD τ) (ms4 t) fullShare d) (owns (c : Thread nD τ) (ms4 t) fullShare (outAt m c t)) := by
  have ht : t.val < 512 := Nat.lt_of_lt_of_eq t.isLt N_0
  have e0 := co0 t
  have e1 := co1 t
  have h1 : ¬k0_cond1 (grid0.coords t) = 1#1 := fun h => by have := (c1 _).mp h; omega
  have h3 : ¬k0_cond3 (grid0.coords t) = 1#1 := fun h => by have := (c3 _).mp h; omega
  have h4 : ¬condM (grid0.coords t) := fun h => by have := (cM _).mp h; omega
  have h5 := h5_of t h7
  unfold BodyAt inv
  rw [show scratch m c (t.val + 1) t.isLt = iprop(owns (c : Thread nD τ) aM fullShare (kept m c t.val t.isLt).1 ∗ owns (c : Thread nD τ) sM fullShare (kept m c t.val t.isLt).2) from rfl]
  rw [scratch_pos m c t.val _ (by omega), kept_last m c t h7]
  have hR := ring_release c (V m c main_v4) (i := t.val / 8) (j := t.val % 8) (by omega) (by omega)
  obtain ⟨R, hring⟩ := ring_use c (V m c main_v4) (i := t.val / 8) (j := t.val % 8) (by omega)
  rw [hring, ← e0] at hR
  rw [show (t.val + 1) / 8 = t.val / 8 + 1 by omega, show (t.val + 1) % 8 = 0 by omega, hring, ← e0]
  iintro ⟨⟨⟨HA, HS⟩, ⟨⟨HC, HT⟩, HR⟩, Hg⟩, HW, ⟨H0, H1, H2, H3⟩, H4⟩
  iapply ((runE c (V m c main_v4) (grid0.coords t) (ms0 t) (hs0 t) (ms1 t) (hs1 t) (ms2 t) (hs2 t) (ms3 t) (hs3 t) (ms4 t) (hs4 t) h1 h3 h4 h5
    (iblk m c 1 t) (iblk m c 2 t) (iblk m c 3 t) (kept m c (t.val - 1) (by omega)).1 (kept m c (t.val - 1) (by omega)).2).2 _)
  isplitl [H1]; · iexact H1
  isplitl [H2]; · iexact H2
  isplitl [H3]; · iexact H3
  isplitl [H4]; · iexact H4
  isplitl [HA]; · iexact HA
  isplitl [HS]; · iexact HS
  isplitl [HT]; · iexact HT
  iintro ⟨H1, H2, H3, ⟨%f4, H4⟩, HA, HS, HT⟩
  isplitl [HA HS Hg HC HT HR]
  · isplitl [HA HS]
    · isplitl [HA]; · iexact HA
      iexact HS
    isplitl [HC HT HR]
    · iapply hR
      isplitl [HC HT]
      · isplitl [HC]; · iexact HC
        iexact HT
      iexact HR
    iexact Hg
  isplitl [HW]; · iexact HW
  isplitr [H4]
  · isplitl [H0]; · iexact H0
    isplitl [H1]; · iexact H1
    isplitl [H2]; · iexact H2
    iexact H3
  unfold owns; iexists _; isplitr
  swap; · iexact H4
  ipureintro; rw [runE_out]; exact last_read m c t h7 f4

end Cases

/-! ## The body at every point, the run and the frame -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- What any point leaves of the result's buffer is its idle or its stored form. -/
theorem body_any (c : Dev nD) (t : Fin cfg0.N) :
    BodyAt m c t iprop(∃ d, owns (c : Thread nD τ) (ms4 t) fullShare ((dats m 0 c).before 4 t d)) ((dats m 0 c).leavesExact 4 t) := by
  have ht : t.val < 512 := Nat.lt_of_lt_of_eq t.isLt N_0
  by_cases h7 : t.val % 8 = 7
  · rw [show (dats m 0 c).leavesExact 4 t = owns (c : Thread nD τ) (ms4 t) fullShare (outAt m c t) from by
      unfold Dat.leavesExact; rw [live4 t h7, after4]]
    refine triple_restated (body_last m c t h7) rfl ?_ fun _ => .rfl
    iintro ⟨HI, HW, HN, ⟨%d, H4⟩⟩
    isplitl [HI]; · iexact HI
    isplitl [HW]; · iexact HW
    isplitl [HN]; · iexact HN
    iexists _; iexact H4
  · rw [Dat.leavesExact_idle (dats m 0 c) 4 t (idle4 t h7) (keep4 t h7)]
    by_cases h0 : t.val % 8 = 0
    · by_cases hz : t.val = 0
      · exact body_start m c t hz _
      · exact body_wait m c t h0 hz _
    · by_cases hn : t.val % 8 = 1 ∧ t.val / 8 < 63
      · exact body_copy m c t hn.1 hn.2 _
      · exact body_add m c t h0 h7 hn _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    show (dats m 0 c).Φ t.succ = inv m c (t.val + 1) t.isLt from rfl,
    show (dats m 0 c).Φ t.castSucc = inv m c t.val (Nat.le_of_lt t.isLt) from rfl]
  rw [show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2],
    show (dats m 0 c).leavesExact 3 t = owns (c : Thread nD τ) (ms3 t) fullShare (iblk m c 3 t) from by
      unfold Dat.leavesExact; rw [show cfg0.idle 3 (grid0.coords t) = false from rfl, after3]]
  refine triple_restated (body_any m c t) rfl ?_ fun _ => ?_
  · iintro ⟨HI, HW, ⟨%d0, H0⟩, ⟨%d1, H1⟩, ⟨%d2, H2⟩, ⟨%d3, H3⟩, H4⟩
    isplitl [HI]; · iexact HI
    isplitl [HW]; · iexact HW
    isplitr [H4]
    · isplitl [H0]; · iexact H0
      isplitl [H1]; · iexact H1
      isplitl [H2]; · iexact H2
      iexact H3
    iexact H4
  · iintro ⟨HI, HW, ⟨H0, H1, H2, H3⟩, H4⟩
    isplitl [HI]; · iexact HI
    isplitl [HW]; · iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦD osem0 spec0 H0 (V m) c ⊢ (dats m 0 c).Φ 0 := by
  rw [show (dats m 0 c).Φ 0 = inv m c 0 (Nat.zero_le _) from rfl, PhiD_eq]
  unfold inv
  rw [show 0 / 8 = 0 from rfl, show 0 % 8 = 0 from rfl, ring_idle c _ rfl (Or.inl rfl)]
  unfold scratch
  iintro ⟨⟨HA, HS, HB⟩, Hg, ⟨HC0, HC1⟩, HH⟩
  ihave HB' := (buf_split c) $$ HB
  icases HB' with ⟨HT0, HT1⟩
  isplitl [HA HS]
  · isplitl [HA]; · iexact HA
    iexact HS
  isplitr [Hg]
  · isplitl [HC0 HT0]
    · isplitl [HC0]; · iexact HC0
      iexact HT0
    isplitl [HC1 HT1]
    · isplitl [HC1]; · iexact HC1
      iexact HT1
    iexact HH
  iexact Hg

/-- and takes it back after the last. -/
theorem hout (c : Dev nD) : (dats m 0 c).Φ (Fin.last cfg0.N) ⊢ Pipeline.ΦD osem0 spec0 H0 (V m) c := by
  rw [show (dats m 0 c).Φ (Fin.last cfg0.N) = inv m c cfg0.N (Nat.le_refl _) from rfl, PhiD_eq]
  unfold inv
  rw [show cfg0.N / 8 = 64 by rw [show cfg0.N = 512 from N_0], show cfg0.N % 8 = 0 by rw [show cfg0.N = 512 from N_0],
    ring_idle c _ rfl (Or.inr rfl)]
  iintro ⟨HSc, ⟨⟨HC0, HT0⟩, ⟨HC1, HT1⟩, HH⟩, Hg⟩
  ihave HSc' := (scratch_any m c _ _) $$ HSc
  icases HSc' with ⟨HA, HS⟩
  isplitl [HA HS HT0 HT1]
  · isplitl [HA]; · iexact HA
    isplitl [HS]; · iexact HS
    iapply (buf_join c)
    isplitl [HT0]; · iexact HT0
    iexact HT1
  isplitl [Hg]; · iexact Hg
  isplitl [HC0 HC1]
  · isplitl [HC0]; · iexact HC0
    iexact HC1
  iexact HH

theorem hmain_dma (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array at its final contents, every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain_dma m Variants.none) (hA := A_eq m)
    (hin := hin m) (hout := hout m)

/-- What the run leaves in the arguments: what they held. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

/-- The same run with the result array named. -/
theorem run_array : θ_run defs (onTc (τ := τ) (main (F := F))) ⟨m, fun _ => 0, ρ⟩ (fun r => ∀ c : Dev nD,
      r.2.mem ((c.tc : Thread nD τ).loc main_v9) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, args_kept m r h.1 c⟩) (run_main m ρ)

end Cert.Kernel2Ideal.Mlp

end
-- ==== Proof.MlpSpec.lean ====
/-
  The MLP of the layer on one row of 2048 numbers, over the extended reals: the row scaled by its root mean square, taken up to
  8192 hidden numbers, cut at zero, squared, taken down, scaled again and added to the row.
-/
module

public import Idealize.ShloMosaic.Lib.Pointwise
public import Idealize.ShloMosaic.Lib.Pipeline.ValueKit.Acc

@[expose] public section

noncomputable section

namespace Cert.Mlp

open Idealize.ShloMosaic

abbrev Row := Fin 2048 → EReal

/-- One over a row's root mean square. -/
def scale (x : Row) : EReal :=
  FloatOps.rsqrt (F := Ideal) (φ := .f32)
    (Ideal.div (∑ k, x k * x k) (Ideal.ofBits .f32 0x45000000#32) + Ideal.ofBits .f32 0x358637BD#32)

/-- A row scaled, with its gains. -/
def normed (x g : Row) (k : Fin 2048) : EReal := x k * scale x * g k

/-- One hidden number, cut at zero and squared. -/
def hid (a w : Row) : EReal := max (∑ d, a d * w d) 0 * max (∑ d, a d * w d) 0

/-- The terms of a block of `n` hidden numbers. -/
def part {n : ℕ} (a : Row) (wu : Fin 2048 → Fin n → EReal) (wd : Fin n → Fin 2048 → EReal) (e : Fin 2048) : EReal :=
  ∑ k, hid a (fun d => wu d k) * wd k e

/-- The row's result. -/
def result (x g1 : Row) (wu : Fin 2048 → Fin 8192 → EReal) (wd : Fin 8192 → Fin 2048 → EReal) (g2 : Row) (e : Fin 2048) : EReal :=
  x e + normed (part (normed x g1) wu wd) g2 e

/-- Block `j` of 1024 of the hidden numbers. -/
def at1024 (j : ℕ) (hj : j < 8) (k : Fin 1024) : Fin 8192 := ⟨j * 1024 + k.val, by have := k.isLt; omega⟩

/-- The sum of the first `n` blocks' terms. -/
def upto (a : Row) (wu : Fin 2048 → Fin 8192 → EReal) (wd : Fin 8192 → Fin 2048 → EReal) (e : Fin 2048) (n : ℕ) : EReal :=
  ∑ j ∈ Finset.range n, if hj : j < 8 then part a (fun d k => wu d (at1024 j hj k)) (fun k => wd (at1024 j hj k)) e else 0

theorem upto_succ (a : Row) (wu : Fin 2048 → Fin 8192 → EReal) (wd : Fin 8192 → Fin 2048 → EReal) (e : Fin 2048) (n : ℕ) (hn : n < 8) :
    upto a wu wd e (n + 1) = upto a wu wd e n + part a (fun d k => wu d (at1024 n hn k)) (fun k => wd (at1024 n hn k)) e := by
  unfold upto
  rw [Finset.sum_range_succ, dif_pos hn]

theorem upto_one (a : Row) (wu : Fin 2048 → Fin 8192 → EReal) (wd : Fin 8192 → Fin 2048 → EReal) (e : Fin 2048) :
    upto a wu wd e 1 = part a (fun d k => wu d (at1024 0 (by norm_num) k)) (fun k => wd (at1024 0 (by norm_num) k)) e := by
  rw [upto_succ _ _ _ _ 0 (by norm_num)]
  exact zero_add _

/-- All eight blocks are all the hidden numbers. -/
theorem upto_eight (a : Row) (wu : Fin 2048 → Fin 8192 → EReal) (wd : Fin 8192 → Fin 2048 → EReal) (e : Fin 2048) :
    upto a wu wd e 8 = part a wu wd e := by
  unfold upto
  rw [Finset.sum_range]
  refine (Finset.sum_congr rfl fun j _ => dif_pos j.isLt).trans ?_
  exact Fin.sum_mul_add_congr fun s k hl => rfl

end Cert.Mlp

end
-- ==== Proof.MlpTile.lean ====
/-
  The MLP kernel's arithmetic on a tile, at the ideal instance: the scaling of half a tile's rows, and the terms of a block of
  hidden numbers for half a tile and for a whole one, each read at an index.
-/
module

public import proofs.«01_k».proof.Proof.MlpRun
public import proofs.«01_k».proof.Proof.MlpSpec
public import Idealize.ShloMosaic.Lib.Pointwise

@[expose] public section

set_option maxRecDepth 8192

noncomputable section

namespace Cert.Kernel2Ideal.Mlp

open Idealize.ShloMosaic Idealize.ShloMosaic.TcCoe
open Cert.Kernel2Ideal Cert.Kernel2Ideal.Gen

section Any

variable {F : FTy → Type} [FloatOps F]

/-- Half a tile's rows scaled, with their gains. -/
def scaled (x : FVec F S256x2048 .f32) (g : FVec F S1x2048 .f32) : FVec F S256x2048 .f32 :=
  mulf
    (mulf x
      (broadcastTo S256x2048
        (rsqrt
          (addf
            (divf
              (shapeCast S256x1
                (multiReduction .add [1] S256 (mulf x x) 0x00000000#32 reduces_S256x2048_S256 (.inl rfl) rfl)
                shapeCasts_S256_S256x1)
              (broadcast S256x1 (Scalar.ofBits .f32 0x45000000#32)))
            (broadcast S256x1 (Scalar.ofBits .f32 0x358637BD#32))))
        broadcasts_S256x1_S256x2048))
    (broadcastTo S256x2048 g broadcasts_S1x2048_S256x2048)

/-- A block's terms for half a tile. -/
def halfTerms (a : FVec F S256x2048 .bf16) (wu : FVec F S2048x1024 .bf16) (wd : FVec F S1024x2048 .bf16) : FVec F S256x2048 .f32 :=
  have u := maximumf (matmul dot_S256x2048_S2048x1024_S256x1024_1_0_0_1_n_n none a wu (constant S256x1024 .f32 0x00000000#32))
    (broadcast S256x1024 (Scalar.ofBits .f32 0x00000000#32))
  matmul dot_S256x1024_S1024x2048_S256x2048_1_0_0_1_n_n none (truncf .bf16 (mulf u u) bitsLt_bf16_f32) wd (constant S256x2048 .f32 0x00000000#32)

/-- A block's terms for a whole tile. -/
def tileTerms (a : FVec F S512x2048 .bf16) (wu : FVec F S2048x1024 .bf16) (wd : FVec F S1024x2048 .bf16) : FVec F S512x2048 .f32 :=
  have u := maximumf (matmul dot_S512x2048_S2048x1024_S512x1024_1_0_0_1_n_n none a wu (constant S512x1024 .f32 0x00000000#32))
    (broadcast S512x1024 (Scalar.ofBits .f32 0x00000000#32))
  matmul dot_S512x1024_S1024x2048_S512x2048_1_0_0_1_n_n none (truncf .bf16 (mulf u u) bitsLt_bf16_f32) wd (constant S512x2048 .f32 0x00000000#32)

end Any

theorem scaled_at (x : S256x2048.Idx → EReal) (g : S1x2048.Idx → EReal) (r : Fin 256) (k : Fin 2048) :
    (scaled (F := Ideal) x g : S256x2048.Idx → EReal) (ix2 r k) = Cert.Mlp.normed (fun k => x (ix2 r k)) (fun k => g (ix2 0 k)) k := by
  pointwise [scaled, Cert.Mlp.normed, Cert.Mlp.scale]

theorem halfTerms_at (a : S256x2048.Idx → EReal) (wu : S2048x1024.Idx → EReal) (wd : S1024x2048.Idx → EReal) (r : Fin 256) (e : Fin 2048) :
    (halfTerms (F := Ideal) a wu wd : S256x2048.Idx → EReal) (ix2 r e)
      = Cert.Mlp.part (fun d => a (ix2 r d)) (fun d k => wu (ix2 d k)) (fun k e => wd (ix2 k e)) e := by
  pointwise [halfTerms, Cert.Mlp.part, Cert.Mlp.hid]

theorem tileTerms_at (a : S512x2048.Idx → EReal) (wu : S2048x1024.Idx → EReal) (wd : S1024x2048.Idx → EReal) (r : Fin 512) (e : Fin 2048) :
    (tileTerms (F := Ideal) a wu wd : S512x2048.Idx → EReal) (ix2 r e)
      = Cert.Mlp.part (fun d => a (ix2 r d)) (fun d k => wu (ix2 d k)) (fun k e => wd (ix2 k e)) e := by
  pointwise [tileTerms, Cert.Mlp.part, Cert.Mlp.hid]

end Cert.Kernel2Ideal.Mlp

end
-- ==== Proof.MlpPieces.lean ====
/-
  What the MLP kernel stores, in closed form: each stored piece is one of the tile's functions (`Proof/MlpTile.lean`) of the rows
  that the copy delivered and of the blocks in the windows.
-/
module

public import proofs.«01_k».proof.Proof.MlpTile
public import Idealize.ShloMosaic.Lib.VecWindow
public import Idealize.ShloMosaic.Lib.WritesUnit
public import Idealize.ShloMosaic.Lib.Pipeline.FrameBody
public import Idealize.ShloMosaic.Lib.Pipeline.Frame

@[expose] public section

set_option maxRecDepth 8192

noncomputable section

namespace Cert.Kernel2Ideal.Mlp

open Idealize.ShloMosaic Idealize.ShloMosaic.TcCoe
open Cert.Kernel2Ideal Cert.Kernel2Ideal.Gen

section Any

variable {F : FTy → Type} [FloatOps F]

/-- The 256 rows of a tile from row `o`. -/
def halfOf {α : Type} (o : ℕ) (ho : o ≤ 256) (P : S512x2048.Idx → α) : S256x2048.Idx → α :=
  fun y => P (ix2 ⟨o + (y 0).val, by have h : (y 0).val < 256 := (y 0).isLt; omega⟩ (y 1))

/-- A buffer held whole, loaded whole. -/
theorem load_all {sp : Space} {s : Shape} {e : EltTy} (arg : Memref sig .tc sp s e) (harg : arg.IsWhole) (x : s.Idx → Elt F e)
    {off : Fin s.rank → ℕ} (inb : ∀ a, off a + s.size a ≤ s.size a) (hs : s.ShapeCasts s) :
    shapeCast s (arg.view.readAt (Elt F) (Rect.unit off s.size inb).toLoadRect (harg.unread x)) hs = x := by
  rw [View.readAt_full, harg.read_unread]
  exact shapeCast_self _ _

theorem load_whole {e : EltTy} (arg : Memref sig .tc .vmem S512x2048 e) (harg : arg.IsWhole) (x : S512x2048.Idx → Elt F e)
    (inb : ∀ a, (![0, 0] : Fin 2 → ℕ) a + S512x2048.size a ≤ S512x2048.size a) :
    (arg.view.readAt (Elt F) (Rect.unit (s := S512x2048) ![0, 0] S512x2048.size inb).toLoadRect (harg.unread x) : S512x2048.Idx → Elt F e) = x := by
  rw [View.readAt_full, harg.read_unread]

/-- A tile's buffer, half of it loaded. -/
theorem load_half {e : EltTy} (arg : Memref sig .tc .vmem S512x2048 e) (harg : arg.IsWhole) (x : S512x2048.Idx → Elt F e)
    (o : ℕ) (ho : o ≤ 256) (inb : ∀ a, (![o, 0] : Fin 2 → ℕ) a + S256x2048.size a ≤ S512x2048.size a) :
    (arg.view.readAt (Elt F) (Rect.unit (s := S512x2048) ![o, 0] S256x2048.size inb).toLoadRect (harg.unread x) : S256x2048.Idx → Elt F e)
      = halfOf o ho x := by
  funext y
  refine (congrFun (View.readAt_eq_ld arg.view (harg.unread x) _) y).trans ?_
  rw [harg.read_unread]
  refine congrArg x (funext fun a => Fin.ext ?_)
  match a with
  | ⟨0, _⟩ => show o + 1 * (y 0).val = o + (y 0).val; omega
  | ⟨1, _⟩ => show 0 + 1 * (y 1).val = (y 1).val; omega

theorem drop_half {α : Type} (z : S1x256x2048.Idx → α) (r : Fin 256) (k : Fin 2048) :
    shapeCast S256x2048 z shapeCasts_S1x256x2048_S256x2048 (ix2 r k) = z (ix3 0 r k) := by
  pointwise
theorem drop_slot {α : Type} (z : S1x512x2048.Idx → α) (h : S1x512x2048.ShapeCasts S512x2048) (r : Fin 512) (k : Fin 2048) :
    shapeCast S512x2048 z h (ix2 r k) = z (ix3 0 r k) := by
  pointwise

/-- A slot's rows lie in the buffer at the slot's number. -/
theorem slot_read (buf : Memref sig .tc .vmem S2x512x2048 .f32) (s : Fin 2) (f : buf.view.ty.Contents (Elt F)) (r : Fin 512) (k : Fin 2048) :
    ((buf.slice (Rect.unit (s := S2x512x2048) (slotOff s) S1x512x2048.size (slotOff_inb s)) (fun _ => rfl)).squeeze S512x2048
      squeezes_S1x512x2048_S512x2048).view.read (Elt F) f (ix2 r k) = buf.view.read (Elt F) f (ix3 s r k) := by
  refine (congrFun (Memref.read_squeeze_slice buf _ _ _ (Shape.Squeezes.numel_eq squeezes_S1x512x2048_S512x2048) f) (ix2 r k)).trans ?_
  refine (drop_slot _ _ r k).trans ?_
  rw [View.readAt_eq_ld]
  refine congrArg (buf.view.read (Elt F) f) (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

/-- Half a slot, loaded from the buffer. -/
theorem load_slot (buf : Memref sig .tc .vmem S2x512x2048 .f32) (s : Fin 2) (P : S512x2048.Idx → Elt F .f32) (f : buf.view.ty.Contents (Elt F))
    (hf : ∀ r k, buf.view.read (Elt F) f (ix3 s r k) = P (ix2 r k)) (o : ℕ) (ho : o ≤ 256) {off : Fin 3 → ℕ} (hoff : off = ![s.val, o, 0])
    (inb : ∀ a, off a + S1x256x2048.size a ≤ S2x512x2048.size a) :
    shapeCast S256x2048 (buf.view.readAt (Elt F) (Rect.unit (s := S2x512x2048) off S1x256x2048.size inb).toLoadRect f)
      shapeCasts_S1x256x2048_S256x2048 = halfOf o ho P := by
  subst hoff
  funext (y : S256x2048.Idx)
  rw [eq_ix2 y]
  refine (drop_half _ (y 0) (y 1)).trans ?_
  rw [View.readAt_eq_ld]
  refine Eq.trans (congrArg (buf.view.read (Elt F) f) (funext fun a => Fin.ext ?_)) (hf _ _)
  match a with
  | ⟨0, _⟩ => show s.val + 1 * 0 = s.val; omega
  | ⟨1, _⟩ => show o + 1 * (y 0).val = o + (y 0).val; omega
  | ⟨2, _⟩ => show 0 + 1 * (y 1).val = (y 1).val; omega

/-- Half a slot, loaded after the copy of a tile into it. -/
theorem load_copied (s : Fin 2) (P : S512x2048.Idx → Elt F .f32) (o : ℕ) (ho : o ≤ 256) {off : Fin 3 → ℕ} (hoff : off = ![s.val, o, 0])
    (inb : ∀ a, off a + S1x256x2048.size a ≤ S2x512x2048.size a) :
    shapeCast S256x2048 (bufM.view.readAt (Elt F) (Rect.unit (s := S2x512x2048) off S1x256x2048.size inb).toLoadRect
      ((rslot s).view.writes (Elt F) (rslot s).view.junk [⟨Rect.whole S512x2048, P⟩])) shapeCasts_S1x256x2048_S256x2048 = halfOf o ho P :=
  load_slot bufM s P _ (fun r k => (slot_read bufM s _ r k).symm.trans
    (congrFun (View.read_writes_whole (rslot s).view (rslot s).view.junk P) (ix2 r k))) o ho hoff inb

theorem tileTerms_congr {a a' : FVec F S512x2048 .bf16} {u u' : FVec F S2048x1024 .bf16} {d d' : FVec F S1024x2048 .bf16}
    (ha : a = a') (hu : u = u') (hd : d = d') : tileTerms a u d = tileTerms a' u' d' := by subst ha hu hd; rfl

theorem out_congr {r r' s s' : FVec F S256x2048 .f32} {a a' : FVec F S256x2048 .bf16} {u u' : FVec F S2048x1024 .bf16}
    {d d' : FVec F S1024x2048 .bf16} {g g' : FVec F S1x2048 .f32} (hr : r = r') (hs : s = s') (ha : a = a') (hu : u = u') (hd : d = d')
    (hg : g = g') : addf r (scaled (addf s (halfTerms a u d)) g) = addf r' (scaled (addf s' (halfTerms a' u' d')) g') := by
  subst hr hs ha hu hd hg; rfl

section Pieces

variable (c : Dev nD) (H : Buf (Elt F) (hM.view.loc (c : Thread nD τ))) (i : grid0.Coords)
  (arg3 : Memref sig .tc .vmem S1x2048 .f32) (harg3 : arg3.IsWhole) (arg4 : Memref sig .tc .vmem S2048x1024 .bf16) (harg4 : arg4.IsWhole)
  (arg5 : Memref sig .tc .vmem S1024x2048 .bf16) (harg5 : arg5.IsWhole) (arg6 : Memref sig .tc .vmem S1x2048 .f32) (harg6 : arg6.IsWhole)
  (h1 : k0_cond1 i = 1#1) (h5 : k0_cond5 i = 1#1)
  (x0 : Vec F S1x2048 .f32) (x1 : Vec F S2048x1024 .bf16) (x2 : Vec F S1024x2048 .bf16) (x3 : Vec F S1x2048 .f32)
  (xa : Vec F S512x2048 .bf16) (xs : Vec F S512x2048 .f32)

/-- The rows of half a tile, scaled and rounded. -/
def halfRows (o : ℕ) (ho : o ≤ 256) : FVec F S256x2048 .bf16 :=
  truncf .bf16 (scaled (halfOf o ho (rows c H (Ring.bk 64 (i 0).val))) x0) bitsLt_bf16_f32

theorem rows_lower : runB.sl.v75 c H i arg3 harg3 h1 x0 = halfRows c H i x0 0 (by norm_num) := by
  have e : runB.sl.v57 c H i h1 = halfOf 0 (by norm_num) (rows c H (Ring.bk 64 (i 0).val)) := load_copied _ _ 0 _ (off7_eq i) _
  have g : runB.sl.v59 c arg3 harg3 x0 = x0 := load_all arg3 harg3 x0 _ _
  refine (shapeCast_self _ _).trans ?_
  show truncf .bf16 (scaled (runB.sl.v57 c H i h1) (runB.sl.v59 c arg3 harg3 x0)) _ = _
  rw [e, g]
  rfl

theorem rows_upper : runB.sl.v110 c H i arg3 harg3 h1 x0 = halfRows c H i x0 256 (by norm_num) := by
  have e : runB.sl.v92 c H i h1 = halfOf 256 (by norm_num) (rows c H (Ring.bk 64 (i 0).val)) := load_copied _ _ 256 _ (off8_eq i) _
  have g : runB.sl.v59 c arg3 harg3 x0 = x0 := load_all arg3 harg3 x0 _ _
  refine (shapeCast_self _ _).trans ?_
  show truncf .bf16 (scaled (runB.sl.v92 c H i h1) (runB.sl.v59 c arg3 harg3 x0)) _ = _
  rw [e, g]
  rfl

theorem sum_lower : runB.sl.v89 c H i arg3 harg3 arg4 harg4 arg5 harg5 h1 x0 x1 x2 = halfTerms (halfRows c H i x0 0 (by norm_num)) x1 x2 := by
  have a : runB.sl.v76 c H i arg3 harg3 h1 x0 = halfRows c H i x0 0 (by norm_num) :=
    (View.readCov_cons_toLoadRect aM.view _ _ _).trans (rows_lower c H i arg3 harg3 h1 x0)
  have u : runB.sl.v78 c arg4 harg4 x1 = x1 := load_all arg4 harg4 x1 _ _
  have d : runB.sl.v85 c arg5 harg5 x2 = x2 := load_all arg5 harg5 x2 _ _
  refine (shapeCast_self _ _).trans ?_
  show halfTerms (runB.sl.v76 c H i arg3 harg3 h1 x0) (runB.sl.v78 c arg4 harg4 x1) (runB.sl.v85 c arg5 harg5 x2) = _
  rw [a, u, d]

theorem sum_upper : runB.sl.v124 c H i arg3 harg3 arg4 harg4 arg5 harg5 h1 x0 x1 x2 = halfTerms (halfRows c H i x0 256 (by norm_num)) x1 x2 := by
  have a : runB.sl.v111 c H i arg3 harg3 h1 x0 = halfRows c H i x0 256 (by norm_num) :=
    (View.readCov_cons_toLoadRect aM.view _ _ _).trans (rows_upper c H i arg3 harg3 h1 x0)
  have u : runB.sl.v78 c arg4 harg4 x1 = x1 := load_all arg4 harg4 x1 _ _
  have d : runB.sl.v85 c arg5 harg5 x2 = x2 := load_all arg5 harg5 x2 _ _
  refine (shapeCast_self _ _).trans ?_
  show halfTerms (runB.sl.v111 c H i arg3 harg3 h1 x0) (runB.sl.v78 c arg4 harg4 x1) (runB.sl.v85 c arg5 harg5 x2) = _
  rw [a, u, d]

theorem sum_middle : runD.sl.v41 c arg4 harg4 arg5 harg5 x1 x2 xa xs = addf xs (tileTerms xa x1 x2) := by
  have u : runD.sl.v29 c arg4 harg4 x1 = x1 := load_all arg4 harg4 x1 _ _
  have d : runD.sl.v36 c arg5 harg5 x2 = x2 := load_all arg5 harg5 x2 _ _
  refine (shapeCast_self _ _).trans ?_
  exact congrArg₂ addf (load_whole sM (Memref.isWhole_whole cc0_scratch1) xs inb_S512x2048_S512x2048_0_0)
    (tileTerms_congr (load_whole aM (Memref.isWhole_whole cc0_scratch0) xa inb_S512x2048_S512x2048_0_0) u d)

/-- Half a tile's result. -/
def halfOut (o : ℕ) (ho : o ≤ 256) : FVec F S256x2048 .f32 :=
  addf (halfOf o ho (rows c H (Ring.bk 64 (i 0).val))) (scaled (addf (halfOf o ho xs) (halfTerms (halfOf o ho xa) x1 x2)) x3)

theorem out_lower : runE.sl.v56 c H i arg4 harg4 arg5 harg5 arg6 harg6 h5 x1 x2 x3 xa xs = halfOut c H i x1 x2 x3 xa xs 0 (by norm_num) := by
  have e : runE.sl.v41 c H i h5 = halfOf 0 (by norm_num) (rows c H (Ring.bk 64 (i 0).val)) := load_copied _ _ 0 _ (off12_eq i) _
  have g : runE.sl.v43 c arg6 harg6 x3 = x3 := load_all arg6 harg6 x3 _ _
  have u : runE.sl.v29 c arg4 harg4 x1 = x1 := load_all arg4 harg4 x1 _ _
  have d : runE.sl.v36 c arg5 harg5 x2 = x2 := load_all arg5 harg5 x2 _ _
  exact out_congr e (load_half sM (Memref.isWhole_whole cc0_scratch1) xs 0 (by norm_num) inb_S512x2048_S256x2048_0_0)
    (load_half aM (Memref.isWhole_whole cc0_scratch0) xa 0 (by norm_num) inb_S512x2048_S256x2048_0_0) u d g

theorem out_upper : runE.sl.v88 c H i arg4 harg4 arg5 harg5 arg6 harg6 h5 x1 x2 x3 xa xs = halfOut c H i x1 x2 x3 xa xs 256 (by norm_num) := by
  have e : runE.sl.v73 c H i h5 = halfOf 256 (by norm_num) (rows c H (Ring.bk 64 (i 0).val)) := load_copied _ _ 256 _ (off13_eq i) _
  have g : runE.sl.v43 c arg6 harg6 x3 = x3 := load_all arg6 harg6 x3 _ _
  have u : runE.sl.v29 c arg4 harg4 x1 = x1 := load_all arg4 harg4 x1 _ _
  have d : runE.sl.v36 c arg5 harg5 x2 = x2 := load_all arg5 harg5 x2 _ _
  exact out_congr e (load_half sM (Memref.isWhole_whole cc0_scratch1) xs 256 (by norm_num) inb_S512x2048_S256x2048_256_0)
    (load_half aM (Memref.isWhole_whole cc0_scratch0) xa 256 (by norm_num) inb_S512x2048_S256x2048_256_0) u d g

end Pieces

/-- Two halves written one after the other are read together. -/
theorem two_halves {e : EltTy} {sp : Space} (v : View sig .tc sp S512x2048 e) (f : v.ty.Contents (Elt F)) (w0 w1 : S256x2048.Idx → Elt F e)
    (G : Fin 512 → Fin 2048 → Elt F e) (inb0 : ∀ a, (![0, 0] : Fin 2 → ℕ) a + S256x2048.size a ≤ S512x2048.size a)
    (inb1 : ∀ a, (![256, 0] : Fin 2 → ℕ) a + S256x2048.size a ≤ S512x2048.size a)
    (h0 : ∀ (r : Fin 256) k, w0 (ix2 r k) = G ⟨0 + r.val, by omega⟩ k) (h1 : ∀ (r : Fin 256) k, w1 (ix2 r k) = G ⟨256 + r.val, by omega⟩ k)
    (r : Fin 512) (k : Fin 2048) :
    v.read (Elt F) (v.writes (Elt F) f [⟨Rect.unit (s := S512x2048) ![256, 0] S256x2048.size inb1, w1⟩,
      ⟨Rect.unit (s := S512x2048) ![0, 0] S256x2048.size inb0, w0⟩]) (ix2 r k) = G r k := by
  by_cases hr : r.val < 256
  · refine (View.read_writes_cons_rows_of_not_mem v f inb1 w1 _ (ix2 r k) rfl rfl (.inl hr)).trans ?_
    refine (View.read_writes_cons_rows_of_mem v f inb0 w0 [] (ix2 r k) (ix2 ⟨r.val, hr⟩ k : S256x2048.Idx) rfl (Nat.zero_add _).symm rfl).trans ?_
    exact (h0 ⟨r.val, hr⟩ k).trans (congrArg (fun a => G a k) (Fin.ext (Nat.zero_add _)))
  · have hr' := r.isLt
    refine (View.read_writes_cons_rows_of_mem v f inb1 w1 _ (ix2 r k) (ix2 ⟨r.val - 256, by omega⟩ k : S256x2048.Idx) rfl
      (by show r.val = 256 + (r.val - 256); omega) rfl).trans ?_
    exact (h1 ⟨r.val - 256, by omega⟩ k).trans (congrArg (fun a => G a k) (Fin.ext (by show 256 + (r.val - 256) = r.val; omega)))

end Any

end Cert.Kernel2Ideal.Mlp

end
-- ==== Proof.MlpValue.lean ====
/-
  The MLP kernel's result, entry by entry, at the ideal instance: the rows and the blocks that each grid point finds, what a
  tile's eight points keep, and the result array.
-/
module

public import proofs.«01_k».proof.Proof.MlpFrame
public import proofs.«01_k».proof.Proof.MlpPieces
public import Idealize.ShloMosaic.Lib.StableHlo.ReadAt

@[expose] public section

set_option maxRecDepth 8192

noncomputable section

namespace Cert.Kernel2Ideal.Mlp

open Idealize.ShloMosaic Idealize.ShloMosaic.TcCoe Idealize.ShloMosaic.StableHlo
open Cert.Kernel2Ideal Cert.Kernel2Ideal.Gen

variable (m : (ℓ : Loc nD τ sig) → Buf (Elt Ideal) ℓ) (c : Dev nD)

def xIn : S4x8192x2048.Idx → EReal := m ((c.tc : Thread nD τ).loc main_arg0)
def gainIn : S1x2048.Idx → EReal := m ((c.tc : Thread nD τ).loc main_arg1)
def wUp : S1x2048x8192.Idx → EReal := m ((c.tc : Thread nD τ).loc main_arg2)
def wDown : S1x8192x2048.Idx → EReal := m ((c.tc : Thread nD τ).loc main_arg3)
def gainOut : S1x2048.Idx → EReal := m ((c.tc : Thread nD τ).loc main_arg4)

/-! ### The arrays the launch finds -/

theorem arr_rows (r : Fin 32768) (k : Fin 2048) :
    (V m c main_v4 : S32768x2048.Idx → EReal) (ix2 r k) = xIn m c (ix3 ⟨r.val / 8192, by omega⟩ ⟨r.val % 8192, by omega⟩ k) := by
  unfold V
  after_reads_at
  rfl
theorem arr_gainIn (k : Fin 2048) : (V m c main_v6 : S1x2048.Idx → EReal) (ix2 0 k) = gainIn m c (ix2 0 k) := by
  unfold V
  after_reads_at
  rfl
theorem arr_gainOut (k : Fin 2048) : (V m c main_v8 : S1x2048.Idx → EReal) (ix2 0 k) = gainOut m c (ix2 0 k) := by
  unfold V
  after_reads_at
  rfl
theorem arr_up (d : Fin 2048) (k : Fin 8192) : (V m c main_v1 : S2048x8192.Idx → EReal) (ix2 d k) = wUp m c (ix3 0 d k) := by
  unfold V
  after_reads_at
  rfl
theorem arr_down (k : Fin 8192) (e : Fin 2048) : (V m c main_v3 : S8192x2048.Idx → EReal) (ix2 k e) = wDown m c (ix3 0 k e) := by
  unfold V
  after_reads_at
  rfl

/-! ### What a grid point finds -/

theorem lt_N (t : Fin cfg0.N) : t.val < 512 := lt_of_lt_of_eq t.isLt (show cfg0.N = 512 from N_0)

theorem index1 : ∀ t : Fin cfg0.N, win0_1.index t 0 = 0 ∧ win0_1.index t 1 = t.val % 8 :=
  (by decide +kernel : ∀ t : Fin grid0.N, _)
theorem index2 : ∀ t : Fin cfg0.N, win0_2.index t 0 = t.val % 8 ∧ win0_2.index t 1 = 0 :=
  (by decide +kernel : ∀ t : Fin grid0.N, _)
theorem index4 : ∀ t : Fin cfg0.N, win0_4.index t 0 = t.val / 8 ∧ win0_4.index t 1 = 0 :=
  (by decide +kernel : ∀ t : Fin grid0.N, _)
theorem index0 : ∀ t : Fin cfg0.N, win0_0.index t 0 = 0 ∧ win0_0.index t 1 = 0 :=
  (by decide +kernel : ∀ t : Fin grid0.N, _)
theorem index3 : ∀ t : Fin cfg0.N, win0_3.index t 0 = 0 ∧ win0_3.index t 1 = 0 :=
  (by decide +kernel : ∀ t : Fin grid0.N, _)

theorem block_gainIn (t : Fin cfg0.N) (k : Fin 2048) : (iblk m c 0 t : S1x2048.Idx → EReal) (ix2 0 k) = gainIn m c (ix2 0 k) := by
  obtain ⟨h0, h1⟩ := index0 t
  refine Eq.trans (congrArg (V m c main_v6 : S1x2048.Idx → EReal) (funext fun a => Fin.ext ?_)) (arr_gainIn m c k)
  match a with
  | ⟨0, _⟩ => show win0_0.index t 0 * 1 + 1 * 0 = 0; omega
  | ⟨1, _⟩ => show win0_0.index t 1 * 2048 + 1 * k.val = k.val; omega
theorem block_gainOut (t : Fin cfg0.N) (k : Fin 2048) : (iblk m c 3 t : S1x2048.Idx → EReal) (ix2 0 k) = gainOut m c (ix2 0 k) := by
  obtain ⟨h0, h1⟩ := index3 t
  refine Eq.trans (congrArg (V m c main_v8 : S1x2048.Idx → EReal) (funext fun a => Fin.ext ?_)) (arr_gainOut m c k)
  match a with
  | ⟨0, _⟩ => show win0_3.index t 0 * 1 + 1 * 0 = 0; omega
  | ⟨1, _⟩ => show win0_3.index t 1 * 2048 + 1 * k.val = k.val; omega
theorem block_up (t : Fin cfg0.N) (d : Fin 2048) (k : Fin 1024) :
    (iblk m c 1 t : S2048x1024.Idx → EReal) (ix2 d k) = wUp m c (ix3 0 d (Cert.Mlp.at1024 (t.val % 8) (Nat.mod_lt _ (by norm_num)) k)) := by
  obtain ⟨h0, h1⟩ := index1 t
  refine Eq.trans (congrArg (V m c main_v1 : S2048x8192.Idx → EReal) (funext fun a => Fin.ext ?_)) (arr_up m c d _)
  match a with
  | ⟨0, _⟩ => show win0_1.index t 0 * 2048 + 1 * d.val = d.val; omega
  | ⟨1, _⟩ => show win0_1.index t 1 * 1024 + 1 * k.val = t.val % 8 * 1024 + k.val; omega
theorem block_down (t : Fin cfg0.N) (k : Fin 1024) (e : Fin 2048) :
    (iblk m c 2 t : S1024x2048.Idx → EReal) (ix2 k e) = wDown m c (ix3 0 (Cert.Mlp.at1024 (t.val % 8) (Nat.mod_lt _ (by norm_num)) k) e) := by
  obtain ⟨h0, h1⟩ := index2 t
  refine Eq.trans (congrArg (V m c main_v3 : S8192x2048.Idx → EReal) (funext fun a => Fin.ext ?_)) (arr_down m c _ e)
  match a with
  | ⟨0, _⟩ => show win0_2.index t 0 * 1024 + 1 * k.val = t.val % 8 * 1024 + k.val; omega
  | ⟨1, _⟩ => show win0_2.index t 1 * 2048 + 1 * e.val = e.val; omega

/-- Row `r` of all the rows, one sequence after the other. -/
def rowAt (r : Fin 32768) : Cert.Mlp.Row := fun k => xIn m c (ix3 ⟨r.val / 8192, by omega⟩ ⟨r.val % 8192, by omega⟩ k)
/-- Row `r` of point `t`'s tile. -/
def tileRow (t : Fin cfg0.N) (r : Fin 512) : Fin 32768 := ⟨512 * (t.val / 8) + r.val, by have := lt_N t; omega⟩

theorem rows_at (t : Fin cfg0.N) (r : Fin 512) (k : Fin 2048) :
    (rows c (V m c main_v4) (Ring.bk 64 (grid0.coords t 0).val) : S512x2048.Idx → EReal) (ix2 r k) = rowAt m c (tileRow t r) k := by
  have hb : (Ring.bk 64 (grid0.coords t 0).val).val = t.val / 8 := by
    have := lt_N t
    rw [co0]; show t.val / 8 % 64 = t.val / 8; omega
  refine Eq.trans (congrArg (V m c main_v4 : S32768x2048.Idx → EReal) (funext fun a => Fin.ext ?_)) (arr_rows m c (tileRow t r) k)
  match a with
  | ⟨0, _⟩ => show 512 * (Ring.bk 64 (grid0.coords t 0).val).val + 1 * r.val = 512 * (t.val / 8) + r.val; omega
  | ⟨1, _⟩ => show 0 + 1 * k.val = k.val; omega

/-! ### What a tile's points keep -/

abbrev up (d : Fin 2048) (k : Fin 8192) : EReal := wUp m c (ix3 0 d k)
abbrev down (k : Fin 8192) (e : Fin 2048) : EReal := wDown m c (ix3 0 k e)
/-- A row scaled, with its gains. -/
def act (r : Fin 32768) : Cert.Mlp.Row := Cert.Mlp.normed (rowAt m c r) (fun k => gainIn m c (ix2 0 k))
/-- The terms of the blocks before `n`. -/
def sumTo (r : Fin 32768) (e : Fin 2048) (n : ℕ) : EReal := Cert.Mlp.upto (act m c r) (up m c) (down m c) e n

theorem halfRows_at (t : Fin cfg0.N) (o : ℕ) (ho : o ≤ 256) (r : Fin 256) (k : Fin 2048) :
    (halfRows c (V m c main_v4) (grid0.coords t) (iblk m c 0 t) o ho : S256x2048.Idx → EReal) (ix2 r k)
      = act m c (tileRow t ⟨o + r.val, by omega⟩) k := by
  refine (scaled_at _ _ r k).trans ?_
  simp only [block_gainIn, halfOf]
  unfold act
  exact congrArg (fun x => Cert.Mlp.normed x _ k) (funext fun k => rows_at m c t ⟨o + r.val, by omega⟩ k)

theorem part_at (t : Fin cfg0.N) (a : Cert.Mlp.Row) (e : Fin 2048) :
    Cert.Mlp.part a (fun d k => (iblk m c 1 t : S2048x1024.Idx → EReal) (ix2 d k)) (fun k e => (iblk m c 2 t : S1024x2048.Idx → EReal) (ix2 k e)) e
      = Cert.Mlp.part a (fun d k => up m c d (Cert.Mlp.at1024 (t.val % 8) (Nat.mod_lt _ (by norm_num)) k))
          (fun k => down m c (Cert.Mlp.at1024 (t.val % 8) (Nat.mod_lt _ (by norm_num)) k)) e := by
  simp only [block_up, block_down]

theorem sumTo_one (r : Fin 32768) (e : Fin 2048) (n : ℕ) (hn : n < 8) (h : n = 0) :
    Cert.Mlp.part (act m c r) (fun d k => up m c d (Cert.Mlp.at1024 n hn k)) (fun k => down m c (Cert.Mlp.at1024 n hn k)) e = sumTo m c r e 1 := by
  subst h
  exact (Cert.Mlp.upto_one (act m c r) (up m c) (down m c) e).symm

theorem rowsFirst_at (t : Fin cfg0.N) (h : t.val % 8 = 0) (r : Fin 512) (k : Fin 2048) :
    (rowsFirst m c t h : S512x2048.Idx → EReal) (ix2 r k) = act m c (tileRow t r) k := by
  unfold rowsFirst
  refine two_halves (F := Ideal) aM.view _ _ _ (fun r k => act m c (tileRow t r) k) _ _ (fun r k => ?_) (fun r k => ?_) r k
  · rw [rows_lower]; exact halfRows_at m c t 0 _ r k
  · rw [rows_upper]; exact halfRows_at m c t 256 _ r k

theorem halfSum_at (t : Fin cfg0.N) (h : t.val % 8 = 0) (o : ℕ) (ho : o ≤ 256) (r : Fin 256) (e : Fin 2048) :
    (halfTerms (F := Ideal) (halfRows c (V m c main_v4) (grid0.coords t) (iblk m c 0 t) o ho) (iblk m c 1 t) (iblk m c 2 t) : S256x2048.Idx → EReal)
      (ix2 r e) = sumTo m c (tileRow t ⟨o + r.val, by omega⟩) e 1 := by
  refine (halfTerms_at _ _ _ r e).trans ((part_at m c t _ e).trans (Eq.trans ?_ (sumTo_one m c (tileRow t ⟨o + r.val, by omega⟩) e (t.val % 8) (Nat.mod_lt _ (by norm_num)) h)))
  exact congrArg (fun a => Cert.Mlp.part a _ _ e) (funext fun d => halfRows_at m c t o ho r d)

theorem sumFirst_at (t : Fin cfg0.N) (h : t.val % 8 = 0) (r : Fin 512) (e : Fin 2048) :
    (sumFirst m c t h : S512x2048.Idx → EReal) (ix2 r e) = sumTo m c (tileRow t r) e 1 := by
  unfold sumFirst
  refine two_halves (F := Ideal) sM.view _ _ _ (fun r e => sumTo m c (tileRow t r) e 1) _ _ (fun r e => ?_) (fun r e => ?_) r e
  · rw [sum_lower]; exact halfSum_at m c t h 0 _ r e
  · rw [sum_upper]; exact halfSum_at m c t h 256 _ r e

theorem sumMid_at (t : Fin cfg0.N) (xa : S512x2048.Idx → EReal) (xs : S512x2048.Idx → EReal)
    (ha : ∀ r k, xa (ix2 r k) = act m c (tileRow t r) k) (hs : ∀ r e, xs (ix2 r e) = sumTo m c (tileRow t r) e (t.val % 8))
    (r : Fin 512) (e : Fin 2048) :
    (sumMid m c t xa xs : S512x2048.Idx → EReal) (ix2 r e) = sumTo m c (tileRow t r) e (t.val % 8 + 1) := by
  have hw : sumMid m c t xa xs = runD.sl.v41 c (ms1 t) (hs1 t) (ms2 t) (hs2 t) (iblk m c 1 t) (iblk m c 2 t) xa xs := by
    funext (y : S512x2048.Idx)
    unfold sumMid midSum
    rw [eq_ix2 y]
    exact View.read_writes_cons_rows_of_mem (Val := Elt Ideal) sM.view _ _ _ [] (ix2 (y 0) (y 1)) (ix2 (y 0) (y 1) : S512x2048.Idx) rfl
      (Nat.zero_add _).symm rfl
  rw [hw, sum_middle]
  refine Eq.trans (congrArg₂ (fun a b : EReal => a + b) (hs r e) ((tileTerms_at _ _ _ r e).trans ?_))
    (Cert.Mlp.upto_succ (act m c (tileRow t r)) (up m c) (down m c) e (t.val % 8) (Nat.mod_lt _ (by norm_num))).symm
  rw [part_at]
  simp only [ha]

theorem tileRow_pred (t : Fin cfg0.N) (h0 : ¬t.val % 8 = 0) (r : Fin 512) : tileRow ⟨t.val - 1, by omega⟩ r = tileRow t r :=
  Fin.ext (by show 512 * ((t.val - 1) / 8) + r.val = 512 * (t.val / 8) + r.val; omega)

/-- What a point leaves: its tile's scaled rows, and the sum of the terms so far. -/
def Keeps (t : Fin cfg0.N) (p : (S512x2048.Idx → EReal) × (S512x2048.Idx → EReal)) : Prop :=
  (∀ r k, p.1 (ix2 r k) = act m c (tileRow t r) k) ∧ ∀ r e, p.2 (ix2 r e) = sumTo m c (tileRow t r) e (t.val % 8 + 1)

theorem Keeps.pair {t : Fin cfg0.N} {a s : S512x2048.Idx → EReal} (ha : ∀ r k, a (ix2 r k) = act m c (tileRow t r) k)
    (hs : ∀ r e, s (ix2 r e) = sumTo m c (tileRow t r) e (t.val % 8 + 1)) : Keeps m c t (a, s) := ⟨ha, hs⟩

theorem Keeps.pred {t : Fin cfg0.N} (h0 : ¬t.val % 8 = 0) {p : (S512x2048.Idx → EReal) × (S512x2048.Idx → EReal)}
    (h : Keeps m c ⟨t.val - 1, by omega⟩ p) :
    (∀ r k, p.1 (ix2 r k) = act m c (tileRow t r) k) ∧ ∀ r e, p.2 (ix2 r e) = sumTo m c (tileRow t r) e (t.val % 8) := by
  have hm : (t.val - 1) % 8 + 1 = t.val % 8 := by omega
  refine ⟨fun r k => (h.1 r k).trans ?_, fun r e => (h.2 r e).trans ?_⟩
  · rw [tileRow_pred t h0]
  · rw [tileRow_pred t h0]
    exact congrArg (sumTo m c (tileRow t r) e) hm

theorem kept_at (n : ℕ) : ∀ (t : Fin cfg0.N), t.val = n → ¬t.val % 8 = 7 → Keeps m c t (kept m c t.val t.isLt) := by
  induction n with
  | zero =>
    intro t ht h7
    have h0 : t.val % 8 = 0 := by omega
    rw [kept_first m c t h0]
    refine Keeps.pair m c (rowsFirst_at m c t h0) fun r e => (sumFirst_at m c t h0 r e).trans ?_
    rw [h0]
  | succ n ih =>
    intro t ht h7
    by_cases h0 : t.val % 8 = 0
    · rw [kept_first m c t h0]
      refine Keeps.pair m c (rowsFirst_at m c t h0) fun r e => (sumFirst_at m c t h0 r e).trans ?_
      rw [h0]
    · obtain ⟨ha, hs⟩ := Keeps.pred m c h0 (ih ⟨t.val - 1, by omega⟩ (by show t.val - 1 = n; omega) (by show ¬(t.val - 1) % 8 = 7; omega))
      rw [kept_mid m c t h0 h7]
      exact Keeps.pair m c ha (sumMid_at m c t _ _ ha hs)

/-! ### The result -/

/-- A row's result. -/
def resultAt (r : Fin 32768) (e : Fin 2048) : EReal :=
  Cert.Mlp.result (rowAt m c r) (fun k => gainIn m c (ix2 0 k)) (up m c) (down m c) (fun k => gainOut m c (ix2 0 k)) e

theorem halfOut_at (t : Fin cfg0.N) (h7 : t.val % 8 = 7) (xa : S512x2048.Idx → EReal) (xs : S512x2048.Idx → EReal)
    (ha : ∀ r k, xa (ix2 r k) = act m c (tileRow t r) k) (hs : ∀ r e, xs (ix2 r e) = sumTo m c (tileRow t r) e 7)
    (o : ℕ) (ho : o ≤ 256) (r : Fin 256) (e : Fin 2048) :
    (halfOut (F := Ideal) c (V m c main_v4) (grid0.coords t) (iblk m c 1 t) (iblk m c 2 t) (iblk m c 3 t) xa xs o ho : S256x2048.Idx → EReal) (ix2 r e)
      = resultAt m c (tileRow t ⟨o + r.val, by omega⟩) e := by
  unfold halfOut resultAt Cert.Mlp.result
  refine congrArg₂ (fun a b : EReal => a + b) (rows_at m c t ⟨o + r.val, by omega⟩ e) ((scaled_at _ _ r e).trans ?_)
  simp only [block_gainOut]
  refine congrArg (fun x => Cert.Mlp.normed x _ e) (funext fun k => ?_)
  refine Eq.trans (congrArg₂ (fun a b : EReal => a + b) (hs ⟨o + r.val, by omega⟩ k) ((halfTerms_at _ _ _ r k).trans ?_))
    ((Cert.Mlp.upto_succ (act m c (tileRow t ⟨o + r.val, by omega⟩)) (up m c) (down m c) k 7 (by norm_num)).symm.trans
      (Cert.Mlp.upto_eight _ _ _ _))
  rw [part_at]
  simp only [halfOf, h7]
  exact congrArg (fun a => Cert.Mlp.part a _ _ k) (funext fun d => ha ⟨o + r.val, by omega⟩ d)

theorem outAt_at (t : Fin cfg0.N) (h7 : t.val % 8 = 7) (r : Fin 512) (e : Fin 2048) :
    (outAt m c t : S512x2048.Idx → EReal) (ix2 r e) = resultAt m c (tileRow t r) e := by
  obtain ⟨ha, hs⟩ := Keeps.pred m c (t := t) (by omega) (kept_at m c (t.val - 1) ⟨t.val - 1, by omega⟩ rfl (by show ¬(t.val - 1) % 8 = 7; omega))
  rw [h7] at hs
  unfold outAt
  rw [dif_pos h7]
  unfold outLast
  refine two_halves (F := Ideal) VO _ _ _ (fun r e => resultAt m c (tileRow t r) e) _ _ (fun r e => ?_) (fun r e => ?_) r e
  · rw [out_lower]; exact halfOut_at m c t h7 _ _ ha hs 0 _ r e
  · rw [out_upper]; exact halfOut_at m c t h7 _ _ ha hs 256 _ r e

theorem flushed4 (t : Fin cfg0.N) : (dats m 0 c).flushed 4 t = (cfg0.win 4).cut (grid0.coords t) (outAt m c t) := by
  show (cfg0.win 4).cut (grid0.coords t) ((dats m 0 c).after 4 t) = _
  rw [after4]

theorem array : (dats m 0 c).arrAt 4 cfg0.N = (fun i : S32768x2048.Idx => resultAt m c (i 0) (i 1)) := by
  refine (dats m 0 c).arrAt_eq_of_cover 4 _ (fun t ht => ?_) fun i => ?_
  · have h7 := (flush0_4 t).mp ht
    obtain ⟨h0, h1⟩ := index4 t
    rw [flushed4]
    funext j
    refine (congrArg (outAt m c t : S512x2048.Idx → EReal) (eq_ix2 j)).trans ((outAt_at m c t h7 (j 0) (j 1)).trans ?_)
    have e0 : tileRow t (j 0) = ((cfg0.win 4).blk t).view.emb j 0 :=
      Fin.ext (by show 512 * (t.val / 8) + (j 0).val = win0_4.index t 0 * 512 + 1 * (j 0).val; omega)
    have e1 : (j 1 : Fin 2048) = ((cfg0.win 4).blk t).view.emb j 1 :=
      Fin.ext (by show (j 1).val = win0_4.index t 1 * 2048 + 1 * (j 1).val; omega)
    rw [View.read_apply]
    show _ = resultAt m c (((cfg0.win 4).blk t).view.emb j 0) (((cfg0.win 4).blk t).view.emb j 1)
    rw [← e0, ← e1]
  · have i0 : (i 0).val < 32768 := (i 0).isLt
    have i1 : (i 1).val < 2048 := (i 1).isLt
    let t : Fin cfg0.N := ⟨(i 0).val / 512 * 8 + 7, by have : cfg0.N = 512 := N_0; omega⟩
    have htv : t.val = (i 0).val / 512 * 8 + 7 := rfl
    obtain ⟨h0, h1⟩ := index4 t
    refine ⟨t, (flush0_4 t).mpr (by omega), ?_⟩
    show i ∈ ((View.whole main_v9).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 2048 ≤ (i 1).val ∧ (i 1).val < win0_4.index t 1 * 2048 + 2048; omega

end Cert.Kernel2Ideal.Mlp

end
-- ==== Proof.MlpRef.lean ====
/-
  The reference's MLP, read at an entry, at the ideal instance.
-/
module

public import proofs.«01_k».proof.Proof.Gen.Reference2Ideal.Run
public import proofs.«01_k».proof.Proof.MlpSpec
public import Idealize.ShloMosaic.Lib.Pointwise

@[expose] public section

set_option maxRecDepth 8192

noncomputable section

namespace Cert.Reference2Ideal.Mlp

open Idealize.ShloMosaic Idealize.ShloMosaic.TcCoe
open Cert.Reference2Ideal Cert.Reference2Ideal.Gen Cert.Reference2Ideal.Value

/-- The rows scaled, with their gains. -/
def scaled (x : FVec Ideal S4x8192x2048 .f32) (g : FVec Ideal S1x2048 .f32) : FVec Ideal S4x8192x2048 .f32 :=
  mulf
    (mulf x
      (broadcastInDim S4x8192x2048 ![0, 1, 2] bcast_S4x8192x1_S4x8192x2048_0_1_2
        (Host.rsqrt
          (addf
            (Host.divf
              (broadcastInDim S4x8192x1 ![0, 1] bcast_S4x8192_S4x8192x1_0_1
                (Host.reduceAdd (mulf x x) (constant S_ .f32 0x00000000#32) reducesTo_S4x8192x2048_S4x8192_d2 h_S_))
              (broadcastInDim S4x8192x1 ![] bcast_S_S4x8192x1 (constant S_ .f32 0x45000000#32)))
            (broadcastInDim S4x8192x1 ![] bcast_S_S4x8192x1 (constant S_ .f32 0x358637BD#32))))))
    (broadcastInDim S4x8192x2048 ![0, 1, 2] bcast_S1x1x2048_S4x8192x2048_0_1_2
      (broadcastInDim S1x1x2048 ![2] bcast_S2048_S1x1x2048_2 (shapeCast _ g shapeCasts_S1x2048_S2048)))

/-- The hidden numbers, squared. -/
def hidden (a : FVec Ideal S4x8192x2048 .f32) (wu : FVec Ideal S1x2048x8192 .f32) : FVec Ideal S4x8192x8192 .f32 :=
  mulf
    (maximumf
      (Host.dotGeneral dot_S4x8192x2048_S2048x8192_S4x8192x8192_2_0_01_1_n_n none a (shapeCast _ wu shapeCasts_S1x2048x8192_S2048x8192))
      (broadcastInDim S4x8192x8192 ![] bcast_S_S4x8192x8192 (constant S_ .f32 0x00000000#32)))
    (maximumf
      (Host.dotGeneral dot_S4x8192x2048_S2048x8192_S4x8192x8192_2_0_01_1_n_n none a (shapeCast _ wu shapeCasts_S1x2048x8192_S2048x8192))
      (broadcastInDim S4x8192x8192 ![] bcast_S_S4x8192x8192 (constant S_ .f32 0x00000000#32)))

/-- The hidden numbers taken down. -/
def down (u : FVec Ideal S4x8192x8192 .f32) (wd : FVec Ideal S1x8192x2048 .f32) : FVec Ideal S4x8192x2048 .f32 :=
  Host.dotGeneral dot_S4x8192x8192_S8192x2048_S4x8192x2048_2_0_01_1_n_n none u (shapeCast _ wd shapeCasts_S1x8192x2048_S8192x2048)

theorem scaled_at (x : S4x8192x2048.Idx → EReal) (g : S1x2048.Idx → EReal) (b : Fin 4) (t : Fin 8192) (k : Fin 2048) :
    (scaled x g : S4x8192x2048.Idx → EReal) (ix3 b t k) = Cert.Mlp.normed (fun k => x (ix3 b t k)) (fun k => g (ix2 0 k)) k := by
  pointwise [scaled, Cert.Mlp.normed, Cert.Mlp.scale]
  try rfl

theorem hidden_at (a : S4x8192x2048.Idx → EReal) (wu : S1x2048x8192.Idx → EReal) (b : Fin 4) (t : Fin 8192) (k : Fin 8192) :
    (hidden a wu : S4x8192x8192.Idx → EReal) (ix3 b t k) = Cert.Mlp.hid (fun d => a (ix3 b t d)) (fun d => wu (ix3 0 d k)) := by
  pointwise [hidden, Cert.Mlp.hid]

theorem down_at (u : S4x8192x8192.Idx → EReal) (wd : S1x8192x2048.Idx → EReal) (b : Fin 4) (t : Fin 8192) (e : Fin 2048) :
    (down u wd : S4x8192x2048.Idx → EReal) (ix3 b t e) = ∑ k : Fin 8192, u (ix3 b t k) * wd (ix3 0 k e) := by
  pointwise [down]

variable (m : (ℓ : Loc nD τ sig) → Buf (Elt Ideal) ℓ) (c : Dev nD)

def xs : S4x8192x2048.Idx → EReal := m ((c.tc : Thread nD τ).loc main_arg0)
def gainIn : S1x2048.Idx → EReal := m ((c.tc : Thread nD τ).loc main_arg1)
def wUp : S1x2048x8192.Idx → EReal := m ((c.tc : Thread nD τ).loc main_arg2)
def wDown : S1x8192x2048.Idx → EReal := m ((c.tc : Thread nD τ).loc main_arg3)
def gainOut : S1x2048.Idx → EReal := m ((c.tc : Thread nD τ).loc main_arg4)

theorem result_eq : res_main_v35 m c
    = shapeCast _ (addf (xs m c) (scaled (down (hidden (scaled (xs m c) (gainIn m c)) (wUp m c)) (wDown m c)) (gainOut m c)))
        shapeCasts_S4x8192x2048_S32768x2048 := by
  unfold res_main_v35
  rfl

theorem result_at (r : Fin 32768) (e : Fin 2048) :
    (res_main_v35 m c : S32768x2048.Idx → EReal) (ix2 r e)
      = Cert.Mlp.result (fun k => xs m c (ix3 ⟨r.val / 8192, by omega⟩ ⟨r.val % 8192, by omega⟩ k)) (fun k => gainIn m c (ix2 0 k))
          (fun d k => wUp m c (ix3 0 d k)) (fun k e => wDown m c (ix3 0 k e)) (fun k => gainOut m c (ix2 0 k)) e := by
  rw [result_eq]
  generalize hs : scaled (down (hidden (scaled (xs m c) (gainIn m c)) (wUp m c)) (wDown m c)) (gainOut m c) = s
  pointwise [Cert.Mlp.result]
  rw [← hs, scaled_at]
  simp only [down_at, hidden_at, scaled_at]
  rfl

end Cert.Reference2Ideal.Mlp

end
-- ==== Proof.MlpClaim.lean ====
/-
  The claims about the layer's MLP: the kernel and its reference run and leave their arguments and every counter as they were,
  and their results are equal, row by row those of `Proof/MlpSpec.lean`.
-/
module

public import proofs.«01_k».proof.Defs
public import proofs.«01_k».proof.Proof.Gen.Kernel2.Frame
public import proofs.«01_k».proof.Proof.MlpValue
public import proofs.«01_k».proof.Proof.MlpRef
public import Idealize.ShloMosaic.Lib.Quiescent
public import Idealize.ShloMosaic.Lib.Claim

@[expose] public section

noncomputable section

namespace Cert.Mlp

open Idealize.ShloMosaic Idealize.ShloMosaic.TcCoe Idealize.SL.Sem Idealize.ShloMosaic.StableHlo

/-- Kernel and idealized kernel run the same bodies: the one label's. -/
theorem defs_eq : Kernel2Ideal.defs (F := Bits) = Kernel2.defs (F := Bits) := by
  refine congrArg (Pipeline.defs Kernel2Ideal.pcfgs) (congrArg Defs.onTc ?_)
  funext l x
  match l, x with
  | ⟨0, _⟩, (_, _) => rfl

/-- They have the same text: one run gives both frames. -/
theorem frame_kernel : Cert.quiescent_Kernel2 (hKernel2 := Kernel2.Gen.facts) := fun m ρ _ => by
  have h := Kernel2Ideal.Mlp.frame (F := Bits) m ρ
  rw [defs_eq] at h
  exact h
theorem frame_ideal : Cert.quiescent_Kernel2Ideal (hKernel2Ideal := Kernel2Ideal.Gen.facts) := fun m ρ _ =>
  Kernel2Ideal.Mlp.frame (F := Ideal) m ρ
/-- The reference has no semaphores. -/
theorem frame_ref : Cert.quiescent_Reference2Ideal (hReference2Ideal := Reference2Ideal.Gen.facts) := fun m ρ _ =>
  θ_run_mono (Reference2Ideal.Value.run m ρ) fun r hr => ⟨fun c => (hr c).2, sem_eq_zero_of_no_sems rfl r.2⟩

theorem result_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : Reference2Ideal.Mlp.xs m' c = Kernel2Ideal.Mlp.xIn m c) (h1 : Reference2Ideal.Mlp.gainIn m' c = Kernel2Ideal.Mlp.gainIn m c)
    (h2 : Reference2Ideal.Mlp.wUp m' c = Kernel2Ideal.Mlp.wUp m c) (h3 : Reference2Ideal.Mlp.wDown m' c = Kernel2Ideal.Mlp.wDown m c)
    (h4 : Reference2Ideal.Mlp.gainOut m' c = Kernel2Ideal.Mlp.gainOut m c) :
    (Reference2Ideal.Value.res_main_v35 m' c : Kernel2Ideal.S32768x2048.Idx → EReal)
      = (Kernel2Ideal.Mlp.dats m 0 c).arrAt 4 Kernel2Ideal.cfg0.N := by
  funext (i : Kernel2Ideal.S32768x2048.Idx)
  refine Eq.trans ?_ (congrFun (Kernel2Ideal.Mlp.array m c) i).symm
  refine (congrArg (Reference2Ideal.Value.res_main_v35 m' c : Kernel2Ideal.S32768x2048.Idx → EReal) (eq_ix2 i)).trans ?_
  refine (Reference2Ideal.Mlp.result_at m' c (i 0) (i 1)).trans ?_
  rw [h0, h1, h2, h3, h4]
  rfl

theorem algebraic : Cert.algebraic_Kernel2Ideal_Reference2Ideal (hKernel2Ideal := Kernel2Ideal.Gen.facts)
    (hReference2Ideal := Reference2Ideal.Gen.facts) := by
  intro m g m' g' _ hagree
  refine ⟨_, Kernel2Ideal.Mlp.run_array m g, θ_run_mono (Reference2Ideal.Value.run m' g') fun r hr c => ?_⟩
  obtain ⟨h0, h1, h2, h3, h4⟩ := hagree c
  obtain ⟨r0, ra⟩ := hr c
  exact ⟨r0.trans (result_eq m m' c h0 h1 h2 h3 h4), ra⟩

end Cert.Mlp

end
-- ==== Proof.OutSpec.lean ====
/-
  The output projection in mathematics: two rows of numbers, each the heads side by side, go through their half of the weights,
  and the sum, scaled to root mean square one, is added to the row that came in.
-/
module

public import proofs.«01_k».proof.Proof.MlpSpec

@[expose] public section

noncomputable section

namespace Cert.Outproj

/-- Both halves of the weights applied. -/
def mix (a b : Fin 1024 → EReal) (wa wb : Fin 1024 → Fin 2048 → EReal) (e : Fin 2048) : EReal :=
  (∑ k, a k * wa k e) + ∑ k, b k * wb k e

/-- The row's result. -/
def result (x : Cert.Mlp.Row) (a b : Fin 1024 → EReal) (wa wb : Fin 1024 → Fin 2048 → EReal) (g : Cert.Mlp.Row) (e : Fin 2048) : EReal :=
  x e + Cert.Mlp.normed (mix a b wa wb) g e

/-- The head that entry `k` of a row of heads belongs to, and its place in it. -/
def head (k : Fin 1024) : Fin 8 := ⟨k.val / 128, by omega⟩
def lane (k : Fin 1024) : Fin 128 := ⟨k.val % 128, by omega⟩
/-- The second half of the weights' rows. -/
def second (k : Fin 1024) : Fin 2048 := ⟨1024 + k.val, by omega⟩
def first (k : Fin 1024) : Fin 2048 := ⟨k.val, by omega⟩

/-- A sum over both halves. -/
theorem sum_halves (f : Fin 2048 → EReal) : ∑ k, f k = (∑ k, f (first k)) + ∑ k, f (second k) :=
  Fin.sum_univ_add (a := 1024) (b := 1024) f

end Cert.Outproj

end
-- ==== Proof.OutTile.lean ====
/-
  The output projection's arithmetic on half a tile, at the ideal instance, each step read at an index.
-/
module

public import proofs.«01_k».proof.Proof.Gen.Kernel3Ideal.Frame
public import proofs.«01_k».proof.Proof.OutSpec
public import Idealize.ShloMosaic.Lib.Pointwise

@[expose] public section

set_option maxRecDepth 8192

noncomputable section

namespace Cert.Kernel3Ideal.Out

open Idealize.ShloMosaic Idealize.ShloMosaic.TcCoe
open Cert.Kernel3Ideal Cert.Kernel3Ideal.Gen

/-- Eight heads side by side. -/
def heads (p : Fin 8 → FVec Ideal S1x512x128 .bf16) : FVec Ideal S512x1024 .bf16 :=
  concatenate S512x1024 1
    [⟨S512x128, shapeCast S512x128 (p 0) shapeCasts_S1x512x128_S512x128⟩, ⟨S512x128, shapeCast S512x128 (p 1) shapeCasts_S1x512x128_S512x128⟩,
      ⟨S512x128, shapeCast S512x128 (p 2) shapeCasts_S1x512x128_S512x128⟩, ⟨S512x128, shapeCast S512x128 (p 3) shapeCasts_S1x512x128_S512x128⟩,
      ⟨S512x128, shapeCast S512x128 (p 4) shapeCasts_S1x512x128_S512x128⟩, ⟨S512x128, shapeCast S512x128 (p 5) shapeCasts_S1x512x128_S512x128⟩,
      ⟨S512x128, shapeCast S512x128 (p 6) shapeCasts_S1x512x128_S512x128⟩, ⟨S512x128, shapeCast S512x128 (p 7) shapeCasts_S1x512x128_S512x128⟩]
    concatenates_S512x128_S512x128_S512x128_S512x128_S512x128_S512x128_S512x128_S512x128_S512x1024_d1

theorem heads_at (p : Fin 8 → S1x512x128.Idx → EReal) (r : Fin 512) (k : Fin 1024) :
    (heads p : S512x1024.Idx → EReal) (ix2 r k) = p (Cert.Outproj.head k) (ix3 0 r (Cert.Outproj.lane k)) := by
  have h := concatenate_ofFn_apply (t := S512x1024) (s₁ := S512x128) 1 (N := 8)
    (fun n : Fin 8 => (shapeCast S512x128 (p n) shapeCasts_S1x512x128_S512x128 : S512x128.Idx → EReal))
    concatenates_S512x128_S512x128_S512x128_S512x128_S512x128_S512x128_S512x128_S512x128_S512x1024_d1 rfl 128 rfl (ix2 r k)
    (Cert.Outproj.head k) rfl (ix2 r (Cert.Outproj.lane k)) rfl fun b hb => by
      match b with
      | ⟨0, _⟩ => rfl
      | ⟨1, _⟩ => exact absurd rfl hb
  refine Eq.trans h ?_
  generalize p (Cert.Outproj.head k) = q
  generalize Cert.Outproj.lane k = l
  pointwise

/-- Both products summed. -/
def mixed (a b : FVec Ideal S512x1024 .bf16) (wa wb : FVec Ideal S1024x2048 .bf16) : FVec Ideal S512x2048 .f32 :=
  addf
    (matmul dot_S512x1024_S1024x2048_S512x2048_1_0_0_1_n_n none a (shapeCast S1024x2048 wa shapeCasts_S1024x2048_S1024x2048) (constant S512x2048 .f32 0x00000000#32))
    (matmul dot_S512x1024_S1024x2048_S512x2048_1_0_0_1_n_n none b (shapeCast S1024x2048 wb shapeCasts_S1024x2048_S1024x2048) (constant S512x2048 .f32 0x00000000#32))

theorem mixed_at (a b : S512x1024.Idx → EReal) (wa wb : S1024x2048.Idx → EReal) (r : Fin 512) (e : Fin 2048) :
    (mixed a b wa wb : S512x2048.Idx → EReal) (ix2 r e)
      = Cert.Outproj.mix (fun k => a (ix2 r k)) (fun k => b (ix2 r k)) (fun k e => wa (ix2 k e)) (fun k e => wb (ix2 k e)) e := by
  pointwise [mixed, Cert.Outproj.mix]

/-- The rows scaled, with their gains, on top of what came in. -/
def scaledOn (x s : FVec Ideal S512x2048 .f32) (g : FVec Ideal S1x2048 .f32) : FVec Ideal S512x2048 .f32 :=
  addf (shapeCast S512x2048 x shapeCasts_S512x2048_S512x2048)
    (mulf
      (mulf s
        (broadcastTo S512x2048
          (rsqrt
            (addf
              (divf
                (shapeCast S512x1
                  (multiReduction .add [1] S512 (mulf s s) 0x00000000#32 reduces_S512x2048_S512 (.inl rfl) rfl)
                  shapeCasts_S512_S512x1)
                (broadcast S512x1 (Scalar.ofBits .f32 0x45000000#32)))
              (broadcast S512x1 (Scalar.ofBits .f32 0x358637BD#32))))
          broadcasts_S512x1_S512x2048))
      (broadcastTo S512x2048 (shapeCast S1x2048 g shapeCasts_S1x2048_S1x2048) broadcasts_S1x2048_S512x2048))

theorem scaledOn_at (x s : S512x2048.Idx → EReal) (g : S1x2048.Idx → EReal) (r : Fin 512) (k : Fin 2048) :
    (scaledOn x s g : S512x2048.Idx → EReal) (ix2 r k)
      = x (ix2 r k) + Cert.Mlp.normed (fun k => s (ix2 r k)) (fun k => g (ix2 0 k)) k := by
  pointwise [scaledOn, Cert.Mlp.normed, Cert.Mlp.scale]

/-- Head `i` of half a tile's rows, those from `o` on. -/
def piece (x : FVec Ideal S8x1024x128 .bf16) (o : ℕ) (ho : o ≤ 512) (i : Fin 8) : FVec Ideal S1x512x128 .bf16 :=
  View.ld (Val := Elt Ideal) (e' := .bf16) x (Rect.unit (s := S8x1024x128) ![i.val, o, 0] S1x512x128.size fun a => by
    match a with
    | ⟨0, _⟩ => show i.val + 1 ≤ 8; omega
    | ⟨1, _⟩ => show o + 512 ≤ 1024; omega
    | ⟨2, _⟩ => show 0 + 128 ≤ 128; omega)

theorem piece_at (x : S8x1024x128.Idx → EReal) (o : ℕ) (ho : o ≤ 512) (i : Fin 8) (r : Fin 512) (d : Fin 128) :
    (piece x o ho i : S1x512x128.Idx → EReal) (ix3 0 r d) = x (ix3 i ⟨o + r.val, by omega⟩ d) := by
  refine congrArg x (funext fun a => Fin.ext ?_)
  match a with
  | ⟨0, _⟩ => show i.val + 1 * 0 = i.val; omega
  | ⟨1, _⟩ => show o + 1 * r.val = o + r.val; omega
  | ⟨2, _⟩ => show 0 + 1 * d.val = d.val; omega

/-- Half a tile's result from the rows that come in, both sides' heads, the weights and the gains. -/
def half (x : FVec Ideal S512x2048 .f32) (a b : FVec Ideal S8x1024x128 .bf16) (wa wb : FVec Ideal S1024x2048 .bf16) (g : FVec Ideal S1x2048 .f32)
    (o : ℕ) (ho : o ≤ 512) : FVec Ideal S512x2048 .f32 :=
  scaledOn x (mixed (heads (piece a o ho)) (heads (piece b o ho)) wa wb) g

theorem half_at (x : S512x2048.Idx → EReal) (a b : S8x1024x128.Idx → EReal) (wa wb : S1024x2048.Idx → EReal) (g : S1x2048.Idx → EReal)
    (o : ℕ) (ho : o ≤ 512) (r : Fin 512) (e : Fin 2048) :
    (half x a b wa wb g o ho : S512x2048.Idx → EReal) (ix2 r e)
      = Cert.Outproj.result (fun k => x (ix2 r k))
          (fun k => a (ix3 (Cert.Outproj.head k) ⟨o + r.val, by omega⟩ (Cert.Outproj.lane k)))
          (fun k => b (ix3 (Cert.Outproj.head k) ⟨o + r.val, by omega⟩ (Cert.Outproj.lane k)))
          (fun k e => wa (ix2 k e)) (fun k e => wb (ix2 k e)) (fun k => g (ix2 0 k)) e := by
  unfold half Cert.Outproj.result
  rw [scaledOn_at]
  simp only [mixed_at, heads_at, piece_at]

variable (x0 : FVec Ideal S1024x2048 .f32) (x1 x2 : FVec Ideal S8x1024x128 .bf16) (x3 x4 : FVec Ideal S1024x2048 .bf16) (x5 : FVec Ideal S1x2048 .f32)

/-- The rows of half a tile, those from `o` on. -/
def rowsOf (x : FVec Ideal S1024x2048 .f32) (o : ℕ) (ho : o ≤ 512) : FVec Ideal S512x2048 .f32 :=
  View.ld (Val := Elt Ideal) (e' := .f32) x (Rect.unit (s := S1024x2048) ![o, 0] S512x2048.size fun a => by
    match a with
    | ⟨0, _⟩ => show o + 512 ≤ 1024; omega
    | ⟨1, _⟩ => show 0 + 2048 ≤ 2048; omega)

theorem rowsOf_at (x : S1024x2048.Idx → EReal) (o : ℕ) (ho : o ≤ 512) (r : Fin 512) (k : Fin 2048) :
    (rowsOf x o ho : S512x2048.Idx → EReal) (ix2 r k) = x (ix2 ⟨o + r.val, by omega⟩ k) := by
  refine congrArg x (funext fun a => Fin.ext ?_)
  match a with
  | ⟨0, _⟩ => show o + 1 * r.val = o + r.val; omega
  | ⟨1, _⟩ => show 0 + 1 * k.val = k.val; omega

/-- The body writes both halves. -/
theorem out_eq : out0_6 (F := Ideal) x0 x1 x2 x3 x4 x5
    = View.canon (Val := Elt Ideal) (e := .f32)
        [⟨r0_19, half (rowsOf x0 512 (by norm_num)) x1 x2 x3 x4 x5 512 (by norm_num)⟩,
          ⟨r0_9, half (rowsOf x0 0 (by norm_num)) x1 x2 x3 x4 x5 0 (by norm_num)⟩] := by
  have h3 : View.ld (Val := Elt Ideal) (e' := .bf16) x3 r0_8 = x3 := View.ld_unit_lit _ _ (by decide)
  have h4 : View.ld (Val := Elt Ideal) (e' := .bf16) x4 r0_8 = x4 := View.ld_unit_lit _ _ (by decide)
  have h5 : View.ld (Val := Elt Ideal) (e' := .f32) x5 r0_10 = x5 := View.ld_unit_lit _ _ (by decide)
  unfold out0_6
  rw [h3, h4, h5]
  rfl

/-- A row's result from what the windows hold. -/
def rowOut (r : Fin 1024) (e : Fin 2048) : EReal :=
  Cert.Outproj.result (fun k => (x0 : S1024x2048.Idx → EReal) (ix2 r k))
    (fun k => (x1 : S8x1024x128.Idx → EReal) (ix3 (Cert.Outproj.head k) r (Cert.Outproj.lane k)))
    (fun k => (x2 : S8x1024x128.Idx → EReal) (ix3 (Cert.Outproj.head k) r (Cert.Outproj.lane k)))
    (fun k e => (x3 : S1024x2048.Idx → EReal) (ix2 k e)) (fun k e => (x4 : S1024x2048.Idx → EReal) (ix2 k e))
    (fun k => (x5 : S1x2048.Idx → EReal) (ix2 0 k)) e

theorem half_row (o : ℕ) (ho : o ≤ 512) (r : Fin 512) (e : Fin 2048) :
    (half (rowsOf x0 o ho) x1 x2 x3 x4 x5 o ho : S512x2048.Idx → EReal) (ix2 r e) = rowOut x0 x1 x2 x3 x4 x5 ⟨o + r.val, by omega⟩ e := by
  rw [half_at]
  simp only [rowsOf_at]
  rfl

theorem out_at (r : Fin 1024) (e : Fin 2048) : (out0_6 (F := Ideal) x0 x1 x2 x3 x4 x5 : S1024x2048.Idx → EReal) (ix2 r e) = rowOut x0 x1 x2 x3 x4 x5 r e := by
  rw [out_eq]
  by_cases hr : r.val < 512
  · refine (View.canon_cons_of_not_mem _ _ ?_).trans ?_
    · show ix2 r e ∉ (Rect.unit (s := S1024x2048) ![512, 0] S512x2048.size inb_S1024x2048_S512x2048_512_0).set
      rw [Rect.mem_set_unit]
      intro h
      have : 512 ≤ r.val := (h 0).1
      omega
    · have hi : (ix2 r e : S1024x2048.Idx) = r0_9.emb (ix2 ⟨r.val, hr⟩ e : S512x2048.Idx) := funext fun a => Fin.ext (by
        match a with
        | ⟨0, _⟩ => show r.val = 0 + 1 * r.val; omega
        | ⟨1, _⟩ => show e.val = 0 + 1 * e.val; omega)
      rw [hi]
      refine (View.canon_cons_emb r0_9 _ _ _).trans ((half_row x0 x1 x2 x3 x4 x5 0 _ ⟨r.val, hr⟩ e).trans ?_)
      exact congrArg (fun r => rowOut x0 x1 x2 x3 x4 x5 r e) (Fin.ext (Nat.zero_add _))
  · have hr' := r.isLt
    have hi : (ix2 r e : S1024x2048.Idx) = r0_19.emb (ix2 ⟨r.val - 512, by omega⟩ e : S512x2048.Idx) := funext fun a => Fin.ext (by
      match a with
      | ⟨0, _⟩ => show r.val = 512 + 1 * (r.val - 512); omega
      | ⟨1, _⟩ => show e.val = 0 + 1 * e.val; omega)
    rw [hi]
    refine (View.canon_cons_emb r0_19 _ _ _).trans ((half_row x0 x1 x2 x3 x4 x5 512 _ ⟨r.val - 512, by omega⟩ e).trans ?_)
    exact congrArg (fun r => rowOut x0 x1 x2 x3 x4 x5 r e) (Fin.ext (by show 512 + (r.val - 512) = r.val; omega))

end Cert.Kernel3Ideal.Out

end
-- ==== Proof.OutValue.lean ====
/-
  The output projection's result array: every point writes the rows of its tile, each the result of `Proof/OutSpec.lean`.
-/
module

public import proofs.«01_k».proof.Proof.Gen.Kernel3Ideal.Value
public import proofs.«01_k».proof.Proof.OutTile
public import Idealize.ShloMosaic.Lib.StableHlo.ReadAt

@[expose] public section

set_option maxRecDepth 8192

noncomputable section

namespace Cert.Kernel3Ideal.Out

open Idealize.ShloMosaic Idealize.ShloMosaic.TcCoe Idealize.ShloMosaic.StableHlo
open Cert.Kernel3Ideal Cert.Kernel3Ideal.Gen

variable (m : (ℓ : Loc nD τ sig) → Buf (Elt Ideal) ℓ) (c : Dev nD)

def xIn : S4x8192x2048.Idx → EReal := m ((c.tc : Thread nD τ).loc main_arg0)
def mixA : S8x32768x128.Idx → EReal := m ((c.tc : Thread nD τ).loc main_arg1)
def mixB : S8x32768x128.Idx → EReal := m ((c.tc : Thread nD τ).loc main_arg2)
def wOut : S1x2048x2048.Idx → EReal := m ((c.tc : Thread nD τ).loc main_arg3)
def gain : S1x2048.Idx → EReal := m ((c.tc : Thread nD τ).loc main_arg4)

/-! ### The arrays the launch finds -/

theorem arr_rows (r : Fin 32768) (k : Fin 2048) :
    (V m c main_v6 : S32768x2048.Idx → EReal) (ix2 r k) = xIn m c (ix3 ⟨r.val / 8192, by omega⟩ ⟨r.val % 8192, by omega⟩ k) := by
  unfold V
  after_reads_at
  rfl
theorem arr_gain (k : Fin 2048) : (V m c main_v8 : S1x2048.Idx → EReal) (ix2 0 k) = gain m c (ix2 0 k) := by
  unfold V
  after_reads_at
  rfl
theorem arr_first (k : Fin 1024) (e : Fin 2048) :
    (V m c main_v2 : S1024x2048.Idx → EReal) (ix2 k e) = wOut m c (ix3 0 (Cert.Outproj.first k) e) := by
  unfold V
  after_reads_at
  rfl
theorem arr_second (k : Fin 1024) (e : Fin 2048) :
    (V m c main_v5 : S1024x2048.Idx → EReal) (ix2 k e) = wOut m c (ix3 0 (Cert.Outproj.second k) e) := by
  unfold V
  after_reads_at
  rfl

/-! ### What a grid point finds -/

theorem lt_N (t : Fin cfg0.N) : t.val < 32 := lt_of_lt_of_eq t.isLt (show cfg0.N = 32 from N_0)

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = t.val ∧ win0_1.index t 2 = 0 :=
  (by decide +kernel : ∀ t : Fin grid0.N, _)
theorem index2 : ∀ t : Fin cfg0.N, win0_2.index t 0 = 0 ∧ win0_2.index t 1 = t.val ∧ win0_2.index t 2 = 0 :=
  (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)

/-- Row `r` of point `t`'s tile. -/
def tileRow (t : Fin cfg0.N) (r : Fin 1024) : Fin 32768 := ⟨t.val * 1024 + r.val, by have := lt_N t; omega⟩

theorem block_rows (t : Fin cfg0.N) (r : Fin 1024) (k : Fin 2048) :
    (iblk m c 0 t : S1024x2048.Idx → EReal) (ix2 r k)
      = xIn m c (ix3 ⟨(tileRow t r).val / 8192, by omega⟩ ⟨(tileRow t r).val % 8192, by omega⟩ k) := by
  obtain ⟨h0, h1⟩ := index0 t
  refine Eq.trans (congrArg (V m c main_v6 : S32768x2048.Idx → EReal) (funext fun a => Fin.ext ?_)) (arr_rows m c (tileRow t r) k)
  match a with
  | ⟨0, _⟩ => show win0_0.index t 0 * 1024 + 1 * r.val = t.val * 1024 + r.val; omega
  | ⟨1, _⟩ => show win0_0.index t 1 * 2048 + 1 * k.val = k.val; omega
theorem block_a (t : Fin cfg0.N) (h : Fin 8) (r : Fin 1024) (d : Fin 128) :
    (iblk m c 1 t : S8x1024x128.Idx → EReal) (ix3 h r d) = mixA m c (ix3 h (tileRow t r) d) := by
  obtain ⟨h0, h1, h2⟩ := index1 t
  refine Eq.trans (congrArg (V m c main_arg1 : S8x32768x128.Idx → EReal) (funext fun a => Fin.ext ?_))
    (congrFun (V_main_arg1 m c) (ix3 h (tileRow t r) d))
  match a with
  | ⟨0, _⟩ => show win0_1.index t 0 * 8 + 1 * h.val = h.val; omega
  | ⟨1, _⟩ => show win0_1.index t 1 * 1024 + 1 * r.val = t.val * 1024 + r.val; omega
  | ⟨2, _⟩ => show win0_1.index t 2 * 128 + 1 * d.val = d.val; omega
theorem block_b (t : Fin cfg0.N) (h : Fin 8) (r : Fin 1024) (d : Fin 128) :
    (iblk m c 2 t : S8x1024x128.Idx → EReal) (ix3 h r d) = mixB m c (ix3 h (tileRow t r) d) := by
  obtain ⟨h0, h1, h2⟩ := index2 t
  refine Eq.trans (congrArg (V m c main_arg2 : S8x32768x128.Idx → EReal) (funext fun a => Fin.ext ?_))
    (congrFun (V_main_arg2 m c) (ix3 h (tileRow t r) d))
  match a with
  | ⟨0, _⟩ => show win0_2.index t 0 * 8 + 1 * h.val = h.val; omega
  | ⟨1, _⟩ => show win0_2.index t 1 * 1024 + 1 * r.val = t.val * 1024 + r.val; omega
  | ⟨2, _⟩ => show win0_2.index t 2 * 128 + 1 * d.val = d.val; omega
theorem block_first (t : Fin cfg0.N) (k : Fin 1024) (e : Fin 2048) :
    (iblk m c 3 t : S1024x2048.Idx → EReal) (ix2 k e) = wOut m c (ix3 0 (Cert.Outproj.first k) e) := by
  obtain ⟨h0, h1⟩ := index3 t
  refine Eq.trans (congrArg (V m c main_v2 : S1024x2048.Idx → EReal) (funext fun a => Fin.ext ?_)) (arr_first m c k e)
  match a with
  | ⟨0, _⟩ => show win0_3.index t 0 * 1024 + 1 * k.val = k.val; omega
  | ⟨1, _⟩ => show win0_3.index t 1 * 2048 + 1 * e.val = e.val; omega
theorem block_second (t : Fin cfg0.N) (k : Fin 1024) (e : Fin 2048) :
    (iblk m c 4 t : S1024x2048.Idx → EReal) (ix2 k e) = wOut m c (ix3 0 (Cert.Outproj.second k) e) := by
  obtain ⟨h0, h1⟩ := index4 t
  refine Eq.trans (congrArg (V m c main_v5 : S1024x2048.Idx → EReal) (funext fun a => Fin.ext ?_)) (arr_second m c k e)
  match a with
  | ⟨0, _⟩ => show win0_4.index t 0 * 1024 + 1 * k.val = k.val; omega
  | ⟨1, _⟩ => show win0_4.index t 1 * 2048 + 1 * e.val = e.val; omega
theorem block_gain (t : Fin cfg0.N) (k : Fin 2048) : (iblk m c 5 t : S1x2048.Idx → EReal) (ix2 0 k) = gain m c (ix2 0 k) := by
  obtain ⟨h0, h1⟩ := index5 t
  refine Eq.trans (congrArg (V m c main_v8 : S1x2048.Idx → EReal) (funext fun a => Fin.ext ?_)) (arr_gain m c k)
  match a with
  | ⟨0, _⟩ => show win0_5.index t 0 * 1 + 1 * 0 = 0; omega
  | ⟨1, _⟩ => show win0_5.index t 1 * 2048 + 1 * k.val = k.val; omega

/-! ### The result -/

/-- A row's result. -/
def resultAt (r : Fin 32768) (e : Fin 2048) : EReal :=
  Cert.Outproj.result (fun k => xIn m c (ix3 ⟨r.val / 8192, by omega⟩ ⟨r.val % 8192, by omega⟩ k))
    (fun k => mixA m c (ix3 (Cert.Outproj.head k) r (Cert.Outproj.lane k))) (fun k => mixB m c (ix3 (Cert.Outproj.head k) r (Cert.Outproj.lane k)))
    (fun k e => wOut m c (ix3 0 (Cert.Outproj.first k) e)) (fun k e => wOut m c (ix3 0 (Cert.Outproj.second k) e))
    (fun k => gain m c (ix2 0 k)) e

theorem written (t : Fin cfg0.N) (r : Fin 1024) (e : Fin 2048) :
    (out0_6 (F := Ideal) (iblk m c 0 t) (iblk m c 1 t) (iblk m c 2 t) (iblk m c 3 t) (iblk m c 4 t) (iblk m c 5 t) : S1024x2048.Idx → EReal) (ix2 r e)
      = resultAt m c (tileRow t r) e := by
  refine (out_at _ _ _ _ _ _ r e).trans ?_
  unfold rowOut resultAt
  simp only [block_rows, block_a, block_b, block_first, block_second, block_gain]

theorem array : (dats m 0 c).arrAt 6 cfg0.N = (fun i : S32768x2048.Idx => resultAt m c (i 0) (i 1)) := by
  refine (dats m 0 c).arrAt_eq_of_cover 6 _ (fun t _ => ?_) fun i => ?_
  · obtain ⟨h0, h1⟩ := index6 t
    rw [Value.flushed6]
    funext j
    refine (congrArg (out0_6 (F := Ideal) (iblk m c 0 t) (iblk m c 1 t) (iblk m c 2 t) (iblk m c 3 t) (iblk m c 4 t) (iblk m c 5 t) :
      S1024x2048.Idx → EReal) (eq_ix2 j)).trans ((written m c t (j 0) (j 1)).trans ?_)
    have e0 : tileRow t (j 0) = ((cfg0.win 6).blk t).view.emb j 0 :=
      Fin.ext (by show t.val * 1024 + (j 0).val = win0_6.index t 0 * 1024 + 1 * (j 0).val; omega)
    have e1 : (j 1 : Fin 2048) = ((cfg0.win 6).blk t).view.emb j 1 :=
      Fin.ext (by show (j 1).val = win0_6.index t 1 * 2048 + 1 * (j 1).val; omega)
    rw [View.read_apply]
    show _ = resultAt m c (((cfg0.win 6).blk t).view.emb j 0) (((cfg0.win 6).blk t).view.emb j 1)
    rw [← e0, ← e1]
  · have i0 : (i 0).val < 32768 := (i 0).isLt
    have i1 : (i 1).val < 2048 := (i 1).isLt
    let t : Fin cfg0.N := ⟨(i 0).val / 1024, by have : cfg0.N = 32 := N_0; omega⟩
    have htv : t.val = (i 0).val / 1024 := rfl
    obtain ⟨h0, h1⟩ := index6 t
    refine ⟨t, flush0_6 t, ?_⟩
    show i ∈ ((View.whole main_v9).slice (win0_6.rect t)).set
    rw [View.set_slice_whole, Rect.mem_set_unit]
    intro a
    match a with
    | ⟨0, _⟩ => show win0_6.index t 0 * 1024 ≤ (i 0).val ∧ (i 0).val < win0_6.index t 0 * 1024 + 1024; omega
    | ⟨1, _⟩ => show win0_6.index t 1 * 2048 ≤ (i 1).val ∧ (i 1).val < win0_6.index t 1 * 2048 + 2048; omega

end Cert.Kernel3Ideal.Out

end
-- ==== Proof.OutRef.lean ====
/-
  What the output projection's reference computes, row by row.
-/
module

public import proofs.«01_k».proof.Proof.Gen.Reference3Ideal.Run
public import proofs.«01_k».proof.Proof.OutSpec
public import Idealize.ShloMosaic.Lib.Pointwise

@[expose] public section

set_option maxRecDepth 8192

noncomputable section

namespace Cert.Reference3Ideal.Out

open Idealize.ShloMosaic Idealize.ShloMosaic.TcCoe Idealize.SL.Sem
open Cert.Reference3Ideal Cert.Reference3Ideal.Gen Cert.Reference3Ideal.Value

/-- The heads of every token side by side. -/
def rows (a : FVec Ideal S8x32768x128 .bf16) : FVec Ideal S4x8192x1024 .f32 :=
  extf .f32 (shapeCast _ (transpose S32768x8x128 [1, 0, 2] a transposes_S8x32768x128_S32768x8x128_1_0_2) shapeCasts_S32768x8x128_S4x8192x1024)
    bitsLt_bf16_f32

/-- Both sides' heads side by side. -/
def both (a b : FVec Ideal S8x32768x128 .bf16) : FVec Ideal S4x8192x2048 .f32 :=
  concatenate S4x8192x2048 2 [⟨S4x8192x1024, rows a⟩, ⟨S4x8192x1024, rows b⟩] concatenates_S4x8192x1024_S4x8192x1024_S4x8192x2048_d2

/-- The weights applied. -/
def weighted (x : FVec Ideal S4x8192x2048 .f32) (w : FVec Ideal S1x2048x2048 .f32) : FVec Ideal S4x8192x2048 .f32 :=
  Host.dotGeneral dot_S4x8192x2048_S2048x2048_S4x8192x2048_2_0_01_1_n_n none x (shapeCast _ w shapeCasts_S1x2048x2048_S2048x2048)

/-- The rows scaled, with their gains. -/
def scaled (x : FVec Ideal S4x8192x2048 .f32) (g : FVec Ideal S1x2048 .f32) : FVec Ideal S4x8192x2048 .f32 :=
  mulf
    (mulf x
      (broadcastInDim S4x8192x2048 ![0, 1, 2] bcast_S4x8192x1_S4x8192x2048_0_1_2
        (Host.rsqrt
          (addf
            (Host.divf
              (broadcastInDim S4x8192x1 ![0, 1] bcast_S4x8192_S4x8192x1_0_1
                (Host.reduceAdd (mulf x x) (constant S_ .f32 0x00000000#32) reducesTo_S4x8192x2048_S4x8192_d2 h_S_))
              (broadcastInDim S4x8192x1 ![] bcast_S_S4x8192x1 (constant S_ .f32 0x45000000#32)))
            (broadcastInDim S4x8192x1 ![] bcast_S_S4x8192x1 (constant S_ .f32 0x358637BD#32))))))
    (broadcastInDim S4x8192x2048 ![0, 1, 2] bcast_S1x1x2048_S4x8192x2048_0_1_2
      (broadcastInDim S1x1x2048 ![2] bcast_S2048_S1x1x2048_2 (shapeCast _ g shapeCasts_S1x2048_S2048)))

/-- A token's place among all of them, one sequence after the other. -/
def token (b : Fin 4) (t : Fin 8192) : Fin 32768 := ⟨b.val * 8192 + t.val, by omega⟩

theorem rows_at (a : S8x32768x128.Idx → EReal) (b : Fin 4) (t : Fin 8192) (k : Fin 1024) :
    (rows a : S4x8192x1024.Idx → EReal) (ix3 b t k) = a (ix3 (Cert.Outproj.head k) (token b t) (Cert.Outproj.lane k)) := by
  pointwise [rows]
  rfl

theorem both_first (a b : S8x32768x128.Idx → EReal) (i : Fin 4) (t : Fin 8192) (k : Fin 1024) :
    (both a b : S4x8192x2048.Idx → EReal) (ix3 i t (Cert.Outproj.first k)) = a (ix3 (Cert.Outproj.head k) (token i t) (Cert.Outproj.lane k)) :=
  (concatenate_pair_apply_left (t := S4x8192x2048) 2 (rows a) (rows b) _ _ rfl (ix3 i t k) fun x => by
    match x with
    | ⟨0, _⟩ => rfl
    | ⟨1, _⟩ => rfl
    | ⟨2, _⟩ => rfl).trans (rows_at a i t k)

theorem both_second (a b : S8x32768x128.Idx → EReal) (i : Fin 4) (t : Fin 8192) (k : Fin 1024) :
    (both a b : S4x8192x2048.Idx → EReal) (ix3 i t (Cert.Outproj.second k)) = b (ix3 (Cert.Outproj.head k) (token i t) (Cert.Outproj.lane k)) :=
  (concatenate_pair_apply_right (t := S4x8192x2048) 2 (rows a) (rows b) _ _ rfl rfl (ix3 i t k) (fun x hx => by
    match x with
    | ⟨0, _⟩ => rfl
    | ⟨1, _⟩ => rfl
    | ⟨2, _⟩ => exact absurd rfl hx) (Nat.add_comm _ _)).trans (rows_at b i t k)

theorem weighted_at (x : S4x8192x2048.Idx → EReal) (w : S1x2048x2048.Idx → EReal) (b : Fin 4) (t : Fin 8192) (e : Fin 2048) :
    (weighted x w : S4x8192x2048.Idx → EReal) (ix3 b t e) = ∑ k : Fin 2048, x (ix3 b t k) * w (ix3 0 k e) := by
  pointwise [weighted]

theorem scaled_at (x : S4x8192x2048.Idx → EReal) (g : S1x2048.Idx → EReal) (b : Fin 4) (t : Fin 8192) (k : Fin 2048) :
    (scaled x g : S4x8192x2048.Idx → EReal) (ix3 b t k) = Cert.Mlp.normed (fun k => x (ix3 b t k)) (fun k => g (ix2 0 k)) k := by
  pointwise [scaled, Cert.Mlp.normed, Cert.Mlp.scale]
  try rfl

variable (m : (ℓ : Loc nD τ sig) → Buf (Elt Ideal) ℓ) (c : Dev nD)

def xs : S4x8192x2048.Idx → EReal := m ((c.tc : Thread nD τ).loc main_arg0)
def mixA : S8x32768x128.Idx → EReal := m ((c.tc : Thread nD τ).loc main_arg1)
def mixB : S8x32768x128.Idx → EReal := m ((c.tc : Thread nD τ).loc main_arg2)
def wOut : S1x2048x2048.Idx → EReal := m ((c.tc : Thread nD τ).loc main_arg3)
def gain : S1x2048.Idx → EReal := m ((c.tc : Thread nD τ).loc main_arg4)

/-- The result array. -/
def res : S32768x2048.Idx → EReal :=
  shapeCast (s := S4x8192x2048) S32768x2048 (addf (F := Ideal) (φ := .f32) (xs m c) (scaled (weighted (both (mixA m c) (mixB m c)) (wOut m c)) (gain m c)))
    shapeCasts_S4x8192x2048_S32768x2048

theorem run (ρ : Dev nD → PrngReg) :
    θ_run defs (onTc (τ := τ) (main (F := Ideal))) ⟨m, fun _ => 0, ρ⟩ fun r => ∀ c : Dev nD,
      r.2.mem ((c.tc : Thread nD τ).loc main_v24) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

theorem result_at (r : Fin 32768) (e : Fin 2048) :
    res m c (ix2 r e)
      = Cert.Outproj.result (fun k => xs m c (ix3 ⟨r.val / 8192, by omega⟩ ⟨r.val % 8192, by omega⟩ k))
          (fun k => mixA m c (ix3 (Cert.Outproj.head k) r (Cert.Outproj.lane k))) (fun k => mixB m c (ix3 (Cert.Outproj.head k) r (Cert.Outproj.lane k)))
          (fun k e => wOut m c (ix3 0 (Cert.Outproj.first k) e)) (fun k e => wOut m c (ix3 0 (Cert.Outproj.second k) e))
          (fun k => gain m c (ix2 0 k)) e := by
  have hr : token ⟨r.val / 8192, by omega⟩ ⟨r.val % 8192, by omega⟩ = r :=
    Fin.ext (by show r.val / 8192 * 8192 + r.val % 8192 = r.val; omega)
  unfold res
  generalize hs : scaled (weighted (both (mixA m c) (mixB m c)) (wOut m c)) (gain m c) = s
  pointwise [Cert.Outproj.result]
  rw [← hs, scaled_at]
  simp only [weighted_at, Cert.Outproj.sum_halves, both_first, both_second, hr]
  rfl

end Cert.Reference3Ideal.Out

end
-- ==== Proof.OutClaim.lean ====
/-
  The claims about the layer's output projection: the reference runs and leaves its arguments and every counter as they were, and
  kernel and reference have equal results, row by row those of `Proof/OutSpec.lean`.
-/
module

public import proofs.«01_k».proof.Defs
public import proofs.«01_k».proof.Proof.OutValue
public import proofs.«01_k».proof.Proof.OutRef
public import Idealize.ShloMosaic.Lib.Quiescent
public import Idealize.ShloMosaic.Lib.Claim

@[expose] public section

noncomputable section

namespace Cert.Outproj

open Idealize.ShloMosaic Idealize.ShloMosaic.TcCoe Idealize.SL.Sem Idealize.ShloMosaic.StableHlo

/-- The reference has no semaphores. -/
theorem frame_ref : Cert.quiescent_Reference3Ideal (hReference3Ideal := Reference3Ideal.Gen.facts) := fun m ρ _ =>
  θ_run_mono (Reference3Ideal.Out.run m ρ) fun r hr => ⟨fun c => (hr c).2, sem_eq_zero_of_no_sems rfl r.2⟩

theorem result_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : Reference3Ideal.Out.xs m' c = Kernel3Ideal.Out.xIn m c) (h1 : Reference3Ideal.Out.mixA m' c = Kernel3Ideal.Out.mixA m c)
    (h2 : Reference3Ideal.Out.mixB m' c = Kernel3Ideal.Out.mixB m c) (h3 : Reference3Ideal.Out.wOut m' c = Kernel3Ideal.Out.wOut m c)
    (h4 : Reference3Ideal.Out.gain m' c = Kernel3Ideal.Out.gain m c) :
    (Reference3Ideal.Out.res m' c : Kernel3Ideal.S32768x2048.Idx → EReal)
      = (Kernel3Ideal.Gen.dats m 0 c).arrAt 6 Kernel3Ideal.cfg0.N := by
  funext (i : Kernel3Ideal.S32768x2048.Idx)
  refine Eq.trans ?_ (congrFun (Kernel3Ideal.Out.array m c) i).symm
  refine (congrArg (Reference3Ideal.Out.res m' c : Kernel3Ideal.S32768x2048.Idx → EReal) (eq_ix2 i)).trans ?_
  refine (Reference3Ideal.Out.result_at m' c (i 0) (i 1)).trans ?_
  rw [h0, h1, h2, h3, h4]
  rfl

theorem algebraic : Cert.algebraic_Kernel3Ideal_Reference3Ideal (hKernel3Ideal := Kernel3Ideal.Gen.facts)
    (hReference3Ideal := Reference3Ideal.Gen.facts) := by
  intro m g m' g' _ hagree
  refine ⟨_, Kernel3Ideal.Value.run_blocks m g, θ_run_mono (Reference3Ideal.Out.run m' g') fun r hr c => ?_⟩
  obtain ⟨h0, h1, h2, h3, h4⟩ := hagree c
  obtain ⟨r0, ra⟩ := hr c
  exact ⟨r0.trans (result_eq m m' c h0 h1 h2 h3 h4), ra⟩

end Cert.Outproj

end
-- ==== Proof.InRun.lean ====
/-
  The input projection's kernel (`cc0_inproj` of `Kernel4Ideal`), one grid point at a time and over any `F`.

  The grid is seven groups of 1024 columns. The first point normalises the rows into a buffer of its own and stores the
  forget logits of the attention's heads; every point multiplies the normalised rows by its group of weights and stores
  the product head by head, each group with its own activation. Each run below is one case of the body's conditions;
  what it stores is found by the run.
-/
module

public import proofs.«01_k».proof.Proof.Gen.Kernel4Ideal.Frame
public import Idealize.ShloMosaic.Lib.Affine
public import Idealize.ShloMosaic.Lib.Tactic

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The normalised rows. -/
abbrev aM : Memref sig .tc .vmem S528x2048 .bf16 := Memref.whole cc0_scratch0

variable (c : Dev nD) (i : grid0.Coords)
  (arg2 : Memref sig .tc .vmem S528x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S2x1024 .f32) (harg7 : arg7.IsWhole)
  (arg8 : Memref sig .tc .vmem S8x528x128 .f32) (harg8 : arg8.IsWhole)
  (arg9 : Memref sig .tc .vmem S528x128 .f32) (harg9 : arg9.IsWhole)

/-- The body at grid point `i`. -/
abbrev body : Prog (TpuEff nD τ sig (Elt F) Λ₀ .tc) PUnit :=
  cc0_inproj (F := F) i arg2 harg2 arg3 harg3 arg4 harg4 arg5 harg5 arg6 harg6 arg7 harg7 arg8 harg8 arg9 harg9
    aM (Memref.isWhole_whole _)

/-- The first group: the rows are normalised, the forget logits stored, and the product through the gate's own sigmoid. -/
def runA (h1 : k0_cond1 i = 1#1) (h2 : k0_cond2 i = 1#1) (h3 : ¬k0_cond3 i = 1#1) (h4 : ¬k0_cond4 i = 1#1) (h5 : ¬k0_cond5 i = 1#1)
    (x0 : Vec F S528x2048 .f32) (x1 : Vec F S1x2048 .f32) (x2 : Vec F S2048x1024 .bf16) (x3 : Vec F S2048x128 .bf16) (x4 : Vec F S1x128 .f32) :
    Σ' (LA : List (View.Piece (Elt F) S528x2048 .bf16)) (LF : List (View.Piece (Elt F) S528x128 .f32)),
    { L : List (View.Piece (Elt F) S8x528x128 .f32) // ∀ (K : PUnit → sProp 𝕄),
      iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ (∃ d, owns (c : Thread nD τ) arg8 fullShare d) ∗ (∃ d, owns (c : Thread nD τ) arg9 fullShare d)
          ∗ (∃ d, owns (c : Thread nD τ) aM fullShare d)
          ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ (∃ f, arg8.view.loc (c : Thread nD τ) ↦[arg8.view.set]{fullShare} arg8.view.writes (Elt F) f L)
              ∗ (∃ f, arg9.view.loc (c : Thread nD τ) ↦[arg9.view.set]{fullShare} arg9.view.writes (Elt F) f LF)
              ∗ (∃ f, aM.view.loc (c : Thread nD τ) ↦[aM.view.set]{fullShare} aM.view.writes (Elt F) f LA)) -∗ K ⟨⟩))
        ⊢ wp frame (wpE (defs₀ (F := F)) Variants.none c none) Set.univ
            (body i arg2 harg2 arg3 harg3 arg4 harg4 arg5 harg5 arg6 harg6 arg7 harg7 arg8 harg8 arg9 harg9) K } := by
  refine ⟨?_, ?_, ?_, fun K => ?run⟩
  case run =>
    unfold body cc0_inproj k0_part1
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]; · iexists _; iexact H8
    isplitl [H9]; · iexists _; iexact H9
    iexists _; iexact HA

/-- The later group with the gate's activation. -/
def runB (h1 : ¬k0_cond1 i = 1#1) (h2 : k0_cond2 i = 1#1) (h3 : ¬k0_cond3 i = 1#1) (h4 : ¬k0_cond4 i = 1#1) (h5 : ¬k0_cond5 i = 1#1)
    (x2 : Vec F S2048x1024 .bf16) (xa : Vec F S528x2048 .bf16) :
    { L : List (View.Piece (Elt F) S8x528x128 .f32) // ∀ (K : PUnit → sProp 𝕄),
      iprop(owns (c : Thread nD τ) arg4 fullShare x2 ∗ (∃ d, owns (c : Thread nD τ) arg8 fullShare d) ∗ owns (c : Thread nD τ) aM fullShare xa
          ∗ (iprop(owns (c : Thread nD τ) arg4 fullShare x2
              ∗ (∃ f, arg8.view.loc (c : Thread nD τ) ↦[arg8.view.set]{fullShare} arg8.view.writes (Elt F) f L)
              ∗ owns (c : Thread nD τ) aM fullShare xa) -∗ K ⟨⟩))
        ⊢ wp frame (wpE (defs₀ (F := F)) Variants.none c none) Set.univ
            (body i arg2 harg2 arg3 harg3 arg4 harg4 arg5 harg5 arg6 harg6 arg7 harg7 arg8 harg8 arg9 harg9) K } := by
  refine ⟨?_, fun K => ?run⟩
  case run =>
    unfold body cc0_inproj k0_part1
    unfold owns
    iintro ⟨⟨%f2, %hf2, H2⟩, ⟨%d8, %f8, -, H8⟩, ⟨%fa, %hfa, HA⟩, Hk⟩
    obtain rfl := harg4.eq_unread hf2; obtain rfl := (Memref.isWhole_whole cc0_scratch0).eq_unread hfa
    sl_exec (disch := first | sl_exact h1 | sl_exact h2 | sl_exact h3 | sl_exact h4 | sl_exact h5)
    sl_step
    iapply Hk
    isplitl [H2]
    · iexists _; isplitr; · ipureintro; exact harg4.read_unread _
      iexact H2
    isplitl [H8]; · iexists _; iexact H8
    iexists _; isplitr; · ipureintro; exact (Memref.isWhole_whole cc0_scratch0).read_unread _
    iexact HA

/-- The group of the forget gates: their bounds come from the logits. -/
def runC (h1 : ¬k0_cond1 i = 1#1) (h2 : ¬k0_cond2 i = 1#1) (h3 : k0_cond3 i = 1#1) (h4 : ¬k0_cond4 i = 1#1) (h5 : ¬k0_cond5 i = 1#1)
    (x2 : Vec F S2048x1024 .bf16) (x5 : Vec F S2x1024 .f32) (xa : Vec F S528x2048 .bf16) :
    { L : List (View.Piece (Elt F) S8x528x128 .f32) // ∀ (K : PUnit → sProp 𝕄),
      iprop(owns (c : Thread nD τ) arg4 fullShare x2 ∗ owns (c : Thread nD τ) arg7 fullShare x5
          ∗ (∃ d, owns (c : Thread nD τ) arg8 fullShare d) ∗ owns (c : Thread nD τ) aM fullShare xa
          ∗ (iprop(owns (c : Thread nD τ) arg4 fullShare x2 ∗ owns (c : Thread nD τ) arg7 fullShare x5
              ∗ (∃ f, arg8.view.loc (c : Thread nD τ) ↦[arg8.view.set]{fullShare} arg8.view.writes (Elt F) f L)
              ∗ owns (c : Thread nD τ) aM fullShare xa) -∗ K ⟨⟩))
        ⊢ wp frame (wpE (defs₀ (F := F)) Variants.none c none) Set.univ
            (body i arg2 harg2 arg3 harg3 arg4 harg4 arg5 harg5 arg6 harg6 arg7 harg7 arg8 harg8 arg9 harg9) K } := by
  refine ⟨?_, fun K => ?run⟩
  case run =>
    unfold body cc0_inproj k0_part2
    unfold owns
    iintro ⟨⟨%f2, %hf2, H2⟩, ⟨%f5, %hf5, H5⟩, ⟨%d8, %f8, -, H8⟩, ⟨%fa, %hfa, HA⟩, Hk⟩
    obtain rfl := harg4.eq_unread hf2; obtain rfl := harg7.eq_unread hf5
    obtain rfl := (Memref.isWhole_whole cc0_scratch0).eq_unread hfa
    sl_exec (disch := first | sl_exact h1 | sl_exact h2 | sl_exact h3 | sl_exact h4 | sl_exact h5)
    sl_step
    iapply Hk
    isplitl [H2]
    · iexists _; isplitr; · ipureintro; exact harg4.read_unread _
      iexact H2
    isplitl [H5]
    · iexists _; isplitr; · ipureintro; exact harg7.read_unread _
      iexact H5
    isplitl [H8]; · iexists _; iexact H8
    iexists _; isplitr; · ipureintro; exact (Memref.isWhole_whole cc0_scratch0).read_unread _
    iexact HA

/-- The groups that are only scaled. -/
def runD (h1 : ¬k0_cond1 i = 1#1) (h2 : ¬k0_cond2 i = 1#1) (h3 : ¬k0_cond3 i = 1#1) (h4 : k0_cond4 i = 1#1) (h5 : ¬k0_cond5 i = 1#1)
    (x2 : Vec F S2048x1024 .bf16) (xa : Vec F S528x2048 .bf16) :
    { L : List (View.Piece (Elt F) S8x528x128 .f32) // ∀ (K : PUnit → sProp 𝕄),
      iprop(owns (c : Thread nD τ) arg4 fullShare x2 ∗ (∃ d, owns (c : Thread nD τ) arg8 fullShare d) ∗ owns (c : Thread nD τ) aM fullShare xa
          ∗ (iprop(owns (c : Thread nD τ) arg4 fullShare x2
              ∗ (∃ f, arg8.view.loc (c : Thread nD τ) ↦[arg8.view.set]{fullShare} arg8.view.writes (Elt F) f L)
              ∗ owns (c : Thread nD τ) aM fullShare xa) -∗ K ⟨⟩))
        ⊢ wp frame (wpE (defs₀ (F := F)) Variants.none c none) Set.univ
            (body i arg2 harg2 arg3 harg3 arg4 harg4 arg5 harg5 arg6 harg6 arg7 harg7 arg8 harg8 arg9 harg9) K } := by
  refine ⟨?_, fun K => ?run⟩
  case run =>
    unfold body cc0_inproj k0_part3
    unfold owns
    iintro ⟨⟨%f2, %hf2, H2⟩, ⟨%d8, %f8, -, H8⟩, ⟨%fa, %hfa, HA⟩, Hk⟩
    obtain rfl := harg4.eq_unread hf2; obtain rfl := (Memref.isWhole_whole cc0_scratch0).eq_unread hfa
    sl_exec (disch := first | sl_exact h1 | sl_exact h2 | sl_exact h3 | sl_exact h4 | sl_exact h5)
    sl_step
    iapply Hk
    isplitl [H2]
    · iexists _; isplitr; · ipureintro; exact harg4.read_unread _
      iexact H2
    isplitl [H8]; · iexists _; iexact H8
    iexists _; isplitr; · ipureintro; exact (Memref.isWhole_whole cc0_scratch0).read_unread _
    iexact HA

/-- The groups stored as they are. -/
def runE (h1 : ¬k0_cond1 i = 1#1) (h2 : ¬k0_cond2 i = 1#1) (h3 : ¬k0_cond3 i = 1#1) (h4 : ¬k0_cond4 i = 1#1) (h5 : k0_cond5 i = 1#1)
    (x2 : Vec F S2048x1024 .bf16) (xa : Vec F S528x2048 .bf16) :
    { L : List (View.Piece (Elt F) S8x528x128 .f32) // ∀ (K : PUnit → sProp 𝕄),
      iprop(owns (c : Thread nD τ) arg4 fullShare x2 ∗ (∃ d, owns (c : Thread nD τ) arg8 fullShare d) ∗ owns (c : Thread nD τ) aM fullShare xa
          ∗ (iprop(owns (c : Thread nD τ) arg4 fullShare x2
              ∗ (∃ f, arg8.view.loc (c : Thread nD τ) ↦[arg8.view.set]{fullShare} arg8.view.writes (Elt F) f L)
              ∗ owns (c : Thread nD τ) aM fullShare xa) -∗ K ⟨⟩))
        ⊢ wp frame (wpE (defs₀ (F := F)) Variants.none c none) Set.univ
            (body i arg2 harg2 arg3 harg3 arg4 harg4 arg5 harg5 arg6 harg6 arg7 harg7 arg8 harg8 arg9 harg9) K } := by
  refine ⟨?_, fun K => ?run⟩
  case run =>
    unfold body cc0_inproj k0_part4
    unfold owns
    iintro ⟨⟨%f2, %hf2, H2⟩, ⟨%d8, %f8, -, H8⟩, ⟨%fa, %hfa, HA⟩, Hk⟩
    obtain rfl := harg4.eq_unread hf2; obtain rfl := (Memref.isWhole_whole cc0_scratch0).eq_unread hfa
    sl_exec (disch := first | sl_exact h1 | sl_exact h2 | sl_exact h3 | sl_exact h4 | sl_exact h5)
    sl_step
    iapply Hk
    isplitl [H2]
    · iexists _; isplitr; · ipureintro; exact harg4.read_unread _
      iexact H2
    isplitl [H8]; · iexists _; iexact H8
    iexists _; isplitr; · ipureintro; exact (Memref.isWhole_whole cc0_scratch0).read_unread _
    iexact HA

end Cert.Kernel4Ideal.In

end
-- ==== Proof.InPieces.lean ====
/-
  What the input projection's kernel stores, in closed form and over any `F`: the normalised rows, the forget logits, and
  each group's product with its activation, cut into eight heads.
-/
module

public import proofs.«01_k».proof.Proof.InRun
public import Idealize.ShloMosaic.Lib.Pointwise
public import Idealize.ShloMosaic.Lib.VecWindow
public import Idealize.ShloMosaic.Lib.WritesUnit
public import Idealize.ShloMosaic.Lib.Pipeline.FrameBody
public import Idealize.ShloMosaic.Lib.Pipeline.Value
public import Idealize.ShloMosaic.Lib.Pipeline.ValueKit.Tiles

@[expose] public section

set_option maxRecDepth 8192

noncomputable section

namespace Cert.Kernel4Ideal.In

open Cert.Kernel4Ideal Cert.Kernel4Ideal.Gen
open Idealize.ShloMosaic Idealize.ShloMosaic.TcCoe

variable {F : FTy → Type} [FloatOps F] [Named F]

/-! ## The functions -/

/-- The rows scaled to root mean square one, with their gains, rounded. -/
def normRows (x : FVec F S528x2048 .f32) (g : FVec F S1x2048 .f32) : FVec F S528x2048 .bf16 :=
  truncf .bf16
    (mulf
      (mulf x
        (broadcastTo S528x2048
          (rsqrt
            (addf
              (divf
                (shapeCast S528x1
                  (multiReduction .add [1] S528 (mulf x x) 0x00000000#32 reduces_S528x2048_S528 (.inl rfl) rfl)
                  shapeCasts_S528_S528x1)
                (broadcast S528x1 (Scalar.ofBits .f32 0x45000000#32)))
              (broadcast S528x1 (Scalar.ofBits .f32 0x358637BD#32))))
          broadcasts_S528x1_S528x2048))
      (broadcastTo S528x2048 g broadcasts_S1x2048_S528x2048))
    bitsLt_bf16_f32

/-- A row's forget logits, through the log of the sigmoid. -/
def logSigmoid (y : FVec F S528x128 .f32) : FVec F S528x128 .f32 :=
  subf (minimumf y (broadcast S528x128 (Scalar.ofBits .f32 0x00000000#32)))
    (log1p (exp (subf (broadcast S528x128 (Scalar.ofBits .f32 0x00000000#32)) (absf y))))
def forgetLogits (a : FVec F S528x2048 .bf16) (w : FVec F S2048x128 .bf16) (b : FVec F S1x128 .f32) : FVec F S528x128 .f32 :=
  logSigmoid (addf (matmul dot_S528x2048_S2048x128_S528x128_1_0_0_1_n_n none a w (constant S528x128 .f32 0x00000000#32))
    (broadcastTo S528x128 b broadcasts_S1x128_S528x128))

/-- A group's product. -/
def prod (a : FVec F S528x2048 .bf16) (w : FVec F S2048x1024 .bf16) : FVec F S528x1024 .f32 :=
  matmul dot_S528x2048_S2048x1024_S528x1024_1_0_0_1_n_n none a w (constant S528x1024 .f32 0x00000000#32)

/-- The gate's activation. -/
def silu (y : FVec F S528x1024 .f32) : FVec F S528x1024 .f32 := mulf y (logistic y)

/-- The forget gates' lower bounds: the first logit's weight among the logits. -/
def floors (l : FVec F S2x1024 .f32) : FVec F S1x1024 .f32 :=
  divf
    (extractStridedSlice S1x1024 ![0, 0]
      (exp (subf l (broadcastTo S2x1024 (shapeCast S1x1024 (multiReduction .maximumf [0] S1024 l 0xFF800000#32 reduces_S2x1024_S1024 (.inl rfl) rfl)
        shapeCasts_S1024_S1x1024) broadcasts_S1x1024_S2x1024))) slices_S2x1024_o0_0_S1x1024)
    (shapeCast S1x1024 (multiReduction .add [0] S1024
      (exp (subf l (broadcastTo S2x1024 (shapeCast S1x1024 (multiReduction .maximumf [0] S1024 l 0xFF800000#32 reduces_S2x1024_S1024 (.inl rfl) rfl)
        shapeCasts_S1024_S1x1024) broadcasts_S1x1024_S2x1024))) 0x00000000#32 reduces_S2x1024_S1024 (.inl rfl) rfl) shapeCasts_S1024_S1x1024)

/-- The forget gates' logs in base two. -/
def logForget (y : FVec F S528x1024 .f32) (l : FVec F S2x1024 .f32) : FVec F S528x1024 .f32 :=
  mulf
    (log (addf (broadcastTo S528x1024 (floors l) broadcasts_S1x1024_S528x1024)
      (mulf (broadcastTo S528x1024 (subf (broadcast S1x1024 (Scalar.ofBits .f32 0x3F800000#32)) (floors l)) broadcasts_S1x1024_S528x1024)
        (logistic y))))
    (broadcast S528x1024 (Named.named κ "log2e" 0x3FB8AA3B#32))

/-- The queries' scale, one for the group before them. -/
def scaled (i : grid0.Coords) (y : FVec F S528x1024 .f32) : FVec F S528x1024 .f32 :=
  mulf y (broadcast S528x1024
    (Scalar.select (Scalar.cmpi .eq (BitVec.ofNat 32 (i 1).val) 4#32) (Named.named κ "q_scale" 0x3E0293EE#32) (Scalar.ofBits .f32 0x3F800000#32)))

/-! ## The heads -/

section Heads
variable {α : Type}

theorem headSlices (h : Fin 8) : S528x1024.Slices ![0, 128 * h.val] S528x128 :=
  ⟨rfl, fun a => by
    match a with
    | ⟨0, _⟩ => show 0 + 528 ≤ 528; omega
    | ⟨1, _⟩ => show 128 * h.val + 128 ≤ 1024; omega⟩
theorem headInb (h : Fin 8) : ∀ a, (![h.val, 0, 0] : Fin 3 → ℕ) a + S1x528x128.size a ≤ S8x528x128.size a := fun a => by
  match a with
  | ⟨0, _⟩ => show h.val + 1 ≤ 8; omega
  | ⟨1, _⟩ => show 0 + 528 ≤ 528; omega
  | ⟨2, _⟩ => show 0 + 128 ≤ 128; omega

/-- Head `h` of a group. -/
def headOf (y : S528x1024.Idx → α) (h : Fin 8) : S1x528x128.Idx → α :=
  shapeCast S1x528x128 (extractStridedSlice S528x128 ![0, 128 * h.val] y (headSlices h)) shapeCasts_S528x128_S1x528x128

theorem cast_head (z : S528x128.Idx → α) (r : Fin 528) (d : Fin 128) :
    shapeCast S1x528x128 z shapeCasts_S528x128_S1x528x128 (ix3 0 r d) = z (ix2 r d) := by
  pointwise
theorem headOf_at (y : S528x1024.Idx → α) (h : Fin 8) (r : Fin 528) (d : Fin 128) :
    headOf y h (ix3 0 r d) = y (ix2 r ⟨128 * h.val + d.val, by omega⟩) := by
  refine (cast_head _ r d).trans (congrArg y (funext fun a => Fin.ext ?_))
  match a with
  | ⟨0, _⟩ => show 0 + r.val = r.val; omega
  | ⟨1, _⟩ => rfl

/-- A group with its heads side by side. -/
def byHead (y : S528x1024.Idx → α) : S8x528x128.Idx → α := fun p =>
  y (ix2 (p 1) ⟨128 * (p 0).val + (p 2).val, by have h0 : (p 0).val < 8 := (p 0).isLt; have h2 : (p 2).val < 128 := (p 2).isLt; omega⟩)

end Heads

/-- A group's heads as the kernel stores them. -/
def heads (y : FVec F S528x1024 .f32) : List (View.Piece (Elt F) S8x528x128 .f32) :=
  [⟨Rect.unit ![7, 0, 0] S1x528x128.size (headInb 7), headOf y 7⟩, ⟨Rect.unit ![6, 0, 0] S1x528x128.size (headInb 6), headOf y 6⟩,
    ⟨Rect.unit ![5, 0, 0] S1x528x128.size (headInb 5), headOf y 5⟩, ⟨Rect.unit ![4, 0, 0] S1x528x128.size (headInb 4), headOf y 4⟩,
    ⟨Rect.unit ![3, 0, 0] S1x528x128.size (headInb 3), headOf y 3⟩, ⟨Rect.unit ![2, 0, 0] S1x528x128.size (headInb 2), headOf y 2⟩,
    ⟨Rect.unit ![1, 0, 0] S1x528x128.size (headInb 1), headOf y 1⟩, ⟨Rect.unit ![0, 0, 0] S1x528x128.size (headInb 0), headOf y 0⟩]

theorem heads_cover (y : FVec F S528x1024 .f32) (p : S8x528x128.Idx) : ∃ q ∈ heads y, p ∈ q.1.set :=
  View.cover_of_tiledL (heads y) S1x528x128.size (by sl_kernel_rfl) p

theorem headOf_tile {α : Type} (y : S528x1024.Idx → α) (h : Fin 8) (p : S8x528x128.Idx) (x : S1x528x128.Idx)
    (hx : ∀ a, ((p a : Fin _) : ℕ) = (![h.val, 0, 0] : Fin 3 → ℕ) a + (x a).val) : headOf y h x = byHead y p := by
  have h0 : (p 0).val = h.val + (x 0).val := hx 0
  have h1 : (p 1).val = 0 + (x 1).val := hx 1
  have h2 : (p 2).val = 0 + (x 2).val := hx 2
  have x0 : (x 0).val < 1 := (x 0).isLt
  have e : x = ix3 (n0 := 1) (n1 := 528) (n2 := 128) 0 (x 1) (x 2) := funext fun a => Fin.ext (by
    match a with
    | ⟨0, _⟩ => show (x 0).val = 0; omega
    | ⟨1, _⟩ => rfl
    | ⟨2, _⟩ => rfl)
  refine (congrArg (headOf y h) e).trans ((headOf_at y h (x 1) (x 2)).trans (congrArg y (funext fun a => Fin.ext ?_)))
  match a with
  | ⟨0, _⟩ => show (x 1).val = (p 1).val; omega
  | ⟨1, _⟩ => show 128 * h.val + (x 2).val = 128 * (p 0).val + (p 2).val; omega

theorem heads_canon (y : FVec F S528x1024 .f32) : View.canon (heads y) = byHead (α := Elt F .f32) y := funext fun p => by
  refine View.canon_eq_of_allAt _ p _ (heads_cover y p) ?_
  unfold heads
  refine View.allAt_cons_unit _ _ _ _ _ (headOf_tile y 7 p) ?_
  refine View.allAt_cons_unit _ _ _ _ _ (headOf_tile y 6 p) ?_
  refine View.allAt_cons_unit _ _ _ _ _ (headOf_tile y 5 p) ?_
  refine View.allAt_cons_unit _ _ _ _ _ (headOf_tile y 4 p) ?_
  refine View.allAt_cons_unit _ _ _ _ _ (headOf_tile y 3 p) ?_
  refine View.allAt_cons_unit _ _ _ _ _ (headOf_tile y 2 p) ?_
  refine View.allAt_cons_unit _ _ _ _ _ (headOf_tile y 1 p) ?_
  refine View.allAt_cons_unit _ _ _ _ _ (headOf_tile y 0 p) ?_
  exact View.allAt_nil _ _

/-! ## What the runs store -/

/-- A buffer held whole, loaded whole. -/
theorem load_whole {sp : Space} {s : Shape} {e : EltTy} (arg : Memref sig .tc sp s e) (harg : arg.IsWhole) (x : s.Idx → Elt F e)
    {off : Fin s.rank → ℕ} (inb : ∀ a, off a + s.size a ≤ s.size a) :
    arg.view.readAt (Elt F) (Rect.unit off s.size inb).toLoadRect (harg.unread x) = x := by
  rw [View.readAt_full, harg.read_unread]
theorem load_all {sp : Space} {s : Shape} {e : EltTy} (arg : Memref sig .tc sp s e) (harg : arg.IsWhole) (x : s.Idx → Elt F e)
    {off : Fin s.rank → ℕ} (inb : ∀ a, off a + s.size a ≤ s.size a) (hs : s.ShapeCasts s) :
    shapeCast s (arg.view.readAt (Elt F) (Rect.unit off s.size inb).toLoadRect (harg.unread x)) hs = x := by
  rw [load_whole]
  exact shapeCast_self _ _

section Stored
variable (c : Dev nD) (i : grid0.Coords)
  (arg2 : Memref sig .tc .vmem S528x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S2x1024 .f32) (harg7 : arg7.IsWhole)
  (arg8 : Memref sig .tc .vmem S8x528x128 .f32) (harg8 : arg8.IsWhole)
  (arg9 : Memref sig .tc .vmem S528x128 .f32) (harg9 : arg9.IsWhole)
  (x0 : Vec F S528x2048 .f32) (x1 : Vec F S1x2048 .f32) (x2 : Vec F S2048x1024 .bf16) (x3 : Vec F S2048x128 .bf16) (x4 : Vec F S1x128 .f32)
  (x5 : Vec F S2x1024 .f32) (xa : Vec F S528x2048 .bf16)

theorem rows_stored : runA.sl.v35 c arg2 harg2 arg3 harg3 x0 x1 = normRows x0 x1 := by
  have e : runA.sl.v20 c arg2 harg2 x0 = x0 := load_all arg2 harg2 x0 _ _
  have g : runA.sl.v22 c arg3 harg3 x1 = x1 := load_all arg3 harg3 x1 _ _
  show normRows (runA.sl.v20 c arg2 harg2 x0) (runA.sl.v22 c arg3 harg3 x1) = _
  rw [e, g]

/-- The normalised rows as stored. -/
def rowsPiece (a : FVec F S528x2048 .bf16) : List (View.Piece (Elt F) S528x2048 .bf16) :=
  [⟨Rect.unit ![0, 0] S528x2048.size inb_S528x2048_S528x2048_0_0, a⟩]
/-- The forget logits as stored. -/
def logitsPiece (y : FVec F S528x128 .f32) : List (View.Piece (Elt F) S528x128 .f32) :=
  [⟨Rect.unit ![0, 0] S528x128.size inb_S528x128_S528x128_0_0, y⟩]

theorem rowsPiece_canon (a : FVec F S528x2048 .bf16) : View.canon (rowsPiece a) = a := View.canon_cons_unit_lit _ _ _ (by decide)
theorem logitsPiece_canon (y : FVec F S528x128 .f32) : View.canon (logitsPiece y) = y := View.canon_cons_unit_lit _ _ _ (by decide)
theorem rowsPiece_cover (a : FVec F S528x2048 .bf16) (p : S528x2048.Idx) : ∃ q ∈ rowsPiece a, p ∈ q.1.set :=
  View.cover_of_tiledL (rowsPiece a) S528x2048.size (by sl_kernel_rfl) p
theorem logitsPiece_cover (y : FVec F S528x128 .f32) (p : S528x128.Idx) : ∃ q ∈ logitsPiece y, p ∈ q.1.set :=
  View.cover_of_tiledL (logitsPiece y) S528x128.size (by sl_kernel_rfl) p

theorem runA_rows (h1 h2 h3 h4 h5) :
    (runA c i arg2 harg2 arg3 harg3 arg4 harg4 arg5 harg5 arg6 harg6 arg7 harg7 arg8 harg8 arg9 harg9 h1 h2 h3 h4 h5 x0 x1 x2 x3 x4).1
      = rowsPiece (normRows x0 x1) := by
  show rowsPiece (shapeCast S528x2048 (runA.sl.v35 c arg2 harg2 arg3 harg3 x0 x1) shapeCasts_S528x2048_S528x2048) = _
  rw [rows_stored, shapeCast_self]

theorem runA_logits (h1 h2 h3 h4 h5) :
    (runA c i arg2 harg2 arg3 harg3 arg4 harg4 arg5 harg5 arg6 harg6 arg7 harg7 arg8 harg8 arg9 harg9 h1 h2 h3 h4 h5 x0 x1 x2 x3 x4).2.1
      = logitsPiece (forgetLogits (normRows x0 x1) x3 x4) := by
  have e : runA.sl.v40 c arg5 harg5 x3 = x3 := load_all arg5 harg5 x3 _ _
  have g : runA.sl.v43 c arg6 harg6 x4 = x4 := load_all arg6 harg6 x4 _ _
  show logitsPiece (forgetLogits (runA.sl.v35 c arg2 harg2 arg3 harg3 x0 x1) (runA.sl.v40 c arg5 harg5 x3) (runA.sl.v43 c arg6 harg6 x4)) = _
  rw [rows_stored, e, g]

theorem runA_heads (h1 h2 h3 h4 h5) :
    (runA c i arg2 harg2 arg3 harg3 arg4 harg4 arg5 harg5 arg6 harg6 arg7 harg7 arg8 harg8 arg9 harg9 h1 h2 h3 h4 h5 x0 x1 x2 x3 x4).2.2.1
      = heads (silu (prod (normRows x0 x1) x2)) := by
  have e : runA.sl.v19 c arg2 harg2 arg3 harg3 x0 x1 = normRows x0 x1 :=
    (View.readCov_cons_toLoadRect aM.view _ _ _).trans ((shapeCast_self _ _).trans (rows_stored c arg2 harg2 arg3 harg3 x0 x1))
  have g : runA.sl.v21 c arg4 harg4 x2 = x2 := load_all arg4 harg4 x2 _ _
  show heads (silu (prod (runA.sl.v19 c arg2 harg2 arg3 harg3 x0 x1) (runA.sl.v21 c arg4 harg4 x2))) = _
  rw [e, g]

theorem runB_heads (h1 h2 h3 h4 h5) :
    (runB c i arg2 harg2 arg3 harg3 arg4 harg4 arg5 harg5 arg6 harg6 arg7 harg7 arg8 harg8 arg9 harg9 h1 h2 h3 h4 h5 x2 xa).1
      = heads (silu (prod xa x2)) := by
  have g : runB.sl.v21 c arg4 harg4 x2 = x2 := load_all arg4 harg4 x2 _ _
  show heads (silu (prod (aM.view.readAt (Elt F) (Rect.unit ![0, 0] S528x2048.size inb_S528x2048_S528x2048_0_0).toLoadRect
    ((Memref.isWhole_whole cc0_scratch0).unread xa)) (runB.sl.v21 c arg4 harg4 x2))) = _
  rw [load_whole aM (Memref.isWhole_whole cc0_scratch0) xa, g]

theorem runC_heads (h1 h2 h3 h4 h5) :
    (runC c i arg2 harg2 arg3 harg3 arg4 harg4 arg5 harg5 arg6 harg6 arg7 harg7 arg8 harg8 arg9 harg9 h1 h2 h3 h4 h5 x2 x5 xa).1
      = heads (logForget (prod xa x2) x5) := by
  have g : runC.sl.v21 c arg4 harg4 x2 = x2 := load_all arg4 harg4 x2 _ _
  show heads (logForget (prod (aM.view.readAt (Elt F) (Rect.unit ![0, 0] S528x2048.size inb_S528x2048_S528x2048_0_0).toLoadRect
    ((Memref.isWhole_whole cc0_scratch0).unread xa)) (runC.sl.v21 c arg4 harg4 x2))
    (arg7.view.readAt (Elt F) (Rect.unit ![0, 0] S2x1024.size inb_S2x1024_S2x1024_0_0).toLoadRect (harg7.unread x5))) = _
  rw [load_whole aM (Memref.isWhole_whole cc0_scratch0) xa, g, load_whole arg7 harg7 x5]

theorem runD_heads (h1 h2 h3 h4 h5) :
    (runD c i arg2 harg2 arg3 harg3 arg4 harg4 arg5 harg5 arg6 harg6 arg7 harg7 arg8 harg8 arg9 harg9 h1 h2 h3 h4 h5 x2 xa).1
      = heads (scaled i (prod xa x2)) := by
  have g : runD.sl.v21 c arg4 harg4 x2 = x2 := load_all arg4 harg4 x2 _ _
  show heads (scaled i (prod (aM.view.readAt (Elt F) (Rect.unit ![0, 0] S528x2048.size inb_S528x2048_S528x2048_0_0).toLoadRect
    ((Memref.isWhole_whole cc0_scratch0).unread xa)) (runD.sl.v21 c arg4 harg4 x2))) = _
  rw [load_whole aM (Memref.isWhole_whole cc0_scratch0) xa, g]

theorem runE_heads (h1 h2 h3 h4 h5) :
    (runE c i arg2 harg2 arg3 harg3 arg4 harg4 arg5 harg5 arg6 harg6 arg7 harg7 arg8 harg8 arg9 harg9 h1 h2 h3 h4 h5 x2 xa).1
      = heads (prod xa x2) := by
  have g : runE.sl.v21 c arg4 harg4 x2 = x2 := load_all arg4 harg4 x2 _ _
  show heads (prod (aM.view.readAt (Elt F) (Rect.unit ![0, 0] S528x2048.size inb_S528x2048_S528x2048_0_0).toLoadRect
    ((Memref.isWhole_whole cc0_scratch0).unread xa)) (runE.sl.v21 c arg4 harg4 x2)) = _
  rw [load_whole aM (Memref.isWhole_whole cc0_scratch0) xa, g]

end Stored

end Cert.Kernel4Ideal.In

end
-- ==== Proof.InFrame.lean ====
/-
  The input projection's launch: what each grid point leaves in the normalised rows and the two results, the invariant
  between points, the body's triple at every point, the run and the frame. Over any `F`.
-/
module

public import proofs.«01_k».proof.Proof.InPieces

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's conditions -/

theorem lt_N (t : Fin cfg0.N) : t.val < 7 := Nat.lt_of_lt_of_eq t.isLt N_0
theorem c1 (t : Fin cfg0.N) : k0_cond1 (grid0.coords t) = 1#1 ↔ t.val = 0 :=
  (by decide +kernel : ∀ t : Fin grid0.N, k0_cond1 (grid0.coords t) = 1#1 ↔ t.val = 0) t
theorem c2 (t : Fin cfg0.N) : k0_cond2 (grid0.coords t) = 1#1 ↔ t.val = 0 ∨ t.val = 3 :=
  (by decide +kernel : ∀ t : Fin grid0.N, k0_cond2 (grid0.coords t) = 1#1 ↔ t.val = 0 ∨ t.val = 3) t
theorem c3 (t : Fin cfg0.N) : k0_cond3 (grid0.coords t) = 1#1 ↔ t.val = 1 :=
  (by decide +kernel : ∀ t : Fin grid0.N, k0_cond3 (grid0.coords t) = 1#1 ↔ t.val = 1) t
theorem c4 (t : Fin cfg0.N) : k0_cond4 (grid0.coords t) = 1#1 ↔ t.val = 2 ∨ t.val = 4 :=
  (by decide +kernel : ∀ t : Fin grid0.N, k0_cond4 (grid0.coords t) = 1#1 ↔ t.val = 2 ∨ t.val = 4) t
theorem c5 (t : Fin cfg0.N) : k0_cond5 (grid0.coords t) = 1#1 ↔ 5 ≤ t.val :=
  (by decide +kernel : ∀ t : Fin grid0.N, k0_cond5 (grid0.coords t) = 1#1 ↔ 5 ≤ t.val) t

theorem idle7 (t : Fin cfg0.N) (h : ¬t.val = 0) : cfg0.idle 7 (grid0.coords t) = true :=
  (by decide +kernel : ∀ t : Fin grid0.N, ¬t.val = 0 → cfg0.idle 7 (grid0.coords t) = true) t h
theorem live7 (t : Fin cfg0.N) (h : t.val = 0) : cfg0.idle 7 (grid0.coords t) = false :=
  (by decide +kernel : ∀ t : Fin grid0.N, t.val = 0 → cfg0.idle 7 (grid0.coords t) = false) t h
theorem live6 (t : Fin cfg0.N) : cfg0.idle 6 (grid0.coords t) = false :=
  (by decide +kernel : ∀ t : Fin grid0.N, cfg0.idle 6 (grid0.coords t) = false) t
theorem stay7 (t : Fin cfg0.N) (h : ¬t.val = 6) : (cfg0.win 7).flush t = false :=
  Bool.eq_false_iff.mpr fun e => h (by have := (flush0_7 t).mp e; have := lt_N t; omega)
theorem leave7 (t : Fin cfg0.N) (h : t.val = 6) : (cfg0.win 7).flush t = true := (flush0_7 t).mpr (by omega)

/-! ## What the points leave -/

abbrev ms0 (t : Fin cfg0.N) : Memref sig .tc .vmem S528x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x528x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S528x128 .f32 := win0_7.stage (cfg0.slots t 7)
abbrev hs7 (t : Fin cfg0.N) : (ms7 t).IsWhole := hstage0_7 ((cfg0.slots t 7).cast nbuf0_7)

/-- The normalised rows and the forget logits, from the first point's blocks. -/
def rows (c : Dev nD) : FVec F S528x2048 .bf16 := normRows (iblk m c 0 t0_0) (iblk m c 1 t0_0)
def gates (c : Dev nD) : FVec F S528x128 .f32 := forgetLogits (rows m c) (iblk m c 3 t0_0) (iblk m c 4 t0_0)

/-- Point `t`'s group through its activation. -/
def activated (c : Dev nD) (t : Fin cfg0.N) : FVec F S528x1024 .f32 :=
  if t.val = 0 ∨ t.val = 3 then silu (prod (rows m c) (iblk m c 2 t))
  else if t.val = 1 then logForget (prod (rows m c) (iblk m c 2 t)) (iblk m c 5 t)
  else if t.val = 2 ∨ t.val = 4 then scaled (grid0.coords t) (prod (rows m c) (iblk m c 2 t))
  else prod (rows m c) (iblk m c 2 t)
def headsAt (c : Dev nD) (t : Fin cfg0.N) : Vec F S8x528x128 .f32 := byHead (activated m c t)

/-! ## The invariant and the proof data -/

/-- The normalised rows' buffer before point `n`. -/
def scratch (c : Dev nD) : (n : ℕ) → sProp 𝕄
  | 0 => iprop(∃ d, owns (c : Thread nD τ) aM fullShare d)
  | n + 1 => owns (c : Thread nD τ) aM fullShare (rows m c)

theorem scratch_pos (c : Dev nD) (n : ℕ) (hz : n ≠ 0) : scratch m c n = owns (c : Thread nD τ) aM fullShare (rows m c) := by
  cases n with
  | zero => exact absurd rfl hz
  | succ n => rfl
theorem scratch_any (c : Dev nD) (n : ℕ) : scratch m c n ⊢ iprop(∃ d, owns (c : Thread nD τ) aM fullShare d) := by
  cases n with
  | zero => exact .rfl
  | succ n =>
    unfold scratch
    iintro HA; iexists _; iexact HA

def inv (c : Dev nD) (n : ℕ) : sProp 𝕄 := iprop(scratch m c n ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => headsAt m c t
    | ⟨7, _⟩ => gates m c
  Φ t := inv m c t.val
  q _ := fullShare
  owed _ := 0

theorem A_eq (c : Dev nD) (w : Fin cfg0.W) : (dats m 0 c).A w = V m c (Pipeline.arrRef spec0 w) := by
  dsimp only [dats]

section Windows
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = headsAt m c t := by dsimp only [dats]
theorem after7 : (dats m 0 c).after 7 t = gates m c := by dsimp only [dats]

theorem before0 (d) : (dats m 0 c).before 0 t d = iblk m c 0 t := before0_0_of m _ (A_eq m c 0) (after0 m c) t d
theorem before1 (d) : (dats m 0 c).before 1 t d = iblk m c 1 t := before0_1_of m _ (A_eq m c 1) (after1 m c) t d
theorem before2 (d) : (dats m 0 c).before 2 t d = iblk m c 2 t := before0_2_of m _ (A_eq m c 2) (after2 m c) t d
theorem before3 (d) : (dats m 0 c).before 3 t d = iblk m c 3 t := before0_3_of m _ (A_eq m c 3) (after3 m c) t d
theorem before4 (d) : (dats m 0 c).before 4 t d = iblk m c 4 t := before0_4_of m _ (A_eq m c 4) (after4 m c) t d
theorem before5 (d) : (dats m 0 c).before 5 t d = iblk m c 5 t := before0_5_of m _ (A_eq m c 5) (after5 m c) t d
end Windows

/-- The forget logits stay in their buffer after the first point. -/
theorem before7 (c : Dev nD) (d) : ∀ (n : ℕ) (hn : n < cfg0.N), n ≠ 0 → (dats m 0 c).before 7 ⟨n, hn⟩ d = gates m c := by
  intro n
  induction n with
  | zero => exact fun _ h => absurd rfl h
  | succ n ih =>
    intro hn _
    have h7 : n + 1 < 7 := Nat.lt_of_lt_of_eq hn N_0
    rw [(dats m 0 c).before_of_pos 7 ⟨n + 1, hn⟩ (Nat.succ_ne_zero n) rfl d]
    rw [if_neg (by
      intro e
      have := (flush0_7 _).mp e
      have e2 : (n + 1 - 1) % 7 = 6 := this
      omega)]
    unfold Dat.left
    by_cases hz : n = 0
    · subst hz
      rw [live7 ⟨0 + 1 - 1, _⟩ rfl]
      exact after7 m c _
    · rw [idle7 ⟨n + 1 - 1, _⟩ (by show ¬(n + 1 - 1 = 0); omega)]
      exact ih (Nat.lt_of_succ_lt hn) hz

/-! ## The body at a point, case by case -/

section Cases
variable (c : Dev nD) (t : Fin cfg0.N)

/-- The inputs' buffers at their blocks. -/
abbrev ins : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare (iblk m c 5 t))

/-- The body's triple at point `t`: the heads are stored; the logits' buffer goes from `P` to `Q`. -/
abbrev BodyAt (P Q : sProp 𝕄) : Prop :=
  iprop(inv m c t.val ∗ (dats m 0 c).owesAt () t.castSucc ∗ ins m c t ∗ (∃ d, owns (c : Thread nD τ) (ms6 t) fullShare d) ∗ P)
    ⊢ wp frame (wpE (defs₀ (F := F)) Variants.none c none) Set.univ (bodyAt0 t)
        (fun _ => iprop(inv m c (t.val + 1) ∗ (dats m 0 c).owesAt () t.castSucc ∗ ins m c t
          ∗ owns (c : Thread nD τ) (ms6 t) fullShare (headsAt m c t) ∗ Q))

theorem heads_read (y : FVec F S528x1024 .f32) (e : activated m c t = y) (f) :
    (ms6 t).view.read (Elt F) ((ms6 t).view.writes (Elt F) f (heads y)) = headsAt m c t := by
  rw [View.read_writes_eq_canon _ _ _ (heads_cover y), heads_canon, ← e]; rfl

/-- The first point. -/
theorem body_first (hz : t.val = 0) :
    BodyAt m c t iprop(∃ d, owns (c : Thread nD τ) (ms7 t) fullShare d) (owns (c : Thread nD τ) (ms7 t) fullShare (gates m c)) := by
  have ht : t = t0_0 := Fin.ext hz
  have h1 : k0_cond1 (grid0.coords t) = 1#1 := (c1 t).mpr hz
  have h2 : k0_cond2 (grid0.coords t) = 1#1 := (c2 t).mpr (Or.inl hz)
  have h3 : ¬k0_cond3 (grid0.coords t) = 1#1 := fun h => by have := (c3 t).mp h; omega
  have h4 : ¬k0_cond4 (grid0.coords t) = 1#1 := fun h => by have := (c4 t).mp h; omega
  have h5 : ¬k0_cond5 (grid0.coords t) = 1#1 := fun h => by have := (c5 t).mp h; omega
  have eR : normRows (iblk m c 0 t) (iblk m c 1 t) = rows m c := by rw [ht]; rfl
  have eG : forgetLogits (rows m c) (iblk m c 3 t) (iblk m c 4 t) = gates m c := by rw [ht]; rfl
  have eA : activated m c t = silu (prod (normRows (iblk m c 0 t) (iblk m c 1 t)) (iblk m c 2 t)) := by
    rw [eR]; exact if_pos (Or.inl hz)
  unfold BodyAt inv
  rw [scratch_pos m c (t.val + 1) (Nat.succ_ne_zero _)]
  iintro ⟨⟨HSc, Hg⟩, HW, ⟨H0, H1, H2, H3, H4, H5⟩, H6, H7⟩
  ihave HA := (scratch_any m c _) $$ HSc
  iapply ((runA c (grid0.coords t) (ms0 t) (hs0 t) (ms1 t) (hs1 t) (ms2 t) (hs2 t) (ms3 t) (hs3 t) (ms4 t) (hs4 t) (ms5 t) (hs5 t) (ms6 t) (hs6 t)
    (ms7 t) (hs7 t) h1 h2 h3 h4 h5 (iblk m c 0 t) (iblk m c 1 t) (iblk m c 2 t) (iblk m c 3 t) (iblk m c 4 t)).2.2.2 _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [HA]; · iexact HA
  iintro ⟨H0, H1, H2, H3, H4, ⟨%f6, H6⟩, ⟨%f7, H7⟩, ⟨%fa, HA⟩⟩
  isplitl [HA Hg]
  · isplitl [HA]
    · unfold owns; iexists _; isplitr
      swap; · iexact HA
      ipureintro; rw [runA_rows, View.read_writes_eq_canon _ _ _ (rowsPiece_cover _), rowsPiece_canon]; exact eR
    iexact Hg
  isplitl [HW]; · iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · unfold owns; iexists _; isplitr
    swap; · iexact H6
    ipureintro; rw [runA_heads]; exact heads_read m c t _ eA f6
  unfold owns; iexists _; isplitr
  swap; · iexact H7
  ipureintro; rw [runA_logits, View.read_writes_eq_canon _ _ _ (logitsPiece_cover _), logitsPiece_canon, eR]; exact eG

/-- A later point, from its run: the rows are read, the heads stored. -/
theorem body_later (hz : ¬t.val = 0) (y : FVec F S528x1024 .f32) (e : activated m c t = y)
    (hrun : ∀ (L : List (View.Piece (Elt F) S8x528x128 .f32)), L = heads y → ∀ (K : PUnit → sProp 𝕄),
      iprop(ins m c t ∗ (∃ d, owns (c : Thread nD τ) (ms6 t) fullShare d) ∗ owns (c : Thread nD τ) aM fullShare (rows m c)
          ∗ (iprop(ins m c t
              ∗ (∃ f, (ms6 t).view.loc (c : Thread nD τ) ↦[(ms6 t).view.set]{fullShare} (ms6 t).view.writes (Elt F) f L)
              ∗ owns (c : Thread nD τ) aM fullShare (rows m c)) -∗ K ⟨⟩))
        ⊢ wp frame (wpE (defs₀ (F := F)) Variants.none c none) Set.univ (bodyAt0 t) K) (P : sProp 𝕄) : BodyAt m c t P P := by
  unfold BodyAt inv
  rw [scratch_pos m c (t.val + 1) (Nat.succ_ne_zero _), scratch_pos m c t.val hz]
  iintro ⟨⟨HA, Hg⟩, HW, HI, H6, H7⟩
  iapply (hrun _ rfl _)
  isplitl [HI]; · iexact HI
  isplitl [H6]; · iexact H6
  isplitl [HA]; · iexact HA
  iintro ⟨HI, ⟨%f6, H6⟩, HA⟩
  isplitl [HA Hg]
  · isplitl [HA]; · iexact HA
    iexact Hg
  isplitl [HW]; · iexact HW
  isplitl [HI]; · iexact HI
  isplitl [H6]
  · unfold owns; iexists _; isplitr
    swap; · iexact H6
    ipureintro; exact heads_read m c t _ e f6
  iexact H7

/-- A run that reads the weights only is a run among all the inputs. -/
theorem run_among {L : List (View.Piece (Elt F) S8x528x128 .f32)} {K : PUnit → sProp 𝕄}
    (h : iprop(owns (c : Thread nD τ) (ms2 t) fullShare (iblk m c 2 t) ∗ (∃ d, owns (c : Thread nD τ) (ms6 t) fullShare d)
          ∗ owns (c : Thread nD τ) aM fullShare (rows m c)
          ∗ (iprop(owns (c : Thread nD τ) (ms2 t) fullShare (iblk m c 2 t)
              ∗ (∃ f, (ms6 t).view.loc (c : Thread nD τ) ↦[(ms6 t).view.set]{fullShare} (ms6 t).view.writes (Elt F) f L)
              ∗ owns (c : Thread nD τ) aM fullShare (rows m c)) -∗ K ⟨⟩))
        ⊢ wp frame (wpE (defs₀ (F := F)) Variants.none c none) Set.univ (bodyAt0 t) K) :
    iprop(ins m c t ∗ (∃ d, owns (c : Thread nD τ) (ms6 t) fullShare d) ∗ owns (c : Thread nD τ) aM fullShare (rows m c)
          ∗ (iprop(ins m c t
              ∗ (∃ f, (ms6 t).view.loc (c : Thread nD τ) ↦[(ms6 t).view.set]{fullShare} (ms6 t).view.writes (Elt F) f L)
              ∗ owns (c : Thread nD τ) aM fullShare (rows m c)) -∗ K ⟨⟩))
        ⊢ wp frame (wpE (defs₀ (F := F)) Variants.none c none) Set.univ (bodyAt0 t) K := by
  iintro ⟨⟨H0, H1, H2, H3, H4, H5⟩, H6, HA, Hk⟩
  iapply h
  isplitl [H2]; · iexact H2
  isplitl [H6]; · iexact H6
  isplitl [HA]; · iexact HA
  iintro ⟨H2, H6, HA⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  iexact HA

theorem body_rest (hz : ¬t.val = 0) (P : sProp 𝕄) : BodyAt m c t P P := by
  have ht := lt_N t
  have h1 : ¬k0_cond1 (grid0.coords t) = 1#1 := fun h => hz ((c1 t).mp h)
  by_cases h3' : t.val = 3
  · have h2 : k0_cond2 (grid0.coords t) = 1#1 := (c2 t).mpr (Or.inr h3')
    have h3 : ¬k0_cond3 (grid0.coords t) = 1#1 := fun h => by have := (c3 t).mp h; omega
    have h4 : ¬k0_cond4 (grid0.coords t) = 1#1 := fun h => by have := (c4 t).mp h; omega
    have h5 : ¬k0_cond5 (grid0.coords t) = 1#1 := fun h => by have := (c5 t).mp h; omega
    refine body_later m c t hz (silu (prod (rows m c) (iblk m c 2 t))) (if_pos (Or.inr h3')) (fun L eL K => run_among m c t ?_) P
    rw [eL, ← runB_heads c (grid0.coords t) (ms0 t) (hs0 t) (ms1 t) (hs1 t) (ms2 t) (hs2 t) (ms3 t) (hs3 t) (ms4 t) (hs4 t) (ms5 t) (hs5 t) (ms6 t) (hs6 t)
      (ms7 t) (hs7 t) (iblk m c 2 t) (rows m c) h1 h2 h3 h4 h5]
    exact (runB c (grid0.coords t) (ms0 t) (hs0 t) (ms1 t) (hs1 t) (ms2 t) (hs2 t) (ms3 t) (hs3 t) (ms4 t) (hs4 t) (ms5 t) (hs5 t) (ms6 t) (hs6 t)
      (ms7 t) (hs7 t) h1 h2 h3 h4 h5 (iblk m c 2 t) (rows m c)).2 K
  have h2 : ¬k0_cond2 (grid0.coords t) = 1#1 := fun h => by have := (c2 t).mp h; omega
  by_cases h1' : t.val = 1
  · have h3 : k0_cond3 (grid0.coords t) = 1#1 := (c3 t).mpr h1'
    have h4 : ¬k0_cond4 (grid0.coords t) = 1#1 := fun h => by have := (c4 t).mp h; omega
    have h5 : ¬k0_cond5 (grid0.coords t) = 1#1 := fun h => by have := (c5 t).mp h; omega
    refine body_later m c t hz (logForget (prod (rows m c) (iblk m c 2 t)) (iblk m c 5 t))
      ((if_neg (by omega)).trans (if_pos h1')) (fun L eL K => ?_) P
    rw [eL, ← runC_heads c (grid0.coords t) (ms0 t) (hs0 t) (ms1 t) (hs1 t) (ms2 t) (hs2 t) (ms3 t) (hs3 t) (ms4 t) (hs4 t) (ms5 t) (hs5 t) (ms6 t) (hs6 t)
      (ms7 t) (hs7 t) (iblk m c 2 t) (iblk m c 5 t) (rows m c) h1 h2 h3 h4 h5]
    iintro ⟨⟨H0, H1, H2, H3, H4, H5⟩, H6, HA, Hk⟩
    iapply ((runC c (grid0.coords t) (ms0 t) (hs0 t) (ms1 t) (hs1 t) (ms2 t) (hs2 t) (ms3 t) (hs3 t) (ms4 t) (hs4 t) (ms5 t) (hs5 t) (ms6 t) (hs6 t)
      (ms7 t) (hs7 t) h1 h2 h3 h4 h5 (iblk m c 2 t) (iblk m c 5 t) (rows m c)).2 K)
    isplitl [H2]; · iexact H2
    isplitl [H5]; · iexact H5
    isplitl [H6]; · iexact H6
    isplitl [HA]; · iexact HA
    iintro ⟨H2, H5, H6, HA⟩
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iexact HA
  have h3 : ¬k0_cond3 (grid0.coords t) = 1#1 := fun h => by have := (c3 t).mp h; omega
  by_cases h5' : 5 ≤ t.val
  · have h4 : ¬k0_cond4 (grid0.coords t) = 1#1 := fun h => by have := (c4 t).mp h; omega
    have h5 : k0_cond5 (grid0.coords t) = 1#1 := (c5 t).mpr h5'
    refine body_later m c t hz (prod (rows m c) (iblk m c 2 t))
      ((if_neg (by omega)).trans ((if_neg h1').trans (if_neg (by omega)))) (fun L eL K => run_among m c t ?_) P
    rw [eL, ← runE_heads c (grid0.coords t) (ms0 t) (hs0 t) (ms1 t) (hs1 t) (ms2 t) (hs2 t) (ms3 t) (hs3 t) (ms4 t) (hs4 t) (ms5 t) (hs5 t) (ms6 t) (hs6 t)
      (ms7 t) (hs7 t) (iblk m c 2 t) (rows m c) h1 h2 h3 h4 h5]
    exact (runE c (grid0.coords t) (ms0 t) (hs0 t) (ms1 t) (hs1 t) (ms2 t) (hs2 t) (ms3 t) (hs3 t) (ms4 t) (hs4 t) (ms5 t) (hs5 t) (ms6 t) (hs6 t)
      (ms7 t) (hs7 t) h1 h2 h3 h4 h5 (iblk m c 2 t) (rows m c)).2 K
  · have h4' : t.val = 2 ∨ t.val = 4 := by omega
    have h4 : k0_cond4 (grid0.coords t) = 1#1 := (c4 t).mpr h4'
    have h5 : ¬k0_cond5 (grid0.coords t) = 1#1 := fun h => h5' ((c5 t).mp h)
    refine body_later m c t hz (scaled (grid0.coords t) (prod (rows m c) (iblk m c 2 t)))
      ((if_neg (by omega)).trans ((if_neg h1').trans (if_pos h4'))) (fun L eL K => run_among m c t ?_) P
    rw [eL, ← runD_heads c (grid0.coords t) (ms0 t) (hs0 t) (ms1 t) (hs1 t) (ms2 t) (hs2 t) (ms3 t) (hs3 t) (ms4 t) (hs4 t) (ms5 t) (hs5 t) (ms6 t) (hs6 t)
      (ms7 t) (hs7 t) (iblk m c 2 t) (rows m c) h1 h2 h3 h4 h5]
    exact (runD c (grid0.coords t) (ms0 t) (hs0 t) (ms1 t) (hs1 t) (ms2 t) (hs2 t) (ms3 t) (hs3 t) (ms4 t) (hs4 t) (ms5 t) (hs5 t) (ms6 t) (hs6 t)
      (ms7 t) (hs7 t) h1 h2 h3 h4 h5 (iblk m c 2 t) (rows m c)).2 K

/-- What any point leaves of the logits' buffer is its idle or its stored form. -/
theorem body_any : BodyAt m c t iprop(∃ d, owns (c : Thread nD τ) (ms7 t) fullShare ((dats m 0 c).before 7 t d)) ((dats m 0 c).leavesExact 7 t) := by
  by_cases hz : t.val = 0
  · rw [show (dats m 0 c).leavesExact 7 t = owns (c : Thread nD τ) (ms7 t) fullShare (gates m c) from by
      unfold Dat.leavesExact; rw [live7 t hz, after7]]
    refine triple_restated (body_first m c t hz) rfl ?_ fun _ => .rfl
    iintro ⟨HI, HW, HN, H6, ⟨%d, H7⟩⟩
    isplitl [HI]; · iexact HI
    isplitl [HW]; · iexact HW
    isplitl [HN]; · iexact HN
    isplitl [H6]; · iexact H6
    iexists _; iexact H7
  · by_cases h6 : t.val = 6
    · rw [show (dats m 0 c).leavesExact 7 t = owns (c : Thread nD τ) (ms7 t) fullShare (gates m c) from by
        unfold Dat.leavesExact; rw [idle7 t hz, leave7 t h6, after7]]
      simp only [before7 m c _ t.val t.isLt hz]
      refine triple_restated (body_rest m c t hz (owns (c : Thread nD τ) (ms7 t) fullShare (gates m c))) rfl ?_ fun _ => .rfl
      iintro ⟨HI, HW, HN, H6, ⟨%d, H7⟩⟩
      isplitl [HI]; · iexact HI
      isplitl [HW]; · iexact HW
      isplitl [HN]; · iexact HN
      isplitl [H6]; · iexact H6
      iexact H7
    · rw [Dat.leavesExact_idle (dats m 0 c) 7 t (idle7 t hz) (stay7 t h6)]
      exact body_rest m c t hz _

end Cases

/-! ## The body at every point, the run and the frame -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.succ = inv m c (t.val + 1) from rfl,
    show (dats m 0 c).Φ t.castSucc = inv m c t.val from rfl]
  rw [show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2],
    show (dats m 0 c).leavesExact 3 t = owns (c : Thread nD τ) (ms3 t) fullShare (iblk m c 3 t) from by
      unfold Dat.leavesExact; rw [show cfg0.idle 3 (grid0.coords t) = false from rfl, after3],
    show (dats m 0 c).leavesExact 4 t = owns (c : Thread nD τ) (ms4 t) fullShare (iblk m c 4 t) from by
      unfold Dat.leavesExact; rw [show cfg0.idle 4 (grid0.coords t) = false from rfl, after4],
    show (dats m 0 c).leavesExact 5 t = owns (c : Thread nD τ) (ms5 t) fullShare (iblk m c 5 t) from by
      unfold Dat.leavesExact; rw [show cfg0.idle 5 (grid0.coords t) = false from rfl, after5],
    show (dats m 0 c).leavesExact 6 t = owns (c : Thread nD τ) (ms6 t) fullShare (headsAt m c t) from by
      unfold Dat.leavesExact; rw [live6 t, after6]]
  refine triple_restated (body_any m c t) rfl ?_ fun _ => ?_
  · iintro ⟨HI, HW, ⟨%d0, H0⟩, ⟨%d1, H1⟩, ⟨%d2, H2⟩, ⟨%d3, H3⟩, ⟨%d4, H4⟩, ⟨%d5, H5⟩, ⟨%d6, H6⟩, H7⟩
    isplitl [HI]; · iexact HI
    isplitl [HW]; · iexact HW
    isplitr [H6 H7]
    · isplitl [H0]; · iexact H0
      isplitl [H1]; · iexact H1
      isplitl [H2]; · iexact H2
      isplitl [H3]; · iexact H3
      isplitl [H4]; · iexact H4
      iexact H5
    isplitl [H6]; · iexists _; iexact H6
    iexact H7
  · iintro ⟨HI, HW, ⟨H0, H1, H2, H3, H4, H5⟩, H6, H7⟩
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) : (Pipeline.ΦA spec0 c : sProp 𝕄)
    = iprop((∃ d, owns (c : Thread nD τ) aM fullShare d) ∗ ∃ r, prngReg c r) := by
  unfold Pipeline.ΦA
  rw [scopedRest0_eq]
  simp only [aM, owns_whole]; rfl

/-- The launch hands the region the invariant before the first point, -/
theorem hin (c : Dev nD) : Pipeline.ΦA spec0 c ⊢ (dats m 0 c).Φ 0 := by
  rw [show (dats m 0 c).Φ 0 = inv m c 0 from rfl, PhiA_eq]; exact .rfl

/-- and takes it back after the last. -/
theorem hout (c : Dev nD) : (dats m 0 c).Φ (Fin.last cfg0.N) ⊢ Pipeline.ΦA spec0 c := by
  rw [show (dats m 0 c).Φ (Fin.last cfg0.N) = inv m c cfg0.N from rfl, PhiA_eq]
  unfold inv
  iintro ⟨HSc, Hg⟩
  isplitl [HSc]
  · iapply (scratch_any m c _); iexact HSc
  iexact Hg

set_option backward.isDefEq.respectTransparency.types false in
/-- The run: every array at its final contents, every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m) (hQ' := fun _ h => h)

/-- What the run leaves in the arguments: what they held. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 5).trans (((dats m 0 c).arrAt_in 5 rfl _).trans ((A_eq m c 5).trans (V_main_arg4 m c))),
    ((h c).2 main_arg5 (Pipeline.mem_restRefs_of main_arg5 (by decide) (by decide))).trans (V_main_arg5 m c)⟩

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r h.1 c, h.2⟩) (run_main m ρ)

/-- The same run with the result arrays named. -/
theorem run_array : θ_run defs (onTc (τ := τ) (main (F := F))) ⟨m, fun _ => 0, ρ⟩ (fun r => ∀ c : Dev nD,
      r.2.mem ((c.tc : Thread nD τ).loc main_v14_0) = (dats m 0 c).arrAt 6 cfg0.N
      ∧ r.2.mem ((c.tc : Thread nD τ).loc main_v14_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 6, (h.1 c).1 7, args_kept m r h.1 c⟩) (run_main m ρ)

end Cert.Kernel4Ideal.In

end
-- ==== Proof.InSpec.lean ====
/-
  The input projection in mathematics: a row of numbers scaled to root mean square one goes through seven groups of weights of
  a thousand columns each, each with its activation, and through the forgetting attention's gate weights.
-/
module

public import proofs.«01_k».proof.Proof.MlpSpec

@[expose] public section

noncomputable section

namespace Cert.Inproj

open Idealize.ShloMosaic

def log2e : EReal := ((Real.log 2)⁻¹ : ℝ)
def qScale : EReal := ((Real.sqrt 128)⁻¹ * (Real.log 2)⁻¹ : ℝ)

/-- A row against a column of weights. -/
def dot (a w : Cert.Mlp.Row) : EReal := ∑ d, a d * w d

def silu (y : EReal) : EReal := y * Ideal.logistic y

/-- The larger of a channel's two logits, and the first one's weight among them. -/
def peak (l : Fin 2 → EReal) : EReal := Finset.univ.fold max (Ideal.ofBits .f32 0xFF800000#32) l
def floor (l : Fin 2 → EReal) : EReal := Ideal.div (Ideal.exp (l 0 - peak l)) (∑ i, Ideal.exp (l i - peak l))

theorem max_peak (l : Fin 2 → EReal) : max (Ideal.ofBits .f32 0xFF800000#32) (peak l) = peak l :=
  max_eq_right ((Finset.le_fold_max _).mpr (Or.inl le_rfl))

/-- The log, in base two, of a gate that is at least `b`. -/
def logForget (b y : EReal) : EReal := Ideal.log (b + (1 - b) * Ideal.logistic y) * log2e

/-- Group `j`'s activation; `b` is the channel's lower bound. -/
def act (j : ℕ) (b y : EReal) : EReal :=
  if j = 0 ∨ j = 3 then silu y else if j = 1 then logForget b y else if j = 4 then y * qScale else y

/-- The log of the sigmoid. -/
def logSigmoid (y : EReal) : EReal := min y 0 - Ideal.log1p (Ideal.exp (0 - max y (-y)))

theorem log1p_exp_ne_bot (z : EReal) : Ideal.log1p (Ideal.exp z) ≠ ⊥ := by
  unfold Ideal.log1p
  induction z using EReal.rec with
  | bot => rw [Ideal.exp_bot, add_zero, ← EReal.coe_one, Ideal.log_coe, if_neg (by norm_num)]; exact EReal.coe_ne_bot _
  | top => rw [Ideal.exp_top, ← EReal.coe_one, EReal.coe_add_top, Ideal.log_top]; exact top_ne_bot
  | coe r =>
    rw [Ideal.exp_coe, ← EReal.coe_one, ← EReal.coe_add, Ideal.log_coe, if_neg (by have := Real.exp_pos r; linarith)]
    exact EReal.coe_ne_bot _

/-- It is less the softplus of `-y`. -/
theorem neg_softplus (y : EReal) : -(max (-y) 0 + Ideal.log1p (Ideal.exp (-max (-y) (- -y)))) = logSigmoid y := by
  unfold logSigmoid
  have hm : -max (-y) 0 = min y 0 := by
    rcases le_total y 0 with h | h
    · rw [min_eq_left h, max_eq_left (by rw [← neg_zero]; exact EReal.neg_le_neg_iff.mpr h), neg_neg]
    · rw [min_eq_right h, max_eq_right (by rw [← neg_zero (G := EReal)]; exact EReal.neg_le_neg_iff.mpr h), neg_zero]
  rw [neg_neg, max_comm (-y) y, zero_sub,
    EReal.neg_add (Or.inl (ne_of_gt (lt_of_lt_of_le EReal.bot_lt_zero (le_max_right _ _)))) (Or.inr (log1p_exp_ne_bot _)), hm]

theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

/-- One over the log of two, and a number over the root of 128 in base two. -/
theorem one_div_log_two : Ideal.div 1 (Ideal.log (Ideal.ofBits .f32 0x40000000#32)) = log2e := by
  have hp : 0 < Real.log 2 := Real.log_pos (by norm_num)
  rw [ofBits_two, Ideal.log_coe, if_neg (by norm_num), Ideal.div_coe hp.ne', one_mul, one_div]
  rfl
theorem div_root (y : EReal) : Ideal.div y (Ideal.sqrt (Ideal.ofBits .f32 0x43000000#32)) * log2e = y * qScale := by
  have hp : 0 < Real.sqrt 128 := Real.sqrt_pos.mpr (by norm_num)
  rw [ofBits_128, Ideal.sqrt_coe, if_neg (by norm_num), Ideal.div_coe hp.ne', mul_assoc]
  unfold log2e qScale
  rw [← EReal.coe_mul, one_div]

/-- Column `k` of group `j` among all the columns. -/
def column (j : Fin 7) (k : Fin 1024) : Fin 7176 := ⟨1024 * j.val + k.val, by omega⟩
/-- Lane `d` of head `h` in a group. -/
def lane (h : Fin 8) (d : Fin 128) : Fin 1024 := ⟨128 * h.val + d.val, by omega⟩

end Cert.Inproj

end
-- ==== Proof.InTile.lean ====
/-
  The input projection's pieces read at an index, at the ideal instance.
-/
module

public import proofs.«01_k».proof.Proof.InPieces
public import proofs.«01_k».proof.Proof.InSpec

@[expose] public section

set_option maxRecDepth 8192

noncomputable section

namespace Cert.Kernel4Ideal.In

open Idealize.ShloMosaic Idealize.ShloMosaic.TcCoe
open Cert.Kernel4Ideal Cert.Kernel4Ideal.Gen

theorem normRows_at (x : S528x2048.Idx → EReal) (g : S1x2048.Idx → EReal) (r : Fin 528) (k : Fin 2048) :
    (normRows (F := Ideal) x g : S528x2048.Idx → EReal) (ix2 r k) = Cert.Mlp.normed (fun k => x (ix2 r k)) (fun k => g (ix2 0 k)) k := by
  pointwise [normRows, Cert.Mlp.normed, Cert.Mlp.scale]

theorem prod_at (a : S528x2048.Idx → EReal) (w : S2048x1024.Idx → EReal) (r : Fin 528) (k : Fin 1024) :
    (prod (F := Ideal) a w : S528x1024.Idx → EReal) (ix2 r k) = Cert.Inproj.dot (fun d => a (ix2 r d)) (fun d => w (ix2 d k)) := by
  pointwise [prod, Cert.Inproj.dot]

theorem silu_at (y : S528x1024.Idx → EReal) (r : Fin 528) (k : Fin 1024) :
    (silu (F := Ideal) y : S528x1024.Idx → EReal) (ix2 r k) = Cert.Inproj.silu (y (ix2 r k)) := by
  pointwise [silu, Cert.Inproj.silu]

theorem floors_at (l : S2x1024.Idx → EReal) (k : Fin 1024) :
    (floors (F := Ideal) l : S1x1024.Idx → EReal) (ix2 0 k) = Cert.Inproj.floor (fun i => l (ix2 i k)) := by
  pointwise [floors, Cert.Inproj.floor, Cert.Inproj.peak]

theorem logForget_at (y : S528x1024.Idx → EReal) (l : S2x1024.Idx → EReal) (r : Fin 528) (k : Fin 1024) :
    (logForget (F := Ideal) y l : S528x1024.Idx → EReal) (ix2 r k)
      = Cert.Inproj.logForget (Cert.Inproj.floor (fun i => l (ix2 i k))) (y (ix2 r k)) := by
  have h := floors_at l k
  unfold logForget
  generalize (floors (F := Ideal) l) = f at h ⊢
  rw [← h]
  pointwise [Cert.Inproj.logForget, Cert.Inproj.log2e]
  rfl

theorem scaled_at (i : grid0.Coords) (y : S528x1024.Idx → EReal) (r : Fin 528) (k : Fin 1024) :
    (scaled (F := Ideal) i y : S528x1024.Idx → EReal) (ix2 r k)
      = y (ix2 r k) * (if (i 1).val = 4 then Cert.Inproj.qScale else 1) := by
  have hi : (i 1).val < 7 := (i 1).isLt
  generalize hn : (i 1).val = n at hi
  unfold scaled
  rw [hn]
  by_cases h : n = 4
  · subst h
    pointwise [Cert.Inproj.qScale]
    rfl
  · pointwise
    rw [if_neg h]
    interval_cases n <;> first | exact absurd rfl h | rfl

theorem forgetLogits_at (a : S528x2048.Idx → EReal) (w : S2048x128.Idx → EReal) (b : S1x128.Idx → EReal) (r : Fin 528) (l : Fin 128) :
    (forgetLogits (F := Ideal) a w b : S528x128.Idx → EReal) (ix2 r l)
      = Cert.Inproj.logSigmoid (Cert.Inproj.dot (fun d => a (ix2 r d)) (fun d => w (ix2 d l)) + b (ix2 0 l)) := by
  pointwise [forgetLogits, logSigmoid, Cert.Inproj.logSigmoid, Cert.Inproj.dot]
  rfl

end Cert.Kernel4Ideal.In

end
-- ==== Proof.InValue.lean ====
/-
  The input projection's result arrays, entry by entry, at the ideal instance: the arrays the launch finds, the blocks each grid
  point finds, and what is written back.
-/
module

public import proofs.«01_k».proof.Proof.InFrame
public import proofs.«01_k».proof.Proof.InTile
public import Idealize.ShloMosaic.Lib.StableHlo.ReadAt

@[expose] public section

set_option maxRecDepth 8192

noncomputable section

namespace Cert.Kernel4Ideal.In

open Idealize.ShloMosaic Idealize.ShloMosaic.TcCoe Idealize.ShloMosaic.StableHlo
open Cert.Kernel4Ideal Cert.Kernel4Ideal.Gen

variable (m : (ℓ : Loc nD τ sig) → Buf (Elt Ideal) ℓ) (c : Dev nD)

def tokens : S16x2048.Idx → EReal := m ((c.tc : Thread nD τ).loc main_arg0)
def sample : S32x16x2048.Idx → EReal := m ((c.tc : Thread nD τ).loc main_arg1)
def gain : S1x2048.Idx → EReal := m ((c.tc : Thread nD τ).loc main_arg2)
def weights : S1x2048x7176.Idx → EReal := m ((c.tc : Thread nD τ).loc main_arg3)
def bounds : S2x1024.Idx → EReal := m ((c.tc : Thread nD τ).loc main_arg4)
def bias : S1x8.Idx → EReal := m ((c.tc : Thread nD τ).loc main_arg5)

/-- Row `r` of all the rows, the meta tokens first. -/
def rowAt (r : Fin 528) : Cert.Mlp.Row :=
  if h : r.val < 16 then fun k => tokens m c (ix2 ⟨r.val, h⟩ k)
  else fun k => sample m c (ix3 ⟨(r.val - 16) / 16, by omega⟩ ⟨(r.val - 16) % 16, by omega⟩ k)

/-! ### The arrays the launch finds -/

def flatRows (y : S32x16x2048.Idx → EReal) : S512x2048.Idx → EReal := shapeCast S512x2048 y shapeCasts_S32x16x2048_S512x2048

theorem arr_stacked : (V m c main_v11 : S528x2048.Idx → EReal)
    = concatenate S528x2048 0 [⟨S16x2048, tokens m c⟩, ⟨S512x2048, flatRows (sample m c)⟩] concatenates_S16x2048_S512x2048_S528x2048_d0 := by
  unfold V
  after_reads_at
  rfl

theorem arr_gain (k : Fin 2048) : (V m c main_v13 : S1x2048.Idx → EReal) (ix2 0 k) = gain m c (ix2 0 k) := by
  unfold V
  after_reads_at
  rfl

theorem arr_main (d : Fin 2048) (e : Fin 7168) :
    (V m c main_v2 : S2048x7168.Idx → EReal) (ix2 d e) = weights m c (ix3 0 d ⟨e.val, by omega⟩) := by
  unfold V
  after_reads_at
  rfl

theorem zero_word : FloatOps.sitofp (F := Ideal) .f32 (0#32 : BitVec 32) = (0 : EReal) := by
  show (((0#32 : BitVec 32).toInt : ℝ) : EReal) = 0
  simp

theorem arr_gate (d : Fin 2048) (l : Fin 128) :
    (V m c main_v6 : S2048x128.Idx → EReal) (ix2 d l) = if h : l.val < 8 then weights m c (ix3 0 d ⟨7168 + l.val, by omega⟩) else 0 := by
  unfold V
  after_reads_at
  rw [zero_word]
  rfl

theorem arr_bias (l : Fin 128) :
    (V m c main_v9 : S1x128.Idx → EReal) (ix2 0 l) = if h : l.val < 8 then bias m c (ix2 0 ⟨l.val, h⟩) else 0 := by
  unfold V
  after_reads_at
  rw [zero_word]
  rfl

theorem arr_bounds (i : Fin 2) (k : Fin 1024) : (V m c main_arg4 : S2x1024.Idx → EReal) (ix2 i k) = bounds m c (ix2 i k) := by
  unfold V
  after_reads_at
  rfl

theorem arr_rows (r : Fin 528) (k : Fin 2048) : (V m c main_v11 : S528x2048.Idx → EReal) (ix2 r k) = rowAt m c r k := by
  rw [arr_stacked]
  unfold rowAt
  by_cases h : r.val < 16
  · rw [dif_pos h]
    exact concatenate_pair_apply_left (t := S528x2048) 0 (tokens m c) (flatRows (sample m c)) _ _ rfl (ix2 ⟨r.val, h⟩ k) fun a => by
      match a with
      | ⟨0, _⟩ => rfl
      | ⟨1, _⟩ => rfl
  · rw [dif_neg h]
    refine (concatenate_pair_apply_right (t := S528x2048) 0 (tokens m c) (flatRows (sample m c)) _ _ rfl rfl
      (ix2 ⟨r.val - 16, by omega⟩ k) (fun a ha => by
        match a with
        | ⟨0, _⟩ => exact absurd rfl ha
        | ⟨1, _⟩ => rfl) (by show r.val - 16 + 16 = r.val; omega)).trans ?_
    generalize sample m c = y
    generalize hq : (⟨r.val - 16, by omega⟩ : Fin 512) = q
    have hv : q.val = r.val - 16 := by rw [← hq]
    simp only [← hv]
    pointwise [flatRows]

/-! ### What a grid point finds -/

theorem index0 : win0_0.index t0_0 0 = 0 ∧ win0_0.index t0_0 1 = 0 := by decide +kernel
theorem index1 : win0_1.index t0_0 0 = 0 ∧ win0_1.index t0_0 1 = 0 := by decide +kernel
theorem index2 : ∀ t : Fin cfg0.N, win0_2.index t 0 = 0 ∧ win0_2.index t 1 = t.val := (by decide +kernel : ∀ t : Fin grid0.N, _)
theorem index3 : win0_3.index t0_0 0 = 0 ∧ win0_3.index t0_0 1 = 0 := by decide +kernel
theorem index4 : win0_4.index t0_0 0 = 0 ∧ win0_4.index t0_0 1 = 0 := by decide +kernel
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 ∧ win0_6.index t 2 = 0 :=
  (by decide +kernel : ∀ t : Fin grid0.N, _)
theorem index7 : ∀ t : Fin cfg0.N, win0_7.index t 0 = 0 ∧ win0_7.index t 1 = 0 := (by decide +kernel : ∀ t : Fin grid0.N, _)
theorem coord1 : ∀ t : Fin cfg0.N, (grid0.coords t 1).val = t.val := (by decide +kernel : ∀ t : Fin grid0.N, _)

theorem block_rows (r : Fin 528) (k : Fin 2048) : (iblk m c 0 t0_0 : S528x2048.Idx → EReal) (ix2 r k) = rowAt m c r k := by
  obtain ⟨h0, h1⟩ := index0
  refine Eq.trans (congrArg (V m c main_v11 : S528x2048.Idx → EReal) (funext fun a => Fin.ext ?_)) (arr_rows m c r k)
  match a with
  | ⟨0, _⟩ => show win0_0.index t0_0 0 * 528 + 1 * r.val = r.val; omega
  | ⟨1, _⟩ => show win0_0.index t0_0 1 * 2048 + 1 * k.val = k.val; omega
theorem block_gain (k : Fin 2048) : (iblk m c 1 t0_0 : S1x2048.Idx → EReal) (ix2 0 k) = gain m c (ix2 0 k) := by
  obtain ⟨h0, h1⟩ := index1
  refine Eq.trans (congrArg (V m c main_v13 : S1x2048.Idx → EReal) (funext fun a => Fin.ext ?_)) (arr_gain m c k)
  match a with
  | ⟨0, _⟩ => show win0_1.index t0_0 0 * 1 + 1 * 0 = 0; omega
  | ⟨1, _⟩ => show win0_1.index t0_0 1 * 2048 + 1 * k.val = k.val; omega
theorem block_main (t : Fin cfg0.N) (d : Fin 2048) (k : Fin 1024) :
    (iblk m c 2 t : S2048x1024.Idx → EReal) (ix2 d k) = weights m c (ix3 0 d (Cert.Inproj.column ⟨t.val, lt_N t⟩ k)) := by
  obtain ⟨h0, h1⟩ := index2 t
  have ht := lt_N t
  refine Eq.trans (congrArg (V m c main_v2 : S2048x7168.Idx → EReal) (funext fun a => Fin.ext ?_))
    (arr_main m c d ⟨1024 * t.val + k.val, by omega⟩)
  match a with
  | ⟨0, _⟩ => show win0_2.index t 0 * 2048 + 1 * d.val = d.val; omega
  | ⟨1, _⟩ => show win0_2.index t 1 * 1024 + 1 * k.val = 1024 * t.val + k.val; omega
theorem block_gate (d : Fin 2048) (l : Fin 128) :
    (iblk m c 3 t0_0 : S2048x128.Idx → EReal) (ix2 d l) = if h : l.val < 8 then weights m c (ix3 0 d ⟨7168 + l.val, by omega⟩) else 0 := by
  obtain ⟨h0, h1⟩ := index3
  refine Eq.trans (congrArg (V m c main_v6 : S2048x128.Idx → EReal) (funext fun a => Fin.ext ?_)) (arr_gate m c d l)
  match a with
  | ⟨0, _⟩ => show win0_3.index t0_0 0 * 2048 + 1 * d.val = d.val; omega
  | ⟨1, _⟩ => show win0_3.index t0_0 1 * 128 + 1 * l.val = l.val; omega
theorem block_bias (l : Fin 128) :
    (iblk m c 4 t0_0 : S1x128.Idx → EReal) (ix2 0 l) = if h : l.val < 8 then bias m c (ix2 0 ⟨l.val, h⟩) else 0 := by
  obtain ⟨h0, h1⟩ := index4
  refine Eq.trans (congrArg (V m c main_v9 : S1x128.Idx → EReal) (funext fun a => Fin.ext ?_)) (arr_bias m c l)
  match a with
  | ⟨0, _⟩ => show win0_4.index t0_0 0 * 1 + 1 * 0 = 0; omega
  | ⟨1, _⟩ => show win0_4.index t0_0 1 * 128 + 1 * l.val = l.val; omega
theorem block_bounds (t : Fin cfg0.N) (i : Fin 2) (k : Fin 1024) : (iblk m c 5 t : S2x1024.Idx → EReal) (ix2 i k) = bounds m c (ix2 i k) := by
  obtain ⟨h0, h1⟩ := index5 t
  refine Eq.trans (congrArg (V m c main_arg4 : S2x1024.Idx → EReal) (funext fun a => Fin.ext ?_)) (arr_bounds m c i k)
  match a with
  | ⟨0, _⟩ => show win0_5.index t 0 * 2 + 1 * i.val = i.val; omega
  | ⟨1, _⟩ => show win0_5.index t 1 * 1024 + 1 * k.val = k.val; omega

/-! ### What the points write -/

/-- The row scaled, against a column of weights. -/
def columnAt (r : Fin 528) (e : Fin 7176) : EReal :=
  Cert.Inproj.dot (Cert.Mlp.normed (rowAt m c r) fun k => gain m c (ix2 0 k)) fun d => weights m c (ix3 0 d e)

theorem rows_at (r : Fin 528) (k : Fin 2048) :
    (rows m c : S528x2048.Idx → EReal) (ix2 r k) = Cert.Mlp.normed (rowAt m c r) (fun k => gain m c (ix2 0 k)) k := by
  unfold rows
  refine (normRows_at _ _ r k).trans ?_
  simp only [block_rows, block_gain]

theorem prod_rows (t : Fin cfg0.N) (r : Fin 528) (k : Fin 1024) :
    (prod (rows m c) (iblk m c 2 t) : S528x1024.Idx → EReal) (ix2 r k) = columnAt m c r (Cert.Inproj.column ⟨t.val, lt_N t⟩ k) := by
  refine (prod_at _ _ r k).trans ?_
  simp only [rows_at, block_main]
  rfl

/-- Entry `k` of group `j`. -/
def groupAt (j : Fin 7) (r : Fin 528) (k : Fin 1024) : EReal :=
  Cert.Inproj.act j.val (Cert.Inproj.floor fun i => bounds m c (ix2 i k)) (columnAt m c r (Cert.Inproj.column j k))

theorem activated_at (t : Fin cfg0.N) (r : Fin 528) (k : Fin 1024) :
    (activated m c t : S528x1024.Idx → EReal) (ix2 r k) = groupAt m c ⟨t.val, lt_N t⟩ r k := by
  unfold activated groupAt Cert.Inproj.act
  by_cases h03 : t.val = 0 ∨ t.val = 3
  · rw [if_pos h03, if_pos h03]
    exact (silu_at _ r k).trans (congrArg Cert.Inproj.silu (prod_rows m c t r k))
  · rw [if_neg h03, if_neg h03]
    by_cases h1 : t.val = 1
    · rw [if_pos h1, if_pos h1]
      refine (logForget_at _ _ r k).trans ?_
      rw [prod_rows]
      simp only [block_bounds]
    · rw [if_neg h1, if_neg h1]
      by_cases h24 : t.val = 2 ∨ t.val = 4
      · rw [if_pos h24]
        refine (scaled_at _ _ r k).trans ?_
        rw [prod_rows, coord1]
        by_cases h4 : t.val = 4
        · rw [if_pos h4, if_pos h4]
        · rw [if_neg h4, if_neg h4, mul_one]
      · rw [if_neg h24, if_neg fun h => h24 (Or.inr h)]
        exact prod_rows m c t r k

theorem heads_at (t : Fin cfg0.N) (h : Fin 8) (r : Fin 528) (d : Fin 128) :
    (headsAt m c t : S8x528x128.Idx → EReal) (ix3 h r d) = groupAt m c ⟨t.val, lt_N t⟩ r (Cert.Inproj.lane h d) :=
  activated_at m c t r (Cert.Inproj.lane h d)

theorem gates_gate (r : Fin 528) (l : Fin 128) (h : l.val < 8) :
    (gates m c : S528x128.Idx → EReal) (ix2 r l)
      = Cert.Inproj.logSigmoid (columnAt m c r ⟨7168 + l.val, by omega⟩ + bias m c (ix2 0 ⟨l.val, h⟩)) := by
  unfold gates
  refine (forgetLogits_at _ _ _ r l).trans ?_
  simp only [rows_at, block_gate, block_bias, dif_pos h]
  rfl

theorem gates_rest (r : Fin 528) (l : Fin 128) (h : 8 ≤ l.val) : (gates m c : S528x128.Idx → EReal) (ix2 r l) = Cert.Inproj.logSigmoid 0 := by
  unfold gates
  refine (forgetLogits_at _ _ _ r l).trans ?_
  simp only [block_gate, block_bias, dif_neg (Nat.not_lt.mpr h)]
  unfold Cert.Inproj.dot
  simp only [mul_zero, Finset.sum_const_zero, add_zero]

/-! ### The arrays -/

theorem flushed6 (t : Fin cfg0.N) : (dats m 0 c).flushed 6 t = (cfg0.win 6).cut (grid0.coords t) (headsAt m c t) := by
  show (cfg0.win 6).cut (grid0.coords t) ((dats m 0 c).after 6 t) = _
  rw [after6]
theorem flushed7 (t : Fin cfg0.N) : (dats m 0 c).flushed 7 t = (cfg0.win 7).cut (grid0.coords t) (gates m c) := by
  show (cfg0.win 7).cut (grid0.coords t) ((dats m 0 c).after 7 t) = _
  rw [after7]

/-- The entry of all the heads, eight to a group. -/
def entry (i : S56x528x128.Idx) : EReal :=
  groupAt m c ⟨(i 0).val / 8, by have : (i 0).val < 56 := (i 0).isLt; omega⟩ (i 1)
    (Cert.Inproj.lane ⟨(i 0).val % 8, Nat.mod_lt _ (by norm_num)⟩ (i 2))

theorem array6 : (dats m 0 c).arrAt 6 cfg0.N = entry m c := by
  refine (dats m 0 c).arrAt_eq_of_cover 6 _ (fun t _ => ?_) fun i => ?_
  · obtain ⟨h0, h1, h2⟩ := index6 t
    rw [flushed6]
    funext j
    refine (congrArg (headsAt m c t : S8x528x128.Idx → EReal) (eq_ix3 j)).trans ((heads_at m c t (j 0) (j 1) (j 2)).trans ?_)
    have j0 : (j 0).val < 8 := (j 0).isLt
    have e0 : (((cfg0.win 6).blk t).view.emb j 0).val = 8 * t.val + (j 0).val := by
      show win0_6.index t 0 * 8 + 1 * (j 0).val = 8 * t.val + (j 0).val; omega
    have e1 : ((cfg0.win 6).blk t).view.emb j 1 = (j 1 : Fin 528) :=
      Fin.ext (by show win0_6.index t 1 * 528 + 1 * (j 1).val = (j 1).val; omega)
    have e2 : ((cfg0.win 6).blk t).view.emb j 2 = (j 2 : Fin 128) :=
      Fin.ext (by show win0_6.index t 2 * 128 + 1 * (j 2).val = (j 2).val; omega)
    rw [View.read_apply]
    unfold entry
    rw [e1, e2]
    refine congrArg₂ (fun q h => groupAt m c q (j 1) (Cert.Inproj.lane h (j 2))) (Fin.ext ?_) (Fin.ext ?_)
    · show t.val = (((cfg0.win 6).blk t).view.emb j 0).val / 8
      rw [e0]; omega
    · show (j 0).val = (((cfg0.win 6).blk t).view.emb j 0).val % 8
      rw [e0]; omega
  · have i0 : (i 0).val < 56 := (i 0).isLt
    have i1 : (i 1).val < 528 := (i 1).isLt
    have i2 : (i 2).val < 128 := (i 2).isLt
    let t : Fin cfg0.N := ⟨(i 0).val / 8, by have : cfg0.N = 7 := N_0; omega⟩
    have htv : t.val = (i 0).val / 8 := rfl
    obtain ⟨h0, h1, h2⟩ := index6 t
    refine ⟨t, flush0_6 t, ?_⟩
    show i ∈ ((View.whole main_v14_0).slice (win0_6.rect t)).set
    rw [View.set_slice_whole, Rect.mem_set_unit]
    intro a
    match a with
    | ⟨0, _⟩ => show win0_6.index t 0 * 8 ≤ (i 0).val ∧ (i 0).val < win0_6.index t 0 * 8 + 8; omega
    | ⟨1, _⟩ => show win0_6.index t 1 * 528 ≤ (i 1).val ∧ (i 1).val < win0_6.index t 1 * 528 + 528; omega
    | ⟨2, _⟩ => show win0_6.index t 2 * 128 ≤ (i 2).val ∧ (i 2).val < win0_6.index t 2 * 128 + 128; omega

theorem array7 : (dats m 0 c).arrAt 7 cfg0.N = (gates m c : S528x128.Idx → EReal) := by
  refine (dats m 0 c).arrAt_eq_of_cover 7 _ (fun t _ => ?_) fun i => ?_
  · obtain ⟨h0, h1⟩ := index7 t
    rw [flushed7]
    funext j
    rw [View.read_apply]
    refine congrArg (gates m c : S528x128.Idx → EReal) (funext fun a => Fin.ext ?_)
    match a with
    | ⟨0, _⟩ => show (j 0).val = win0_7.index t 0 * 528 + 1 * (j 0).val; omega
    | ⟨1, _⟩ => show (j 1).val = win0_7.index t 1 * 128 + 1 * (j 1).val; omega
  · have i0 : (i 0).val < 528 := (i 0).isLt
    have i1 : (i 1).val < 128 := (i 1).isLt
    let t : Fin cfg0.N := ⟨6, by have : cfg0.N = 7 := N_0; omega⟩
    obtain ⟨h0, h1⟩ := index7 t
    refine ⟨t, leave7 t rfl, ?_⟩
    show i ∈ ((View.whole main_v14_1).slice (win0_7.rect t)).set
    rw [View.set_slice_whole, Rect.mem_set_unit]
    intro a
    match a with
    | ⟨0, _⟩ => show win0_7.index t 0 * 528 ≤ (i 0).val ∧ (i 0).val < win0_7.index t 0 * 528 + 528; omega
    | ⟨1, _⟩ => show win0_7.index t 1 * 128 ≤ (i 1).val ∧ (i 1).val < win0_7.index t 1 * 128 + 128; omega

end Cert.Kernel4Ideal.In

end
-- ==== Proof.InRef.lean ====
/-
  What the input projection's reference computes, entry by entry.
-/
module

public import proofs.«01_k».proof.Proof.Gen.Reference4Ideal.Run
public import proofs.«01_k».proof.Proof.InSpec
public import Idealize.ShloMosaic.Lib.Pointwise

@[expose] public section

set_option maxRecDepth 8192

noncomputable section

namespace Cert.Reference4Ideal.In

open Idealize.ShloMosaic Idealize.ShloMosaic.TcCoe Idealize.SL.Sem
open Cert.Reference4Ideal Cert.Reference4Ideal.Gen Cert.Reference4Ideal.Value

/-! ### The steps -/

def metaRows (x : FVec Ideal S16x2048 .f32) : FVec Ideal S1x16x2048 .f32 :=
  broadcastInDim S1x16x2048 ![1, 2] bcast_S16x2048_S1x16x2048_1_2 x
/-- The meta tokens on top of the sample's rows. -/
def stacked (x : FVec Ideal S16x2048 .f32) (y : FVec Ideal S32x16x2048 .f32) : FVec Ideal S33x16x2048 .f32 :=
  concatenate S33x16x2048 0 [⟨S1x16x2048, metaRows x⟩, ⟨S32x16x2048, y⟩]
    concatenates_S1x16x2048_S32x16x2048_S33x16x2048_d0

/-- The rows scaled, with their gains. -/
def normRows (x : FVec Ideal S33x16x2048 .f32) (g : FVec Ideal S1x2048 .f32) : FVec Ideal S33x16x2048 .f32 :=
  mulf
    (mulf x
      (broadcastInDim S33x16x2048 ![0, 1, 2] bcast_S33x16x1_S33x16x2048_0_1_2
        (Host.rsqrt
          (addf
            (Host.divf
              (broadcastInDim S33x16x1 ![0, 1] bcast_S33x16_S33x16x1_0_1
                (Host.reduceAdd (mulf x x) (constant S_ .f32 0x00000000#32) reducesTo_S33x16x2048_S33x16_d2 h_S_))
              (broadcastInDim S33x16x1 ![] bcast_S_S33x16x1 (constant S_ .f32 0x45000000#32)))
            (broadcastInDim S33x16x1 ![] bcast_S_S33x16x1 (constant S_ .f32 0x358637BD#32))))))
    (broadcastInDim S33x16x2048 ![0, 1, 2] bcast_S1x1x2048_S33x16x2048_0_1_2
      (broadcastInDim S1x1x2048 ![2] bcast_S2048_S1x1x2048_2 (shapeCast _ g shapeCasts_S1x2048_S2048)))

/-- All the columns. -/
def prod (a : FVec Ideal S33x16x2048 .f32) (w : FVec Ideal S1x2048x7176 .f32) : FVec Ideal S33x16x7176 .f32 :=
  Host.dotGeneral dot_S33x16x2048_S2048x7176_S33x16x7176_2_0_01_1_n_n none a (shapeCast _ w shapeCasts_S1x2048x7176_S2048x7176)

def ones : FVec Ideal S33x16x1024 .f32 := broadcastInDim S33x16x1024 ![] bcast_S_S33x16x1024 (constant S_ .f32 0x3F800000#32)
def sigmoid (y : FVec Ideal S33x16x1024 .f32) : FVec Ideal S33x16x1024 .f32 := Host.divf ones (addf ones (Host.exp (Host.negf y)))
def silu (y : FVec Ideal S33x16x1024 .f32) : FVec Ideal S33x16x1024 .f32 := mulf y (sigmoid y)

/-- The exponentials of the logits less the larger one. -/
def exps (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf l (constant S_ .f32 0xFF800000#32) reducesTo_S2x1024_S1024_d0 h_S_)))))
def softmax (l : FVec Ideal S2x1024 .f32) : FVec Ideal S2x1024 .f32 :=
  Host.divf (exps l) (broadcastInDim S2x1024 ![0, 1] bcast_S1x1024_S2x1024_0_1 (broadcastInDim S1x1024 ![1] bcast_S1024_S1x1024_1
    (Host.reduceAdd (exps l) (constant S_ .f32 0x00000000#32) reducesTo_S2x1024_S1024_d0 h_S_)))
/-- The running sums. -/
def sums (p : FVec Ideal S2x1024 .f32) : FVec Ideal S2x1024 .f32 :=
  Host.reduceWindowAdd ![2, 1] ![1, 1] ![1, 0] ![0, 0] p (broadcastInDim S_ ![] bcast_S_S_ (constant S_ .f32 0x00000000#32))
    reduceWindows_S2x1024_S2x1024_w2s1p1_0_w1s1p0_0 h_S_
def floors (l : FVec Ideal S2x1024 .f32) : FVec Ideal S1024 .f32 :=
  shapeCast _ (extractStridedSlice S1x1024 ![0, 0] (sums (softmax l)) slices_S2x1024_S1x1024_0_0) shapeCasts_S1x1024_S1024

def across (f : FVec Ideal S1024 .f32) : FVec Ideal S33x16x1024 .f32 :=
  broadcastInDim S33x16x1024 ![0, 1, 2] bcast_S1x1x1024_S33x16x1024_0_1_2 (broadcastInDim S1x1x1024 ![2] bcast_S1024_S1x1x1024_2 f)
/-- One over the log of two. -/
def log2e : FVec Ideal S_ .f32 := Host.divf (constant S_ .f32 0x3F800000#32) (Host.log (constant S_ .f32 0x40000000#32))
def logForget (f : FVec Ideal S1024 .f32) (y : FVec Ideal S33x16x1024 .f32) : FVec Ideal S33x16x1024 .f32 :=
  mulf
    (Host.log (addf (across f)
      (mulf (across (subf (broadcastInDim S1024 ![] bcast_S_S1024 (constant S_ .f32 0x3F800000#32)) f)) (sigmoid y))))
    (broadcastInDim S33x16x1024 ![] bcast_S_S33x16x1024 log2e)
def scaled (y : FVec Ideal S33x16x1024 .f32) : FVec Ideal S33x16x1024 .f32 :=
  mulf (Host.divf y (broadcastInDim S33x16x1024 ![] bcast_S_S33x16x1024 (Host.sqrt (constant S_ .f32 0x43000000#32))))
    (broadcastInDim S33x16x1024 ![] bcast_S_S33x16x1024 log2e)

/-- A group's heads. -/
def heads (y : FVec Ideal S33x16x1024 .f32) : FVec Ideal S8x528x128 .f32 :=
  transpose S8x528x128 [1, 0, 2] (shapeCast _ y shapeCasts_S33x16x1024_S528x8x128) transposes_S528x8x128_S8x528x128_1_0_2

/-- The seven groups' heads one after the other. -/
def groups (z : FVec Ideal S33x16x7176 .f32) (f : FVec Ideal S1024 .f32) : FVec Ideal S56x528x128 .f32 :=
  concatenate S56x528x128 0
    [⟨S8x528x128, heads (silu (extractStridedSlice S33x16x1024 ![0, 0, 0] z slices_S33x16x7176_S33x16x1024_0_0_0))⟩,
      ⟨S8x528x128, heads (logForget f (extractStridedSlice S33x16x1024 ![0, 0, 1024] z slices_S33x16x7176_S33x16x1024_0_0_1024))⟩,
      ⟨S8x528x128, heads (extractStridedSlice S33x16x1024 ![0, 0, 2048] z slices_S33x16x7176_S33x16x1024_0_0_2048)⟩,
      ⟨S8x528x128, heads (silu (extractStridedSlice S33x16x1024 ![0, 0, 3072] z slices_S33x16x7176_S33x16x1024_0_0_3072))⟩,
      ⟨S8x528x128, heads (scaled (extractStridedSlice S33x16x1024 ![0, 0, 4096] z slices_S33x16x7176_S33x16x1024_0_0_4096))⟩,
      ⟨S8x528x128, heads (extractStridedSlice S33x16x1024 ![0, 0, 5120] z slices_S33x16x7176_S33x16x1024_0_0_5120)⟩,
      ⟨S8x528x128, heads (extractStridedSlice S33x16x1024 ![0, 0, 6144] z slices_S33x16x7176_S33x16x1024_0_0_6144)⟩]
    concatenates_S8x528x128_S8x528x128_S8x528x128_S8x528x128_S8x528x128_S8x528x128_S8x528x128_S56x528x128_d0

/-- The forget logits of all lanes, zero before the log of the sigmoid in those past the eighth. -/
def logits (z : FVec Ideal S33x16x7176 .f32) (b : FVec Ideal S1x8 .f32) : FVec Ideal S33x16x128 .f32 :=
  pad S33x16x128 ![0, 0, 0] ![0, 0, 120] ![0, 0, 0]
    (addf (extractStridedSlice S33x16x8 ![0, 0, 7168] z slices_S33x16x7176_S33x16x8_0_0_7168)
      (broadcastInDim S33x16x8 ![0, 1, 2] bcast_S1x1x8_S33x16x8_0_1_2 (broadcastInDim S1x1x8 ![2] bcast_S8_S1x1x8_2 (shapeCast _ b shapeCasts_S1x8_S8))))
    (sitofp .f32 (constantI S_ 32 0#32)) pads_S33x16x8_S33x16x128_000_000_01200 h_S_
def zeros : FVec Ideal S33x16x128 .f32 := broadcastInDim S33x16x128 ![] bcast_S_S33x16x128 (constant S_ .f32 0x00000000#32)
def softplus (x : FVec Ideal S33x16x128 .f32) : FVec Ideal S33x16x128 .f32 :=
  select (cmpf .une (subf x zeros) (subf x zeros)) (addf x zeros)
    (addf (maximumf x zeros) (Host.log1p (Host.exp (Host.negf (Host.absf (subf x zeros))))))
def logSigmoid (x : FVec Ideal S33x16x128 .f32) : FVec Ideal S528x128 .f32 :=
  shapeCast _ (Host.negf (softplus (Host.negf x))) shapeCasts_S33x16x128_S528x128

/-! ### The steps at an index -/

theorem stacked_meta (x : S16x2048.Idx → EReal) (y : S32x16x2048.Idx → EReal) (r : Fin 16) (k : Fin 2048) :
    (stacked x y : S33x16x2048.Idx → EReal) (ix3 0 r k) = x (ix2 r k) :=
  (concatenate_pair_apply_left (t := S33x16x2048) 0 (metaRows x) y _ _ rfl (ix3 0 r k) fun a => by
    match a with
    | ⟨0, _⟩ => rfl
    | ⟨1, _⟩ => rfl
    | ⟨2, _⟩ => rfl).trans (by pointwise [metaRows])

theorem stacked_sample (x : S16x2048.Idx → EReal) (y : S32x16x2048.Idx → EReal) (b : Fin 32) (r : Fin 16) (k : Fin 2048) :
    (stacked x y : S33x16x2048.Idx → EReal) (ix3 ⟨1 + b.val, by omega⟩ r k) = y (ix3 b r k) :=
  concatenate_pair_apply_right (t := S33x16x2048) 0 (metaRows x) y _ _ rfl rfl (ix3 b r k) (fun a ha => by
    match a with
    | ⟨0, _⟩ => exact absurd rfl ha
    | ⟨1, _⟩ => rfl
    | ⟨2, _⟩ => rfl) (Nat.add_comm _ _)

theorem normRows_at (x : S33x16x2048.Idx → EReal) (g : S1x2048.Idx → EReal) (b : Fin 33) (r : Fin 16) (k : Fin 2048) :
    (normRows x g : S33x16x2048.Idx → EReal) (ix3 b r k) = Cert.Mlp.normed (fun k => x (ix3 b r k)) (fun k => g (ix2 0 k)) k := by
  pointwise [normRows, Cert.Mlp.normed, Cert.Mlp.scale]
  try rfl

theorem prod_at (a : S33x16x2048.Idx → EReal) (w : S1x2048x7176.Idx → EReal) (b : Fin 33) (r : Fin 16) (e : Fin 7176) :
    (prod a w : S33x16x7176.Idx → EReal) (ix3 b r e) = Cert.Inproj.dot (fun d => a (ix3 b r d)) (fun d => w (ix3 0 d e)) := by
  pointwise [prod, Cert.Inproj.dot]

theorem sigmoid_at (y : S33x16x1024.Idx → EReal) (b : Fin 33) (r : Fin 16) (k : Fin 1024) :
    (sigmoid y : S33x16x1024.Idx → EReal) (ix3 b r k) = Ideal.logistic (y (ix3 b r k)) := by
  pointwise [sigmoid, ones]
  rfl

theorem silu_at (y : S33x16x1024.Idx → EReal) (b : Fin 33) (r : Fin 16) (k : Fin 1024) :
    (silu y : S33x16x1024.Idx → EReal) (ix3 b r k) = Cert.Inproj.silu (y (ix3 b r k)) :=
  congrArg (y (ix3 b r k) * ·) (sigmoid_at y b r k)

theorem exps_at (l : S2x1024.Idx → EReal) (i : Fin 2) (k : Fin 1024) :
    (exps l : S2x1024.Idx → EReal) (ix2 i k) = Ideal.exp (l (ix2 i k) - Cert.Inproj.peak fun i => l (ix2 i k)) := by
  rw [← Cert.Inproj.max_peak]
  pointwise [exps, Cert.Inproj.peak]
  try rfl

theorem softmax_at (l : S2x1024.Idx → EReal) (k : Fin 1024) :
    (softmax l : S2x1024.Idx → EReal) (ix2 0 k) = Cert.Inproj.floor fun i => l (ix2 i k) := by
  have h := fun i => exps_at l i k
  unfold softmax Cert.Inproj.floor
  simp only [← h]
  generalize exps l = e
  pointwise

theorem first_window : List.finRange (Shape.numel ⟨2, ![2, 1]⟩) = [⟨0, by decide⟩, ⟨1, by decide⟩] := by decide

theorem sums_at (p : S2x1024.Idx → EReal) (k : Fin 1024) : (sums p : S2x1024.Idx → EReal) (ix2 0 k) = p (ix2 0 k) := by
  have h00 : ((⟨2, ![2, 1]⟩ : Shape).rowMajor.symm ⟨0, by decide⟩ 0).val = 0 := by decide
  have h10 : ((⟨2, ![2, 1]⟩ : Shape).rowMajor.symm ⟨1, by decide⟩ 0).val = 1 := by decide
  have h11 : ((⟨2, ![2, 1]⟩ : Shape).rowMajor.symm ⟨1, by decide⟩ 1).val = 0 := by decide
  have hz : Ideal.ofBits .f32 0x00000000#32 = 0 := Ideal.ofBits_zero .f32
  show Host.reduceWindow (s := S2x1024) (t := S2x1024) (u := S_) (fun a b : EReal => a + b) ![2, 1] ![1, 1] ![1, 0] ![0, 0] p
    (fun _ => Ideal.ofBits .f32 0x00000000#32) reduceWindows_S2x1024_S2x1024_w2s1p1_0_w1s1p0_0 h_S_ (ix2 0 k) = _
  unfold Host.reduceWindow
  dsimp only
  rw [hz]
  show List.foldl _ _ (List.finRange (Shape.numel ⟨2, ![2, 1]⟩)) = _
  rw [first_window]
  simp only [List.foldl_cons, List.foldl_nil]
  rw [dif_neg, dif_pos]
  · rw [add_zero, zero_add]
    refine congrArg p (funext fun a => Fin.ext ?_)
    match a with
    | ⟨0, _⟩ => show 0 * 1 + ((⟨2, ![2, 1]⟩ : Shape).rowMajor.symm ⟨1, by decide⟩ 0).val - 1 = 0; rw [h10]
    | ⟨1, _⟩ => show k.val * 1 + ((⟨2, ![2, 1]⟩ : Shape).rowMajor.symm ⟨1, by decide⟩ 1).val - 0 = k.val; rw [h11]; omega
  · intro a
    match a with
    | ⟨0, _⟩ =>
      show 1 ≤ 0 * 1 + ((⟨2, ![2, 1]⟩ : Shape).rowMajor.symm ⟨1, by decide⟩ 0).val
        ∧ 0 * 1 + ((⟨2, ![2, 1]⟩ : Shape).rowMajor.symm ⟨1, by decide⟩ 0).val - 1 < 2
      rw [h10]; omega
    | ⟨1, _⟩ =>
      show 0 ≤ k.val * 1 + ((⟨2, ![2, 1]⟩ : Shape).rowMajor.symm ⟨1, by decide⟩ 1).val
        ∧ k.val * 1 + ((⟨2, ![2, 1]⟩ : Shape).rowMajor.symm ⟨1, by decide⟩ 1).val - 0 < 1024
      rw [h11]; omega
  · intro h
    have h0 : 1 ≤ 0 * 1 + ((⟨2, ![2, 1]⟩ : Shape).rowMajor.symm ⟨0, by decide⟩ 0).val := (h 0).1
    rw [h00] at h0
    omega

theorem floors_at (l : S2x1024.Idx → EReal) (k : Fin 1024) : (floors l : S1024.Idx → EReal) (ix1 k) = Cert.Inproj.floor fun i => l (ix2 i k) := by
  have h := (sums_at (softmax l) k).trans (softmax_at l k)
  unfold floors
  generalize sums (softmax l) = s at h ⊢
  rw [← h]
  pointwise

theorem log2e_at : (log2e : S_.Idx → EReal) = fun _ => Cert.Inproj.log2e := by
  funext i
  unfold log2e
  pointwise
  exact Cert.Inproj.one_div_log_two

theorem logForget_at (f : S1024.Idx → EReal) (y : S33x16x1024.Idx → EReal) (b : Fin 33) (r : Fin 16) (k : Fin 1024) :
    (logForget f y : S33x16x1024.Idx → EReal) (ix3 b r k) = Cert.Inproj.logForget (f (ix1 k)) (y (ix3 b r k)) := by
  unfold logForget
  rw [log2e_at]
  have h := sigmoid_at y b r k
  generalize sigmoid y = s at h ⊢
  unfold Cert.Inproj.logForget
  rw [← h]
  pointwise [across]

theorem scaled_at (y : S33x16x1024.Idx → EReal) (b : Fin 33) (r : Fin 16) (k : Fin 1024) :
    (scaled y : S33x16x1024.Idx → EReal) (ix3 b r k) = y (ix3 b r k) * Cert.Inproj.qScale := by
  unfold scaled
  rw [log2e_at]
  pointwise
  exact Cert.Inproj.div_root _

theorem heads_at (y : S33x16x1024.Idx → EReal) (h : Fin 8) (r : Fin 528) (d : Fin 128) :
    (heads y : S8x528x128.Idx → EReal) (ix3 h r d) = y (ix3 ⟨r.val / 16, by omega⟩ ⟨r.val % 16, by omega⟩ (Cert.Inproj.lane h d)) := by
  pointwise [heads]
  exact congrArg (fun k => y (ix3 _ _ k)) (Fin.ext (by show h.val * 128 + d.val = 128 * h.val + d.val; omega))

theorem logits_gate (z : S33x16x7176.Idx → EReal) (v : S1x8.Idx → EReal) (b : Fin 33) (r : Fin 16) (l : Fin 128) (h : l.val < 8) :
    (logits z v : S33x16x128.Idx → EReal) (ix3 b r l) = z (ix3 b r ⟨7168 + l.val, by omega⟩) + v (ix2 0 ⟨l.val, h⟩) := by
  pointwise [logits]
  rw [dif_pos h]

theorem logits_rest (z : S33x16x7176.Idx → EReal) (v : S1x8.Idx → EReal) (b : Fin 33) (r : Fin 16) (l : Fin 128) (h : 8 ≤ l.val) :
    (logits z v : S33x16x128.Idx → EReal) (ix3 b r l) = 0 := by
  pointwise [logits]
  rw [dif_neg (by omega)]
  show (((0#32 : BitVec 32).toInt : ℝ) : EReal) = 0
  simp

theorem logSigmoid_at (x : S33x16x128.Idx → EReal) (r : Fin 528) (l : Fin 128) :
    (logSigmoid x : S528x128.Idx → EReal) (ix2 r l) = Cert.Inproj.logSigmoid (x (ix3 ⟨r.val / 16, by omega⟩ ⟨r.val % 16, by omega⟩ l)) := by
  pointwise [logSigmoid, softplus, zeros]
  rw [if_neg (by simp)]
  exact Cert.Inproj.neg_softplus _

/-- Group `j` through its activation. -/
def group (z : S33x16x7176.Idx → EReal) (f : S1024.Idx → EReal) : Fin 7 → S33x16x1024.Idx → EReal
  | ⟨0, _⟩ => silu (extractStridedSlice S33x16x1024 ![0, 0, 0] z slices_S33x16x7176_S33x16x1024_0_0_0)
  | ⟨1, _⟩ => logForget f (extractStridedSlice S33x16x1024 ![0, 0, 1024] z slices_S33x16x7176_S33x16x1024_0_0_1024)
  | ⟨2, _⟩ => extractStridedSlice S33x16x1024 ![0, 0, 2048] z slices_S33x16x7176_S33x16x1024_0_0_2048
  | ⟨3, _⟩ => silu (extractStridedSlice S33x16x1024 ![0, 0, 3072] z slices_S33x16x7176_S33x16x1024_0_0_3072)
  | ⟨4, _⟩ => scaled (extractStridedSlice S33x16x1024 ![0, 0, 4096] z slices_S33x16x7176_S33x16x1024_0_0_4096)
  | ⟨5, _⟩ => extractStridedSlice S33x16x1024 ![0, 0, 5120] z slices_S33x16x7176_S33x16x1024_0_0_5120
  | ⟨6, _⟩ => extractStridedSlice S33x16x1024 ![0, 0, 6144] z slices_S33x16x7176_S33x16x1024_0_0_6144

theorem slice_at (z : S33x16x7176.Idx → EReal) (j : Fin 7) (hs : S33x16x7176.Slices ![0, 0, 1024 * j.val] S33x16x1024) (b : Fin 33) (r : Fin 16)
    (k : Fin 1024) : extractStridedSlice S33x16x1024 ![0, 0, 1024 * j.val] z hs (ix3 b r k) = z (ix3 b r (Cert.Inproj.column j k)) := by
  refine congrArg z (funext fun a => Fin.ext ?_)
  match a with
  | ⟨0, _⟩ => show 0 + b.val = b.val; omega
  | ⟨1, _⟩ => show 0 + r.val = r.val; omega
  | ⟨2, _⟩ => rfl

theorem group_at (z : S33x16x7176.Idx → EReal) (f : S1024.Idx → EReal) (j : Fin 7) (b : Fin 33) (r : Fin 16) (k : Fin 1024) :
    group z f j (ix3 b r k) = Cert.Inproj.act j.val (f (ix1 k)) (z (ix3 b r (Cert.Inproj.column j k))) := by
  match j with
  | ⟨0, _⟩ => exact (silu_at _ b r k).trans (congrArg Cert.Inproj.silu (slice_at z 0 slices_S33x16x7176_S33x16x1024_0_0_0 b r k))
  | ⟨1, _⟩ => exact (logForget_at f _ b r k).trans (congrArg (Cert.Inproj.logForget _) (slice_at z 1 slices_S33x16x7176_S33x16x1024_0_0_1024 b r k))
  | ⟨2, _⟩ => exact slice_at z 2 slices_S33x16x7176_S33x16x1024_0_0_2048 b r k
  | ⟨3, _⟩ => exact (silu_at _ b r k).trans (congrArg Cert.Inproj.silu (slice_at z 3 slices_S33x16x7176_S33x16x1024_0_0_3072 b r k))
  | ⟨4, _⟩ => exact (scaled_at _ b r k).trans (congrArg (· * Cert.Inproj.qScale) (slice_at z 4 slices_S33x16x7176_S33x16x1024_0_0_4096 b r k))
  | ⟨5, _⟩ => exact slice_at z 5 slices_S33x16x7176_S33x16x1024_0_0_5120 b r k
  | ⟨6, _⟩ => exact slice_at z 6 slices_S33x16x7176_S33x16x1024_0_0_6144 b r k

theorem groups_at (z : S33x16x7176.Idx → EReal) (f : S1024.Idx → EReal) (j : Fin 7) (h : Fin 8) (r : Fin 528) (d : Fin 128) :
    (groups z f : S56x528x128.Idx → EReal) (ix3 ⟨8 * j.val + h.val, by omega⟩ r d)
      = Cert.Inproj.act j.val (f (ix1 (Cert.Inproj.lane h d)))
          (z (ix3 ⟨r.val / 16, by omega⟩ ⟨r.val % 16, by omega⟩ (Cert.Inproj.column j (Cert.Inproj.lane h d)))) := by
  have e := concatenate_ofFn_apply (t := S56x528x128) (s₁ := S8x528x128) 0 (N := 7)
    (fun n : Fin 7 => (heads (group z f n) : S8x528x128.Idx → EReal))
    concatenates_S8x528x128_S8x528x128_S8x528x128_S8x528x128_S8x528x128_S8x528x128_S8x528x128_S56x528x128_d0 rfl 8 rfl
    (ix3 ⟨8 * j.val + h.val, by omega⟩ r d) j (by show (8 * j.val + h.val) / 8 = j.val; omega) (ix3 h r d)
    (by show h.val = (8 * j.val + h.val) % 8; omega) fun b hb => by
      match b with
      | ⟨0, _⟩ => exact absurd rfl hb
      | ⟨1, _⟩ => rfl
      | ⟨2, _⟩ => rfl
  exact Eq.trans e ((heads_at (group z f j) h r d).trans (group_at z f j _ _ _))

/-! ### The run -/

variable (m : (ℓ : Loc nD τ sig) → Buf (Elt Ideal) ℓ) (c : Dev nD)

def tokens : S16x2048.Idx → EReal := m ((c.tc : Thread nD τ).loc main_arg0)
def sample : S32x16x2048.Idx → EReal := m ((c.tc : Thread nD τ).loc main_arg1)
def gain : S1x2048.Idx → EReal := m ((c.tc : Thread nD τ).loc main_arg2)
def weights : S1x2048x7176.Idx → EReal := m ((c.tc : Thread nD τ).loc main_arg3)
def bounds : S2x1024.Idx → EReal := m ((c.tc : Thread nD τ).loc main_arg4)
def bias : S1x8.Idx → EReal := m ((c.tc : Thread nD τ).loc main_arg5)

def columns : S33x16x7176.Idx → EReal := prod (normRows (stacked (tokens m c) (sample m c)) (gain m c)) (weights m c)
def res0 : S56x528x128.Idx → EReal := groups (columns m c) (floors (bounds m c))
def res1 : S528x128.Idx → EReal := logSigmoid (logits (columns m c) (bias m c))

theorem run (ρ : Dev nD → PrngReg) :
    θ_run defs (onTc (τ := τ) (main (F := Ideal))) ⟨m, fun _ => 0, ρ⟩ fun r => ∀ c : Dev nD,
      r.2.mem ((c.tc : Thread nD τ).loc main_v80) = res0 m c
      ∧ r.2.mem ((c.tc : Thread nD τ).loc main_v87) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2⟩) (Value.run m ρ)

/-! ### The results at an index -/

/-- Row `r` of all the rows, the meta tokens first. -/
def rowAt (r : Fin 528) : Cert.Mlp.Row :=
  if h : r.val < 16 then fun k => tokens m c (ix2 ⟨r.val, h⟩ k)
  else fun k => sample m c (ix3 ⟨(r.val - 16) / 16, by omega⟩ ⟨(r.val - 16) % 16, by omega⟩ k)
/-- The row scaled, against a column of weights. -/
def columnAt (r : Fin 528) (e : Fin 7176) : EReal :=
  Cert.Inproj.dot (Cert.Mlp.normed (rowAt m c r) fun k => gain m c (ix2 0 k)) fun d => weights m c (ix3 0 d e)

theorem stacked_at (r : Fin 528) (k : Fin 2048) :
    (stacked (tokens m c) (sample m c) : S33x16x2048.Idx → EReal) (ix3 ⟨r.val / 16, by omega⟩ ⟨r.val % 16, by omega⟩ k) = rowAt m c r k := by
  unfold rowAt
  by_cases h : r.val < 16
  · rw [dif_pos h]
    refine Eq.trans (congrArg (stacked (tokens m c) (sample m c) : S33x16x2048.Idx → EReal) (funext fun a => Fin.ext ?_))
      (stacked_meta (tokens m c) (sample m c) ⟨r.val, h⟩ k)
    match a with
    | ⟨0, _⟩ => show r.val / 16 = 0; omega
    | ⟨1, _⟩ => show r.val % 16 = r.val; omega
    | ⟨2, _⟩ => rfl
  · rw [dif_neg h]
    refine Eq.trans (congrArg (stacked (tokens m c) (sample m c) : S33x16x2048.Idx → EReal) (funext fun a => Fin.ext ?_))
      (stacked_sample (tokens m c) (sample m c) ⟨(r.val - 16) / 16, by omega⟩ ⟨(r.val - 16) % 16, by omega⟩ k)
    match a with
    | ⟨0, _⟩ => show r.val / 16 = 1 + (r.val - 16) / 16; omega
    | ⟨1, _⟩ => show r.val % 16 = (r.val - 16) % 16; omega
    | ⟨2, _⟩ => rfl

theorem columns_at (r : Fin 528) (e : Fin 7176) :
    columns m c (ix3 ⟨r.val / 16, by omega⟩ ⟨r.val % 16, by omega⟩ e) = columnAt m c r e := by
  unfold columns columnAt
  rw [prod_at]
  refine congrArg (fun a => Cert.Inproj.dot a _) (funext fun d => ?_)
  rw [normRows_at]
  exact congrArg (fun x => Cert.Mlp.normed x _ d) (funext fun k => stacked_at m c r k)

theorem res0_at (j : Fin 7) (h : Fin 8) (r : Fin 528) (d : Fin 128) :
    res0 m c (ix3 ⟨8 * j.val + h.val, by omega⟩ r d)
      = Cert.Inproj.act j.val (Cert.Inproj.floor fun i => bounds m c (ix2 i (Cert.Inproj.lane h d)))
          (columnAt m c r (Cert.Inproj.column j (Cert.Inproj.lane h d))) := by
  unfold res0
  rw [groups_at, floors_at, columns_at]

theorem res1_gate (r : Fin 528) (l : Fin 128) (h : l.val < 8) :
    res1 m c (ix2 r l) = Cert.Inproj.logSigmoid (columnAt m c r ⟨7168 + l.val, by omega⟩ + bias m c (ix2 0 ⟨l.val, h⟩)) := by
  unfold res1
  rw [logSigmoid_at, logits_gate _ _ _ _ _ h, columns_at]

theorem res1_rest (r : Fin 528) (l : Fin 128) (h : 8 ≤ l.val) : res1 m c (ix2 r l) = Cert.Inproj.logSigmoid 0 := by
  unfold res1
  rw [logSigmoid_at, logits_rest _ _ _ _ _ h]

end Cert.Reference4Ideal.In

end
-- ==== Proof.InClaim.lean ====
/-
  The claims about the input projection of the sample's rows and the meta tokens: the kernel and its reference run and leave
  their arguments and every counter as they were, and their results are equal, entry by entry those of `Proof/InSpec.lean`.
-/
module

public import proofs.«01_k».proof.Defs
public import proofs.«01_k».proof.Proof.Gen.Kernel4.Frame
public import proofs.«01_k».proof.Proof.InValue
public import proofs.«01_k».proof.Proof.InRef
public import Idealize.ShloMosaic.Lib.Quiescent
public import Idealize.ShloMosaic.Lib.Claim

@[expose] public section

noncomputable section

namespace Cert.Inproj

open Idealize.ShloMosaic Idealize.ShloMosaic.TcCoe Idealize.SL.Sem Idealize.ShloMosaic.StableHlo

/-- Over bits a named number is its word. -/
local instance words : Named Bits where
  named _ _ {φ} bits := FloatOps.ofBits φ bits
/-- So kernel and idealized kernel run the same bodies. -/
theorem defs_eq : Kernel4Ideal.defs (F := Bits) = Kernel4.defs (F := Bits) := by
  refine congrArg (Pipeline.defs Kernel4Ideal.pcfgs) (congrArg Defs.onTc ?_)
  funext l x
  match l, x with
  | ⟨0, _⟩, (_, _) => rfl

/-- One run gives both frames. -/
theorem frame_kernel : Cert.quiescent_Kernel4 (hKernel4 := Kernel4.Gen.facts) := fun m ρ _ => by
  have h := Kernel4Ideal.In.frame (F := Bits) m ρ
  rw [defs_eq] at h
  exact h
theorem frame_ideal : Cert.quiescent_Kernel4Ideal (hKernel4Ideal := Kernel4Ideal.Gen.facts) := fun m ρ _ =>
  Kernel4Ideal.In.frame (F := Ideal) m ρ
/-- The reference has no semaphores. -/
theorem frame_ref : Cert.quiescent_Reference4Ideal (hReference4Ideal := Reference4Ideal.Gen.facts) := fun m ρ _ =>
  θ_run_mono (Reference4Ideal.Value.run m ρ) fun r hr => ⟨fun c => (hr c).2.2, sem_eq_zero_of_no_sems rfl r.2⟩

/-- The named numbers are those the kernel's words round. -/
theorem preserves : Cert.preserves_Kernel4_Kernel4Ideal :=
  ⟨IdealRules.named_const.statement Kernel4Ideal.κ "log2e" .f32 0x3FB8AA3B#32 (((Real.log 2)⁻¹ : ℝ) : EReal) rfl,
    IdealRules.named_const.statement Kernel4Ideal.κ "q_scale" .f32 0x3E0293EE#32 (((Real.sqrt 128)⁻¹ * (Real.log 2)⁻¹ : ℝ) : EReal) rfl⟩

section Equal

variable (m : (ℓ : Loc Kernel4Ideal.nD Kernel4Ideal.τ Kernel4Ideal.sig) → Buf (Elt Ideal) ℓ)
  (m' : (ℓ : Loc Reference4Ideal.nD Reference4Ideal.τ Reference4Ideal.sig) → Buf (Elt Ideal) ℓ)
  (c : Dev Kernel4Ideal.nD)
  (h0 : Reference4Ideal.In.tokens m' c = Kernel4Ideal.In.tokens m c) (h1 : Reference4Ideal.In.sample m' c = Kernel4Ideal.In.sample m c)
  (h2 : Reference4Ideal.In.gain m' c = Kernel4Ideal.In.gain m c) (h3 : Reference4Ideal.In.weights m' c = Kernel4Ideal.In.weights m c)
  (h4 : Reference4Ideal.In.bounds m' c = Kernel4Ideal.In.bounds m c) (h5 : Reference4Ideal.In.bias m' c = Kernel4Ideal.In.bias m c)
include h0 h1 h2 h3

theorem column_eq (r : Fin 528) (e : Fin 7176) : Reference4Ideal.In.columnAt m' c r e = Kernel4Ideal.In.columnAt m c r e := by
  unfold Reference4Ideal.In.columnAt Kernel4Ideal.In.columnAt Reference4Ideal.In.rowAt Kernel4Ideal.In.rowAt
  rw [h0, h1, h2, h3]

include h4 in
theorem first_eq : (Reference4Ideal.In.res0 m' c : Kernel4Ideal.S56x528x128.Idx → EReal)
    = (Kernel4Ideal.In.dats m 0 c).arrAt 6 Kernel4Ideal.cfg0.N := by
  refine Eq.trans ?_ (Kernel4Ideal.In.array6 m c).symm
  funext (i : Kernel4Ideal.S56x528x128.Idx)
  obtain ⟨j, h, r, d, rfl⟩ : ∃ (j : Fin 7) (h : Fin 8) (r : Fin 528) (d : Fin 128), i = ix3 (⟨8 * j.val + h.val, by omega⟩ : Fin 56) r d := by
    have i0 : (i 0).val < 56 := (i 0).isLt
    refine ⟨⟨(i 0).val / 8, by omega⟩, ⟨(i 0).val % 8, by omega⟩, i 1, i 2, (eq_ix3 i).trans ?_⟩
    refine congrArg (fun q : Fin 56 => (ix3 q (i 1) (i 2) : Kernel4Ideal.S56x528x128.Idx)) (Fin.ext ?_)
    show (i 0).val = 8 * ((i 0).val / 8) + (i 0).val % 8
    omega
  refine (Reference4Ideal.In.res0_at m' c j h r d).trans ?_
  rw [column_eq m m' c h0 h1 h2 h3, h4]
  refine (congrArg₂ (fun q p => Kernel4Ideal.In.groupAt m c q r (lane p d)) (Fin.ext ?_) (Fin.ext ?_) :
    Kernel4Ideal.In.groupAt m c j r (lane h d) = _)
  · show j.val = (8 * j.val + h.val) / 8
    omega
  · show h.val = (8 * j.val + h.val) % 8
    omega

include h5 in
theorem second_eq : (Reference4Ideal.In.res1 m' c : Kernel4Ideal.S528x128.Idx → EReal)
    = (Kernel4Ideal.In.dats m 0 c).arrAt 7 Kernel4Ideal.cfg0.N := by
  refine Eq.trans ?_ (Kernel4Ideal.In.array7 m c).symm
  funext (i : Kernel4Ideal.S528x128.Idx)
  obtain ⟨r, l, rfl⟩ : ∃ (r : Fin 528) (l : Fin 128), i = ix2 r l := ⟨i 0, i 1, eq_ix2 i⟩
  by_cases h : l.val < 8
  · refine (Reference4Ideal.In.res1_gate m' c r l h).trans ?_
    rw [column_eq m m' c h0 h1 h2 h3, h5]
    exact (Kernel4Ideal.In.gates_gate m c r l h).symm
  · exact (Reference4Ideal.In.res1_rest m' c r l (Nat.le_of_not_lt h)).trans
      (Kernel4Ideal.In.gates_rest m c r l (Nat.le_of_not_lt h)).symm

end Equal

theorem algebraic : Cert.algebraic_Kernel4Ideal_Reference4Ideal (hKernel4Ideal := Kernel4Ideal.Gen.facts)
    (hReference4Ideal := Reference4Ideal.Gen.facts) := by
  intro m g m' g' _ hagree
  refine ⟨_, _, Kernel4Ideal.In.run_array m g, θ_run_mono (Reference4Ideal.In.run m' g') fun r hr c => ?_⟩
  obtain ⟨h0, h1, h2, h3, h4, h5⟩ := hagree c
  obtain ⟨r0, r1, ra⟩ := hr c
  exact ⟨r0.trans (first_eq m m' c h0 h1 h2 h3 h4), r1.trans (second_eq m m' c h0 h1 h2 h3 h5), ra⟩

end Cert.Inproj

end
-- ==== Proof.SampleMlpRun.lean ====
/-
  The sample's MLP kernel (`cc0_mlp` of `Kernel5Ideal`), one grid point at a time and over any `F`.

  The grid is one row tile by 8 blocks of the hidden width. The kernel copies the 512 rows into one of the two slots of a
  buffer of its own at the first point and waits for them there; no other copy is started. Each run below is one case of
  the body's conditions; what it stores is found by the run.
-/
module

public import proofs.«01_k».proof.Proof.Gen.Kernel5Ideal.Frame
public import Idealize.ShloMosaic.Lib.Ring
public import Idealize.ShloMosaic.Lib.Affine
public import Idealize.ShloMosaic.Lib.Tactic

@[expose] public section

set_option maxRecDepth 16384

noncomputable section

namespace Cert.Kernel5Ideal.Mlp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Names: the rows of a tile, a slot of the buffer, its semaphore -/

/-- The rows left in HBM, the normalised rows, the running sum and the two-slot buffer. -/
abbrev hM : Memref sig .tc .hbm S512x2048 .f32 := Memref.whole main_v4
abbrev aM : Memref sig .tc .vmem S512x2048 .bf16 := Memref.whole cc0_scratch0
abbrev sM : Memref sig .tc .vmem S512x2048 .f32 := Memref.whole cc0_scratch1
abbrev bufM : Memref sig .tc .vmem S2x512x2048 .f32 := Memref.whole cc0_scratch2

abbrev tileOff (b : Fin 1) : Fin 2 → Nat := ![512 * b.val, 0]
theorem tileOff_inb (b : Fin 1) : ∀ a, tileOff b a + S512x2048.size a ≤ S512x2048.size a := by
  have := b.isLt; intro a; fin_cases a
  · show 512 * b.val + 512 ≤ 512; omega
  · show 0 + 2048 ≤ 2048; omega
abbrev slotOff (s : Fin 2) : Fin 3 → Nat := ![s.val, 0, 0]
theorem slotOff_inb (s : Fin 2) : ∀ a, slotOff s a + S1x512x2048.size a ≤ S2x512x2048.size a := by
  have := s.isLt; intro a; fin_cases a
  · show s.val + 1 ≤ 2; omega
  · show 0 + 512 ≤ 512; omega
  · show 0 + 2048 ≤ 2048; omega
abbrev halfOff (s : Fin 2) : Fin 3 → Nat := ![s.val, 256, 0]
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- The 512 rows of tile `b`. -/
def tile (b : Fin 1) : Memref sig .tc .hbm S512x2048 .f32 :=
  hM.slice (Rect.unit (s := S512x2048) (tileOff b) S512x2048.size (tileOff_inb b)) (fun _ => rfl)
/-- Slot `s` of the buffer. -/
def rslot (s : Fin 2) : Memref sig .tc .vmem S512x2048 .f32 :=
  (bufM.slice (Rect.unit (s := S2x512x2048) (slotOff s) S1x512x2048.size (slotOff_inb s)) (fun _ => rfl)).squeeze S512x2048 squeezes_S1x512x2048_S512x2048
/-- Slot `s`'s semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (s : Fin 2) : ClosedOff (halfOff s) := ⟨halfOff s, rfl⟩
instance (b : Fin 1) : ClosedOff (tileOff b) := ⟨tileOff b, rfl⟩

/-! ## The offsets the body computes from the grid point -/

/-- The grid point at tile `a`, block `b`. -/
abbrev mk (a : Fin 1) (b : Fin 8) : grid0.Coords := fun | 0 => a | 1 => b

section Offsets
variable (i : grid0.Coords)

theorem off1_eq : k0_off1 i = semOff (Ring.sl 2 (i 0).val) :=
  (by decide +kernel : ∀ a : Fin 1, k0_off1 (mk a 0) = semOff (Ring.sl 2 a.val)) (i 0)
theorem off2_eq : k0_off2 i = slotOff (Ring.sl 2 (i 0).val) :=
  (by decide +kernel : ∀ a : Fin 1, k0_off2 (mk a 0) = slotOff (Ring.sl 2 a.val)) (i 0)
theorem off3_eq : k0_off3 i = tileOff (Ring.bk 1 (i 0).val) :=
  (by decide +kernel : ∀ a : Fin 1, k0_off3 (mk a 0) = tileOff (Ring.bk 1 a.val)) (i 0)
theorem off4_eq : k0_off4 i = semOff (Ring.sl 2 (i 0).val) :=
  (by decide +kernel : ∀ a : Fin 1, k0_off4 (mk a 0) = semOff (Ring.sl 2 a.val)) (i 0)
theorem off5_eq : k0_off5 i = slotOff (Ring.sl 2 (i 0).val) :=
  (by decide +kernel : ∀ a : Fin 1, k0_off5 (mk a 0) = slotOff (Ring.sl 2 a.val)) (i 0)
theorem off6_eq : k0_off6 i = tileOff (Ring.bk 1 (i 0).val) :=
  (by decide +kernel : ∀ a : Fin 1, k0_off6 (mk a 0) = tileOff (Ring.bk 1 a.val)) (i 0)
theorem off7_eq : k0_off7 i = slotOff (Ring.sl 2 (i 0).val) :=
  (by decide +kernel : ∀ a : Fin 1, k0_off7 (mk a 0) = slotOff (Ring.sl 2 a.val)) (i 0)
theorem off8_eq : k0_off8 i = halfOff (Ring.sl 2 (i 0).val) :=
  (by decide +kernel : ∀ a : Fin 1, k0_off8 (mk a 0) = halfOff (Ring.sl 2 a.val)) (i 0)
theorem off9_eq : k0_off9 i = semOff (Ring.sl 2 ((i 0).val + 1)) :=
  (by decide +kernel : ∀ a : Fin 1, k0_off9 (mk a 0) = semOff (Ring.sl 2 (a.val + 1))) (i 0)
theorem off10_eq : k0_off10 i = slotOff (Ring.sl 2 ((i 0).val + 1)) :=
  (by decide +kernel : ∀ a : Fin 1, k0_off10 (mk a 0) = slotOff (Ring.sl 2 (a.val + 1))) (i 0)
theorem off11_eq (h : k0_cond3 i = 1#1) : k0_off11 i = tileOff (Ring.bk 1 ((i 0).val + 1)) :=
  (by decide +kernel : ∀ (a : Fin 1) (b : Fin 8), k0_cond3 (mk a b) = 1#1 → k0_off11 (mk a b) = tileOff (Ring.bk 1 (a.val + 1))) (i 0) (i 1) h
theorem off12_eq : k0_off12 i = slotOff (Ring.sl 2 (i 0).val) :=
  (by decide +kernel : ∀ a : Fin 1, k0_off12 (mk a 0) = slotOff (Ring.sl 2 a.val)) (i 0)
theorem off13_eq : k0_off13 i = halfOff (Ring.sl 2 (i 0).val) :=
  (by decide +kernel : ∀ a : Fin 1, k0_off13 (mk a 0) = halfOff (Ring.sl 2 a.val)) (i 0)

instance : ClosedOff (k0_off7 i) := ⟨slotOff (Ring.sl 2 (i 0).val), off7_eq i⟩
instance : ClosedOff (k0_off8 i) := ⟨halfOff (Ring.sl 2 (i 0).val), off8_eq i⟩
instance : ClosedOff (k0_off12 i) := ⟨slotOff (Ring.sl 2 (i 0).val), off12_eq i⟩
instance : ClosedOff (k0_off13 i) := ⟨halfOff (Ring.sl 2 (i 0).val), off13_eq i⟩

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x512x2048) off S1x512x2048.size hh) hs).squeeze S512x2048 squeezes_S1x512x2048_S512x2048 = rslot s :=
  congrArg (fun M : Memref sig .tc .vmem S1x512x2048 .f32 => M.squeeze S512x2048 squeezes_S1x512x2048_S512x2048) (Memref.slice_unit_congr _ e _ _ _ _)
private theorem tile_congr {off : Fin 2 → Nat} {b : Fin 1} (e : off = tileOff b) (hh hs) :
    hM.slice (Rect.unit (s := S512x2048) off S512x2048.size hh) hs = tile b :=
  Memref.slice_unit_congr _ e _ _ _ (fun _ => rfl)

@[sl_canon] theorem sem1 (hh) : (cc0_scratch3.slice (Rect.unit (s := S2) (k0_off1 i) S1.size hh)).squeeze S_ squeezes_S1_S_ = csm (Ring.sl 2 (i 0).val) := csm_congr (off1_eq i) _
@[sl_canon] theorem sem4 (hh) : (cc0_scratch3.slice (Rect.unit (s := S2) (k0_off4 i) S1.size hh)).squeeze S_ squeezes_S1_S_ = csm (Ring.sl 2 (i 0).val) := csm_congr (off4_eq i) _
@[sl_canon] theorem sem9 (hh) : (cc0_scratch3.slice (Rect.unit (s := S2) (k0_off9 i) S1.size hh)).squeeze S_ squeezes_S1_S_ = csm (Ring.sl 2 ((i 0).val + 1)) := csm_congr (off9_eq i) _
@[sl_canon] theorem slot2 (hh hs) : (bufM.slice (Rect.unit (s := S2x512x2048) (k0_off2 i) S1x512x2048.size hh) hs).squeeze S512x2048 squeezes_S1x512x2048_S512x2048 = rslot (Ring.sl 2 (i 0).val) := rslot_congr (off2_eq i) _ _
@[sl_canon] theorem slot5 (hh hs) : (bufM.slice (Rect.unit (s := S2x512x2048) (k0_off5 i) S1x512x2048.size hh) hs).squeeze S512x2048 squeezes_S1x512x2048_S512x2048 = rslot (Ring.sl 2 (i 0).val) := rslot_congr (off5_eq i) _ _
@[sl_canon] theorem slot10 (hh hs) : (bufM.slice (Rect.unit (s := S2x512x2048) (k0_off10 i) S1x512x2048.size hh) hs).squeeze S512x2048 squeezes_S1x512x2048_S512x2048 = rslot (Ring.sl 2 ((i 0).val + 1)) := rslot_congr (off10_eq i) _ _
@[sl_canon] theorem tile3 (hh hs) : hM.slice (Rect.unit (s := S512x2048) (k0_off3 i) S512x2048.size hh) hs = tile (Ring.bk 1 (i 0).val) := tile_congr (off3_eq i) _ _
@[sl_canon] theorem tile6 (hh hs) : hM.slice (Rect.unit (s := S512x2048) (k0_off6 i) S512x2048.size hh) hs = tile (Ring.bk 1 (i 0).val) := tile_congr (off6_eq i) _ _
@[sl_canon] theorem tile11 (h : k0_cond3 i = 1#1) (hh hs) : hM.slice (Rect.unit (s := S512x2048) (k0_off11 i) S512x2048.size hh) hs = tile (Ring.bk 1 ((i 0).val + 1)) := tile_congr (off11_eq i h) _ _

end Offsets

/-! ## The pieces of the ring -/

section Pieces
variable (c : Dev nD) (H : Buf (Elt F) (hM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Tile `b` at home. -/
abbrev homeP (b : Fin 1) : sProp 𝕄 := (tile b).view.loc (c : Thread nD τ) ↦[(tile b).view.set]{fullShare} H
/-- Tile `b`'s rows, as the copy delivers them. -/
abbrev rows (b : Fin 1) : S512x2048.Idx → Elt F .f32 := ReadAs.same.apply ((tile b).view.read (Elt F) H)
/-- Slot `s` after tile `b` has landed over contents `f`. -/
abbrev landed (s : Fin 2) (b : Fin 1) (f : Buf (Elt F) ((rslot s).view.loc (c : Thread nD τ))) : Buf (Elt F) ((rslot s).view.loc (c : Thread nD τ)) :=
  (rslot s).view.writes (Elt F) f [⟨Rect.whole S512x2048, rows c H b⟩]
/-- Slot `s` with tile `b` on its way into it, over contents `f`. -/
abbrev flightP (N : ℕ) (s : Fin 2) (b : Fin 1) (f : Buf (Elt F) ((rslot s).view.loc (c : Thread nD τ))) : sProp 𝕄 :=
  Transfers.Flight countersEmb (c : Thread nD τ) (SemLoc.dma (csm s).sem) () N iprop(slotP c s (landed c H s b f) ∗ homeP c H b)

end Pieces

/-- The condition of the accumulating branch: neither the first nor the last block. -/
abbrev condM (i : grid0.Coords) : Prop :=
  (Scalar.cmpi .ne (Scalar.extui (Scalar.andi (Scalar.cmpi .sgt (BitVec.ofNat 32 (i 1).val) 0#32) (Scalar.cmpi .slt (BitVec.ofNat 32 (i 1).val) 7#32))) 0#32) = 1#1

variable (c : Dev nD) (H : Buf (Elt F) (hM.view.loc (c : Thread nD τ))) (i : grid0.Coords)
  (arg3 : Memref sig .tc .vmem S1x2048 .f32) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S1x2048 .f32) (harg6 : arg6.IsWhole)
  (arg7 : Memref sig .tc .vmem S512x2048 .f32) (harg7 : arg7.IsWhole)

/-- The body at grid point `i`. -/
abbrev body : Prog (TpuEff nD τ sig (Elt F) Λ₀ .tc) PUnit :=
  cc0_mlp (F := F) i hM (Memref.isWhole_whole _) arg3 harg3 arg4 harg4 arg5 harg5 arg6 harg6 arg7 harg7
    aM (Memref.isWhole_whole _) sM (Memref.isWhole_whole _) bufM (Memref.isWhole_whole _) cc0_scratch3

/-- A middle block with no copy to start: the running sum grows. -/
def runD (h1 : ¬k0_cond1 i = 1#1) (h3 : ¬k0_cond3 i = 1#1) (h4 : condM i) (h5 : ¬k0_cond5 i = 1#1)
    (x1 : Vec F S2048x1024 .bf16) (x2 : Vec F S1024x2048 .bf16) (xa : Vec F S512x2048 .bf16) (xs : Vec F S512x2048 .f32) :
    { L : List (View.Piece (Elt F) S512x2048 .f32) // ∀ (K : PUnit → sProp 𝕄),
      iprop(owns (c : Thread nD τ) arg4 fullShare x1 ∗ owns (c : Thread nD τ) arg5 fullShare x2
          ∗ owns (c : Thread nD τ) aM fullShare xa ∗ owns (c : Thread nD τ) sM fullShare xs
          ∗ (iprop(owns (c : Thread nD τ) arg4 fullShare x1 ∗ owns (c : Thread nD τ) arg5 fullShare x2
              ∗ owns (c : Thread nD τ) aM fullShare xa
              ∗ (∃ f, sM.view.loc (c : Thread nD τ) ↦[sM.view.set]{fullShare} sM.view.writes (Elt F) f L)) -∗ K ⟨⟩))
        ⊢ wp frame (wpE (defs₀ (F := F)) Variants.none c none) Set.univ
            (body i arg3 harg3 arg4 harg4 arg5 harg5 arg6 harg6 arg7 harg7) K } := by
  refine ⟨?_, fun K => ?run⟩
  case run =>
    unfold body cc0_mlp
    unfold owns
    iintro ⟨⟨%f1, %hf1, H1⟩, ⟨%f2, %hf2, H2⟩, ⟨%fa, %hfa, HA⟩, ⟨%fs, %hfs, HS⟩, Hk⟩
    obtain rfl := harg4.eq_unread hf1; obtain rfl := harg5.eq_unread hf2
    obtain rfl := (Memref.isWhole_whole cc0_scratch0).eq_unread hfa
    obtain rfl := (Memref.isWhole_whole cc0_scratch1).eq_unread hfs
    sl_exec (disch := first | sl_exact h1 | sl_exact h3 | sl_exact h4 | sl_exact h5)
    sl_step
    iapply Hk
    isplitl [H1]
    · iexists _; isplitr; · ipureintro; exact harg4.read_unread _
      iexact H1
    isplitl [H2]
    · iexists _; isplitr; · ipureintro; exact harg5.read_unread _
      iexact H2
    isplitl [HA]
    · iexists _; isplitr; · ipureintro; exact (Memref.isWhole_whole cc0_scratch0).read_unread _
      iexact HA
    iexists _; iexact HS

/-- What a middle block stores in the running sum. -/
def midSum (x1 : Vec F S2048x1024 .bf16) (x2 : Vec F S1024x2048 .bf16) (xa : Vec F S512x2048 .bf16) (xs : Vec F S512x2048 .f32) :
    List (View.Piece (Elt F) S512x2048 .f32) :=
  [⟨Rect.unit ![0, 0] S512x2048.size (by decide), runD.sl.v41 c arg4 harg4 arg5 harg5 x1 x2 xa xs⟩]

theorem runD_sum (h1 : ¬k0_cond1 i = 1#1) (h3 : ¬k0_cond3 i = 1#1) (h4 : condM i) (h5 : ¬k0_cond5 i = 1#1)
    (x1 : Vec F S2048x1024 .bf16) (x2 : Vec F S1024x2048 .bf16) (xa : Vec F S512x2048 .bf16) (xs : Vec F S512x2048 .f32) :
    (runD c i arg3 harg3 arg4 harg4 arg5 harg5 arg6 harg6 arg7 harg7 h1 h3 h4 h5 x1 x2 xa xs).1 = midSum c arg4 harg4 arg5 harg5 x1 x2 xa xs := rfl

/-- The first block of a tile whose copy is on its way: the copy is waited for, the rows are normalised into their
    buffer and the running sum starts. -/
def runB (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    Σ' (LA : List (View.Piece (Elt F) S512x2048 .bf16)), { L : List (View.Piece (Elt F) S512x2048 .f32) // ∀ (W : Waits sig Unit) (K : PUnit → sProp 𝕄),
      iprop(owns (c : Thread nD τ) arg3 fullShare x0 ∗ owns (c : Thread nD τ) arg4 fullShare x1 ∗ owns (c : Thread nD τ) arg5 fullShare x2
          ∗ (∃ d, owns (c : Thread nD τ) aM fullShare d) ∗ (∃ d, owns (c : Thread nD τ) sM fullShare d)
          ∗ (∃ f, flightP c H 131072 (Ring.sl 2 (i 0).val) (Ring.bk 1 (i 0).val) f)
          ∗ owes (c : Thread nD τ) 0 W
          ∗ (iprop(owns (c : Thread nD τ) arg3 fullShare x0 ∗ owns (c : Thread nD τ) arg4 fullShare x1 ∗ owns (c : Thread nD τ) arg5 fullShare x2
              ∗ (∃ f, aM.view.loc (c : Thread nD τ) ↦[aM.view.set]{fullShare} aM.view.writes (Elt F) f LA)
              ∗ (∃ f, sM.view.loc (c : Thread nD τ) ↦[sM.view.set]{fullShare} sM.view.writes (Elt F) f L)
              ∗ cellP c (Ring.sl 2 (i 0).val)
              ∗ slotP c (Ring.sl 2 (i 0).val) (landed c H (Ring.sl 2 (i 0).val) (Ring.bk 1 (i 0).val) (rslot (Ring.sl 2 (i 0).val)).view.junk)
              ∗ homeP c H (Ring.bk 1 (i 0).val) ∗ (∃ W', owes (c : Thread nD τ) 0 W')) -∗ K ⟨⟩))
        ⊢ wp frame (wpE (defs₀ (F := F)) Variants.none c none) Set.univ
            (body i arg3 harg3 arg4 harg4 arg5 harg5 arg6 harg6 arg7 harg7) K } := by
  refine ⟨?_, ?_, fun W K => ?run⟩
  case run =>
    unfold body cc0_mlp
    unfold owns
    iintro ⟨⟨%f0, %hf0, H0⟩, ⟨%f1, %hf1, H1⟩, ⟨%f2, %hf2, H2⟩, ⟨%da, %fa, -, HA⟩, ⟨%ds, %fs, -, HS⟩, ⟨%fl, HF⟩, HW, Hk⟩
    obtain rfl := harg3.eq_unread hf0; obtain rfl := harg4.eq_unread hf1; obtain rfl := harg5.eq_unread hf2
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    isplitl [HS]; · iexists _; iexact HS
    isplitl [HF]; · iexact HF
    isplitl [HF_dst]; · iexact HF_dst
    isplitl [HF_src]; · iexact HF_src
    iexists _; iexact HW

/-- What the first block of a tile stores in the normalised rows, -/
def firstRows (h1 : k0_cond1 i = 1#1) (x0 : Vec F S1x2048 .f32) : List (View.Piece (Elt F) S512x2048 .bf16) :=
  runB.sl.HA_2 c H i arg3 harg3 h1 x0
/-- and in the running sum. -/
def firstSum (h1 : k0_cond1 i = 1#1) (x0 : Vec F S1x2048 .f32) (x1 : Vec F S2048x1024 .bf16) (x2 : Vec F S1024x2048 .bf16) :
    List (View.Piece (Elt F) S512x2048 .f32) :=
  [⟨Rect.unit ![256, 0] S256x2048.size (by decide), runB.sl.v124 c H i arg3 harg3 arg4 harg4 arg5 harg5 h1 x0 x1 x2⟩,
    ⟨Rect.unit ![0, 0] S256x2048.size (by decide), runB.sl.v89 c H i arg3 harg3 arg4 harg4 arg5 harg5 h1 x0 x1 x2⟩]

theorem runB_rows (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    (runB c H i arg3 harg3 arg4 harg4 arg5 harg5 arg6 harg6 arg7 harg7 h1 h2 h3 h4 h5 x0 x1 x2).1 = firstRows c H i arg3 harg3 h1 x0 := rfl
theorem runB_sum (h1 : k0_cond1 i = 1#1) (h2 : ¬k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    (runB c H i arg3 harg3 arg4 harg4 arg5 harg5 arg6 harg6 arg7 harg7 h1 h2 h3 h4 h5 x0 x1 x2).2.1
      = firstSum c H i arg3 harg3 arg4 harg4 arg5 harg5 h1 x0 x1 x2 := rfl

/-- The first point of the grid: the first tile's copy is started and waited for at once. -/
theorem runA (h1 : k0_cond1 i = 1#1) (h2 : k0_cond2 i = 1#1) (h3 : ¬k0_cond3 i = 1#1) (h4 : ¬condM i) (h5 : ¬k0_cond5 i = 1#1)
    (x0 : Vec F S1x2048 .f32) (x1 : Vec F S2048x1024 .bf16) (x2 : Vec F S1024x2048 .bf16) :
    ∀ (W : Waits sig Unit) (K : PUnit → sProp 𝕄),
      iprop(owns (c : Thread nD τ) arg3 fullShare x0 ∗ owns (c : Thread nD τ) arg4 fullShare x1 ∗ owns (c : Thread nD τ) arg5 fullShare x2
          ∗ (∃ d, owns (c : Thread nD τ) aM fullShare d) ∗ (∃ d, owns (c : Thread nD τ) sM fullShare d)
          ∗ cellP c (Ring.sl 2 (i 0).val) ∗ (∃ f, slotP c (Ring.sl 2 (i 0).val) f) ∗ homeP c H (Ring.bk 1 (i 0).val)
          ∗ owes (c : Thread nD τ) 0 W
          ∗ (iprop(owns (c : Thread nD τ) arg3 fullShare x0 ∗ owns (c : Thread nD τ) arg4 fullShare x1 ∗ owns (c : Thread nD τ) arg5 fullShare x2
              ∗ (∃ f, aM.view.loc (c : Thread nD τ) ↦[aM.view.set]{fullShare} aM.view.writes (Elt F) f (firstRows c H i arg3 harg3 h1 x0))
              ∗ (∃ f, sM.view.loc (c : Thread nD τ) ↦[sM.view.set]{fullShare} sM.view.writes (Elt F) f (firstSum c H i arg3 harg3 arg4 harg4 arg5 harg5 h1 x0 x1 x2))
              ∗ cellP c (Ring.sl 2 (i 0).val)
              ∗ slotP c (Ring.sl 2 (i 0).val) (landed c H (Ring.sl 2 (i 0).val) (Ring.bk 1 (i 0).val) (rslot (Ring.sl 2 (i 0).val)).view.junk)
              ∗ homeP c H (Ring.bk 1 (i 0).val) ∗ (∃ W', owes (c : Thread nD τ) 0 W')) -∗ K ⟨⟩))
        ⊢ wp frame (wpE (defs₀ (F := F)) Variants.none c none) Set.univ
            (body i arg3 harg3 arg4 harg4 arg5 harg5 arg6 harg6 arg7 harg7) K := by
  refine fun W K => ?run
  case run =>
    unfold body cc0_mlp
    unfold owns
    iintro ⟨⟨%f0, %hf0, H0⟩, ⟨%f1, %hf1, H1⟩, ⟨%f2, %hf2, H2⟩, ⟨%da, %fa, -, HA⟩, ⟨%ds, %fs, -, HS⟩, HF, ⟨%fl, HT⟩, HB, HW, Hk⟩
    obtain rfl := harg3.eq_unread hf0; obtain rfl := harg4.eq_unread hf1; obtain rfl := harg5.eq_unread hf2
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    isplitl [HS]; · iexists _; iexact HS
    isplitl [HF]; · iexact HF
    isplitl [HT]; · iexact HT
    isplitl [HB]; · iexact HB
    iexists _; iexact HW

/-- The last block of a tile: the running sum is completed and the result of the tile stored. -/
def runE (h1 : ¬k0_cond1 i = 1#1) (h3 : ¬k0_cond3 i = 1#1) (h4 : ¬condM i) (h5 : k0_cond5 i = 1#1)
    (x1 : Vec F S2048x1024 .bf16) (x2 : Vec F S1024x2048 .bf16) (x3 : Vec F S1x2048 .f32) (xa : Vec F S512x2048 .bf16) (xs : Vec F S512x2048 .f32) :
    { L : List (View.Piece (Elt F) S512x2048 .f32) // ∀ (K : PUnit → sProp 𝕄),
      iprop(owns (c : Thread nD τ) arg4 fullShare x1 ∗ owns (c : Thread nD τ) arg5 fullShare x2 ∗ owns (c : Thread nD τ) arg6 fullShare x3
          ∗ (∃ d, owns (c : Thread nD τ) arg7 fullShare d)
          ∗ owns (c : Thread nD τ) aM fullShare xa ∗ owns (c : Thread nD τ) sM fullShare xs
          ∗ slotP c (Ring.sl 2 (i 0).val) (landed c H (Ring.sl 2 (i 0).val) (Ring.bk 1 (i 0).val) (rslot (Ring.sl 2 (i 0).val)).view.junk)
          ∗ (iprop(owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)
              ∗ owns (c : Thread nD τ) aM fullShare xa ∗ owns (c : Thread nD τ) sM fullShare xs
              ∗ slotP c (Ring.sl 2 (i 0).val) (landed c H (Ring.sl 2 (i 0).val) (Ring.bk 1 (i 0).val) (rslot (Ring.sl 2 (i 0).val)).view.junk)) -∗ K ⟨⟩))
        ⊢ wp frame (wpE (defs₀ (F := F)) Variants.none c none) Set.univ
            (body i arg3 harg3 arg4 harg4 arg5 harg5 arg6 harg6 arg7 harg7) K } := by
  refine ⟨?_, fun K => ?run⟩
  case run =>
    unfold body cc0_mlp
    unfold owns
    iintro ⟨⟨%f1, %hf1, H1⟩, ⟨%f2, %hf2, H2⟩, ⟨%f3, %hf3, H3⟩, ⟨%d7, %f7, -, H7⟩, ⟨%fa, %hfa, HA⟩, ⟨%fs, %hfs, HS⟩, HT, Hk⟩
    obtain rfl := harg4.eq_unread hf1; obtain rfl := harg5.eq_unread hf2; obtain rfl := harg6.eq_unread hf3
    obtain rfl := (Memref.isWhole_whole cc0_scratch0).eq_unread hfa
    obtain rfl := (Memref.isWhole_whole cc0_scratch1).eq_unread hfs
    sl_exec (disch := first | sl_exact h1 | sl_exact h3 | sl_exact h4 | sl_exact h5)
    sl_step
    iapply Hk
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [HA]
    · iexists _; isplitr; · ipureintro; exact (Memref.isWhole_whole cc0_scratch0).read_unread _
      iexact HA
    isplitl [HS]
    · iexists _; isplitr; · ipureintro; exact (Memref.isWhole_whole cc0_scratch1).read_unread _
      iexact HS
    iexact HT

/-- What the last block of a tile stores in the result. -/
def lastOut (h5 : k0_cond5 i = 1#1) (x1 : Vec F S2048x1024 .bf16) (x2 : Vec F S1024x2048 .bf16) (x3 : Vec F S1x2048 .f32)
    (xa : Vec F S512x2048 .bf16) (xs : Vec F S512x2048 .f32) : List (View.Piece (Elt F) S512x2048 .f32) :=
  [⟨Rect.unit ![256, 0] S256x2048.size (by decide), runE.sl.v88 c H i arg4 harg4 arg5 harg5 arg6 harg6 h5 x1 x2 x3 xa xs⟩,
    ⟨Rect.unit ![0, 0] S256x2048.size (by decide), runE.sl.v56 c H i arg4 harg4 arg5 harg5 arg6 harg6 h5 x1 x2 x3 xa xs⟩]
theorem runE_out (h1 : ¬k0_cond1 i = 1#1) (h3 : ¬k0_cond3 i = 1#1) (h4 : ¬condM i) (h5 : k0_cond5 i = 1#1)
    (x1 : Vec F S2048x1024 .bf16) (x2 : Vec F S1024x2048 .bf16) (x3 : Vec F S1x2048 .f32) (xa : Vec F S512x2048 .bf16) (xs : Vec F S512x2048 .f32) :
    (runE c H i arg3 harg3 arg4 harg4 arg5 harg5 arg6 harg6 arg7 harg7 h1 h3 h4 h5 x1 x2 x3 xa xs).1
      = lastOut c H i arg4 harg4 arg5 harg5 arg6 harg6 h5 x1 x2 x3 xa xs := rfl

end Cert.Kernel5Ideal.Mlp

end
-- ==== Proof.SampleMlpRing.lean ====
/-
  The two-slot buffer of the sample's MLP kernel between grid points: which slot holds the tile, and the rows at home.
  Stated by tile and block, in the forms the prompt's proof gives it, of which this grid of one tile uses those without
  a copy on its way; and the launch's hand-over of the rows and the buffer.
-/
module

public import proofs.«01_k».proof.Proof.SampleMlpRun

@[expose] public section

set_option maxRecDepth 16384

noncomputable section

namespace Cert.Kernel5Ideal.Mlp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (H : Buf (Elt F) (hM.view.loc (c : Thread nD τ)))

abbrev homes : sProp 𝕄 := bigSep Finset.univ (homeP c H)
/-- Every tile home but `b`. -/
abbrev homesBut (b : Fin 1) : sProp 𝕄 := bigSep (Finset.univ.erase b) (homeP c H)
abbrev freeP (s : Fin 2) : sProp 𝕄 := iprop(cellP (F := F) c s ∗ ∃ f, slotP (F := F) c s f)
/-- Slot `s` with tile `b` in it. -/
abbrev heldP (s : Fin 2) (b : Fin 1) : sProp 𝕄 := iprop(cellP c s ∗ slotP c s (landed c H s b (rslot s).view.junk))
abbrev flyP (s : Fin 2) (b : Fin 1) : sProp 𝕄 := iprop(∃ f, flightP c H 131072 s b f)

theorem homes_take (b : Fin 1) : homes c H = iprop(homeP c H b ∗ homesBut c H b) := by
  unfold homes homesBut
  conv_lhs => rw [← Finset.insert_erase (Finset.mem_univ b)]
  exact bigSep_insert (Finset.notMem_erase _ _)

/-- The buffer before block `j` of tile `i`. -/
def ring (i j : ℕ) : sProp 𝕄 :=
  if j = 0 then
    if i = 0 ∨ i = 1 then iprop(freeP c (Ring.sl 2 i) ∗ freeP c (Ring.sl 2 (i + 1)) ∗ homes c H)
    else iprop(flyP c H (Ring.sl 2 i) (Ring.bk 1 i) ∗ freeP c (Ring.sl 2 (i + 1)) ∗ homesBut c H (Ring.bk 1 i))
  else if j = 1 ∨ i = 0 then iprop(heldP c H (Ring.sl 2 i) (Ring.bk 1 i) ∗ freeP c (Ring.sl 2 (i + 1)) ∗ homes c H)
  else iprop(heldP c H (Ring.sl 2 i) (Ring.bk 1 i) ∗ flyP c H (Ring.sl 2 (i + 1)) (Ring.bk 1 (i + 1)) ∗ homesBut c H (Ring.bk 1 (i + 1)))

theorem ring_idle {i j : ℕ} (hj : j = 0) (hi : i = 0 ∨ i = 1) :
    ring c H i j = iprop(freeP c (Ring.sl 2 i) ∗ freeP c (Ring.sl 2 (i + 1)) ∗ homes c H) := by
  unfold ring; rw [if_pos hj, if_pos hi]
theorem ring_fly {i j : ℕ} (hj : j = 0) (hi : ¬(i = 0 ∨ i = 1)) :
    ring c H i j = iprop(flyP c H (Ring.sl 2 i) (Ring.bk 1 i) ∗ freeP c (Ring.sl 2 (i + 1)) ∗ homesBut c H (Ring.bk 1 i)) := by
  unfold ring; rw [if_pos hj, if_neg hi]
theorem ring_held {i j : ℕ} (hj : ¬j = 0) (h : j = 1 ∨ i = 0) :
    ring c H i j = iprop(heldP c H (Ring.sl 2 i) (Ring.bk 1 i) ∗ freeP c (Ring.sl 2 (i + 1)) ∗ homes c H) := by
  unfold ring; rw [if_neg hj, if_pos h]
theorem ring_both {i j : ℕ} (hj : ¬j = 0) (h : ¬(j = 1 ∨ i = 0)) :
    ring c H i j = iprop(heldP c H (Ring.sl 2 i) (Ring.bk 1 i) ∗ flyP c H (Ring.sl 2 (i + 1)) (Ring.bk 1 (i + 1)) ∗ homesBut c H (Ring.bk 1 (i + 1))) := by
  unfold ring; rw [if_neg hj, if_neg h]

/-- A middle block that starts no copy leaves the buffer as it is. -/
theorem ring_stay {i j : ℕ} (hj : ¬j = 0) (h : ¬(j = 1 ∧ i < 0)) (hi : i < 1) : ring c H i j = ring c H i (j + 1) := by
  by_cases hz : i = 0
  · rw [ring_held c H hj (Or.inr hz), ring_held c H (Nat.succ_ne_zero j) (Or.inr hz)]
  · rw [ring_both c H hj (by omega), ring_both c H (Nat.succ_ne_zero j) (by omega)]

/-- Between points the buffer's slots hold the tile in use whatever the other slot does: the tile's slot apart from the
    rest. -/
theorem ring_use {i j : ℕ} (hj : ¬j = 0) :
    ∃ R : sProp 𝕄, ring c H i j = iprop(heldP c H (Ring.sl 2 i) (Ring.bk 1 i) ∗ R) := by
  by_cases h : j = 1 ∨ i = 0
  · exact ⟨_, ring_held c H hj h⟩
  · exact ⟨_, ring_both c H hj h⟩

theorem free_of_held (s : Fin 2) (b : Fin 1) : heldP c H s b ⊢ freeP c s := by
  iintro ⟨HC, HS⟩
  isplitl [HC]; · iexact HC
  iexists _; iexact HS

/-- After the last block of tile `i` its slot is free again. -/
theorem ring_release {i j : ℕ} (hj : 1 < j) (hi : i < 1) : ring c H i j ⊢ ring c H (i + 1) 0 := by
  by_cases h : i = 0
  · subst h
    rw [ring_held c H (by omega) (Or.inr rfl), ring_idle c H rfl (Or.inr rfl)]
    iintro ⟨HH, HF, HB⟩
    isplitl [HF]; · iexact HF
    isplitl [HH]; · iapply (free_of_held c H (Ring.sl 2 0) (Ring.bk 1 0)); iexact HH
    iexact HB
  · rw [ring_both c H (by omega) (by omega), ring_fly c H rfl (by omega), show i + 1 + 1 = i + 2 from rfl, Ring.sl_add]
    iintro ⟨HH, HF, HB⟩
    isplitl [HF]; · iexact HF
    isplitl [HH]; · iapply (free_of_held c H (Ring.sl 2 i) (Ring.bk 1 i)); iexact HH
    iexact HB

/-! ## The rows and the buffer, whole and piece by piece -/

abbrev tileSet (b : Fin 1) : Finset S512x2048.Idx := (Rect.unit (s := S512x2048) (tileOff b) S512x2048.size (tileOff_inb b)).set
abbrev slotSet (s : Fin 2) : Finset S2x512x2048.Idx := (Rect.unit (s := S2x512x2048) (slotOff s) S1x512x2048.size (slotOff_inb s)).set

theorem tile_set (b : Fin 1) : (tile b).view.set = tileSet b := View.set_slice_whole _ _
theorem rslot_set (s : Fin 2) : (rslot s).view.set = slotSet s := (View.set_reshape _ _).trans (View.set_slice_whole _ _)

theorem homes_eq : (((c : Thread nD τ).loc main_v4) ↦{fullShare} H : sProp 𝕄) = homes c H := by
  refine (Ring.pointsTo_blocks (ℓ := (c : Thread nD τ).loc main_v4) tileSet
    (Ring.lead_disjoint (s := S512x2048) (0 : Fin 2) 512 tileOff S512x2048.size tileOff_inb (fun _ => rfl) rfl)
    (Ring.lead_cover (s := S512x2048) (0 : Fin 2) 512 tileOff S512x2048.size tileOff_inb (fun _ => rfl)
      (fun b a ha => by fin_cases a; · exact absurd rfl ha
                        · rfl) rfl (fun a ha => by fin_cases a; · exact absurd rfl ha
                                                   · rfl) rfl) H).trans ?_
  exact bigSep_congr fun b _ => by rw [← tile_set]; rfl

theorem slotSet_disjoint : ∀ s s' : Fin 2, s ≠ s' → Disjoint (slotSet s) (slotSet s') :=
  Ring.lead_disjoint (s := S2x512x2048) (0 : Fin 3) 1 slotOff S1x512x2048.size slotOff_inb (fun s => (Nat.one_mul _).symm) rfl
theorem slotSet_cover : (Finset.univ : Finset (Fin 2)).biUnion slotSet = Finset.univ :=
  Ring.lead_cover (s := S2x512x2048) (0 : Fin 3) 1 slotOff S1x512x2048.size slotOff_inb (fun s => (Nat.one_mul _).symm)
    (fun b a ha => by fin_cases a; · exact absurd rfl ha
                      · rfl
                      · rfl) rfl (fun a ha => by fin_cases a; · exact absurd rfl ha
                                                 · rfl
                                                 · rfl) rfl

theorem slotP_eq (s : Fin 2) (f) : slotP c s f = (((c : Thread nD τ).loc cc0_scratch2) ↦[slotSet s]{fullShare} f : sProp 𝕄) :=
  congrArg (fun S => (_ ↦[S]{fullShare} f : sProp 𝕄)) (rslot_set s)

theorem buf_split :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) :=
  Ring.slots2_split (ℓ := (c : Thread nD τ).loc cc0_scratch2) slotSet slotSet_disjoint slotSet_cover _ _ (slotP_eq c 0) (slotP_eq c 1)
theorem buf_join :
    (iprop((∃ f, slotP c 0 f) ∗ ∃ f, slotP c 1 f) : sProp 𝕄)
      ⊢ iprop(∃ f : Buf (Elt F) ((c : Thread nD τ).loc cc0_scratch2), ((c : Thread nD τ).loc cc0_scratch2) ↦{fullShare} f) :=
  Ring.slots2_join (ℓ := (c : Thread nD τ).loc cc0_scratch2) slotSet slotSet_disjoint slotSet_cover _ _ (slotP_eq c 0) (slotP_eq c 1)

/-- The body's two copy semaphores. -/
abbrev osem0 : Fin 2 → SemLoc sig := fun j => (![SemLoc.dma 7, SemLoc.dma 8] : Fin 2 → SemLoc sig) j
theorem ownSemFacts0 : Pipeline.OwnSemFacts spec0 osem0 := by decide
theorem ownSems_eq :
    (Pipeline.ownSems0 (Ix := Unit) (Name := ℕ) (U := Pipeline.UD sig nD τ) (Lvl := ℕ) (Val := Elt F) (τ := τ) osem0 c : sProp 𝕄)
      = iprop(cellP c 0 ∗ cellP c 1) := by
  rw [Pipeline.ownSems0_eq_of_list c osem0 [0, 1] (by decide) (by decide)]; rfl
/-- The rows, which the body reads from HBM by its copies. -/
def H0 : Finset (Ref sig .tc) := {main_v4}
theorem H0_sub : H0 ⊆ Pipeline.restRefs sig spec0 := by decide

variable (m : (ℓ : Loc nD τ sig) → Buf (Elt F) ℓ)

/-- What the launch hands over: the three scratch buffers, the generator register, the two semaphores at zero and the
    rows, the buffer slot by slot and the rows tile by tile. -/
theorem PhiD_eq :
    (Pipeline.ΦD osem0 spec0 H0 (V m) c : sProp 𝕄)
      = iprop(((∃ d, owns (c : Thread nD τ) aM fullShare d) ∗ (∃ d, owns (c : Thread nD τ) sM fullShare d)
          ∗ (∃ f : Buf (Elt F) ((c : Thread nD τ).loc cc0_scratch2), ((c : Thread nD τ).loc cc0_scratch2) ↦{fullShare} f))
        ∗ (∃ r, prngReg c r) ∗ (cellP c 0 ∗ cellP c 1) ∗ homes c (V m c main_v4)) := by
  rw [Pipeline.ΦD_eq, scopedRest0_eq, ownSems_eq, ← homes_eq]
  unfold H0
  rw [BI.bigSep_eq_bigSepL_of_eq [main_v4] (by decide) (by decide)]
  simp only [aM, sM, owns_whole]; rfl

end Cert.Kernel5Ideal.Mlp

end
-- ==== Proof.SampleMlpFrame.lean ====
/-
  The multilayer perceptron's launch: what each grid point leaves in the normalised rows, the running sum and the
  result, the invariant between points, the body's triple at every point, the run and the frame. Over any `F`.
-/
module

public import proofs.«01_k».proof.Proof.SampleMlpRing

@[expose] public section

set_option maxRecDepth 16384

noncomputable section

namespace Cert.Kernel5Ideal.Mlp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid point's coordinates and the body's conditions -/

theorem co0 (t : Fin cfg0.N) : (grid0.coords t 0).val = t.val / 8 := by
  have ht : t.val < 8 := Nat.lt_of_lt_of_eq t.isLt N_0
  have e : (grid0.coords t 0).val = t.val / 8 % 1 := Pipeline.Grid.coords_val t 0 (by decide) rfl
  omega
theorem co1 (t : Fin cfg0.N) : (grid0.coords t 1).val = t.val % 8 := by
  have e : (grid0.coords t 1).val = t.val / 1 % 8 := Pipeline.Grid.coords_val t 1 (by decide) rfl
  omega

/-- The conditions at any tile and block, one block and one tile at a time. -/
theorem c1 (i : grid0.Coords) : k0_cond1 i = 1#1 ↔ (i 1).val = 0 :=
  (by decide +kernel : ∀ b : Fin 8, k0_cond1 (mk 0 b) = 1#1 ↔ b.val = 0) (i 1)
theorem c2 (i : grid0.Coords) : k0_cond2 i = 1#1 ↔ (i 0).val = 0 :=
  (by decide +kernel : ∀ a : Fin 1, k0_cond2 (mk a 0) = 1#1 ↔ a.val = 0) (i 0)
theorem c3 (i : grid0.Coords) : k0_cond3 i = 1#1 ↔ (i 1).val = 1 ∧ (i 0).val < 0 :=
  (by decide +kernel : ∀ (a : Fin 1) (b : Fin 8), k0_cond3 (mk a b) = 1#1 ↔ b.val = 1 ∧ a.val < 0) (i 0) (i 1)
theorem cM (i : grid0.Coords) : condM i ↔ 0 < (i 1).val ∧ (i 1).val < 7 :=
  (by decide +kernel : ∀ b : Fin 8, condM (mk 0 b) ↔ 0 < b.val ∧ b.val < 7) (i 1)
theorem c5 (i : grid0.Coords) : k0_cond5 i = 1#1 ↔ (i 1).val = 7 :=
  (by decide +kernel : ∀ b : Fin 8, k0_cond5 (mk 0 b) = 1#1 ↔ b.val = 7) (i 1)

theorem idle4 (t : Fin cfg0.N) (h : ¬t.val % 8 = 7) : cfg0.idle 4 (grid0.coords t) = true :=
  (by decide +kernel : ∀ t : Fin grid0.N, ¬t.val % 8 = 7 → cfg0.idle 4 (grid0.coords t) = true) t h
theorem live4 (t : Fin cfg0.N) (h : t.val % 8 = 7) : cfg0.idle 4 (grid0.coords t) = false :=
  (by decide +kernel : ∀ t : Fin grid0.N, t.val % 8 = 7 → cfg0.idle 4 (grid0.coords t) = false) t h
theorem keep4 (t : Fin cfg0.N) (h : ¬t.val % 8 = 7) : (cfg0.win 4).flush t = false :=
  Bool.eq_false_iff.mpr fun e => h ((flush0_4 t).mp e)

/-! ## What the points leave -/

abbrev ms0 (t : Fin cfg0.N) : Memref sig .tc .vmem S1x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
/-- One staging buffer of the result, through which its contents are stated. -/
abbrev VO : View sig .tc .vmem S512x2048 .f32 := (Memref.whole cc0_stg4_0 : Memref sig .tc .vmem S512x2048 .f32).view

theorem h1_of (t : Fin cfg0.N) (h : t.val % 8 = 0) : k0_cond1 (grid0.coords t) = 1#1 := (c1 _).mpr (by rw [co1]; exact h)
theorem h5_of (t : Fin cfg0.N) (h : t.val % 8 = 7) : k0_cond5 (grid0.coords t) = 1#1 := (c5 _).mpr (by rw [co1]; exact h)

/-- The first block of a tile: its normalised rows and the sum's first term. -/
def rowsFirst (c : Dev nD) (t : Fin cfg0.N) (h : t.val % 8 = 0) : Vec F S512x2048 .bf16 :=
  aM.view.read (Elt F) (aM.view.writes (Elt F) aM.view.junk
    (firstRows c (V m c main_v4) (grid0.coords t) (ms0 t) (hs0 t) (h1_of t h) (iblk m c 0 t)))
def sumFirst (c : Dev nD) (t : Fin cfg0.N) (h : t.val % 8 = 0) : Vec F S512x2048 .f32 :=
  sM.view.read (Elt F) (sM.view.writes (Elt F) sM.view.junk
    (firstSum c (V m c main_v4) (grid0.coords t) (ms0 t) (hs0 t) (ms1 t) (hs1 t) (ms2 t) (hs2 t) (h1_of t h) (iblk m c 0 t) (iblk m c 1 t) (iblk m c 2 t)))
/-- A middle block: the sum with its term added. -/
def sumMid (c : Dev nD) (t : Fin cfg0.N) (xa : Vec F S512x2048 .bf16) (xs : Vec F S512x2048 .f32) : Vec F S512x2048 .f32 :=
  sM.view.read (Elt F) (sM.view.writes (Elt F) sM.view.junk (midSum c (ms1 t) (hs1 t) (ms2 t) (hs2 t) (iblk m c 1 t) (iblk m c 2 t) xa xs))
/-- The last block: the tile's result. -/
def outLast (c : Dev nD) (t : Fin cfg0.N) (h : t.val % 8 = 7) (xa : Vec F S512x2048 .bf16) (xs : Vec F S512x2048 .f32) : Vec F S512x2048 .f32 :=
  VO.read (Elt F) (VO.writes (Elt F) VO.junk
    (lastOut c (V m c main_v4) (grid0.coords t) (ms1 t) (hs1 t) (ms2 t) (hs2 t) (ms3 t) (hs3 t) (h5_of t h) (iblk m c 1 t) (iblk m c 2 t) (iblk m c 3 t) xa xs))

/-- The normalised rows and the running sum after point `n`. -/
def kept (c : Dev nD) : (n : ℕ) → n < cfg0.N → Vec F S512x2048 .bf16 × Vec F S512x2048 .f32
  | 0, hn => (rowsFirst m c ⟨0, hn⟩ rfl, sumFirst m c ⟨0, hn⟩ rfl)
  | n + 1, hn =>
    if h0 : (n + 1) % 8 = 0 then (rowsFirst m c ⟨n + 1, hn⟩ h0, sumFirst m c ⟨n + 1, hn⟩ h0)
    else if (n + 1) % 8 = 7 then kept c n (Nat.lt_of_succ_lt hn)
    else ((kept c n (Nat.lt_of_succ_lt hn)).1,
      sumMid m c ⟨n + 1, hn⟩ (kept c n (Nat.lt_of_succ_lt hn)).1 (kept c n (Nat.lt_of_succ_lt hn)).2)

theorem kept_first (c : Dev nD) (t : Fin cfg0.N) (h : t.val % 8 = 0) : kept m c t.val t.isLt = (rowsFirst m c t h, sumFirst m c t h) := by
  obtain ⟨n, hn⟩ := t
  cases n with
  | zero => rfl
  | succ n => exact dif_pos h
theorem kept_mid (c : Dev nD) (t : Fin cfg0.N) (h0 : ¬t.val % 8 = 0) (h7 : ¬t.val % 8 = 7) :
    kept m c t.val t.isLt = ((kept m c (t.val - 1) (by omega)).1,
      sumMid m c t (kept m c (t.val - 1) (by omega)).1 (kept m c (t.val - 1) (by omega)).2) := by
  obtain ⟨n, hn⟩ := t
  cases n with
  | zero => exact absurd (Nat.zero_mod _) h0
  | succ n => exact (dif_neg h0).trans (if_neg h7)
theorem kept_last (c : Dev nD) (t : Fin cfg0.N) (h7 : t.val % 8 = 7) :
    kept m c t.val t.isLt = kept m c (t.val - 1) (by omega) := by
  obtain ⟨n, hn⟩ := t
  cases n with
  | zero => exact absurd (show 0 % 8 = 7 from h7) (by decide)
  | succ n => exact (dif_neg (by dsimp only at h7; omega)).trans (if_pos h7)

/-- The result's staging buffer after point `t`; only a tile's last block stores it. -/
def outAt (c : Dev nD) (t : Fin cfg0.N) : Vec F S512x2048 .f32 :=
  if h : t.val % 8 = 7 then outLast m c t h (kept m c (t.val - 1) (by omega)).1 (kept m c (t.val - 1) (by omega)).2 else VO.read (Elt F) VO.junk

/-! ## The invariant and the proof data -/

/-- The normalised rows and the running sum before point `n`. -/
def scratch (c : Dev nD) : (n : ℕ) → n ≤ cfg0.N → sProp 𝕄
  | 0, _ => iprop((∃ d, owns (c : Thread nD τ) aM fullShare d) ∗ (∃ d, owns (c : Thread nD τ) sM fullShare d))
  | n + 1, hn => iprop(owns (c : Thread nD τ) aM fullShare (kept m c n hn).1 ∗ owns (c : Thread nD τ) sM fullShare (kept m c n hn).2)

theorem scratch_pos (c : Dev nD) (n : ℕ) (h : n ≤ cfg0.N) (hz : n ≠ 0) :
    scratch m c n h = iprop(owns (c : Thread nD τ) aM fullShare (kept m c (n - 1) (by omega)).1
      ∗ owns (c : Thread nD τ) sM fullShare (kept m c (n - 1) (by omega)).2) := by
  cases n with
  | zero => exact absurd rfl hz
  | succ n => rfl
theorem scratch_any (c : Dev nD) (n : ℕ) (h : n ≤ cfg0.N) :
    scratch m c n h ⊢ iprop((∃ d, owns (c : Thread nD τ) aM fullShare d) ∗ (∃ d, owns (c : Thread nD τ) sM fullShare d)) := by
  cases n with
  | zero => exact .rfl
  | succ n =>
    unfold scratch
    iintro ⟨HA, HS⟩
    isplitl [HA]; · iexists _; iexact HA
    iexists _; iexact HS

def inv (c : Dev nD) (n : ℕ) (h : n ≤ cfg0.N) : sProp 𝕄 :=
  iprop(scratch m c n h ∗ ring c (V m c main_v4) (n / 8) (n % 8) ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

section Windows
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = outAt m c t := by dsimp only [dats]

/-- An input's buffer holds its block before every point, fetched there or not. -/
theorem before0 (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
end Windows

/-! ## The body at a point, case by case -/

section Cases
variable (c : Dev nD) (t : Fin cfg0.N)

/-- The inputs' buffers at their blocks. -/
abbrev ins : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t))

/-- The body's triple at point `t`, the result's buffer at `P` before and `Q` after. -/
abbrev BodyAt (P Q : sProp 𝕄) : Prop :=
  iprop(inv m c t.val (Nat.le_of_lt t.isLt) ∗ (dats m 0 c).owesAt () t.castSucc ∗ ins m c t ∗ P)
    ⊢ wp frame (wpE (defs₀ (F := F)) Variants.none c none) Set.univ (bodyAt0 t)
        (fun _ => iprop(inv m c (t.val + 1) t.isLt ∗ (dats m 0 c).owesAt () t.castSucc ∗ ins m c t ∗ Q))

theorem rows_cover (h1 : k0_cond1 (grid0.coords t) = 1#1) (y : S512x2048.Idx) :
    ∃ pc ∈ firstRows c (V m c main_v4) (grid0.coords t) (ms0 t) (hs0 t) h1 (iblk m c 0 t), y ∈ pc.1.set :=
  View.cover_of_tiledL (firstRows c (V m c main_v4) (grid0.coords t) (ms0 t) (hs0 t) h1 (iblk m c 0 t)) S256x2048.size (by sl_kernel_rfl) y
theorem sum_cover (h1 : k0_cond1 (grid0.coords t) = 1#1) (y : S512x2048.Idx) :
    ∃ pc ∈ firstSum c (V m c main_v4) (grid0.coords t) (ms0 t) (hs0 t) (ms1 t) (hs1 t) (ms2 t) (hs2 t) h1 (iblk m c 0 t) (iblk m c 1 t) (iblk m c 2 t), y ∈ pc.1.set :=
  View.cover_of_tiledL (firstSum c (V m c main_v4) (grid0.coords t) (ms0 t) (hs0 t) (ms1 t) (hs1 t) (ms2 t) (hs2 t) h1 (iblk m c 0 t) (iblk m c 1 t) (iblk m c 2 t))
    S256x2048.size (by sl_kernel_rfl) y
theorem mid_cover (xa : Vec F S512x2048 .bf16) (xs : Vec F S512x2048 .f32) (y : S512x2048.Idx) :
    ∃ pc ∈ midSum c (ms1 t) (hs1 t) (ms2 t) (hs2 t) (iblk m c 1 t) (iblk m c 2 t) xa xs, y ∈ pc.1.set :=
  View.cover_of_tiledL (midSum c (ms1 t) (hs1 t) (ms2 t) (hs2 t) (iblk m c 1 t) (iblk m c 2 t) xa xs) S512x2048.size (by sl_kernel_rfl) y
theorem last_cover (h5 : k0_cond5 (grid0.coords t) = 1#1) (xa : Vec F S512x2048 .bf16) (xs : Vec F S512x2048 .f32) (y : S512x2048.Idx) :
    ∃ pc ∈ lastOut c (V m c main_v4) (grid0.coords t) (ms1 t) (hs1 t) (ms2 t) (hs2 t) (ms3 t) (hs3 t) h5 (iblk m c 1 t) (iblk m c 2 t) (iblk m c 3 t) xa xs, y ∈ pc.1.set :=
  View.cover_of_tiledL (lastOut c (V m c main_v4) (grid0.coords t) (ms1 t) (hs1 t) (ms2 t) (hs2 t) (ms3 t) (hs3 t) h5 (iblk m c 1 t) (iblk m c 2 t) (iblk m c 3 t) xa xs)
    S256x2048.size (by sl_kernel_rfl) y

theorem rows_read (h : t.val % 8 = 0) (f) :
    aM.view.read (Elt F) (aM.view.writes (Elt F) f (firstRows c (V m c main_v4) (grid0.coords t) (ms0 t) (hs0 t) (h1_of t h) (iblk m c 0 t)))
      = (kept m c t.val t.isLt).1 := by
  rw [kept_first m c t h]; dsimp only; unfold rowsFirst
  exact View.read_writes_of_cover _ _ _ _ _ (rows_cover m c t (h1_of t h))
theorem sum_read (h : t.val % 8 = 0) (f) :
    sM.view.read (Elt F) (sM.view.writes (Elt F) f (firstSum c (V m c main_v4) (grid0.coords t) (ms0 t) (hs0 t) (ms1 t) (hs1 t) (ms2 t) (hs2 t)
      (h1_of t h) (iblk m c 0 t) (iblk m c 1 t) (iblk m c 2 t))) = (kept m c t.val t.isLt).2 := by
  rw [kept_first m c t h]; dsimp only; unfold sumFirst
  exact View.read_writes_of_cover _ _ _ _ _ (sum_cover m c t (h1_of t h))

set_option maxHeartbeats 1600000 in
/-- The first point: the first tile's copy is started and waited for at once. -/
theorem body_start (hz : t.val = 0) (P : sProp 𝕄) : BodyAt m c t P P := by
  have h0 : t.val % 8 = 0 := by omega
  have ht : t.val < 8 := Nat.lt_of_lt_of_eq t.isLt N_0
  have e0 := co0 t
  have e1 := co1 t
  have h1 := h1_of t h0
  have h2 : k0_cond2 (grid0.coords t) = 1#1 := (c2 _).mpr (by omega)
  have h3 : ¬k0_cond3 (grid0.coords t) = 1#1 := fun h => by have := (c3 _).mp h; omega
  have h4 : ¬condM (grid0.coords t) := fun h => by have := (cM _).mp h; omega
  have h5 : ¬k0_cond5 (grid0.coords t) = 1#1 := fun h => by have := (c5 _).mp h; omega
  unfold BodyAt inv Dat.owesAt Pipeline.owesWithin
  rw [show (dats m 0 c).owed t.castSucc = 0 from rfl]
  rw [show scratch m c (t.val + 1) t.isLt = iprop(owns (c : Thread nD τ) aM fullShare (kept m c t.val t.isLt).1 ∗ owns (c : Thread nD τ) sM fullShare (kept m c t.val t.isLt).2) from rfl]
  rw [show (t.val + 1) / 8 = t.val / 8 by omega, show (t.val + 1) % 8 = 1 by omega, ← e0,
    ring_idle c _ h0 (Or.inl (by omega)), ring_held c _ one_ne_zero (Or.inl rfl), homes_take c _ (Ring.bk 1 (grid0.coords t 0).val)]
  iintro ⟨⟨HSc, ⟨⟨HC, HT⟩, HFree, HB, HBut⟩, Hg⟩, ⟨%W, -, HW⟩, ⟨H0, H1, H2, H3⟩, H4⟩
  ihave HSc' := (scratch_any m c _ _) $$ HSc
  icases HSc' with ⟨HA, HS⟩
  iapply (runA c (V m c main_v4) (grid0.coords t) (ms0 t) (hs0 t) (ms1 t) (hs1 t) (ms2 t) (hs2 t) (ms3 t) (hs3 t) (ms4 t) (hs4 t) h1 h2 h3 h4 h5
    (iblk m c 0 t) (iblk m c 1 t) (iblk m c 2 t) W _)
  isplitl [H0]; · iexact H0
  isplitl [H1]; · iexact H1
  isplitl [H2]; · iexact H2
  isplitl [HA]; · iexact HA
  isplitl [HS]; · iexact HS
  isplitl [HC]; · iexact HC
  isplitl [HT]; · iexact HT
  isplitl [HB]; · iexact HB
  isplitl [HW]; · iexact HW
  iintro ⟨H0, H1, H2, ⟨%fa, HA⟩, ⟨%fs, HS⟩, HC, HT, HB, ⟨%W', HW'⟩⟩
  isplitl [HA HS HC HT HFree HB HBut Hg]
  · isplitl [HA HS]
    · isplitl [HA]
      · unfold owns; iexists _; isplitr
        swap; · iexact HA
        ipureintro; exact rows_read m c t h0 fa
      unfold owns; iexists _; isplitr
      swap; · iexact HS
      ipureintro; exact sum_read m c t h0 fs
    isplitl [HC HT HFree HB HBut]
    · isplitl [HC HT]
      · isplitl [HC]; · iexact HC
        iexact HT
      isplitl [HFree]; · iexact HFree
      isplitl [HB]; · iexact HB
      iexact HBut
    iexact Hg
  isplitl [HW']
  · iexists W'; isplitr; · ipureintro; exact fun _ _ => Or.inl trivial
    iexact HW'
  isplitr [H4]
  · isplitl [H0]; · iexact H0
    isplitl [H1]; · iexact H1
    isplitl [H2]; · iexact H2
    iexact H3
  iexact H4

theorem mid_read (h0 : ¬t.val % 8 = 0) (h7 : ¬t.val % 8 = 7) (f) :
    sM.view.read (Elt F) (sM.view.writes (Elt F) f (midSum c (ms1 t) (hs1 t) (ms2 t) (hs2 t) (iblk m c 1 t) (iblk m c 2 t)
      (kept m c (t.val - 1) (by omega)).1 (kept m c (t.val - 1) (by omega)).2)) = (kept m c t.val t.isLt).2 := by
  rw [kept_mid m c t h0 h7]; dsimp only; unfold sumMid
  exact View.read_writes_of_cover _ _ _ _ _ (mid_cover m c t _ _)
theorem mid_rows (h0 : ¬t.val % 8 = 0) (h7 : ¬t.val % 8 = 7) : (kept m c t.val t.isLt).1 = (kept m c (t.val - 1) (by omega)).1 := by
  rw [kept_mid m c t h0 h7]

set_option maxHeartbeats 1600000 in
/-- A middle block that starts no copy: the running sum grows. -/
theorem body_add (h0 : ¬t.val % 8 = 0) (h7 : ¬t.val % 8 = 7) (hn : ¬(t.val % 8 = 1 ∧ t.val / 8 < 0)) (P : sProp 𝕄) : BodyAt m c t P P := by
  have ht : t.val < 8 := Nat.lt_of_lt_of_eq t.isLt N_0
  have e0 := co0 t
  have e1 := co1 t
  have h1 : ¬k0_cond1 (grid0.coords t) = 1#1 := fun h => by have := (c1 _).mp h; omega
  have h3 : ¬k0_cond3 (grid0.coords t) = 1#1 := fun h => by have := (c3 _).mp h; omega
  have h4 : condM (grid0.coords t) := (cM _).mpr (by omega)
  have h5 : ¬k0_cond5 (grid0.coords t) = 1#1 := fun h => by have := (c5 _).mp h; omega
  unfold BodyAt inv
  rw [show scratch m c (t.val + 1) t.isLt = iprop(owns (c : Thread nD τ) aM fullShare (kept m c t.val t.isLt).1 ∗ owns (c : Thread nD τ) sM fullShare (kept m c t.val t.isLt).2) from rfl]
  rw [scratch_pos m c t.val _ (by omega), mid_rows m c t h0 h7]
  rw [show (t.val + 1) / 8 = t.val / 8 by omega, show (t.val + 1) % 8 = t.val % 8 + 1 by omega,
    ← ring_stay c _ h0 hn (by omega)]
  iintro ⟨⟨⟨HA, HS⟩, HR, Hg⟩, HW, ⟨H0, H1, H2, H3⟩, H4⟩
  iapply ((runD c (grid0.coords t) (ms0 t) (hs0 t) (ms1 t) (hs1 t) (ms2 t) (hs2 t) (ms3 t) (hs3 t) (ms4 t) (hs4 t) h1 h3 h4 h5
    (iblk m c 1 t) (iblk m c 2 t) (kept m c (t.val - 1) (by omega)).1 (kept m c (t.val - 1) (by omega)).2).2 _)
  isplitl [H1]; · iexact H1
  isplitl [H2]; · iexact H2
  isplitl [HA]; · iexact HA
  isplitl [HS]; · iexact HS
  iintro ⟨H1, H2, HA, ⟨%fs, HS⟩⟩
  isplitl [HA HS Hg HR]
  · isplitl [HA HS]
    · isplitl [HA]; · iexact HA
      unfold owns; iexists _; isplitr
      swap; · iexact HS
      ipureintro; rw [runD_sum]; exact mid_read m c t h0 h7 fs
    isplitl [HR]; · iexact HR
    iexact Hg
  isplitl [HW]; · iexact HW
  isplitr [H4]
  · isplitl [H0]; · iexact H0
    isplitl [H1]; · iexact H1
    isplitl [H2]; · iexact H2
    iexact H3
  iexact H4

theorem last_read (h7 : t.val % 8 = 7) (f) :
    (ms4 t).view.read (Elt F) ((ms4 t).view.writes (Elt F) f (lastOut c (V m c main_v4) (grid0.coords t) (ms1 t) (hs1 t) (ms2 t) (hs2 t) (ms3 t) (hs3 t)
      (h5_of t h7) (iblk m c 1 t) (iblk m c 2 t) (iblk m c 3 t) (kept m c (t.val - 1) (by omega)).1 (kept m c (t.val - 1) (by omega)).2)) = outAt m c t := by
  unfold outAt; rw [dif_pos h7]; unfold outLast
  exact View.read_writes_of_cover _ _ _ _ _ (last_cover m c t (h5_of t h7) _ _)

set_option maxHeartbeats 1600000 in
/-- The last block of a tile: the sum is completed, the tile's result stored, its slot free. -/
theorem body_last (h7 : t.val % 8 = 7) :
    BodyAt m c t iprop(∃ d, owns (c : Thread nD τ) (ms4 t) fullShare d) (owns (c : Thread nD τ) (ms4 t) fullShare (outAt m c t)) := by
  have ht : t.val < 8 := Nat.lt_of_lt_of_eq t.isLt N_0
  have e0 := co0 t
  have e1 := co1 t
  have h1 : ¬k0_cond1 (grid0.coords t) = 1#1 := fun h => by have := (c1 _).mp h; omega
  have h3 : ¬k0_cond3 (grid0.coords t) = 1#1 := fun h => by have := (c3 _).mp h; omega
  have h4 : ¬condM (grid0.coords t) := fun h => by have := (cM _).mp h; omega
  have h5 := h5_of t h7
  unfold BodyAt inv
  rw [show scratch m c (t.val + 1) t.isLt = iprop(owns (c : Thread nD τ) aM fullShare (kept m c t.val t.isLt).1 ∗ owns (c : Thread nD τ) sM fullShare (kept m c t.val t.isLt).2) from rfl]
  rw [scratch_pos m c t.val _ (by omega), kept_last m c t h7]
  have hR := ring_release c (V m c main_v4) (i := t.val / 8) (j := t.val % 8) (by omega) (by omega)
  obtain ⟨R, hring⟩ := ring_use c (V m c main_v4) (i := t.val / 8) (j := t.val % 8) (by omega)
  rw [hring, ← e0] at hR
  rw [show (t.val + 1) / 8 = t.val / 8 + 1 by omega, show (t.val + 1) % 8 = 0 by omega, hring, ← e0]
  iintro ⟨⟨⟨HA, HS⟩, ⟨⟨HC, HT⟩, HR⟩, Hg⟩, HW, ⟨H0, H1, H2, H3⟩, H4⟩
  iapply ((runE c (V m c main_v4) (grid0.coords t) (ms0 t) (hs0 t) (ms1 t) (hs1 t) (ms2 t) (hs2 t) (ms3 t) (hs3 t) (ms4 t) (hs4 t) h1 h3 h4 h5
    (iblk m c 1 t) (iblk m c 2 t) (iblk m c 3 t) (kept m c (t.val - 1) (by omega)).1 (kept m c (t.val - 1) (by omega)).2).2 _)
  isplitl [H1]; · iexact H1
  isplitl [H2]; · iexact H2
  isplitl [H3]; · iexact H3
  isplitl [H4]; · iexact H4
  isplitl [HA]; · iexact HA
  isplitl [HS]; · iexact HS
  isplitl [HT]; · iexact HT
  iintro ⟨H1, H2, H3, ⟨%f4, H4⟩, HA, HS, HT⟩
  isplitl [HA HS Hg HC HT HR]
  · isplitl [HA HS]
    · isplitl [HA]; · iexact HA
      iexact HS
    isplitl [HC HT HR]
    · iapply hR
      isplitl [HC HT]
      · isplitl [HC]; · iexact HC
        iexact HT
      iexact HR
    iexact Hg
  isplitl [HW]; · iexact HW
  isplitr [H4]
  · isplitl [H0]; · iexact H0
    isplitl [H1]; · iexact H1
    isplitl [H2]; · iexact H2
    iexact H3
  unfold owns; iexists _; isplitr
  swap; · iexact H4
  ipureintro; rw [runE_out]; exact last_read m c t h7 f4

end Cases

/-! ## The body at every point, the run and the frame -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- What any point leaves of the result's buffer is its idle or its stored form. -/
theorem body_any (c : Dev nD) (t : Fin cfg0.N) :
    BodyAt m c t iprop(∃ d, owns (c : Thread nD τ) (ms4 t) fullShare ((dats m 0 c).before 4 t d)) ((dats m 0 c).leavesExact 4 t) := by
  have ht : t.val < 8 := Nat.lt_of_lt_of_eq t.isLt N_0
  by_cases h7 : t.val % 8 = 7
  · rw [show (dats m 0 c).leavesExact 4 t = owns (c : Thread nD τ) (ms4 t) fullShare (outAt m c t) from by
      unfold Dat.leavesExact; rw [live4 t h7, after4]]
    refine triple_restated (body_last m c t h7) rfl ?_ fun _ => .rfl
    iintro ⟨HI, HW, HN, ⟨%d, H4⟩⟩
    isplitl [HI]; · iexact HI
    isplitl [HW]; · iexact HW
    isplitl [HN]; · iexact HN
    iexists _; iexact H4
  · rw [Dat.leavesExact_idle (dats m 0 c) 4 t (idle4 t h7) (keep4 t h7)]
    by_cases h0 : t.val % 8 = 0
    · exact body_start m c t (by omega) _
    · exact body_add m c t h0 h7 (by omega) _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    show (dats m 0 c).Φ t.succ = inv m c (t.val + 1) t.isLt from rfl,
    show (dats m 0 c).Φ t.castSucc = inv m c t.val (Nat.le_of_lt t.isLt) from rfl]
  rw [show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2],
    show (dats m 0 c).leavesExact 3 t = owns (c : Thread nD τ) (ms3 t) fullShare (iblk m c 3 t) from by
      unfold Dat.leavesExact; rw [show cfg0.idle 3 (grid0.coords t) = false from rfl, after3]]
  refine triple_restated (body_any m c t) rfl ?_ fun _ => ?_
  · iintro ⟨HI, HW, ⟨%d0, H0⟩, ⟨%d1, H1⟩, ⟨%d2, H2⟩, ⟨%d3, H3⟩, H4⟩
    isplitl [HI]; · iexact HI
    isplitl [HW]; · iexact HW
    isplitr [H4]
    · isplitl [H0]; · iexact H0
      isplitl [H1]; · iexact H1
      isplitl [H2]; · iexact H2
      iexact H3
    iexact H4
  · iintro ⟨HI, HW, ⟨H0, H1, H2, H3⟩, H4⟩
    isplitl [HI]; · iexact HI
    isplitl [HW]; · iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦD osem0 spec0 H0 (V m) c ⊢ (dats m 0 c).Φ 0 := by
  rw [show (dats m 0 c).Φ 0 = inv m c 0 (Nat.zero_le _) from rfl, PhiD_eq]
  unfold inv
  rw [show 0 / 8 = 0 from rfl, show 0 % 8 = 0 from rfl, ring_idle c _ rfl (Or.inl rfl)]
  unfold scratch
  iintro ⟨⟨HA, HS, HB⟩, Hg, ⟨HC0, HC1⟩, HH⟩
  ihave HB' := (buf_split c) $$ HB
  icases HB' with ⟨HT0, HT1⟩
  isplitl [HA HS]
  · isplitl [HA]; · iexact HA
    iexact HS
  isplitr [Hg]
  · isplitl [HC0 HT0]
    · isplitl [HC0]; · iexact HC0
      iexact HT0
    isplitl [HC1 HT1]
    · isplitl [HC1]; · iexact HC1
      iexact HT1
    iexact HH
  iexact Hg

/-- and takes it back after the last. -/
theorem hout (c : Dev nD) : (dats m 0 c).Φ (Fin.last cfg0.N) ⊢ Pipeline.ΦD osem0 spec0 H0 (V m) c := by
  rw [show (dats m 0 c).Φ (Fin.last cfg0.N) = inv m c cfg0.N (Nat.le_refl _) from rfl, PhiD_eq]
  unfold inv
  rw [show cfg0.N / 8 = 1 by rw [show cfg0.N = 8 from N_0], show cfg0.N % 8 = 0 by rw [show cfg0.N = 8 from N_0],
    ring_idle c _ rfl (Or.inr rfl)]
  iintro ⟨HSc, ⟨⟨HC1, HT1⟩, ⟨HC0, HT0⟩, HH⟩, Hg⟩
  ihave HSc' := (scratch_any m c _ _) $$ HSc
  icases HSc' with ⟨HA, HS⟩
  isplitl [HA HS HT0 HT1]
  · isplitl [HA]; · iexact HA
    isplitl [HS]; · iexact HS
    iapply (buf_join c)
    isplitl [HT0]; · iexact HT0
    iexact HT1
  isplitl [Hg]; · iexact Hg
  isplitl [HC0 HC1]
  · isplitl [HC0]; · iexact HC0
    iexact HC1
  iexact HH

theorem hmain_dma (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array at its final contents, every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain_dma m Variants.none) (hA := A_eq m)
    (hin := hin m) (hout := hout m)

/-- What the run leaves in the arguments: what they held. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

/-- The same run with the result array named. -/
theorem run_array : θ_run defs (onTc (τ := τ) (main (F := F))) ⟨m, fun _ => 0, ρ⟩ (fun r => ∀ c : Dev nD,
      r.2.mem ((c.tc : Thread nD τ).loc main_v9) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, args_kept m r h.1 c⟩) (run_main m ρ)

end Cert.Kernel5Ideal.Mlp

end
-- ==== Proof.SampleMlpTile.lean ====
/-
  The MLP kernel's arithmetic on a tile, at the ideal instance: the scaling of half a tile's rows, and the terms of a block of
  hidden numbers for half a tile and for a whole one, each read at an index.
-/
module

public import proofs.«01_k».proof.Proof.SampleMlpRun
public import proofs.«01_k».proof.Proof.MlpSpec
public import Idealize.ShloMosaic.Lib.Pointwise

@[expose] public section

set_option maxRecDepth 8192

noncomputable section

namespace Cert.Kernel5Ideal.Mlp

open Idealize.ShloMosaic Idealize.ShloMosaic.TcCoe
open Cert.Kernel5Ideal Cert.Kernel5Ideal.Gen

section Any

variable {F : FTy → Type} [FloatOps F]

/-- Half a tile's rows scaled, with their gains. -/
def scaled (x : FVec F S256x2048 .f32) (g : FVec F S1x2048 .f32) : FVec F S256x2048 .f32 :=
  mulf
    (mulf x
      (broadcastTo S256x2048
        (rsqrt
          (addf
            (divf
              (shapeCast S256x1
                (multiReduction .add [1] S256 (mulf x x) 0x00000000#32 reduces_S256x2048_S256 (.inl rfl) rfl)
                shapeCasts_S256_S256x1)
              (broadcast S256x1 (Scalar.ofBits .f32 0x45000000#32)))
            (broadcast S256x1 (Scalar.ofBits .f32 0x358637BD#32))))
        broadcasts_S256x1_S256x2048))
    (broadcastTo S256x2048 g broadcasts_S1x2048_S256x2048)

/-- A block's terms for half a tile. -/
def halfTerms (a : FVec F S256x2048 .bf16) (wu : FVec F S2048x1024 .bf16) (wd : FVec F S1024x2048 .bf16) : FVec F S256x2048 .f32 :=
  have u := maximumf (matmul dot_S256x2048_S2048x1024_S256x1024_1_0_0_1_n_n none a wu (constant S256x1024 .f32 0x00000000#32))
    (broadcast S256x1024 (Scalar.ofBits .f32 0x00000000#32))
  matmul dot_S256x1024_S1024x2048_S256x2048_1_0_0_1_n_n none (truncf .bf16 (mulf u u) bitsLt_bf16_f32) wd (constant S256x2048 .f32 0x00000000#32)

/-- A block's terms for a whole tile. -/
def tileTerms (a : FVec F S512x2048 .bf16) (wu : FVec F S2048x1024 .bf16) (wd : FVec F S1024x2048 .bf16) : FVec F S512x2048 .f32 :=
  have u := maximumf (matmul dot_S512x2048_S2048x1024_S512x1024_1_0_0_1_n_n none a wu (constant S512x1024 .f32 0x00000000#32))
    (broadcast S512x1024 (Scalar.ofBits .f32 0x00000000#32))
  matmul dot_S512x1024_S1024x2048_S512x2048_1_0_0_1_n_n none (truncf .bf16 (mulf u u) bitsLt_bf16_f32) wd (constant S512x2048 .f32 0x00000000#32)

end Any

theorem scaled_at (x : S256x2048.Idx → EReal) (g : S1x2048.Idx → EReal) (r : Fin 256) (k : Fin 2048) :
    (scaled (F := Ideal) x g : S256x2048.Idx → EReal) (ix2 r k) = Cert.Mlp.normed (fun k => x (ix2 r k)) (fun k => g (ix2 0 k)) k := by
  pointwise [scaled, Cert.Mlp.normed, Cert.Mlp.scale]

theorem halfTerms_at (a : S256x2048.Idx → EReal) (wu : S2048x1024.Idx → EReal) (wd : S1024x2048.Idx → EReal) (r : Fin 256) (e : Fin 2048) :
    (halfTerms (F := Ideal) a wu wd : S256x2048.Idx → EReal) (ix2 r e)
      = Cert.Mlp.part (fun d => a (ix2 r d)) (fun d k => wu (ix2 d k)) (fun k e => wd (ix2 k e)) e := by
  pointwise [halfTerms, Cert.Mlp.part, Cert.Mlp.hid]

theorem tileTerms_at (a : S512x2048.Idx → EReal) (wu : S2048x1024.Idx → EReal) (wd : S1024x2048.Idx → EReal) (r : Fin 512) (e : Fin 2048) :
    (tileTerms (F := Ideal) a wu wd : S512x2048.Idx → EReal) (ix2 r e)
      = Cert.Mlp.part (fun d => a (ix2 r d)) (fun d k => wu (ix2 d k)) (fun k e => wd (ix2 k e)) e := by
  pointwise [tileTerms, Cert.Mlp.part, Cert.Mlp.hid]

end Cert.Kernel5Ideal.Mlp

end
-- ==== Proof.SampleMlpPieces.lean ====
/-
  What the MLP kernel stores, in closed form: each stored piece is one of the tile's functions (`Proof/MlpTile.lean`) of the rows
  that the copy delivered and of the blocks in the windows.
-/
module

public import proofs.«01_k».proof.Proof.SampleMlpTile
public import Idealize.ShloMosaic.Lib.VecWindow
public import Idealize.ShloMosaic.Lib.WritesUnit
public import Idealize.ShloMosaic.Lib.Pipeline.FrameBody
public import Idealize.ShloMosaic.Lib.Pipeline.Frame

@[expose] public section

set_option maxRecDepth 8192

noncomputable section

namespace Cert.Kernel5Ideal.Mlp

open Idealize.ShloMosaic Idealize.ShloMosaic.TcCoe
open Cert.Kernel5Ideal Cert.Kernel5Ideal.Gen

section Any

variable {F : FTy → Type} [FloatOps F]

/-- The 256 rows of a tile from row `o`. -/
def halfOf {α : Type} (o : ℕ) (ho : o ≤ 256) (P : S512x2048.Idx → α) : S256x2048.Idx → α :=
  fun y => P (ix2 ⟨o + (y 0).val, by have h : (y 0).val < 256 := (y 0).isLt; omega⟩ (y 1))

/-- A buffer held whole, loaded whole. -/
theorem load_all {sp : Space} {s : Shape} {e : EltTy} (arg : Memref sig .tc sp s e) (harg : arg.IsWhole) (x : s.Idx → Elt F e)
    {off : Fin s.rank → ℕ} (inb : ∀ a, off a + s.size a ≤ s.size a) (hs : s.ShapeCasts s) :
    shapeCast s (arg.view.readAt (Elt F) (Rect.unit off s.size inb).toLoadRect (harg.unread x)) hs = x := by
  rw [View.readAt_full, harg.read_unread]
  exact shapeCast_self _ _

theorem load_whole {e : EltTy} (arg : Memref sig .tc .vmem S512x2048 e) (harg : arg.IsWhole) (x : S512x2048.Idx → Elt F e)
    (inb : ∀ a, (![0, 0] : Fin 2 → ℕ) a + S512x2048.size a ≤ S512x2048.size a) :
    (arg.view.readAt (Elt F) (Rect.unit (s := S512x2048) ![0, 0] S512x2048.size inb).toLoadRect (harg.unread x) : S512x2048.Idx → Elt F e) = x := by
  rw [View.readAt_full, harg.read_unread]

/-- A tile's buffer, half of it loaded. -/
theorem load_half {e : EltTy} (arg : Memref sig .tc .vmem S512x2048 e) (harg : arg.IsWhole) (x : S512x2048.Idx → Elt F e)
    (o : ℕ) (ho : o ≤ 256) (inb : ∀ a, (![o, 0] : Fin 2 → ℕ) a + S256x2048.size a ≤ S512x2048.size a) :
    (arg.view.readAt (Elt F) (Rect.unit (s := S512x2048) ![o, 0] S256x2048.size inb).toLoadRect (harg.unread x) : S256x2048.Idx → Elt F e)
      = halfOf o ho x := by
  funext y
  refine (congrFun (View.readAt_eq_ld arg.view (harg.unread x) _) y).trans ?_
  rw [harg.read_unread]
  refine congrArg x (funext fun a => Fin.ext ?_)
  match a with
  | ⟨0, _⟩ => show o + 1 * (y 0).val = o + (y 0).val; omega
  | ⟨1, _⟩ => show 0 + 1 * (y 1).val = (y 1).val; omega

theorem drop_half {α : Type} (z : S1x256x2048.Idx → α) (r : Fin 256) (k : Fin 2048) :
    shapeCast S256x2048 z shapeCasts_S1x256x2048_S256x2048 (ix2 r k) = z (ix3 0 r k) := by
  pointwise
theorem drop_slot {α : Type} (z : S1x512x2048.Idx → α) (h : S1x512x2048.ShapeCasts S512x2048) (r : Fin 512) (k : Fin 2048) :
    shapeCast S512x2048 z h (ix2 r k) = z (ix3 0 r k) := by
  pointwise

/-- A slot's rows lie in the buffer at the slot's number. -/
theorem slot_read (buf : Memref sig .tc .vmem S2x512x2048 .f32) (s : Fin 2) (f : buf.view.ty.Contents (Elt F)) (r : Fin 512) (k : Fin 2048) :
    ((buf.slice (Rect.unit (s := S2x512x2048) (slotOff s) S1x512x2048.size (slotOff_inb s)) (fun _ => rfl)).squeeze S512x2048
      squeezes_S1x512x2048_S512x2048).view.read (Elt F) f (ix2 r k) = buf.view.read (Elt F) f (ix3 s r k) := by
  refine (congrFun (Memref.read_squeeze_slice buf _ _ _ (Shape.Squeezes.numel_eq squeezes_S1x512x2048_S512x2048) f) (ix2 r k)).trans ?_
  refine (drop_slot _ _ r k).trans ?_
  rw [View.readAt_eq_ld]
  refine congrArg (buf.view.read (Elt F) f) (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

/-- Half a slot, loaded from the buffer. -/
theorem load_slot (buf : Memref sig .tc .vmem S2x512x2048 .f32) (s : Fin 2) (P : S512x2048.Idx → Elt F .f32) (f : buf.view.ty.Contents (Elt F))
    (hf : ∀ r k, buf.view.read (Elt F) f (ix3 s r k) = P (ix2 r k)) (o : ℕ) (ho : o ≤ 256) {off : Fin 3 → ℕ} (hoff : off = ![s.val, o, 0])
    (inb : ∀ a, off a + S1x256x2048.size a ≤ S2x512x2048.size a) :
    shapeCast S256x2048 (buf.view.readAt (Elt F) (Rect.unit (s := S2x512x2048) off S1x256x2048.size inb).toLoadRect f)
      shapeCasts_S1x256x2048_S256x2048 = halfOf o ho P := by
  subst hoff
  funext (y : S256x2048.Idx)
  rw [eq_ix2 y]
  refine (drop_half _ (y 0) (y 1)).trans ?_
  rw [View.readAt_eq_ld]
  refine Eq.trans (congrArg (buf.view.read (Elt F) f) (funext fun a => Fin.ext ?_)) (hf _ _)
  match a with
  | ⟨0, _⟩ => show s.val + 1 * 0 = s.val; omega
  | ⟨1, _⟩ => show o + 1 * (y 0).val = o + (y 0).val; omega
  | ⟨2, _⟩ => show 0 + 1 * (y 1).val = (y 1).val; omega

/-- Half a slot, loaded after the copy of a tile into it. -/
theorem load_copied (s : Fin 2) (P : S512x2048.Idx → Elt F .f32) (o : ℕ) (ho : o ≤ 256) {off : Fin 3 → ℕ} (hoff : off = ![s.val, o, 0])
    (inb : ∀ a, off a + S1x256x2048.size a ≤ S2x512x2048.size a) :
    shapeCast S256x2048 (bufM.view.readAt (Elt F) (Rect.unit (s := S2x512x2048) off S1x256x2048.size inb).toLoadRect
      ((rslot s).view.writes (Elt F) (rslot s).view.junk [⟨Rect.whole S512x2048, P⟩])) shapeCasts_S1x256x2048_S256x2048 = halfOf o ho P :=
  load_slot bufM s P _ (fun r k => (slot_read bufM s _ r k).symm.trans
    (congrFun (View.read_writes_whole (rslot s).view (rslot s).view.junk P) (ix2 r k))) o ho hoff inb

theorem tileTerms_congr {a a' : FVec F S512x2048 .bf16} {u u' : FVec F S2048x1024 .bf16} {d d' : FVec F S1024x2048 .bf16}
    (ha : a = a') (hu : u = u') (hd : d = d') : tileTerms a u d = tileTerms a' u' d' := by subst ha hu hd; rfl

theorem out_congr {r r' s s' : FVec F S256x2048 .f32} {a a' : FVec F S256x2048 .bf16} {u u' : FVec F S2048x1024 .bf16}
    {d d' : FVec F S1024x2048 .bf16} {g g' : FVec F S1x2048 .f32} (hr : r = r') (hs : s = s') (ha : a = a') (hu : u = u') (hd : d = d')
    (hg : g = g') : addf r (scaled (addf s (halfTerms a u d)) g) = addf r' (scaled (addf s' (halfTerms a' u' d')) g') := by
  subst hr hs ha hu hd hg; rfl

section Pieces

variable (c : Dev nD) (H : Buf (Elt F) (hM.view.loc (c : Thread nD τ))) (i : grid0.Coords)
  (arg3 : Memref sig .tc .vmem S1x2048 .f32) (harg3 : arg3.IsWhole) (arg4 : Memref sig .tc .vmem S2048x1024 .bf16) (harg4 : arg4.IsWhole)
  (arg5 : Memref sig .tc .vmem S1024x2048 .bf16) (harg5 : arg5.IsWhole) (arg6 : Memref sig .tc .vmem S1x2048 .f32) (harg6 : arg6.IsWhole)
  (h1 : k0_cond1 i = 1#1) (h5 : k0_cond5 i = 1#1)
  (x0 : Vec F S1x2048 .f32) (x1 : Vec F S2048x1024 .bf16) (x2 : Vec F S1024x2048 .bf16) (x3 : Vec F S1x2048 .f32)
  (xa : Vec F S512x2048 .bf16) (xs : Vec F S512x2048 .f32)

/-- The rows of half a tile, scaled and rounded. -/
def halfRows (o : ℕ) (ho : o ≤ 256) : FVec F S256x2048 .bf16 :=
  truncf .bf16 (scaled (halfOf o ho (rows c H (Ring.bk 1 (i 0).val))) x0) bitsLt_bf16_f32

theorem rows_lower : runB.sl.v75 c H i arg3 harg3 h1 x0 = halfRows c H i x0 0 (by norm_num) := by
  have e : runB.sl.v57 c H i h1 = halfOf 0 (by norm_num) (rows c H (Ring.bk 1 (i 0).val)) := load_copied _ _ 0 _ (off7_eq i) _
  have g : runB.sl.v59 c arg3 harg3 x0 = x0 := load_all arg3 harg3 x0 _ _
  refine (shapeCast_self _ _).trans ?_
  show truncf .bf16 (scaled (runB.sl.v57 c H i h1) (runB.sl.v59 c arg3 harg3 x0)) _ = _
  rw [e, g]
  rfl

theorem rows_upper : runB.sl.v110 c H i arg3 harg3 h1 x0 = halfRows c H i x0 256 (by norm_num) := by
  have e : runB.sl.v92 c H i h1 = halfOf 256 (by norm_num) (rows c H (Ring.bk 1 (i 0).val)) := load_copied _ _ 256 _ (off8_eq i) _
  have g : runB.sl.v59 c arg3 harg3 x0 = x0 := load_all arg3 harg3 x0 _ _
  refine (shapeCast_self _ _).trans ?_
  show truncf .bf16 (scaled (runB.sl.v92 c H i h1) (runB.sl.v59 c arg3 harg3 x0)) _ = _
  rw [e, g]
  rfl

theorem sum_lower : runB.sl.v89 c H i arg3 harg3 arg4 harg4 arg5 harg5 h1 x0 x1 x2 = halfTerms (halfRows c H i x0 0 (by norm_num)) x1 x2 := by
  have a : runB.sl.v76 c H i arg3 harg3 h1 x0 = halfRows c H i x0 0 (by norm_num) :=
    (View.readCov_cons_toLoadRect aM.view _ _ _).trans (rows_lower c H i arg3 harg3 h1 x0)
  have u : runB.sl.v78 c arg4 harg4 x1 = x1 := load_all arg4 harg4 x1 _ _
  have d : runB.sl.v85 c arg5 harg5 x2 = x2 := load_all arg5 harg5 x2 _ _
  refine (shapeCast_self _ _).trans ?_
  show halfTerms (runB.sl.v76 c H i arg3 harg3 h1 x0) (runB.sl.v78 c arg4 harg4 x1) (runB.sl.v85 c arg5 harg5 x2) = _
  rw [a, u, d]

theorem sum_upper : runB.sl.v124 c H i arg3 harg3 arg4 harg4 arg5 harg5 h1 x0 x1 x2 = halfTerms (halfRows c H i x0 256 (by norm_num)) x1 x2 := by
  have a : runB.sl.v111 c H i arg3 harg3 h1 x0 = halfRows c H i x0 256 (by norm_num) :=
    (View.readCov_cons_toLoadRect aM.view _ _ _).trans (rows_upper c H i arg3 harg3 h1 x0)
  have u : runB.sl.v78 c arg4 harg4 x1 = x1 := load_all arg4 harg4 x1 _ _
  have d : runB.sl.v85 c arg5 harg5 x2 = x2 := load_all arg5 harg5 x2 _ _
  refine (shapeCast_self _ _).trans ?_
  show halfTerms (runB.sl.v111 c H i arg3 harg3 h1 x0) (runB.sl.v78 c arg4 harg4 x1) (runB.sl.v85 c arg5 harg5 x2) = _
  rw [a, u, d]

theorem sum_middle : runD.sl.v41 c arg4 harg4 arg5 harg5 x1 x2 xa xs = addf xs (tileTerms xa x1 x2) := by
  have u : runD.sl.v29 c arg4 harg4 x1 = x1 := load_all arg4 harg4 x1 _ _
  have d : runD.sl.v36 c arg5 harg5 x2 = x2 := load_all arg5 harg5 x2 _ _
  refine (shapeCast_self _ _).trans ?_
  exact congrArg₂ addf (load_whole sM (Memref.isWhole_whole cc0_scratch1) xs inb_S512x2048_S512x2048_0_0)
    (tileTerms_congr (load_whole aM (Memref.isWhole_whole cc0_scratch0) xa inb_S512x2048_S512x2048_0_0) u d)

/-- Half a tile's result. -/
def halfOut (o : ℕ) (ho : o ≤ 256) : FVec F S256x2048 .f32 :=
  addf (halfOf o ho (rows c H (Ring.bk 1 (i 0).val))) (scaled (addf (halfOf o ho xs) (halfTerms (halfOf o ho xa) x1 x2)) x3)

theorem out_lower : runE.sl.v56 c H i arg4 harg4 arg5 harg5 arg6 harg6 h5 x1 x2 x3 xa xs = halfOut c H i x1 x2 x3 xa xs 0 (by norm_num) := by
  have e : runE.sl.v41 c H i h5 = halfOf 0 (by norm_num) (rows c H (Ring.bk 1 (i 0).val)) := load_copied _ _ 0 _ (off12_eq i) _
  have g : runE.sl.v43 c arg6 harg6 x3 = x3 := load_all arg6 harg6 x3 _ _
  have u : runE.sl.v29 c arg4 harg4 x1 = x1 := load_all arg4 harg4 x1 _ _
  have d : runE.sl.v36 c arg5 harg5 x2 = x2 := load_all arg5 harg5 x2 _ _
  exact out_congr e (load_half sM (Memref.isWhole_whole cc0_scratch1) xs 0 (by norm_num) inb_S512x2048_S256x2048_0_0)
    (load_half aM (Memref.isWhole_whole cc0_scratch0) xa 0 (by norm_num) inb_S512x2048_S256x2048_0_0) u d g

theorem out_upper : runE.sl.v88 c H i arg4 harg4 arg5 harg5 arg6 harg6 h5 x1 x2 x3 xa xs = halfOut c H i x1 x2 x3 xa xs 256 (by norm_num) := by
  have e : runE.sl.v73 c H i h5 = halfOf 256 (by norm_num) (rows c H (Ring.bk 1 (i 0).val)) := load_copied _ _ 256 _ (off13_eq i) _
  have g : runE.sl.v43 c arg6 harg6 x3 = x3 := load_all arg6 harg6 x3 _ _
  have u : runE.sl.v29 c arg4 harg4 x1 = x1 := load_all arg4 harg4 x1 _ _
  have d : runE.sl.v36 c arg5 harg5 x2 = x2 := load_all arg5 harg5 x2 _ _
  exact out_congr e (load_half sM (Memref.isWhole_whole cc0_scratch1) xs 256 (by norm_num) inb_S512x2048_S256x2048_256_0)
    (load_half aM (Memref.isWhole_whole cc0_scratch0) xa 256 (by norm_num) inb_S512x2048_S256x2048_256_0) u d g

end Pieces

/-- Two halves written one after the other are read together. -/
theorem two_halves {e : EltTy} {sp : Space} (v : View sig .tc sp S512x2048 e) (f : v.ty.Contents (Elt F)) (w0 w1 : S256x2048.Idx → Elt F e)
    (G : Fin 512 → Fin 2048 → Elt F e) (inb0 : ∀ a, (![0, 0] : Fin 2 → ℕ) a + S256x2048.size a ≤ S512x2048.size a)
    (inb1 : ∀ a, (![256, 0] : Fin 2 → ℕ) a + S256x2048.size a ≤ S512x2048.size a)
    (h0 : ∀ (r : Fin 256) k, w0 (ix2 r k) = G ⟨0 + r.val, by omega⟩ k) (h1 : ∀ (r : Fin 256) k, w1 (ix2 r k) = G ⟨256 + r.val, by omega⟩ k)
    (r : Fin 512) (k : Fin 2048) :
    v.read (Elt F) (v.writes (Elt F) f [⟨Rect.unit (s := S512x2048) ![256, 0] S256x2048.size inb1, w1⟩,
      ⟨Rect.unit (s := S512x2048) ![0, 0] S256x2048.size inb0, w0⟩]) (ix2 r k) = G r k := by
  by_cases hr : r.val < 256
  · refine (View.read_writes_cons_rows_of_not_mem v f inb1 w1 _ (ix2 r k) rfl rfl (.inl hr)).trans ?_
    refine (View.read_writes_cons_rows_of_mem v f inb0 w0 [] (ix2 r k) (ix2 ⟨r.val, hr⟩ k : S256x2048.Idx) rfl (Nat.zero_add _).symm rfl).trans ?_
    exact (h0 ⟨r.val, hr⟩ k).trans (congrArg (fun a => G a k) (Fin.ext (Nat.zero_add _)))
  · have hr' := r.isLt
    refine (View.read_writes_cons_rows_of_mem v f inb1 w1 _ (ix2 r k) (ix2 ⟨r.val - 256, by omega⟩ k : S256x2048.Idx) rfl
      (by show r.val = 256 + (r.val - 256); omega) rfl).trans ?_
    exact (h1 ⟨r.val - 256, by omega⟩ k).trans (congrArg (fun a => G a k) (Fin.ext (by show 256 + (r.val - 256) = r.val; omega)))

end Any

end Cert.Kernel5Ideal.Mlp

end
-- ==== Proof.SampleMlpValue.lean ====
/-
  The MLP kernel's result, entry by entry, at the ideal instance: the rows and the blocks that each grid point finds, what a
  tile's eight points keep, and the result array.
-/
module

public import proofs.«01_k».proof.Proof.SampleMlpFrame
public import proofs.«01_k».proof.Proof.SampleMlpPieces
public import Idealize.ShloMosaic.Lib.StableHlo.ReadAt

@[expose] public section

set_option maxRecDepth 8192

noncomputable section

namespace Cert.Kernel5Ideal.Mlp

open Idealize.ShloMosaic Idealize.ShloMosaic.TcCoe Idealize.ShloMosaic.StableHlo
open Cert.Kernel5Ideal Cert.Kernel5Ideal.Gen

variable (m : (ℓ : Loc nD τ sig) → Buf (Elt Ideal) ℓ) (c : Dev nD)

def xIn : S32x16x2048.Idx → EReal := m ((c.tc : Thread nD τ).loc main_arg0)
def gainIn : S1x2048.Idx → EReal := m ((c.tc : Thread nD τ).loc main_arg1)
def wUp : S1x2048x8192.Idx → EReal := m ((c.tc : Thread nD τ).loc main_arg2)
def wDown : S1x8192x2048.Idx → EReal := m ((c.tc : Thread nD τ).loc main_arg3)
def gainOut : S1x2048.Idx → EReal := m ((c.tc : Thread nD τ).loc main_arg4)

/-! ### The arrays the launch finds -/

theorem arr_rows (r : Fin 512) (k : Fin 2048) :
    (V m c main_v4 : S512x2048.Idx → EReal) (ix2 r k) = xIn m c (ix3 ⟨r.val / 16, by omega⟩ ⟨r.val % 16, by omega⟩ k) := by
  unfold V
  after_reads_at
  rfl
theorem arr_gainIn (k : Fin 2048) : (V m c main_v6 : S1x2048.Idx → EReal) (ix2 0 k) = gainIn m c (ix2 0 k) := by
  unfold V
  after_reads_at
  rfl
theorem arr_gainOut (k : Fin 2048) : (V m c main_v8 : S1x2048.Idx → EReal) (ix2 0 k) = gainOut m c (ix2 0 k) := by
  unfold V
  after_reads_at
  rfl
theorem arr_up (d : Fin 2048) (k : Fin 8192) : (V m c main_v1 : S2048x8192.Idx → EReal) (ix2 d k) = wUp m c (ix3 0 d k) := by
  unfold V
  after_reads_at
  rfl
theorem arr_down (k : Fin 8192) (e : Fin 2048) : (V m c main_v3 : S8192x2048.Idx → EReal) (ix2 k e) = wDown m c (ix3 0 k e) := by
  unfold V
  after_reads_at
  rfl

/-! ### What a grid point finds -/

theorem lt_N (t : Fin cfg0.N) : t.val < 8 := lt_of_lt_of_eq t.isLt (show cfg0.N = 8 from N_0)

theorem index1 : ∀ t : Fin cfg0.N, win0_1.index t 0 = 0 ∧ win0_1.index t 1 = t.val % 8 :=
  (by decide +kernel : ∀ t : Fin grid0.N, _)
theorem index2 : ∀ t : Fin cfg0.N, win0_2.index t 0 = t.val % 8 ∧ win0_2.index t 1 = 0 :=
  (by decide +kernel : ∀ t : Fin grid0.N, _)
theorem index4 : ∀ t : Fin cfg0.N, win0_4.index t 0 = t.val / 8 ∧ win0_4.index t 1 = 0 :=
  (by decide +kernel : ∀ t : Fin grid0.N, _)
theorem index0 : ∀ t : Fin cfg0.N, win0_0.index t 0 = 0 ∧ win0_0.index t 1 = 0 :=
  (by decide +kernel : ∀ t : Fin grid0.N, _)
theorem index3 : ∀ t : Fin cfg0.N, win0_3.index t 0 = 0 ∧ win0_3.index t 1 = 0 :=
  (by decide +kernel : ∀ t : Fin grid0.N, _)

theorem block_gainIn (t : Fin cfg0.N) (k : Fin 2048) : (iblk m c 0 t : S1x2048.Idx → EReal) (ix2 0 k) = gainIn m c (ix2 0 k) := by
  obtain ⟨h0, h1⟩ := index0 t
  refine Eq.trans (congrArg (V m c main_v6 : S1x2048.Idx → EReal) (funext fun a => Fin.ext ?_)) (arr_gainIn m c k)
  match a with
  | ⟨0, _⟩ => show win0_0.index t 0 * 1 + 1 * 0 = 0; omega
  | ⟨1, _⟩ => show win0_0.index t 1 * 2048 + 1 * k.val = k.val; omega
theorem block_gainOut (t : Fin cfg0.N) (k : Fin 2048) : (iblk m c 3 t : S1x2048.Idx → EReal) (ix2 0 k) = gainOut m c (ix2 0 k) := by
  obtain ⟨h0, h1⟩ := index3 t
  refine Eq.trans (congrArg (V m c main_v8 : S1x2048.Idx → EReal) (funext fun a => Fin.ext ?_)) (arr_gainOut m c k)
  match a with
  | ⟨0, _⟩ => show win0_3.index t 0 * 1 + 1 * 0 = 0; omega
  | ⟨1, _⟩ => show win0_3.index t 1 * 2048 + 1 * k.val = k.val; omega
theorem block_up (t : Fin cfg0.N) (d : Fin 2048) (k : Fin 1024) :
    (iblk m c 1 t : S2048x1024.Idx → EReal) (ix2 d k) = wUp m c (ix3 0 d (Cert.Mlp.at1024 (t.val % 8) (Nat.mod_lt _ (by norm_num)) k)) := by
  obtain ⟨h0, h1⟩ := index1 t
  refine Eq.trans (congrArg (V m c main_v1 : S2048x8192.Idx → EReal) (funext fun a => Fin.ext ?_)) (arr_up m c d _)
  match a with
  | ⟨0, _⟩ => show win0_1.index t 0 * 2048 + 1 * d.val = d.val; omega
  | ⟨1, _⟩ => show win0_1.index t 1 * 1024 + 1 * k.val = t.val % 8 * 1024 + k.val; omega
theorem block_down (t : Fin cfg0.N) (k : Fin 1024) (e : Fin 2048) :
    (iblk m c 2 t : S1024x2048.Idx → EReal) (ix2 k e) = wDown m c (ix3 0 (Cert.Mlp.at1024 (t.val % 8) (Nat.mod_lt _ (by norm_num)) k) e) := by
  obtain ⟨h0, h1⟩ := index2 t
  refine Eq.trans (congrArg (V m c main_v3 : S8192x2048.Idx → EReal) (funext fun a => Fin.ext ?_)) (arr_down m c _ e)
  match a with
  | ⟨0, _⟩ => show win0_2.index t 0 * 1024 + 1 * k.val = t.val % 8 * 1024 + k.val; omega
  | ⟨1, _⟩ => show win0_2.index t 1 * 2048 + 1 * e.val = e.val; omega

/-- Row `r` of all the rows, one sequence after the other. -/
def rowAt (r : Fin 512) : Cert.Mlp.Row := fun k => xIn m c (ix3 ⟨r.val / 16, by omega⟩ ⟨r.val % 16, by omega⟩ k)
/-- Row `r` of point `t`'s tile. -/
def tileRow (t : Fin cfg0.N) (r : Fin 512) : Fin 512 := ⟨512 * (t.val / 8) + r.val, by have := lt_N t; omega⟩

theorem rows_at (t : Fin cfg0.N) (r : Fin 512) (k : Fin 2048) :
    (rows c (V m c main_v4) (Ring.bk 1 (grid0.coords t 0).val) : S512x2048.Idx → EReal) (ix2 r k) = rowAt m c (tileRow t r) k := by
  have hb : (Ring.bk 1 (grid0.coords t 0).val).val = t.val / 8 := by
    have := lt_N t
    rw [co0]; show t.val / 8 % 1 = t.val / 8; omega
  refine Eq.trans (congrArg (V m c main_v4 : S512x2048.Idx → EReal) (funext fun a => Fin.ext ?_)) (arr_rows m c (tileRow t r) k)
  match a with
  | ⟨0, _⟩ => show 512 * (Ring.bk 1 (grid0.coords t 0).val).val + 1 * r.val = 512 * (t.val / 8) + r.val; omega
  | ⟨1, _⟩ => show 0 + 1 * k.val = k.val; omega

/-! ### What a tile's points keep -/

abbrev up (d : Fin 2048) (k : Fin 8192) : EReal := wUp m c (ix3 0 d k)
abbrev down (k : Fin 8192) (e : Fin 2048) : EReal := wDown m c (ix3 0 k e)
/-- A row scaled, with its gains. -/
def act (r : Fin 512) : Cert.Mlp.Row := Cert.Mlp.normed (rowAt m c r) (fun k => gainIn m c (ix2 0 k))
/-- The terms of the blocks before `n`. -/
def sumTo (r : Fin 512) (e : Fin 2048) (n : ℕ) : EReal := Cert.Mlp.upto (act m c r) (up m c) (down m c) e n

theorem halfRows_at (t : Fin cfg0.N) (o : ℕ) (ho : o ≤ 256) (r : Fin 256) (k : Fin 2048) :
    (halfRows c (V m c main_v4) (grid0.coords t) (iblk m c 0 t) o ho : S256x2048.Idx → EReal) (ix2 r k)
      = act m c (tileRow t ⟨o + r.val, by omega⟩) k := by
  refine (scaled_at _ _ r k).trans ?_
  simp only [block_gainIn, halfOf]
  unfold act
  exact congrArg (fun x => Cert.Mlp.normed x _ k) (funext fun k => rows_at m c t ⟨o + r.val, by omega⟩ k)

theorem part_at (t : Fin cfg0.N) (a : Cert.Mlp.Row) (e : Fin 2048) :
    Cert.Mlp.part a (fun d k => (iblk m c 1 t : S2048x1024.Idx → EReal) (ix2 d k)) (fun k e => (iblk m c 2 t : S1024x2048.Idx → EReal) (ix2 k e)) e
      = Cert.Mlp.part a (fun d k => up m c d (Cert.Mlp.at1024 (t.val % 8) (Nat.mod_lt _ (by norm_num)) k))
          (fun k => down m c (Cert.Mlp.at1024 (t.val % 8) (Nat.mod_lt _ (by norm_num)) k)) e := by
  simp only [block_up, block_down]

theorem sumTo_one (r : Fin 512) (e : Fin 2048) (n : ℕ) (hn : n < 8) (h : n = 0) :
    Cert.Mlp.part (act m c r) (fun d k => up m c d (Cert.Mlp.at1024 n hn k)) (fun k => down m c (Cert.Mlp.at1024 n hn k)) e = sumTo m c r e 1 := by
  subst h
  exact (Cert.Mlp.upto_one (act m c r) (up m c) (down m c) e).symm

theorem rowsFirst_at (t : Fin cfg0.N) (h : t.val % 8 = 0) (r : Fin 512) (k : Fin 2048) :
    (rowsFirst m c t h : S512x2048.Idx → EReal) (ix2 r k) = act m c (tileRow t r) k := by
  unfold rowsFirst
  refine two_halves (F := Ideal) aM.view _ _ _ (fun r k => act m c (tileRow t r) k) _ _ (fun r k => ?_) (fun r k => ?_) r k
  · rw [rows_lower]; exact halfRows_at m c t 0 _ r k
  · rw [rows_upper]; exact halfRows_at m c t 256 _ r k

theorem halfSum_at (t : Fin cfg0.N) (h : t.val % 8 = 0) (o : ℕ) (ho : o ≤ 256) (r : Fin 256) (e : Fin 2048) :
    (halfTerms (F := Ideal) (halfRows c (V m c main_v4) (grid0.coords t) (iblk m c 0 t) o ho) (iblk m c 1 t) (iblk m c 2 t) : S256x2048.Idx → EReal)
      (ix2 r e) = sumTo m c (tileRow t ⟨o + r.val, by omega⟩) e 1 := by
  refine (halfTerms_at _ _ _ r e).trans ((part_at m c t _ e).trans (Eq.trans ?_ (sumTo_one m c (tileRow t ⟨o + r.val, by omega⟩) e (t.val % 8) (Nat.mod_lt _ (by norm_num)) h)))
  exact congrArg (fun a => Cert.Mlp.part a _ _ e) (funext fun d => halfRows_at m c t o ho r d)

theorem sumFirst_at (t : Fin cfg0.N) (h : t.val % 8 = 0) (r : Fin 512) (e : Fin 2048) :
    (sumFirst m c t h : S512x2048.Idx → EReal) (ix2 r e) = sumTo m c (tileRow t r) e 1 := by
  unfold sumFirst
  refine two_halves (F := Ideal) sM.view _ _ _ (fun r e => sumTo m c (tileRow t r) e 1) _ _ (fun r e => ?_) (fun r e => ?_) r e
  · rw [sum_lower]; exact halfSum_at m c t h 0 _ r e
  · rw [sum_upper]; exact halfSum_at m c t h 256 _ r e

theorem sumMid_at (t : Fin cfg0.N) (xa : S512x2048.Idx → EReal) (xs : S512x2048.Idx → EReal)
    (ha : ∀ r k, xa (ix2 r k) = act m c (tileRow t r) k) (hs : ∀ r e, xs (ix2 r e) = sumTo m c (tileRow t r) e (t.val % 8))
    (r : Fin 512) (e : Fin 2048) :
    (sumMid m c t xa xs : S512x2048.Idx → EReal) (ix2 r e) = sumTo m c (tileRow t r) e (t.val % 8 + 1) := by
  have hw : sumMid m c t xa xs = runD.sl.v41 c (ms1 t) (hs1 t) (ms2 t) (hs2 t) (iblk m c 1 t) (iblk m c 2 t) xa xs := by
    funext (y : S512x2048.Idx)
    unfold sumMid midSum
    rw [eq_ix2 y]
    exact View.read_writes_cons_rows_of_mem (Val := Elt Ideal) sM.view _ _ _ [] (ix2 (y 0) (y 1)) (ix2 (y 0) (y 1) : S512x2048.Idx) rfl
      (Nat.zero_add _).symm rfl
  rw [hw, sum_middle]
  refine Eq.trans (congrArg₂ (fun a b : EReal => a + b) (hs r e) ((tileTerms_at _ _ _ r e).trans ?_))
    (Cert.Mlp.upto_succ (act m c (tileRow t r)) (up m c) (down m c) e (t.val % 8) (Nat.mod_lt _ (by norm_num))).symm
  rw [part_at]
  simp only [ha]

theorem tileRow_pred (t : Fin cfg0.N) (h0 : ¬t.val % 8 = 0) (r : Fin 512) : tileRow ⟨t.val - 1, by omega⟩ r = tileRow t r :=
  Fin.ext (by show 512 * ((t.val - 1) / 8) + r.val = 512 * (t.val / 8) + r.val; omega)

/-- What a point leaves: its tile's scaled rows, and the sum of the terms so far. -/
def Keeps (t : Fin cfg0.N) (p : (S512x2048.Idx → EReal) × (S512x2048.Idx → EReal)) : Prop :=
  (∀ r k, p.1 (ix2 r k) = act m c (tileRow t r) k) ∧ ∀ r e, p.2 (ix2 r e) = sumTo m c (tileRow t r) e (t.val % 8 + 1)

theorem Keeps.pair {t : Fin cfg0.N} {a s : S512x2048.Idx → EReal} (ha : ∀ r k, a (ix2 r k) = act m c (tileRow t r) k)
    (hs : ∀ r e, s (ix2 r e) = sumTo m c (tileRow t r) e (t.val % 8 + 1)) : Keeps m c t (a, s) := ⟨ha, hs⟩

theorem Keeps.pred {t : Fin cfg0.N} (h0 : ¬t.val % 8 = 0) {p : (S512x2048.Idx → EReal) × (S512x2048.Idx → EReal)}
    (h : Keeps m c ⟨t.val - 1, by omega⟩ p) :
    (∀ r k, p.1 (ix2 r k) = act m c (tileRow t r) k) ∧ ∀ r e, p.2 (ix2 r e) = sumTo m c (tileRow t r) e (t.val % 8) := by
  have hm : (t.val - 1) % 8 + 1 = t.val % 8 := by omega
  refine ⟨fun r k => (h.1 r k).trans ?_, fun r e => (h.2 r e).trans ?_⟩
  · rw [tileRow_pred t h0]
  · rw [tileRow_pred t h0]
    exact congrArg (sumTo m c (tileRow t r) e) hm

theorem kept_at (n : ℕ) : ∀ (t : Fin cfg0.N), t.val = n → ¬t.val % 8 = 7 → Keeps m c t (kept m c t.val t.isLt) := by
  induction n with
  | zero =>
    intro t ht h7
    have h0 : t.val % 8 = 0 := by omega
    rw [kept_first m c t h0]
    refine Keeps.pair m c (rowsFirst_at m c t h0) fun r e => (sumFirst_at m c t h0 r e).trans ?_
    rw [h0]
  | succ n ih =>
    intro t ht h7
    by_cases h0 : t.val % 8 = 0
    · rw [kept_first m c t h0]
      refine Keeps.pair m c (rowsFirst_at m c t h0) fun r e => (sumFirst_at m c t h0 r e).trans ?_
      rw [h0]
    · obtain ⟨ha, hs⟩ := Keeps.pred m c h0 (ih ⟨t.val - 1, by omega⟩ (by show t.val - 1 = n; omega) (by show ¬(t.val - 1) % 8 = 7; omega))
      rw [kept_mid m c t h0 h7]
      exact Keeps.pair m c ha (sumMid_at m c t _ _ ha hs)

/-! ### The result -/

/-- A row's result. -/
def resultAt (r : Fin 512) (e : Fin 2048) : EReal :=
  Cert.Mlp.result (rowAt m c r) (fun k => gainIn m c (ix2 0 k)) (up m c) (down m c) (fun k => gainOut m c (ix2 0 k)) e

theorem halfOut_at (t : Fin cfg0.N) (h7 : t.val % 8 = 7) (xa : S512x2048.Idx → EReal) (xs : S512x2048.Idx → EReal)
    (ha : ∀ r k, xa (ix2 r k) = act m c (tileRow t r) k) (hs : ∀ r e, xs (ix2 r e) = sumTo m c (tileRow t r) e 7)
    (o : ℕ) (ho : o ≤ 256) (r : Fin 256) (e : Fin 2048) :
    (halfOut (F := Ideal) c (V m c main_v4) (grid0.coords t) (iblk m c 1 t) (iblk m c 2 t) (iblk m c 3 t) xa xs o ho : S256x2048.Idx → EReal) (ix2 r e)
      = resultAt m c (tileRow t ⟨o + r.val, by omega⟩) e := by
  unfold halfOut resultAt Cert.Mlp.result
  refine congrArg₂ (fun a b : EReal => a + b) (rows_at m c t ⟨o + r.val, by omega⟩ e) ((scaled_at _ _ r e).trans ?_)
  simp only [block_gainOut]
  refine congrArg (fun x => Cert.Mlp.normed x _ e) (funext fun k => ?_)
  refine Eq.trans (congrArg₂ (fun a b : EReal => a + b) (hs ⟨o + r.val, by omega⟩ k) ((halfTerms_at _ _ _ r k).trans ?_))
    ((Cert.Mlp.upto_succ (act m c (tileRow t ⟨o + r.val, by omega⟩)) (up m c) (down m c) k 7 (by norm_num)).symm.trans
      (Cert.Mlp.upto_eight _ _ _ _))
  rw [part_at]
  simp only [halfOf, h7]
  exact congrArg (fun a => Cert.Mlp.part a _ _ k) (funext fun d => ha ⟨o + r.val, by omega⟩ d)

theorem outAt_at (t : Fin cfg0.N) (h7 : t.val % 8 = 7) (r : Fin 512) (e : Fin 2048) :
    (outAt m c t : S512x2048.Idx → EReal) (ix2 r e) = resultAt m c (tileRow t r) e := by
  obtain ⟨ha, hs⟩ := Keeps.pred m c (t := t) (by omega) (kept_at m c (t.val - 1) ⟨t.val - 1, by omega⟩ rfl (by show ¬(t.val - 1) % 8 = 7; omega))
  rw [h7] at hs
  unfold outAt
  rw [dif_pos h7]
  unfold outLast
  refine two_halves (F := Ideal) VO _ _ _ (fun r e => resultAt m c (tileRow t r) e) _ _ (fun r e => ?_) (fun r e => ?_) r e
  · rw [out_lower]; exact halfOut_at m c t h7 _ _ ha hs 0 _ r e
  · rw [out_upper]; exact halfOut_at m c t h7 _ _ ha hs 256 _ r e

theorem flushed4 (t : Fin cfg0.N) : (dats m 0 c).flushed 4 t = (cfg0.win 4).cut (grid0.coords t) (outAt m c t) := by
  show (cfg0.win 4).cut (grid0.coords t) ((dats m 0 c).after 4 t) = _
  rw [after4]

theorem array : (dats m 0 c).arrAt 4 cfg0.N = (fun i : S512x2048.Idx => resultAt m c (i 0) (i 1)) := by
  refine (dats m 0 c).arrAt_eq_of_cover 4 _ (fun t ht => ?_) fun i => ?_
  · have h7 := (flush0_4 t).mp ht
    obtain ⟨h0, h1⟩ := index4 t
    rw [flushed4]
    funext j
    refine (congrArg (outAt m c t : S512x2048.Idx → EReal) (eq_ix2 j)).trans ((outAt_at m c t h7 (j 0) (j 1)).trans ?_)
    have e0 : tileRow t (j 0) = ((cfg0.win 4).blk t).view.emb j 0 :=
      Fin.ext (by show 512 * (t.val / 8) + (j 0).val = win0_4.index t 0 * 512 + 1 * (j 0).val; omega)
    have e1 : (j 1 : Fin 2048) = ((cfg0.win 4).blk t).view.emb j 1 :=
      Fin.ext (by show (j 1).val = win0_4.index t 1 * 2048 + 1 * (j 1).val; omega)
    rw [View.read_apply]
    show _ = resultAt m c (((cfg0.win 4).blk t).view.emb j 0) (((cfg0.win 4).blk t).view.emb j 1)
    rw [← e0, ← e1]
  · have i0 : (i 0).val < 512 := (i 0).isLt
    have i1 : (i 1).val < 2048 := (i 1).isLt
    let t : Fin cfg0.N := ⟨(i 0).val / 512 * 8 + 7, by have : cfg0.N = 8 := N_0; omega⟩
    have htv : t.val = (i 0).val / 512 * 8 + 7 := rfl
    obtain ⟨h0, h1⟩ := index4 t
    refine ⟨t, (flush0_4 t).mpr (by omega), ?_⟩
    show i ∈ ((View.whole main_v9).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 2048 ≤ (i 1).val ∧ (i 1).val < win0_4.index t 1 * 2048 + 2048; omega

end Cert.Kernel5Ideal.Mlp

end
-- ==== Proof.SampleMlpRef.lean ====
/-
  The reference's MLP, read at an entry, at the ideal instance.
-/
module

public import proofs.«01_k».proof.Proof.Gen.Reference5Ideal.Run
public import proofs.«01_k».proof.Proof.MlpSpec
public import Idealize.ShloMosaic.Lib.Pointwise

@[expose] public section

set_option maxRecDepth 8192

noncomputable section

namespace Cert.Reference5Ideal.Mlp

open Idealize.ShloMosaic Idealize.ShloMosaic.TcCoe
open Cert.Reference5Ideal Cert.Reference5Ideal.Gen Cert.Reference5Ideal.Value

/-- The rows scaled, with their gains. -/
def scaled (x : FVec Ideal S32x16x2048 .f32) (g : FVec Ideal S1x2048 .f32) : FVec Ideal S32x16x2048 .f32 :=
  mulf
    (mulf x
      (broadcastInDim S32x16x2048 ![0, 1, 2] bcast_S32x16x1_S32x16x2048_0_1_2
        (Host.rsqrt
          (addf
            (Host.divf
              (broadcastInDim S32x16x1 ![0, 1] bcast_S32x16_S32x16x1_0_1
                (Host.reduceAdd (mulf x x) (constant S_ .f32 0x00000000#32) reducesTo_S32x16x2048_S32x16_d2 h_S_))
              (broadcastInDim S32x16x1 ![] bcast_S_S32x16x1 (constant S_ .f32 0x45000000#32)))
            (broadcastInDim S32x16x1 ![] bcast_S_S32x16x1 (constant S_ .f32 0x358637BD#32))))))
    (broadcastInDim S32x16x2048 ![0, 1, 2] bcast_S1x1x2048_S32x16x2048_0_1_2
      (broadcastInDim S1x1x2048 ![2] bcast_S2048_S1x1x2048_2 (shapeCast _ g shapeCasts_S1x2048_S2048)))

/-- The hidden numbers, squared. -/
def hidden (a : FVec Ideal S32x16x2048 .f32) (wu : FVec Ideal S1x2048x8192 .f32) : FVec Ideal S32x16x8192 .f32 :=
  mulf
    (maximumf
      (Host.dotGeneral dot_S32x16x2048_S2048x8192_S32x16x8192_2_0_01_1_n_n none a (shapeCast _ wu shapeCasts_S1x2048x8192_S2048x8192))
      (broadcastInDim S32x16x8192 ![] bcast_S_S32x16x8192 (constant S_ .f32 0x00000000#32)))
    (maximumf
      (Host.dotGeneral dot_S32x16x2048_S2048x8192_S32x16x8192_2_0_01_1_n_n none a (shapeCast _ wu shapeCasts_S1x2048x8192_S2048x8192))
      (broadcastInDim S32x16x8192 ![] bcast_S_S32x16x8192 (constant S_ .f32 0x00000000#32)))

/-- The hidden numbers taken down. -/
def down (u : FVec Ideal S32x16x8192 .f32) (wd : FVec Ideal S1x8192x2048 .f32) : FVec Ideal S32x16x2048 .f32 :=
  Host.dotGeneral dot_S32x16x8192_S8192x2048_S32x16x2048_2_0_01_1_n_n none u (shapeCast _ wd shapeCasts_S1x8192x2048_S8192x2048)

theorem scaled_at (x : S32x16x2048.Idx → EReal) (g : S1x2048.Idx → EReal) (b : Fin 32) (t : Fin 16) (k : Fin 2048) :
    (scaled x g : S32x16x2048.Idx → EReal) (ix3 b t k) = Cert.Mlp.normed (fun k => x (ix3 b t k)) (fun k => g (ix2 0 k)) k := by
  pointwise [scaled, Cert.Mlp.normed, Cert.Mlp.scale]
  try rfl

theorem hidden_at (a : S32x16x2048.Idx → EReal) (wu : S1x2048x8192.Idx → EReal) (b : Fin 32) (t : Fin 16) (k : Fin 8192) :
    (hidden a wu : S32x16x8192.Idx → EReal) (ix3 b t k) = Cert.Mlp.hid (fun d => a (ix3 b t d)) (fun d => wu (ix3 0 d k)) := by
  pointwise [hidden, Cert.Mlp.hid]

theorem down_at (u : S32x16x8192.Idx → EReal) (wd : S1x8192x2048.Idx → EReal) (b : Fin 32) (t : Fin 16) (e : Fin 2048) :
    (down u wd : S32x16x2048.Idx → EReal) (ix3 b t e) = ∑ k : Fin 8192, u (ix3 b t k) * wd (ix3 0 k e) := by
  pointwise [down]

variable (m : (ℓ : Loc nD τ sig) → Buf (Elt Ideal) ℓ) (c : Dev nD)

def xs : S32x16x2048.Idx → EReal := m ((c.tc : Thread nD τ).loc main_arg0)
def gainIn : S1x2048.Idx → EReal := m ((c.tc : Thread nD τ).loc main_arg1)
def wUp : S1x2048x8192.Idx → EReal := m ((c.tc : Thread nD τ).loc main_arg2)
def wDown : S1x8192x2048.Idx → EReal := m ((c.tc : Thread nD τ).loc main_arg3)
def gainOut : S1x2048.Idx → EReal := m ((c.tc : Thread nD τ).loc main_arg4)

theorem result_eq : res_main_v35 m c
    = shapeCast _ (addf (xs m c) (scaled (down (hidden (scaled (xs m c) (gainIn m c)) (wUp m c)) (wDown m c)) (gainOut m c)))
        shapeCasts_S32x16x2048_S512x2048 := by
  unfold res_main_v35
  rfl

theorem result_at (r : Fin 512) (e : Fin 2048) :
    (res_main_v35 m c : S512x2048.Idx → EReal) (ix2 r e)
      = Cert.Mlp.result (fun k => xs m c (ix3 ⟨r.val / 16, by omega⟩ ⟨r.val % 16, by omega⟩ k)) (fun k => gainIn m c (ix2 0 k))
          (fun d k => wUp m c (ix3 0 d k)) (fun k e => wDown m c (ix3 0 k e)) (fun k => gainOut m c (ix2 0 k)) e := by
  rw [result_eq]
  generalize hs : scaled (down (hidden (scaled (xs m c) (gainIn m c)) (wUp m c)) (wDown m c)) (gainOut m c) = s
  pointwise [Cert.Mlp.result]
  rw [← hs, scaled_at]
  simp only [down_at, hidden_at, scaled_at]
  rfl

end Cert.Reference5Ideal.Mlp

end
-- ==== Proof.SampleMlpClaim.lean ====
/-
  The claims about the layer's MLP: the kernel and its reference run and leave their arguments and every counter as they were,
  and their results are equal, row by row those of `Proof/MlpSpec.lean`.
-/
module

public import proofs.«01_k».proof.Defs
public import proofs.«01_k».proof.Proof.Gen.Kernel5.Frame
public import proofs.«01_k».proof.Proof.SampleMlpValue
public import proofs.«01_k».proof.Proof.SampleMlpRef
public import Idealize.ShloMosaic.Lib.Quiescent
public import Idealize.ShloMosaic.Lib.Claim

@[expose] public section

noncomputable section

namespace Cert.SampleMlp

open Idealize.ShloMosaic Idealize.ShloMosaic.TcCoe Idealize.SL.Sem Idealize.ShloMosaic.StableHlo

/-- Kernel and idealized kernel run the same bodies: the one label's. -/
theorem defs_eq : Kernel5Ideal.defs (F := Bits) = Kernel5.defs (F := Bits) := by
  refine congrArg (Pipeline.defs Kernel5Ideal.pcfgs) (congrArg Defs.onTc ?_)
  funext l x
  match l, x with
  | ⟨0, _⟩, (_, _) => rfl

/-- They have the same text: one run gives both frames. -/
theorem frame_kernel : Cert.quiescent_Kernel5 (hKernel5 := Kernel5.Gen.facts) := fun m ρ _ => by
  have h := Kernel5Ideal.Mlp.frame (F := Bits) m ρ
  rw [defs_eq] at h
  exact h
theorem frame_ideal : Cert.quiescent_Kernel5Ideal (hKernel5Ideal := Kernel5Ideal.Gen.facts) := fun m ρ _ =>
  Kernel5Ideal.Mlp.frame (F := Ideal) m ρ
/-- The reference has no semaphores. -/
theorem frame_ref : Cert.quiescent_Reference5Ideal (hReference5Ideal := Reference5Ideal.Gen.facts) := fun m ρ _ =>
  θ_run_mono (Reference5Ideal.Value.run m ρ) fun r hr => ⟨fun c => (hr c).2, sem_eq_zero_of_no_sems rfl r.2⟩

theorem result_eq (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : Reference5Ideal.Mlp.xs m' c = Kernel5Ideal.Mlp.xIn m c) (h1 : Reference5Ideal.Mlp.gainIn m' c = Kernel5Ideal.Mlp.gainIn m c)
    (h2 : Reference5Ideal.Mlp.wUp m' c = Kernel5Ideal.Mlp.wUp m c) (h3 : Reference5Ideal.Mlp.wDown m' c = Kernel5Ideal.Mlp.wDown m c)
    (h4 : Reference5Ideal.Mlp.gainOut m' c = Kernel5Ideal.Mlp.gainOut m c) :
    (Reference5Ideal.Value.res_main_v35 m' c : Kernel5Ideal.S512x2048.Idx → EReal)
      = (Kernel5Ideal.Mlp.dats m 0 c).arrAt 4 Kernel5Ideal.cfg0.N := by
  funext (i : Kernel5Ideal.S512x2048.Idx)
  refine Eq.trans ?_ (congrFun (Kernel5Ideal.Mlp.array m c) i).symm
  refine (congrArg (Reference5Ideal.Value.res_main_v35 m' c : Kernel5Ideal.S512x2048.Idx → EReal) (eq_ix2 i)).trans ?_
  refine (Reference5Ideal.Mlp.result_at m' c (i 0) (i 1)).trans ?_
  rw [h0, h1, h2, h3, h4]
  rfl

theorem algebraic : Cert.algebraic_Kernel5Ideal_Reference5Ideal (hKernel5Ideal := Kernel5Ideal.Gen.facts)
    (hReference5Ideal := Reference5Ideal.Gen.facts) := by
  intro m g m' g' _ hagree
  refine ⟨_, Kernel5Ideal.Mlp.run_array m g, θ_run_mono (Reference5Ideal.Value.run m' g') fun r hr c => ?_⟩
  obtain ⟨h0, h1, h2, h3, h4⟩ := hagree c
  obtain ⟨r0, ra⟩ := hr c
  exact ⟨r0.trans (result_eq m m' c h0 h1 h2 h3 h4), ra⟩

end Cert.SampleMlp

end
-- ==== Proof.SampleOutTile.lean ====
/-
  The output projection's arithmetic on half a tile, at the ideal instance, each step read at an index.
-/
module

public import proofs.«01_k».proof.Proof.Gen.Kernel6Ideal.Frame
public import proofs.«01_k».proof.Proof.OutSpec
public import Idealize.ShloMosaic.Lib.Pointwise

@[expose] public section

set_option maxRecDepth 8192

noncomputable section

namespace Cert.Kernel6Ideal.Out

open Idealize.ShloMosaic Idealize.ShloMosaic.TcCoe
open Cert.Kernel6Ideal Cert.Kernel6Ideal.Gen

/-- Eight heads side by side. -/
def heads (p : Fin 8 → FVec Ideal S1x256x128 .bf16) : FVec Ideal S256x1024 .bf16 :=
  concatenate S256x1024 1
    [⟨S256x128, shapeCast S256x128 (p 0) shapeCasts_S1x256x128_S256x128⟩, ⟨S256x128, shapeCast S256x128 (p 1) shapeCasts_S1x256x128_S256x128⟩,
      ⟨S256x128, shapeCast S256x128 (p 2) shapeCasts_S1x256x128_S256x128⟩, ⟨S256x128, shapeCast S256x128 (p 3) shapeCasts_S1x256x128_S256x128⟩,
      ⟨S256x128, shapeCast S256x128 (p 4) shapeCasts_S1x256x128_S256x128⟩, ⟨S256x128, shapeCast S256x128 (p 5) shapeCasts_S1x256x128_S256x128⟩,
      ⟨S256x128, shapeCast S256x128 (p 6) shapeCasts_S1x256x128_S256x128⟩, ⟨S256x128, shapeCast S256x128 (p 7) shapeCasts_S1x256x128_S256x128⟩]
    concatenates_S256x128_S256x128_S256x128_S256x128_S256x128_S256x128_S256x128_S256x128_S256x1024_d1

theorem heads_at (p : Fin 8 → S1x256x128.Idx → EReal) (r : Fin 256) (k : Fin 1024) :
    (heads p : S256x1024.Idx → EReal) (ix2 r k) = p (Cert.Outproj.head k) (ix3 0 r (Cert.Outproj.lane k)) := by
  have h := concatenate_ofFn_apply (t := S256x1024) (s₁ := S256x128) 1 (N := 8)
    (fun n : Fin 8 => (shapeCast S256x128 (p n) shapeCasts_S1x256x128_S256x128 : S256x128.Idx → EReal))
    concatenates_S256x128_S256x128_S256x128_S256x128_S256x128_S256x128_S256x128_S256x128_S256x1024_d1 rfl 128 rfl (ix2 r k)
    (Cert.Outproj.head k) rfl (ix2 r (Cert.Outproj.lane k)) rfl fun b hb => by
      match b with
      | ⟨0, _⟩ => rfl
      | ⟨1, _⟩ => exact absurd rfl hb
  refine Eq.trans h ?_
  generalize p (Cert.Outproj.head k) = q
  generalize Cert.Outproj.lane k = l
  pointwise

/-- Both products summed. -/
def mixed (a b : FVec Ideal S256x1024 .bf16) (wa wb : FVec Ideal S1024x2048 .bf16) : FVec Ideal S256x2048 .f32 :=
  addf
    (matmul dot_S256x1024_S1024x2048_S256x2048_1_0_0_1_n_n none a (shapeCast S1024x2048 wa shapeCasts_S1024x2048_S1024x2048) (constant S256x2048 .f32 0x00000000#32))
    (matmul dot_S256x1024_S1024x2048_S256x2048_1_0_0_1_n_n none b (shapeCast S1024x2048 wb shapeCasts_S1024x2048_S1024x2048) (constant S256x2048 .f32 0x00000000#32))

theorem mixed_at (a b : S256x1024.Idx → EReal) (wa wb : S1024x2048.Idx → EReal) (r : Fin 256) (e : Fin 2048) :
    (mixed a b wa wb : S256x2048.Idx → EReal) (ix2 r e)
      = Cert.Outproj.mix (fun k => a (ix2 r k)) (fun k => b (ix2 r k)) (fun k e => wa (ix2 k e)) (fun k e => wb (ix2 k e)) e := by
  pointwise [mixed, Cert.Outproj.mix]

/-- The rows scaled, with their gains, on top of what came in. -/
def scaledOn (x s : FVec Ideal S256x2048 .f32) (g : FVec Ideal S1x2048 .f32) : FVec Ideal S256x2048 .f32 :=
  addf (shapeCast S256x2048 x shapeCasts_S256x2048_S256x2048)
    (mulf
      (mulf s
        (broadcastTo S256x2048
          (rsqrt
            (addf
              (divf
                (shapeCast S256x1
                  (multiReduction .add [1] S256 (mulf s s) 0x00000000#32 reduces_S256x2048_S256 (.inl rfl) rfl)
                  shapeCasts_S256_S256x1)
                (broadcast S256x1 (Scalar.ofBits .f32 0x45000000#32)))
              (broadcast S256x1 (Scalar.ofBits .f32 0x358637BD#32))))
          broadcasts_S256x1_S256x2048))
      (broadcastTo S256x2048 (shapeCast S1x2048 g shapeCasts_S1x2048_S1x2048) broadcasts_S1x2048_S256x2048))

theorem scaledOn_at (x s : S256x2048.Idx → EReal) (g : S1x2048.Idx → EReal) (r : Fin 256) (k : Fin 2048) :
    (scaledOn x s g : S256x2048.Idx → EReal) (ix2 r k)
      = x (ix2 r k) + Cert.Mlp.normed (fun k => s (ix2 r k)) (fun k => g (ix2 0 k)) k := by
  pointwise [scaledOn, Cert.Mlp.normed, Cert.Mlp.scale]

/-- Head `i` of half a tile's rows, those from `o` on. -/
def piece (x : FVec Ideal S8x512x128 .bf16) (o : ℕ) (ho : o ≤ 256) (i : Fin 8) : FVec Ideal S1x256x128 .bf16 :=
  View.ld (Val := Elt Ideal) (e' := .bf16) x (Rect.unit (s := S8x512x128) ![i.val, o, 0] S1x256x128.size fun a => by
    match a with
    | ⟨0, _⟩ => show i.val + 1 ≤ 8; omega
    | ⟨1, _⟩ => show o + 256 ≤ 512; omega
    | ⟨2, _⟩ => show 0 + 128 ≤ 128; omega)

theorem piece_at (x : S8x512x128.Idx → EReal) (o : ℕ) (ho : o ≤ 256) (i : Fin 8) (r : Fin 256) (d : Fin 128) :
    (piece x o ho i : S1x256x128.Idx → EReal) (ix3 0 r d) = x (ix3 i ⟨o + r.val, by omega⟩ d) := by
  refine congrArg x (funext fun a => Fin.ext ?_)
  match a with
  | ⟨0, _⟩ => show i.val + 1 * 0 = i.val; omega
  | ⟨1, _⟩ => show o + 1 * r.val = o + r.val; omega
  | ⟨2, _⟩ => show 0 + 1 * d.val = d.val; omega

/-- Half a tile's result from the rows that come in, both sides' heads, the weights and the gains. -/
def half (x : FVec Ideal S256x2048 .f32) (a b : FVec Ideal S8x512x128 .bf16) (wa wb : FVec Ideal S1024x2048 .bf16) (g : FVec Ideal S1x2048 .f32)
    (o : ℕ) (ho : o ≤ 256) : FVec Ideal S256x2048 .f32 :=
  scaledOn x (mixed (heads (piece a o ho)) (heads (piece b o ho)) wa wb) g

theorem half_at (x : S256x2048.Idx → EReal) (a b : S8x512x128.Idx → EReal) (wa wb : S1024x2048.Idx → EReal) (g : S1x2048.Idx → EReal)
    (o : ℕ) (ho : o ≤ 256) (r : Fin 256) (e : Fin 2048) :
    (half x a b wa wb g o ho : S256x2048.Idx → EReal) (ix2 r e)
      = Cert.Outproj.result (fun k => x (ix2 r k))
          (fun k => a (ix3 (Cert.Outproj.head k) ⟨o + r.val, by omega⟩ (Cert.Outproj.lane k)))
          (fun k => b (ix3 (Cert.Outproj.head k) ⟨o + r.val, by omega⟩ (Cert.Outproj.lane k)))
          (fun k e => wa (ix2 k e)) (fun k e => wb (ix2 k e)) (fun k => g (ix2 0 k)) e := by
  unfold half Cert.Outproj.result
  rw [scaledOn_at]
  simp only [mixed_at, heads_at, piece_at]

variable (x0 : FVec Ideal S512x2048 .f32) (x1 x2 : FVec Ideal S8x512x128 .bf16) (x3 x4 : FVec Ideal S1024x2048 .bf16) (x5 : FVec Ideal S1x2048 .f32)

/-- The rows of half a tile, those from `o` on. -/
def rowsOf (x : FVec Ideal S512x2048 .f32) (o : ℕ) (ho : o ≤ 256) : FVec Ideal S256x2048 .f32 :=
  View.ld (Val := Elt Ideal) (e' := .f32) x (Rect.unit (s := S512x2048) ![o, 0] S256x2048.size fun a => by
    match a with
    | ⟨0, _⟩ => show o + 256 ≤ 512; omega
    | ⟨1, _⟩ => show 0 + 2048 ≤ 2048; omega)

theorem rowsOf_at (x : S512x2048.Idx → EReal) (o : ℕ) (ho : o ≤ 256) (r : Fin 256) (k : Fin 2048) :
    (rowsOf x o ho : S256x2048.Idx → EReal) (ix2 r k) = x (ix2 ⟨o + r.val, by omega⟩ k) := by
  refine congrArg x (funext fun a => Fin.ext ?_)
  match a with
  | ⟨0, _⟩ => show o + 1 * r.val = o + r.val; omega
  | ⟨1, _⟩ => show 0 + 1 * k.val = k.val; omega

/-- The body writes both halves. -/
theorem out_eq : out0_6 (F := Ideal) x0 x1 x2 x3 x4 x5
    = View.canon (Val := Elt Ideal) (e := .f32)
        [⟨r0_19, half (rowsOf x0 256 (by norm_num)) x1 x2 x3 x4 x5 256 (by norm_num)⟩,
          ⟨r0_9, half (rowsOf x0 0 (by norm_num)) x1 x2 x3 x4 x5 0 (by norm_num)⟩] := by
  have h3 : View.ld (Val := Elt Ideal) (e' := .bf16) x3 r0_8 = x3 := View.ld_unit_lit _ _ (by decide)
  have h4 : View.ld (Val := Elt Ideal) (e' := .bf16) x4 r0_8 = x4 := View.ld_unit_lit _ _ (by decide)
  have h5 : View.ld (Val := Elt Ideal) (e' := .f32) x5 r0_10 = x5 := View.ld_unit_lit _ _ (by decide)
  unfold out0_6
  rw [h3, h4, h5]
  rfl

/-- A row's result from what the windows hold. -/
def rowOut (r : Fin 512) (e : Fin 2048) : EReal :=
  Cert.Outproj.result (fun k => (x0 : S512x2048.Idx → EReal) (ix2 r k))
    (fun k => (x1 : S8x512x128.Idx → EReal) (ix3 (Cert.Outproj.head k) r (Cert.Outproj.lane k)))
    (fun k => (x2 : S8x512x128.Idx → EReal) (ix3 (Cert.Outproj.head k) r (Cert.Outproj.lane k)))
    (fun k e => (x3 : S1024x2048.Idx → EReal) (ix2 k e)) (fun k e => (x4 : S1024x2048.Idx → EReal) (ix2 k e))
    (fun k => (x5 : S1x2048.Idx → EReal) (ix2 0 k)) e

theorem half_row (o : ℕ) (ho : o ≤ 256) (r : Fin 256) (e : Fin 2048) :
    (half (rowsOf x0 o ho) x1 x2 x3 x4 x5 o ho : S256x2048.Idx → EReal) (ix2 r e) = rowOut x0 x1 x2 x3 x4 x5 ⟨o + r.val, by omega⟩ e := by
  rw [half_at]
  simp only [rowsOf_at]
  rfl

theorem out_at (r : Fin 512) (e : Fin 2048) : (out0_6 (F := Ideal) x0 x1 x2 x3 x4 x5 : S512x2048.Idx → EReal) (ix2 r e) = rowOut x0 x1 x2 x3 x4 x5 r e := by
  rw [out_eq]
  by_cases hr : r.val < 256
  · refine (View.canon_cons_of_not_mem _ _ ?_).trans ?_
    · show ix2 r e ∉ (Rect.unit (s := S512x2048) ![256, 0] S256x2048.size inb_S512x2048_S256x2048_256_0).set
      rw [Rect.mem_set_unit]
      intro h
      have : 256 ≤ r.val := (h 0).1
      omega
    · have hi : (ix2 r e : S512x2048.Idx) = r0_9.emb (ix2 ⟨r.val, hr⟩ e : S256x2048.Idx) := funext fun a => Fin.ext (by
        match a with
        | ⟨0, _⟩ => show r.val = 0 + 1 * r.val; omega
        | ⟨1, _⟩ => show e.val = 0 + 1 * e.val; omega)
      rw [hi]
      refine (View.canon_cons_emb r0_9 _ _ _).trans ((half_row x0 x1 x2 x3 x4 x5 0 _ ⟨r.val, hr⟩ e).trans ?_)
      exact congrArg (fun r => rowOut x0 x1 x2 x3 x4 x5 r e) (Fin.ext (Nat.zero_add _))
  · have hr' := r.isLt
    have hi : (ix2 r e : S512x2048.Idx) = r0_19.emb (ix2 ⟨r.val - 256, by omega⟩ e : S256x2048.Idx) := funext fun a => Fin.ext (by
      match a with
      | ⟨0, _⟩ => show r.val = 256 + 1 * (r.val - 256); omega
      | ⟨1, _⟩ => show e.val = 0 + 1 * e.val; omega)
    rw [hi]
    refine (View.canon_cons_emb r0_19 _ _ _).trans ((half_row x0 x1 x2 x3 x4 x5 256 _ ⟨r.val - 256, by omega⟩ e).trans ?_)
    exact congrArg (fun r => rowOut x0 x1 x2 x3 x4 x5 r e) (Fin.ext (by show 256 + (r.val - 256) = r.val; omega))

end Cert.Kernel6Ideal.Out

end
-- ==== Proof.SampleOutValue.lean ====
/-
  The output projection's result array: every point writes the rows of its tile, each the result of `Proof/OutSpec.lean`.
-/
module

public import proofs.«01_k».proof.Proof.Gen.Kernel6Ideal.Value
public import proofs.«01_k».proof.Proof.SampleOutTile
public import Idealize.ShloMosaic.Lib.StableHlo.ReadAt

@[expose] public section

set_option maxRecDepth 8192

noncomputable section

namespace Cert.Kernel6Ideal.Out

open Idealize.ShloMosaic Idealize.ShloMosaic.TcCoe Idealize.ShloMosaic.StableHlo
open Cert.Kernel6Ideal Cert.Kernel6Ideal.Gen

variable (m : (ℓ : Loc nD τ sig) → Buf (Elt Ideal) ℓ) (c : Dev nD)

def xIn : S32x16x2048.Idx → EReal := m ((c.tc : Thread nD τ).loc main_arg0)
def mixA : S8x512x128.Idx → EReal := m ((c.tc : Thread nD τ).loc main_arg1)
def mixB : S8x512x128.Idx → EReal := m ((c.tc : Thread nD τ).loc main_arg2)
def wOut : S1x2048x2048.Idx → EReal := m ((c.tc : Thread nD τ).loc main_arg3)
def gain : S1x2048.Idx → EReal := m ((c.tc : Thread nD τ).loc main_arg4)

/-! ### The arrays the launch finds -/

theorem arr_rows (r : Fin 512) (k : Fin 2048) :
    (V m c main_v6 : S512x2048.Idx → EReal) (ix2 r k) = xIn m c (ix3 ⟨r.val / 16, by omega⟩ ⟨r.val % 16, by omega⟩ k) := by
  unfold V
  after_reads_at
  rfl
theorem arr_gain (k : Fin 2048) : (V m c main_v8 : S1x2048.Idx → EReal) (ix2 0 k) = gain m c (ix2 0 k) := by
  unfold V
  after_reads_at
  rfl
theorem arr_first (k : Fin 1024) (e : Fin 2048) :
    (V m c main_v2 : S1024x2048.Idx → EReal) (ix2 k e) = wOut m c (ix3 0 (Cert.Outproj.first k) e) := by
  unfold V
  after_reads_at
  rfl
theorem arr_second (k : Fin 1024) (e : Fin 2048) :
    (V m c main_v5 : S1024x2048.Idx → EReal) (ix2 k e) = wOut m c (ix3 0 (Cert.Outproj.second k) e) := by
  unfold V
  after_reads_at
  rfl

/-! ### What a grid point finds -/

theorem lt_N (t : Fin cfg0.N) : t.val < 1 := lt_of_lt_of_eq t.isLt (show cfg0.N = 1 from N_0)

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = t.val ∧ win0_1.index t 2 = 0 :=
  (by decide +kernel : ∀ t : Fin grid0.N, _)
theorem index2 : ∀ t : Fin cfg0.N, win0_2.index t 0 = 0 ∧ win0_2.index t 1 = t.val ∧ win0_2.index t 2 = 0 :=
  (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)

/-- Row `r` of point `t`'s tile. -/
def tileRow (t : Fin cfg0.N) (r : Fin 512) : Fin 512 := ⟨t.val * 512 + r.val, by have := lt_N t; omega⟩

theorem block_rows (t : Fin cfg0.N) (r : Fin 512) (k : Fin 2048) :
    (iblk m c 0 t : S512x2048.Idx → EReal) (ix2 r k)
      = xIn m c (ix3 ⟨(tileRow t r).val / 16, by omega⟩ ⟨(tileRow t r).val % 16, by omega⟩ k) := by
  obtain ⟨h0, h1⟩ := index0 t
  refine Eq.trans (congrArg (V m c main_v6 : S512x2048.Idx → EReal) (funext fun a => Fin.ext ?_)) (arr_rows m c (tileRow t r) k)
  match a with
  | ⟨0, _⟩ => show win0_0.index t 0 * 512 + 1 * r.val = t.val * 512 + r.val; omega
  | ⟨1, _⟩ => show win0_0.index t 1 * 2048 + 1 * k.val = k.val; omega
theorem block_a (t : Fin cfg0.N) (h : Fin 8) (r : Fin 512) (d : Fin 128) :
    (iblk m c 1 t : S8x512x128.Idx → EReal) (ix3 h r d) = mixA m c (ix3 h (tileRow t r) d) := by
  obtain ⟨h0, h1, h2⟩ := index1 t
  refine Eq.trans (congrArg (V m c main_arg1 : S8x512x128.Idx → EReal) (funext fun a => Fin.ext ?_))
    (congrFun (V_main_arg1 m c) (ix3 h (tileRow t r) d))
  match a with
  | ⟨0, _⟩ => show win0_1.index t 0 * 8 + 1 * h.val = h.val; omega
  | ⟨1, _⟩ => show win0_1.index t 1 * 512 + 1 * r.val = t.val * 512 + r.val; omega
  | ⟨2, _⟩ => show win0_1.index t 2 * 128 + 1 * d.val = d.val; omega
theorem block_b (t : Fin cfg0.N) (h : Fin 8) (r : Fin 512) (d : Fin 128) :
    (iblk m c 2 t : S8x512x128.Idx → EReal) (ix3 h r d) = mixB m c (ix3 h (tileRow t r) d) := by
  obtain ⟨h0, h1, h2⟩ := index2 t
  refine Eq.trans (congrArg (V m c main_arg2 : S8x512x128.Idx → EReal) (funext fun a => Fin.ext ?_))
    (congrFun (V_main_arg2 m c) (ix3 h (tileRow t r) d))
  match a with
  | ⟨0, _⟩ => show win0_2.index t 0 * 8 + 1 * h.val = h.val; omega
  | ⟨1, _⟩ => show win0_2.index t 1 * 512 + 1 * r.val = t.val * 512 + r.val; omega
  | ⟨2, _⟩ => show win0_2.index t 2 * 128 + 1 * d.val = d.val; omega
theorem block_first (t : Fin cfg0.N) (k : Fin 1024) (e : Fin 2048) :
    (iblk m c 3 t : S1024x2048.Idx → EReal) (ix2 k e) = wOut m c (ix3 0 (Cert.Outproj.first k) e) := by
  obtain ⟨h0, h1⟩ := index3 t
  refine Eq.trans (congrArg (V m c main_v2 : S1024x2048.Idx → EReal) (funext fun a => Fin.ext ?_)) (arr_first m c k e)
  match a with
  | ⟨0, _⟩ => show win0_3.index t 0 * 1024 + 1 * k.val = k.val; omega
  | ⟨1, _⟩ => show win0_3.index t 1 * 2048 + 1 * e.val = e.val; omega
theorem block_second (t : Fin cfg0.N) (k : Fin 1024) (e : Fin 2048) :
    (iblk m c 4 t : S1024x2048.Idx → EReal) (ix2 k e) = wOut m c (ix3 0 (Cert.Outproj.second k) e) := by
  obtain ⟨h0, h1⟩ := index4 t
  refine Eq.trans (congrArg (V m c main_v5 : S1024x2048.Idx → EReal) (funext fun a => Fin.ext ?_)) (arr_second m c k e)
  match a with
  | ⟨0, _⟩ => show win0_4.index t 0 * 1024 + 1 * k.val = k.val; omega
  | ⟨1, _⟩ => show win0_4.index t 1 * 2048 + 1 * e.val = e.val; omega
theorem block_gain (t : Fin cfg0.N) (k : Fin 2048) : (iblk m c 5 t : S1x2048.Idx → EReal) (ix2 0 k) = gain m c (ix2 0 k) := by
  obtain ⟨h0, h1⟩ := index5 t
  refine Eq.trans (congrArg (V m c main_v8 : S1x2048.Idx → EReal) (funext fun a => Fin.ext ?_)) (arr_gain m c k)
  match a with
  | ⟨0, _⟩ => show win0_5.index t 0 * 1 + 1 * 0 = 0; omega
  | ⟨1, _⟩ => show win0_5.index t 1 * 2048 + 1 * k.val = k.val; omega

/-! ### The result -/

/-- A row's result. -/
def resultAt (r : Fin 512) (e : Fin 2048) : EReal :=
  Cert.Outproj.result (fun k => xIn m c (ix3 ⟨r.val / 16, by omega⟩ ⟨r.val % 16, by omega⟩ k))
    (fun k => mixA m c (ix3 (Cert.Outproj.head k) r (Cert.Outproj.lane k))) (fun k => mixB m c (ix3 (Cert.Outproj.head k) r (Cert.Outproj.lane k)))
    (fun k e => wOut m c (ix3 0 (Cert.Outproj.first k) e)) (fun k e => wOut m c (ix3 0 (Cert.Outproj.second k) e))
    (fun k => gain m c (ix2 0 k)) e

theorem written (t : Fin cfg0.N) (r : Fin 512) (e : Fin 2048) :
    (out0_6 (F := Ideal) (iblk m c 0 t) (iblk m c 1 t) (iblk m c 2 t) (iblk m c 3 t) (iblk m c 4 t) (iblk m c 5 t) : S512x2048.Idx → EReal) (ix2 r e)
      = resultAt m c (tileRow t r) e := by
  refine (out_at _ _ _ _ _ _ r e).trans ?_
  unfold rowOut resultAt
  simp only [block_rows, block_a, block_b, block_first, block_second, block_gain]

theorem array : (dats m 0 c).arrAt 6 cfg0.N = (fun i : S512x2048.Idx => resultAt m c (i 0) (i 1)) := by
  refine (dats m 0 c).arrAt_eq_of_cover 6 _ (fun t _ => ?_) fun i => ?_
  · obtain ⟨h0, h1⟩ := index6 t
    rw [Value.flushed6]
    funext j
    refine (congrArg (out0_6 (F := Ideal) (iblk m c 0 t) (iblk m c 1 t) (iblk m c 2 t) (iblk m c 3 t) (iblk m c 4 t) (iblk m c 5 t) :
      S512x2048.Idx → EReal) (eq_ix2 j)).trans ((written m c t (j 0) (j 1)).trans ?_)
    have e0 : tileRow t (j 0) = ((cfg0.win 6).blk t).view.emb j 0 :=
      Fin.ext (by show t.val * 512 + (j 0).val = win0_6.index t 0 * 512 + 1 * (j 0).val; omega)
    have e1 : (j 1 : Fin 2048) = ((cfg0.win 6).blk t).view.emb j 1 :=
      Fin.ext (by show (j 1).val = win0_6.index t 1 * 2048 + 1 * (j 1).val; omega)
    rw [View.read_apply]
    show _ = resultAt m c (((cfg0.win 6).blk t).view.emb j 0) (((cfg0.win 6).blk t).view.emb j 1)
    rw [← e0, ← e1]
  · have i0 : (i 0).val < 512 := (i 0).isLt
    have i1 : (i 1).val < 2048 := (i 1).isLt
    let t : Fin cfg0.N := ⟨(i 0).val / 512, by have : cfg0.N = 1 := N_0; omega⟩
    have htv : t.val = (i 0).val / 512 := rfl
    obtain ⟨h0, h1⟩ := index6 t
    refine ⟨t, flush0_6 t, ?_⟩
    show i ∈ ((View.whole main_v9).slice (win0_6.rect t)).set
    rw [View.set_slice_whole, Rect.mem_set_unit]
    intro a
    match a with
    | ⟨0, _⟩ => show win0_6.index t 0 * 512 ≤ (i 0).val ∧ (i 0).val < win0_6.index t 0 * 512 + 512; omega
    | ⟨1, _⟩ => show win0_6.index t 1 * 2048 ≤ (i 1).val ∧ (i 1).val < win0_6.index t 1 * 2048 + 2048; omega

end Cert.Kernel6Ideal.Out

end
-- ==== Proof.SampleOutRef.lean ====
/-
  What the output projection's reference computes, row by row.
-/
module

public import proofs.«01_k».proof.Proof.Gen.Reference6Ideal.Run
public import proofs.«01_k».proof.Proof.OutSpec
public import Idealize.ShloMosaic.Lib.Pointwise

@[expose] public section

set_option maxRecDepth 8192

noncomputable section

namespace Cert.Reference6Ideal.Out

open Idealize.ShloMosaic Idealize.ShloMosaic.TcCoe Idealize.SL.Sem
open Cert.Reference6Ideal Cert.Reference6Ideal.Gen Cert.Reference6Ideal.Value

/-- The heads of every token side by side. -/
def rows (a : FVec Ideal S8x512x128 .bf16) : FVec Ideal S32x16x1024 .f32 :=
  extf .f32 (shapeCast _ (transpose S512x8x128 [1, 0, 2] a transposes_S8x512x128_S512x8x128_1_0_2) shapeCasts_S512x8x128_S32x16x1024)
    bitsLt_bf16_f32

/-- Both sides' heads side by side. -/
def both (a b : FVec Ideal S8x512x128 .bf16) : FVec Ideal S32x16x2048 .f32 :=
  concatenate S32x16x2048 2 [⟨S32x16x1024, rows a⟩, ⟨S32x16x1024, rows b⟩] concatenates_S32x16x1024_S32x16x1024_S32x16x2048_d2

/-- The weights applied. -/
def weighted (x : FVec Ideal S32x16x2048 .f32) (w : FVec Ideal S1x2048x2048 .f32) : FVec Ideal S32x16x2048 .f32 :=
  Host.dotGeneral dot_S32x16x2048_S2048x2048_S32x16x2048_2_0_01_1_n_n none x (shapeCast _ w shapeCasts_S1x2048x2048_S2048x2048)

/-- The rows scaled, with their gains. -/
def scaled (x : FVec Ideal S32x16x2048 .f32) (g : FVec Ideal S1x2048 .f32) : FVec Ideal S32x16x2048 .f32 :=
  mulf
    (mulf x
      (broadcastInDim S32x16x2048 ![0, 1, 2] bcast_S32x16x1_S32x16x2048_0_1_2
        (Host.rsqrt
          (addf
            (Host.divf
              (broadcastInDim S32x16x1 ![0, 1] bcast_S32x16_S32x16x1_0_1
                (Host.reduceAdd (mulf x x) (constant S_ .f32 0x00000000#32) reducesTo_S32x16x2048_S32x16_d2 h_S_))
              (broadcastInDim S32x16x1 ![] bcast_S_S32x16x1 (constant S_ .f32 0x45000000#32)))
            (broadcastInDim S32x16x1 ![] bcast_S_S32x16x1 (constant S_ .f32 0x358637BD#32))))))
    (broadcastInDim S32x16x2048 ![0, 1, 2] bcast_S1x1x2048_S32x16x2048_0_1_2
      (broadcastInDim S1x1x2048 ![2] bcast_S2048_S1x1x2048_2 (shapeCast _ g shapeCasts_S1x2048_S2048)))

/-- A token's place among all of them, one sequence after the other. -/
def token (b : Fin 32) (t : Fin 16) : Fin 512 := ⟨b.val * 16 + t.val, by omega⟩

theorem rows_at (a : S8x512x128.Idx → EReal) (b : Fin 32) (t : Fin 16) (k : Fin 1024) :
    (rows a : S32x16x1024.Idx → EReal) (ix3 b t k) = a (ix3 (Cert.Outproj.head k) (token b t) (Cert.Outproj.lane k)) := by
  pointwise [rows]
  rfl

theorem both_first (a b : S8x512x128.Idx → EReal) (i : Fin 32) (t : Fin 16) (k : Fin 1024) :
    (both a b : S32x16x2048.Idx → EReal) (ix3 i t (Cert.Outproj.first k)) = a (ix3 (Cert.Outproj.head k) (token i t) (Cert.Outproj.lane k)) :=
  (concatenate_pair_apply_left (t := S32x16x2048) 2 (rows a) (rows b) _ _ rfl (ix3 i t k) fun x => by
    match x with
    | ⟨0, _⟩ => rfl
    | ⟨1, _⟩ => rfl
    | ⟨2, _⟩ => rfl).trans (rows_at a i t k)

theorem both_second (a b : S8x512x128.Idx → EReal) (i : Fin 32) (t : Fin 16) (k : Fin 1024) :
    (both a b : S32x16x2048.Idx → EReal) (ix3 i t (Cert.Outproj.second k)) = b (ix3 (Cert.Outproj.head k) (token i t) (Cert.Outproj.lane k)) :=
  (concatenate_pair_apply_right (t := S32x16x2048) 2 (rows a) (rows b) _ _ rfl rfl (ix3 i t k) (fun x hx => by
    match x with
    | ⟨0, _⟩ => rfl
    | ⟨1, _⟩ => rfl
    | ⟨2, _⟩ => exact absurd rfl hx) (Nat.add_comm _ _)).trans (rows_at b i t k)

theorem weighted_at (x : S32x16x2048.Idx → EReal) (w : S1x2048x2048.Idx → EReal) (b : Fin 32) (t : Fin 16) (e : Fin 2048) :
    (weighted x w : S32x16x2048.Idx → EReal) (ix3 b t e) = ∑ k : Fin 2048, x (ix3 b t k) * w (ix3 0 k e) := by
  pointwise [weighted]

theorem scaled_at (x : S32x16x2048.Idx → EReal) (g : S1x2048.Idx → EReal) (b : Fin 32) (t : Fin 16) (k : Fin 2048) :
    (scaled x g : S32x16x2048.Idx → EReal) (ix3 b t k) = Cert.Mlp.normed (fun k => x (ix3 b t k)) (fun k => g (ix2 0 k)) k := by
  pointwise [scaled, Cert.Mlp.normed, Cert.Mlp.scale]
  try rfl

variable (m : (ℓ : Loc nD τ sig) → Buf (Elt Ideal) ℓ) (c : Dev nD)

def xs : S32x16x2048.Idx → EReal := m ((c.tc : Thread nD τ).loc main_arg0)
def mixA : S8x512x128.Idx → EReal := m ((c.tc : Thread nD τ).loc main_arg1)
def mixB : S8x512x128.Idx → EReal := m ((c.tc : Thread nD τ).loc main_arg2)
def wOut : S1x2048x2048.Idx → EReal := m ((c.tc : Thread nD τ).loc main_arg3)
def gain : S1x2048.Idx → EReal := m ((c.tc : Thread nD τ).loc main_arg4)

/-- The result array. -/
def res : S512x2048.Idx → EReal :=
  shapeCast (s := S32x16x2048) S512x2048 (addf (F := Ideal) (φ := .f32) (xs m c) (scaled (weighted (both (mixA m c) (mixB m c)) (wOut m c)) (gain m c)))
    shapeCasts_S32x16x2048_S512x2048

theorem run (ρ : Dev nD → PrngReg) :
    θ_run defs (onTc (τ := τ) (main (F := Ideal))) ⟨m, fun _ => 0, ρ⟩ fun r => ∀ c : Dev nD,
      r.2.mem ((c.tc : Thread nD τ).loc main_v24) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

theorem result_at (r : Fin 512) (e : Fin 2048) :
    res m c (ix2 r e)
      = Cert.Outproj.result (fun k => xs m c (ix3 ⟨r.val / 16, by omega⟩ ⟨r.val % 16, by omega⟩ k))
          (fun k => mixA m c (ix3 (Cert.Outproj.head k) r (Cert.Outproj.lane k))) (fun k => mixB m c (ix3 (Cert.Outproj.head k) r (Cert.Outproj.lane k)))
          (fun k e => wOut m c (ix3 0 (Cert.Outproj.first k) e)) (fun k e => wOut m c (ix3 0 (Cert.Outproj.second k) e))
          (fun k => gain m c (ix2 0 k)) e := by
  have hr : token ⟨r.val / 16, by omega⟩ ⟨r.val % 16, by omega⟩ = r :=
    Fin.ext (by show r.val / 16 * 16 + r.val % 16 = r.val; omega)
  unfold res
  generalize hs : scaled (weighted (both (mixA m c) (mixB m c)) (wOut m c)) (gain m c) = s
  pointwise [Cert.Outproj.result]
  rw [← hs, scaled_at]
  simp only [weighted_at, Cert.Outproj.sum_halves, both_first, both_second, hr]
  rfl

end Cert.Reference6Ideal.Out

end
-- ==== Proof.SampleOutClaim.lean ====
/-
  The claims about the layer's output projection: the reference runs and leaves its arguments and every counter as they were, and
  kernel and reference have equal results, row by row those of `Proof/OutSpec.lean`.
-/
module

public import proofs.«01_k».proof.Defs
public import proofs.«01_k».proof.Proof.SampleOutValue
public import proofs.«01_k».proof.Proof.SampleOutRef
public import Idealize.ShloMosaic.Lib.Quiescent
public import Idealize.ShloMosaic.Lib.Claim

@[expose] public section

noncomputable section

namespace Cert.SampleOut

open Idealize.ShloMosaic Idealize.ShloMosaic.TcCoe Idealize.SL.Sem Idealize.ShloMosaic.StableHlo

/-- The reference has no semaphores. -/
theorem frame_ref : Cert.quiescent_Reference6Ideal (hReference6Ideal := Reference6Ideal.Gen.facts) := fun m ρ _ =>
  θ_run_mono (Reference6Ideal.Out.run m ρ) fun r hr => ⟨fun c => (hr c).2, sem_eq_zero_of_no_sems rfl r.2⟩

theorem result_eq (m : (ℓ : Loc Kernel6Ideal.nD Kernel6Ideal.τ Kernel6Ideal.sig) → Buf (Elt Ideal) ℓ)
    (m' : (ℓ : Loc Reference6Ideal.nD Reference6Ideal.τ Reference6Ideal.sig) → Buf (Elt Ideal) ℓ) (c : Dev Kernel6Ideal.nD)
    (h0 : Reference6Ideal.Out.xs m' c = Kernel6Ideal.Out.xIn m c) (h1 : Reference6Ideal.Out.mixA m' c = Kernel6Ideal.Out.mixA m c)
    (h2 : Reference6Ideal.Out.mixB m' c = Kernel6Ideal.Out.mixB m c) (h3 : Reference6Ideal.Out.wOut m' c = Kernel6Ideal.Out.wOut m c)
    (h4 : Reference6Ideal.Out.gain m' c = Kernel6Ideal.Out.gain m c) :
    (Reference6Ideal.Out.res m' c : Kernel6Ideal.S512x2048.Idx → EReal)
      = (Kernel6Ideal.Gen.dats m 0 c).arrAt 6 Kernel6Ideal.cfg0.N := by
  funext (i : Kernel6Ideal.S512x2048.Idx)
  refine Eq.trans ?_ (congrFun (Kernel6Ideal.Out.array m c) i).symm
  refine (congrArg (Reference6Ideal.Out.res m' c : Kernel6Ideal.S512x2048.Idx → EReal) (eq_ix2 i)).trans ?_
  refine (Reference6Ideal.Out.result_at m' c (i 0) (i 1)).trans ?_
  rw [h0, h1, h2, h3, h4]
  rfl

theorem algebraic : Cert.algebraic_Kernel6Ideal_Reference6Ideal (hKernel6Ideal := Kernel6Ideal.Gen.facts)
    (hReference6Ideal := Reference6Ideal.Gen.facts) := by
  intro m g m' g' _ hagree
  refine ⟨_, Kernel6Ideal.Value.run_blocks m g, θ_run_mono (Reference6Ideal.Out.run m' g') fun r hr c => ?_⟩
  obtain ⟨h0, h1, h2, h3, h4⟩ := hagree c
  obtain ⟨r0, ra⟩ := hr c
  exact ⟨r0.trans (result_eq m m' c h0 h1 h2 h3 h4), ra⟩

end Cert.SampleOut

end
-- ==== Proof.SampleHgrnChunk.lean ====
/-
  The kernel's step over a sample's sixteen tokens, as a function of their queries, log forgets and values and of the state
  before them, written once: at each grid point the kernel writes it out for eight heads. It is the step of `Chunk.lean` at
  sixteen rows, with four levels in place of seven; the states stay 128 × 128.
-/
module

public import proofs.«01_k».proof.Proof.Gen.Kernel7Ideal
public import Idealize.ShloMosaic.Lib.Pipeline.FrameBody

@[expose] public section

noncomputable section

namespace Cert.SampleHgrn.Chunk

open Idealize.ShloMosaic Cert.Kernel7Ideal Cert.Kernel7Ideal.Gen

variable {F : FTy → Type} [FloatOps F]

/-- A row of 128 floats for each token. -/
abbrev Mat (F : FTy → Type) := FVec F S16x128 .f32

/-- A float for each pair of tokens. -/
abbrev Pairs (F : FTy → Type) := FVec F S16x16 .f32

/-- A head's state. -/
abbrev State (F : FTy → Type) := FVec F S128x128 .f32

/-- The rows whose number has the bit `b`: those in the upper half of their block. -/
def up (b : BitVec 32) : IVec S16x128 1 :=
  cmpi .ne (andi (iota .tc S16x128 32 [0] iota_S16x128_d0_w32) (broadcast S16x128 b)) (broadcast S16x128 0#32)

/-- The level that separates row `r` from row `c ≤ r`, 0 on the diagonal; -1 above it. -/
def own : IVec S16x16 32 :=
  select (cmpi .sge (iota .tc S16x16 32 [0] iota_S16x16_d0_w32) (iota .tc S16x16 32 [1] iota_S16x16_d1_w32))
    (subi (broadcast S16x16 32#32)
      (ctlz (xori (iota .tc S16x16 32 [0] iota_S16x16_d0_w32) (iota .tc S16x16 32 [1] iota_S16x16_d1_w32))))
    (broadcast S16x16 4294967295#32)

/-- Row `a` of each block of eight rows, on all eight. -/
def row8 (a : ℕ) (h : S2x8x128.Slices ![0, a, 0] S2x1x128) (x : FVec F S2x8x128 .f32) : FVec F S2x8x128 .f32 :=
  broadcastTo S2x8x128
    (shapeCast S2x1x128 (extractStridedSlice S2x1x128 ![0, a, 0] x h) shapeCasts_S2x1x128_S2x1x128)
    broadcasts_S2x1x128_S2x8x128

/-- The rows of a block of eight from row `a` on. -/
def from8 (a : BitVec 32) : IVec S2x8x128 1 :=
  cmpi .sge (iota .tc S2x8x128 32 [1] iota_S2x8x128_d1_w32) (broadcast S2x8x128 a)

def split8 (x : Mat F) : FVec F S2x8x128 .f32 := shapeCast S2x8x128 x shapeCasts_S16x128_S2x8x128

/-- The last row of the lower half of each block of two rows, on both. -/
def mid1 (x : Mat F) : Mat F :=
  shapeCast S16x128
    (select (from8 6#32) (row8 6 slices_S2x8x128_o0_6_0_S2x1x128 (split8 x))
      (select (from8 4#32) (row8 4 slices_S2x8x128_o0_4_0_S2x1x128 (split8 x))
        (select (from8 2#32) (row8 2 slices_S2x8x128_o0_2_0_S2x1x128 (split8 x))
          (row8 0 slices_S2x8x128_o0_0_0_S2x1x128 (split8 x)))))
    shapeCasts_S2x8x128_S16x128

/-- The same for blocks of four rows, … -/
def mid2 (x : Mat F) : Mat F :=
  shapeCast S16x128
    (select (from8 4#32) (row8 5 slices_S2x8x128_o0_5_0_S2x1x128 (split8 x))
      (row8 1 slices_S2x8x128_o0_1_0_S2x1x128 (split8 x)))
    shapeCasts_S2x8x128_S16x128

/-- of eight, -/
def mid3 (x : Mat F) : Mat F :=
  shapeCast S16x128 (row8 3 slices_S2x8x128_o0_3_0_S2x1x128 (split8 x)) shapeCasts_S2x8x128_S16x128

/-- and of all sixteen. -/
def mid4 (x : Mat F) : Mat F :=
  shapeCast S16x128
    (broadcastTo S1x16x128
      (shapeCast S1x1x128 (extractStridedSlice S1x1x128 ![0, 7, 0] (shapeCast S1x16x128 x shapeCasts_S16x128_S1x16x128)
        slices_S1x16x128_o0_7_0_S1x1x128) shapeCasts_S1x1x128_S1x1x128)
      broadcasts_S1x1x128_S1x16x128)
    shapeCasts_S1x16x128_S16x128

/-- The running sums within the blocks of the next level. -/
def next (u : IVec S16x128 1) (mid pre : Mat F) : Mat F := select u (addf pre mid) pre

/-- The products of a level's scaled rows. -/
def gram (x : Mat F) : Pairs F :=
  matmul dot_S16x128_S16x128_S16x16_1_1_0_0_n_n none (truncf .bf16 x bitsLt_bf16_f32)
    (truncf .bf16 x bitsLt_bf16_f32)
    (constant S16x16 .f32 0x00000000#32)

/-- The scores with those of the pairs that level `n` separates. -/
def level (n : BitVec 32) (u : IVec S16x128 1) (q k mid pre : Mat F) (acc : Pairs F) : Pairs F :=
  select (cmpi .eq own (broadcast S16x16 n))
    (gram (mulf (select u q k) (exp2 (select u pre (subf mid pre))))) acc

/-- A token's key: one minus its forget. -/
def key (g : Mat F) : Mat F := subf (broadcast S16x128 (Scalar.ofBits .f32 0x3F800000#32)) (exp2 g)

def diag (q k : Mat F) : Pairs F :=
  select (cmpi .eq own (broadcast S16x16 0#32))
    (broadcastTo S16x16
      (shapeCast S16x1
        (shapeCast S16x1
          (multiReduction .add [1] S16 (mulf q k) 0x00000000#32 reduces_S16x128_S16 (.inl rfl) rfl)
          shapeCasts_S16_S16x1)
        shapeCasts_S16x1_S16x1)
      broadcasts_S16x1_S16x16)
    (broadcast S16x16 (Scalar.ofBits .f32 0x00000000#32))

def pre1 (g : Mat F) : Mat F := next (up 1#32) (mid1 g) g
def pre2 (g : Mat F) : Mat F := next (up 2#32) (mid2 (pre1 g)) (pre1 g)
def pre3 (g : Mat F) : Mat F := next (up 4#32) (mid3 (pre2 g)) (pre2 g)
/-- The running sum of the log forgets over the chunk. -/
def cum (g : Mat F) : Mat F := next (up 8#32) (mid4 (pre3 g)) (pre3 g)

def sc1 (q g : Mat F) : Pairs F := level 1#32 (up 1#32) q (key g) (mid1 g) g (diag q (key g))
def sc2 (q g : Mat F) : Pairs F := level 2#32 (up 2#32) q (key g) (mid2 (pre1 g)) (pre1 g) (sc1 q g)
def sc3 (q g : Mat F) : Pairs F := level 3#32 (up 4#32) q (key g) (mid3 (pre2 g)) (pre2 g) (sc2 q g)
/-- The scores of all pairs of the chunk's tokens. -/
def scores (q g : Mat F) : Pairs F := level 4#32 (up 8#32) q (key g) (mid4 (pre3 g)) (pre3 g) (sc3 q g)

/-- The chunk's outputs before the norm: from the state before it, and from the chunk itself. -/
def outRows (q g v : Mat F) (st : State F) : Mat F :=
  addf
    (matmul dot_S16x128_S128x128_S16x128_1_1_0_0_n_n none (truncf .bf16 (mulf q (exp2 (cum g))) bitsLt_bf16_f32)
      (truncf .bf16 st bitsLt_bf16_f32) (constant S16x128 .f32 0x00000000#32))
    (matmul dot_S16x16_S16x128_S16x128_1_0_0_1_n_n none (truncf .bf16 (scores q g) bitsLt_bf16_f32)
      (truncf .bf16 v bitsLt_bf16_f32) (constant S16x128 .f32 0x00000000#32))

def lastRow (g : Mat F) : FVec F S1x128 .f32 :=
  extractStridedSlice S1x128 ![15, 0] (cum g) slices_S16x128_o15_0_S1x128

/-- The state after the chunk. -/
def nextState (g v : Mat F) (st : State F) : State F :=
  addf
    (mulf st (broadcastTo S128x128 (exp2 (lastRow g)) broadcasts_S1x128_S128x128))
    (matmul dot_S16x128_S16x128_S128x128_0_0_1_1_n_n none (truncf .bf16 v bitsLt_bf16_f32)
      (truncf .bf16 (mulf (key g) (exp2 (subf (broadcastTo S16x128 (lastRow g) broadcasts_S1x128_S16x128) (cum g))))
        bitsLt_bf16_f32)
      (constant S128x128 .f32 0x00000000#32))

/-- The norm of the output rows, their gain and gate, as the kernel stores them. -/
def stored (gain : FVec F S1x128 .f32) (o gate : Mat F) : FVec F S1x16x128 .bf16 :=
  shapeCast S1x16x128
    (truncf .bf16
      (mulf
        (mulf
          (mulf o
            (broadcastTo S16x128
              (rsqrt
                (addf
                  (divf
                    (shapeCast S16x1
                      (multiReduction .add [1] S16 (mulf o o) 0x00000000#32 reduces_S16x128_S16 (.inl rfl) rfl)
                      shapeCasts_S16_S16x1)
                    (broadcast S16x1 (Scalar.ofBits .f32 0x43000000#32)))
                  (broadcast S16x1 (Scalar.ofBits .f32 0x358637BD#32))))
              broadcasts_S16x1_S16x128))
          (broadcastTo S16x128 gain broadcasts_S1x128_S16x128))
        gate)
      bitsLt_bf16_f32)
    shapeCasts_S16x128_S1x16x128

/-- A window of sixteen rows as a matrix. -/
def mat (x : Vec F S1x16x128 .f32) : Mat F := shapeCast S16x128 x shapeCasts_S1x16x128_S16x128

theorem inbRows (n : ℕ) : ∀ a, (![n % 8, 0, 0] : Fin 3 → ℕ) a + S1x16x128.size a ≤ S8x16x128.size a := by
  intro a
  match a with
  | ⟨0, _⟩ => show n % 8 + 1 ≤ 8; omega
  | ⟨1, _⟩ => show 0 + 16 ≤ 16; omega
  | ⟨2, _⟩ => show 0 + 128 ≤ 128; omega

theorem inbGain (n : ℕ) : ∀ a, (![n % 8, 0, 0] : Fin 3 → ℕ) a + S1x1x128.size a ≤ S8x1x128.size a := by
  intro a
  match a with
  | ⟨0, _⟩ => show n % 8 + 1 ≤ 8; omega
  | ⟨1, _⟩ => show 0 + 1 ≤ 1; omega
  | ⟨2, _⟩ => show 0 + 128 ≤ 128; omega

theorem inbState (n : ℕ) : ∀ a, (![n % 8, 0, 0] : Fin 3 → ℕ) a + S1x128x128.size a ≤ S8x128x128.size a := by
  intro a
  match a with
  | ⟨0, _⟩ => show n % 8 + 1 ≤ 8; omega
  | ⟨1, _⟩ => show 0 + 128 ≤ 128; omega
  | ⟨2, _⟩ => show 0 + 128 ≤ 128; omega

theorem inbLast (n : ℕ) : ∀ a, (![0, n % 8, 0, 0] : Fin 4 → ℕ) a + S1x1x128x128.size a ≤ S1x8x128x128.size a := by
  intro a
  match a with
  | ⟨0, _⟩ => show 0 + 1 ≤ 1; omega
  | ⟨1, _⟩ => show n % 8 + 1 ≤ 8; omega
  | ⟨2, _⟩ => show 0 + 128 ≤ 128; omega
  | ⟨3, _⟩ => show 0 + 128 ≤ 128; omega

/-- Head `n`'s rows of the window of all eight heads. -/
def rows (x : Vec F S8x16x128 .f32) (n : ℕ) : Vec F S1x16x128 .f32 :=
  View.ld x (Rect.unit ![n % 8, 0, 0] S1x16x128.size (inbRows n))

/-- Head `n`'s gain. -/
def gainAt (x : Vec F S8x1x128 .f32) (n : ℕ) : FVec F S1x128 .f32 :=
  shapeCast S1x128 (View.ld x (Rect.unit ![n % 8, 0, 0] S1x1x128.size (inbGain n)) : Vec F S1x1x128 .f32) shapeCasts_S1x1x128_S1x128

/-- The start states of the eight heads, as the kernel keeps them. -/
def kept (x : Vec F S1x8x128x128 .f32) : Vec F S8x128x128 .f32 :=
  shapeCast S8x128x128 (shapeCast S8x128x128 x shapeCasts_S1x8x128x128_S8x128x128) shapeCasts_S8x128x128_S8x128x128

/-- Head `n`'s start state. -/
def startAt (x : Vec F S1x8x128x128 .f32) (n : ℕ) : State F :=
  shapeCast S128x128 (View.ld (kept x) (Rect.unit ![n % 8, 0, 0] S1x128x128.size (inbState n)) : Vec F S1x128x128 .f32)
    shapeCasts_S1x128x128_S128x128

/-- What the kernel stores for head `n`, … -/
def storedAt (q g v gate : Vec F S8x16x128 .f32) (gain : Vec F S8x1x128 .f32) (n : ℕ) (st : State F) : FVec F S1x16x128 .bf16 :=
  stored (gainAt gain n) (outRows (mat (rows q n)) (mat (rows g n)) (mat (rows v n)) st) (mat (rows gate n))

/-- … and the state it leaves. -/
def stateAfter (g v : Vec F S8x16x128 .f32) (n : ℕ) (st : State F) : State F :=
  nextState (mat (rows g n)) (mat (rows v n)) st

end Cert.SampleHgrn.Chunk

end
-- ==== Proof.SampleHgrnTile.lean ====
/-
  What one grid point leaves in its two output windows, read off the run of the kernel's body: for each of the eight heads the
  step over the sample's tokens (`Chunk.storedAt`, `Chunk.stateAfter`), from the head's start state. The body keeps the states
  in one scratch buffer and stores each head's new state there before it loads the next head's: the rows are apart, so each
  load finds the start state.
-/
module

public import proofs.«01_k».proof.Proof.Gen.Kernel7Ideal.Value
public import proofs.«01_k».proof.Proof.SampleHgrnChunk
public import Idealize.ShloMosaic.Lib.Tactic
public import Idealize.ShloMosaic.Lib.Pipeline.Value
public import Idealize.ShloMosaic.Lib.Pipeline.ReadBack

@[expose] public section

set_option maxRecDepth 16384

noncomputable section

namespace Cert.SampleHgrn.Tile

open Idealize.ShloMosaic Cert.Kernel7Ideal Cert.Kernel7Ideal.Gen Cert.SampleHgrn.Chunk

variable {F : FTy → Type} [FloatOps F]

theorem hz4 : (![0, 0, 0, 0] : Fin 4 → Nat) = fun _ => 0 := funext fun a => by fin_cases a <;> rfl

/-- Head `n`'s rows of the scratch buffer. -/
abbrev row (n : ℕ) : Rect S8x128x128 := Rect.unit ![n % 8, 0, 0] S1x128x128.size (inbState n)

theorem row_disjoint {n k : ℕ} (hk : k < 8) (hn : n < k) : Disjoint (row n).set (row k).set := by
  rw [Finset.disjoint_left]
  intro i h1 h2
  rw [Rect.mem_set_unit] at h1 h2
  have a1 : n % 8 ≤ (i 0).val ∧ (i 0).val < n % 8 + 1 := h1 0
  have a2 : k % 8 ≤ (i 0).val ∧ (i 0).val < k % 8 + 1 := h2 0
  omega

section Loads

variable (v : View sig .tc .vmem S8x128x128 .f32) (Z : Vec F S8x128x128 .f32) (after : ℕ → State F → State F)

/-- The stores into the scratch buffer before head `n`'s load, the last one first. -/
def pieces : ℕ → List (View.Piece (Elt F) S8x128x128 .f32)
  | 0 => [⟨Rect.unit ![0, 0, 0] S8x128x128.size inb_S8x128x128_S8x128x128_0_0_0, Z⟩]
  | n + 1 => ⟨row n, (shapeCast S1x128x128 (after n
      (shapeCast S128x128 (View.readCov v (pieces n) (row n).toLoadRect : Vec F S1x128x128 .f32) shapeCasts_S1x128x128_S128x128))
        shapeCasts_S128x128_S1x128x128 : Vec F S1x128x128 .f32)⟩ :: pieces n

/-- The state that head `n` loads. -/
def loaded (n : ℕ) : State F :=
  shapeCast S128x128 (View.readCov v (pieces v Z after n) (row n).toLoadRect : Vec F S1x128x128 .f32) shapeCasts_S1x128x128_S128x128

theorem readCov_pieces (k : ℕ) (hk : k < 8) : ∀ n, n ≤ k → View.readCov v (pieces v Z after n) (row k).toLoadRect = View.ld Z (row k)
  | 0, _ => View.readCov_fill v inb_S8x128x128_S8x128x128_0_0_0 Z [] (row k) (fun a => by fin_cases a <;> rfl)
  | n + 1, h => by
    rw [pieces, View.readCov_cons_of_disjoint]
    · exact readCov_pieces k hk n (by omega)
    · exact row_disjoint hk h

theorem loaded_eq (n : ℕ) (hn : n < 8) :
    loaded v Z after n = shapeCast S128x128 (View.ld Z (row n) : Vec F S1x128x128 .f32) shapeCasts_S1x128x128_S128x128 := by
  unfold loaded
  rw [readCov_pieces v Z after n hn n (le_refl _)]

end Loads

/-- The first output window from the states that the heads load: what the eight heads store, the last one first. -/
def tileFrom (q g v gate : Vec F S8x16x128 .f32) (gain : Vec F S8x1x128 .f32) (st : ℕ → State F) : Vec F S8x16x128 .bf16 :=
  View.canon (List.ofFn fun k : Fin 8 =>
    ⟨Rect.unit ![(7 - k.val) % 8, 0, 0] S1x16x128.size (inbRows _), storedAt q g v gate gain (7 - k.val) (st (7 - k.val))⟩)

/-- The second output window: the states that the eight heads leave. -/
def lastFrom (g v : Vec F S8x16x128 .f32) (st : ℕ → State F) : Vec F S1x8x128x128 .f32 :=
  View.canon (List.ofFn fun k : Fin 8 =>
    ⟨Rect.unit ![0, (7 - k.val) % 8, 0, 0] S1x1x128x128.size (inbLast _),
      (shapeCast S1x1x128x128 (stateAfter g v (7 - k.val) (st (7 - k.val))) shapeCasts_S128x128_S1x1x128x128 : Vec F S1x1x128x128 .f32)⟩)

theorem tileFrom_congr (q g v gate : Vec F S8x16x128 .f32) (gain : Vec F S8x1x128 .f32) {st st' : ℕ → State F}
    (h : ∀ n, n < 8 → st n = st' n) : tileFrom q g v gate gain st = tileFrom q g v gate gain st' := by
  unfold tileFrom
  congr 2
  funext k
  rw [h (7 - k.val) (by omega)]

theorem lastFrom_congr (g v : Vec F S8x16x128 .f32) {st st' : ℕ → State F}
    (h : ∀ n, n < 8 → st n = st' n) : lastFrom g v st = lastFrom g v st' := by
  unfold lastFrom
  congr 2
  funext k
  rw [h (7 - k.val) (by omega)]

variable (c : Dev nD) (i : grid0.Coords)
  (arg3 : Memref sig .tc .vmem S8x16x128 .f32) (harg3 : arg3.IsWhole)
  (arg4 : Memref sig .tc .vmem S8x16x128 .f32) (harg4 : arg4.IsWhole)
  (arg5 : Memref sig .tc .vmem S8x16x128 .f32) (harg5 : arg5.IsWhole)
  (arg6 : Memref sig .tc .vmem S8x16x128 .f32) (harg6 : arg6.IsWhole)
  (arg7 : Memref sig .tc .vmem S8x1x128 .f32) (harg7 : arg7.IsWhole)
  (arg8 : Memref sig .tc .vmem S1x8x128x128 .f32) (harg8 : arg8.IsWhole)
  (arg9 : Memref sig .tc .vmem S8x16x128 .bf16) (harg9 : arg9.IsWhole)
  (arg10 : Memref sig .tc .vmem S1x8x128x128 .f32) (harg10 : arg10.IsWhole)
  (arg11 : Memref sig .tc .vmem S8x128x128 .f32) (harg11 : arg11.IsWhole)
  (x0 x1 x2 x3 : Vec F S8x16x128 .f32) (x4 : Vec F S8x1x128 .f32) (x5 : Vec F S1x8x128x128 .f32)
  (hc0 : cond0_0 i) (hc1 : cond0_1 i) (hc2 : cond0_2 i) (hc3 : cond0_3 i) (hc4 : cond0_4 i) (hc5 : cond0_5 i) (hc6 : cond0_6 i)
  (hc7 : cond0_7 i) (hc8 : cond0_8 i)

/-- The states as the body loads them. -/
def read : ℕ → State F :=
  loaded arg11.view
    (kept (View.ld (arg8.view.read (Elt F) (harg8.unread x5)) (Rect.unit ![0, 0, 0, 0] S1x8x128x128.size inb_S1x8x128x128_S1x8x128x128_0_0_0_0)))
    (stateAfter (arg4.view.read (Elt F) (harg4.unread x1)) (arg5.view.read (Elt F) (harg5.unread x2)))

theorem read_eq (n : ℕ) (hn : n < 8) : read arg4 harg4 arg5 harg5 arg8 harg8 arg11 x1 x2 x5 n = startAt x5 n := by
  unfold read
  rw [loaded_eq _ _ _ n hn, harg8.read_unread, View.ld_unit_zero (S := S1x8x128x128) hz4]
  rfl

theorem out6 :
    out0_A_6 c i arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5
      = tileFrom x0 x1 x2 x3 x4 (startAt x5) := by
  unfold out0_A_6
  rw [View.read_writes_eq_canon _ _ _ (cover0_A_6 c i arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5)]
  trans tileFrom (arg3.view.read (Elt F) (harg3.unread x0)) (arg4.view.read (Elt F) (harg4.unread x1)) (arg5.view.read (Elt F) (harg5.unread x2))
    (arg6.view.read (Elt F) (harg6.unread x3)) (arg7.view.read (Elt F) (harg7.unread x4))
    (read arg4 harg4 arg5 harg5 arg8 harg8 arg11 x1 x2 x5)
  · rfl
  · rw [tileFrom_congr _ _ _ _ _ (read_eq arg4 harg4 arg5 harg5 arg8 harg8 arg11 x1 x2 x5)]
    simp only [harg3.read_unread, harg4.read_unread, harg5.read_unread, harg6.read_unread, harg7.read_unread]

theorem out7 :
    out0_A_7 c i arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5
      = lastFrom x1 x2 (startAt x5) := by
  unfold out0_A_7
  rw [View.read_writes_eq_canon _ _ _ (cover0_A_7 c i arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5)]
  trans lastFrom (arg4.view.read (Elt F) (harg4.unread x1)) (arg5.view.read (Elt F) (harg5.unread x2))
    (read arg4 harg4 arg5 harg5 arg8 harg8 arg11 x1 x2 x5)
  · rfl
  · rw [lastFrom_congr _ _ (read_eq arg4 harg4 arg5 harg5 arg8 harg8 arg11 x1 x2 x5)]
    simp only [harg4.read_unread, harg5.read_unread]

end Cert.SampleHgrn.Tile

end
-- ==== Proof.SampleHgrnMasks.lean ====
/-
  The kernel's row and pair masks at sixteen rows, as statements about row numbers.
-/
module

public import proofs.«01_k».proof.Proof.SampleHgrnChunk
public import proofs.«01_k».proof.Proof.Masks
public import Idealize.ShloMosaic.Lib.Pointwise

@[expose] public section

noncomputable section

namespace Cert.SampleHgrn.Chunk

open Idealize.ShloMosaic Cert.Kernel7Ideal Cert.Kernel7Ideal.Gen

/-- Bit `l` of a row's number tells whether it lies in the upper half of its block of `2 ^ (l + 1)` rows. -/
theorem up_at (l : Fin 4) (r : Fin 16) (d : Fin 128) :
    up (BitVec.ofNat 32 (2 ^ l.val)) (ix2 r d) = if r.val / 2 ^ l.val % 2 = 1 then 1#1 else 0#1 := by
  pointwise [up]
  revert l r
  decide +kernel

/-- The pairs that level `l + 1` owns: the earlier token in the lower half and the later in the upper half of one block. -/
theorem own_level (l : Fin 4) (r c : Fin 16) :
    own (ix2 r c) = BitVec.ofNat 32 (l.val + 1) ↔ (c.val ≤ r.val ∧ r.val / 2 ^ (l.val + 1) = c.val / 2 ^ (l.val + 1)
      ∧ r.val / 2 ^ l.val % 2 = 1 ∧ c.val / 2 ^ l.val % 2 = 0) := by
  pointwise [own]
  revert l r c
  decide +kernel

theorem own_diag (r c : Fin 16) : own (ix2 r c) = 0#32 ↔ r = c := by
  pointwise [own]
  revert r c
  decide +kernel

end Cert.SampleHgrn.Chunk

end
-- ==== Proof.SampleHgrnReal.lean ====
/-
  The kernel's step over a sample's tokens, read at the ideal instance on real inputs: its levels' running sums, scores,
  output rows and next state are the recurrence's (`Recurrence.lean`).
-/
module

public import proofs.«01_k».proof.Proof.SampleHgrnMasks
public import proofs.«01_k».proof.Proof.ChunkReal
public import proofs.«01_k».proof.Proof.Spec
public import Idealize.ShloMosaic.Lib.Pointwise

@[expose] public section

noncomputable section

namespace Cert.SampleHgrn.Chunk

open Idealize.ShloMosaic Cert.Kernel7Ideal Cert.Kernel7Ideal.Gen
open Cert.KernelIdeal.Chunk (select_one select_zero select_eq select_ne from8_at exp2_real)

/-- The block's entries are the reals `X`. -/
def Reals (x : Mat Ideal) (X : ℕ → Fin 128 → ℝ) : Prop := ∀ (r : Fin 16) (d : Fin 128), x (ix2 r d) = ((X r d : ℝ) : EReal)

/-! ### The middle rows -/

theorem reals_at {x : Mat Ideal} {X : ℕ → Fin 128 → ℝ} (h : Reals x X) {n m : ℕ} (hn : n < 16) (e : n = m) (d : Fin 128) :
    x (ix2 ⟨n, hn⟩ d) = ((X m d : ℝ) : EReal) := by
  subst e; exact h ⟨n, hn⟩ d

section Mids

variable {x : Mat Ideal} {X : ℕ → Fin 128 → ℝ} (h : Reals x X)
include h

theorem mid1_real : Reals (mid1 x) fun r => X (Hgrn.midRow 0 r) := by
  intro r d
  pointwise [mid1, from8, row8, split8]
  have h6 := from8_at ⟨r.val % 8, by omega⟩ 6
  have h4 := from8_at ⟨r.val % 8, by omega⟩ 4
  have h2 := from8_at ⟨r.val % 8, by omega⟩ 2
  simp only [show ((6 : Fin 8) : ℕ) = 6 from rfl, show ((4 : Fin 8) : ℕ) = 4 from rfl, show ((2 : Fin 8) : ℕ) = 2 from rfl] at h6 h4 h2
  rw [h6, h4, h2]
  unfold Hgrn.midRow
  split_ifs <;> simp only [select_one, select_zero] <;> refine reals_at h _ ?_ d <;> simp only [Nat.reduceAdd, Nat.reducePow] <;> omega

theorem mid2_real : Reals (mid2 x) fun r => X (Hgrn.midRow 1 r) := by
  intro r d
  pointwise [mid2, from8, row8, split8]
  have h4 := from8_at ⟨r.val % 8, by omega⟩ 4
  simp only [show ((4 : Fin 8) : ℕ) = 4 from rfl] at h4
  rw [h4]
  unfold Hgrn.midRow
  split_ifs <;> simp only [select_one, select_zero] <;> refine reals_at h _ ?_ d <;> simp only [Nat.reduceAdd, Nat.reducePow] <;> omega

theorem mid3_real : Reals (mid3 x) fun r => X (Hgrn.midRow 2 r) := by
  intro r d
  pointwise [mid3, row8, split8]
  refine reals_at h _ ?_ d
  unfold Hgrn.midRow; simp only [Nat.reduceAdd, Nat.reducePow]; omega

theorem mid4_real : Reals (mid4 x) fun r => X (Hgrn.midRow 3 r) := by
  intro r d
  pointwise [mid4]
  refine (congrArg x ?_).trans (reals_at h (n := 7) (by omega) ?_ d)
  · rfl
  · unfold Hgrn.midRow; simp only [Nat.reduceAdd, Nat.reducePow]; omega

end Mids

/-! ### The running sums -/

theorem next_real (l : Fin 4) {p m : Mat Ideal} {g : ℕ → Fin 128 → ℝ} (hp : Reals p (Hgrn.pre g l))
    (hm : Reals m fun r => Hgrn.pre g l (Hgrn.midRow l r)) :
    Reals (next (up (BitVec.ofNat 32 (2 ^ l.val))) m p) (Hgrn.pre g (l + 1)) := by
  intro r d
  pointwise [next]
  rw [up_at]
  split_ifs with hu
  · simp only [select_one]
    rw [hp, hm, ← EReal.coe_add, Hgrn.pre_succ_upper g _ _ _ hu]
  · simp only [select_zero]
    rw [hp, Hgrn.pre_succ_lower g _ _ _ (by omega)]

/-- After four levels the running sum starts at the first of sixteen tokens. -/
theorem pre_four (g : ℕ → Fin 128 → ℝ) (r : ℕ) (d : Fin 128) (h : r < 16) : Hgrn.pre g 4 r d = Hgrn.G g (r + 1) d := by
  unfold Hgrn.pre
  rw [show r / 2 ^ 4 = 0 from Nat.div_eq_of_lt h]
  simp [Hgrn.G]

section Pres

variable {g : Mat Ideal} {G : ℕ → Fin 128 → ℝ} (h : Reals g G)
include h

theorem pre0_real : Reals g (Hgrn.pre G 0) := fun r d => by rw [Hgrn.pre_zero]; exact h r d
theorem pre1_real : Reals (pre1 g) (Hgrn.pre G 1) := next_real 0 (pre0_real h) (mid1_real (pre0_real h))
theorem pre2_real : Reals (pre2 g) (Hgrn.pre G 2) := next_real 1 (pre1_real h) (mid2_real (pre1_real h))
theorem pre3_real : Reals (pre3 g) (Hgrn.pre G 3) := next_real 2 (pre2_real h) (mid3_real (pre2_real h))
theorem cum_real : Reals (cum g) fun r => Hgrn.G G (r + 1) := by
  intro r d
  exact (next_real 3 (pre3_real h) (mid4_real (pre3_real h)) r d).trans (by show _ = ((Hgrn.G G (r + 1) d : ℝ) : EReal); rw [← pre_four G r d r.isLt]; rfl)

theorem key_real : Reals (key g) fun r d => 1 - Hgrn.E (G r d) := by
  intro r d
  pointwise [key]
  rw [h, exp2_real, ← EReal.coe_one, ← EReal.coe_sub]

end Pres

/-! ### The scores -/

/-- The scores of the pairs within the blocks of `2 ^ n` tokens. -/
def Scored (n : ℕ) (acc : Pairs Ideal) (q g : ℕ → Fin 128 → ℝ) : Prop :=
  ∀ r c : Fin 16, acc (ix2 r c)
    = (((if c.val ≤ r.val ∧ r.val / 2 ^ n = c.val / 2 ^ n then Hgrn.score q g r c else 0 : ℝ)) : EReal)

theorem diag_real {q k : Mat Ideal} {Q g : ℕ → Fin 128 → ℝ} (hq : Reals q Q) (hk : Reals k fun r d => 1 - Hgrn.E (g r d)) :
    Scored 0 (diag q k) Q g := by
  intro r c
  pointwise [diag]
  by_cases hrc : r = c
  · subst hrc
    rw [select_eq ((own_diag r r).2 rfl)]
    simp only [hq r, hk r, ← EReal.coe_mul, ← Hgrn.coe_sum, Hgrn.score, le_refl, true_and, if_true, sub_self, Hgrn.E_zero, mul_one]
  · rw [select_ne (fun h => hrc ((own_diag r c).1 h)), if_neg (fun h => hrc (Fin.ext (by simpa using h.2))), EReal.coe_zero]

/-- The scaled row of a token. -/
theorem scaled_real (l : Fin 4) {q k p m : Mat Ideal} {Q K g : ℕ → Fin 128 → ℝ} (hq : Reals q Q) (hk : Reals k K)
    (hp : Reals p (Hgrn.pre g l)) (hm : Reals m fun r => Hgrn.pre g l (Hgrn.midRow l r)) :
    Reals (mulf (select (up (BitVec.ofNat 32 (2 ^ l.val))) q k)
        (exp2 (select (up (BitVec.ofNat 32 (2 ^ l.val))) p (subf m p))))
      fun r d => if r / 2 ^ l.val % 2 = 1 then Q r d * Hgrn.E (Hgrn.pre g l r d)
        else K r d * Hgrn.E (Hgrn.pre g l (Hgrn.midRow l r) d - Hgrn.pre g l r d) := by
  intro r d
  pointwise
  rw [up_at]
  split_ifs with hu
  · simp only [select_one]
    rw [hq, hp, exp2_real, ← EReal.coe_mul]
  · simp only [select_zero]
    rw [hk, hp, hm, ← EReal.coe_sub, exp2_real, ← EReal.coe_mul]

theorem level_real (l : Fin 4) {q k p m : Mat Ideal} {acc : Pairs Ideal} {Q g : ℕ → Fin 128 → ℝ} (hq : Reals q Q)
    (hk : Reals k fun r d => 1 - Hgrn.E (g r d)) (hp : Reals p (Hgrn.pre g l))
    (hm : Reals m fun r => Hgrn.pre g l (Hgrn.midRow l r)) (ha : Scored l acc Q g) :
    Scored (l + 1) (level (BitVec.ofNat 32 (l.val + 1)) (up (BitVec.ofNat 32 (2 ^ l.val))) q k m p acc) Q g := by
  intro r c
  have hs := scaled_real l hq hk hp hm
  pointwise [level]
  by_cases ho : own (ix2 r c) = BitVec.ofNat 32 (l.val + 1)
  · rw [select_eq ho]
    obtain ⟨h1, h2, h3, h4⟩ := (own_level l r c).1 ho
    have : ∀ x : Mat Ideal, gram x (ix2 r c) = ∑ d : Fin 128, x (ix2 r d) * x (ix2 c d) := fun x => by pointwise [gram]
    rw [if_pos ⟨h1, h2⟩]
    refine (this _).trans ?_
    simp only [hs r, hs c, if_pos h3, h4, zero_ne_one, if_false, ← EReal.coe_mul, ← Hgrn.coe_sum, Hgrn.score, if_pos h1]
    congr 1
    refine Finset.sum_congr rfl fun d _ => ?_
    rw [← Hgrn.level_pair g l r c d h2 h3 h4]
    ring
  · rw [select_ne ho, ha]
    have : (c.val ≤ r.val ∧ r.val / 2 ^ l.val = c.val / 2 ^ l.val)
        ↔ (c.val ≤ r.val ∧ r.val / 2 ^ (l.val + 1) = c.val / 2 ^ (l.val + 1)) := by
      have hn := mt (own_level l r c).2 ho
      rw [pow_succ, ← Nat.div_div_eq_div_mul, ← Nat.div_div_eq_div_mul] at hn ⊢
      have hle : c.val ≤ r.val → c.val / 2 ^ l.val ≤ r.val / 2 ^ l.val := fun h => Nat.div_le_div_right h
      generalize c.val / 2 ^ l.val = a at hn hle ⊢
      generalize r.val / 2 ^ l.val = b at hn hle ⊢
      omega
    simp only [this]

section Chunks

variable {q g v : Mat Ideal} {st : State Ideal} {Q G V : ℕ → Fin 128 → ℝ} {S : Fin 128 → Fin 128 → ℝ}

theorem scores_real (hq : Reals q Q) (hg : Reals g G) (r c : Fin 16) :
    scores q g (ix2 r c) = ((Hgrn.score Q G r c : ℝ) : EReal) := by
  have hk := key_real hg
  have s1 : Scored 1 (sc1 q g) Q G := level_real 0 hq hk (pre0_real hg) (mid1_real (pre0_real hg)) (diag_real hq hk)
  have s2 : Scored 2 (sc2 q g) Q G := level_real 1 hq hk (pre1_real hg) (mid2_real (pre1_real hg)) s1
  have s3 : Scored 3 (sc3 q g) Q G := level_real 2 hq hk (pre2_real hg) (mid3_real (pre2_real hg)) s2
  have s4 : Scored 4 (scores q g) Q G := level_real 3 hq hk (pre3_real hg) (mid4_real (pre3_real hg)) s3
  rw [s4 r c]
  congr 1
  by_cases h : c.val ≤ r.val
  · rw [if_pos ⟨h, by rw [show r.val / 2 ^ 4 = 0 from Nat.div_eq_of_lt r.isLt, show c.val / 2 ^ 4 = 0 from Nat.div_eq_of_lt c.isLt]⟩]
  · simp [Hgrn.score, h]

/-- The state's block is transposed: rows are the value's features. -/
def StateReals (st : State Ideal) (S : Fin 128 → Fin 128 → ℝ) : Prop := ∀ e d : Fin 128, st (ix2 e d) = ((S d e : ℝ) : EReal)

theorem outRows_real (hq : Reals q Q) (hg : Reals g G) (hv : Reals v V) (hs : StateReals st S) :
    Reals (outRows q g v st) (Hgrn.out Q G V S) := by
  intro r e
  pointwise [outRows]
  simp only [hq r, cum_real hg r, hs e, scores_real hq hg r, hv _ e, exp2_real, ← EReal.coe_mul, ← Hgrn.coe_sum, ← EReal.coe_add]
  rw [Hgrn.out_closed Q G V S 16 r r.isLt e, Finset.sum_range]

theorem nextState_real (hg : Reals g G) (hv : Reals v V) (hs : StateReals st S) :
    StateReals (nextState g v st) (Hgrn.state G V S 16) := by
  intro e d
  pointwise [nextState, lastRow]
  simp only [hs e, cum_real hg _ d, hv _ e, key_real hg _ d, exp2_real, ← EReal.coe_mul, ← EReal.coe_sub, ← Hgrn.coe_sum, ← EReal.coe_add]
  rw [Hgrn.state_closed G V S d e 16, Finset.sum_range, mul_comm (S d e)]
  congr 2
  exact Finset.sum_congr rfl fun c _ => by
    show _ = Hgrn.E (Hgrn.G G 16 d - Hgrn.G G (c + 1) d) * (1 - Hgrn.E (G c d)) * V c e
    rw [mul_comm (V c e), mul_comm (1 - _)]; rfl

end Chunks

end Cert.SampleHgrn.Chunk

end
-- ==== Proof.SampleHgrnSpec.lean ====
/-
  The recurrence of the sample's rows: 33 sequences of 16 tokens (the meta tokens and the 32 sampled ones), each from a
  state of its own. The recurrence itself and the norm are those of `Proof/Recurrence.lean` and `Proof/Spec.lean`.
-/
module

public import proofs.«01_k».proof.Proof.Spec
public import Idealize.ShloMosaic.PureOps.Ideal
public import Idealize.ShloMosaic.Lib.Pointwise

@[expose] public section

noncomputable section

namespace Cert.SampleHgrn

open Idealize.ShloMosaic Cert.Hgrn

/-- The projected inputs: 56 planes (eight heads of queries, of log forgets, of values, of gates, and 24 that this part
    does not read) of a row per token, the sequences one after the other. -/
abbrev Planes := (⟨3, ![56, 528, 128]⟩ : Shape).Idx → EReal
abbrev Gains := (⟨3, ![8, 1, 128]⟩ : Shape).Idx → EReal
/-- The states at the start, each transposed. -/
abbrev Start := (⟨4, ![33, 8, 128, 128]⟩ : Shape).Idx → EReal

def plane (o : ℕ) (ho : o ≤ 24) (h : Fin 8) : Fin 56 := ⟨o + h.val, by have := h.isLt; omega⟩
/-- The row of token `t` of sequence `b`. -/
def tok (b : Fin 33) (t : Fin 16) : Fin 528 := ⟨b.val * 16 + t.val, by have := b.isLt; have := t.isLt; omega⟩

/-- Plane `o + h`'s rows of sequence `b`, as reals; 0 past its end. -/
def seqOf (z : Planes) (o : ℕ) (ho : o ≤ 24) (h : Fin 8) (b : Fin 33) (t : ℕ) (d : Fin 128) : ℝ :=
  if ht : t < 16 then (z (ix3 (plane o ho h) (tok b ⟨t, ht⟩) d)).toReal else 0

def startOf (s0 : Start) (h : Fin 8) (b : Fin 33) (d e : Fin 128) : ℝ := (s0 (ix4 b h e d)).toReal

/-- The numbers of the planes that the recurrence reads, and of the start, are real. -/
structure Finite (z : Planes) (s0 : Start) : Prop where
  planes : ∀ (o : Fin 56) (r : Fin 528) (d : Fin 128), o.val < 24 → ∃ x : ℝ, z (ix3 o r d) = x
  start : ∀ (b : Fin 33) (h : Fin 8) (e d : Fin 128), ∃ x : ℝ, s0 (ix4 b h e d) = x

theorem Finite.seq {z : Planes} {s0 : Start} (hf : Finite z s0) (o : ℕ) (ho : o ≤ 16) (h : Fin 8) (b : Fin 33) (t : Fin 16)
    (d : Fin 128) : z (ix3 (plane o (by omega) h) (tok b t) d) = ((seqOf z o (by omega) h b t d : ℝ) : EReal) := by
  obtain ⟨x, hx⟩ := hf.planes (plane o (by omega) h) (tok b t) d (by have := h.isLt; simp only [plane]; omega)
  rw [seqOf, dif_pos t.isLt, hx, EReal.toReal_coe]

theorem Finite.startAt {z : Planes} {s0 : Start} (hf : Finite z s0) (h : Fin 8) (b : Fin 33) (d e : Fin 128) :
    s0 (ix4 b h e d) = ((startOf s0 h b d e : ℝ) : EReal) := by
  obtain ⟨x, hx⟩ := hf.start b h e d
  rw [startOf, hx, EReal.toReal_coe]

/-- The state of head `h` of sequence `b` after `n` tokens. -/
def stateAt (z : Planes) (s0 : Start) (h : Fin 8) (b : Fin 33) : ℕ → Fin 128 → Fin 128 → ℝ :=
  state (seqOf z 8 (by omega) h b) (seqOf z 16 (by omega) h b) (startOf s0 h b)

/-- Token `t`'s output before the norm. -/
def outAt (z : Planes) (s0 : Start) (h : Fin 8) (b : Fin 33) : ℕ → Fin 128 → ℝ :=
  out (seqOf z 0 (by omega) h b) (seqOf z 8 (by omega) h b) (seqOf z 16 (by omega) h b) (startOf s0 h b)

/-- Token `t`'s output. -/
def result (z : Planes) (gain : Gains) (s0 : Start) (h : Fin 8) (b : Fin 33) (t : Fin 16) (e : Fin 128) : EReal :=
  normed (fun j => ((outAt z s0 h b t j : ℝ) : EReal)) (gain (ix3 h 0 e)) (z (ix3 (plane 24 (by omega) h) (tok b t) e)) e

end Cert.SampleHgrn

end
-- ==== Proof.SampleHgrnValue.lean ====
/-
  The kernel's two results on the sample's rows, entry by entry: grid point `b` takes the sixteen tokens of sequence `b`, for all
  eight heads, and leaves their outputs and each head's state after the last of them.
-/
module

public import proofs.«01_k».proof.Proof.SampleHgrnTile
public import proofs.«01_k».proof.Proof.SampleHgrnReal
public import proofs.«01_k».proof.Proof.SampleHgrnSpec
public import Idealize.ShloMosaic.Lib.Pipeline.ValueKit.Tiles

@[expose] public section

noncomputable section

namespace Cert.SampleHgrn.Result

open Idealize.ShloMosaic Idealize.ShloMosaic.TcCoe Cert.Kernel7Ideal Cert.Kernel7Ideal.Gen Cert.SampleHgrn.Chunk Cert.SampleHgrn.Tile

/-! ### The two windows at an index -/

theorem stored_at (g : FVec Ideal S1x128 .f32) (o gate : Mat Ideal) (r : Fin 16) (e : Fin 128) :
    (stored g o gate (ix3 0 r e) : EReal) = Hgrn.normed (fun j => o (ix2 r j)) (g (ix2 0 e)) (gate (ix2 r e)) e := by
  pointwise [stored, Hgrn.normed]

theorem rows_at (x : Vec Ideal S8x16x128 .f32) (h : Fin 8) (r : Fin 16) (d : Fin 128) :
    (mat (rows x h.val) (ix2 r d) : EReal) = x (ix3 h r d) := by
  pointwise [mat, rows]
  exact congrArg x (congrArg (fun k : Fin 8 => (ix3 k r d : S8x16x128.Idx)) (Fin.ext (Nat.mod_eq_of_lt h.isLt)))

theorem gain_at (x : Vec Ideal S8x1x128 .f32) (h : Fin 8) (e : Fin 128) :
    (gainAt x h.val (ix2 0 e) : EReal) = x (ix3 h 0 e) := by
  pointwise [gainAt]
  exact congrArg x (congrArg (fun k : Fin 8 => (ix3 k 0 e : S8x1x128.Idx)) (Fin.ext (Nat.mod_eq_of_lt h.isLt)))

theorem kept_at (x : Vec Ideal S1x8x128x128 .f32) (h : Fin 8) (e d : Fin 128) :
    (kept x (ix3 h e d) : EReal) = x (ix4 0 h e d) := by
  pointwise [kept]

/-- Head `n`'s rows of the kept states. -/
def rowOf (y : Vec Ideal S8x128x128 .f32) (n : ℕ) : Vec Ideal S1x128x128 .f32 :=
  View.ld y (Rect.unit ![n % 8, 0, 0] S1x128x128.size (inbState n))

theorem rowOf_at (y : Vec Ideal S8x128x128 .f32) (h : Fin 8) (e d : Fin 128) :
    (rowOf y h.val (ix3 0 e d) : EReal) = y (ix3 h e d) := by
  refine congrArg y (funext fun a => Fin.ext ?_)
  match a with
  | ⟨0, _⟩ => show h.val % 8 + 1 * 0 = h.val; omega
  | ⟨1, _⟩ => show 0 + 1 * e.val = e.val; omega
  | ⟨2, _⟩ => show 0 + 1 * d.val = d.val; omega

theorem cast_at (y : Vec Ideal S1x128x128 .f32) (e d : Fin 128) :
    (shapeCast S128x128 y shapeCasts_S1x128x128_S128x128 (ix2 e d) : EReal) = y (ix3 0 e d) := by
  pointwise

theorem start_at (x : Vec Ideal S1x8x128x128 .f32) (h : Fin 8) (e d : Fin 128) :
    (startAt x h.val (ix2 e d) : EReal) = x (ix4 0 h e d) :=
  ((cast_at (rowOf (kept x) h.val) e d).trans (rowOf_at (kept x) h e d)).trans (kept_at x h e d)

theorem tile_at (q g v gate : Vec Ideal S8x16x128 .f32) (gain : Vec Ideal S8x1x128 .f32) (st : ℕ → State Ideal) (h : Fin 8)
    (r : Fin 16) (e : Fin 128) :
    (tileFrom q g v gate gain st (ix3 h r e) : EReal) = storedAt q g v gate gain h.val (st h.val) (ix3 0 r e) := by
  have hh := h.isLt
  have hd : ∀ k k' : Fin 8, k ≠ k' →
      Disjoint (Rect.unit (s := S8x16x128) ![(7 - k.val) % 8, 0, 0] S1x16x128.size (inbRows (7 - k.val))).set
        (Rect.unit (s := S8x16x128) ![(7 - k'.val) % 8, 0, 0] S1x16x128.size (inbRows (7 - k'.val))).set := by
    intro k k' hk
    rw [Finset.disjoint_left]
    intro i h1 h2
    rw [Rect.mem_set_unit] at h1 h2
    have a1 : (7 - k.val) % 8 ≤ (i 0).val ∧ (i 0).val < (7 - k.val) % 8 + 1 := h1 0
    have a2 : (7 - k'.val) % 8 ≤ (i 0).val ∧ (i 0).val < (7 - k'.val) % 8 + 1 := h2 0
    have := k.isLt; have := k'.isLt
    exact hk (Fin.ext (by omega))
  have hc := View.canon_ofFn_emb_of_disjoint (Val := Elt Ideal) (e := .bf16)
    (fun k : Fin 8 => Rect.unit (s := S8x16x128) ![(7 - k.val) % 8, 0, 0] S1x16x128.size (inbRows (7 - k.val)))
    (fun k => storedAt q g v gate gain (7 - k.val) (st (7 - k.val))) hd ⟨7 - h.val, by omega⟩ (ix3 0 r e)
  have hk : 7 - (7 - h.val) = h.val := by omega
  have he : (Rect.unit (s := S8x16x128) ![(7 - (7 - h.val)) % 8, 0, 0] S1x16x128.size
      (inbRows (7 - (7 - h.val)))).emb (ix3 0 r e) = ix3 h r e := by
    funext a
    apply Fin.ext
    rw [Rect.emb_apply]
    match a with
    | ⟨0, _⟩ => show (7 - (7 - h.val)) % 8 + 1 * 0 = h.val; omega
    | ⟨1, _⟩ => show 0 + 1 * r.val = r.val; omega
    | ⟨2, _⟩ => show 0 + 1 * e.val = e.val; omega
  rw [tileFrom, ← he]
  refine hc.trans ?_
  simp only [hk]

theorem last_at (g v : Vec Ideal S8x16x128 .f32) (st : ℕ → State Ideal) (h : Fin 8) (e d : Fin 128) :
    (lastFrom g v st (ix4 0 h e d) : EReal) = stateAfter g v h.val (st h.val) (ix2 e d) := by
  have hh := h.isLt
  have hd : ∀ k k' : Fin 8, k ≠ k' →
      Disjoint (Rect.unit (s := S1x8x128x128) ![0, (7 - k.val) % 8, 0, 0] S1x1x128x128.size (inbLast (7 - k.val))).set
        (Rect.unit (s := S1x8x128x128) ![0, (7 - k'.val) % 8, 0, 0] S1x1x128x128.size (inbLast (7 - k'.val))).set := by
    intro k k' hk
    rw [Finset.disjoint_left]
    intro i h1 h2
    rw [Rect.mem_set_unit] at h1 h2
    have a1 : (7 - k.val) % 8 ≤ (i 1).val ∧ (i 1).val < (7 - k.val) % 8 + 1 := h1 1
    have a2 : (7 - k'.val) % 8 ≤ (i 1).val ∧ (i 1).val < (7 - k'.val) % 8 + 1 := h2 1
    have := k.isLt; have := k'.isLt
    exact hk (Fin.ext (by omega))
  have hc := View.canon_ofFn_emb_of_disjoint (Val := Elt Ideal) (e := .f32)
    (fun k : Fin 8 => Rect.unit (s := S1x8x128x128) ![0, (7 - k.val) % 8, 0, 0] S1x1x128x128.size (inbLast (7 - k.val)))
    (fun k => (shapeCast S1x1x128x128 (stateAfter g v (7 - k.val) (st (7 - k.val))) shapeCasts_S128x128_S1x1x128x128 : Vec Ideal S1x1x128x128 .f32))
    hd ⟨7 - h.val, by omega⟩ (ix4 0 0 e d)
  have hk : 7 - (7 - h.val) = h.val := by omega
  have he : (Rect.unit (s := S1x8x128x128) ![0, (7 - (7 - h.val)) % 8, 0, 0] S1x1x128x128.size
      (inbLast (7 - (7 - h.val)))).emb (ix4 0 0 e d) = ix4 0 h e d := by
    funext a
    apply Fin.ext
    rw [Rect.emb_apply]
    match a with
    | ⟨0, _⟩ => rfl
    | ⟨1, _⟩ => show (7 - (7 - h.val)) % 8 + 1 * 0 = h.val; omega
    | ⟨2, _⟩ => show 0 + 1 * e.val = e.val; omega
    | ⟨3, _⟩ => show 0 + 1 * d.val = d.val; omega
  rw [lastFrom, ← he]
  refine hc.trans ?_
  simp only [hk]
  generalize stateAfter g v h.val (st h.val) = y
  pointwise

/-! ### The blocks of a point -/

variable (m : (ℓ : Loc nD τ sig) → Buf (Elt Ideal) ℓ) (c : Dev nD)

abbrev planes : Planes := m ((c : Thread nD τ).loc main_arg0)
abbrev gains : Gains := m ((c : Thread nD τ).loc main_arg1)
abbrev start : Start := m ((c : Thread nD τ).loc main_arg2)

/-- The sequence of a grid point. -/
def sq (t : Fin cfg0.N) : Fin 33 := ⟨t.val, lt_of_lt_of_eq t.isLt (show cfg0.N = 33 from N_0)⟩

theorem index0 : ∀ t : Fin cfg0.N, win0_0.index t 0 = 0 ∧ win0_0.index t 1 = t.val ∧ win0_0.index t 2 = 0 :=
  (by decide +kernel : ∀ t : Fin grid0.N, _)
theorem index1 : ∀ t : Fin cfg0.N, win0_1.index t 0 = 1 ∧ win0_1.index t 1 = t.val ∧ win0_1.index t 2 = 0 :=
  (by decide +kernel : ∀ t : Fin grid0.N, _)
theorem index2 : ∀ t : Fin cfg0.N, win0_2.index t 0 = 2 ∧ win0_2.index t 1 = t.val ∧ win0_2.index t 2 = 0 :=
  (by decide +kernel : ∀ t : Fin grid0.N, _)
theorem index3 : ∀ t : Fin cfg0.N, win0_3.index t 0 = 3 ∧ win0_3.index t 1 = t.val ∧ win0_3.index t 2 = 0 :=
  (by decide +kernel : ∀ t : Fin grid0.N, _)
theorem index4 : ∀ t : Fin cfg0.N, win0_4.index t 0 = 0 ∧ win0_4.index t 1 = 0 ∧ win0_4.index t 2 = 0 :=
  (by decide +kernel : ∀ t : Fin grid0.N, _)
theorem index5 : ∀ t : Fin cfg0.N, win0_5.index t 0 = t.val ∧ win0_5.index t 1 = 0 ∧ win0_5.index t 2 = 0 ∧ win0_5.index t 3 = 0 :=
  (by decide +kernel : ∀ t : Fin grid0.N, _)
theorem index6 : ∀ t : Fin cfg0.N, win0_6.index t 0 = 0 ∧ win0_6.index t 1 = t.val ∧ win0_6.index t 2 = 0 :=
  (by decide +kernel : ∀ t : Fin grid0.N, _)
theorem index7 : ∀ t : Fin cfg0.N, win0_7.index t 0 = t.val ∧ win0_7.index t 1 = 0 ∧ win0_7.index t 2 = 0 ∧ win0_7.index t 3 = 0 :=
  (by decide +kernel : ∀ t : Fin grid0.N, _)

/-- A block of the planes, read at an index. -/
theorem planes_read {w0 w1 w2 : ℕ} (t : Fin cfg0.N) (p : ℕ) (hp : p ≤ 3) (h0 : w0 = p) (h1 : w1 = t.val)
    (h2 : w2 = 0) (h : Fin 8) (r : Fin 16) (d : Fin 128) (x : S56x528x128.Idx) (x0 : (x 0).val = w0 * 8 + 1 * h.val)
    (x1 : (x 1).val = w1 * 16 + 1 * r.val) (x2 : (x 2).val = w2 * 128 + 1 * d.val) :
    x = ix3 (plane (8 * p) (by omega) h) (tok (sq t) r) d := by
  funext a
  apply Fin.ext
  match a with
  | ⟨0, _⟩ => show (x 0).val = 8 * p + h.val; omega
  | ⟨1, _⟩ => show (x 1).val = t.val * 16 + r.val; omega
  | ⟨2, _⟩ => show (x 2).val = d.val; omega

theorem block0 (t : Fin cfg0.N) (h : Fin 8) (r : Fin 16) (d : Fin 128) :
    (iblk m c 0 t (ix3 h r d) : EReal) = planes m c (ix3 (plane 0 (by omega) h) (tok (sq t) r) d) := by
  obtain ⟨h0, h1, h2⟩ := index0 t
  exact congrArg (planes m c) (planes_read t 0 (by omega) h0 h1 h2 h r d _ rfl rfl rfl)
theorem block1 (t : Fin cfg0.N) (h : Fin 8) (r : Fin 16) (d : Fin 128) :
    (iblk m c 1 t (ix3 h r d) : EReal) = planes m c (ix3 (plane 8 (by omega) h) (tok (sq t) r) d) := by
  obtain ⟨h0, h1, h2⟩ := index1 t
  exact congrArg (planes m c) (planes_read t 1 (by omega) h0 h1 h2 h r d _ rfl rfl rfl)
theorem block2 (t : Fin cfg0.N) (h : Fin 8) (r : Fin 16) (d : Fin 128) :
    (iblk m c 2 t (ix3 h r d) : EReal) = planes m c (ix3 (plane 16 (by omega) h) (tok (sq t) r) d) := by
  obtain ⟨h0, h1, h2⟩ := index2 t
  exact congrArg (planes m c) (planes_read t 2 (by omega) h0 h1 h2 h r d _ rfl rfl rfl)
theorem block3 (t : Fin cfg0.N) (h : Fin 8) (r : Fin 16) (d : Fin 128) :
    (iblk m c 3 t (ix3 h r d) : EReal) = planes m c (ix3 (plane 24 (by omega) h) (tok (sq t) r) d) := by
  obtain ⟨h0, h1, h2⟩ := index3 t
  exact congrArg (planes m c) (planes_read t 3 (by omega) h0 h1 h2 h r d _ rfl rfl rfl)

theorem block4 (t : Fin cfg0.N) (h : Fin 8) (e : Fin 128) : (iblk m c 4 t (ix3 h 0 e) : EReal) = gains m c (ix3 h 0 e) := by
  obtain ⟨h0, h1, h2⟩ := index4 t
  refine congrArg (gains m c) (funext fun a => Fin.ext ?_)
  match a with
  | ⟨0, _⟩ => show win0_4.index t 0 * 8 + 1 * h.val = h.val; omega
  | ⟨1, _⟩ => show win0_4.index t 1 * 1 + 1 * 0 = 0; omega
  | ⟨2, _⟩ => show win0_4.index t 2 * 128 + 1 * e.val = e.val; omega

theorem block5 (t : Fin cfg0.N) (h : Fin 8) (e d : Fin 128) : (iblk m c 5 t (ix4 0 h e d) : EReal) = start m c (ix4 (sq t) h e d) := by
  obtain ⟨h0, h1, h2, h3⟩ := index5 t
  refine congrArg (start m c) (funext fun a => Fin.ext ?_)
  match a with
  | ⟨0, _⟩ => show win0_5.index t 0 * 1 + 1 * 0 = t.val; omega
  | ⟨1, _⟩ => show win0_5.index t 1 * 8 + 1 * h.val = h.val; omega
  | ⟨2, _⟩ => show win0_5.index t 2 * 128 + 1 * e.val = e.val; omega
  | ⟨3, _⟩ => show win0_5.index t 3 * 128 + 1 * d.val = d.val; omega

variable {m c} (hf : Finite (planes m c) (start m c))
include hf

theorem reals0 (t : Fin cfg0.N) (h : Fin 8) : Chunk.Reals (mat (rows (iblk m c 0 t) h.val)) (seqOf (planes m c) 0 (by omega) h (sq t)) :=
  fun r d => ((rows_at (iblk m c 0 t) h r d).trans (block0 m c t h r d)).trans (hf.seq 0 (by omega) h (sq t) r d)
theorem reals1 (t : Fin cfg0.N) (h : Fin 8) : Chunk.Reals (mat (rows (iblk m c 1 t) h.val)) (seqOf (planes m c) 8 (by omega) h (sq t)) :=
  fun r d => ((rows_at (iblk m c 1 t) h r d).trans (block1 m c t h r d)).trans (hf.seq 8 (by omega) h (sq t) r d)
theorem reals2 (t : Fin cfg0.N) (h : Fin 8) : Chunk.Reals (mat (rows (iblk m c 2 t) h.val)) (seqOf (planes m c) 16 (by omega) h (sq t)) :=
  fun r d => ((rows_at (iblk m c 2 t) h r d).trans (block2 m c t h r d)).trans (hf.seq 16 (by omega) h (sq t) r d)

theorem start_real (t : Fin cfg0.N) (h : Fin 8) : StateReals (startAt (iblk m c 5 t) h.val) (startOf (start m c) h (sq t)) :=
  fun e d => ((start_at (iblk m c 5 t) h e d).trans (block5 m c t h e d)).trans (hf.startAt h (sq t) d e)

/-- What a point leaves in its two windows. -/
theorem out_at (t : Fin cfg0.N) (h : Fin 8) (r : Fin 16) (e : Fin 128) :
    ((outsAt0 m c t).1 (ix3 h r e) : EReal) = SampleHgrn.result (planes m c) (gains m c) (start m c) h (sq t) r e := by
  have ho := outRows_real (reals0 hf t h) (reals1 hf t h) (reals2 hf t h) (start_real hf t h)
  unfold outsAt0
  dsimp only
  rw [out6, tile_at, storedAt, stored_at, rows_at, gain_at, block3, block4]
  simp only [ho r]
  rfl

theorem state_at (t : Fin cfg0.N) (h : Fin 8) (e d : Fin 128) :
    ((outsAt0 m c t).2 (ix4 0 h e d) : EReal) = ((stateAt (planes m c) (start m c) h (sq t) 16 d e : ℝ) : EReal) := by
  unfold outsAt0
  dsimp only
  rw [out7, last_at]
  exact nextState_real (reals1 hf t h) (reals2 hf t h) (start_real hf t h) e d

/-- The kernel's first result at every index. -/
theorem result0 (h : Fin 8) (b : Fin 33) (s : Fin 16) (e : Fin 128) :
    ((dats m 0 c).arrAt 6 cfg0.N : S8x528x128.Idx → EReal) (ix3 h (tok b s) e)
      = SampleHgrn.result (planes m c) (gains m c) (start m c) h b s e := by
  let t : Fin cfg0.N := ⟨b.val, lt_of_lt_of_eq b.isLt (show cfg0.N = 33 from N_0).symm⟩
  obtain ⟨h0, h1, h2⟩ := index6 t
  have htv : t.val = b.val := rfl
  have hb := congrFun ((Value.blocks6 m c t (flush0_6 t)).trans (Value.flushed6 m c t)) (ix3 h s e)
  rw [show b = sq t from rfl, ← out_at hf t h s e]
  refine Eq.trans (congrArg ((dats m 0 c).arrAt 6 cfg0.N : S8x528x128.Idx → EReal) (funext fun a => Fin.ext ?_)) hb
  match a with
  | ⟨0, _⟩ => show h.val = win0_6.index t 0 * 8 + 1 * h.val; omega
  | ⟨1, _⟩ => show b.val * 16 + s.val = win0_6.index t 1 * 16 + 1 * s.val; omega
  | ⟨2, _⟩ => show e.val = win0_6.index t 2 * 128 + 1 * e.val; omega

/-- The kernel's second result: each head's state after a sequence's last token, transposed. -/
theorem result1 (b : Fin 33) (h : Fin 8) (e d : Fin 128) :
    ((dats m 0 c).arrAt 7 cfg0.N : S33x8x128x128.Idx → EReal) (ix4 b h e d)
      = ((stateAt (planes m c) (start m c) h b 16 d e : ℝ) : EReal) := by
  let t : Fin cfg0.N := ⟨b.val, lt_of_lt_of_eq b.isLt (show cfg0.N = 33 from N_0).symm⟩
  obtain ⟨h0, h1, h2, h3⟩ := index7 t
  have htv : t.val = b.val := rfl
  have hb := congrFun ((Value.blocks7 m c t (flush0_7 t)).trans (Value.flushed7 m c t)) (ix4 0 h e d)
  rw [show b = sq t from rfl, ← state_at hf t h e d]
  refine Eq.trans (congrArg ((dats m 0 c).arrAt 7 cfg0.N : S33x8x128x128.Idx → EReal) (funext fun a => Fin.ext ?_)) hb
  match a with
  | ⟨0, _⟩ => show b.val = win0_7.index t 0 * 1 + 1 * 0; omega
  | ⟨1, _⟩ => show h.val = win0_7.index t 1 * 8 + 1 * h.val; omega
  | ⟨2, _⟩ => show e.val = win0_7.index t 2 * 128 + 1 * e.val; omega
  | ⟨3, _⟩ => show d.val = win0_7.index t 3 * 128 + 1 * d.val; omega

end Cert.SampleHgrn.Result

end
-- ==== Proof.SampleHgrnStep.lean ====
/-
  One step of the reference's scan at an index, at the ideal instance: token `k`'s slices of the scanned arrays, the state and
  the output row that it makes, and the arrays that the scan starts from.
-/
module

public import proofs.«01_k».proof.Proof.Gen.Reference7Ideal.Run
public import proofs.«01_k».proof.Proof.SampleHgrnSpec
public import Idealize.ShloMosaic.Lib.Pointwise

@[expose] public section

set_option maxRecDepth 8192

noncomputable section

namespace Cert.Reference7Ideal.Step

open Idealize.ShloMosaic Idealize.ShloMosaic.TcCoe
open Cert.Reference7Ideal Cert.Reference7Ideal.Gen Cert.Reference7Ideal.Value

/-- An array of one row per token, head and sequence. -/
abbrev Seq := S16x8x33x128.Idx → EReal
abbrev State := S8x33x128x128.Idx → EReal

/-- Where token `k`'s slice starts. -/
def start (k : ℕ) : Fin 4 → Int := fun a =>
  (((![fun _ => BitVec.ofNat 32 k, constantI S_ 32 0#32, constantI S_ 32 0#32, constantI S_ 32 0#32] :
    Fin 4 → (⟨S_, .i32⟩ : BufTy).Contents (Elt Ideal))) a (Shape.Idx.first h_S_)).toInt

theorem start_zero (k : ℕ) (hk : k < 16) : start k 0 = k := by
  show (BitVec.ofNat 32 k).toInt = k
  rw [BitVec.toInt_eq_toNat_of_lt] <;> simp only [BitVec.toNat_ofNat] <;> omega

theorem clamp (k : ℕ) (hk : k < 16) (ht : S1x8x33x128.rank = S16x8x33x128.rank) (a : Fin 4) :
    Host.clampedStart S16x8x33x128 S1x8x33x128 ht (start k) a = (![k, 0, 0, 0] : Fin 4 → ℕ) a := by
  match a with
  | ⟨0, _⟩ => exact Host.clampedStart_of_le ht _ 0 k (start_zero k hk) (by show k + 1 ≤ 16; omega)
  | ⟨1, _⟩ => exact Host.clampedStart_of_le ht _ 1 0 rfl (Nat.le_of_eq (Nat.zero_add _))
  | ⟨2, _⟩ => exact Host.clampedStart_of_le ht _ 2 0 rfl (Nat.le_of_eq (Nat.zero_add _))
  | ⟨3, _⟩ => exact Host.clampedStart_of_le ht _ 3 0 rfl (Nat.le_of_eq (Nat.zero_add _))

/-- Token `k`'s slice of a scanned array. -/
def token (k : ℕ) (x : Seq) : S8x33x128.Idx → EReal :=
  shapeCast S8x33x128 (Host.dynamicSlice S1x8x33x128 x (start k) sliceFits_S16x8x33x128_S1x8x33x128)
    shapeCasts_S1x8x33x128_S8x33x128

theorem token_at (k : ℕ) (hk : k < 16) (x : Seq) (h : Fin 8) (b : Fin 33) (d : Fin 128) :
    token k x (ix3 h b d) = x (ix4 ⟨k, hk⟩ h b d) := by
  pointwise [token]
  congr 1
  have c0 := clamp k hk rfl
  congr 1 <;> apply Fin.ext <;> simp [c0]

theorem put_at (k : ℕ) (hk : k < 16) (x : Seq) (u : S8x33x128.Idx → EReal) (t : Fin 16) (h : Fin 8) (b : Fin 33) (d : Fin 128) :
    (Host.dynamicUpdateSlice x (broadcastInDim S1x8x33x128 ![1, 2, 3] bcast_S8x33x128_S1x8x33x128_1_2_3 u) (start k)
      updateFits_S16x8x33x128_S1x8x33x128 : Seq) (ix4 t h b d) = if t.val = k then u (ix3 h b d) else x (ix4 t h b d) := by
  pointwise
  have c0 := fun a => clamp k hk rfl a
  simp only [c0]
  by_cases ht : t.val = k
  · rw [dif_pos ⟨⟨by simp [ht], by simp [ht]⟩, by simp, by simp, by simp⟩, if_pos ht]
    rfl
  · rw [dif_neg (fun h => ht (by have := h.1; simp at this; omega)), if_neg ht]

/-- The scan's slices at a counter that holds `k`. -/
theorem token_eq (k : ℕ) (x : Seq) :
    shapeCast S8x33x128 (Host.dynamicSlice S1x8x33x128 x (fun a => (((![fun _ => BitVec.ofNat 32 k, constantI S_ 32 0#32,
      constantI S_ 32 0#32, constantI S_ 32 0#32] : Fin 4 → (⟨S_, .i32⟩ : BufTy).Contents (Elt Ideal))) a
        (Shape.Idx.first h_S_)).toInt) sliceFits_S16x8x33x128_S1x8x33x128) shapeCasts_S1x8x33x128_S8x33x128 = token k x := rfl

/-- A token's forget. -/
def forget (x : EReal) : EReal := FloatOps.hostPowf (F := Ideal) (φ := .f32) (Ideal.ofBits .f32 0x40000000#32) x

/-- The state after token `k`. -/
def newState (k : ℕ) (hk : k < 16) (g v : Seq) (s : State) (h : Fin 8) (b : Fin 33) (d e : Fin 128) : EReal :=
  forget (g (ix4 ⟨k, hk⟩ h b d)) * s (ix4 h b d e) + (1 - forget (g (ix4 ⟨k, hk⟩ h b d))) * v (ix4 ⟨k, hk⟩ h b e)

/-- Token `k`'s output row from the state after it. -/
def newRow (k : ℕ) (hk : k < 16) (q : Seq) (s : Fin 8 → Fin 33 → Fin 128 → Fin 128 → EReal) (h : Fin 8) (b : Fin 33)
    (e : Fin 128) : EReal := ∑ d : Fin 128, q (ix4 ⟨k, hk⟩ h b d) * s h b d e

section Trip

variable (V : Valuation τ sig (Elt Ideal)) (k : ℕ) (hk : k < 16)
  (hc : V (Proc.devRef .tc main_v15_5) = fun _ => BitVec.ofNat 32 k)
  (q g v gate out : Seq) (gain : S8x1x128.Idx → EReal) (s : State)
  (hq : V (Proc.devRef .tc main_v15_0) = q) (hg : V (Proc.devRef .tc main_v15_1) = g)
  (hv : V (Proc.devRef .tc main_v15_2) = v) (hgate : V (Proc.devRef .tc main_v15_3) = gate)
  (hgain : V (Proc.devRef .tc main_v15_4) = gain) (hs : V (Proc.devRef .tc main_v15_6) = s)
  (hout : V (Proc.devRef .tc main_v15_7) = out)

include hc hg hv hs in
theorem state_at (h : Fin 8) (b : Fin 33) (d e : Fin 128) :
    (res_main_while0b_v36 V : State) (ix4 h b d e) = newState k hk g v s h b d e := by
  unfold res_main_while0b_v36 res_main_while0b_v25
  rw [hc, hg, hv, hs]
  erw [token_eq k g, token_eq k v]
  pointwise [newState, forget]
  simp only [token_at k hk]

include hc hq hg hv hs in
theorem row_at (h : Fin 8) (b : Fin 33) (e : Fin 128) :
    (res_main_while0b_v40 V : S8x33x128.Idx → EReal) (ix3 h b e) = newRow k hk q (newState k hk g v s) h b e := by
  have hst := state_at V k hk hc g v s hg hv hs
  unfold res_main_while0b_v40
  generalize res_main_while0b_v36 V = w at hst ⊢
  rw [hc, hq]
  erw [token_eq k q]
  pointwise [newRow]
  simp only [token_at k hk, hst]

include hc hq hg hv hs hgate hgain hout in
theorem out_at (t : Fin 16) (h : Fin 8) (b : Fin 33) (e : Fin 128) :
    (step_main_v15_7 V : Seq) (ix4 t h b e) = if t.val = k then
      Hgrn.normed (newRow k hk q (newState k hk g v s) h b) (gain (ix3 h 0 e)) (gate (ix4 ⟨k, hk⟩ h b e)) e
      else out (ix4 t h b e) := by
  have hrow := row_at V k hk hc q g v s hq hg hv hs
  unfold step_main_v15_7
  generalize res_main_while0b_v40 V = w at hrow ⊢
  rw [hc, hgate, hgain, hout]
  erw [token_eq k gate]
  refine (put_at k hk _ _ t h b e).trans ?_
  split_ifs with ht
  · pointwise [Hgrn.normed]
    simp only [token_at k hk, hrow]
  · rfl

end Trip

section Entry

open Idealize.ShloMosaic.StableHlo

variable (m : (ℓ : Loc nD τ sig) → Buf (Elt Ideal) ℓ) (c : Dev nD)

/-- The rows of the projected inputs, and the state at the start. -/
def rowsOf : S56x528x128.Idx → EReal := m ((c.tc : Thread nD τ).loc main_arg0)
def gainOf : S8x1x128.Idx → EReal := m ((c.tc : Thread nD τ).loc main_arg1)
def stateOf : S33x8x128x128.Idx → EReal := m ((c.tc : Thread nD τ).loc main_arg2)

/-- What the scan reads at token `t`: the queries (`o` 0), log forgets (8), values (16) and gates (24). -/
def scanned (o : ℕ) (ho : o ≤ 24) : Seq := fun j =>
  rowsOf m c (ix3 (SampleHgrn.plane o ho (j 1)) (SampleHgrn.tok (j 2) (j 0)) (j 3))

theorem entry_0 : entryContents preI m c (Proc.devRef .tc main_v15_0) = scanned m c 0 (by omega) := by
  simp only [entryContents, afterL_cons, afterL_nil]
  after_reads_simp
  funext (j : S16x8x33x128.Idx)
  idx_vars j
  simp only [id]
  pointwise [scanned]
  exact congrArg (fun a : Fin 56 => rowsOf m c (ix3 a (SampleHgrn.tok j2 j0) j3)) (Fin.ext (Nat.zero_add _).symm)

theorem entry_1 : entryContents preI m c (Proc.devRef .tc main_v15_1) = scanned m c 8 (by omega) := by
  simp only [entryContents, afterL_cons, afterL_nil]
  after_reads_simp
  funext (j : S16x8x33x128.Idx)
  idx_vars j
  simp only [id]
  pointwise [scanned]
  rfl

theorem entry_2 : entryContents preI m c (Proc.devRef .tc main_v15_2) = scanned m c 16 (by omega) := by
  simp only [entryContents, afterL_cons, afterL_nil]
  after_reads_simp
  funext (j : S16x8x33x128.Idx)
  idx_vars j
  simp only [id]
  pointwise [scanned]
  rfl

theorem entry_3 : entryContents preI m c (Proc.devRef .tc main_v15_3) = scanned m c 24 (by omega) := by
  simp only [entryContents, afterL_cons, afterL_nil]
  after_reads_simp
  funext (j : S16x8x33x128.Idx)
  idx_vars j
  simp only [id]
  pointwise [scanned]
  rfl

theorem entry_4 : entryContents preI m c (Proc.devRef .tc main_v15_4) = gainOf m c := by
  simp only [entryContents, afterL_cons, afterL_nil]
  after_reads_simp
  rfl

theorem entry_6 (h : Fin 8) (b : Fin 33) (d e : Fin 128) :
    (entryContents preI m c (Proc.devRef .tc main_v15_6) : State) (ix4 h b d e) = stateOf m c (ix4 b h e d) := by
  simp only [entryContents, afterL_cons, afterL_nil]
  after_reads_simp
  simp only [id]
  pointwise
  rfl

end Entry

end Cert.Reference7Ideal.Step

end
-- ==== Proof.SampleHgrnRef.lean ====
/-
  The reference's two results, on finite inputs: its scan holds the recurrence's state, and has stored the output rows of
  the tokens behind it.
-/
module

public import proofs.«01_k».proof.Proof.SampleHgrnStep

@[expose] public section

noncomputable section

namespace Cert.Reference7Ideal.Step

open Idealize.ShloMosaic Idealize.ShloMosaic.TcCoe Idealize.ShloMosaic.StableHlo
open Cert.Reference7Ideal Cert.Reference7Ideal.Gen Cert.Reference7Ideal.Value

theorem ofBits_two : Ideal.ofBits .f32 0x40000000#32 = ((2 : ℝ) : EReal) := by
  simp [Ideal.ofBits, Ideal.ieee, -EReal.coe_mul]; norm_num

theorem forget_real (x : ℝ) : forget x = ((Hgrn.E x : ℝ) : EReal) := by
  unfold forget; rw [ofBits_two]; rfl

variable (m : (ℓ : Loc nD τ sig) → Buf (Elt Ideal) ℓ) (c : Dev nD)

/-- The scan before token `k`. -/
structure At (k : ℕ) (V : Valuation τ sig (Elt Ideal)) : Prop where
  q : V (Proc.devRef .tc main_v15_0) = scanned m c 0 (by omega)
  g : V (Proc.devRef .tc main_v15_1) = scanned m c 8 (by omega)
  v : V (Proc.devRef .tc main_v15_2) = scanned m c 16 (by omega)
  gate : V (Proc.devRef .tc main_v15_3) = scanned m c 24 (by omega)
  gain : V (Proc.devRef .tc main_v15_4) = gainOf m c
  counter : V (Proc.devRef .tc main_v15_5) = fun _ => BitVec.ofNat 32 k
  state : ∀ (h : Fin 8) (b : Fin 33) (d e : Fin 128), (V (Proc.devRef .tc main_v15_6) : State) (ix4 h b d e)
    = ((SampleHgrn.stateAt (rowsOf m c) (stateOf m c) h b k d e : ℝ) : EReal)
  out : ∀ (t : Fin 16) (h : Fin 8) (b : Fin 33) (e : Fin 128), t.val < k →
    (V (Proc.devRef .tc main_v15_7) : Seq) (ix4 t h b e) = SampleHgrn.result (rowsOf m c) (gainOf m c) (stateOf m c) h b t e

variable (hf : SampleHgrn.Finite (rowsOf m c) (stateOf m c))
include hf

theorem at_zero : At m c 0 (entryContents preI m c) where
  q := entry_0 m c
  g := entry_1 m c
  v := entry_2 m c
  gate := entry_3 m c
  gain := entry_4 m c
  counter := ctr_entry m c
  state h b d e := (entry_6 m c h b d e).trans (hf.startAt h b d e)
  out _ _ _ _ h := absurd h (Nat.not_lt_zero _)

theorem at_succ (k : ℕ) (hk : k < 16) (V : Valuation τ sig (Elt Ideal)) (hV : At m c k V) : At m c (k + 1) (STEP V) := by
  have hst : ∀ (h : Fin 8) (b : Fin 33) (d e : Fin 128),
      newState k hk (scanned m c 8 (by omega)) (scanned m c 16 (by omega)) (V (Proc.devRef .tc main_v15_6)) h b d e
        = ((SampleHgrn.stateAt (rowsOf m c) (stateOf m c) h b (k + 1) d e : ℝ) : EReal) := by
    intro h b d e
    have hg := hf.seq 8 (by omega) h b ⟨k, hk⟩ d
    have hv := hf.seq 16 (by omega) h b ⟨k, hk⟩ e
    have hs := hV.state h b d e
    show forget (rowsOf m c (ix3 _ _ _)) * (V (Proc.devRef .tc main_v15_6) : State) (ix4 h b d e)
      + (1 - forget (rowsOf m c (ix3 _ _ _))) * rowsOf m c (ix3 _ _ _) = _
    rw [hs]
    erw [hg, hv]
    rw [forget_real, ← EReal.coe_one, ← EReal.coe_sub, ← EReal.coe_mul, ← EReal.coe_mul, ← EReal.coe_add]
    rfl
  refine ⟨?_, ?_, ?_, ?_, ?_, ?_, ?_, ?_⟩
  · rw [STEP_main_v15_0, hV.q]
  · rw [STEP_main_v15_1, hV.g]
  · rw [STEP_main_v15_2, hV.v]
  · rw [STEP_main_v15_3, hV.gate]
  · rw [STEP_main_v15_4, hV.gain]
  · rw [STEP_main_v15_5]
    unfold step_main_v15_5
    rw [hV.counter]
    funext _
    show BitVec.ofNat 32 k + 1#32 = _
    rw [BitVec.ofNat_add]
  · intro h b d e
    rw [STEP_main_v15_6]
    exact (state_at V k hk hV.counter _ _ _ hV.g hV.v rfl h b d e).trans (hst h b d e)
  · intro t h b e ht
    rw [STEP_main_v15_7]
    refine (out_at V k hk hV.counter _ _ _ _ _ _ _ hV.q hV.g hV.v hV.gate hV.gain rfl rfl t h b e).trans ?_
    split_ifs with htk
    · have : t = ⟨k, hk⟩ := Fin.ext htk
      subst this
      unfold SampleHgrn.result
      congr 1
      funext j
      show ∑ d, rowsOf m c (ix3 _ _ _) * newState k hk _ _ _ h b d j = _
      simp only [hst]
      have hq := fun d => hf.seq 0 (by omega) h b ⟨k, hk⟩ d
      rw [SampleHgrn.outAt, Hgrn.out, Hgrn.coe_sum]
      refine Finset.sum_congr rfl fun d _ => ?_
      rw [EReal.coe_mul]
      exact congrArg (· * _) (hq d)
    · exact hV.out t h b e (by omega)

theorem at_end : ∀ k, k ≤ 16 → At m c k (STEP^[k] (entryContents preI m c))
  | 0, _ => at_zero m c hf
  | k + 1, h => by
    rw [Function.iterate_succ_apply']
    exact at_succ m c hf k h _ (at_end k (by omega))

theorem result0 (h : Fin 8) (b : Fin 33) (t : Fin 16) (e : Fin 128) :
    (out_main_v18 (STEP^[16] (entryContents preI m c)) : S8x528x128.Idx → EReal) (ix3 h (SampleHgrn.tok b t) e)
      = SampleHgrn.result (rowsOf m c) (gainOf m c) (stateOf m c) h b t e := by
  have := (at_end m c hf 16 le_rfl).out t h b e t.isLt
  unfold out_main_v18
  generalize STEP^[16] (entryContents preI m c) = V at this ⊢
  pointwise
  refine Eq.trans ?_ this
  have h1 : (⟨(SampleHgrn.tok b t).val % 16, Nat.mod_lt _ (by norm_num)⟩ : Fin 16) = t :=
    Fin.ext (by have := t.isLt; show (b.val * 16 + t.val) % 16 = t.val; omega)
  have h2 : (⟨(SampleHgrn.tok b t).val / 16, by have := (SampleHgrn.tok b t).isLt; omega⟩ : Fin 33) = b :=
    Fin.ext (by have := t.isLt; show (b.val * 16 + t.val) / 16 = b.val; omega)
  exact congrArg (V (Proc.devRef .tc main_v15_7)) (congrArg₂ (fun x y => (ix4 x h y e : S16x8x33x128.Idx)) h1 h2)

theorem result1 (b : Fin 33) (h : Fin 8) (e d : Fin 128) :
    (out_main_v19 (STEP^[16] (entryContents preI m c)) : S33x8x128x128.Idx → EReal) (ix4 b h e d)
      = ((SampleHgrn.stateAt (rowsOf m c) (stateOf m c) h b 16 d e : ℝ) : EReal) := by
  have := (at_end m c hf 16 le_rfl).state h b d e
  unfold out_main_v19
  generalize STEP^[16] (entryContents preI m c) = V at this ⊢
  pointwise
  exact this

end Cert.Reference7Ideal.Step

end
-- ==== Proof.SampleHgrnPre.lean ====
/-
  The precondition, decoded: where the printed check comes out true, the planes that the recurrence reads and the states at
  the start are real numbers, at the sample's shapes.
-/
module

public import proofs.«01_k».proof.Pre_finite7
public import proofs.«01_k».proof.Proof.Precondition
public import proofs.«01_k».proof.Proof.SampleHgrnSpec
public import Idealize.ShloMosaic.Lib.ReduceAll
public import Idealize.ShloMosaic.Lib.Pointwise

@[expose] public section

noncomputable section

namespace Cert.Pre_finite7.Proof

open Idealize.ShloMosaic Cert.Pre_finite7

/-- The check's shape conditions. -/
theorem facts : Facts where
  slices_S56x528x128_S24x528x128_0_0_0 := by decide
  bcast_S_S24x528x128 := by decide
  reducesTo_S24x528x128_S_d0_1_2 := by decide
  h_S_ := by decide
  bcast_S_S33x8x128x128 := by decide
  reducesTo_S33x8x128x128_S_d0_1_2_3 := by decide

theorem finite [Facts] (z : SampleHgrn.Planes) (gain : SampleHgrn.Gains) (s0 : SampleHgrn.Start)
    (h : (fn (F := Ideal) z gain s0) = (fun _ => 1#1)) : SampleHgrn.Finite z s0 := by
  have h := congrFun h (fun a => a.elim0)
  obtain ⟨h1, h2⟩ := IntOp.andi_eq_one.1 h
  have : Subsingleton S_.Idx := ⟨fun a b => funext fun i => i.elim0⟩
  constructor
  · intro o r d ho
    have := Host.reduce_andi_all _ _ _ _ _ h1 (ix3 ⟨o.val, ho⟩ r d)
    obtain ⟨x, hx⟩ := Cert.Pre_finite.Proof.real_of_lt this
    refine ⟨x, Eq.trans (congrArg z (funext fun a => Fin.ext ?_)) hx⟩
    match a with
    | ⟨0, _⟩ => exact (Nat.zero_add _).symm
    | ⟨1, _⟩ => exact (Nat.zero_add _).symm
    | ⟨2, _⟩ => exact (Nat.zero_add _).symm
  · intro b h e d
    have := Host.reduce_andi_all _ _ _ _ _ h2 (ix4 b h e d)
    exact Cert.Pre_finite.Proof.real_of_lt this

end Cert.Pre_finite7.Proof

end
-- ==== Proof.SampleHgrnClaim.lean ====
/-
  The claims about the recurrence of the sample's rows: both programs run and leave their arguments and every counter as they
  were, and on real inputs their results are equal (`SampleHgrnValue.lean`, `SampleHgrnRef.lean`).
-/
module

public import proofs.«01_k».proof.Defs
public import proofs.«01_k».proof.Proof.Gen.Kernel7Ideal.Frame
public import proofs.«01_k».proof.Proof.Gen.Kernel7Ideal.Value
public import proofs.«01_k».proof.Proof.Gen.Reference7Ideal.Run
public import proofs.«01_k».proof.Proof.SampleHgrnValue
public import proofs.«01_k».proof.Proof.SampleHgrnRef
public import proofs.«01_k».proof.Proof.SampleHgrnPre
public import Idealize.ShloMosaic.Lib.Quiescent
public import Idealize.ShloMosaic.Lib.Claim

@[expose] public section

noncomputable section

namespace Cert.SampleHgrn

open Idealize.ShloMosaic Idealize.ShloMosaic.TcCoe Idealize.SL.Sem Idealize.ShloMosaic.StableHlo

/-- The reference has no semaphores: its run leaves its arguments, and no counter above zero. -/
theorem frame_ref : Cert.quiescent_Reference7Ideal (hReference7Ideal := Reference7Ideal.Gen.facts) := fun m g _ =>
  θ_run_mono (Reference7Ideal.Value.run m g) fun r hr =>
    ⟨fun c => (hr c).2.2, sem_eq_zero_of_no_sems rfl r.2⟩

/-- Every row of the planes is some sequence's some token. -/
theorem row_eq (r : Fin 528) : ∃ (b : Fin 33) (t : Fin 16), r = SampleHgrn.tok b t :=
  ⟨⟨r.val / 16, by have := r.isLt; omega⟩, ⟨r.val % 16, Nat.mod_lt _ (by norm_num)⟩,
    Fin.ext (by show r.val = r.val / 16 * 16 + r.val % 16; omega)⟩

section Equal

variable (m : (ℓ : Loc Kernel7Ideal.nD Kernel7Ideal.τ Kernel7Ideal.sig) → Buf (Elt Ideal) ℓ)
  (m' : (ℓ : Loc Reference7Ideal.nD Reference7Ideal.τ Reference7Ideal.sig) → Buf (Elt Ideal) ℓ)
  (c : Dev Kernel7Ideal.nD)
  (hz : Reference7Ideal.Step.rowsOf m' c = Result.planes m c) (hg : Reference7Ideal.Step.gainOf m' c = Result.gains m c)
  (hs : Reference7Ideal.Step.stateOf m' c = Result.start m c)
  (hf : Finite (Result.planes m c) (Result.start m c))
include hz hg hs hf

theorem first_eq : (Reference7Ideal.Value.out_main_v18 (Reference7Ideal.Value.STEP^[16] (entryContents Reference7Ideal.Value.preI m' c)) : Kernel7Ideal.S8x528x128.Idx → EReal)
    = (Kernel7Ideal.Gen.dats m 0 c).arrAt 6 Kernel7Ideal.cfg0.N := by
  funext (i : Kernel7Ideal.S8x528x128.Idx)
  obtain ⟨b, t, ht⟩ := row_eq (i 1)
  have hi : i = ix3 (i 0) (SampleHgrn.tok b t) (i 2) := by rw [← ht]; exact eq_ix3 i
  rw [hi]
  refine Eq.trans ?_ (Result.result0 hf (i 0) b t (i 2)).symm
  refine (Reference7Ideal.Step.result0 m' c (by rw [hz, hs]; exact hf) (i 0) b t (i 2)).trans ?_
  rw [hz, hg, hs]

theorem second_eq : (Reference7Ideal.Value.out_main_v19 (Reference7Ideal.Value.STEP^[16] (entryContents Reference7Ideal.Value.preI m' c)) : Kernel7Ideal.S33x8x128x128.Idx → EReal)
    = (Kernel7Ideal.Gen.dats m 0 c).arrAt 7 Kernel7Ideal.cfg0.N := by
  funext (i : Kernel7Ideal.S33x8x128x128.Idx)
  rw [eq_ix4 i]
  refine Eq.trans ?_ (Result.result1 hf (i 0) (i 1) (i 2) (i 3)).symm
  refine (Reference7Ideal.Step.result1 m' c (by rw [hz, hs]; exact hf) (i 0) (i 1) (i 2) (i 3)).trans ?_
  rw [hz, hs]

end Equal

theorem algebraic : Cert.algebraic_Kernel7Ideal_Reference7Ideal_pre_finite7 (hKernel7Ideal := Kernel7Ideal.Gen.facts)
    (hReference7Ideal := Reference7Ideal.Gen.facts) (hPre_finite7 := Cert.Pre_finite7.Proof.facts) := by
  intro m g m' g' hpre hagree
  refine ⟨_, _, Kernel7Ideal.Value.run_blocks m g, θ_run_mono (Reference7Ideal.Value.run m' g') fun r hr c => ?_⟩
  obtain ⟨h0, h1, h2⟩ := hagree c
  have hf := @Cert.Pre_finite7.Proof.finite Cert.Pre_finite7.Proof.facts _ _ _ (hpre c)
  obtain ⟨r0, r1, ra⟩ := hr c
  exact ⟨r0.trans (first_eq m m' c h0 h1 h2 hf), r1.trans (second_eq m m' c h0 h1 h2 hf), ra⟩

end Cert.SampleHgrn

end
-- ==== Proof.SampleFoxTile.lean ====
/-
  The kernel's attention of one head's sixteen tokens, written once: at each grid point the kernel writes it out for eight
  heads. The past's keys come in four parts of 512, each the rows of one head out of the eight that lie side by side. Then what
  a grid point leaves in its output window, read off the run of the kernel's body.
-/
module

public import proofs.«01_k».proof.Proof.Gen.Kernel8Ideal.Value
public import Idealize.ShloMosaic.Lib.Tactic
public import Idealize.ShloMosaic.Lib.Pipeline.Value
public import Idealize.ShloMosaic.Lib.Pipeline.ReadBack

@[expose] public section

set_option maxRecDepth 16384

noncomputable section

namespace Cert.SampleFox.Tile

open Idealize.ShloMosaic Cert.Kernel8Ideal Cert.Kernel8Ideal.Gen

variable {F : FTy → Type} [FloatOps F] [Named F]

theorem hz3 : (![0, 0, 0] : Fin 3 → Nat) = fun _ => 0 := funext fun a => by fin_cases a <;> rfl

/-! ### One head -/

/-- A window of sixteen rows as a matrix. -/
def mat (x : Vec F S1x16x128 .f32) : FVec F S16x128 .f32 := shapeCast S16x128 x shapeCasts_S1x16x128_S16x128

/-- The column of the running sums that is head `n`'s. -/
def column (n : BitVec 32) (x : Vec F S1x16x128 .f32) : FVec F S16x1 .f32 :=
  shapeCast S16x1
    (multiReduction .add [1] S16
      (select (cmpi .eq (iota .tc S16x128 32 [1] iota_S16x128_d1_w32) (broadcast S16x128 n)) (mat x)
        (broadcast S16x128 (Scalar.ofBits .f32 0x00000000#32)))
      0x00000000#32 reduces_S16x128_S16 (.inl rfl) rfl)
    shapeCasts_S16_S16x1

/-- The logits with 512 keys of the past. -/
def past (q : FVec F S16x128 .f32) (cq : FVec F S16x1 .f32) (k : FVec F S512x128 .f32) (ck : Vec F S1x1x1x512 .f32) : FVec F S16x512 .f32 :=
  addf
    (matmul dot_S16x128_S512x128_S16x512_1_1_0_0_n_n none (truncf .bf16 q bitsLt_bf16_f32) (truncf .bf16 k bitsLt_bf16_f32)
      (constant S16x512 .f32 0x00000000#32))
    (mulf
      (subf (broadcastTo S16x512 cq broadcasts_S16x1_S16x512)
        (broadcastTo S16x512 (shapeCast S1x512 ck shapeCasts_S1x1x1x512_S1x512) broadcasts_S1x512_S16x512))
      (broadcast S16x512 (Named.named κ "log2e" 0x3FB8AA3B#32)))

/-- The logits with the sample's keys. -/
def open16 (q : FVec F S16x128 .f32) (cq : FVec F S16x1 .f32) (k : FVec F S16x128 .f32) (ck : Vec F S1x1x1x16 .f32) : FVec F S16x16 .f32 :=
  addf
    (matmul dot_S16x128_S16x128_S16x16_1_1_0_0_n_n none (truncf .bf16 q bitsLt_bf16_f32) (truncf .bf16 k bitsLt_bf16_f32)
      (constant S16x16 .f32 0x00000000#32))
    (mulf
      (subf (broadcastTo S16x16 cq broadcasts_S16x1_S16x16)
        (broadcastTo S16x16 (shapeCast S1x16 ck shapeCasts_S1x1x1x16_S1x16) broadcasts_S1x16_S16x16))
      (broadcast S16x16 (Named.named κ "log2e" 0x3FB8AA3B#32)))

/-- Each token sees the sample's tokens up to its own. -/
def causal : IVec S16x16 1 := cmpi .sle (iota .tc S16x16 32 [1] iota_S16x16_d1_w32) (iota .tc S16x16 32 [0] iota_S16x16_d0_w32)

def own (s : FVec F S16x16 .f32) : FVec F S16x16 .f32 :=
  select causal s (broadcast S16x16 (Scalar.ofBits .f32 0xFF800000#32))

def max512 (s : FVec F S16x512 .f32) : FVec F S16x1 .f32 :=
  shapeCast S16x1 (multiReduction .maximumf [1] S16 s 0xFF800000#32 reduces_S16x512_S16 (.inl rfl) rfl) shapeCasts_S16_S16x1

def max16 (s : FVec F S16x16 .f32) : FVec F S16x1 .f32 :=
  shapeCast S16x1 (multiReduction .maximumf [1] S16 s 0xFF800000#32 reduces_S16x16_S16 (.inl rfl) rfl) shapeCasts_S16_S16x1

/-- Each row's largest logit. -/
def top (s0 s1 s2 s3 : FVec F S16x512 .f32) (s4 : FVec F S16x16 .f32) : FVec F S16x1 .f32 :=
  maximumf (maximumf (maximumf (maximumf (max512 s0) (max512 s1)) (max512 s2)) (max512 s3)) (max16 s4)

def exp512 (s : FVec F S16x512 .f32) (m : FVec F S16x1 .f32) : FVec F S16x512 .f32 := exp2 (subf s (broadcastTo S16x512 m broadcasts_S16x1_S16x512))
def exp16 (s : FVec F S16x16 .f32) (m : FVec F S16x1 .f32) : FVec F S16x16 .f32 := exp2 (subf s (broadcastTo S16x16 m broadcasts_S16x1_S16x16))

def sum512 (p : FVec F S16x512 .f32) : FVec F S16x1 .f32 :=
  shapeCast S16x1 (multiReduction .add [1] S16 p 0x00000000#32 reduces_S16x512_S16 (.inl rfl) rfl) shapeCasts_S16_S16x1
def sum16 (p : FVec F S16x16 .f32) : FVec F S16x1 .f32 :=
  shapeCast S16x1 (multiReduction .add [1] S16 p 0x00000000#32 reduces_S16x16_S16 (.inl rfl) rfl) shapeCasts_S16_S16x1

def dot512 (p : FVec F S16x512 .f32) (v : FVec F S512x128 .f32) : FVec F S16x128 .f32 :=
  matmul dot_S16x512_S512x128_S16x128_1_0_0_1_n_n none (truncf .bf16 p bitsLt_bf16_f32) (truncf .bf16 v bitsLt_bf16_f32)
    (constant S16x128 .f32 0x00000000#32)
def dot16 (p : FVec F S16x16 .f32) (v : FVec F S16x128 .f32) : FVec F S16x128 .f32 :=
  matmul dot_S16x16_S16x128_S16x128_1_0_0_1_n_n none (truncf .bf16 p bitsLt_bf16_f32) (truncf .bf16 v bitsLt_bf16_f32)
    (constant S16x128 .f32 0x00000000#32)

/-- The average of the values from the logits less the largest. -/
def average (s0 s1 s2 s3 : FVec F S16x512 .f32) (s4 : FVec F S16x16 .f32) (m : FVec F S16x1 .f32) (v0 v1 v2 v3 : FVec F S512x128 .f32)
    (v4 : FVec F S16x128 .f32) : FVec F S1x16x128 .bf16 :=
  shapeCast S1x16x128
    (truncf .bf16
      (divf
        (addf (addf (addf (addf (addf (broadcast S16x128 (Scalar.ofBits .f32 0x00000000#32)) (dot512 (exp512 s0 m) v0)) (dot512 (exp512 s1 m) v1))
          (dot512 (exp512 s2 m) v2)) (dot512 (exp512 s3 m) v3)) (dot16 (exp16 s4 m) v4))
        (broadcastTo S16x128
          (addf (addf (addf (addf (addf (broadcast S16x1 (Scalar.ofBits .f32 0x00000000#32)) (sum512 (exp512 s0 m))) (sum512 (exp512 s1 m)))
            (sum512 (exp512 s2 m))) (sum512 (exp512 s3 m))) (sum16 (exp16 s4 m)))
          broadcasts_S16x1_S16x128))
      bitsLt_bf16_f32)
    shapeCasts_S16x128_S1x16x128

/-! ### The parts of the windows -/

theorem inbRows (n : ℕ) : ∀ a, (![n % 8, 0, 0] : Fin 3 → ℕ) a + S1x16x128.size a ≤ S8x16x128.size a := by
  intro a
  match a with
  | ⟨0, _⟩ => show n % 8 + 1 ≤ 8; omega
  | ⟨1, _⟩ => show 0 + 16 ≤ 16; omega
  | ⟨2, _⟩ => show 0 + 128 ≤ 128; omega

/-- Head `n`'s rows of the window of all eight heads. -/
def rows (x : Vec F S8x16x128 .f32) (n : ℕ) : Vec F S1x16x128 .f32 :=
  View.ld x (Rect.unit ![n % 8, 0, 0] S1x16x128.size (inbRows n))

/-- The past's rows of all the heads, one after the other. -/
def flat (x : Vec F S1x16384x128 .f32) : Vec F S16384x128 .f32 := shapeCast S16384x128 x squeezes_S1x16384x128_S16384x128.numel_eq

theorem inbPast (n c : ℕ) : ∀ a, S512x128.size a = 0 ∨ (![n % 8 + 4096 * (c % 4), 0] : Fin 2 → ℕ) a + (![8, 1] : Fin 2 → ℕ) a * (S512x128.size a - 1) < S16384x128.size a := by
  intro a
  right
  match a with
  | ⟨0, _⟩ => show n % 8 + 4096 * (c % 4) + 8 * (512 - 1) < 16384; omega
  | ⟨1, _⟩ => show 0 + 1 * (128 - 1) < 128; omega

/-- Head `n`'s rows of part `c` of the past. -/
def pastRows (y : Vec F S16384x128 .f32) (n c : ℕ) : FVec F S512x128 .f32 :=
  shapeCast S512x128 (fun x => y ((⟨![n % 8 + 4096 * (c % 4), 0], S512x128.size, ![8, 1], inbPast n c⟩ : LoadRect S16384x128).idx x) : Vec F S512x128 .f32)
    shapeCasts_S512x128_S512x128

theorem inbSums (n c : ℕ) : ∀ a, (![0, n % 8, 0, 512 * (c % 4)] : Fin 4 → ℕ) a + S1x1x1x512.size a ≤ S1x8x1x2048.size a := by
  intro a
  match a with
  | ⟨0, _⟩ => show 0 + 1 ≤ 1; omega
  | ⟨1, _⟩ => show n % 8 + 1 ≤ 8; omega
  | ⟨2, _⟩ => show 0 + 1 ≤ 1; omega
  | ⟨3, _⟩ => show 512 * (c % 4) + 512 ≤ 2048; omega

def pastSums (x : Vec F S1x8x1x2048 .f32) (n c : ℕ) : Vec F S1x1x1x512 .f32 :=
  View.ld x (Rect.unit ![0, n % 8, 0, 512 * (c % 4)] S1x1x1x512.size (inbSums n c))

theorem inbOwn (n : ℕ) : ∀ a, (![0, n % 8, 0, 0] : Fin 4 → ℕ) a + S1x1x1x16.size a ≤ S1x8x1x16.size a := by
  intro a
  match a with
  | ⟨0, _⟩ => show 0 + 1 ≤ 1; omega
  | ⟨1, _⟩ => show n % 8 + 1 ≤ 8; omega
  | ⟨2, _⟩ => show 0 + 1 ≤ 1; omega
  | ⟨3, _⟩ => show 0 + 16 ≤ 16; omega

def ownSums (x : Vec F S1x8x1x16 .f32) (n : ℕ) : Vec F S1x1x1x16 .f32 :=
  View.ld x (Rect.unit ![0, n % 8, 0, 0] S1x1x1x16.size (inbOwn n))

section Head

variable (x0 : Vec F S8x16x128 .f32) (x1 : Vec F S1x16x128 .f32) (y2 y3 : Vec F S16384x128 .f32)
  (x4 : Vec F S1x8x1x2048 .f32) (x5 x6 : Vec F S8x16x128 .f32) (x7 : Vec F S1x8x1x16 .f32) (n : ℕ)

/-- Head `n`'s logits with part `c` of the past, … -/
def pastAt (c : ℕ) : FVec F S16x512 .f32 :=
  past (mat (rows x0 n)) (column (BitVec.ofNat 32 n) x1) (pastRows y2 n c) (pastSums x4 n c)

/-- … with the sample's keys, … -/
def ownAt : FVec F S16x16 .f32 :=
  own (open16 (mat (rows x0 n)) (column (BitVec.ofNat 32 n) x1) (mat (rows x5 n)) (ownSums x7 n))

def topAt : FVec F S16x1 .f32 :=
  top (pastAt x0 x1 y2 x4 n 0) (pastAt x0 x1 y2 x4 n 1) (pastAt x0 x1 y2 x4 n 2) (pastAt x0 x1 y2 x4 n 3) (ownAt x0 x1 x5 x7 n)

/-- … and what the kernel stores for it. -/
def storedAt : FVec F S1x16x128 .bf16 :=
  average (pastAt x0 x1 y2 x4 n 0) (pastAt x0 x1 y2 x4 n 1) (pastAt x0 x1 y2 x4 n 2) (pastAt x0 x1 y2 x4 n 3) (ownAt x0 x1 x5 x7 n)
    (topAt x0 x1 y2 x4 x5 x7 n) (pastRows y3 n 0) (pastRows y3 n 1) (pastRows y3 n 2) (pastRows y3 n 3) (mat (rows x6 n))

/-- The output window: what the eight heads store, the last one first. -/
def tileFrom : Vec F S8x16x128 .bf16 :=
  View.canon (List.ofFn fun k : Fin 8 =>
    ⟨Rect.unit ![(7 - k.val) % 8, 0, 0] S1x16x128.size (inbRows _), storedAt x0 x1 y2 y3 x4 x5 x6 x7 (7 - k.val)⟩)

end Head

variable (c : Dev nD) (i : grid0.Coords)
  (arg1 : Memref sig .tc .vmem S8x16x128 .f32) (harg1 : arg1.IsWhole)
  (arg2 : Memref sig .tc .vmem S1x16x128 .f32) (harg2 : arg2.IsWhole)
  (arg3 : Memref sig .tc .vmem S1x16384x128 .f32) (harg3 : arg3.IsWhole)
  (arg4 : Memref sig .tc .vmem S1x16384x128 .f32) (harg4 : arg4.IsWhole)
  (arg5 : Memref sig .tc .vmem S1x8x1x2048 .f32) (harg5 : arg5.IsWhole)
  (arg6 : Memref sig .tc .vmem S8x16x128 .f32) (harg6 : arg6.IsWhole)
  (arg7 : Memref sig .tc .vmem S8x16x128 .f32) (harg7 : arg7.IsWhole)
  (arg8 : Memref sig .tc .vmem S1x8x1x16 .f32) (harg8 : arg8.IsWhole)
  (arg9 : Memref sig .tc .vmem S8x16x128 .bf16) (harg9 : arg9.IsWhole)
  (x0 : Vec F S8x16x128 .f32) (x1 : Vec F S1x16x128 .f32) (x2 x3 : Vec F S1x16384x128 .f32)
  (x4 : Vec F S1x8x1x2048 .f32) (x5 x6 : Vec F S8x16x128 .f32) (x7 : Vec F S1x8x1x16 .f32)

/-- The past as the body reads it. -/
def read (a : Memref sig .tc .vmem S1x16384x128 .f32) (ha : a.IsWhole) (x : Vec F S1x16384x128 .f32) : Vec F S16384x128 .f32 :=
  flat (View.ld (a.view.read (Elt F) (ha.unread x)) (Rect.unit ![0, 0, 0] S1x16384x128.size inb_S1x16384x128_S1x16384x128_0_0_0))

theorem read_eq (a : Memref sig .tc .vmem S1x16384x128 .f32) (ha : a.IsWhole) (x : Vec F S1x16384x128 .f32) : read a ha x = flat x := by
  unfold read
  rw [ha.read_unread, View.ld_unit_zero (S := S1x16384x128) hz3]

theorem out8 :
    out0_A_8 c i arg1 harg1 arg2 harg2 arg3 harg3 arg4 harg4 arg5 harg5 arg6 harg6 arg7 harg7 arg8 harg8 arg9 harg9 x0 x1 x2 x3 x4 x5 x6 x7
      = tileFrom x0 x1 (flat x2) (flat x3) x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  trans tileFrom (arg1.view.read (Elt F) (harg1.unread x0))
    (View.ld (arg2.view.read (Elt F) (harg2.unread x1)) (Rect.unit ![0, 0, 0] S1x16x128.size inb_S1x16x128_S1x16x128_0_0_0))
    (read arg3 harg3 x2) (read arg4 harg4 x3)
    (arg5.view.read (Elt F) (harg5.unread x4)) (arg6.view.read (Elt F) (harg6.unread x5)) (arg7.view.read (Elt F) (harg7.unread x6))
    (arg8.view.read (Elt F) (harg8.unread x7))
  · rfl
  · simp only [read_eq, harg1.read_unread, harg2.read_unread, harg5.read_unread, harg6.read_unread, harg7.read_unread, harg8.read_unread]
    rw [View.ld_unit_zero (S := S1x16x128) hz3]

end Cert.SampleFox.Tile

end
-- ==== Proof.SampleFoxSpec.lean ====
/-
  The sample's forgetting attention: each token attends to the 2048 keys of its sequence's past and to the keys of the
  sample's tokens up to its own. A pair's logit is the product of the query and the key plus the difference of the two
  tokens' running sums of log forgets; the output is the average of the values, weighted by 2 to the logits.
-/
module

public import proofs.«01_k».proof.Proof.SampleHgrnSpec
public import Idealize.ShloMosaic.PureOps.Ideal
public import Idealize.ShloMosaic.Lib.Pointwise
public import Mathlib.Analysis.SpecialFunctions.Pow.Real
public import Mathlib.Data.EReal.Operations

@[expose] public section

noncomputable section

namespace Cert.SampleFox

open Idealize.ShloMosaic

/-! ### The weighted average -/

section Average

variable {n : ℕ} (a : Fin n → ℝ) (keep : Fin n → Prop) [DecidablePred keep]

/-- The weights: 2 to the logits, of the keys kept. -/
def weight (k : Fin n) : ℝ := if keep k then (2 : ℝ) ^ a k else 0

/-- The average of the values. -/
def avg (v : Fin n → EReal) : EReal := ∑ k, ((weight a keep k / ∑ j, weight a keep j : ℝ) : EReal) * v k

/-- The logits, those of the keys that are not kept at minus infinity. -/
def masked (k : Fin n) : EReal := if keep k then ((a k : ℝ) : EReal) else ⊥

theorem sum_mul_real {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert i s hi ih =>
    rw [Finset.sum_insert hi, Finset.sum_insert hi, ← ih]
    exact EReal.right_distrib_of_nonneg_of_ne_top (EReal.coe_nonneg.2 hc) (EReal.coe_ne_top c) _ _

theorem sum_real {ι : Type} (s : Finset ι) (f : ι → ℝ) : ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

theorem weight_nonneg (k : Fin n) : 0 ≤ weight a keep k := by
  unfold weight
  split
  · exact (Real.rpow_pos_of_pos two_pos _).le
  · exact le_refl 0

variable (hk : ∃ k, keep k)
include hk

theorem total_pos : 0 < ∑ k, weight a keep k := by
  obtain ⟨k, hk⟩ := hk
  refine Finset.sum_pos' (fun j _ => weight_nonneg a keep j) ⟨k, Finset.mem_univ k, ?_⟩
  rw [weight, if_pos hk]
  exact Real.rpow_pos_of_pos two_pos _

/-- The weights all times one positive number average alike, the division after the sum. -/
theorem div_sum (v : Fin n → EReal) {c : ℝ} (hc : 0 < c) :
    Ideal.div (∑ k, ((weight a keep k * c : ℝ) : EReal) * v k) (∑ k, ((weight a keep k * c : ℝ) : EReal)) = avg a keep v := by
  have hW := total_pos a keep hk
  have hs : ∑ k, weight a keep k * c = (∑ k, weight a keep k) * c := (Finset.sum_mul _ _ _).symm
  have hp : 0 < ∑ k, weight a keep k * c := by rw [hs]; exact mul_pos hW hc
  rw [sum_real, Ideal.div_coe hp.ne', sum_mul_real _ _ (by positivity)]
  refine Finset.sum_congr rfl fun k _ => ?_
  rw [mul_right_comm, ← EReal.coe_mul]
  congr 2
  rw [hs, mul_one_div, mul_div_mul_right _ _ hc.ne']

/-- The same, each weight divided. -/
theorem sum_div (v : Fin n → EReal) {c : ℝ} (hc : 0 < c) :
    ∑ k, Ideal.div ((weight a keep k * c : ℝ) : EReal) (∑ j, ((weight a keep j * c : ℝ) : EReal)) * v k = avg a keep v := by
  have hW := total_pos a keep hk
  have hs : ∑ k, weight a keep k * c = (∑ k, weight a keep k) * c := (Finset.sum_mul _ _ _).symm
  have hp : 0 < ∑ k, weight a keep k * c := by rw [hs]; exact mul_pos hW hc
  refine Finset.sum_congr rfl fun k _ => ?_
  rw [sum_real, Ideal.div_coe hp.ne', ← EReal.coe_mul]
  congr 2
  rw [hs, mul_one_div, mul_div_mul_right _ _ hc.ne']

omit hk in
/-- A weight after a shift of the logits, … -/
theorem exp2_masked (M : ℝ) (k : Fin n) :
    Ideal.exp2 (masked a keep k - (M : EReal)) = ((weight a keep k * (2 : ℝ) ^ (-M) : ℝ) : EReal) := by
  unfold masked weight
  split
  · rw [← EReal.coe_sub, Ideal.exp2_coe]
    congr 1
    show (2 : ℝ) ^ (a k - M) = _
    rw [sub_eq_add_neg, Real.rpow_add two_pos]
  · rw [EReal.bot_sub, zero_mul]
    rfl

omit hk in
/-- … and the same to base e, of logits times `log 2`. -/
theorem exp_masked (M : ℝ) (k : Fin n) :
    Ideal.exp (masked (fun k => Real.log 2 * a k) keep k - (M : EReal)) = ((weight a keep k * Real.exp (-M) : ℝ) : EReal) := by
  unfold masked weight
  split
  · rw [← EReal.coe_sub, Ideal.exp_coe]
    congr 1
    rw [sub_eq_add_neg, Real.exp_add, Real.rpow_def_of_pos two_pos]
  · rw [EReal.bot_sub, zero_mul]
    rfl

/-- The kernel's form of the average, at whatever real shift, … -/
theorem avg_exp2 (v : Fin n → EReal) (M : ℝ) :
    Ideal.div (∑ k, Ideal.exp2 (masked a keep k - (M : EReal)) * v k) (∑ k, Ideal.exp2 (masked a keep k - (M : EReal)))
      = avg a keep v := by
  simp only [exp2_masked]
  exact div_sum a keep hk v (Real.rpow_pos_of_pos two_pos _)

/-- … and the reference's. -/
theorem avg_exp (v : Fin n → EReal) (M : ℝ) :
    ∑ k, Ideal.div (Ideal.exp (masked (fun k => Real.log 2 * a k) keep k - (M : EReal)))
        (∑ j, Ideal.exp (masked (fun k => Real.log 2 * a k) keep j - (M : EReal))) * v k
      = avg a keep v := by
  simp only [exp_masked]
  exact sum_div a keep hk v (Real.exp_pos _)

omit hk in
/-- The largest of numbers below infinity, one of them real, is real. -/
theorem fold_max_of {ι : Type} (t : Finset ι) (x : ι → EReal) (hx : ∀ i, x i < ⊤) (i : ι) (hi : i ∈ t) (hr : ⊥ < x i) :
    ∃ M : ℝ, t.fold max (⊥ : EReal) x = (M : EReal) := by
  have hs : t.fold max (⊥ : EReal) x = t.sup x := rfl
  rw [hs]
  refine ⟨(t.sup x).toReal, (EReal.coe_toReal ?_ ?_).symm⟩
  · exact ne_of_lt ((Finset.sup_lt_iff bot_lt_top).2 fun j _ => hx j)
  · exact ne_of_gt (lt_of_lt_of_le hr (Finset.le_sup (f := x) hi))

omit hk in
theorem masked_lt_top (k : Fin n) : masked a keep k < ⊤ := by
  unfold masked
  split
  · exact EReal.coe_lt_top _
  · exact bot_lt_top

end Average

/-! ### The attention -/

abbrev Planes := SampleHgrn.Planes
abbrev Sums := (⟨3, ![32, 8, 2048]⟩ : Shape).Idx → EReal
abbrev Small := (⟨3, ![33, 8, 16]⟩ : Shape).Idx → EReal
abbrev Cache := (⟨5, ![1, 32, 2048, 8, 128]⟩ : Shape).Idx → EReal

def plane (o : ℕ) (ho : o ≤ 48) (h : Fin 8) : Fin 56 := ⟨o + h.val, by have := h.isLt; omega⟩
/-- The row of token `t` of the sample's sequence `b`. -/
def tok (b : Fin 32) (t : Fin 16) : Fin 528 := ⟨16 + b.val * 16 + t.val, by have := b.isLt; have := t.isLt; omega⟩

def seq (b : Fin 32) : Fin 33 := ⟨1 + b.val, by have := b.isLt; omega⟩

/-- The past's keys or values and, after them, the sample's. -/
def rowAt (z : Planes) (cache : Cache) (o : ℕ) (ho : o ≤ 48) (b : Fin 32) (h : Fin 8) (k : Fin 2064) (d : Fin 128) : EReal :=
  if hk : k.val < 2048 then cache (ix5 0 b ⟨k.val, hk⟩ h d)
  else z (ix3 (plane o ho h) (tok b ⟨k.val - 2048, by have := k.isLt; omega⟩) d)

/-- The running sums. -/
def sumAt (past : Sums) (own : Small) (b : Fin 32) (h : Fin 8) (k : Fin 2064) : EReal :=
  if hk : k.val < 2048 then past (ix3 b h ⟨k.val, hk⟩)
  else own (ix3 (seq b) h ⟨k.val - 2048, by have := k.isLt; omega⟩)

def queryAt (z : Planes) (b : Fin 32) (h : Fin 8) (s : Fin 16) (d : Fin 128) : EReal := z (ix3 (plane 32 (by omega) h) (tok b s) d)

/-- The queries, keys and running sums are real. -/
structure Finite (z : Planes) (past : Sums) (own : Small) (kc : Cache) : Prop where
  query : ∀ (b : Fin 32) (h : Fin 8) (s : Fin 16) (d : Fin 128), ∃ x : ℝ, queryAt z b h s d = x
  key : ∀ (b : Fin 32) (h : Fin 8) (k : Fin 2064) (d : Fin 128), ∃ x : ℝ, rowAt z kc 40 (by omega) b h k d = x
  sum : ∀ (b : Fin 32) (h : Fin 8) (k : Fin 2064), ∃ x : ℝ, sumAt past own b h k = x
  own : ∀ (b : Fin 32) (h : Fin 8) (s : Fin 16), ∃ x : ℝ, own (ix3 (seq b) h s) = x

/-- A pair's logit, to base 2. -/
def logit (z : Planes) (past : Sums) (own : Small) (kc : Cache) (b : Fin 32) (h : Fin 8) (s : Fin 16) (k : Fin 2064) : ℝ :=
  (∑ d, (queryAt z b h s d).toReal * (rowAt z kc 40 (by omega) b h k d).toReal)
    + ((own (ix3 (seq b) h s)).toReal - (sumAt past own b h k).toReal) * (Real.log 2)⁻¹

/-- The keys that token `s` attends to. -/
def keeps (s : Fin 16) (k : Fin 2064) : Prop := k.val ≤ 2048 + s.val

instance (s : Fin 16) : DecidablePred (keeps s) := fun k => inferInstanceAs (Decidable (k.val ≤ 2048 + s.val))

theorem keeps_some (s : Fin 16) : ∃ k, keeps s k := ⟨⟨0, by omega⟩, Nat.zero_le _⟩

/-- Token `s`'s output. -/
def result (z : Planes) (past : Sums) (own : Small) (kc vc : Cache) (b : Fin 32) (h : Fin 8) (s : Fin 16) (e : Fin 128) : EReal :=
  avg (logit z past own kc b h s) (keeps s) fun k => rowAt z vc 48 (by omega) b h k e

section Real

variable {z : Planes} {past : Sums} {own : Small} {kc : Cache} (hf : Finite z past own kc) (b : Fin 32) (h : Fin 8) (s : Fin 16)
  (k : Fin 2064)
include hf

theorem logit_exp2 : (∑ d, queryAt z b h s d * rowAt z kc 40 (by omega) b h k d)
      + (own (ix3 (seq b) h s) - sumAt past own b h k) * (((Real.log 2)⁻¹ : ℝ) : EReal)
    = ((logit z past own kc b h s k : ℝ) : EReal) := by
  choose q hq using hf.query b h s
  choose y hy using hf.key b h k
  obtain ⟨co, ho⟩ := hf.own b h s
  obtain ⟨cs, hs⟩ := hf.sum b h k
  unfold logit
  simp only [hq, hy, ho, hs, EReal.toReal_coe, ← EReal.coe_mul, ← EReal.coe_sub]
  rw [sum_real, ← EReal.coe_add]

theorem logit_exp : (∑ d, (queryAt z b h s d * ((Real.log 2 : ℝ) : EReal)) * rowAt z kc 40 (by omega) b h k d)
      + (own (ix3 (seq b) h s) - sumAt past own b h k)
    = ((Real.log 2 * logit z past own kc b h s k : ℝ) : EReal) := by
  choose q hq using hf.query b h s
  choose y hy using hf.key b h k
  obtain ⟨co, ho⟩ := hf.own b h s
  obtain ⟨cs, hs⟩ := hf.sum b h k
  have hl : Real.log 2 ≠ 0 := (Real.log_pos one_lt_two).ne'
  unfold logit
  simp only [hq, hy, ho, hs, EReal.toReal_coe, ← EReal.coe_mul, ← EReal.coe_sub]
  rw [sum_real, ← EReal.coe_add, mul_add, Finset.mul_sum]
  congr 2
  · exact Finset.sum_congr rfl fun d _ => by ring
  · rw [mul_comm, mul_assoc, inv_mul_cancel₀ hl, mul_one]

end Real

end Cert.SampleFox

end
-- ==== Proof.SampleFoxHead.lean ====
/-
  One head's attention entry by entry: its logits, that the largest of them is real, and the sums over the five parts as one.
-/
module

public import proofs.«01_k».proof.Proof.SampleFoxTile
public import proofs.«01_k».proof.Proof.SampleFoxSpec
public import Idealize.ShloMosaic.Lib.Pipeline.ValueKit.Tiles

@[expose] public section

noncomputable section

namespace Cert.SampleFox.Tile

open Idealize.ShloMosaic Cert.Kernel8Ideal Cert.Kernel8Ideal.Gen

/-! ### The five parts of the keys -/

def part (c : ℕ) (hc : c ≤ 3) (j : Fin 512) : Fin 2064 := ⟨512 * c + j.val, by have := j.isLt; omega⟩
def tail (j : Fin 16) : Fin 2064 := ⟨2048 + j.val, by have := j.isLt; omega⟩

theorem sum_split (f : Fin 2064 → EReal) : 0 + ∑ j, f (part 0 (by omega) j) + ∑ j, f (part 1 (by omega) j) + ∑ j, f (part 2 (by omega) j)
    + ∑ j, f (part 3 (by omega) j) + ∑ j, f (tail j) = ∑ k, f k := by
  symm
  refine (Fin.sum_univ_add (a := 2048) (b := 16) f).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  refine Eq.trans ?_ (zero_add _).symm
  exact Finset.sum_congr rfl fun j _ => congrArg f (Fin.ext (by show j.val = 512 * 0 + j.val; omega))

/-! ### The stages at an index -/

theorem bottom : Ideal.ofBits .f32 0xFF800000#32 = ⊥ := by simp [Ideal.ofBits, Ideal.ieee]

theorem past_at (q : FVec Ideal S16x128 .f32) (cq : FVec Ideal S16x1 .f32) (k : FVec Ideal S512x128 .f32) (ck : Vec Ideal S1x1x1x512 .f32)
    (r : Fin 16) (j : Fin 512) : (past q cq k ck (ix2 r j) : EReal)
      = (∑ d : Fin 128, q (ix2 r d) * k (ix2 j d)) + (cq (ix2 r 0) - ck (ix4 0 0 0 j)) * (((Real.log 2)⁻¹ : ℝ) : EReal) := by
  pointwise [past]
  rfl

theorem open16_at (q : FVec Ideal S16x128 .f32) (cq : FVec Ideal S16x1 .f32) (k : FVec Ideal S16x128 .f32) (ck : Vec Ideal S1x1x1x16 .f32)
    (r j : Fin 16) : (open16 q cq k ck (ix2 r j) : EReal)
      = (∑ d : Fin 128, q (ix2 r d) * k (ix2 j d)) + (cq (ix2 r 0) - ck (ix4 0 0 0 j)) * (((Real.log 2)⁻¹ : ℝ) : EReal) := by
  pointwise [open16]
  rfl

theorem causal_eq : ∀ r j : Fin 16, (causal (ix2 r j) = 1#1) ↔ j.val ≤ r.val := by decide +kernel

theorem own_at (s : FVec Ideal S16x16 .f32) (r j : Fin 16) : (own s (ix2 r j) : EReal) = if j.val ≤ r.val then s (ix2 r j) else ⊥ := by
  show (if causal (ix2 r j) = 1#1 then s (ix2 r j) else Ideal.ofBits .f32 0xFF800000#32 : EReal) = _
  rw [bottom]
  exact if_congr (causal_eq r j) rfl rfl

theorem lane_eq : ∀ (l : Fin 128) (h : Fin 8), (IntOp.cmpi .eq (BitVec.ofNat 32 l.val) (BitVec.ofNat 32 h.val) = 1#1) ↔ l = ⟨h.val, by omega⟩ := by
  decide +kernel

theorem mat_at (x : Vec Ideal S1x16x128 .f32) (r : Fin 16) (d : Fin 128) : (mat x (ix2 r d) : EReal) = x (ix3 0 r d) := by
  pointwise [mat]

theorem column_at (x : Vec Ideal S1x16x128 .f32) (h : Fin 8) (r : Fin 16) :
    (column (BitVec.ofNat 32 h.val) x (ix2 r 0) : EReal) = x (ix3 0 r ⟨h.val, by omega⟩) := by
  have e : (column (BitVec.ofNat 32 h.val) x (ix2 r 0) : EReal)
      = ∑ l : Fin 128, Scalar.select (IntOp.cmpi .eq (BitVec.ofNat 32 l.val) (BitVec.ofNat 32 h.val)) (x (ix3 0 r l)) (Ideal.ofBits .f32 0x00000000#32) := by
    pointwise [column, mat]
  have h0 : Ideal.ofBits .f32 0x00000000#32 = 0 := by simp [Ideal.ofBits, Ideal.ieee]
  rw [e, h0]
  have hl : ∀ l : Fin 128, (Scalar.select (IntOp.cmpi .eq (BitVec.ofNat 32 l.val) (BitVec.ofNat 32 h.val)) (x (ix3 0 r l) : EReal) 0 : EReal)
      = if l = (⟨h.val, by omega⟩ : Fin 128) then (x (ix3 0 r l) : EReal) else 0 := fun l => if_congr (lane_eq l h) rfl rfl
  refine Eq.trans (Finset.sum_congr rfl fun l _ => hl l) ?_
  rw [Finset.sum_ite_eq' Finset.univ (⟨h.val, by omega⟩ : Fin 128) fun l => (x (ix3 0 r l) : EReal), if_pos (Finset.mem_univ _)]

theorem max512_at (s : FVec Ideal S16x512 .f32) (r : Fin 16) :
    (max512 s (ix2 r 0) : EReal) = Finset.univ.fold max (FloatOps.ofBits .f32 0xFF800000#32) fun j : Fin 512 => s (ix2 r j) := by
  pointwise [max512]

theorem max16_at (s : FVec Ideal S16x16 .f32) (r : Fin 16) :
    (max16 s (ix2 r 0) : EReal) = Finset.univ.fold max (FloatOps.ofBits .f32 0xFF800000#32) fun j : Fin 16 => s (ix2 r j) := by
  pointwise [max16]

theorem exp512_at (s : FVec Ideal S16x512 .f32) (m : FVec Ideal S16x1 .f32) (r : Fin 16) (j : Fin 512) :
    (exp512 s m (ix2 r j) : EReal) = Ideal.exp2 (s (ix2 r j) - m (ix2 r 0)) := by
  pointwise [exp512]
  rfl
theorem exp16_at (s : FVec Ideal S16x16 .f32) (m : FVec Ideal S16x1 .f32) (r j : Fin 16) :
    (exp16 s m (ix2 r j) : EReal) = Ideal.exp2 (s (ix2 r j) - m (ix2 r 0)) := by
  pointwise [exp16]
  rfl
theorem sum512_at (p : FVec Ideal S16x512 .f32) (r : Fin 16) : (sum512 p (ix2 r 0) : EReal) = ∑ j : Fin 512, p (ix2 r j) := by
  pointwise [sum512]
theorem sum16_at (p : FVec Ideal S16x16 .f32) (r : Fin 16) : (sum16 p (ix2 r 0) : EReal) = ∑ j : Fin 16, p (ix2 r j) := by
  pointwise [sum16]
theorem dot512_at (p : FVec Ideal S16x512 .f32) (v : FVec Ideal S512x128 .f32) (r : Fin 16) (e : Fin 128) :
    (dot512 p v (ix2 r e) : EReal) = ∑ j : Fin 512, p (ix2 r j) * v (ix2 j e) := by
  pointwise [dot512]
theorem dot16_at (p : FVec Ideal S16x16 .f32) (v : FVec Ideal S16x128 .f32) (r : Fin 16) (e : Fin 128) :
    (dot16 p v (ix2 r e) : EReal) = ∑ j : Fin 16, p (ix2 r j) * v (ix2 j e) := by
  pointwise [dot16]

/-- The last steps: five sums over five sums. -/
def ratio (a0 a1 a2 a3 a4 : FVec Ideal S16x128 .f32) (l0 l1 l2 l3 l4 : FVec Ideal S16x1 .f32) : FVec Ideal S1x16x128 .bf16 :=
  shapeCast S1x16x128
    (truncf .bf16
      (divf (addf (addf (addf (addf (addf (broadcast S16x128 (Scalar.ofBits .f32 0x00000000#32)) a0) a1) a2) a3) a4)
        (broadcastTo S16x128 (addf (addf (addf (addf (addf (broadcast S16x1 (Scalar.ofBits .f32 0x00000000#32)) l0) l1) l2) l3) l4)
          broadcasts_S16x1_S16x128))
      bitsLt_bf16_f32)
    shapeCasts_S16x128_S1x16x128

theorem ratio_at (a0 a1 a2 a3 a4 : FVec Ideal S16x128 .f32) (l0 l1 l2 l3 l4 : FVec Ideal S16x1 .f32) (r : Fin 16) (e : Fin 128) :
    (ratio a0 a1 a2 a3 a4 l0 l1 l2 l3 l4 (ix3 0 r e) : EReal)
      = Ideal.div (0 + a0 (ix2 r e) + a1 (ix2 r e) + a2 (ix2 r e) + a3 (ix2 r e) + a4 (ix2 r e))
          (0 + l0 (ix2 r 0) + l1 (ix2 r 0) + l2 (ix2 r 0) + l3 (ix2 r 0) + l4 (ix2 r 0)) := by
  have h0 : Ideal.ofBits .f32 0x00000000#32 = 0 := by simp [Ideal.ofBits, Ideal.ieee]
  rw [← h0]
  pointwise [ratio]

section Real

variable {a : Fin 2064 → ℝ} {v : Fin 2064 → EReal} {r : Fin 16} {e : Fin 128} {s0 s1 s2 s3 : FVec Ideal S16x512 .f32} {s4 : FVec Ideal S16x16 .f32}
  (h0 : ∀ j, (s0 (ix2 r j) : EReal) = (a (part 0 (by omega) j) : ℝ)) (h1 : ∀ j, (s1 (ix2 r j) : EReal) = (a (part 1 (by omega) j) : ℝ))
  (h2 : ∀ j, (s2 (ix2 r j) : EReal) = (a (part 2 (by omega) j) : ℝ)) (h3 : ∀ j, (s3 (ix2 r j) : EReal) = (a (part 3 (by omega) j) : ℝ))
  (h4 : ∀ j, (s4 (ix2 r j) : EReal) = masked a (keeps r) (tail j))

theorem max512_real {s : FVec Ideal S16x512 .f32} {b : Fin 512 → ℝ} (h : ∀ j, (s (ix2 r j) : EReal) = (b j : ℝ)) :
    ∃ M : ℝ, (max512 s (ix2 r 0) : EReal) = (M : EReal) := by
  have hb : (FloatOps.ofBits .f32 0xFF800000#32 : Ideal .f32) = (⊥ : EReal) := bottom
  rw [max512_at, hb]
  refine fold_max_of _ _ (fun j => ?_) 0 (Finset.mem_univ _) ?_
  · rw [h]; exact EReal.coe_lt_top _
  · rw [h]; exact EReal.bot_lt_coe _

include h4 in
theorem max16_real : ∃ M : ℝ, (max16 s4 (ix2 r 0) : EReal) = (M : EReal) := by
  have hb : (FloatOps.ofBits .f32 0xFF800000#32 : Ideal .f32) = (⊥ : EReal) := bottom
  rw [max16_at, hb]
  refine fold_max_of _ _ (fun j => ?_) 0 (Finset.mem_univ _) ?_
  · rw [h4]; exact masked_lt_top _ _ _
  · rw [h4, masked, if_pos (show keeps r (tail 0) from by show 2048 + 0 ≤ 2048 + r.val; omega)]
    exact EReal.bot_lt_coe _

include h0 h1 h2 h3 h4

theorem top_real : ∃ M : ℝ, (top s0 s1 s2 s3 s4 (ix2 r 0) : EReal) = (M : EReal) := by
  obtain ⟨m0, e0⟩ := max512_real h0
  obtain ⟨m1, e1⟩ := max512_real h1
  obtain ⟨m2, e2⟩ := max512_real h2
  obtain ⟨m3, e3⟩ := max512_real h3
  obtain ⟨m4, e4⟩ := max16_real h4
  refine ⟨max (max (max (max m0 m1) m2) m3) m4, ?_⟩
  show max (max (max (max (max512 s0 (ix2 r 0) : EReal) (max512 s1 (ix2 r 0))) (max512 s2 (ix2 r 0))) (max512 s3 (ix2 r 0))) (max16 s4 (ix2 r 0)) = _
  rw [e0, e1, e2, e3, e4]
  have hm : ∀ a b : ℝ, max (a : EReal) b = ((max a b : ℝ) : EReal) := fun a b => (EReal.coe_strictMono.monotone.map_max).symm
  simp only [hm]

theorem average_real {v0 v1 v2 v3 : FVec Ideal S512x128 .f32} {v4 : FVec Ideal S16x128 .f32}
    (w0 : ∀ j, (v0 (ix2 j e) : EReal) = v (part 0 (by omega) j)) (w1 : ∀ j, (v1 (ix2 j e) : EReal) = v (part 1 (by omega) j))
    (w2 : ∀ j, (v2 (ix2 j e) : EReal) = v (part 2 (by omega) j)) (w3 : ∀ j, (v3 (ix2 j e) : EReal) = v (part 3 (by omega) j))
    (w4 : ∀ j, (v4 (ix2 j e) : EReal) = v (tail j)) :
    (average s0 s1 s2 s3 s4 (top s0 s1 s2 s3 s4) v0 v1 v2 v3 v4 (ix3 0 r e) : EReal) = avg a (keeps r) v := by
  obtain ⟨M, hM⟩ := top_real h0 h1 h2 h3 h4
  generalize top s0 s1 s2 s3 s4 = m at hM ⊢
  have hp : ∀ (c : ℕ) (hc : c ≤ 3) (j : Fin 512), ((a (part c hc j) : ℝ) : EReal) = masked a (keeps r) (part c hc j) := fun c hc j => by
    rw [masked, if_pos]
    have := j.isLt
    show 512 * c + j.val ≤ 2048 + r.val
    omega
  refine (ratio_at _ _ _ _ _ _ _ _ _ _ r e).trans ?_
  simp only [dot512_at, dot16_at, sum512_at, sum16_at, exp512_at, exp16_at, hM, h0, h1, h2, h3, h4, w0, w1, w2, w3, w4, hp]
  rw [sum_split fun k => Ideal.exp2 (masked a (keeps r) k - (M : EReal)) * v k, sum_split fun k => Ideal.exp2 (masked a (keeps r) k - (M : EReal))]
  exact avg_exp2 a (keeps r) (keeps_some r) v M

end Real

/-! ### The windows at an index -/

theorem rows_at (x : Vec Ideal S8x16x128 .f32) (h : Fin 8) (r : Fin 16) (d : Fin 128) : (mat (rows x h.val) (ix2 r d) : EReal) = x (ix3 h r d) := by
  rw [mat_at]
  refine congrArg x (funext fun a => Fin.ext ?_)
  match a with
  | ⟨0, _⟩ => show h.val % 8 + 1 * 0 = h.val; omega
  | ⟨1, _⟩ => show 0 + 1 * r.val = r.val; omega
  | ⟨2, _⟩ => show 0 + 1 * d.val = d.val; omega

theorem flat_at (x : Vec Ideal S1x16384x128 .f32) (i : Fin 16384) (d : Fin 128) : (flat x (ix2 i d) : EReal) = x (ix3 0 i d) := by
  pointwise [flat]

theorem same_at (y : Vec Ideal S512x128 .f32) (j : Fin 512) (d : Fin 128) :
    (shapeCast S512x128 y shapeCasts_S512x128_S512x128 (ix2 j d) : EReal) = y (ix2 j d) := by
  pointwise

theorem pastRows_at (x : Vec Ideal S1x16384x128 .f32) (h : Fin 8) (c : ℕ) (hc : c ≤ 3) (j : Fin 512) (d : Fin 128) :
    (pastRows (flat x) h.val c (ix2 j d) : EReal) = x (ix3 0 ⟨(512 * c + j.val) * 8 + h.val, by have := j.isLt; have := h.isLt; omega⟩ d) := by
  refine (same_at _ j d).trans (Eq.trans (congrArg (flat x) (funext fun a => Fin.ext ?_)) (flat_at x _ d))
  match a with
  | ⟨0, _⟩ => show h.val % 8 + 4096 * (c % 4) + 8 * j.val = (512 * c + j.val) * 8 + h.val; omega
  | ⟨1, _⟩ => show 0 + 1 * d.val = d.val; omega

theorem pastSums_at (x : Vec Ideal S1x8x1x2048 .f32) (h : Fin 8) (c : ℕ) (hc : c ≤ 3) (j : Fin 512) :
    (pastSums x h.val c (ix4 0 0 0 j) : EReal) = x (ix4 0 h 0 ⟨512 * c + j.val, by have := j.isLt; omega⟩) := by
  refine congrArg x (funext fun a => Fin.ext ?_)
  match a with
  | ⟨0, _⟩ => rfl
  | ⟨1, _⟩ => show h.val % 8 + 1 * 0 = h.val; omega
  | ⟨2, _⟩ => rfl
  | ⟨3, _⟩ => show 512 * (c % 4) + 1 * j.val = 512 * c + j.val; omega

theorem ownSums_at (x : Vec Ideal S1x8x1x16 .f32) (h : Fin 8) (j : Fin 16) : (ownSums x h.val (ix4 0 0 0 j) : EReal) = x (ix4 0 h 0 j) := by
  refine congrArg x (funext fun a => Fin.ext ?_)
  match a with
  | ⟨0, _⟩ => rfl
  | ⟨1, _⟩ => show h.val % 8 + 1 * 0 = h.val; omega
  | ⟨2, _⟩ => rfl
  | ⟨3, _⟩ => show 0 + 1 * j.val = j.val; omega

theorem tile_at (x0 : Vec Ideal S8x16x128 .f32) (x1 : Vec Ideal S1x16x128 .f32) (y2 y3 : Vec Ideal S16384x128 .f32) (x4 : Vec Ideal S1x8x1x2048 .f32)
    (x5 x6 : Vec Ideal S8x16x128 .f32) (x7 : Vec Ideal S1x8x1x16 .f32) (h : Fin 8) (r : Fin 16) (e : Fin 128) :
    (tileFrom x0 x1 y2 y3 x4 x5 x6 x7 (ix3 h r e) : EReal) = storedAt x0 x1 y2 y3 x4 x5 x6 x7 h.val (ix3 0 r e) := by
  have hh := h.isLt
  have hd : ∀ k k' : Fin 8, k ≠ k' →
      Disjoint (Rect.unit (s := S8x16x128) ![(7 - k.val) % 8, 0, 0] S1x16x128.size (inbRows (7 - k.val))).set
        (Rect.unit (s := S8x16x128) ![(7 - k'.val) % 8, 0, 0] S1x16x128.size (inbRows (7 - k'.val))).set := by
    intro k k' hk
    rw [Finset.disjoint_left]
    intro i h1 h2
    rw [Rect.mem_set_unit] at h1 h2
    have a1 : (7 - k.val) % 8 ≤ (i 0).val ∧ (i 0).val < (7 - k.val) % 8 + 1 := h1 0
    have a2 : (7 - k'.val) % 8 ≤ (i 0).val ∧ (i 0).val < (7 - k'.val) % 8 + 1 := h2 0
    have := k.isLt; have := k'.isLt
    exact hk (Fin.ext (by omega))
  have hc := View.canon_ofFn_emb_of_disjoint (Val := Elt Ideal) (e := .bf16)
    (fun k : Fin 8 => Rect.unit (s := S8x16x128) ![(7 - k.val) % 8, 0, 0] S1x16x128.size (inbRows (7 - k.val)))
    (fun k => storedAt x0 x1 y2 y3 x4 x5 x6 x7 (7 - k.val)) hd ⟨7 - h.val, by omega⟩ (ix3 0 r e)
  have hk : 7 - (7 - h.val) = h.val := by omega
  have he : (Rect.unit (s := S8x16x128) ![(7 - (7 - h.val)) % 8, 0, 0] S1x16x128.size
      (inbRows (7 - (7 - h.val)))).emb (ix3 0 r e) = ix3 h r e := by
    funext a
    apply Fin.ext
    rw [Rect.emb_apply]
    match a with
    | ⟨0, _⟩ => show (7 - (7 - h.val)) % 8 + 1 * 0 = h.val; omega
    | ⟨1, _⟩ => show 0 + 1 * r.val = r.val; omega
    | ⟨2, _⟩ => show 0 + 1 * e.val = e.val; omega
  rw [tileFrom, ← he]
  refine hc.trans ?_
  simp only [hk]

end Cert.SampleFox.Tile

end
-- ==== Proof.SampleFoxValue.lean ====
/-
  The kernel's result entry by entry: grid point `b` takes sequence `b` of the sample, its sixteen tokens and its past, for all
  eight heads. The arrays that the launch finds are the arguments, rearranged by the operations before it.
-/
module

public import proofs.«01_k».proof.Proof.SampleFoxHead
public import Idealize.ShloMosaic.Lib.StableHlo.ReadAt

@[expose] public section

set_option maxRecDepth 8192

noncomputable section

namespace Cert.SampleFox.Result

open Idealize.ShloMosaic Idealize.ShloMosaic.TcCoe Idealize.ShloMosaic.StableHlo
open Cert.Kernel8Ideal Cert.Kernel8Ideal.Gen Cert.SampleFox.Tile

variable (m : (ℓ : Loc nD τ sig) → Buf (Elt Ideal) ℓ) (c : Dev nD)

abbrev planes : Planes := m ((c : Thread nD τ).loc main_arg0)
abbrev past : Sums := m ((c : Thread nD τ).loc main_arg1)
abbrev small : Small := m ((c : Thread nD τ).loc main_arg2)
abbrev keys : Cache := m ((c : Thread nD τ).loc main_arg3)
abbrev values : Cache := m ((c : Thread nD τ).loc main_arg4)

/-! ### The arrays the launch finds -/

theorem arr_keys (b : Fin 32) (k : Fin 2048) (h : Fin 8) (d : Fin 128) :
    (V m c main_v8 (ix3 b ⟨k.val * 8 + h.val, by omega⟩ d) : EReal) = keys m c (ix5 0 b k h d) := by
  unfold V
  after_reads_at
theorem arr_values (b : Fin 32) (k : Fin 2048) (h : Fin 8) (d : Fin 128) :
    (V m c main_v9 (ix3 b ⟨k.val * 8 + h.val, by omega⟩ d) : EReal) = values m c (ix5 0 b k h d) := by
  unfold V
  after_reads_at
theorem arr_past (b : Fin 32) (h : Fin 8) (k : Fin 2048) : (V m c main_v5 (ix4 b h 0 k) : EReal) = past m c (ix3 b h k) := by
  unfold V
  after_reads_at
theorem arr_own (b : Fin 32) (h : Fin 8) (s : Fin 16) : (V m c main_v7 (ix4 b h 0 s) : EReal) = small m c (ix3 (seq b) h s) := by
  unfold V
  after_reads_at
  rfl
/-- The sample's running sums by token, as many columns as lanes. -/
theorem arr_columns (b : Fin 32) (s : Fin 16) (h : Fin 8) :
    (V m c main_v2 (ix3 b s ⟨h.val, by omega⟩) : EReal) = small m c (ix3 (seq b) h s) := by
  unfold V
  after_reads_at
  rfl

/-! ### The blocks of a point -/

/-- The sequence of a grid point. -/
def sq (t : Fin cfg0.N) : Fin 32 := ⟨t.val, lt_of_lt_of_eq t.isLt (show cfg0.N = 32 from N_0)⟩

theorem index0 : ∀ t : Fin cfg0.N, win0_0.index t 0 = 4 ∧ win0_0.index t 1 = t.val + 1 ∧ win0_0.index t 2 = 0 :=
  (by decide +kernel : ∀ t : Fin grid0.N, _)
theorem index1 : ∀ t : Fin cfg0.N, win0_1.index t 0 = t.val ∧ win0_1.index t 1 = 0 ∧ win0_1.index t 2 = 0 :=
  (by decide +kernel : ∀ t : Fin grid0.N, _)
theorem index2 : ∀ t : Fin cfg0.N, win0_2.index t 0 = t.val ∧ win0_2.index t 1 = 0 ∧ win0_2.index t 2 = 0 :=
  (by decide +kernel : ∀ t : Fin grid0.N, _)
theorem index3 : ∀ t : Fin cfg0.N, win0_3.index t 0 = t.val ∧ win0_3.index t 1 = 0 ∧ win0_3.index t 2 = 0 :=
  (by decide +kernel : ∀ t : Fin grid0.N, _)
theorem index4 : ∀ t : Fin cfg0.N, win0_4.index t 0 = t.val ∧ win0_4.index t 1 = 0 ∧ win0_4.index t 2 = 0 ∧ win0_4.index t 3 = 0 :=
  (by decide +kernel : ∀ t : Fin grid0.N, _)
theorem index5 : ∀ t : Fin cfg0.N, win0_5.index t 0 = 5 ∧ win0_5.index t 1 = t.val + 1 ∧ win0_5.index t 2 = 0 :=
  (by decide +kernel : ∀ t : Fin grid0.N, _)
theorem index6 : ∀ t : Fin cfg0.N, win0_6.index t 0 = 6 ∧ win0_6.index t 1 = t.val + 1 ∧ win0_6.index t 2 = 0 :=
  (by decide +kernel : ∀ t : Fin grid0.N, _)
theorem index7 : ∀ t : Fin cfg0.N, win0_7.index t 0 = t.val ∧ win0_7.index t 1 = 0 ∧ win0_7.index t 2 = 0 ∧ win0_7.index t 3 = 0 :=
  (by decide +kernel : ∀ t : Fin grid0.N, _)
theorem index8 : ∀ t : Fin cfg0.N, win0_8.index t 0 = 0 ∧ win0_8.index t 1 = t.val ∧ win0_8.index t 2 = 0 :=
  (by decide +kernel : ∀ t : Fin grid0.N, _)

/-- A block of the planes, read at an index. -/
theorem planes_read {w0 w1 w2 : ℕ} (t : Fin cfg0.N) (p : ℕ) (hp : p ≤ 6) (h0 : w0 = p) (h1 : w1 = t.val + 1)
    (h2 : w2 = 0) (h : Fin 8) (r : Fin 16) (d : Fin 128) (x : S56x528x128.Idx) (x0 : (x 0).val = w0 * 8 + 1 * h.val)
    (x1 : (x 1).val = w1 * 16 + 1 * r.val) (x2 : (x 2).val = w2 * 128 + 1 * d.val) :
    x = ix3 (plane (8 * p) (by omega) h) (tok (sq t) r) d := by
  funext a
  apply Fin.ext
  match a with
  | ⟨0, _⟩ => show (x 0).val = 8 * p + h.val; omega
  | ⟨1, _⟩ => show (x 1).val = 16 + t.val * 16 + r.val; omega
  | ⟨2, _⟩ => show (x 2).val = d.val; omega

theorem block0 (t : Fin cfg0.N) (h : Fin 8) (r : Fin 16) (d : Fin 128) :
    (iblk m c 0 t (ix3 h r d) : EReal) = planes m c (ix3 (plane 32 (by omega) h) (tok (sq t) r) d) := by
  obtain ⟨h0, h1, h2⟩ := index0 t
  exact (congrArg (V m c main_arg0) (planes_read t 4 (by omega) h0 h1 h2 h r d _ rfl rfl rfl)).trans (congrFun (V_main_arg0 m c) _)
theorem block5 (t : Fin cfg0.N) (h : Fin 8) (r : Fin 16) (d : Fin 128) :
    (iblk m c 5 t (ix3 h r d) : EReal) = planes m c (ix3 (plane 40 (by omega) h) (tok (sq t) r) d) := by
  obtain ⟨h0, h1, h2⟩ := index5 t
  exact (congrArg (V m c main_arg0) (planes_read t 5 (by omega) h0 h1 h2 h r d _ rfl rfl rfl)).trans (congrFun (V_main_arg0 m c) _)
theorem block6 (t : Fin cfg0.N) (h : Fin 8) (r : Fin 16) (d : Fin 128) :
    (iblk m c 6 t (ix3 h r d) : EReal) = planes m c (ix3 (plane 48 (by omega) h) (tok (sq t) r) d) := by
  obtain ⟨h0, h1, h2⟩ := index6 t
  exact (congrArg (V m c main_arg0) (planes_read t 6 (by omega) h0 h1 h2 h r d _ rfl rfl rfl)).trans (congrFun (V_main_arg0 m c) _)

theorem block1 (t : Fin cfg0.N) (r : Fin 16) (h : Fin 8) :
    (iblk m c 1 t (ix3 0 r ⟨h.val, by omega⟩) : EReal) = small m c (ix3 (seq (sq t)) h r) := by
  obtain ⟨h0, h1, h2⟩ := index1 t
  refine Eq.trans (congrArg (V m c main_v2) (funext fun a => Fin.ext ?_))
    (arr_columns m c (sq t) r h)
  match a with
  | ⟨0, _⟩ => show win0_1.index t 0 * 1 + 1 * 0 = t.val; omega
  | ⟨1, _⟩ => show win0_1.index t 1 * 16 + 1 * r.val = r.val; omega
  | ⟨2, _⟩ => show win0_1.index t 2 * 128 + 1 * h.val = h.val; omega

/-- A block of a cache, read at an index. -/
theorem cache_read {w0 w1 w2 : ℕ} (t : Fin cfg0.N) (h0 : w0 = t.val) (h1 : w1 = 0) (h2 : w2 = 0) (r : Fin 16384) (d : Fin 128)
    (x : S32x16384x128.Idx) (x0 : (x 0).val = w0 * 1 + 1 * 0) (x1 : (x 1).val = w1 * 16384 + 1 * r.val)
    (x2 : (x 2).val = w2 * 128 + 1 * d.val) : x = ix3 (sq t) r d := by
  funext a
  apply Fin.ext
  match a with
  | ⟨0, _⟩ => show (x 0).val = t.val; omega
  | ⟨1, _⟩ => show (x 1).val = r.val; omega
  | ⟨2, _⟩ => show (x 2).val = d.val; omega

theorem read2 (x : S32x16384x128.Idx → EReal) (t : Fin cfg0.N) (r : Fin 16384) (d : Fin 128) :
    (((cfg0.win 2).blk t).view.read (Elt Ideal) x (ix3 0 r d) : EReal) = x (ix3 (sq t) r d) := by
  obtain ⟨h0, h1, h2⟩ := index2 t
  exact congrArg x (cache_read t h0 h1 h2 r d _ rfl rfl rfl)
theorem block2 (t : Fin cfg0.N) (k : Fin 2048) (h : Fin 8) (d : Fin 128) :
    (iblk m c 2 t (ix3 0 ⟨k.val * 8 + h.val, by omega⟩ d) : EReal) = keys m c (ix5 0 (sq t) k h d) :=
  (read2 (V m c main_v8) t ⟨k.val * 8 + h.val, by omega⟩ d).trans (arr_keys m c (sq t) k h d)
theorem read3 (x : S32x16384x128.Idx → EReal) (t : Fin cfg0.N) (r : Fin 16384) (d : Fin 128) :
    (((cfg0.win 3).blk t).view.read (Elt Ideal) x (ix3 0 r d) : EReal) = x (ix3 (sq t) r d) := by
  obtain ⟨h0, h1, h2⟩ := index3 t
  exact congrArg x (cache_read t h0 h1 h2 r d _ rfl rfl rfl)
theorem block3 (t : Fin cfg0.N) (k : Fin 2048) (h : Fin 8) (d : Fin 128) :
    (iblk m c 3 t (ix3 0 ⟨k.val * 8 + h.val, by omega⟩ d) : EReal) = values m c (ix5 0 (sq t) k h d) :=
  (read3 (V m c main_v9) t ⟨k.val * 8 + h.val, by omega⟩ d).trans (arr_values m c (sq t) k h d)

theorem block4 (t : Fin cfg0.N) (h : Fin 8) (k : Fin 2048) : (iblk m c 4 t (ix4 0 h 0 k) : EReal) = past m c (ix3 (sq t) h k) := by
  obtain ⟨h0, h1, h2, h3⟩ := index4 t
  refine Eq.trans (congrArg (V m c main_v5) (funext fun a => Fin.ext ?_)) (arr_past m c (sq t) h k)
  match a with
  | ⟨0, _⟩ => show win0_4.index t 0 * 1 + 1 * 0 = t.val; omega
  | ⟨1, _⟩ => show win0_4.index t 1 * 8 + 1 * h.val = h.val; omega
  | ⟨2, _⟩ => show win0_4.index t 2 * 1 + 1 * 0 = 0; omega
  | ⟨3, _⟩ => show win0_4.index t 3 * 2048 + 1 * k.val = k.val; omega

theorem block7 (t : Fin cfg0.N) (h : Fin 8) (s : Fin 16) : (iblk m c 7 t (ix4 0 h 0 s) : EReal) = small m c (ix3 (seq (sq t)) h s) := by
  obtain ⟨h0, h1, h2, h3⟩ := index7 t
  refine Eq.trans (congrArg (V m c main_v7) (funext fun a => Fin.ext ?_)) (arr_own m c (sq t) h s)
  match a with
  | ⟨0, _⟩ => show win0_7.index t 0 * 1 + 1 * 0 = t.val; omega
  | ⟨1, _⟩ => show win0_7.index t 1 * 8 + 1 * h.val = h.val; omega
  | ⟨2, _⟩ => show win0_7.index t 2 * 1 + 1 * 0 = 0; omega
  | ⟨3, _⟩ => show win0_7.index t 3 * 16 + 1 * s.val = s.val; omega

/-! ### A head's logits and values -/

theorem row_past (o : ℕ) (ho : o ≤ 48) (z : Planes) (x : Cache) (b : Fin 32) (h : Fin 8) (k : ℕ) (hk : k ≤ 3) (j : Fin 512) (d : Fin 128) :
    rowAt z x o ho b h (part k hk j) d = x (ix5 0 b ⟨512 * k + j.val, by have := j.isLt; omega⟩ h d) :=
  dif_pos (by show 512 * k + j.val < 2048; have := j.isLt; omega)
theorem row_own (o : ℕ) (ho : o ≤ 48) (z : Planes) (x : Cache) (b : Fin 32) (h : Fin 8) (j : Fin 16) (d : Fin 128) :
    rowAt z x o ho b h (tail j) d = z (ix3 (plane o ho h) (tok b j) d) :=
  (dif_neg (by show ¬2048 + j.val < 2048; omega)).trans (congrArg (fun s => z (ix3 (plane o ho h) (tok b s) d))
    (Fin.ext (by show 2048 + j.val - 2048 = j.val; omega)))
theorem sum_past (x : Sums) (y : Small) (b : Fin 32) (h : Fin 8) (k : ℕ) (hk : k ≤ 3) (j : Fin 512) :
    sumAt x y b h (part k hk j) = x (ix3 b h ⟨512 * k + j.val, by have := j.isLt; omega⟩) :=
  dif_pos (by show 512 * k + j.val < 2048; have := j.isLt; omega)
theorem sum_own (x : Sums) (y : Small) (b : Fin 32) (h : Fin 8) (j : Fin 16) : sumAt x y b h (tail j) = y (ix3 (seq b) h j) :=
  (dif_neg (by show ¬2048 + j.val < 2048; omega)).trans (congrArg (fun s => y (ix3 (seq b) h s))
    (Fin.ext (by show 2048 + j.val - 2048 = j.val; omega)))

theorem values_past (t : Fin cfg0.N) (h : Fin 8) (k : ℕ) (hk : k ≤ 3) (j : Fin 512) (e : Fin 128) :
    (pastRows (flat (iblk m c 3 t)) h.val k (ix2 j e) : EReal) = rowAt (planes m c) (values m c) 48 (by omega) (sq t) h (part k hk j) e :=
  (pastRows_at _ h k hk j e).trans ((block3 m c t ⟨512 * k + j.val, by have := j.isLt; omega⟩ h e).trans (row_past _ _ _ _ _ _ _ _ _ _).symm)
theorem values_own (t : Fin cfg0.N) (h : Fin 8) (j : Fin 16) (e : Fin 128) :
    (mat (rows (iblk m c 6 t) h.val) (ix2 j e) : EReal) = rowAt (planes m c) (values m c) 48 (by omega) (sq t) h (tail j) e :=
  (rows_at _ h j e).trans ((block6 m c t h j e).trans (row_own _ _ _ _ _ _ _ _).symm)
theorem keys_past (t : Fin cfg0.N) (h : Fin 8) (k : ℕ) (hk : k ≤ 3) (j : Fin 512) (e : Fin 128) :
    (pastRows (flat (iblk m c 2 t)) h.val k (ix2 j e) : EReal) = rowAt (planes m c) (keys m c) 40 (by omega) (sq t) h (part k hk j) e :=
  (pastRows_at _ h k hk j e).trans ((block2 m c t ⟨512 * k + j.val, by have := j.isLt; omega⟩ h e).trans (row_past _ _ _ _ _ _ _ _ _ _).symm)
theorem keys_own (t : Fin cfg0.N) (h : Fin 8) (j : Fin 16) (e : Fin 128) :
    (mat (rows (iblk m c 5 t) h.val) (ix2 j e) : EReal) = rowAt (planes m c) (keys m c) 40 (by omega) (sq t) h (tail j) e :=
  (rows_at _ h j e).trans ((block5 m c t h j e).trans (row_own _ _ _ _ _ _ _ _).symm)
theorem query_at (t : Fin cfg0.N) (h : Fin 8) (r : Fin 16) (d : Fin 128) :
    (mat (rows (iblk m c 0 t) h.val) (ix2 r d) : EReal) = queryAt (planes m c) (sq t) h r d :=
  (rows_at _ h r d).trans (block0 m c t h r d)
theorem sum_at (t : Fin cfg0.N) (h : Fin 8) (r : Fin 16) :
    (column (BitVec.ofNat 32 h.val) (iblk m c 1 t) (ix2 r 0) : EReal) = small m c (ix3 (seq (sq t)) h r) :=
  (column_at _ h r).trans (block1 m c t r h)

variable {m c} (hf : Finite (planes m c) (past m c) (small m c) (keys m c))
include hf

theorem logits_past (t : Fin cfg0.N) (h : Fin 8) (k : ℕ) (hk : k ≤ 3) (r : Fin 16) (j : Fin 512) :
    (pastAt (iblk m c 0 t) (iblk m c 1 t) (flat (iblk m c 2 t)) (iblk m c 4 t) h.val k (ix2 r j) : EReal)
      = (logit (planes m c) (past m c) (small m c) (keys m c) (sq t) h r (part k hk j) : ℝ) := by
  refine (past_at _ _ _ _ r j).trans (Eq.trans ?_ (logit_exp2 hf (sq t) h r (part k hk j)))
  have hs : (pastSums (iblk m c 4 t) h.val k (ix4 0 0 0 j) : EReal) = sumAt (past m c) (small m c) (sq t) h (part k hk j) :=
    (pastSums_at _ h k hk j).trans ((block4 m c t h _).trans (sum_past _ _ _ _ _ _ _).symm)
  rw [hs, sum_at]
  refine congrArg (· + _) (Finset.sum_congr rfl fun d _ => ?_)
  rw [query_at, keys_past m c t h k hk]

theorem logits_own (t : Fin cfg0.N) (h : Fin 8) (r j : Fin 16) :
    (ownAt (iblk m c 0 t) (iblk m c 1 t) (iblk m c 5 t) (iblk m c 7 t) h.val (ix2 r j) : EReal)
      = masked (logit (planes m c) (past m c) (small m c) (keys m c) (sq t) h r) (keeps r) (tail j) := by
  refine (own_at _ r j).trans (if_congr ⟨fun hj => by show 2048 + j.val ≤ 2048 + r.val; omega, fun hj => by
    have : 2048 + j.val ≤ 2048 + r.val := hj
    omega⟩ ?_ rfl)
  refine (open16_at _ _ _ _ r j).trans (Eq.trans ?_ (logit_exp2 hf (sq t) h r (tail j)))
  have hs : (ownSums (iblk m c 7 t) h.val (ix4 0 0 0 j) : EReal) = sumAt (past m c) (small m c) (sq t) h (tail j) :=
    (ownSums_at _ h j).trans ((block7 m c t h _).trans (sum_own _ _ _ _ _).symm)
  rw [hs, sum_at]
  refine congrArg (· + _) (Finset.sum_congr rfl fun d _ => ?_)
  rw [query_at, keys_own]

/-- What a point leaves in its window. -/
theorem out_at (t : Fin cfg0.N) (h : Fin 8) (r : Fin 16) (e : Fin 128) : (outsAt0 m c t (ix3 h r e) : EReal)
    = result (planes m c) (past m c) (small m c) (keys m c) (values m c) (sq t) h r e := by
  unfold outsAt0
  rw [out8, tile_at]
  exact average_real (logits_past hf t h 0 (by omega) r) (logits_past hf t h 1 (by omega) r) (logits_past hf t h 2 (by omega) r)
    (logits_past hf t h 3 (by omega) r) (logits_own hf t h r) (fun j => values_past m c t h 0 (by omega) j e)
    (fun j => values_past m c t h 1 (by omega) j e) (fun j => values_past m c t h 2 (by omega) j e)
    (fun j => values_past m c t h 3 (by omega) j e) fun j => values_own m c t h j e

/-- The kernel's result at every index. -/
theorem result0 (h : Fin 8) (b : Fin 32) (s : Fin 16) (e : Fin 128) :
    ((dats m 0 c).arrAt 8 cfg0.N : S8x512x128.Idx → EReal) (ix3 h ⟨b.val * 16 + s.val, by omega⟩ e)
      = result (planes m c) (past m c) (small m c) (keys m c) (values m c) b h s e := by
  let t : Fin cfg0.N := ⟨b.val, lt_of_lt_of_eq b.isLt (show cfg0.N = 32 from N_0).symm⟩
  obtain ⟨h0, h1, h2⟩ := index8 t
  have htv : t.val = b.val := rfl
  have hb := congrFun ((Value.blocks8 m c t (flush0_8 t)).trans (Value.flushed8 m c t)) (ix3 h s e)
  rw [show b = sq t from rfl, ← out_at hf t h s e]
  refine Eq.trans (congrArg ((dats m 0 c).arrAt 8 cfg0.N : S8x512x128.Idx → EReal) (funext fun a => Fin.ext ?_)) hb
  match a with
  | ⟨0, _⟩ => show h.val = win0_8.index t 0 * 8 + 1 * h.val; omega
  | ⟨1, _⟩ => show b.val * 16 + s.val = win0_8.index t 1 * 16 + 1 * s.val; omega
  | ⟨2, _⟩ => show e.val = win0_8.index t 2 * 128 + 1 * e.val; omega

end Cert.SampleFox.Result

end
-- ==== Proof.SampleFoxRef.lean ====
/-
  What the reference of the sample's attention computes, token by token.
-/
module

public import proofs.«01_k».proof.Proof.Gen.Reference8Ideal.Run
public import proofs.«01_k».proof.Proof.SampleFoxSpec
public import Idealize.ShloMosaic.Lib.Pointwise

@[expose] public section

set_option maxRecDepth 8192

noncomputable section

namespace Cert.Reference8Ideal.Fox

open Idealize.ShloMosaic Idealize.ShloMosaic.TcCoe Idealize.SL.Sem
open Cert.Reference8Ideal Cert.Reference8Ideal.Gen Cert.Reference8Ideal.Value Cert.SampleFox

/-- Eight planes' rows of the sample, by sequence and token. -/
def rows (x : FVec Ideal S8x512x128 .f32) : FVec Ideal S32x16x8x128 .f32 :=
  transpose S32x16x8x128 [1, 2, 0, 3] (shapeCast _ x shapeCasts_S8x512x128_S8x32x16x128) transposes_S8x32x16x128_S32x16x8x128_1_2_0_3

/-- The past's rows and then the sample's. -/
def both (x : FVec Ideal S1x32x2048x8x128 .f32) (y : FVec Ideal S32x16x8x128 .f32) : FVec Ideal S32x2064x8x128 .f32 :=
  concatenate S32x2064x8x128 1 [⟨S32x2048x8x128, shapeCast _ x shapeCasts_S1x32x2048x8x128_S32x2048x8x128⟩, ⟨S32x16x8x128, y⟩]
    concatenates_S32x2048x8x128_S32x16x8x128_S32x2064x8x128_d1

/-- The running sums. -/
def sums (x : FVec Ideal S32x8x2048 .f32) (y : FVec Ideal S33x8x16 .f32) : FVec Ideal S32x8x2064 .f32 :=
  concatenate S32x8x2064 2 [⟨S32x8x2048, x⟩, ⟨S32x8x16, extractStridedSlice S32x8x16 ![1, 0, 0] y slices_S33x8x16_S32x8x16_1_0_0⟩]
    concatenates_S32x8x2048_S32x8x16_S32x8x2064_d2

/-- Which keys a token attends to. -/
def seen : IVec S16x2064 1 :=
  cmpi .sle (broadcastInDim S16x2064 ![0, 1] bcast_S1x2064_S16x2064_0_1 (broadcastInDim S1x2064 ![1] bcast_S2064_S1x2064_1 (iotaInDim S2064 32 0)))
    (broadcastInDim S16x2064 ![0, 1] bcast_S16x1_S16x2064_0_1
      (broadcastInDim S16x1 ![0] bcast_S16_S16x1_0 (addi (broadcastInDim S16 ![] bcast_S_S16 (constantI S_ 32 2048#32)) (iotaInDim S16 32 0))))

/-- The logits. -/
def logits (q : FVec Ideal S32x16x8x128 .f32) (k : FVec Ideal S32x2064x8x128 .f32) (c : FVec Ideal S32x8x2064 .f32) : FVec Ideal S32x8x16x2064 .f32 :=
  addf
    (Host.dotGeneral dot_S32x16x8x128_S32x2064x8x128_S32x8x16x2064_3_3_1_1_02_02 none
      (mulf q (broadcastInDim S32x16x8x128 ![] bcast_S_S32x16x8x128 (Host.log (constant S_ .f32 0x40000000#32)))) k)
    (subf
      (broadcastInDim S32x8x16x2064 ![0, 1, 2, 3] bcast_S32x8x16x1_S32x8x16x2064_0_1_2_3
        (broadcastInDim S32x8x16x1 ![0, 1, 2] bcast_S32x8x16_S32x8x16x1_0_1_2 (extractStridedSlice S32x8x16 ![0, 0, 2048] c slices_S32x8x2064_S32x8x16_0_0_2048)))
      (broadcastInDim S32x8x16x2064 ![0, 1, 2, 3] bcast_S32x8x1x2064_S32x8x16x2064_0_1_2_3
        (broadcastInDim S32x8x1x2064 ![0, 1, 3] bcast_S32x8x2064_S32x8x1x2064_0_1_3 c)))

def hidden (s : FVec Ideal S32x8x16x2064 .f32) : FVec Ideal S32x8x16x2064 .f32 :=
  select (broadcastInDim S32x8x16x2064 ![2, 3] bcast_S16x2064_S32x8x16x2064_2_3 seen) s
    (broadcastInDim S32x8x16x2064 ![] bcast_S_S32x8x16x2064 (id (constant S_ .f32 0xFF800000#32)))

def largest (s : FVec Ideal S32x8x16x2064 .f32) : FVec Ideal S32x8x16 .f32 :=
  maximumf (broadcastInDim S32x8x16 ![] bcast_S_S32x8x16 (constant S_ .f32 0xFF800000#32))
    (Host.reduce FloatOps.maximumf s (constant S_ .f32 0xFF800000#32) reducesTo_S32x8x16x2064_S32x8x16_d3 h_S_)

def column (x : FVec Ideal S32x8x16 .f32) : FVec Ideal S32x8x16x2064 .f32 :=
  broadcastInDim S32x8x16x2064 ![0, 1, 2, 3] bcast_S32x8x16x1_S32x8x16x2064_0_1_2_3 (broadcastInDim S32x8x16x1 ![0, 1, 2] bcast_S32x8x16_S32x8x16x1_0_1_2 x)

def weights (s : FVec Ideal S32x8x16x2064 .f32) : FVec Ideal S32x8x16x2064 .f32 := Host.exp (subf s (column (largest s)))

def shares (p : FVec Ideal S32x8x16x2064 .f32) : FVec Ideal S32x8x16x2064 .f32 :=
  Host.divf p (column (Host.reduceAdd p (constant S_ .f32 0x00000000#32) reducesTo_S32x8x16x2064_S32x8x16_d3 h_S_))

def averaged (v : FVec Ideal S32x2064x8x128 .f32) (p : FVec Ideal S32x8x16x2064 .f32) : FVec Ideal S8x512x128 .bf16 :=
  truncf .bf16
    (shapeCast _
      (transpose S8x32x16x128 [2, 0, 1, 3]
        (transpose S32x16x8x128 [0, 3, 1, 2] (Host.dotGeneral dot_S32x2064x8x128_S32x8x16x2064_S32x8x128x16_1_3_3_2_02_01 none v p)
          transposes_S32x8x128x16_S32x16x8x128_0_3_1_2)
        transposes_S32x16x8x128_S8x32x16x128_2_0_1_3)
      shapeCasts_S8x32x16x128_S8x512x128)
    bitsLt_bf16_f32

/-! ### Entry by entry -/

/-- The row among the sample's. -/
def row (b : Fin 32) (t : Fin 16) : Fin 512 := ⟨b.val * 16 + t.val, by have := b.isLt; have := t.isLt; omega⟩

theorem rows_at (x : FVec Ideal S8x512x128 .f32) (b : Fin 32) (t : Fin 16) (h : Fin 8) (d : Fin 128) :
    (rows x (ix4 b t h d) : EReal) = x (ix3 h (row b t) d) := by
  pointwise [rows]
  rfl

theorem both_at (x : FVec Ideal S1x32x2048x8x128 .f32) (y : FVec Ideal S32x16x8x128 .f32) (b : Fin 32) (k : Fin 2064) (h : Fin 8) (d : Fin 128) :
    (both x y (ix4 b k h d) : EReal) = if hk : k.val < 2048 then x (ix5 0 b ⟨k.val, hk⟩ h d)
      else y (ix4 b ⟨k.val - 2048, by have := k.isLt; omega⟩ h d) := by
  split
  · rename_i hk
    refine (concatenate_pair_apply_left (t := S32x2064x8x128) 1 (shapeCast _ x shapeCasts_S1x32x2048x8x128_S32x2048x8x128) y _ _ rfl (ix4 b ⟨k.val, hk⟩ h d) fun a => by
      match a with
      | ⟨0, _⟩ => rfl
      | ⟨1, _⟩ => rfl
      | ⟨2, _⟩ => rfl
      | ⟨3, _⟩ => rfl).trans ?_
    pointwise
  · rename_i hk
    exact concatenate_pair_apply_right (t := S32x2064x8x128) 1 (shapeCast _ x shapeCasts_S1x32x2048x8x128_S32x2048x8x128) y _ _ rfl rfl
      (ix4 b ⟨k.val - 2048, by have := k.isLt; omega⟩ h d) (fun a ha => by
      match a with
      | ⟨0, _⟩ => rfl
      | ⟨1, _⟩ => exact absurd rfl ha
      | ⟨2, _⟩ => rfl
      | ⟨3, _⟩ => rfl) (by show k.val - 2048 + 2048 = k.val; omega)

theorem sums_at (x : FVec Ideal S32x8x2048 .f32) (y : FVec Ideal S33x8x16 .f32) (b : Fin 32) (h : Fin 8) (k : Fin 2064) :
    (sums x y (ix3 b h k) : EReal) = sumAt x y b h k := by
  unfold sumAt
  split
  · rename_i hk
    refine (concatenate_pair_apply_left (t := S32x8x2064) 2 x (extractStridedSlice S32x8x16 ![1, 0, 0] y slices_S33x8x16_S32x8x16_1_0_0) _ (ix3 b h k) rfl
      (ix3 b h ⟨k.val, hk⟩) fun a => by
      match a with
      | ⟨0, _⟩ => rfl
      | ⟨1, _⟩ => rfl
      | ⟨2, _⟩ => rfl).trans ?_
    rfl
  · rename_i hk
    refine (concatenate_pair_apply_right (t := S32x8x2064) 2 x (extractStridedSlice S32x8x16 ![1, 0, 0] y slices_S33x8x16_S32x8x16_1_0_0) _ _ rfl rfl
      (ix3 b h ⟨k.val - 2048, by have := k.isLt; omega⟩) (fun a ha => by
      match a with
      | ⟨0, _⟩ => rfl
      | ⟨1, _⟩ => rfl
      | ⟨2, _⟩ => exact absurd rfl ha) (by show k.val - 2048 + 2048 = k.val; omega)).trans ?_
    refine congrArg y (funext fun a => Fin.ext ?_)
    match a with
    | ⟨0, _⟩ => rfl
    | ⟨1, _⟩ => exact Nat.zero_add _
    | ⟨2, _⟩ => exact Nat.zero_add _

theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee]
    rw [← EReal.coe_mul]
    norm_num
  rw [h2, Ideal.log_coe, if_neg (by norm_num)]

theorem bottom : Ideal.ofBits .f32 0xFF800000#32 = ⊥ := by simp [Ideal.ofBits, Ideal.ieee]

theorem sle_eq (s : Fin 16) (k : Fin 2064) :
    (IntOp.cmpi .sle (BitVec.ofNat 32 k.val) (IntOp.addi 2048#32 (BitVec.ofNat 32 s.val)) = 1#1) ↔ k.val ≤ 2048 + s.val := by
  have hk := k.isLt
  have hs := s.isLt
  have h1 : (BitVec.ofNat 32 k.val).toInt = k.val := by
    rw [BitVec.toInt_eq_toNat_of_lt] <;> simp [BitVec.toNat_ofNat] <;> omega
  have h2 : (2048#32 + BitVec.ofNat 32 s.val).toInt = ((2048 + s.val : ℕ) : Int) := by
    rw [← BitVec.ofNat_add, BitVec.toInt_eq_toNat_of_lt] <;> simp only [BitVec.toNat_ofNat] <;> omega
  have e : IntOp.cmpi .sle (BitVec.ofNat 32 k.val) (IntOp.addi 2048#32 (BitVec.ofNat 32 s.val))
      = BitVec.ofBool (BitVec.sle (BitVec.ofNat 32 k.val) (2048#32 + BitVec.ofNat 32 s.val)) := rfl
  rw [e, BitVec.sle, h1, h2, decide_eq_decide.2 Int.ofNat_le]
  by_cases h : k.val ≤ 2048 + s.val
  · rw [decide_eq_true h]; exact ⟨fun _ => h, fun _ => rfl⟩
  · rw [decide_eq_false h]; exact ⟨fun q => absurd q (by decide), fun q => absurd q h⟩

theorem seen_eq (s : Fin 16) (k : Fin 2064) : (seen (ix2 s k) = 1#1) ↔ keeps s k := sle_eq s k

theorem logits_at (q : FVec Ideal S32x16x8x128 .f32) (k : FVec Ideal S32x2064x8x128 .f32) (c : FVec Ideal S32x8x2064 .f32) (b : Fin 32) (h : Fin 8)
    (s : Fin 16) (j : Fin 2064) :
    (logits q k c (ix4 b h s j) : EReal)
      = (∑ d : Fin 128, (q (ix4 b s h d) * ((Real.log 2 : ℝ) : EReal)) * k (ix4 b j h d))
        + (c (ix3 b h ⟨2048 + s.val, by have := s.isLt; omega⟩) - c (ix3 b h j)) := by
  rw [← log_two]
  pointwise [logits]

theorem hidden_at (s : FVec Ideal S32x8x16x2064 .f32) (b : Fin 32) (h : Fin 8) (r : Fin 16) (k : Fin 2064) :
    (hidden s (ix4 b h r k) : EReal) = if keeps r k then s (ix4 b h r k) else ⊥ := by
  show (if seen (ix2 r k) = 1#1 then s (ix4 b h r k) else Ideal.ofBits .f32 0xFF800000#32 : EReal) = _
  rw [bottom]
  exact if_congr (seen_eq r k) rfl rfl

theorem drop_first (b : Fin 32) (h : Fin 8) (r : Fin 16) :
    reducesTo_S32x8x16x2064_S32x8x16_d3.drop (ix4 b h r 0 : S32x8x16x2064.Idx) = ix3 b h r := by
  funext a
  match a with
  | ⟨0, _⟩ => rfl
  | ⟨1, _⟩ => rfl
  | ⟨2, _⟩ => rfl

theorem max_at {t : Shape} (x y : FVec Ideal t .f32) (i : t.Idx) : (maximumf x y i : EReal) = max (x i : EReal) (y i : EReal) := rfl

theorem low_at (i : S32x8x16.Idx) : (broadcastInDim S32x8x16 ![] bcast_S_S32x8x16 (constant S_ .f32 0xFF800000#32 : FVec Ideal S_ .f32) i : EReal) = ⊥ :=
  bottom

theorem reduce_real (s : FVec Ideal S32x8x16x2064 .f32) (i : S32x8x16.Idx) (j : S32x8x16x2064.Idx)
    (hj : reducesTo_S32x8x16x2064_S32x8x16_d3.drop j = i) (hs : ∀ i, (s i : EReal) < ⊤) (h0 : (⊥ : EReal) < s j) (z : FVec Ideal S_ .f32)
    (hz : (z (Shape.Idx.first h_S_) : EReal) = ⊥) :
    ∃ M : ℝ, (Host.reduce (FloatOps.maximumf (F := Ideal) (φ := .f32)) s z reducesTo_S32x8x16x2064_S32x8x16_d3 h_S_ i : EReal) = (M : EReal) := by
  rw [Host.reduce_eq_fold, hz]
  exact fold_max_of _ s hs j (Finset.mem_filter.2 ⟨Finset.mem_univ _, hj⟩) h0

theorem largest_real (s : FVec Ideal S32x8x16x2064 .f32) (b : Fin 32) (h : Fin 8) (r : Fin 16) (hs : ∀ i, (s i : EReal) < ⊤)
    (h0 : (⊥ : EReal) < s (ix4 b h r 0)) : ∃ M : ℝ, (largest s (ix3 b h r) : EReal) = (M : EReal) := by
  obtain ⟨M, hM⟩ := reduce_real s (ix3 b h r) (ix4 b h r 0) (drop_first b h r) hs h0 (constant S_ .f32 0xFF800000#32) bottom
  refine ⟨M, ?_⟩
  unfold largest
  rw [max_at, hM, low_at, max_eq_right bot_le]

theorem weights_at (s : FVec Ideal S32x8x16x2064 .f32) (b : Fin 32) (h : Fin 8) (r : Fin 16) (k : Fin 2064) :
    (weights s (ix4 b h r k) : EReal) = Ideal.exp (s (ix4 b h r k) - largest s (ix3 b h r)) := by
  generalize hs : largest s = y
  unfold weights
  rw [hs]
  pointwise [column]

theorem shares_at (p : FVec Ideal S32x8x16x2064 .f32) (b : Fin 32) (h : Fin 8) (r : Fin 16) (k : Fin 2064) :
    (shares p (ix4 b h r k) : EReal) = Ideal.div (p (ix4 b h r k)) (∑ j : Fin 2064, p (ix4 b h r j)) := by
  pointwise [shares, column]

theorem summed_at (v : FVec Ideal S32x2064x8x128 .f32) (p : FVec Ideal S32x8x16x2064 .f32) (b : Fin 32) (h : Fin 8) (r : Fin 16) (e : Fin 128) :
    (Host.dotGeneral dot_S32x2064x8x128_S32x8x16x2064_S32x8x128x16_1_3_3_2_02_01 none v p (ix4 b h e r) : EReal)
      = ∑ k : Fin 2064, v (ix4 b k h e) * p (ix4 b h r k) := by
  pointwise

theorem averaged_at (v : FVec Ideal S32x2064x8x128 .f32) (p : FVec Ideal S32x8x16x2064 .f32) (b : Fin 32) (h : Fin 8) (r : Fin 16) (e : Fin 128) :
    (averaged v p (ix3 h (row b r) e) : EReal) = ∑ k : Fin 2064, v (ix4 b k h e) * p (ix4 b h r k) := by
  rw [← summed_at]
  unfold averaged
  generalize Host.dotGeneral dot_S32x2064x8x128_S32x8x16x2064_S32x8x128x16_1_3_3_2_02_01 none v p = y
  have hb := b.isLt
  have hr := r.isLt
  have h1 : (⟨(row b r).val / 16, by show (b.val * 16 + r.val) / 16 < 32; omega⟩ : Fin 32) = b :=
    Fin.ext (by show (b.val * 16 + r.val) / 16 = b.val; omega)
  have h2 : (⟨(row b r).val % 16, Nat.mod_lt _ (by norm_num)⟩ : Fin 16) = r := Fin.ext (by show (b.val * 16 + r.val) % 16 = r.val; omega)
  refine Eq.trans ?_ (congrArg₂ (fun b' r' => (y (ix4 b' h e r') : EReal)) h1 h2)
  pointwise

/-! ### The result -/

/-- Eight planes from plane `o`, the sample's rows. -/
theorem slice_at (z : Planes) (o : ℕ) (ho : o ≤ 48) (hs : S56x528x128.Slices ![o, 16, 0] S8x512x128) (h : Fin 8) (b : Fin 32) (t : Fin 16) (d : Fin 128) :
    (extractStridedSlice S8x512x128 ![o, 16, 0] (z : FVec Ideal S56x528x128 .f32) hs (ix3 h (row b t) d) : EReal) = z (ix3 (plane o ho h) (tok b t) d) := by
  refine congrArg z (funext fun a => Fin.ext ?_)
  match a with
  | ⟨0, _⟩ => rfl
  | ⟨1, _⟩ => show 16 + (b.val * 16 + t.val) = 16 + b.val * 16 + t.val; omega
  | ⟨2, _⟩ => exact Nat.zero_add _

variable (m : (ℓ : Loc nD τ sig) → Buf (Elt Ideal) ℓ) (c : Dev nD)

abbrev planes : Planes := m ((c.tc : Thread nD τ).loc main_arg0)
abbrev past : Sums := m ((c.tc : Thread nD τ).loc main_arg1)
abbrev small : Small := m ((c.tc : Thread nD τ).loc main_arg2)
abbrev keys : Cache := m ((c.tc : Thread nD τ).loc main_arg3)
abbrev values : Cache := m ((c.tc : Thread nD τ).loc main_arg4)

def keyRows : FVec Ideal S32x2064x8x128 .f32 :=
  both (keys m c) (rows (extractStridedSlice S8x512x128 ![40, 16, 0] (planes m c) slices_S56x528x128_S8x512x128_40_16_0))
def valueRows : FVec Ideal S32x2064x8x128 .f32 :=
  both (values m c) (rows (extractStridedSlice S8x512x128 ![48, 16, 0] (planes m c) slices_S56x528x128_S8x512x128_48_16_0))
def queryRows : FVec Ideal S32x16x8x128 .f32 :=
  rows (extractStridedSlice S8x512x128 ![32, 16, 0] (planes m c) slices_S56x528x128_S8x512x128_32_16_0)
def logitRows : FVec Ideal S32x8x16x2064 .f32 := hidden (logits (queryRows m c) (keyRows m c) (sums (past m c) (small m c)))

theorem res_eq : res_out0 m c = averaged (valueRows m c) (shares (weights (logitRows m c))) := rfl

theorem key_at (b : Fin 32) (k : Fin 2064) (h : Fin 8) (d : Fin 128) :
    (keyRows m c (ix4 b k h d) : EReal) = rowAt (planes m c) (keys m c) 40 (by omega) b h k d := by
  unfold keyRows rowAt
  rw [both_at]
  split
  · rfl
  · rw [rows_at]
    exact slice_at _ 40 (by omega) _ _ _ _ _
theorem value_at (b : Fin 32) (k : Fin 2064) (h : Fin 8) (d : Fin 128) :
    (valueRows m c (ix4 b k h d) : EReal) = rowAt (planes m c) (values m c) 48 (by omega) b h k d := by
  unfold valueRows rowAt
  rw [both_at]
  split
  · rfl
  · rw [rows_at]
    exact slice_at _ 48 (by omega) _ _ _ _ _
theorem query_at (b : Fin 32) (s : Fin 16) (h : Fin 8) (d : Fin 128) :
    (queryRows m c (ix4 b s h d) : EReal) = queryAt (planes m c) b h s d := by
  unfold queryRows queryAt
  rw [rows_at]
  exact slice_at _ 32 (by omega) _ _ _ _ _

variable {m c} (hf : Finite (planes m c) (past m c) (small m c) (keys m c))
include hf

theorem logit_at (b : Fin 32) (h : Fin 8) (s : Fin 16) (k : Fin 2064) : (logitRows m c (ix4 b h s k) : EReal)
    = masked (fun k => Real.log 2 * logit (planes m c) (past m c) (small m c) (keys m c) b h s k) (keeps s) k := by
  unfold logitRows
  rw [hidden_at, logits_at, masked, sums_at, sums_at]
  refine if_congr Iff.rfl ?_ rfl
  simp only [key_at, query_at]
  refine Eq.trans ?_ (logit_exp hf b h s k)
  congr 2
  unfold sumAt
  rw [dif_neg (by show ¬2048 + s.val < 2048; omega)]
  exact congrArg (fun x => small m c (ix3 (seq b) h x)) (Fin.ext (by show 2048 + s.val - 2048 = s.val; omega))

theorem logit_lt (b : Fin 32) (h : Fin 8) (s : Fin 16) (k : Fin 2064) : (logitRows m c (ix4 b h s k) : EReal) < ⊤ :=
  lt_of_eq_of_lt (logit_at hf b h s k) (masked_lt_top _ _ _)

omit hf in
theorem sum_swap (f g : Fin 2064 → EReal) : ∑ k, f k * g k = ∑ k, g k * f k := Finset.sum_congr rfl fun _ _ => mul_comm _ _

theorem result0 (b : Fin 32) (h : Fin 8) (s : Fin 16) (e : Fin 128) :
    (res_out0 m c (ix3 h (row b s) e) : EReal) = result (planes m c) (past m c) (small m c) (keys m c) (values m c) b h s e := by
  obtain ⟨M, hM⟩ := largest_real (logitRows m c) b h s (fun i => by rw [eq_ix4 i]; exact logit_lt hf _ _ _ _)
    (by
      rw [logit_at hf, masked, if_pos (show keeps s 0 from Nat.zero_le _)]
      exact EReal.bot_lt_coe _)
  rw [res_eq, averaged_at]
  simp only [shares_at, weights_at, hM, logit_at hf, value_at]
  refine (sum_swap _ _).trans ?_
  exact avg_exp _ (keeps s) (keeps_some s) _ M

end Cert.Reference8Ideal.Fox

end
-- ==== Proof.SampleFoxPre.lean ====
/-
  The precondition, decoded: where the printed check comes out true, the queries, keys and running sums of the sample's
  attention are real numbers.
-/
module

public import proofs.«01_k».proof.Pre_finite8
public import proofs.«01_k».proof.Proof.Precondition
public import proofs.«01_k».proof.Proof.SampleFoxSpec
public import Idealize.ShloMosaic.Lib.ReduceAll
public import Idealize.ShloMosaic.Lib.Pointwise

@[expose] public section

noncomputable section

namespace Cert.Pre_finite8.Proof

open Idealize.ShloMosaic Cert.Pre_finite8

/-- The check's shape conditions. -/
theorem facts : Facts where
  slices_S56x528x128_S16x512x128_32_16_0 := by decide
  bcast_S_S16x512x128 := by decide
  reducesTo_S16x512x128_S_d0_1_2 := by decide
  h_S_ := by decide
  bcast_S_S32x8x2048 := by decide
  reducesTo_S32x8x2048_S_d0_1_2 := by decide
  slices_S33x8x16_S32x8x16_1_0_0 := by decide
  bcast_S_S32x8x16 := by decide
  reducesTo_S32x8x16_S_d0_1_2 := by decide
  bcast_S_S1x32x2048x8x128 := by decide
  reducesTo_S1x32x2048x8x128_S_d0_1_2_3_4 := by decide

theorem finite [Facts] (z : SampleFox.Planes) (past : SampleFox.Sums) (own : SampleFox.Small) (kc vc : SampleFox.Cache)
    (h : (fn (F := Ideal) z past own kc vc) = (fun _ => 1#1)) : SampleFox.Finite z past own kc := by
  have h := congrFun h (fun a => a.elim0)
  obtain ⟨h, h4⟩ := IntOp.andi_eq_one.1 h
  obtain ⟨h, h3⟩ := IntOp.andi_eq_one.1 h
  obtain ⟨h1, h2⟩ := IntOp.andi_eq_one.1 h
  have : Subsingleton S_.Idx := ⟨fun a b => funext fun i => i.elim0⟩
  have rows : ∀ (p : Fin 16) (r : Fin 512) (d : Fin 128) (i : S56x528x128.Idx), (i 0).val = 32 + p.val → (i 1).val = 16 + r.val →
      (i 2).val = d.val → ∃ x : ℝ, z i = x := by
    intro p r d i e0 e1 e2
    have := Host.reduce_andi_all _ _ _ _ _ h1 (ix3 p r d)
    obtain ⟨x, hx⟩ := Cert.Pre_finite.Proof.real_of_lt this
    refine ⟨x, Eq.trans (congrArg z (funext fun a => Fin.ext ?_)) hx⟩
    match a with
    | ⟨0, _⟩ => exact e0
    | ⟨1, _⟩ => exact e1
    | ⟨2, _⟩ => exact e2.trans (Nat.zero_add _).symm
  have sums : ∀ (b : Fin 32) (h : Fin 8) (k : Fin 2048), ∃ x : ℝ, past (ix3 b h k) = x := fun b h k =>
    Cert.Pre_finite.Proof.real_of_lt (Host.reduce_andi_all _ _ _ _ _ h2 (ix3 b h k))
  have small : ∀ (b : Fin 32) (h : Fin 8) (s : Fin 16), ∃ x : ℝ, own (ix3 (SampleFox.seq b) h s) = x := by
    intro b h s
    have := Host.reduce_andi_all _ _ _ _ _ h3 (ix3 b h s)
    obtain ⟨x, hx⟩ := Cert.Pre_finite.Proof.real_of_lt this
    refine ⟨x, Eq.trans (congrArg own (funext fun a => Fin.ext ?_)) hx⟩
    match a with
    | ⟨0, _⟩ => rfl
    | ⟨1, _⟩ => exact (Nat.zero_add _).symm
    | ⟨2, _⟩ => exact (Nat.zero_add _).symm
  have keys : ∀ (b : Fin 32) (k : Fin 2048) (h : Fin 8) (d : Fin 128), ∃ x : ℝ, kc (ix5 0 b k h d) = x := fun b k h d =>
    Cert.Pre_finite.Proof.real_of_lt (Host.reduce_andi_all _ _ _ _ _ h4 (ix5 0 b k h d))
  constructor
  · intro b h s d
    have := b.isLt; have := s.isLt; have := h.isLt
    exact rows ⟨h.val, by omega⟩ ⟨16 * b.val + s.val, by omega⟩ d _ rfl (by show 16 + b.val * 16 + s.val = 16 + (16 * b.val + s.val); omega) rfl
  · intro b h k d
    unfold SampleFox.rowAt
    split
    · exact keys _ _ _ _
    · have := b.isLt; have := k.isLt; have := h.isLt
      exact rows ⟨8 + h.val, by omega⟩ ⟨16 * b.val + (k.val - 2048), by omega⟩ d _ (by show 40 + h.val = 32 + (8 + h.val); omega)
        (by show 16 + b.val * 16 + (k.val - 2048) = 16 + (16 * b.val + (k.val - 2048)); omega) rfl
  · intro b h k
    unfold SampleFox.sumAt
    split
    · exact sums _ _ _
    · exact small _ _ _
  · exact small

end Cert.Pre_finite8.Proof

end
-- ==== Proof.SampleFoxClaim.lean ====
/-
  The claims about the sample's forgetting attention: both programs run and leave their arguments and every counter as they
  were, and on real queries, keys and running sums their results are equal (`SampleFoxValue.lean`, `SampleFoxRef.lean`).
-/
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import proofs.«01_k».proof.Proof.SampleFoxValue
public import proofs.«01_k».proof.Proof.SampleFoxRef
public import proofs.«01_k».proof.Proof.SampleFoxPre
public import Idealize.ShloMosaic.Lib.Quiescent
public import Idealize.ShloMosaic.Lib.Claim

@[expose] public section

noncomputable section

namespace Cert.SampleFox

open Idealize.ShloMosaic Idealize.ShloMosaic.TcCoe Idealize.SL.Sem Idealize.ShloMosaic.StableHlo

/-- The reference has no semaphores: its run leaves its arguments, and no counter above zero. -/
theorem frame_ref : Cert.quiescent_Reference8Ideal (hReference8Ideal := Reference8Ideal.Gen.facts) := fun m g _ =>
  θ_run_mono (Reference8Ideal.Value.run m g) fun r hr => ⟨fun c => (hr c).2, sem_eq_zero_of_no_sems rfl r.2⟩

/-- The named number is the one that the kernel's word rounds. -/
theorem preserves : Cert.preserves_Kernel8_Kernel8Ideal :=
  IdealRules.named_const.statement Kernel8Ideal.κ "log2e" .f32 0x3FB8AA3B#32 (((Real.log 2)⁻¹ : ℝ) : EReal) rfl

/-- Every row of the result is some sequence's some token. -/
theorem row_eq (r : Fin 512) : ∃ (b : Fin 32) (t : Fin 16), r = ⟨b.val * 16 + t.val, by have := b.isLt; have := t.isLt; omega⟩ :=
  ⟨⟨r.val / 16, by have := r.isLt; omega⟩, ⟨r.val % 16, Nat.mod_lt _ (by norm_num)⟩,
    Fin.ext (by show r.val = r.val / 16 * 16 + r.val % 16; omega)⟩

section Equal

variable (m : (ℓ : Loc Kernel8Ideal.nD Kernel8Ideal.τ Kernel8Ideal.sig) → Buf (Elt Ideal) ℓ)
  (m' : (ℓ : Loc Reference8Ideal.nD Reference8Ideal.τ Reference8Ideal.sig) → Buf (Elt Ideal) ℓ)
  (c : Dev Kernel8Ideal.nD)
  (h0 : Reference8Ideal.Fox.planes m' c = Result.planes m c)
  (h1 : Reference8Ideal.Fox.past m' c = Result.past m c)
  (h2 : Reference8Ideal.Fox.small m' c = Result.small m c)
  (h3 : Reference8Ideal.Fox.keys m' c = Result.keys m c)
  (h4 : Reference8Ideal.Fox.values m' c = Result.values m c)
  (hf : Finite (Result.planes m c) (Result.past m c) (Result.small m c)
    (Result.keys m c))
include h0 h1 h2 h3 h4 hf

theorem result_eq : (Reference8Ideal.Value.res_out0 m' c : Kernel8Ideal.S8x512x128.Idx → EReal)
    = (Kernel8Ideal.Gen.dats m 0 c).arrAt 8 Kernel8Ideal.cfg0.N := by
  funext (i : Kernel8Ideal.S8x512x128.Idx)
  obtain ⟨b, t, ht⟩ := row_eq (i 1)
  have hi : i = ix3 (i 0) ⟨b.val * 16 + t.val, by have := b.isLt; have := t.isLt; omega⟩ (i 2) := by rw [← ht]; exact eq_ix3 i
  rw [hi]
  refine Eq.trans ?_ (Result.result0 hf (i 0) b t (i 2)).symm
  refine (Reference8Ideal.Fox.result0 (m := m') (c := c) (by rw [h0, h1, h2, h3]; exact hf) b (i 0) t (i 2)).trans ?_
  rw [h0, h1, h2, h3, h4]

end Equal

theorem algebraic : Cert.algebraic_Kernel8Ideal_Reference8Ideal_pre_finite8 (hKernel8Ideal := Kernel8Ideal.Gen.facts)
    (hReference8Ideal := Reference8Ideal.Gen.facts) (hPre_finite8 := Cert.Pre_finite8.Proof.facts) := by
  intro m g m' g' hpre hagree
  refine ⟨_, Kernel8Ideal.Value.run_blocks m g, θ_run_mono (Reference8Ideal.Value.run m' g') fun r hr c => ?_⟩
  obtain ⟨h0, h1, h2, h3, h4⟩ := hagree c
  have hf := @Cert.Pre_finite8.Proof.finite Cert.Pre_finite8.Proof.facts _ _ _ _ _ (hpre c)
  obtain ⟨r0, ra⟩ := hr c
  exact ⟨r0.trans (result_eq m m' c h0 h1 h2 h3 h4 hf), ra⟩

end Cert.SampleFox

end
-- ==== Proof.lean ====
/-
  The claims about the layer's gated recurrence: the kernel and its reference run and leave their arguments and every counter as
  they were, and on real inputs their results are equal. Both results are read off the runs entry by entry and shown to be
  those of the recurrence in `Proof/Spec.lean` (`Proof/KernelValue.lean`, `Proof/RefValue.lean`). With them stand the claims about
  the MLP (`Proof/MlpClaim.lean`), the output projection (`Proof/OutClaim.lean`), the sample's input projection
  (`Proof/InClaim.lean`), and the sample's MLP, output projection and recurrence (`Proof/SampleMlpClaim.lean`,
  `Proof/SampleOutClaim.lean`, `Proof/SampleHgrnClaim.lean`), and its forgetting attention (`Proof/SampleFoxClaim.lean`).
-/
module

public import proofs.«01_k».proof.Proof.Gen.Kernel4.Frame
public import proofs.«01_k».proof.Proof.Gen.Kernel4Ideal.Frame
public import proofs.«01_k».proof.Proof.Gen.Reference4Ideal.Run
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel3.Frame
public import proofs.«01_k».proof.Proof.KernelValue
public import proofs.«01_k».proof.Proof.RefValue
public import proofs.«01_k».proof.Proof.Precondition
public import proofs.«01_k».proof.Proof.MlpClaim
public import proofs.«01_k».proof.Proof.OutClaim
public import proofs.«01_k».proof.Proof.InClaim
public import proofs.«01_k».proof.Proof.SampleMlpClaim
public import proofs.«01_k».proof.Proof.SampleOutClaim
public import proofs.«01_k».proof.Proof.Gen.Kernel6.Frame
public import proofs.«01_k».proof.Proof.Gen.Kernel7.Frame
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.SampleHgrnClaim
public import proofs.«01_k».proof.Proof.SampleFoxClaim
public import Idealize.ShloMosaic.Lib.Quiescent
public import Idealize.ShloMosaic.Lib.Claim

@[expose] public section

noncomputable section

namespace Cert.Proof

open Idealize.ShloMosaic Idealize.ShloMosaic.TcCoe Idealize.SL.Sem Idealize.ShloMosaic.StableHlo

/-- The reference has no semaphores: its run leaves its arguments, and no counter above zero. -/
theorem ref_frame : Cert.quiescent_ReferenceIdeal (hReferenceIdeal := ReferenceIdeal.Gen.facts) := fun m g _ =>
  θ_run_mono (ReferenceIdeal.Value.run m g) fun r hr =>
    ⟨fun c => (hr c).2.2, sem_eq_zero_of_no_sems rfl r.2⟩

/-- Every row of the planes is some sequence's some token. -/
theorem row_eq (r : Fin 32768) : ∃ (b : Fin 4) (t : Fin 8192), r = Hgrn.tok b t :=
  ⟨⟨r.val / 8192, by have := r.isLt; omega⟩, ⟨r.val % 8192, Nat.mod_lt _ (by norm_num)⟩,
    Fin.ext (by show r.val = r.val / 8192 * 8192 + r.val % 8192; omega)⟩

section Equal

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (hf : Hgrn.Finite (KernelIdeal.Result.planes m c) (KernelIdeal.Result.start m c))
include h0 h1 h2 hf

theorem first_eq : (ReferenceIdeal.Value.out_main_v19 (ReferenceIdeal.Value.STEP^[8192] (entryContents ReferenceIdeal.Value.preI m' c)) : KernelIdeal.S8x32768x128.Idx → EReal)
    = (KernelIdeal.Gen.dats m 0 c).arrAt 6 KernelIdeal.cfg0.N := by
  have hz : ReferenceIdeal.Step.rowsOf m' c = KernelIdeal.Result.planes m c := h0
  have hg : ReferenceIdeal.Step.gainOf m' c = KernelIdeal.Result.gains m c := h1
  have hs : ReferenceIdeal.Step.stateOf m' c = KernelIdeal.Result.start m c := h2
  funext (i : KernelIdeal.S8x32768x128.Idx)
  obtain ⟨b, t, ht⟩ := row_eq (i 1)
  have hi : i = ix3 (i 0) (Hgrn.tok b t) (i 2) := by rw [← ht]; exact eq_ix3 i
  rw [hi]
  refine Eq.trans ?_ (KernelIdeal.Result.result0 hf (i 0) b t (i 2)).symm
  refine (ReferenceIdeal.Step.result0 m' c (by rw [hz, hs]; exact hf) (i 0) b t (i 2)).trans ?_
  rw [hz, hg, hs]

theorem second_eq : (ReferenceIdeal.Value.out_main_v20 (ReferenceIdeal.Value.STEP^[8192] (entryContents ReferenceIdeal.Value.preI m' c)) : KernelIdeal.S4x8x128x128.Idx → EReal)
    = (KernelIdeal.Gen.dats m 0 c).arrAt 7 KernelIdeal.cfg0.N := by
  have hz : ReferenceIdeal.Step.rowsOf m' c = KernelIdeal.Result.planes m c := h0
  have hs : ReferenceIdeal.Step.stateOf m' c = KernelIdeal.Result.start m c := h2
  funext (i : KernelIdeal.S4x8x128x128.Idx)
  rw [eq_ix4 i]
  refine Eq.trans ?_ (KernelIdeal.Result.result1 hf (i 0) (i 1) (i 2) (i 3)).symm
  refine (ReferenceIdeal.Step.result1 m' c (by rw [hz, hs]; exact hf) (i 0) (i 1) (i 2) (i 3)).trans ?_
  rw [hz, hs]

end Equal

theorem algebraic : Cert.algebraic_KernelIdeal_ReferenceIdeal_pre_finite (hKernelIdeal := KernelIdeal.Gen.facts)
    (hReferenceIdeal := ReferenceIdeal.Gen.facts) (hPre_finite := Cert.Pre_finite.Proof.facts) := by
  intro m g m' g' hpre hagree
  refine ⟨_, _, KernelIdeal.Value.run_blocks m g, θ_run_mono (ReferenceIdeal.Value.run m' g') fun r hr c => ?_⟩
  obtain ⟨h0, h1, h2⟩ := hagree c
  have hf := @Cert.Pre_finite.Proof.finite Cert.Pre_finite.Proof.facts _ _ _ (hpre c)
  obtain ⟨r0, r1, ra⟩ := hr c
  exact ⟨r0.trans (first_eq m m' c h0 h1 h2 hf), r1.trans (second_eq m m' c h0 h1 h2 hf), ra⟩

theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Cert.Pre_finite.Proof.facts, Cert.Pre_finite7.Proof.facts, Cert.Pre_finite8.Proof.facts,
    fun m g _ => Kernel.Gen.frame m g, fun m g _ => KernelIdeal.Gen.frame m g,
    fun m g _ => KernelIdeal.Gen.frame m g, ref_frame, fun m g _ => ref_frame m g trivial,
    Cert.Mlp.frame_kernel, Cert.Mlp.frame_ideal, Cert.Mlp.frame_ref,
    fun m g _ => Kernel3.Gen.frame m g, fun m g _ => Kernel3Ideal.Gen.frame m g, Cert.Outproj.frame_ref,
    Cert.Inproj.frame_kernel, Cert.Inproj.frame_ideal, Cert.Inproj.frame_ref,
    Cert.SampleMlp.frame_kernel, Cert.SampleMlp.frame_ideal, Cert.SampleMlp.frame_ref,
    fun m g _ => Kernel6.Gen.frame m g, fun m g _ => Kernel6Ideal.Gen.frame m g, Cert.SampleOut.frame_ref,
    fun m g _ => Kernel7.Gen.frame m g, fun m g _ => Kernel7Ideal.Gen.frame m g,
    fun m g _ => Kernel7Ideal.Gen.frame m g, Cert.SampleHgrn.frame_ref, fun m g _ => Cert.SampleHgrn.frame_ref m g trivial,
    fun m g _ => Kernel8.Gen.frame m g, fun m g _ => Kernel8Ideal.Gen.frame m g,
    fun m g _ => Kernel8Ideal.Gen.frame m g, Cert.SampleFox.frame_ref, fun m g _ => Cert.SampleFox.frame_ref m g trivial,
    trivial, algebraic, trivial, Cert.Mlp.algebraic, trivial, Cert.Outproj.algebraic,
    Cert.Inproj.preserves, Cert.Inproj.algebraic,
    trivial, Cert.SampleMlp.algebraic, trivial, Cert.SampleOut.algebraic, trivial, Cert.SampleHgrn.algebraic,
    Cert.SampleFox.preserves, Cert.SampleFox.algebraic⟩

end Cert.Proof

end
